-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_finite18 [hPre_finite18 : Cert.Pre_finite18.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))).1 = (fun _ => 1#1)
    ∧ (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))).2.1 = (fun _ => 1#1)
    ∧ (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))).2.2.1 = (fun _ => 1#1)
    ∧ (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))).2.2.2.1 = (fun _ => 1#1)
    ∧ (Cert.Pre_finite18.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2)) (m ((c.tc : Thread Cert.Kernel18Ideal.nD Cert.Kernel18Ideal.τ).loc Cert.Kernel18Ideal.main_arg3)) (m ((c.tc : Thread Cert.Kernel18Ideal.nD Cert.Kernel18Ideal.τ).loc Cert.Kernel18Ideal.main_arg4))).2.2.2.2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_finite18 [hPre_finite18 : Cert.Pre_finite18.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))).1 = (fun _ => 1#1)
    ∧ (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))).2.1 = (fun _ => 1#1)
    ∧ (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))).2.2.1 = (fun _ => 1#1)
    ∧ (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))).2.2.2.1 = (fun _ => 1#1)
    ∧ (Cert.Pre_finite18.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2)) (m ((c.tc : Thread Cert.Reference18Ideal.nD Cert.Reference18Ideal.τ).loc Cert.Reference18Ideal.main_arg3)) (m ((c.tc : Thread Cert.Reference18Ideal.nD Cert.Reference18Ideal.τ).loc Cert.Reference18Ideal.main_arg4))).2.2.2.2 = (fun _ => 1#1)

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel29 (m : (ℓ : Loc Cert.Kernel29.nD Cert.Kernel29.τ Cert.Kernel29.sig) → Buf (Elt Bits) ℓ) : Prop :=
  True

def Pre_Kernel29Ideal (m : (ℓ : Loc Cert.Kernel29Ideal.nD Cert.Kernel29Ideal.τ Cert.Kernel29Ideal.sig) → Buf (Elt Ideal) ℓ) : Prop :=
  True

def Pre_Reference29Ideal (m : (ℓ : Loc Cert.Reference29Ideal.nD Cert.Reference29Ideal.τ Cert.Reference29Ideal.sig) → Buf (Elt Ideal) ℓ) : Prop :=
  True

def Pre_Kernel30 (m : (ℓ : Loc Cert.Kernel30.nD Cert.Kernel30.τ Cert.Kernel30.sig) → Buf (Elt Bits) ℓ) : Prop :=
  True

def Pre_Kernel30Ideal (m : (ℓ : Loc Cert.Kernel30Ideal.nD Cert.Kernel30Ideal.τ Cert.Kernel30Ideal.sig) → Buf (Elt Ideal) ℓ) : Prop :=
  True

def Pre_Reference30Ideal (m : (ℓ : Loc Cert.Reference30Ideal.nD Cert.Reference30Ideal.τ Cert.Reference30Ideal.sig) → Buf (Elt Ideal) ℓ) : Prop :=
  True

def Pre_Kernel31 (m : (ℓ : Loc Cert.Kernel31.nD Cert.Kernel31.τ Cert.Kernel31.sig) → Buf (Elt Bits) ℓ) : Prop :=
  True

def Pre_Kernel31Ideal (m : (ℓ : Loc Cert.Kernel31Ideal.nD Cert.Kernel31Ideal.τ Cert.Kernel31Ideal.sig) → Buf (Elt Ideal) ℓ) : Prop :=
  True

def Pre_Reference31Ideal (m : (ℓ : Loc Cert.Reference31Ideal.nD Cert.Reference31Ideal.τ Cert.Reference31Ideal.sig) → Buf (Elt Ideal) ℓ) : Prop :=
  True

def Pre_Kernel32 (m : (ℓ : Loc Cert.Kernel32.nD Cert.Kernel32.τ Cert.Kernel32.sig) → Buf (Elt Bits) ℓ) : Prop :=
  True

def Pre_Kernel32Ideal (m : (ℓ : Loc Cert.Kernel32Ideal.nD Cert.Kernel32Ideal.τ Cert.Kernel32Ideal.sig) → Buf (Elt Ideal) ℓ) : Prop :=
  True

def Pre_Reference32Ideal (m : (ℓ : Loc Cert.Reference32Ideal.nD Cert.Reference32Ideal.τ Cert.Reference32Ideal.sig) → Buf (Elt Ideal) ℓ) : Prop :=
  True

def Pre_Kernel33 (m : (ℓ : Loc Cert.Kernel33.nD Cert.Kernel33.τ Cert.Kernel33.sig) → Buf (Elt Bits) ℓ) : Prop :=
  True

def Pre_Kernel33Ideal (m : (ℓ : Loc Cert.Kernel33Ideal.nD Cert.Kernel33Ideal.τ Cert.Kernel33Ideal.sig) → Buf (Elt Ideal) ℓ) : Prop :=
  True

def Pre_Reference33Ideal (m : (ℓ : Loc Cert.Reference33Ideal.nD Cert.Reference33Ideal.τ Cert.Reference33Ideal.sig) → Buf (Elt Ideal) ℓ) : Prop :=
  True

def Pre_Kernel34 (m : (ℓ : Loc Cert.Kernel34.nD Cert.Kernel34.τ Cert.Kernel34.sig) → Buf (Elt Bits) ℓ) : Prop :=
  True

def Pre_Kernel34Ideal (m : (ℓ : Loc Cert.Kernel34Ideal.nD Cert.Kernel34Ideal.τ Cert.Kernel34Ideal.sig) → Buf (Elt Ideal) ℓ) : Prop :=
  True

def Pre_Kernel34Ideal_finite34 [hPre_finite34 : Cert.Pre_finite34.Facts] (m : (ℓ : Loc Cert.Kernel34Ideal.nD Cert.Kernel34Ideal.τ Cert.Kernel34Ideal.sig) → Buf (Elt Ideal) ℓ) : Prop :=
  ∀ c : Dev Cert.Kernel34Ideal.nD,
    (Cert.Pre_finite34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)) (m ((c.tc : Thread Cert.Kernel34Ideal.nD Cert.Kernel34Ideal.τ).loc Cert.Kernel34Ideal.main_arg3)) (m ((c.tc : Thread Cert.Kernel34Ideal.nD Cert.Kernel34Ideal.τ).loc Cert.Kernel34Ideal.main_arg4))).1 = (fun _ => 1#1)
    ∧ (Cert.Pre_finite34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)) (m ((c.tc : Thread Cert.Kernel34Ideal.nD Cert.Kernel34Ideal.τ).loc Cert.Kernel34Ideal.main_arg3)) (m ((c.tc : Thread Cert.Kernel34Ideal.nD Cert.Kernel34Ideal.τ).loc Cert.Kernel34Ideal.main_arg4))).2.1 = (fun _ => 1#1)
    ∧ (Cert.Pre_finite34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)) (m ((c.tc : Thread Cert.Kernel34Ideal.nD Cert.Kernel34Ideal.τ).loc Cert.Kernel34Ideal.main_arg3)) (m ((c.tc : Thread Cert.Kernel34Ideal.nD Cert.Kernel34Ideal.τ).loc Cert.Kernel34Ideal.main_arg4))).2.2.1 = (fun _ => 1#1)
    ∧ (Cert.Pre_finite34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)) (m ((c.tc : Thread Cert.Kernel34Ideal.nD Cert.Kernel34Ideal.τ).loc Cert.Kernel34Ideal.main_arg3)) (m ((c.tc : Thread Cert.Kernel34Ideal.nD Cert.Kernel34Ideal.τ).loc Cert.Kernel34Ideal.main_arg4))).2.2.2.1 = (fun _ => 1#1)
    ∧ (Cert.Pre_finite34.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2)) (m ((c.tc : Thread Cert.Kernel34Ideal.nD Cert.Kernel34Ideal.τ).loc Cert.Kernel34Ideal.main_arg3)) (m ((c.tc : Thread Cert.Kernel34Ideal.nD Cert.Kernel34Ideal.τ).loc Cert.Kernel34Ideal.main_arg4))).2.2.2.2 = (fun _ => 1#1)

def Pre_Reference34Ideal (m : (ℓ : Loc Cert.Reference34Ideal.nD Cert.Reference34Ideal.τ Cert.Reference34Ideal.sig) → Buf (Elt Ideal) ℓ) : Prop :=
  True

def Pre_Reference34Ideal_finite34 [hPre_finite34 : Cert.Pre_finite34.Facts] (m : (ℓ : Loc Cert.Reference34Ideal.nD Cert.Reference34Ideal.τ Cert.Reference34Ideal.sig) → Buf (Elt Ideal) ℓ) : Prop :=
  ∀ c : Dev Cert.Reference34Ideal.nD,
    (Cert.Pre_finite34.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2)) (m ((c.tc : Thread Cert.Reference34Ideal.nD Cert.Reference34Ideal.τ).loc Cert.Reference34Ideal.main_arg3)) (m ((c.tc : Thread Cert.Reference34Ideal.nD Cert.Reference34Ideal.τ).loc Cert.Reference34Ideal.main_arg4))).1 = (fun _ => 1#1)
    ∧ (Cert.Pre_finite34.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2)) (m ((c.tc : Thread Cert.Reference34Ideal.nD Cert.Reference34Ideal.τ).loc Cert.Reference34Ideal.main_arg3)) (m ((c.tc : Thread Cert.Reference34Ideal.nD Cert.Reference34Ideal.τ).loc Cert.Reference34Ideal.main_arg4))).2.1 = (fun _ => 1#1)
    ∧ (Cert.Pre_finite34.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2)) (m ((c.tc : Thread Cert.Reference34Ideal.nD Cert.Reference34Ideal.τ).loc Cert.Reference34Ideal.main_arg3)) (m ((c.tc : Thread Cert.Reference34Ideal.nD Cert.Reference34Ideal.τ).loc Cert.Reference34Ideal.main_arg4))).2.2.1 = (fun _ => 1#1)
    ∧ (Cert.Pre_finite34.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2)) (m ((c.tc : Thread Cert.Reference34Ideal.nD Cert.Reference34Ideal.τ).loc Cert.Reference34Ideal.main_arg3)) (m ((c.tc : Thread Cert.Reference34Ideal.nD Cert.Reference34Ideal.τ).loc Cert.Reference34Ideal.main_arg4))).2.2.2.1 = (fun _ => 1#1)
    ∧ (Cert.Pre_finite34.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2)) (m ((c.tc : Thread Cert.Reference34Ideal.nD Cert.Reference34Ideal.τ).loc Cert.Reference34Ideal.main_arg3)) (m ((c.tc : Thread Cert.Reference34Ideal.nD Cert.Reference34Ideal.τ).loc Cert.Reference34Ideal.main_arg4))).2.2.2.2 = (fun _ => 1#1)

def Pre_Kernel35 (m : (ℓ : Loc Cert.Kernel35.nD Cert.Kernel35.τ Cert.Kernel35.sig) → Buf (Elt Bits) ℓ) : Prop :=
  True

def Pre_Kernel35Ideal (m : (ℓ : Loc Cert.Kernel35Ideal.nD Cert.Kernel35Ideal.τ Cert.Kernel35Ideal.sig) → Buf (Elt Ideal) ℓ) : Prop :=
  True

def Pre_Kernel35Ideal_finite35 [hPre_finite35 : Cert.Pre_finite35.Facts] (m : (ℓ : Loc Cert.Kernel35Ideal.nD Cert.Kernel35Ideal.τ Cert.Kernel35Ideal.sig) → Buf (Elt Ideal) ℓ) : Prop :=
  ∀ c : Dev Cert.Kernel35Ideal.nD,
    (Cert.Pre_finite35.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3)) (m ((c.tc : Thread Cert.Kernel35Ideal.nD Cert.Kernel35Ideal.τ).loc Cert.Kernel35Ideal.main_arg4)) (m ((c.tc : Thread Cert.Kernel35Ideal.nD Cert.Kernel35Ideal.τ).loc Cert.Kernel35Ideal.main_arg5)) (m ((c.tc : Thread Cert.Kernel35Ideal.nD Cert.Kernel35Ideal.τ).loc Cert.Kernel35Ideal.main_arg6))).1 = (fun _ => 1#1)
    ∧ (Cert.Pre_finite35.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3)) (m ((c.tc : Thread Cert.Kernel35Ideal.nD Cert.Kernel35Ideal.τ).loc Cert.Kernel35Ideal.main_arg4)) (m ((c.tc : Thread Cert.Kernel35Ideal.nD Cert.Kernel35Ideal.τ).loc Cert.Kernel35Ideal.main_arg5)) (m ((c.tc : Thread Cert.Kernel35Ideal.nD Cert.Kernel35Ideal.τ).loc Cert.Kernel35Ideal.main_arg6))).2.1 = (fun _ => 1#1)
    ∧ (Cert.Pre_finite35.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3)) (m ((c.tc : Thread Cert.Kernel35Ideal.nD Cert.Kernel35Ideal.τ).loc Cert.Kernel35Ideal.main_arg4)) (m ((c.tc : Thread Cert.Kernel35Ideal.nD Cert.Kernel35Ideal.τ).loc Cert.Kernel35Ideal.main_arg5)) (m ((c.tc : Thread Cert.Kernel35Ideal.nD Cert.Kernel35Ideal.τ).loc Cert.Kernel35Ideal.main_arg6))).2.2.1 = (fun _ => 1#1)
    ∧ (Cert.Pre_finite35.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3)) (m ((c.tc : Thread Cert.Kernel35Ideal.nD Cert.Kernel35Ideal.τ).loc Cert.Kernel35Ideal.main_arg4)) (m ((c.tc : Thread Cert.Kernel35Ideal.nD Cert.Kernel35Ideal.τ).loc Cert.Kernel35Ideal.main_arg5)) (m ((c.tc : Thread Cert.Kernel35Ideal.nD Cert.Kernel35Ideal.τ).loc Cert.Kernel35Ideal.main_arg6))).2.2.2.1 = (fun _ => 1#1)
    ∧ (Cert.Pre_finite35.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3)) (m ((c.tc : Thread Cert.Kernel35Ideal.nD Cert.Kernel35Ideal.τ).loc Cert.Kernel35Ideal.main_arg4)) (m ((c.tc : Thread Cert.Kernel35Ideal.nD Cert.Kernel35Ideal.τ).loc Cert.Kernel35Ideal.main_arg5)) (m ((c.tc : Thread Cert.Kernel35Ideal.nD Cert.Kernel35Ideal.τ).loc Cert.Kernel35Ideal.main_arg6))).2.2.2.2.1 = (fun _ => 1#1)
    ∧ (Cert.Pre_finite35.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3)) (m ((c.tc : Thread Cert.Kernel35Ideal.nD Cert.Kernel35Ideal.τ).loc Cert.Kernel35Ideal.main_arg4)) (m ((c.tc : Thread Cert.Kernel35Ideal.nD Cert.Kernel35Ideal.τ).loc Cert.Kernel35Ideal.main_arg5)) (m ((c.tc : Thread Cert.Kernel35Ideal.nD Cert.Kernel35Ideal.τ).loc Cert.Kernel35Ideal.main_arg6))).2.2.2.2.2.1 = (fun _ => 1#1)
    ∧ (Cert.Pre_finite35.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2)) (m ((c.tc : Thread Cert.Kernel35Ideal.nD Cert.Kernel35Ideal.τ).loc Cert.Kernel35Ideal.main_arg3)) (m ((c.tc : Thread Cert.Kernel35Ideal.nD Cert.Kernel35Ideal.τ).loc Cert.Kernel35Ideal.main_arg4)) (m ((c.tc : Thread Cert.Kernel35Ideal.nD Cert.Kernel35Ideal.τ).loc Cert.Kernel35Ideal.main_arg5)) (m ((c.tc : Thread Cert.Kernel35Ideal.nD Cert.Kernel35Ideal.τ).loc Cert.Kernel35Ideal.main_arg6))).2.2.2.2.2.2 = (fun _ => 1#1)

def Pre_Reference35Ideal (m : (ℓ : Loc Cert.Reference35Ideal.nD Cert.Reference35Ideal.τ Cert.Reference35Ideal.sig) → Buf (Elt Ideal) ℓ) : Prop :=
  True

def Pre_Reference35Ideal_finite35 [hPre_finite35 : Cert.Pre_finite35.Facts] (m : (ℓ : Loc Cert.Reference35Ideal.nD Cert.Reference35Ideal.τ Cert.Reference35Ideal.sig) → Buf (Elt Ideal) ℓ) : Prop :=
  ∀ c : Dev Cert.Reference35Ideal.nD,
    (Cert.Pre_finite35.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2)) (m ((c.tc : Thread Cert.Reference35Ideal.nD Cert.Reference35Ideal.τ).loc Cert.Reference35Ideal.main_arg3)) (m ((c.tc : Thread Cert.Reference35Ideal.nD Cert.Reference35Ideal.τ).loc Cert.Reference35Ideal.main_arg4)) (m ((c.tc : Thread Cert.Reference35Ideal.nD Cert.Reference35Ideal.τ).loc Cert.Reference35Ideal.main_arg5)) (m ((c.tc : Thread Cert.Reference35Ideal.nD Cert.Reference35Ideal.τ).loc Cert.Reference35Ideal.main_arg6))).1 = (fun _ => 1#1)
    ∧ (Cert.Pre_finite35.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2)) (m ((c.tc : Thread Cert.Reference35Ideal.nD Cert.Reference35Ideal.τ).loc Cert.Reference35Ideal.main_arg3)) (m ((c.tc : Thread Cert.Reference35Ideal.nD Cert.Reference35Ideal.τ).loc Cert.Reference35Ideal.main_arg4)) (m ((c.tc : Thread Cert.Reference35Ideal.nD Cert.Reference35Ideal.τ).loc Cert.Reference35Ideal.main_arg5)) (m ((c.tc : Thread Cert.Reference35Ideal.nD Cert.Reference35Ideal.τ).loc Cert.Reference35Ideal.main_arg6))).2.1 = (fun _ => 1#1)
    ∧ (Cert.Pre_finite35.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2)) (m ((c.tc : Thread Cert.Reference35Ideal.nD Cert.Reference35Ideal.τ).loc Cert.Reference35Ideal.main_arg3)) (m ((c.tc : Thread Cert.Reference35Ideal.nD Cert.Reference35Ideal.τ).loc Cert.Reference35Ideal.main_arg4)) (m ((c.tc : Thread Cert.Reference35Ideal.nD Cert.Reference35Ideal.τ).loc Cert.Reference35Ideal.main_arg5)) (m ((c.tc : Thread Cert.Reference35Ideal.nD Cert.Reference35Ideal.τ).loc Cert.Reference35Ideal.main_arg6))).2.2.1 = (fun _ => 1#1)
    ∧ (Cert.Pre_finite35.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2)) (m ((c.tc : Thread Cert.Reference35Ideal.nD Cert.Reference35Ideal.τ).loc Cert.Reference35Ideal.main_arg3)) (m ((c.tc : Thread Cert.Reference35Ideal.nD Cert.Reference35Ideal.τ).loc Cert.Reference35Ideal.main_arg4)) (m ((c.tc : Thread Cert.Reference35Ideal.nD Cert.Reference35Ideal.τ).loc Cert.Reference35Ideal.main_arg5)) (m ((c.tc : Thread Cert.Reference35Ideal.nD Cert.Reference35Ideal.τ).loc Cert.Reference35Ideal.main_arg6))).2.2.2.1 = (fun _ => 1#1)
    ∧ (Cert.Pre_finite35.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2)) (m ((c.tc : Thread Cert.Reference35Ideal.nD Cert.Reference35Ideal.τ).loc Cert.Reference35Ideal.main_arg3)) (m ((c.tc : Thread Cert.Reference35Ideal.nD Cert.Reference35Ideal.τ).loc Cert.Reference35Ideal.main_arg4)) (m ((c.tc : Thread Cert.Reference35Ideal.nD Cert.Reference35Ideal.τ).loc Cert.Reference35Ideal.main_arg5)) (m ((c.tc : Thread Cert.Reference35Ideal.nD Cert.Reference35Ideal.τ).loc Cert.Reference35Ideal.main_arg6))).2.2.2.2.1 = (fun _ => 1#1)
    ∧ (Cert.Pre_finite35.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2)) (m ((c.tc : Thread Cert.Reference35Ideal.nD Cert.Reference35Ideal.τ).loc Cert.Reference35Ideal.main_arg3)) (m ((c.tc : Thread Cert.Reference35Ideal.nD Cert.Reference35Ideal.τ).loc Cert.Reference35Ideal.main_arg4)) (m ((c.tc : Thread Cert.Reference35Ideal.nD Cert.Reference35Ideal.τ).loc Cert.Reference35Ideal.main_arg5)) (m ((c.tc : Thread Cert.Reference35Ideal.nD Cert.Reference35Ideal.τ).loc Cert.Reference35Ideal.main_arg6))).2.2.2.2.2.1 = (fun _ => 1#1)
    ∧ (Cert.Pre_finite35.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2)) (m ((c.tc : Thread Cert.Reference35Ideal.nD Cert.Reference35Ideal.τ).loc Cert.Reference35Ideal.main_arg3)) (m ((c.tc : Thread Cert.Reference35Ideal.nD Cert.Reference35Ideal.τ).loc Cert.Reference35Ideal.main_arg4)) (m ((c.tc : Thread Cert.Reference35Ideal.nD Cert.Reference35Ideal.τ).loc Cert.Reference35Ideal.main_arg5)) (m ((c.tc : Thread Cert.Reference35Ideal.nD Cert.Reference35Ideal.τ).loc Cert.Reference35Ideal.main_arg6))).2.2.2.2.2.2 = (fun _ => 1#1)

def Pre_Kernel36 (m : (ℓ : Loc Cert.Kernel36.nD Cert.Kernel36.τ Cert.Kernel36.sig) → Buf (Elt Bits) ℓ) : Prop :=
  True

def Pre_Kernel36Ideal (m : (ℓ : Loc Cert.Kernel36Ideal.nD Cert.Kernel36Ideal.τ Cert.Kernel36Ideal.sig) → Buf (Elt Ideal) ℓ) : Prop :=
  True

def Pre_Reference36Ideal (m : (ℓ : Loc Cert.Reference36Ideal.nD Cert.Reference36Ideal.τ Cert.Reference36Ideal.sig) → Buf (Elt Ideal) ℓ) : Prop :=
  True

def Pre_Kernel37 (m : (ℓ : Loc Cert.Kernel37.nD Cert.Kernel37.τ Cert.Kernel37.sig) → Buf (Elt Bits) ℓ) : Prop :=
  True

def Pre_Kernel37Ideal (m : (ℓ : Loc Cert.Kernel37Ideal.nD Cert.Kernel37Ideal.τ Cert.Kernel37Ideal.sig) → Buf (Elt Ideal) ℓ) : Prop :=
  True

def Pre_Kernel37Ideal_finite37 [hPre_finite37 : Cert.Pre_finite37.Facts] (m : (ℓ : Loc Cert.Kernel37Ideal.nD Cert.Kernel37Ideal.τ Cert.Kernel37Ideal.sig) → Buf (Elt Ideal) ℓ) : Prop :=
  ∀ c : Dev Cert.Kernel37Ideal.nD,
    (Cert.Pre_finite37.fn (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1))).1 = (fun _ => 1#1)
    ∧ (Cert.Pre_finite37.fn (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1))).2 = (fun _ => 1#1)

def Pre_Reference37Ideal (m : (ℓ : Loc Cert.Reference37Ideal.nD Cert.Reference37Ideal.τ Cert.Reference37Ideal.sig) → Buf (Elt Ideal) ℓ) : Prop :=
  True

def Pre_Reference37Ideal_finite37 [hPre_finite37 : Cert.Pre_finite37.Facts] (m : (ℓ : Loc Cert.Reference37Ideal.nD Cert.Reference37Ideal.τ Cert.Reference37Ideal.sig) → Buf (Elt Ideal) ℓ) : Prop :=
  ∀ c : Dev Cert.Reference37Ideal.nD,
    (Cert.Pre_finite37.fn (F := Ideal) (m ((c.tc : Thread Cert.Reference37Ideal.nD Cert.Reference37Ideal.τ).loc Cert.Reference37Ideal.main_arg0)) (m ((c.tc : Thread Cert.Reference37Ideal.nD Cert.Reference37Ideal.τ).loc Cert.Reference37Ideal.main_arg1))).1 = (fun _ => 1#1)
    ∧ (Cert.Pre_finite37.fn (F := Ideal) (m ((c.tc : Thread Cert.Reference37Ideal.nD Cert.Reference37Ideal.τ).loc Cert.Reference37Ideal.main_arg0)) (m ((c.tc : Thread Cert.Reference37Ideal.nD Cert.Reference37Ideal.τ).loc Cert.Reference37Ideal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Kernel18Ideal_pre_finite18 [hKernel18Ideal : Cert.Kernel18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_finite18 m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Reference18Ideal_pre_finite18 [hReference18Ideal : Cert.Reference18Ideal.Facts] [hPre_finite18 : Cert.Pre_finite18.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_finite18 m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2)
      ∧ r.2.mem ((c.tc : Thread Cert.Kernel22.nD Cert.Kernel22.τ).loc Cert.Kernel22.main_arg3) = m ((c.tc : Thread Cert.Kernel22.nD Cert.Kernel22.τ).loc Cert.Kernel22.main_arg3))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
      ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2)
      ∧ r.2.mem ((c.tc : Thread Cert.Reference22Ideal.nD Cert.Reference22Ideal.τ).loc Cert.Reference22Ideal.main_arg3) = m ((c.tc : Thread Cert.Reference22Ideal.nD Cert.Reference22Ideal.τ).loc Cert.Reference22Ideal.main_arg3))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3))
      ∧ r.2.sem = fun _ => 0)

def quiescent_Kernel29 [hKernel29 : Cert.Kernel29.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Kernel30 [hKernel30 : Cert.Kernel30.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3))
      ∧ r.2.sem = fun _ => 0)

def quiescent_Kernel30Ideal [hKernel30Ideal : Cert.Kernel30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3))
      ∧ r.2.sem = fun _ => 0)

def quiescent_Kernel31 [hKernel31 : Cert.Kernel31.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4))
      ∧ r.2.sem = fun _ => 0)

def quiescent_Kernel31Ideal [hKernel31Ideal : Cert.Kernel31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4))
      ∧ r.2.sem = fun _ => 0)

def quiescent_Kernel32 [hKernel32 : Cert.Kernel32.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3))
      ∧ r.2.sem = fun _ => 0)

def quiescent_Kernel32Ideal [hKernel32Ideal : Cert.Kernel32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3))
      ∧ r.2.sem = fun _ => 0)

def quiescent_Kernel33 [hKernel33 : Cert.Kernel33.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1))
      ∧ r.2.sem = fun _ => 0)

def quiescent_Kernel33Ideal [hKernel33Ideal : Cert.Kernel33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1))
      ∧ r.2.sem = fun _ => 0)

def quiescent_Kernel34 [hKernel34 : Cert.Kernel34.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2)
      ∧ r.2.mem ((c.tc : Thread Cert.Kernel34.nD Cert.Kernel34.τ).loc Cert.Kernel34.main_arg3) = m ((c.tc : Thread Cert.Kernel34.nD Cert.Kernel34.τ).loc Cert.Kernel34.main_arg3)
      ∧ r.2.mem ((c.tc : Thread Cert.Kernel34.nD Cert.Kernel34.τ).loc Cert.Kernel34.main_arg4) = m ((c.tc : Thread Cert.Kernel34.nD Cert.Kernel34.τ).loc Cert.Kernel34.main_arg4))
      ∧ r.2.sem = fun _ => 0)

def quiescent_Kernel34Ideal [hKernel34Ideal : Cert.Kernel34Ideal.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ r.2.sem = fun _ => 0)

def quiescent_Kernel34Ideal_pre_finite34 [hKernel34Ideal : Cert.Kernel34Ideal.Facts] [hPre_finite34 : Cert.Pre_finite34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal_finite34 m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
      ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
      ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4))
      ∧ r.2.sem = fun _ => 0)

def quiescent_Reference34Ideal_pre_finite34 [hReference34Ideal : Cert.Reference34Ideal.Facts] [hPre_finite34 : Cert.Pre_finite34.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal_finite34 m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2)
      ∧ r.2.mem ((c.tc : Thread Cert.Reference34Ideal.nD Cert.Reference34Ideal.τ).loc Cert.Reference34Ideal.main_arg3) = m ((c.tc : Thread Cert.Reference34Ideal.nD Cert.Reference34Ideal.τ).loc Cert.Reference34Ideal.main_arg3)
      ∧ r.2.mem ((c.tc : Thread Cert.Reference34Ideal.nD Cert.Reference34Ideal.τ).loc Cert.Reference34Ideal.main_arg4) = m ((c.tc : Thread Cert.Reference34Ideal.nD Cert.Reference34Ideal.τ).loc Cert.Reference34Ideal.main_arg4))
      ∧ r.2.sem = fun _ => 0)

def quiescent_Kernel35 [hKernel35 : Cert.Kernel35.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2)
      ∧ r.2.mem ((c.tc : Thread Cert.Kernel35.nD Cert.Kernel35.τ).loc Cert.Kernel35.main_arg3) = m ((c.tc : Thread Cert.Kernel35.nD Cert.Kernel35.τ).loc Cert.Kernel35.main_arg3)
      ∧ r.2.mem ((c.tc : Thread Cert.Kernel35.nD Cert.Kernel35.τ).loc Cert.Kernel35.main_arg4) = m ((c.tc : Thread Cert.Kernel35.nD Cert.Kernel35.τ).loc Cert.Kernel35.main_arg4)
      ∧ r.2.mem ((c.tc : Thread Cert.Kernel35.nD Cert.Kernel35.τ).loc Cert.Kernel35.main_arg5) = m ((c.tc : Thread Cert.Kernel35.nD Cert.Kernel35.τ).loc Cert.Kernel35.main_arg5)
      ∧ r.2.mem ((c.tc : Thread Cert.Kernel35.nD Cert.Kernel35.τ).loc Cert.Kernel35.main_arg6) = m ((c.tc : Thread Cert.Kernel35.nD Cert.Kernel35.τ).loc Cert.Kernel35.main_arg6))
      ∧ r.2.sem = fun _ => 0)

def quiescent_Kernel35Ideal [hKernel35Ideal : Cert.Kernel35Ideal.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
      ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5)
      ∧ r.2.mem ((c.tc : Thread Cert.Kernel35Ideal.nD Cert.Kernel35Ideal.τ).loc Cert.Kernel35Ideal.main_arg6) = m ((c.tc : Thread Cert.Kernel35Ideal.nD Cert.Kernel35Ideal.τ).loc Cert.Kernel35Ideal.main_arg6))
      ∧ r.2.sem = fun _ => 0)

def quiescent_Kernel35Ideal_pre_finite35 [hKernel35Ideal : Cert.Kernel35Ideal.Facts] [hPre_finite35 : Cert.Pre_finite35.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal_finite35 m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
      ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
      ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
      ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5)
      ∧ r.2.mem ((c.tc : Thread Cert.Kernel35Ideal.nD Cert.Kernel35Ideal.τ).loc Cert.Kernel35Ideal.main_arg6) = m ((c.tc : Thread Cert.Kernel35Ideal.nD Cert.Kernel35Ideal.τ).loc Cert.Kernel35Ideal.main_arg6))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4)
      ∧ r.2.mem ((c.tc : Thread Cert.Reference35Ideal.nD Cert.Reference35Ideal.τ).loc Cert.Reference35Ideal.main_arg5) = m ((c.tc : Thread Cert.Reference35Ideal.nD Cert.Reference35Ideal.τ).loc Cert.Reference35Ideal.main_arg5)
      ∧ r.2.mem ((c.tc : Thread Cert.Reference35Ideal.nD Cert.Reference35Ideal.τ).loc Cert.Reference35Ideal.main_arg6) = m ((c.tc : Thread Cert.Reference35Ideal.nD Cert.Reference35Ideal.τ).loc Cert.Reference35Ideal.main_arg6))
      ∧ r.2.sem = fun _ => 0)

def quiescent_Reference35Ideal_pre_finite35 [hReference35Ideal : Cert.Reference35Ideal.Facts] [hPre_finite35 : Cert.Pre_finite35.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal_finite35 m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2)
      ∧ r.2.mem ((c.tc : Thread Cert.Reference35Ideal.nD Cert.Reference35Ideal.τ).loc Cert.Reference35Ideal.main_arg3) = m ((c.tc : Thread Cert.Reference35Ideal.nD Cert.Reference35Ideal.τ).loc Cert.Reference35Ideal.main_arg3)
      ∧ r.2.mem ((c.tc : Thread Cert.Reference35Ideal.nD Cert.Reference35Ideal.τ).loc Cert.Reference35Ideal.main_arg4) = m ((c.tc : Thread Cert.Reference35Ideal.nD Cert.Reference35Ideal.τ).loc Cert.Reference35Ideal.main_arg4)
      ∧ r.2.mem ((c.tc : Thread Cert.Reference35Ideal.nD Cert.Reference35Ideal.τ).loc Cert.Reference35Ideal.main_arg5) = m ((c.tc : Thread Cert.Reference35Ideal.nD Cert.Reference35Ideal.τ).loc Cert.Reference35Ideal.main_arg5)
      ∧ r.2.mem ((c.tc : Thread Cert.Reference35Ideal.nD Cert.Reference35Ideal.τ).loc Cert.Reference35Ideal.main_arg6) = m ((c.tc : Thread Cert.Reference35Ideal.nD Cert.Reference35Ideal.τ).loc Cert.Reference35Ideal.main_arg6))
      ∧ r.2.sem = fun _ => 0)

def quiescent_Kernel36 [hKernel36 : Cert.Kernel36.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2)
      ∧ r.2.mem ((c.tc : Thread Cert.Kernel36.nD Cert.Kernel36.τ).loc Cert.Kernel36.main_arg3) = m ((c.tc : Thread Cert.Kernel36.nD Cert.Kernel36.τ).loc Cert.Kernel36.main_arg3)
      ∧ r.2.mem ((c.tc : Thread Cert.Kernel36.nD Cert.Kernel36.τ).loc Cert.Kernel36.main_arg4) = m ((c.tc : Thread Cert.Kernel36.nD Cert.Kernel36.τ).loc Cert.Kernel36.main_arg4)
      ∧ r.2.mem ((c.tc : Thread Cert.Kernel36.nD Cert.Kernel36.τ).loc Cert.Kernel36.main_arg5) = m ((c.tc : Thread Cert.Kernel36.nD Cert.Kernel36.τ).loc Cert.Kernel36.main_arg5)
      ∧ r.2.mem ((c.tc : Thread Cert.Kernel36.nD Cert.Kernel36.τ).loc Cert.Kernel36.main_arg6) = m ((c.tc : Thread Cert.Kernel36.nD Cert.Kernel36.τ).loc Cert.Kernel36.main_arg6)
      ∧ r.2.mem ((c.tc : Thread Cert.Kernel36.nD Cert.Kernel36.τ).loc Cert.Kernel36.main_arg7) = m ((c.tc : Thread Cert.Kernel36.nD Cert.Kernel36.τ).loc Cert.Kernel36.main_arg7))
      ∧ r.2.sem = fun _ => 0)

def quiescent_Kernel36Ideal [hKernel36Ideal : Cert.Kernel36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
      ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
      ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
      ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5)
      ∧ r.2.mem ((c.tc : Thread Cert.Kernel36Ideal.nD Cert.Kernel36Ideal.τ).loc Cert.Kernel36Ideal.main_arg6) = m ((c.tc : Thread Cert.Kernel36Ideal.nD Cert.Kernel36Ideal.τ).loc Cert.Kernel36Ideal.main_arg6)
      ∧ r.2.mem ((c.tc : Thread Cert.Kernel36Ideal.nD Cert.Kernel36Ideal.τ).loc Cert.Kernel36Ideal.main_arg7) = m ((c.tc : Thread Cert.Kernel36Ideal.nD Cert.Kernel36Ideal.τ).loc Cert.Kernel36Ideal.main_arg7))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2)
      ∧ r.2.mem ((c.tc : Thread Cert.Reference36Ideal.nD Cert.Reference36Ideal.τ).loc Cert.Reference36Ideal.main_arg3) = m ((c.tc : Thread Cert.Reference36Ideal.nD Cert.Reference36Ideal.τ).loc Cert.Reference36Ideal.main_arg3)
      ∧ r.2.mem ((c.tc : Thread Cert.Reference36Ideal.nD Cert.Reference36Ideal.τ).loc Cert.Reference36Ideal.main_arg4) = m ((c.tc : Thread Cert.Reference36Ideal.nD Cert.Reference36Ideal.τ).loc Cert.Reference36Ideal.main_arg4)
      ∧ r.2.mem ((c.tc : Thread Cert.Reference36Ideal.nD Cert.Reference36Ideal.τ).loc Cert.Reference36Ideal.main_arg5) = m ((c.tc : Thread Cert.Reference36Ideal.nD Cert.Reference36Ideal.τ).loc Cert.Reference36Ideal.main_arg5)
      ∧ r.2.mem ((c.tc : Thread Cert.Reference36Ideal.nD Cert.Reference36Ideal.τ).loc Cert.Reference36Ideal.main_arg6) = m ((c.tc : Thread Cert.Reference36Ideal.nD Cert.Reference36Ideal.τ).loc Cert.Reference36Ideal.main_arg6)
      ∧ r.2.mem ((c.tc : Thread Cert.Reference36Ideal.nD Cert.Reference36Ideal.τ).loc Cert.Reference36Ideal.main_arg7) = m ((c.tc : Thread Cert.Reference36Ideal.nD Cert.Reference36Ideal.τ).loc Cert.Reference36Ideal.main_arg7))
      ∧ r.2.sem = fun _ => 0)

def quiescent_Kernel37 [hKernel37 : Cert.Kernel37.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1))
      ∧ r.2.sem = fun _ => 0)

def quiescent_Kernel37Ideal [hKernel37Ideal : Cert.Kernel37Ideal.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Kernel37Ideal_pre_finite37 [hKernel37Ideal : Cert.Kernel37Ideal.Facts] [hPre_finite37 : Cert.Pre_finite37.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal_finite37 m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def quiescent_Reference37Ideal_pre_finite37 [hReference37Ideal : Cert.Reference37Ideal.Facts] [hPre_finite37 : Cert.Pre_finite37.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal_finite37 m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v37) = v2 c
          ∧ r.2.mem ((c.tc : Thread Cert.ReferenceIdeal.nD Cert.ReferenceIdeal.τ).loc Cert.ReferenceIdeal.main_v38) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v65) = v0 c
          ∧ r.2.mem ((c.tc : Thread Cert.Reference3Ideal.nD Cert.Reference3Ideal.τ).loc Cert.Reference3Ideal.main_v66) = v1 c
          ∧ r.2.mem ((c.tc : Thread Cert.Reference3Ideal.nD Cert.Reference3Ideal.τ).loc Cert.Reference3Ideal.main_v67) = v2 c
          ∧ r.2.mem ((c.tc : Thread Cert.Reference3Ideal.nD Cert.Reference3Ideal.τ).loc Cert.Reference3Ideal.main_v60) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v10) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v12) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v19) = v0 c
          ∧ r.2.mem ((c.tc : Thread Cert.Reference11Ideal.nD Cert.Reference11Ideal.τ).loc Cert.Reference11Ideal.main_v20) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_v6) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v6) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v10) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v11) = v0 c
          ∧ r.2.mem ((c.tc : Thread Cert.Reference15Ideal.nD Cert.Reference15Ideal.τ).loc Cert.Reference15Ideal.main_v12) = v1 c
          ∧ r.2.mem ((c.tc : Thread Cert.Reference15Ideal.nD Cert.Reference15Ideal.τ).loc Cert.Reference15Ideal.main_v13) = v2 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v27) = v0 c
          ∧ r.2.mem ((c.tc : Thread Cert.Reference16Ideal.nD Cert.Reference16Ideal.τ).loc Cert.Reference16Ideal.main_v28) = v1 c
          ∧ r.2.mem ((c.tc : Thread Cert.Reference16Ideal.nD Cert.Reference16Ideal.τ).loc Cert.Reference16Ideal.main_v29) = v2 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_v6) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal_pre_finite18 [hKernel18Ideal : Cert.Kernel18Ideal.Facts] [hReference18Ideal : Cert.Reference18Ideal.Facts] [hPre_finite18 : Cert.Pre_finite18.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_finite18 m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)) (v2 : (c : Dev Cert.Kernel18Ideal.nD) → Buf (Elt Ideal) ((c.tc : Thread Cert.Kernel18Ideal.nD Cert.Kernel18Ideal.τ).loc Cert.Kernel18Ideal.main_v0_2)) (v3 : (c : Dev Cert.Kernel18Ideal.nD) → Buf (Elt Ideal) ((c.tc : Thread Cert.Kernel18Ideal.nD Cert.Kernel18Ideal.τ).loc Cert.Kernel18Ideal.main_v0_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_v0_2) = v2 c
          ∧ r.2.mem ((c.tc : Thread Cert.Kernel18Ideal.nD Cert.Kernel18Ideal.τ).loc Cert.Kernel18Ideal.main_v0_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v49) = v0 c
          ∧ r.2.mem ((c.tc : Thread Cert.Reference18Ideal.nD Cert.Reference18Ideal.τ).loc Cert.Reference18Ideal.main_v24) = v1 c
          ∧ r.2.mem ((c.tc : Thread Cert.Reference18Ideal.nD Cert.Reference18Ideal.τ).loc Cert.Reference18Ideal.main_v27) = v2 c
          ∧ r.2.mem ((c.tc : Thread Cert.Reference18Ideal.nD Cert.Reference18Ideal.τ).loc Cert.Reference18Ideal.main_v32) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)) →
    ∃ (v0 : (c : Dev Cert.Kernel21Ideal.nD) → Buf (Elt Ideal) ((c.tc : Thread Cert.Kernel21Ideal.nD Cert.Kernel21Ideal.τ).loc Cert.Kernel21Ideal.main_v0_0)) (v1 : (c : Dev Cert.Kernel21Ideal.nD) → Buf (Elt Ideal) ((c.tc : Thread Cert.Kernel21Ideal.nD Cert.Kernel21Ideal.τ).loc Cert.Kernel21Ideal.main_v0_1)) (v2 : (c : Dev Cert.Kernel21Ideal.nD) → Buf (Elt Ideal) ((c.tc : Thread Cert.Kernel21Ideal.nD Cert.Kernel21Ideal.τ).loc Cert.Kernel21Ideal.main_v0_2)) (v3 : (c : Dev Cert.Kernel21Ideal.nD) → Buf (Elt Ideal) ((c.tc : Thread Cert.Kernel21Ideal.nD Cert.Kernel21Ideal.τ).loc Cert.Kernel21Ideal.main_v0_3)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0_0) = v0 c
          ∧ r.2.mem ((c.tc : Thread Cert.Kernel21Ideal.nD Cert.Kernel21Ideal.τ).loc Cert.Kernel21Ideal.main_v0_1) = v1 c
          ∧ r.2.mem ((c.tc : Thread Cert.Kernel21Ideal.nD Cert.Kernel21Ideal.τ).loc Cert.Kernel21Ideal.main_v0_2) = v2 c
          ∧ r.2.mem ((c.tc : Thread Cert.Kernel21Ideal.nD Cert.Kernel21Ideal.τ).loc Cert.Kernel21Ideal.main_v0_3) = v3 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_arg1) = v0 c
          ∧ r.2.mem ((c.tc : Thread Cert.Reference21Ideal.nD Cert.Reference21Ideal.τ).loc Cert.Reference21Ideal.main_v23) = v1 c
          ∧ r.2.mem ((c.tc : Thread Cert.Reference21Ideal.nD Cert.Reference21Ideal.τ).loc Cert.Reference21Ideal.main_v4) = v2 c
          ∧ r.2.mem ((c.tc : Thread Cert.Reference21Ideal.nD Cert.Reference21Ideal.τ).loc Cert.Reference21Ideal.main_v10) = v3 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)
      ∧ m' ((c.tc : Thread Cert.Reference22Ideal.nD Cert.Reference22Ideal.τ).loc Cert.Reference22Ideal.main_arg3) = m ((c.tc : Thread Cert.Kernel22Ideal.nD Cert.Kernel22Ideal.τ).loc Cert.Kernel22Ideal.main_arg3)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)) (v2 : (c : Dev Cert.Kernel22Ideal.nD) → Buf (Elt Ideal) ((c.tc : Thread Cert.Kernel22Ideal.nD Cert.Kernel22Ideal.τ).loc Cert.Kernel22Ideal.main_v0_2)) (v3 : (c : Dev Cert.Kernel22Ideal.nD) → Buf (Elt Ideal) ((c.tc : Thread Cert.Kernel22Ideal.nD Cert.Kernel22Ideal.τ).loc Cert.Kernel22Ideal.main_v0_3)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_v0_2) = v2 c
          ∧ r.2.mem ((c.tc : Thread Cert.Kernel22Ideal.nD Cert.Kernel22Ideal.τ).loc Cert.Kernel22Ideal.main_v0_3) = v3 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2)
          ∧ r.2.mem ((c.tc : Thread Cert.Kernel22Ideal.nD Cert.Kernel22Ideal.τ).loc Cert.Kernel22Ideal.main_arg3) = m ((c.tc : Thread Cert.Kernel22Ideal.nD Cert.Kernel22Ideal.τ).loc Cert.Kernel22Ideal.main_arg3))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_arg1) = v0 c
          ∧ r.2.mem ((c.tc : Thread Cert.Reference22Ideal.nD Cert.Reference22Ideal.τ).loc Cert.Reference22Ideal.main_v23) = v1 c
          ∧ r.2.mem ((c.tc : Thread Cert.Reference22Ideal.nD Cert.Reference22Ideal.τ).loc Cert.Reference22Ideal.main_v4) = v2 c
          ∧ r.2.mem ((c.tc : Thread Cert.Reference22Ideal.nD Cert.Reference22Ideal.τ).loc Cert.Reference22Ideal.main_v10) = v3 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2)
          ∧ r.2.mem ((c.tc : Thread Cert.Reference22Ideal.nD Cert.Reference22Ideal.τ).loc Cert.Reference22Ideal.main_arg3) = m' ((c.tc : Thread Cert.Reference22Ideal.nD Cert.Reference22Ideal.τ).loc Cert.Reference22Ideal.main_arg3))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_arg1) = v0 c
          ∧ r.2.mem ((c.tc : Thread Cert.Reference23Ideal.nD Cert.Reference23Ideal.τ).loc Cert.Reference23Ideal.main_v23) = v1 c
          ∧ r.2.mem ((c.tc : Thread Cert.Reference23Ideal.nD Cert.Reference23Ideal.τ).loc Cert.Reference23Ideal.main_v4) = v2 c
          ∧ r.2.mem ((c.tc : Thread Cert.Reference23Ideal.nD Cert.Reference23Ideal.τ).loc Cert.Reference23Ideal.main_v10) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)) →
    ∃ (v0 : (c : Dev Cert.Kernel24Ideal.nD) → Buf (Elt Ideal) ((c.tc : Thread Cert.Kernel24Ideal.nD Cert.Kernel24Ideal.τ).loc Cert.Kernel24Ideal.main_v0_0)) (v1 : (c : Dev Cert.Kernel24Ideal.nD) → Buf (Elt Ideal) ((c.tc : Thread Cert.Kernel24Ideal.nD Cert.Kernel24Ideal.τ).loc Cert.Kernel24Ideal.main_v0_1)) (v2 : (c : Dev Cert.Kernel24Ideal.nD) → Buf (Elt Ideal) ((c.tc : Thread Cert.Kernel24Ideal.nD Cert.Kernel24Ideal.τ).loc Cert.Kernel24Ideal.main_v0_2)) (v3 : (c : Dev Cert.Kernel24Ideal.nD) → Buf (Elt Ideal) ((c.tc : Thread Cert.Kernel24Ideal.nD Cert.Kernel24Ideal.τ).loc Cert.Kernel24Ideal.main_v0_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0_0) = v0 c
          ∧ r.2.mem ((c.tc : Thread Cert.Kernel24Ideal.nD Cert.Kernel24Ideal.τ).loc Cert.Kernel24Ideal.main_v0_1) = v1 c
          ∧ r.2.mem ((c.tc : Thread Cert.Kernel24Ideal.nD Cert.Kernel24Ideal.τ).loc Cert.Kernel24Ideal.main_v0_2) = v2 c
          ∧ r.2.mem ((c.tc : Thread Cert.Kernel24Ideal.nD Cert.Kernel24Ideal.τ).loc Cert.Kernel24Ideal.main_v0_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_arg1) = v0 c
          ∧ r.2.mem ((c.tc : Thread Cert.Reference24Ideal.nD Cert.Reference24Ideal.τ).loc Cert.Reference24Ideal.main_v23) = v1 c
          ∧ r.2.mem ((c.tc : Thread Cert.Reference24Ideal.nD Cert.Reference24Ideal.τ).loc Cert.Reference24Ideal.main_v4) = v2 c
          ∧ r.2.mem ((c.tc : Thread Cert.Reference24Ideal.nD Cert.Reference24Ideal.τ).loc Cert.Reference24Ideal.main_v10) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)) (v3 : (c : Dev Cert.Kernel25Ideal.nD) → Buf (Elt Ideal) ((c.tc : Thread Cert.Kernel25Ideal.nD Cert.Kernel25Ideal.τ).loc Cert.Kernel25Ideal.main_v0_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_v0_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_arg1) = v0 c
          ∧ r.2.mem ((c.tc : Thread Cert.Reference25Ideal.nD Cert.Reference25Ideal.τ).loc Cert.Reference25Ideal.main_v23) = v1 c
          ∧ r.2.mem ((c.tc : Thread Cert.Reference25Ideal.nD Cert.Reference25Ideal.τ).loc Cert.Reference25Ideal.main_v4) = v2 c
          ∧ r.2.mem ((c.tc : Thread Cert.Reference25Ideal.nD Cert.Reference25Ideal.τ).loc Cert.Reference25Ideal.main_v10) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_arg1) = v0 c
          ∧ r.2.mem ((c.tc : Thread Cert.Reference26Ideal.nD Cert.Reference26Ideal.τ).loc Cert.Reference26Ideal.main_v23) = v1 c
          ∧ r.2.mem ((c.tc : Thread Cert.Reference26Ideal.nD Cert.Reference26Ideal.τ).loc Cert.Reference26Ideal.main_v4) = v2 c
          ∧ r.2.mem ((c.tc : Thread Cert.Reference26Ideal.nD Cert.Reference26Ideal.τ).loc Cert.Reference26Ideal.main_v10) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_arg1) = v0 c
          ∧ r.2.mem ((c.tc : Thread Cert.Reference27Ideal.nD Cert.Reference27Ideal.τ).loc Cert.Reference27Ideal.main_v23) = v1 c
          ∧ r.2.mem ((c.tc : Thread Cert.Reference27Ideal.nD Cert.Reference27Ideal.τ).loc Cert.Reference27Ideal.main_v4) = v2 c
          ∧ r.2.mem ((c.tc : Thread Cert.Reference27Ideal.nD Cert.Reference27Ideal.τ).loc Cert.Reference27Ideal.main_v10) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_arg1) = v0 c
          ∧ r.2.mem ((c.tc : Thread Cert.Reference28Ideal.nD Cert.Reference28Ideal.τ).loc Cert.Reference28Ideal.main_v23) = v1 c
          ∧ r.2.mem ((c.tc : Thread Cert.Reference28Ideal.nD Cert.Reference28Ideal.τ).loc Cert.Reference28Ideal.main_v4) = v2 c
          ∧ r.2.mem ((c.tc : Thread Cert.Reference28Ideal.nD Cert.Reference28Ideal.τ).loc Cert.Reference28Ideal.main_v10) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3))

def preserves_Kernel29_Kernel29Ideal : Prop :=
  True

def algebraic_Kernel29Ideal_Reference29Ideal [hKernel29Ideal : Cert.Kernel29Ideal.Facts] [hReference29Ideal : Cert.Reference29Ideal.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_arg1) = v0 c
          ∧ r.2.mem ((c.tc : Thread Cert.Reference29Ideal.nD Cert.Reference29Ideal.τ).loc Cert.Reference29Ideal.main_v23) = v1 c
          ∧ r.2.mem ((c.tc : Thread Cert.Reference29Ideal.nD Cert.Reference29Ideal.τ).loc Cert.Reference29Ideal.main_v4) = v2 c
          ∧ r.2.mem ((c.tc : Thread Cert.Reference29Ideal.nD Cert.Reference29Ideal.τ).loc Cert.Reference29Ideal.main_v10) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def preserves_Kernel30_Kernel30Ideal : Prop :=
  True

def algebraic_Kernel30Ideal_Reference30Ideal [hKernel30Ideal : Cert.Kernel30Ideal.Facts] [hReference30Ideal : Cert.Reference30Ideal.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_arg1) = v0 c
          ∧ r.2.mem ((c.tc : Thread Cert.Reference30Ideal.nD Cert.Reference30Ideal.τ).loc Cert.Reference30Ideal.main_v23) = v1 c
          ∧ r.2.mem ((c.tc : Thread Cert.Reference30Ideal.nD Cert.Reference30Ideal.τ).loc Cert.Reference30Ideal.main_v4) = v2 c
          ∧ r.2.mem ((c.tc : Thread Cert.Reference30Ideal.nD Cert.Reference30Ideal.τ).loc Cert.Reference30Ideal.main_v10) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3))

def preserves_Kernel31_Kernel31Ideal : Prop :=
  True

def algebraic_Kernel31Ideal_Reference31Ideal [hKernel31Ideal : Cert.Kernel31Ideal.Facts] [hReference31Ideal : Cert.Reference31Ideal.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)) →
    ∃ (v0 : (c : Dev Cert.Kernel31Ideal.nD) → Buf (Elt Ideal) ((c.tc : Thread Cert.Kernel31Ideal.nD Cert.Kernel31Ideal.τ).loc Cert.Kernel31Ideal.main_v1_0)) (v1 : (c : Dev Cert.Kernel31Ideal.nD) → Buf (Elt Ideal) ((c.tc : Thread Cert.Kernel31Ideal.nD Cert.Kernel31Ideal.τ).loc Cert.Kernel31Ideal.main_v1_1)) (v2 : (c : Dev Cert.Kernel31Ideal.nD) → Buf (Elt Ideal) ((c.tc : Thread Cert.Kernel31Ideal.nD Cert.Kernel31Ideal.τ).loc Cert.Kernel31Ideal.main_v1_2)) (v3 : (c : Dev Cert.Kernel31Ideal.nD) → Buf (Elt Ideal) ((c.tc : Thread Cert.Kernel31Ideal.nD Cert.Kernel31Ideal.τ).loc Cert.Kernel31Ideal.main_v1_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v1_0) = v0 c
          ∧ r.2.mem ((c.tc : Thread Cert.Kernel31Ideal.nD Cert.Kernel31Ideal.τ).loc Cert.Kernel31Ideal.main_v1_1) = v1 c
          ∧ r.2.mem ((c.tc : Thread Cert.Kernel31Ideal.nD Cert.Kernel31Ideal.τ).loc Cert.Kernel31Ideal.main_v1_2) = v2 c
          ∧ r.2.mem ((c.tc : Thread Cert.Kernel31Ideal.nD Cert.Kernel31Ideal.τ).loc Cert.Kernel31Ideal.main_v1_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v2) = v0 c
          ∧ r.2.mem ((c.tc : Thread Cert.Reference31Ideal.nD Cert.Reference31Ideal.τ).loc Cert.Reference31Ideal.main_v26) = v1 c
          ∧ r.2.mem ((c.tc : Thread Cert.Reference31Ideal.nD Cert.Reference31Ideal.τ).loc Cert.Reference31Ideal.main_v7) = v2 c
          ∧ r.2.mem ((c.tc : Thread Cert.Reference31Ideal.nD Cert.Reference31Ideal.τ).loc Cert.Reference31Ideal.main_v13) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4))

def preserves_Kernel32_Kernel32Ideal : Prop :=
  True

def algebraic_Kernel32Ideal_Reference32Ideal [hKernel32Ideal : Cert.Kernel32Ideal.Facts] [hReference32Ideal : Cert.Reference32Ideal.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)) →
    ∃ (v0 : (c : Dev Cert.Kernel32Ideal.nD) → Buf (Elt Ideal) ((c.tc : Thread Cert.Kernel32Ideal.nD Cert.Kernel32Ideal.τ).loc Cert.Kernel32Ideal.main_v0)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0) = v0 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v18) = v0 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3))

def preserves_Kernel33_Kernel33Ideal : Prop :=
  True

def algebraic_Kernel33Ideal_Reference33Ideal [hKernel33Ideal : Cert.Kernel33Ideal.Facts] [hReference33Ideal : Cert.Reference33Ideal.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v26) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1))

def preserves_Kernel34_Kernel34Ideal : Prop :=
  True

def algebraic_Kernel34Ideal_Reference34Ideal_pre_finite34 [hKernel34Ideal : Cert.Kernel34Ideal.Facts] [hReference34Ideal : Cert.Reference34Ideal.Facts] [hPre_finite34 : Cert.Pre_finite34.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal_finite34 m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)
      ∧ m' ((c.tc : Thread Cert.Reference34Ideal.nD Cert.Reference34Ideal.τ).loc Cert.Reference34Ideal.main_arg3) = m ((c.tc : Thread Cert.Kernel34Ideal.nD Cert.Kernel34Ideal.τ).loc Cert.Kernel34Ideal.main_arg3)
      ∧ m' ((c.tc : Thread Cert.Reference34Ideal.nD Cert.Reference34Ideal.τ).loc Cert.Reference34Ideal.main_arg4) = m ((c.tc : Thread Cert.Kernel34Ideal.nD Cert.Kernel34Ideal.τ).loc Cert.Kernel34Ideal.main_arg4)) →
    ∃ (v0 : (c : Dev Cert.Kernel34Ideal.nD) → Buf (Elt Ideal) ((c.tc : Thread Cert.Kernel34Ideal.nD Cert.Kernel34Ideal.τ).loc Cert.Kernel34Ideal.main_v0_0)) (v1 : (c : Dev Cert.Kernel34Ideal.nD) → Buf (Elt Ideal) ((c.tc : Thread Cert.Kernel34Ideal.nD Cert.Kernel34Ideal.τ).loc Cert.Kernel34Ideal.main_v0_1)) (v2 : (c : Dev Cert.Kernel34Ideal.nD) → Buf (Elt Ideal) ((c.tc : Thread Cert.Kernel34Ideal.nD Cert.Kernel34Ideal.τ).loc Cert.Kernel34Ideal.main_v0_2)) (v3 : (c : Dev Cert.Kernel34Ideal.nD) → Buf (Elt Ideal) ((c.tc : Thread Cert.Kernel34Ideal.nD Cert.Kernel34Ideal.τ).loc Cert.Kernel34Ideal.main_v0_3)) (v4 : (c : Dev Cert.Kernel34Ideal.nD) → Buf (Elt Ideal) ((c.tc : Thread Cert.Kernel34Ideal.nD Cert.Kernel34Ideal.τ).loc Cert.Kernel34Ideal.main_v0_4)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0_0) = v0 c
          ∧ r.2.mem ((c.tc : Thread Cert.Kernel34Ideal.nD Cert.Kernel34Ideal.τ).loc Cert.Kernel34Ideal.main_v0_1) = v1 c
          ∧ r.2.mem ((c.tc : Thread Cert.Kernel34Ideal.nD Cert.Kernel34Ideal.τ).loc Cert.Kernel34Ideal.main_v0_2) = v2 c
          ∧ r.2.mem ((c.tc : Thread Cert.Kernel34Ideal.nD Cert.Kernel34Ideal.τ).loc Cert.Kernel34Ideal.main_v0_3) = v3 c
          ∧ r.2.mem ((c.tc : Thread Cert.Kernel34Ideal.nD Cert.Kernel34Ideal.τ).loc Cert.Kernel34Ideal.main_v0_4) = v4 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2)
          ∧ r.2.mem ((c.tc : Thread Cert.Kernel34Ideal.nD Cert.Kernel34Ideal.τ).loc Cert.Kernel34Ideal.main_arg3) = m ((c.tc : Thread Cert.Kernel34Ideal.nD Cert.Kernel34Ideal.τ).loc Cert.Kernel34Ideal.main_arg3)
          ∧ r.2.mem ((c.tc : Thread Cert.Kernel34Ideal.nD Cert.Kernel34Ideal.τ).loc Cert.Kernel34Ideal.main_arg4) = m ((c.tc : Thread Cert.Kernel34Ideal.nD Cert.Kernel34Ideal.τ).loc Cert.Kernel34Ideal.main_arg4))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v48) = v0 c
          ∧ r.2.mem ((c.tc : Thread Cert.Reference34Ideal.nD Cert.Reference34Ideal.τ).loc Cert.Reference34Ideal.main_v57) = v1 c
          ∧ r.2.mem ((c.tc : Thread Cert.Reference34Ideal.nD Cert.Reference34Ideal.τ).loc Cert.Reference34Ideal.main_v58) = v2 c
          ∧ r.2.mem ((c.tc : Thread Cert.Reference34Ideal.nD Cert.Reference34Ideal.τ).loc Cert.Reference34Ideal.main_v56) = v3 c
          ∧ r.2.mem ((c.tc : Thread Cert.Reference34Ideal.nD Cert.Reference34Ideal.τ).loc Cert.Reference34Ideal.main_v32) = v4 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2)
          ∧ r.2.mem ((c.tc : Thread Cert.Reference34Ideal.nD Cert.Reference34Ideal.τ).loc Cert.Reference34Ideal.main_arg3) = m' ((c.tc : Thread Cert.Reference34Ideal.nD Cert.Reference34Ideal.τ).loc Cert.Reference34Ideal.main_arg3)
          ∧ r.2.mem ((c.tc : Thread Cert.Reference34Ideal.nD Cert.Reference34Ideal.τ).loc Cert.Reference34Ideal.main_arg4) = m' ((c.tc : Thread Cert.Reference34Ideal.nD Cert.Reference34Ideal.τ).loc Cert.Reference34Ideal.main_arg4))

def preserves_Kernel35_Kernel35Ideal : Prop :=
  True

def algebraic_Kernel35Ideal_Reference35Ideal_pre_finite35 [hKernel35Ideal : Cert.Kernel35Ideal.Facts] [hReference35Ideal : Cert.Reference35Ideal.Facts] [hPre_finite35 : Cert.Pre_finite35.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal_finite35 m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)
      ∧ m' ((c.tc : Thread Cert.Reference35Ideal.nD Cert.Reference35Ideal.τ).loc Cert.Reference35Ideal.main_arg3) = m ((c.tc : Thread Cert.Kernel35Ideal.nD Cert.Kernel35Ideal.τ).loc Cert.Kernel35Ideal.main_arg3)
      ∧ m' ((c.tc : Thread Cert.Reference35Ideal.nD Cert.Reference35Ideal.τ).loc Cert.Reference35Ideal.main_arg4) = m ((c.tc : Thread Cert.Kernel35Ideal.nD Cert.Kernel35Ideal.τ).loc Cert.Kernel35Ideal.main_arg4)
      ∧ m' ((c.tc : Thread Cert.Reference35Ideal.nD Cert.Reference35Ideal.τ).loc Cert.Reference35Ideal.main_arg5) = m ((c.tc : Thread Cert.Kernel35Ideal.nD Cert.Kernel35Ideal.τ).loc Cert.Kernel35Ideal.main_arg5)
      ∧ m' ((c.tc : Thread Cert.Reference35Ideal.nD Cert.Reference35Ideal.τ).loc Cert.Reference35Ideal.main_arg6) = m ((c.tc : Thread Cert.Kernel35Ideal.nD Cert.Kernel35Ideal.τ).loc Cert.Kernel35Ideal.main_arg6)) →
    ∃ (v0 : (c : Dev Cert.Kernel35Ideal.nD) → Buf (Elt Ideal) ((c.tc : Thread Cert.Kernel35Ideal.nD Cert.Kernel35Ideal.τ).loc Cert.Kernel35Ideal.main_v0_0)) (v1 : (c : Dev Cert.Kernel35Ideal.nD) → Buf (Elt Ideal) ((c.tc : Thread Cert.Kernel35Ideal.nD Cert.Kernel35Ideal.τ).loc Cert.Kernel35Ideal.main_v0_1)) (v2 : (c : Dev Cert.Kernel35Ideal.nD) → Buf (Elt Ideal) ((c.tc : Thread Cert.Kernel35Ideal.nD Cert.Kernel35Ideal.τ).loc Cert.Kernel35Ideal.main_v0_2)) (v3 : (c : Dev Cert.Kernel35Ideal.nD) → Buf (Elt Ideal) ((c.tc : Thread Cert.Kernel35Ideal.nD Cert.Kernel35Ideal.τ).loc Cert.Kernel35Ideal.main_v0_3)) (v4 : (c : Dev Cert.Kernel35Ideal.nD) → Buf (Elt Ideal) ((c.tc : Thread Cert.Kernel35Ideal.nD Cert.Kernel35Ideal.τ).loc Cert.Kernel35Ideal.main_v0_4)) (v5 : (c : Dev Cert.Kernel35Ideal.nD) → Buf (Elt Ideal) ((c.tc : Thread Cert.Kernel35Ideal.nD Cert.Kernel35Ideal.τ).loc Cert.Kernel35Ideal.main_v0_5)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0_0) = v0 c
          ∧ r.2.mem ((c.tc : Thread Cert.Kernel35Ideal.nD Cert.Kernel35Ideal.τ).loc Cert.Kernel35Ideal.main_v0_1) = v1 c
          ∧ r.2.mem ((c.tc : Thread Cert.Kernel35Ideal.nD Cert.Kernel35Ideal.τ).loc Cert.Kernel35Ideal.main_v0_2) = v2 c
          ∧ r.2.mem ((c.tc : Thread Cert.Kernel35Ideal.nD Cert.Kernel35Ideal.τ).loc Cert.Kernel35Ideal.main_v0_3) = v3 c
          ∧ r.2.mem ((c.tc : Thread Cert.Kernel35Ideal.nD Cert.Kernel35Ideal.τ).loc Cert.Kernel35Ideal.main_v0_4) = v4 c
          ∧ r.2.mem ((c.tc : Thread Cert.Kernel35Ideal.nD Cert.Kernel35Ideal.τ).loc Cert.Kernel35Ideal.main_v0_5) = v5 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2)
          ∧ r.2.mem ((c.tc : Thread Cert.Kernel35Ideal.nD Cert.Kernel35Ideal.τ).loc Cert.Kernel35Ideal.main_arg3) = m ((c.tc : Thread Cert.Kernel35Ideal.nD Cert.Kernel35Ideal.τ).loc Cert.Kernel35Ideal.main_arg3)
          ∧ r.2.mem ((c.tc : Thread Cert.Kernel35Ideal.nD Cert.Kernel35Ideal.τ).loc Cert.Kernel35Ideal.main_arg4) = m ((c.tc : Thread Cert.Kernel35Ideal.nD Cert.Kernel35Ideal.τ).loc Cert.Kernel35Ideal.main_arg4)
          ∧ r.2.mem ((c.tc : Thread Cert.Kernel35Ideal.nD Cert.Kernel35Ideal.τ).loc Cert.Kernel35Ideal.main_arg5) = m ((c.tc : Thread Cert.Kernel35Ideal.nD Cert.Kernel35Ideal.τ).loc Cert.Kernel35Ideal.main_arg5)
          ∧ r.2.mem ((c.tc : Thread Cert.Kernel35Ideal.nD Cert.Kernel35Ideal.τ).loc Cert.Kernel35Ideal.main_arg6) = m ((c.tc : Thread Cert.Kernel35Ideal.nD Cert.Kernel35Ideal.τ).loc Cert.Kernel35Ideal.main_arg6))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v49) = v0 c
          ∧ r.2.mem ((c.tc : Thread Cert.Reference35Ideal.nD Cert.Reference35Ideal.τ).loc Cert.Reference35Ideal.main_v24) = v1 c
          ∧ r.2.mem ((c.tc : Thread Cert.Reference35Ideal.nD Cert.Reference35Ideal.τ).loc Cert.Reference35Ideal.main_v27) = v2 c
          ∧ r.2.mem ((c.tc : Thread Cert.Reference35Ideal.nD Cert.Reference35Ideal.τ).loc Cert.Reference35Ideal.main_v32) = v3 c
          ∧ r.2.mem ((c.tc : Thread Cert.Reference35Ideal.nD Cert.Reference35Ideal.τ).loc Cert.Reference35Ideal.main_v58) = v4 c
          ∧ r.2.mem ((c.tc : Thread Cert.Reference35Ideal.nD Cert.Reference35Ideal.τ).loc Cert.Reference35Ideal.main_v57) = v5 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2)
          ∧ r.2.mem ((c.tc : Thread Cert.Reference35Ideal.nD Cert.Reference35Ideal.τ).loc Cert.Reference35Ideal.main_arg3) = m' ((c.tc : Thread Cert.Reference35Ideal.nD Cert.Reference35Ideal.τ).loc Cert.Reference35Ideal.main_arg3)
          ∧ r.2.mem ((c.tc : Thread Cert.Reference35Ideal.nD Cert.Reference35Ideal.τ).loc Cert.Reference35Ideal.main_arg4) = m' ((c.tc : Thread Cert.Reference35Ideal.nD Cert.Reference35Ideal.τ).loc Cert.Reference35Ideal.main_arg4)
          ∧ r.2.mem ((c.tc : Thread Cert.Reference35Ideal.nD Cert.Reference35Ideal.τ).loc Cert.Reference35Ideal.main_arg5) = m' ((c.tc : Thread Cert.Reference35Ideal.nD Cert.Reference35Ideal.τ).loc Cert.Reference35Ideal.main_arg5)
          ∧ r.2.mem ((c.tc : Thread Cert.Reference35Ideal.nD Cert.Reference35Ideal.τ).loc Cert.Reference35Ideal.main_arg6) = m' ((c.tc : Thread Cert.Reference35Ideal.nD Cert.Reference35Ideal.τ).loc Cert.Reference35Ideal.main_arg6))

def preserves_Kernel36_Kernel36Ideal : Prop :=
  True

def algebraic_Kernel36Ideal_Reference36Ideal [hKernel36Ideal : Cert.Kernel36Ideal.Facts] [hReference36Ideal : Cert.Reference36Ideal.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)
      ∧ m' ((c.tc : Thread Cert.Reference36Ideal.nD Cert.Reference36Ideal.τ).loc Cert.Reference36Ideal.main_arg3) = m ((c.tc : Thread Cert.Kernel36Ideal.nD Cert.Kernel36Ideal.τ).loc Cert.Kernel36Ideal.main_arg3)
      ∧ m' ((c.tc : Thread Cert.Reference36Ideal.nD Cert.Reference36Ideal.τ).loc Cert.Reference36Ideal.main_arg4) = m ((c.tc : Thread Cert.Kernel36Ideal.nD Cert.Kernel36Ideal.τ).loc Cert.Kernel36Ideal.main_arg4)
      ∧ m' ((c.tc : Thread Cert.Reference36Ideal.nD Cert.Reference36Ideal.τ).loc Cert.Reference36Ideal.main_arg5) = m ((c.tc : Thread Cert.Kernel36Ideal.nD Cert.Kernel36Ideal.τ).loc Cert.Kernel36Ideal.main_arg5)
      ∧ m' ((c.tc : Thread Cert.Reference36Ideal.nD Cert.Reference36Ideal.τ).loc Cert.Reference36Ideal.main_arg6) = m ((c.tc : Thread Cert.Kernel36Ideal.nD Cert.Kernel36Ideal.τ).loc Cert.Kernel36Ideal.main_arg6)
      ∧ m' ((c.tc : Thread Cert.Reference36Ideal.nD Cert.Reference36Ideal.τ).loc Cert.Reference36Ideal.main_arg7) = m ((c.tc : Thread Cert.Kernel36Ideal.nD Cert.Kernel36Ideal.τ).loc Cert.Kernel36Ideal.main_arg7)) →
    ∃ (v0 : (c : Dev Cert.Kernel36Ideal.nD) → Buf (Elt Ideal) ((c.tc : Thread Cert.Kernel36Ideal.nD Cert.Kernel36Ideal.τ).loc Cert.Kernel36Ideal.main_v4)) (v1 : (c : Dev Cert.Kernel36Ideal.nD) → Buf (Elt Ideal) ((c.tc : Thread Cert.Kernel36Ideal.nD Cert.Kernel36Ideal.τ).loc Cert.Kernel36Ideal.main_v5)) (v2 : (c : Dev Cert.Kernel36Ideal.nD) → Buf (Elt Ideal) ((c.tc : Thread Cert.Kernel36Ideal.nD Cert.Kernel36Ideal.τ).loc Cert.Kernel36Ideal.main_v6)) (v3 : (c : Dev Cert.Kernel36Ideal.nD) → Buf (Elt Ideal) ((c.tc : Thread Cert.Kernel36Ideal.nD Cert.Kernel36Ideal.τ).loc Cert.Kernel36Ideal.main_v7)) (v4 : (c : Dev Cert.Kernel36Ideal.nD) → Buf (Elt Ideal) ((c.tc : Thread Cert.Kernel36Ideal.nD Cert.Kernel36Ideal.τ).loc Cert.Kernel36Ideal.main_v8)) (v5 : (c : Dev Cert.Kernel36Ideal.nD) → Buf (Elt Ideal) ((c.tc : Thread Cert.Kernel36Ideal.nD Cert.Kernel36Ideal.τ).loc Cert.Kernel36Ideal.main_v9)) (v6 : (c : Dev Cert.Kernel36Ideal.nD) → Buf (Elt Ideal) ((c.tc : Thread Cert.Kernel36Ideal.nD Cert.Kernel36Ideal.τ).loc Cert.Kernel36Ideal.main_v12)) (v7 : (c : Dev Cert.Kernel36Ideal.nD) → Buf (Elt Ideal) ((c.tc : Thread Cert.Kernel36Ideal.nD Cert.Kernel36Ideal.τ).loc Cert.Kernel36Ideal.main_v14)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v4) = v0 c
          ∧ r.2.mem ((c.tc : Thread Cert.Kernel36Ideal.nD Cert.Kernel36Ideal.τ).loc Cert.Kernel36Ideal.main_v5) = v1 c
          ∧ r.2.mem ((c.tc : Thread Cert.Kernel36Ideal.nD Cert.Kernel36Ideal.τ).loc Cert.Kernel36Ideal.main_v6) = v2 c
          ∧ r.2.mem ((c.tc : Thread Cert.Kernel36Ideal.nD Cert.Kernel36Ideal.τ).loc Cert.Kernel36Ideal.main_v7) = v3 c
          ∧ r.2.mem ((c.tc : Thread Cert.Kernel36Ideal.nD Cert.Kernel36Ideal.τ).loc Cert.Kernel36Ideal.main_v8) = v4 c
          ∧ r.2.mem ((c.tc : Thread Cert.Kernel36Ideal.nD Cert.Kernel36Ideal.τ).loc Cert.Kernel36Ideal.main_v9) = v5 c
          ∧ r.2.mem ((c.tc : Thread Cert.Kernel36Ideal.nD Cert.Kernel36Ideal.τ).loc Cert.Kernel36Ideal.main_v12) = v6 c
          ∧ r.2.mem ((c.tc : Thread Cert.Kernel36Ideal.nD Cert.Kernel36Ideal.τ).loc Cert.Kernel36Ideal.main_v14) = v7 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2)
          ∧ r.2.mem ((c.tc : Thread Cert.Kernel36Ideal.nD Cert.Kernel36Ideal.τ).loc Cert.Kernel36Ideal.main_arg3) = m ((c.tc : Thread Cert.Kernel36Ideal.nD Cert.Kernel36Ideal.τ).loc Cert.Kernel36Ideal.main_arg3)
          ∧ r.2.mem ((c.tc : Thread Cert.Kernel36Ideal.nD Cert.Kernel36Ideal.τ).loc Cert.Kernel36Ideal.main_arg4) = m ((c.tc : Thread Cert.Kernel36Ideal.nD Cert.Kernel36Ideal.τ).loc Cert.Kernel36Ideal.main_arg4)
          ∧ r.2.mem ((c.tc : Thread Cert.Kernel36Ideal.nD Cert.Kernel36Ideal.τ).loc Cert.Kernel36Ideal.main_arg5) = m ((c.tc : Thread Cert.Kernel36Ideal.nD Cert.Kernel36Ideal.τ).loc Cert.Kernel36Ideal.main_arg5)
          ∧ r.2.mem ((c.tc : Thread Cert.Kernel36Ideal.nD Cert.Kernel36Ideal.τ).loc Cert.Kernel36Ideal.main_arg6) = m ((c.tc : Thread Cert.Kernel36Ideal.nD Cert.Kernel36Ideal.τ).loc Cert.Kernel36Ideal.main_arg6)
          ∧ r.2.mem ((c.tc : Thread Cert.Kernel36Ideal.nD Cert.Kernel36Ideal.τ).loc Cert.Kernel36Ideal.main_arg7) = m ((c.tc : Thread Cert.Kernel36Ideal.nD Cert.Kernel36Ideal.τ).loc Cert.Kernel36Ideal.main_arg7))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v1) = v0 c
          ∧ r.2.mem ((c.tc : Thread Cert.Reference36Ideal.nD Cert.Reference36Ideal.τ).loc Cert.Reference36Ideal.main_v3) = v1 c
          ∧ r.2.mem ((c.tc : Thread Cert.Reference36Ideal.nD Cert.Reference36Ideal.τ).loc Cert.Reference36Ideal.main_v5) = v2 c
          ∧ r.2.mem ((c.tc : Thread Cert.Reference36Ideal.nD Cert.Reference36Ideal.τ).loc Cert.Reference36Ideal.main_v7) = v3 c
          ∧ r.2.mem ((c.tc : Thread Cert.Reference36Ideal.nD Cert.Reference36Ideal.τ).loc Cert.Reference36Ideal.main_v9) = v4 c
          ∧ r.2.mem ((c.tc : Thread Cert.Reference36Ideal.nD Cert.Reference36Ideal.τ).loc Cert.Reference36Ideal.main_v11) = v5 c
          ∧ r.2.mem ((c.tc : Thread Cert.Reference36Ideal.nD Cert.Reference36Ideal.τ).loc Cert.Reference36Ideal.main_v12) = v6 c
          ∧ r.2.mem ((c.tc : Thread Cert.Reference36Ideal.nD Cert.Reference36Ideal.τ).loc Cert.Reference36Ideal.main_v15) = v7 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2)
          ∧ r.2.mem ((c.tc : Thread Cert.Reference36Ideal.nD Cert.Reference36Ideal.τ).loc Cert.Reference36Ideal.main_arg3) = m' ((c.tc : Thread Cert.Reference36Ideal.nD Cert.Reference36Ideal.τ).loc Cert.Reference36Ideal.main_arg3)
          ∧ r.2.mem ((c.tc : Thread Cert.Reference36Ideal.nD Cert.Reference36Ideal.τ).loc Cert.Reference36Ideal.main_arg4) = m' ((c.tc : Thread Cert.Reference36Ideal.nD Cert.Reference36Ideal.τ).loc Cert.Reference36Ideal.main_arg4)
          ∧ r.2.mem ((c.tc : Thread Cert.Reference36Ideal.nD Cert.Reference36Ideal.τ).loc Cert.Reference36Ideal.main_arg5) = m' ((c.tc : Thread Cert.Reference36Ideal.nD Cert.Reference36Ideal.τ).loc Cert.Reference36Ideal.main_arg5)
          ∧ r.2.mem ((c.tc : Thread Cert.Reference36Ideal.nD Cert.Reference36Ideal.τ).loc Cert.Reference36Ideal.main_arg6) = m' ((c.tc : Thread Cert.Reference36Ideal.nD Cert.Reference36Ideal.τ).loc Cert.Reference36Ideal.main_arg6)
          ∧ r.2.mem ((c.tc : Thread Cert.Reference36Ideal.nD Cert.Reference36Ideal.τ).loc Cert.Reference36Ideal.main_arg7) = m' ((c.tc : Thread Cert.Reference36Ideal.nD Cert.Reference36Ideal.τ).loc Cert.Reference36Ideal.main_arg7))

def preserves_Kernel37_Kernel37Ideal : Prop :=
  True

def algebraic_Kernel37Ideal_Reference37Ideal_pre_finite37 [hKernel37Ideal : Cert.Kernel37Ideal.Facts] [hReference37Ideal : Cert.Reference37Ideal.Facts] [hPre_finite37 : Cert.Pre_finite37.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal_finite37 m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)) →
    ∃ (v0 : (c : Dev Cert.Kernel37Ideal.nD) → Buf (Elt Ideal) ((c.tc : Thread Cert.Kernel37Ideal.nD Cert.Kernel37Ideal.τ).loc Cert.Kernel37Ideal.main_v12)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v12) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v41) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hPre_finite2 : Cert.Pre_finite2.Facts) (hPre_finite18 : Cert.Pre_finite18.Facts) (hPre_finite34 : Cert.Pre_finite34.Facts) (hPre_finite35 : Cert.Pre_finite35.Facts) (hPre_finite37 : Cert.Pre_finite37.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Kernel18Ideal_pre_finite18 (hKernel18Ideal := hKernel18Ideal) (hPre_finite18 := hPre_finite18)
    ∧ quiescent_Reference18Ideal (hReference18Ideal := hReference18Ideal)
    ∧ quiescent_Reference18Ideal_pre_finite18 (hReference18Ideal := hReference18Ideal) (hPre_finite18 := hPre_finite18)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel29 (hKernel29 := hKernel29)
    ∧ quiescent_Kernel29Ideal (hKernel29Ideal := hKernel29Ideal)
    ∧ quiescent_Reference29Ideal (hReference29Ideal := hReference29Ideal)
    ∧ quiescent_Kernel30 (hKernel30 := hKernel30)
    ∧ quiescent_Kernel30Ideal (hKernel30Ideal := hKernel30Ideal)
    ∧ quiescent_Reference30Ideal (hReference30Ideal := hReference30Ideal)
    ∧ quiescent_Kernel31 (hKernel31 := hKernel31)
    ∧ quiescent_Kernel31Ideal (hKernel31Ideal := hKernel31Ideal)
    ∧ quiescent_Reference31Ideal (hReference31Ideal := hReference31Ideal)
    ∧ quiescent_Kernel32 (hKernel32 := hKernel32)
    ∧ quiescent_Kernel32Ideal (hKernel32Ideal := hKernel32Ideal)
    ∧ quiescent_Reference32Ideal (hReference32Ideal := hReference32Ideal)
    ∧ quiescent_Kernel33 (hKernel33 := hKernel33)
    ∧ quiescent_Kernel33Ideal (hKernel33Ideal := hKernel33Ideal)
    ∧ quiescent_Reference33Ideal (hReference33Ideal := hReference33Ideal)
    ∧ quiescent_Kernel34 (hKernel34 := hKernel34)
    ∧ quiescent_Kernel34Ideal (hKernel34Ideal := hKernel34Ideal)
    ∧ quiescent_Kernel34Ideal_pre_finite34 (hKernel34Ideal := hKernel34Ideal) (hPre_finite34 := hPre_finite34)
    ∧ quiescent_Reference34Ideal (hReference34Ideal := hReference34Ideal)
    ∧ quiescent_Reference34Ideal_pre_finite34 (hReference34Ideal := hReference34Ideal) (hPre_finite34 := hPre_finite34)
    ∧ quiescent_Kernel35 (hKernel35 := hKernel35)
    ∧ quiescent_Kernel35Ideal (hKernel35Ideal := hKernel35Ideal)
    ∧ quiescent_Kernel35Ideal_pre_finite35 (hKernel35Ideal := hKernel35Ideal) (hPre_finite35 := hPre_finite35)
    ∧ quiescent_Reference35Ideal (hReference35Ideal := hReference35Ideal)
    ∧ quiescent_Reference35Ideal_pre_finite35 (hReference35Ideal := hReference35Ideal) (hPre_finite35 := hPre_finite35)
    ∧ quiescent_Kernel36 (hKernel36 := hKernel36)
    ∧ quiescent_Kernel36Ideal (hKernel36Ideal := hKernel36Ideal)
    ∧ quiescent_Reference36Ideal (hReference36Ideal := hReference36Ideal)
    ∧ quiescent_Kernel37 (hKernel37 := hKernel37)
    ∧ quiescent_Kernel37Ideal (hKernel37Ideal := hKernel37Ideal)
    ∧ quiescent_Kernel37Ideal_pre_finite37 (hKernel37Ideal := hKernel37Ideal) (hPre_finite37 := hPre_finite37)
    ∧ quiescent_Reference37Ideal (hReference37Ideal := hReference37Ideal)
    ∧ quiescent_Reference37Ideal_pre_finite37 (hReference37Ideal := hReference37Ideal) (hPre_finite37 := hPre_finite37)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal_pre_finite18 (hKernel18Ideal := hKernel18Ideal) (hReference18Ideal := hReference18Ideal) (hPre_finite18 := hPre_finite18)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
    ∧ preserves_Kernel29_Kernel29Ideal
    ∧ algebraic_Kernel29Ideal_Reference29Ideal (hKernel29Ideal := hKernel29Ideal) (hReference29Ideal := hReference29Ideal)
    ∧ preserves_Kernel30_Kernel30Ideal
    ∧ algebraic_Kernel30Ideal_Reference30Ideal (hKernel30Ideal := hKernel30Ideal) (hReference30Ideal := hReference30Ideal)
    ∧ preserves_Kernel31_Kernel31Ideal
    ∧ algebraic_Kernel31Ideal_Reference31Ideal (hKernel31Ideal := hKernel31Ideal) (hReference31Ideal := hReference31Ideal)
    ∧ preserves_Kernel32_Kernel32Ideal
    ∧ algebraic_Kernel32Ideal_Reference32Ideal (hKernel32Ideal := hKernel32Ideal) (hReference32Ideal := hReference32Ideal)
    ∧ preserves_Kernel33_Kernel33Ideal
    ∧ algebraic_Kernel33Ideal_Reference33Ideal (hKernel33Ideal := hKernel33Ideal) (hReference33Ideal := hReference33Ideal)
    ∧ preserves_Kernel34_Kernel34Ideal
    ∧ algebraic_Kernel34Ideal_Reference34Ideal_pre_finite34 (hKernel34Ideal := hKernel34Ideal) (hReference34Ideal := hReference34Ideal) (hPre_finite34 := hPre_finite34)
    ∧ preserves_Kernel35_Kernel35Ideal
    ∧ algebraic_Kernel35Ideal_Reference35Ideal_pre_finite35 (hKernel35Ideal := hKernel35Ideal) (hReference35Ideal := hReference35Ideal) (hPre_finite35 := hPre_finite35)
    ∧ preserves_Kernel36_Kernel36Ideal
    ∧ algebraic_Kernel36Ideal_Reference36Ideal (hKernel36Ideal := hKernel36Ideal) (hReference36Ideal := hReference36Ideal)
    ∧ preserves_Kernel37_Kernel37Ideal
    ∧ algebraic_Kernel37Ideal_Reference37Ideal_pre_finite37 (hKernel37Ideal := hKernel37Ideal) (hReference37Ideal := hReference37Ideal) (hPre_finite37 := hPre_finite37)
-- ==== Pre_finite18.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S4096x2048 .f32) : IVec S4096x2048 1 × IVec S4096x2048 1 × IVec S1x2048 1 × IVec S1x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S4096x2048 .f32 := Host.absf main_arg4
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  (main_v2, main_v5, main_v8, main_v11, main_v14)
-- ==== Pre_finite2.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S5632x2048 : S_.BroadcastsInDim S5632x2048 (![] : Fin 0 → Fin S5632x2048.rank)
  bcast_S_S4096x5632 : S_.BroadcastsInDim S4096x5632 (![] : Fin 0 → Fin S4096x5632.rank)

variable [Facts]

def fn {F : FTy → Type} [FloatOps F] (main_arg0 : FVec F S4096x2048 .bf16) (main_arg1 : FVec F S5632x2048 .bf16) (main_arg2 : FVec F S4096x5632 .bf16) (main_arg3 : FVec F S4096x5632 .bf16) : IVec S4096x2048 1 × IVec S5632x2048 1 × IVec S4096x5632 1 × IVec S4096x5632 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S5632x2048 .f32 := (extf .f32 · bitsLt_bf16_f32) main_arg1
  let main_v5 : FVec F S5632x2048 .f32 := Host.absf main_v4
  let main_cst_0 : FVec F S_ .f32 := constant S_ .f32 0x7F800000#32
  let main_v6 : FVec F S5632x2048 .f32 := broadcastInDim S5632x2048 ![] bcast_S_S5632x2048 main_cst_0
  let main_v7 : IVec S5632x2048 1 := cmpf .olt main_v5 main_v6
  let main_v8 : FVec F S4096x5632 .f32 := (extf .f32 · bitsLt_bf16_f32) main_arg2
  let main_v9 : FVec F S4096x5632 .f32 := Host.absf main_v8
  let main_cst_1 : FVec F S_ .f32 := constant S_ .f32 0x7F800000#32
  let main_v10 : FVec F S4096x5632 .f32 := broadcastInDim S4096x5632 ![] bcast_S_S4096x5632 main_cst_1
  let main_v11 : IVec S4096x5632 1 := cmpf .olt main_v9 main_v10
  let main_v12 : FVec F S4096x5632 .f32 := (extf .f32 · bitsLt_bf16_f32) main_arg3
  let main_v13 : FVec F S4096x5632 .f32 := Host.absf main_v12
  let main_cst_2 : FVec F S_ .f32 := constant S_ .f32 0x7F800000#32
  let main_v14 : FVec F S4096x5632 .f32 := broadcastInDim S4096x5632 ![] bcast_S_S4096x5632 main_cst_2
  let main_v15 : IVec S4096x5632 1 := cmpf .olt main_v13 main_v14
  (main_v3, main_v7, main_v11, main_v15)
-- ==== Pre_finite34.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .f32) (main_arg2 : FVec F S1x2048 .f32) (main_arg3 : FVec F S4096x2048 .f32) (main_arg4 : FVec F S1x2048 .f32) : IVec S4096x2048 1 × IVec S4096x2048 1 × IVec S1x2048 1 × IVec S4096x2048 1 × IVec S1x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S4096x2048 .f32 := Host.absf main_arg3
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_v12 : FVec F S1x2048 .f32 := Host.absf main_arg4
  let main_cst_3 : FVec F S_ .f32 := constant S_ .f32 0x7F800000#32
  let main_v13 : FVec F S1x2048 .f32 := broadcastInDim S1x2048 ![] bcast_S_S1x2048 main_cst_3
  let main_v14 : IVec S1x2048 1 := cmpf .olt main_v12 main_v13
  (main_v2, main_v5, main_v8, main_v11, main_v14)
-- ==== Pre_finite35.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn_part1 {F : FTy → Type} [FloatOps F] (main_arg6 : FVec F S1x2048 .f32) (main_v2 : IVec S4096x2048 1) (main_v5 : IVec S4096x2048 1) (main_v8 : IVec S1x2048 1) (main_v11 : IVec S1x2048 1) (main_v14 : IVec S4096x2048 1) (main_v17 : IVec S4096x2048 1) : IVec S4096x2048 1 × IVec S4096x2048 1 × IVec S1x2048 1 × IVec S1x2048 1 × IVec S4096x2048 1 × IVec S4096x2048 1 × IVec S1x2048 1 :=
  let main_v18 : FVec F S1x2048 .f32 := Host.absf main_arg6
  let main_cst_5 : FVec F S_ .f32 := constant S_ .f32 0x7F800000#32
  let main_v19 : FVec F S1x2048 .f32 := broadcastInDim S1x2048 ![] bcast_S_S1x2048 main_cst_5
  let main_v20 : IVec S1x2048 1 := cmpf .olt main_v18 main_v19
  (main_v2, main_v5, main_v8, main_v11, main_v14, main_v17, main_v20)

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S4096x2048 .f32) (main_arg5 : FVec F S4096x2048 .f32) (main_arg6 : FVec F S1x2048 .f32) : IVec S4096x2048 1 × IVec S4096x2048 1 × IVec S1x2048 1 × IVec S1x2048 1 × IVec S4096x2048 1 × IVec S4096x2048 1 × IVec S1x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S4096x2048 .f32 := Host.absf main_arg4
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  let main_v15 : FVec F S4096x2048 .f32 := Host.absf main_arg5
  let main_cst_4 : FVec F S_ .f32 := constant S_ .f32 0x7F800000#32
  let main_v16 : FVec F S4096x2048 .f32 := broadcastInDim S4096x2048 ![] bcast_S_S4096x2048 main_cst_4
  let main_v17 : IVec S4096x2048 1 := cmpf .olt main_v15 main_v16
  fn_part1 (F := F) main_arg6 main_v2 main_v5 main_v8 main_v11 main_v14 main_v17
-- ==== Pre_finite37.lean ====
abbrev S1x1024 : Shape := ⟨2, ![1, 1024]⟩
abbrev S2x1024 : Shape := ⟨2, ![2, 1024]⟩
abbrev S_ : Shape := ⟨0, ![]⟩

class Facts : Prop where
  bcast_S_S1x1024 : S_.BroadcastsInDim S1x1024 (![] : Fin 0 → Fin S1x1024.rank)
  bcast_S_S2x1024 : S_.BroadcastsInDim S2x1024 (![] : Fin 0 → Fin S2x1024.rank)

variable [Facts]

def fn {F : FTy → Type} [FloatOps F] (main_arg0 : FVec F S1x1024 .f32) (main_arg1 : FVec F S2x1024 .f32) : IVec S1x1024 1 × IVec S2x1024 1 :=
  let main_v0 : FVec F S1x1024 .f32 := Host.absf main_arg0
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_v3 : FVec F S2x1024 .f32 := Host.absf main_arg1
  let main_cst_0 : FVec F S_ .f32 := constant S_ .f32 0x7F800000#32
  let main_v4 : FVec F S2x1024 .f32 := broadcastInDim S2x1024 ![] bcast_S_S2x1024 main_cst_0
  let main_v5 : IVec S2x1024 1 := cmpf .olt main_v3 main_v4
  (main_v2, main_v5)
-- ==== Kernel.lean ====
abbrev S4096x2048 : Shape := ⟨2, ![4096, 2048]⟩
abbrev S2048x2048 : Shape := ⟨2, ![2048, 2048]⟩
abbrev S4096x11264 : Shape := ⟨2, ![4096, 11264]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 9
  | .vmem => 20
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x11264, .f32⟩
  | .hbm, ⟨3, _⟩ => ⟨S4096x2048, .bf16⟩
  | .hbm, ⟨4, _⟩ => ⟨S4096x2048, .bf16⟩
  | .hbm, ⟨5, _⟩ => ⟨S4096x2048, .bf16⟩
  | .hbm, ⟨6, _⟩ => ⟨S4096x2048, .bf16⟩
  | .hbm, ⟨7, _⟩ => ⟨S4096x2048, .bf16⟩
  | .hbm, ⟨8, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi arg1 c14_i32
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi arg1 c18_i32
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== ReferenceIdeal.lean ====
abbrev S4096x2048 : Shape := ⟨2, ![4096, 2048]⟩
abbrev S2048x2048 : Shape := ⟨2, ![2048, 2048]⟩
abbrev S4096x11264 : Shape := ⟨2, ![4096, 11264]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x11264, .f32⟩
  | .hbm, ⟨3, _⟩ => ⟨S4096x2048, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x2048, .bf16⟩
  | .hbm, ⟨47, _⟩ => ⟨S4096x2048, .bf16⟩
  | .hbm, ⟨48, _⟩ => ⟨S4096x2048, .bf16⟩
  | .hbm, ⟨49, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel2.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S1408x2048 : Shape := ⟨2, ![1408, 2048]⟩
abbrev S1024x1408 : Shape := ⟨2, ![1024, 1408]⟩
abbrev S768x2048 : Shape := ⟨2, ![768, 2048]⟩
abbrev S1024x768 : Shape := ⟨2, ![1024, 768]⟩
abbrev S640x2048 : Shape := ⟨2, ![640, 2048]⟩
abbrev S1024x640 : Shape := ⟨2, ![1024, 640]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x2048, .f32⟩
  | .hbm, ⟨5, _⟩ => ⟨S5632x2048, .f32⟩
  | .hbm, ⟨6, _⟩ => ⟨S4096x5632, .f32⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S_, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .bf16⟩
  | .hbm, ⟨31, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S4096x1024 : Shape := ⟨2, ![4096, 1024]⟩
abbrev S4096x11264 : Shape := ⟨2, ![4096, 11264]⟩
abbrev S3x1024 : Shape := ⟨2, ![3, 1024]⟩
abbrev S4096x128 : Shape := ⟨2, ![4096, 128]⟩
abbrev S3x128 : Shape := ⟨2, ![3, 128]⟩
abbrev S1x128 : Shape := ⟨2, ![1, 128]⟩
abbrev S256x128 : Shape := ⟨2, ![256, 128]⟩
abbrev S128 : Shape := ⟨1, ![128]⟩

abbrev nBuf : Space → Nat
  | .hbm => 7
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S4096x11264, .f32⟩
  | .hbm, ⟨2, _⟩ => ⟨S3x1024, .f32⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S3x1024, .f32⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x128, .f32⟩
  | .local _ .vmem, ⟨8, _⟩ => ⟨S3x128, .f32⟩
  | .local _ .vmem, ⟨9, _⟩ => ⟨S3x128, .f32⟩
  | .local _ .vmem, ⟨10, _⟩ => ⟨S4096x128, .bf16⟩
  | .local _ .vmem, ⟨11, _⟩ => ⟨S4096x128, .bf16⟩
  | .local _ .vmem, ⟨12, _⟩ => ⟨S4096x128, .bf16⟩
  | .local _ .vmem, ⟨13, _⟩ => ⟨S4096x128, .bf16⟩
  | .local _ .vmem, ⟨14, _⟩ => ⟨S4096x128, .bf16⟩
  | .local _ .vmem, ⟨15, _⟩ => ⟨S4096x128, .bf16⟩
  | .local _ .vmem, ⟨16, _⟩ => ⟨S3x128, .f32⟩
  | .local _ .vmem, ⟨17, _⟩ => ⟨S3x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v5 : BitVec 32 := Scalar.addi c0_i32 c16_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg10 : BitVec 32 := Scf.iv c0_i32 c1_i32 k0_t1
  let c256_i32 : BitVec 32 := 256#32
  let v10 : BitVec 32 := Scalar.muli arg10 c256_i32
  v10
def k0_mult2 (k0_t1 : Fin k0_t1_loop.trips) : BitVec 32 :=
  let c0_i32 : BitVec 32 := 0#32
  let c1_i32 : BitVec 32 := 1#32
  let arg10 : BitVec 32 := Scf.iv c0_i32 c1_i32 k0_t1
  let c1_i32_10 : BitVec 32 := 1#32
  let v12 : BitVec 32 := Scalar.subi arg10 c1_i32_10
  let c0_i32_11 : BitVec 32 := 0#32
  let v13 : BitVec 32 := Scalar.maxsi v12 c0_i32_11
  let c256_i32_12 : BitVec 32 := 256#32
  let v14 : BitVec 32 := Scalar.muli v13 c256_i32_12
  v14
def k0_mult3 (k0_t1 : Fin k0_t1_loop.trips) : BitVec 32 :=
  let c0_i32 : BitVec 32 := 0#32
  let c1_i32 : BitVec 32 := 1#32
  let arg10 : BitVec 32 := Scf.iv c0_i32 c1_i32 k0_t1
  let c1_i32_13 : BitVec 32 := 1#32
  let v16 : BitVec 32 := Scalar.addi arg10 c1_i32_13
  let c15_i32 : BitVec 32 := 15#32
  let v17 : BitVec 32 := Scalar.minsi v16 c15_i32
  let c256_i32_14 : BitVec 32 := 256#32
  let v18 : BitVec 32 := Scalar.muli v17 c256_i32_14
  v18
def k0_off1 (k0_t1 : Fin k0_t1_loop.trips) : Fin 2 → Nat :=
  let c0_i32 : BitVec 32 := 0#32
  let c1_i32 : BitVec 32 := 1#32
  let arg10 : BitVec 32 := Scf.iv c0_i32 c1_i32 k0_t1
  let c256_i32 : BitVec 32 := 256#32
  let v10 : BitVec 32 := Scalar.muli arg10 c256_i32
  let v11 : BitVec 32 := v10
  let v20 : Index := Scalar.indexCast v11
  let c0_15 : Index := 0#32
  ![v20.toNat, 0]
def k0_off2 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1_i32_10 : BitVec 32 := 1#32
  let v12 : BitVec 32 := Scalar.subi arg10 c1_i32_10
  let c0_i32_11 : BitVec 32 := 0#32
  let v13 : BitVec 32 := Scalar.maxsi v12 c0_i32_11
  let c256_i32_12 : BitVec 32 := 256#32
  let v14 : BitVec 32 := Scalar.muli v13 c256_i32_12
  let v15 : BitVec 32 := v14
  let v28 : Index := Scalar.indexCast v15
  let c0_19 : Index := 0#32
  ![v28.toNat, 0]
def k0_off3 (k0_t1 : Fin k0_t1_loop.trips) : Fin 2 → Nat :=
  let c0_i32 : BitVec 32 := 0#32
  let c1_i32 : BitVec 32 := 1#32
  let arg10 : BitVec 32 := Scf.iv c0_i32 c1_i32 k0_t1
  let c1_i32_13 : BitVec 32 := 1#32
  let v16 : BitVec 32 := Scalar.addi arg10 c1_i32_13
  let c15_i32 : BitVec 32 := 15#32
  let v17 : BitVec 32 := Scalar.minsi v16 c15_i32
  let c256_i32_14 : BitVec 32 := 256#32
  let v18 : BitVec 32 := Scalar.muli v17 c256_i32_14
  let v19 : BitVec 32 := v18
  let v61 : Index := Scalar.indexCast v19
  let c0_30 : Index := 0#32
  ![v61.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S3x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4096x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S4096x1024 : Shape := ⟨2, ![4096, 1024]⟩
abbrev S4096x11264 : Shape := ⟨2, ![4096, 11264]⟩
abbrev S3x1024 : Shape := ⟨2, ![3, 1024]⟩
abbrev S_ : Shape := ⟨0, ![]⟩
abbrev S2x1024 : Shape := ⟨2, ![2, 1024]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 85
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x11264, .f32⟩
  | .hbm, ⟨2, _⟩ => ⟨S3x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S2x1024, .f32⟩
  | .hbm, ⟨9, _⟩ => ⟨S4098x1024, .f32⟩
  | .hbm, ⟨10, _⟩ => ⟨S_, .f32⟩
  | .hbm, ⟨11, _⟩ => ⟨S2x1024, .f32⟩
  | .hbm, ⟨12, _⟩ => ⟨S1x1024, .f32⟩
  | .hbm, ⟨13, _⟩ => ⟨S1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S1024, .f32⟩
  | .hbm, ⟨27, _⟩ => ⟨S4096x1024, .f32⟩
  | .hbm, ⟨28, _⟩ => ⟨S1x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S_, .f32⟩
  | .hbm, ⟨42, _⟩ => ⟨S1024, .f32⟩
  | .hbm, ⟨43, _⟩ => ⟨S_, .f32⟩
  | .hbm, ⟨44, _⟩ => ⟨S4098x1024, .f32⟩
  | .hbm, ⟨45, _⟩ => ⟨S1x1024, .f32⟩
  | .hbm, ⟨46, _⟩ => ⟨S_, .f32⟩
  | .hbm, ⟨47, _⟩ => ⟨S3x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S_, .f32⟩
  | .hbm, ⟨55, _⟩ => ⟨S1024, .f32⟩
  | .hbm, ⟨56, _⟩ => ⟨S_, .f32⟩
  | .hbm, ⟨57, _⟩ => ⟨S4098x1024, .f32⟩
  | .hbm, ⟨58, _⟩ => ⟨S4098x1024, .f32⟩
  | .hbm, ⟨59, _⟩ => ⟨S1x1024, .f32⟩
  | .hbm, ⟨60, _⟩ => ⟨S_, .f32⟩
  | .hbm, ⟨61, _⟩ => ⟨S3x1024, .f32⟩
  | .hbm, ⟨62, _⟩ => ⟨S3x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S_, .f32⟩
  | .hbm, ⟨67, _⟩ => ⟨S1024, .f32⟩
  | .hbm, ⟨68, _⟩ => ⟨S1x1024, .f32⟩
  | .hbm, ⟨69, _⟩ => ⟨S_, .f32⟩
  | .hbm, ⟨70, _⟩ => ⟨S1024, .f32⟩
  | .hbm, ⟨71, _⟩ => ⟨S_, .f32⟩
  | .hbm, ⟨72, _⟩ => ⟨S4098x1024, .f32⟩
  | .hbm, ⟨73, _⟩ => ⟨S4098x1024, .f32⟩
  | .hbm, ⟨74, _⟩ => ⟨S1x1024, .f32⟩
  | .hbm, ⟨75, _⟩ => ⟨S_, .f32⟩
  | .hbm, ⟨76, _⟩ => ⟨S3x1024, .f32⟩
  | .hbm, ⟨77, _⟩ => ⟨S3x1024, .f32⟩
  | .hbm, ⟨78, _⟩ => ⟨S2x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .bf16⟩
  | .hbm, ⟨83, _⟩ => ⟨S4096x1024, .bf16⟩
  | .hbm, ⟨84, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_cst_1 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_cst_3 : Ref sig .tc := ⟨.hbm, 43, rfl⟩
abbrev main_v36 : Ref sig .tc := ⟨.hbm, 44, rfl⟩
abbrev main_v37 : Ref sig .tc := ⟨.hbm, 45, rfl⟩
abbrev main_cst_4 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_cst_6 : Ref sig .tc := ⟨.hbm, 54, rfl⟩
abbrev main_v44 : Ref sig .tc := ⟨.hbm, 55, rfl⟩
abbrev main_cst_7 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_8 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_9 : Ref sig .tc := ⟨.hbm, 66, rfl⟩
abbrev main_v53 : Ref sig .tc := ⟨.hbm, 67, rfl⟩
abbrev main_v54 : Ref sig .tc := ⟨.hbm, 68, rfl⟩
abbrev main_cst_10 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩

abbrev nD : Nat := 1
abbrev τ : Topo := Topo.v7x

variable {F : FTy → Type} [FloatOps F]
-- ==== Kernel5.lean ====
abbrev S4096x5632 : Shape := ⟨2, ![4096, 5632]⟩
abbrev S4x2048x1408 : Shape := ⟨3, ![4, 2048, 1408]⟩
abbrev S4096x2048 : Shape := ⟨2, ![4096, 2048]⟩
abbrev S512x1408 : Shape := ⟨2, ![512, 1408]⟩
abbrev S1x2048x1408 : Shape := ⟨3, ![1, 2048, 1408]⟩
abbrev S512x2048 : Shape := ⟨2, ![512, 2048]⟩
abbrev S2048x1408 : Shape := ⟨2, ![2048, 1408]⟩

abbrev nBuf : Space → Nat
  | .hbm => 5
  | .vmem => 10
  | .smem => 0
  | _ => 0

abbrev bufTy : (tb : Table) → Fin (tcTables nBuf tb) → BufTy
  | .hbm, ⟨0, _⟩ => ⟨S4096x5632, .bf16⟩
  | .hbm, ⟨1, _⟩ => ⟨S4x2048x1408, .bf16⟩
  | .hbm, ⟨2, _⟩ => ⟨S4096x5632, .bf16⟩
  | .hbm, ⟨3, _⟩ => ⟨S4x2048x1408, .bf16⟩
  | .hbm, ⟨4, _⟩ => ⟨S4096x2048, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1x2048x1408, .bf16⟩
  | .local _ .vmem, ⟨7, _⟩ => ⟨S1x2048x1408, .bf16⟩
  | .local _ .vmem, ⟨8, _⟩ => ⟨S512x2048, .f32⟩
  | .local _ .vmem, ⟨9, _⟩ => ⟨S512x2048, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![1, 8, 4], ![false, false, false]⟩

def k0_cond1 (i : grid0.Coords) : BitVec 1 :=
  let arg2 : BitVec 32 := BitVec.ofNat 32 (i 2).val
  let c0_i32 : BitVec 32 := 0#32
  let v9 : BitVec 1 := Scalar.cmpi .eq arg2 c0_i32
  let v10 : BitVec 32 := Scalar.extui v9
  let c0_i32_10 : BitVec 32 := 0#32
  let v11 : BitVec 1 := Scalar.cmpi .ne v10 c0_i32_10
  v11

def k0_cond2 (i : grid0.Coords) : BitVec 1 :=
  let arg2 : BitVec 32 := BitVec.ofNat 32 (i 2).val
  let c0_i32_11 : BitVec 32 := 0#32
  let v12 : BitVec 1 := Scalar.cmpi .sgt arg2 c0_i32_11
  let v13 : BitVec 32 := Scalar.extui v12
  let c0_i32_12 : BitVec 32 := 0#32
  let v14 : BitVec 1 := Scalar.cmpi .ne v13 c0_i32_12
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x2048x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference5Ideal.lean ====
abbrev S4096x5632 : Shape := ⟨2, ![4096, 5632]⟩
abbrev S4x2048x1408 : Shape := ⟨3, ![4, 2048, 1408]⟩
abbrev S_ : Shape := ⟨0, ![]⟩
abbrev S4096x2048 : Shape := ⟨2, ![4096, 2048]⟩
abbrev S2048x4x1408 : Shape := ⟨3, ![2048, 4, 1408]⟩
abbrev S2048x5632 : Shape := ⟨2, ![2048, 5632]⟩

abbrev nBuf : Space → Nat
  | .hbm => 19
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4x2048x1408, .bf16⟩
  | .hbm, ⟨2, _⟩ => ⟨S4096x5632, .bf16⟩
  | .hbm, ⟨3, _⟩ => ⟨S4x2048x1408, .bf16⟩
  | .hbm, ⟨4, _⟩ => ⟨S4096x5632, .f32⟩
  | .hbm, ⟨5, _⟩ => ⟨S4x2048x1408, .f32⟩
  | .hbm, ⟨6, _⟩ => ⟨S4096x5632, .f32⟩
  | .hbm, ⟨7, _⟩ => ⟨S4x2048x1408, .f32⟩
  | .hbm, ⟨8, _⟩ => ⟨S_, .f32⟩
  | .hbm, ⟨9, _⟩ => ⟨S4096x2048, .f32⟩
  | .hbm, ⟨10, _⟩ => ⟨S2048x4x1408, .f32⟩
  | .hbm, ⟨11, _⟩ => ⟨S2048x5632, .f32⟩
  | .hbm, ⟨12, _⟩ => ⟨S4096x5632, .f32⟩
  | .hbm, ⟨13, _⟩ => ⟨S2048x4x1408, .f32⟩
  | .hbm, ⟨14, _⟩ => ⟨S2048x5632, .f32⟩
  | .hbm, ⟨15, _⟩ => ⟨S4096x5632, .f32⟩
  | .hbm, ⟨16, _⟩ => ⟨S4096x2048, .f32⟩
  | .hbm, ⟨17, _⟩ => ⟨S4096x2048, .f32⟩
  | .hbm, ⟨18, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel6.lean ====
abbrev S4096x5632 : Shape := ⟨2, ![4096, 5632]⟩
abbrev S4096x2048 : Shape := ⟨2, ![4096, 2048]⟩
abbrev S5632x2048 : Shape := ⟨2, ![5632, 2048]⟩
abbrev S4096x512 : Shape := ⟨2, ![4096, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S4096x5632, .f32⟩
  | .hbm, ⟨3, _⟩ => ⟨S4096x2048, .f32⟩
  | .hbm, ⟨4, _⟩ => ⟨S_, .f32⟩
  | .hbm, ⟨5, _⟩ => ⟨S5632x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x2048 : Shape := ⟨2, ![4096, 2048]⟩
abbrev S4096x5632 : Shape := ⟨2, ![4096, 5632]⟩
abbrev S4x2048x1408 : Shape := ⟨3, ![4, 2048, 1408]⟩
abbrev S4096x1024 : Shape := ⟨2, ![4096, 1024]⟩
abbrev S4096x1408 : Shape := ⟨2, ![4096, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x1408, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1408, .bf16⟩
  | .local _ .vmem, ⟨3, _⟩ => ⟨S4096x1408, .bf16⟩
  | .local _ .vmem, ⟨4, _⟩ => ⟨S1x1024x1408, .bf16⟩
  | .local _ .vmem, ⟨5, _⟩ => ⟨S1x1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4096x5632 : Shape := ⟨2, ![4096, 5632]⟩
abbrev S_ : Shape := ⟨0, ![]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S5632x2048 : Shape := ⟨2, ![5632, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x2048, .f32⟩
  | .hbm, ⟨3, _⟩ => ⟨S4096x5632, .f32⟩
  | .hbm, ⟨4, _⟩ => ⟨S_, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S4096x5632, .f32⟩
  | .hbm, ⟨9, _⟩ => ⟨S5632x2048, .f32⟩
  | .hbm, ⟨10, _⟩ => ⟨S2048x5632, .f32⟩
  | .hbm, ⟨11, _⟩ => ⟨S2048x4x1408, .f32⟩
  | .hbm, ⟨12, _⟩ => ⟨S4x2048x1408, .f32⟩
  | .hbm, ⟨13, _⟩ => ⟨S4x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel8.lean ====
abbrev S4096x2048 : Shape := ⟨2, ![4096, 2048]⟩
abbrev S4096x5632 : Shape := ⟨2, ![4096, 5632]⟩
abbrev S4x2048x1408 : Shape := ⟨3, ![4, 2048, 1408]⟩
abbrev S4096x1024 : Shape := ⟨2, ![4096, 1024]⟩
abbrev S4096x1408 : Shape := ⟨2, ![4096, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4x2048x1408, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1408, .bf16⟩
  | .local _ .vmem, ⟨3, _⟩ => ⟨S4096x1408, .bf16⟩
  | .local _ .vmem, ⟨4, _⟩ => ⟨S1x1024x1408, .bf16⟩
  | .local _ .vmem, ⟨5, _⟩ => ⟨S1x1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S4096x5632 : Shape := ⟨2, ![4096, 5632]⟩
abbrev S_ : Shape := ⟨0, ![]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S5632x2048 : Shape := ⟨2, ![5632, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S4096x2048, .f32⟩
  | .hbm, ⟨3, _⟩ => ⟨S4096x5632, .f32⟩
  | .hbm, ⟨4, _⟩ => ⟨S_, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S4096x5632, .f32⟩
  | .hbm, ⟨9, _⟩ => ⟨S5632x2048, .f32⟩
  | .hbm, ⟨10, _⟩ => ⟨S2048x5632, .f32⟩
  | .hbm, ⟨11, _⟩ => ⟨S2048x4x1408, .f32⟩
  | .hbm, ⟨12, _⟩ => ⟨S4x2048x1408, .f32⟩
  | .hbm, ⟨13, _⟩ => ⟨S4x2048x1408, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S4096x512 : Shape := ⟨2, ![4096, 512]⟩
abbrev S512x2048 : Shape := ⟨2, ![512, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x2048, .bf16⟩
  | .local _ .vmem, ⟨3, _⟩ => ⟨S512x2048, .bf16⟩
  | .local _ .vmem, ⟨4, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 1 → Memref sig .tc .vmem S4096x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S4096x2048, .f32⟩
  | .hbm, ⟨3, _⟩ => ⟨S4096x2048, .f32⟩
  | .hbm, ⟨4, _⟩ => ⟨S_, .f32⟩
  | .hbm, ⟨5, _⟩ => ⟨S2048x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel10.lean ====
abbrev S4096x2048 : Shape := ⟨2, ![4096, 2048]⟩
abbrev S4x1024x512 : Shape := ⟨3, ![4, 1024, 512]⟩
abbrev S4096x1024 : Shape := ⟨2, ![4096, 1024]⟩
abbrev S1024x512 : Shape := ⟨2, ![1024, 512]⟩
abbrev S1x1024x512 : Shape := ⟨3, ![1, 1024, 512]⟩
abbrev S1024x1024 : Shape := ⟨2, ![1024, 1024]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4x1024x512, .bf16⟩
  | .hbm, ⟨2, _⟩ => ⟨S4096x2048, .bf16⟩
  | .hbm, ⟨3, _⟩ => ⟨S4x1024x512, .bf16⟩
  | .hbm, ⟨4, _⟩ => ⟨S4096x1024, .f32⟩
  | .hbm, ⟨5, _⟩ => ⟨S4096x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![1, 4, 4], ![false, false, false]⟩

def k0_cond1 (i : grid0.Coords) : BitVec 1 :=
  let arg2 : BitVec 32 := BitVec.ofNat 32 (i 2).val
  let c0_i32 : BitVec 32 := 0#32
  let v8 : BitVec 1 := Scalar.cmpi .eq arg2 c0_i32
  let v9 : BitVec 32 := Scalar.extui v8
  let c0_i32_10 : BitVec 32 := 0#32
  let v10 : BitVec 1 := Scalar.cmpi .ne v9 c0_i32_10
  v10

def k0_cond2 (i : grid0.Coords) : BitVec 1 :=
  let arg2 : BitVec 32 := BitVec.ofNat 32 (i 2).val
  let c0_i32_11 : BitVec 32 := 0#32
  let v11 : BitVec 1 := Scalar.cmpi .sgt arg2 c0_i32_11
  let v12 : BitVec 32 := Scalar.extui v11
  let c0_i32_12 : BitVec 32 := 0#32
  let v13 : BitVec 1 := Scalar.cmpi .ne v12 c0_i32_12
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference10Ideal.lean ====
abbrev S4096x2048 : Shape := ⟨2, ![4096, 2048]⟩
abbrev S4x1024x512 : Shape := ⟨3, ![4, 1024, 512]⟩
abbrev S_ : Shape := ⟨0, ![]⟩
abbrev S4096x1024 : Shape := ⟨2, ![4096, 1024]⟩
abbrev S1024x4x512 : Shape := ⟨3, ![1024, 4, 512]⟩
abbrev S1024x2048 : Shape := ⟨2, ![1024, 2048]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x1024x512, .bf16⟩
  | .hbm, ⟨2, _⟩ => ⟨S4096x2048, .bf16⟩
  | .hbm, ⟨3, _⟩ => ⟨S4x1024x512, .bf16⟩
  | .hbm, ⟨4, _⟩ => ⟨S4096x2048, .f32⟩
  | .hbm, ⟨5, _⟩ => ⟨S4x1024x512, .f32⟩
  | .hbm, ⟨6, _⟩ => ⟨S4096x2048, .f32⟩
  | .hbm, ⟨7, _⟩ => ⟨S4x1024x512, .f32⟩
  | .hbm, ⟨8, _⟩ => ⟨S_, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S1024x4x512, .f32⟩
  | .hbm, ⟨13, _⟩ => ⟨S1024x2048, .f32⟩
  | .hbm, ⟨14, _⟩ => ⟨S4096x2048, .f32⟩
  | .hbm, ⟨15, _⟩ => ⟨S1024x4x512, .f32⟩
  | .hbm, ⟨16, _⟩ => ⟨S1024x2048, .f32⟩
  | .hbm, ⟨17, _⟩ => ⟨S4096x2048, .f32⟩
  | .hbm, ⟨18, _⟩ => ⟨S4096x1024, .f32⟩
  | .hbm, ⟨19, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel11.lean ====
abbrev S4096x1024 : Shape := ⟨2, ![4096, 1024]⟩
abbrev S4096x2048 : Shape := ⟨2, ![4096, 2048]⟩
abbrev S4x1024x512 : Shape := ⟨3, ![4, 1024, 512]⟩
abbrev S4096x512 : Shape := ⟨2, ![4096, 512]⟩
abbrev S1x512x512 : Shape := ⟨3, ![1, 512, 512]⟩
abbrev S512x512 : Shape := ⟨2, ![512, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .bf16⟩
  | .hbm, ⟨3, _⟩ => ⟨S4096x2048, .bf16⟩
  | .hbm, ⟨4, _⟩ => ⟨S4x1024x512, .bf16⟩
  | .hbm, ⟨5, _⟩ => ⟨S4x1024x512, .bf16⟩
  | .local _ .vmem, ⟨0, _⟩ => ⟨S4096x512, .bf16⟩
  | .local _ .vmem, ⟨1, _⟩ => ⟨S4096x512, .bf16⟩
  | .local _ .vmem, ⟨2, _⟩ => ⟨S4096x512, .bf16⟩
  | .local _ .vmem, ⟨3, _⟩ => ⟨S4096x512, .bf16⟩
  | .local _ .vmem, ⟨4, _⟩ => ⟨S4096x512, .bf16⟩
  | .local _ .vmem, ⟨5, _⟩ => ⟨S4096x512, .bf16⟩
  | .local _ .vmem, ⟨6, _⟩ => ⟨S4096x512, .bf16⟩
  | .local _ .vmem, ⟨7, _⟩ => ⟨S4096x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference11Ideal.lean ====
abbrev S4096x1024 : Shape := ⟨2, ![4096, 1024]⟩
abbrev S4096x2048 : Shape := ⟨2, ![4096, 2048]⟩
abbrev S_ : Shape := ⟨0, ![]⟩
abbrev S4x1024x512 : Shape := ⟨3, ![4, 1024, 512]⟩
abbrev S1024x4x512 : Shape := ⟨3, ![1024, 4, 512]⟩
abbrev S1024x2048 : Shape := ⟨2, ![1024, 2048]⟩
abbrev S2048x1024 : Shape := ⟨2, ![2048, 1024]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S4096x1024, .bf16⟩
  | .hbm, ⟨3, _⟩ => ⟨S4096x2048, .bf16⟩
  | .hbm, ⟨4, _⟩ => ⟨S4096x1024, .f32⟩
  | .hbm, ⟨5, _⟩ => ⟨S4096x2048, .f32⟩
  | .hbm, ⟨6, _⟩ => ⟨S4096x1024, .f32⟩
  | .hbm, ⟨7, _⟩ => ⟨S4096x2048, .f32⟩
  | .hbm, ⟨8, _⟩ => ⟨S_, .f32⟩
  | .hbm, ⟨9, _⟩ => ⟨S4x1024x512, .f32⟩
  | .hbm, ⟨10, _⟩ => ⟨S1024x4x512, .f32⟩
  | .hbm, ⟨11, _⟩ => ⟨S1024x2048, .f32⟩
  | .hbm, ⟨12, _⟩ => ⟨S4096x2048, .f32⟩
  | .hbm, ⟨13, _⟩ => ⟨S1024x4x512, .f32⟩
  | .hbm, ⟨14, _⟩ => ⟨S1024x2048, .f32⟩
  | .hbm, ⟨15, _⟩ => ⟨S4096x2048, .f32⟩
  | .hbm, ⟨16, _⟩ => ⟨S2048x1024, .f32⟩
  | .hbm, ⟨17, _⟩ => ⟨S1024x2048, .f32⟩
  | .hbm, ⟨18, _⟩ => ⟨S1024x4x512, .f32⟩
  | .hbm, ⟨19, _⟩ => ⟨S4x1024x512, .f32⟩
  | .hbm, ⟨20, _⟩ => ⟨S2048x1024, .f32⟩
  | .hbm, ⟨21, _⟩ => ⟨S1024x2048, .f32⟩
  | .hbm, ⟨22, _⟩ => ⟨S1024x4x512, .f32⟩
  | .hbm, ⟨23, _⟩ => ⟨S4x1024x512, .f32⟩
  | .hbm, ⟨24, _⟩ => ⟨S4x1024x512, .bf16⟩
  | .hbm, ⟨25, _⟩ => ⟨S4x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel12.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩
abbrev S1024x5632 : Shape := ⟨2, ![1024, 5632]⟩
abbrev S5632x512 : Shape := ⟨2, ![5632, 512]⟩
abbrev S1024x512 : Shape := ⟨2, ![1024, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S4096x2048, .f32⟩
  | .local _ .vmem, ⟨0, _⟩ => ⟨S1024x5632, .bf16⟩
  | .local _ .vmem, ⟨1, _⟩ => ⟨S1024x5632, .bf16⟩
  | .local _ .vmem, ⟨2, _⟩ => ⟨S5632x512, .bf16⟩
  | .local _ .vmem, ⟨3, _⟩ => ⟨S5632x512, .bf16⟩
  | .local _ .vmem, ⟨4, _⟩ => ⟨S1024x512, .f32⟩
  | .local _ .vmem, ⟨5, _⟩ => ⟨S1024x512, .f32⟩
  | .local _ .vmem, ⟨6, _⟩ => ⟨S1x512, .f32⟩
  | .local _ .vmem, ⟨7, _⟩ => ⟨S1x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .f32⟩
  | .local _ .vmem, ⟨11, _⟩ => ⟨S1024x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference12Ideal.lean ====
abbrev S4096x5632 : Shape := ⟨2, ![4096, 5632]⟩
abbrev S5632x2048 : Shape := ⟨2, ![5632, 2048]⟩
abbrev S4096x2048 : Shape := ⟨2, ![4096, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S1x2048, .f32⟩
  | .hbm, ⟨4, _⟩ => ⟨S4096x5632, .f32⟩
  | .hbm, ⟨5, _⟩ => ⟨S5632x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel13.lean ====
abbrev S4096x11264 : Shape := ⟨2, ![4096, 11264]⟩
abbrev S4x2048x2816 : Shape := ⟨3, ![4, 2048, 2816]⟩
abbrev S4096x2048 : Shape := ⟨2, ![4096, 2048]⟩
abbrev S1024x1408 : Shape := ⟨2, ![1024, 1408]⟩
abbrev S1x2048x1408 : Shape := ⟨3, ![1, 2048, 1408]⟩
abbrev S1024x2048 : Shape := ⟨2, ![1024, 2048]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x11264, .bf16⟩
  | .hbm, ⟨1, _⟩ => ⟨S4x2048x2816, .bf16⟩
  | .hbm, ⟨2, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1024x2048, .f32⟩
  | .local _ .vmem, ⟨5, _⟩ => ⟨S1024x2048, .f32⟩
  | _, _ => ⟨S4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg2 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg2 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4096x11264 : Shape := ⟨2, ![4096, 11264]⟩
abbrev S4x2048x2816 : Shape := ⟨3, ![4, 2048, 2816]⟩
abbrev S_ : Shape := ⟨0, ![]⟩
abbrev S4096x2048 : Shape := ⟨2, ![4096, 2048]⟩
abbrev S2048x4x2816 : Shape := ⟨3, ![2048, 4, 2816]⟩
abbrev S2048x11264 : Shape := ⟨2, ![2048, 11264]⟩

abbrev nBuf : Space → Nat
  | .hbm => 10
  | .vmem => 0
  | .smem => 0
  | _ => 0

abbrev bufTy : (tb : Table) → Fin (tcTables nBuf tb) → BufTy
  | .hbm, ⟨0, _⟩ => ⟨S4096x11264, .bf16⟩
  | .hbm, ⟨1, _⟩ => ⟨S4x2048x2816, .bf16⟩
  | .hbm, ⟨2, _⟩ => ⟨S4096x11264, .f32⟩
  | .hbm, ⟨3, _⟩ => ⟨S4x2048x2816, .f32⟩
  | .hbm, ⟨4, _⟩ => ⟨S_, .f32⟩
  | .hbm, ⟨5, _⟩ => ⟨S4096x2048, .f32⟩
  | .hbm, ⟨6, _⟩ => ⟨S2048x4x2816, .f32⟩
  | .hbm, ⟨7, _⟩ => ⟨S2048x11264, .f32⟩
  | .hbm, ⟨8, _⟩ => ⟨S4096x11264, .f32⟩
  | .hbm, ⟨9, _⟩ => ⟨S4096x2048, .f32⟩
  | _, _ => ⟨S4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel14.lean ====
abbrev S4096x2048 : Shape := ⟨2, ![4096, 2048]⟩
abbrev S4096x11264 : Shape := ⟨2, ![4096, 11264]⟩
abbrev S4x2048x2816 : Shape := ⟨3, ![4, 2048, 2816]⟩
abbrev S4096x1024 : Shape := ⟨2, ![4096, 1024]⟩
abbrev S4096x1408 : Shape := ⟨2, ![4096, 1408]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4x2048x2816, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1408, .bf16⟩
  | .local _ .vmem, ⟨3, _⟩ => ⟨S4096x1408, .bf16⟩
  | .local _ .vmem, ⟨4, _⟩ => ⟨S1x1024x1408, .bf16⟩
  | .local _ .vmem, ⟨5, _⟩ => ⟨S1x1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg1.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S4096x2048 : Shape := ⟨2, ![4096, 2048]⟩
abbrev S4096x11264 : Shape := ⟨2, ![4096, 11264]⟩
abbrev S_ : Shape := ⟨0, ![]⟩
abbrev S4x2048x2816 : Shape := ⟨3, ![4, 2048, 2816]⟩
abbrev S2048x4x2816 : Shape := ⟨3, ![2048, 4, 2816]⟩
abbrev S2048x11264 : Shape := ⟨2, ![2048, 11264]⟩
abbrev S11264x2048 : Shape := ⟨2, ![11264, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x11264, .bf16⟩
  | .hbm, ⟨2, _⟩ => ⟨S4096x2048, .f32⟩
  | .hbm, ⟨3, _⟩ => ⟨S4096x11264, .f32⟩
  | .hbm, ⟨4, _⟩ => ⟨S_, .f32⟩
  | .hbm, ⟨5, _⟩ => ⟨S4x2048x2816, .f32⟩
  | .hbm, ⟨6, _⟩ => ⟨S2048x4x2816, .f32⟩
  | .hbm, ⟨7, _⟩ => ⟨S2048x11264, .f32⟩
  | .hbm, ⟨8, _⟩ => ⟨S4096x11264, .f32⟩
  | .hbm, ⟨9, _⟩ => ⟨S11264x2048, .f32⟩
  | .hbm, ⟨10, _⟩ => ⟨S2048x11264, .f32⟩
  | .hbm, ⟨11, _⟩ => ⟨S2048x4x2816, .f32⟩
  | .hbm, ⟨12, _⟩ => ⟨S4x2048x2816, .f32⟩
  | .hbm, ⟨13, _⟩ => ⟨S4x2048x2816, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel15.lean ====
abbrev S4096x2048 : Shape := ⟨2, ![4096, 2048]⟩
abbrev S4x2048x1408 : Shape := ⟨3, ![4, 2048, 1408]⟩
abbrev S4096x5632 : Shape := ⟨2, ![4096, 5632]⟩
abbrev S1024x2048 : Shape := ⟨2, ![1024, 2048]⟩
abbrev S1x2048x1408 : Shape := ⟨3, ![1, 2048, 1408]⟩
abbrev S1024x1408 : Shape := ⟨2, ![1024, 1408]⟩
abbrev S1x2048x768 : Shape := ⟨3, ![1, 2048, 768]⟩
abbrev S2048x768 : Shape := ⟨2, ![2048, 768]⟩
abbrev S1024x768 : Shape := ⟨2, ![1024, 768]⟩
abbrev S1x2048x640 : Shape := ⟨3, ![1, 2048, 640]⟩
abbrev S2048x640 : Shape := ⟨2, ![2048, 640]⟩
abbrev S1024x640 : Shape := ⟨2, ![1024, 640]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x2048x1408, .bf16⟩
  | .local _ .vmem, ⟨5, _⟩ => ⟨S1x2048x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference15Ideal.lean ====
abbrev S4096x2048 : Shape := ⟨2, ![4096, 2048]⟩
abbrev S4x2048x1408 : Shape := ⟨3, ![4, 2048, 1408]⟩
abbrev S2048x4x1408 : Shape := ⟨3, ![2048, 4, 1408]⟩
abbrev S2048x5632 : Shape := ⟨2, ![2048, 5632]⟩
abbrev S4096x5632 : Shape := ⟨2, ![4096, 5632]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4x2048x1408, .bf16⟩
  | .hbm, ⟨2, _⟩ => ⟨S4x2048x1408, .bf16⟩
  | .hbm, ⟨3, _⟩ => ⟨S4096x2048, .f32⟩
  | .hbm, ⟨4, _⟩ => ⟨S4x2048x1408, .f32⟩
  | .hbm, ⟨5, _⟩ => ⟨S4x2048x1408, .f32⟩
  | .hbm, ⟨6, _⟩ => ⟨S2048x4x1408, .f32⟩
  | .hbm, ⟨7, _⟩ => ⟨S2048x5632, .f32⟩
  | .hbm, ⟨8, _⟩ => ⟨S4096x5632, .f32⟩
  | .hbm, ⟨9, _⟩ => ⟨S2048x4x1408, .f32⟩
  | .hbm, ⟨10, _⟩ => ⟨S2048x5632, .f32⟩
  | .hbm, ⟨11, _⟩ => ⟨S4096x5632, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S_, .f32⟩
  | .hbm, ⟨18, _⟩ => ⟨S4096x5632, .f32⟩
  | .hbm, ⟨19, _⟩ => ⟨S4096x5632, .f32⟩
  | .hbm, ⟨20, _⟩ => ⟨S4096x5632, .f32⟩
  | .hbm, ⟨21, _⟩ => ⟨S4096x5632, .f32⟩
  | .hbm, ⟨22, _⟩ => ⟨S4096x5632, .bf16⟩
  | .hbm, ⟨23, _⟩ => ⟨S4096x5632, .bf16⟩
  | .hbm, ⟨24, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩

abbrev nD : Nat := 1
abbrev τ : Topo := Topo.v7x

variable {F : FTy → Type} [FloatOps F]
-- ==== Kernel16.lean ====
abbrev S4096x1024 : Shape := ⟨2, ![4096, 1024]⟩
abbrev S4x1024x512 : Shape := ⟨3, ![4, 1024, 512]⟩
abbrev S4096x11264 : Shape := ⟨2, ![4096, 11264]⟩
abbrev S4096x2048 : Shape := ⟨2, ![4096, 2048]⟩
abbrev S1024x1024 : Shape := ⟨2, ![1024, 1024]⟩
abbrev S1x1024x512 : Shape := ⟨3, ![1, 1024, 512]⟩
abbrev S1024x512 : Shape := ⟨2, ![1024, 512]⟩

abbrev nBuf : Space → Nat
  | .hbm => 8
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4096x1024, .bf16⟩
  | .hbm, ⟨3, _⟩ => ⟨S4x1024x512, .bf16⟩
  | .hbm, ⟨4, _⟩ => ⟨S4096x11264, .f32⟩
  | .hbm, ⟨5, _⟩ => ⟨S4096x2048, .bf16⟩
  | .hbm, ⟨6, _⟩ => ⟨S4096x2048, .bf16⟩
  | .hbm, ⟨7, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c14_i32 : BitVec 32 := 14#32
  let v0 : BitVec 32 := Scalar.addi arg1 c14_i32
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c18_i32 : BitVec 32 := 18#32
  let v0 : BitVec 32 := Scalar.addi arg1 c18_i32
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== Reference16Ideal.lean ====
abbrev S4096x1024 : Shape := ⟨2, ![4096, 1024]⟩
abbrev S4x1024x512 : Shape := ⟨3, ![4, 1024, 512]⟩
abbrev S4096x11264 : Shape := ⟨2, ![4096, 11264]⟩
abbrev S4096x2048 : Shape := ⟨2, ![4096, 2048]⟩
abbrev S1024x4x512 : Shape := ⟨3, ![1024, 4, 512]⟩
abbrev S1024x2048 : Shape := ⟨2, ![1024, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4x1024x512, .bf16⟩
  | .hbm, ⟨2, _⟩ => ⟨S4096x1024, .bf16⟩
  | .hbm, ⟨3, _⟩ => ⟨S4x1024x512, .bf16⟩
  | .hbm, ⟨4, _⟩ => ⟨S4096x11264, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4x1024x512, .f32⟩
  | .hbm, ⟨9, _⟩ => ⟨S4096x1024, .f32⟩
  | .hbm, ⟨10, _⟩ => ⟨S4x1024x512, .f32⟩
  | .hbm, ⟨11, _⟩ => ⟨S1024x4x512, .f32⟩
  | .hbm, ⟨12, _⟩ => ⟨S1024x2048, .f32⟩
  | .hbm, ⟨13, _⟩ => ⟨S4096x2048, .f32⟩
  | .hbm, ⟨14, _⟩ => ⟨S1024x4x512, .f32⟩
  | .hbm, ⟨15, _⟩ => ⟨S1024x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .bf16⟩
  | .hbm, ⟨37, _⟩ => ⟨S4096x2048, .bf16⟩
  | .hbm, ⟨38, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_1 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel17.lean ====
abbrev S4096x2048 : Shape := ⟨2, ![4096, 2048]⟩
abbrev S2048x2048 : Shape := ⟨2, ![2048, 2048]⟩
abbrev S1x2048 : Shape := ⟨2, ![1, 2048]⟩
abbrev S1024x2048 : Shape := ⟨2, ![1024, 2048]⟩
abbrev S2048x1024 : Shape := ⟨2, ![2048, 1024]⟩
abbrev S1024x1024 : Shape := ⟨2, ![1024, 1024]⟩
abbrev S1x1024 : Shape := ⟨2, ![1, 1024]⟩
abbrev S2048x768 : Shape := ⟨2, ![2048, 768]⟩
abbrev S1024x768 : Shape := ⟨2, ![1024, 768]⟩
abbrev S1x768 : Shape := ⟨2, ![1, 768]⟩
abbrev S2048x256 : Shape := ⟨2, ![2048, 256]⟩
abbrev S1024x256 : Shape := ⟨2, ![1024, 256]⟩
abbrev S1x256 : Shape := ⟨2, ![1, 256]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .bf16⟩
  | .hbm, ⟨5, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference17Ideal.lean ====
abbrev S4096x2048 : Shape := ⟨2, ![4096, 2048]⟩
abbrev S2048x2048 : Shape := ⟨2, ![2048, 2048]⟩
abbrev S1x2048 : Shape := ⟨2, ![1, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S1x2048, .f32⟩
  | .hbm, ⟨4, _⟩ => ⟨S4096x2048, .f32⟩
  | .hbm, ⟨5, _⟩ => ⟨S2048x2048, .f32⟩
  | .hbm, ⟨6, _⟩ => ⟨S4096x2048, .f32⟩
  | .hbm, ⟨7, _⟩ => ⟨S4096x2048, .bf16⟩
  | .hbm, ⟨8, _⟩ => ⟨S4096x2048, .f32⟩
  | .hbm, ⟨9, _⟩ => ⟨S4096x2048, .f32⟩
  | .hbm, ⟨10, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel18.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 9
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S1x2048, .f32⟩
  | .hbm, ⟨8, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S1x2048, .f32⟩
  | .local _ .vmem, ⟨12, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v48 : BitVec 1 := Scalar.cmpi .eq arg0 c7_i32
  let v49 : BitVec 32 := Scalar.extui v48
  let c0_i32_27 : BitVec 32 := 0#32
  let v50 : BitVec 1 := Scalar.cmpi .ne v49 c0_i32_27
  v50

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference18Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 67
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S1x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S4096x2048, .f32⟩
  | .hbm, ⟨38, _⟩ => ⟨S_, .f32⟩
  | .hbm, ⟨39, _⟩ => ⟨S2048, .f32⟩
  | .hbm, ⟨40, _⟩ => ⟨S1x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S2048, .f32⟩
  | .hbm, ⟨46, _⟩ => ⟨S1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x2048, .f32⟩
  | .hbm, ⟨54, _⟩ => ⟨S4096x2048, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel21.lean ====
abbrev S2048x2816 : Shape := ⟨2, ![2048, 2816]⟩
abbrev S64x2816 : Shape := ⟨2, ![64, 2816]⟩

abbrev nBuf : Space → Nat
  | .hbm => 8
  | .vmem => 16
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S2048x2816, .f32⟩
  | .hbm, ⟨5, _⟩ => ⟨S2048x2816, .f32⟩
  | .hbm, ⟨6, _⟩ => ⟨S2048x2816, .f32⟩
  | .hbm, ⟨7, _⟩ => ⟨S2048x2816, .f32⟩
  | .local _ .vmem, ⟨0, _⟩ => ⟨S64x2816, .f32⟩
  | .local _ .vmem, ⟨1, _⟩ => ⟨S64x2816, .f32⟩
  | .local _ .vmem, ⟨2, _⟩ => ⟨S64x2816, .f32⟩
  | .local _ .vmem, ⟨3, _⟩ => ⟨S64x2816, .f32⟩
  | .local _ .vmem, ⟨4, _⟩ => ⟨S64x2816, .f32⟩
  | .local _ .vmem, ⟨5, _⟩ => ⟨S64x2816, .f32⟩
  | .local _ .vmem, ⟨6, _⟩ => ⟨S64x2816, .f32⟩
  | .local _ .vmem, ⟨7, _⟩ => ⟨S64x2816, .f32⟩
  | .local _ .vmem, ⟨8, _⟩ => ⟨S64x2816, .f32⟩
  | .local _ .vmem, ⟨9, _⟩ => ⟨S64x2816, .f32⟩
  | .local _ .vmem, ⟨10, _⟩ => ⟨S64x2816, .f32⟩
  | .local _ .vmem, ⟨11, _⟩ => ⟨S64x2816, .f32⟩
  | .local _ .vmem, ⟨12, _⟩ => ⟨S64x2816, .f32⟩
  | .local _ .vmem, ⟨13, _⟩ => ⟨S64x2816, .f32⟩
  | .local _ .vmem, ⟨14, _⟩ => ⟨S64x2816, .f32⟩
  | .local _ .vmem, ⟨15, _⟩ => ⟨S64x2816, .f32⟩
  | _, _ => ⟨S2048x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x2816 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x2816 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x2816 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x2816 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x2816 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference21Ideal.lean ====
abbrev S2048x2816 : Shape := ⟨2, ![2048, 2816]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2816, .f32⟩
  | .hbm, ⟨1, _⟩ => ⟨S2048x2816, .f32⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S_, .f32⟩
  | .hbm, ⟨8, _⟩ => ⟨S2048x2816, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S2048x2816, .f32⟩
  | .hbm, ⟨15, _⟩ => ⟨S_, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S_, .f32⟩
  | .hbm, ⟨20, _⟩ => ⟨S2048x2816, .f32⟩
  | .hbm, ⟨21, _⟩ => ⟨S2048x2816, .f32⟩
  | .hbm, ⟨22, _⟩ => ⟨S_, .f32⟩
  | .hbm, ⟨23, _⟩ => ⟨S2048x2816, .f32⟩
  | .hbm, ⟨24, _⟩ => ⟨S2048x2816, .f32⟩
  | .hbm, ⟨25, _⟩ => ⟨S2048x2816, .f32⟩
  | .hbm, ⟨26, _⟩ => ⟨S_, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S_, .f32⟩
  | .hbm, ⟨31, _⟩ => ⟨S2048x2816, .f32⟩
  | .hbm, ⟨32, _⟩ => ⟨S2048x2816, .f32⟩
  | .hbm, ⟨33, _⟩ => ⟨S2048x2816, .f32⟩
  | .hbm, ⟨34, _⟩ => ⟨S_, .f32⟩
  | .hbm, ⟨35, _⟩ => ⟨S2048x2816, .f32⟩
  | .hbm, ⟨36, _⟩ => ⟨S2048x2816, .f32⟩
  | _, _ => ⟨S2048x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel22.lean ====
abbrev S1024x512 : Shape := ⟨2, ![1024, 512]⟩
abbrev S512x512 : Shape := ⟨2, ![512, 512]⟩

abbrev nBuf : Space → Nat
  | .hbm => 8
  | .vmem => 16
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference22Ideal.lean ====
abbrev S1024x512 : Shape := ⟨2, ![1024, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x512, .f32⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S1024x512, .f32⟩
  | .hbm, ⟨15, _⟩ => ⟨S_, .f32⟩
  | .hbm, ⟨16, _⟩ => ⟨S1024x512, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S_, .f32⟩
  | .hbm, ⟨23, _⟩ => ⟨S1024x512, .f32⟩
  | .hbm, ⟨24, _⟩ => ⟨S1024x512, .f32⟩
  | .hbm, ⟨25, _⟩ => ⟨S1024x512, .f32⟩
  | .hbm, ⟨26, _⟩ => ⟨S_, .f32⟩
  | .hbm, ⟨27, _⟩ => ⟨S1024x512, .f32⟩
  | .hbm, ⟨28, _⟩ => ⟨S1024x512, .f32⟩
  | .hbm, ⟨29, _⟩ => ⟨S1024x512, .f32⟩
  | .hbm, ⟨30, _⟩ => ⟨S_, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S_, .f32⟩
  | .hbm, ⟨35, _⟩ => ⟨S1024x512, .f32⟩
  | .hbm, ⟨36, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel23.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference23Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel24.lean ====
abbrev S2048x1408 : Shape := ⟨2, ![2048, 1408]⟩
abbrev S128x1408 : Shape := ⟨2, ![128, 1408]⟩

abbrev nBuf : Space → Nat
  | .hbm => 8
  | .vmem => 16
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S128x1408, .f32⟩
  | .local _ .vmem, ⟨1, _⟩ => ⟨S128x1408, .f32⟩
  | .local _ .vmem, ⟨2, _⟩ => ⟨S128x1408, .f32⟩
  | .local _ .vmem, ⟨3, _⟩ => ⟨S128x1408, .f32⟩
  | .local _ .vmem, ⟨4, _⟩ => ⟨S128x1408, .f32⟩
  | .local _ .vmem, ⟨5, _⟩ => ⟨S128x1408, .f32⟩
  | .local _ .vmem, ⟨6, _⟩ => ⟨S128x1408, .f32⟩
  | .local _ .vmem, ⟨7, _⟩ => ⟨S128x1408, .f32⟩
  | .local _ .vmem, ⟨8, _⟩ => ⟨S128x1408, .f32⟩
  | .local _ .vmem, ⟨9, _⟩ => ⟨S128x1408, .f32⟩
  | .local _ .vmem, ⟨10, _⟩ => ⟨S128x1408, .f32⟩
  | .local _ .vmem, ⟨11, _⟩ => ⟨S128x1408, .f32⟩
  | .local _ .vmem, ⟨12, _⟩ => ⟨S128x1408, .f32⟩
  | .local _ .vmem, ⟨13, _⟩ => ⟨S128x1408, .f32⟩
  | .local _ .vmem, ⟨14, _⟩ => ⟨S128x1408, .f32⟩
  | .local _ .vmem, ⟨15, _⟩ => ⟨S128x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference24Ideal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel25.lean ====
abbrev S1408x2048 : Shape := ⟨2, ![1408, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference25Ideal.lean ====
abbrev S1408x2048 : Shape := ⟨2, ![1408, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S_, .f32⟩
  | .hbm, ⟨5, _⟩ => ⟨S1408x2048, .f32⟩
  | .hbm, ⟨6, _⟩ => ⟨S1408x2048, .f32⟩
  | .hbm, ⟨7, _⟩ => ⟨S_, .f32⟩
  | .hbm, ⟨8, _⟩ => ⟨S1408x2048, .f32⟩
  | .hbm, ⟨9, _⟩ => ⟨S1408x2048, .f32⟩
  | .hbm, ⟨10, _⟩ => ⟨S1408x2048, .f32⟩
  | .hbm, ⟨11, _⟩ => ⟨S_, .f32⟩
  | .hbm, ⟨12, _⟩ => ⟨S1408x2048, .f32⟩
  | .hbm, ⟨13, _⟩ => ⟨S1408x2048, .f32⟩
  | .hbm, ⟨14, _⟩ => ⟨S1408x2048, .f32⟩
  | .hbm, ⟨15, _⟩ => ⟨S_, .f32⟩
  | .hbm, ⟨16, _⟩ => ⟨S1408x2048, .f32⟩
  | .hbm, ⟨17, _⟩ => ⟨S1408x2048, .f32⟩
  | .hbm, ⟨18, _⟩ => ⟨S1408x2048, .f32⟩
  | .hbm, ⟨19, _⟩ => ⟨S_, .f32⟩
  | .hbm, ⟨20, _⟩ => ⟨S1408x2048, .f32⟩
  | .hbm, ⟨21, _⟩ => ⟨S1408x2048, .f32⟩
  | .hbm, ⟨22, _⟩ => ⟨S_, .f32⟩
  | .hbm, ⟨23, _⟩ => ⟨S1408x2048, .f32⟩
  | .hbm, ⟨24, _⟩ => ⟨S1408x2048, .f32⟩
  | .hbm, ⟨25, _⟩ => ⟨S1408x2048, .f32⟩
  | .hbm, ⟨26, _⟩ => ⟨S_, .f32⟩
  | .hbm, ⟨27, _⟩ => ⟨S1408x2048, .f32⟩
  | .hbm, ⟨28, _⟩ => ⟨S1408x2048, .f32⟩
  | .hbm, ⟨29, _⟩ => ⟨S1408x2048, .f32⟩
  | .hbm, ⟨30, _⟩ => ⟨S_, .f32⟩
  | .hbm, ⟨31, _⟩ => ⟨S1408x2048, .f32⟩
  | .hbm, ⟨32, _⟩ => ⟨S1408x2048, .f32⟩
  | .hbm, ⟨33, _⟩ => ⟨S1408x2048, .f32⟩
  | .hbm, ⟨34, _⟩ => ⟨S_, .f32⟩
  | .hbm, ⟨35, _⟩ => ⟨S1408x2048, .f32⟩
  | .hbm, ⟨36, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel26.lean ====
abbrev S1x12288 : Shape := ⟨2, ![1, 12288]⟩

abbrev nBuf : Space → Nat
  | .hbm => 8
  | .vmem => 8
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S1x12288, .f32⟩
  | .hbm, ⟨5, _⟩ => ⟨S1x12288, .f32⟩
  | .hbm, ⟨6, _⟩ => ⟨S1x12288, .f32⟩
  | .hbm, ⟨7, _⟩ => ⟨S1x12288, .f32⟩
  | .local _ .vmem, ⟨0, _⟩ => ⟨S1x12288, .f32⟩
  | .local _ .vmem, ⟨1, _⟩ => ⟨S1x12288, .f32⟩
  | .local _ .vmem, ⟨2, _⟩ => ⟨S1x12288, .f32⟩
  | .local _ .vmem, ⟨3, _⟩ => ⟨S1x12288, .f32⟩
  | .local _ .vmem, ⟨4, _⟩ => ⟨S1x12288, .f32⟩
  | .local _ .vmem, ⟨5, _⟩ => ⟨S1x12288, .f32⟩
  | .local _ .vmem, ⟨6, _⟩ => ⟨S1x12288, .f32⟩
  | .local _ .vmem, ⟨7, _⟩ => ⟨S1x12288, .f32⟩
  | _, _ => ⟨S1x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x12288 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference26Ideal.lean ====
abbrev S1x12288 : Shape := ⟨2, ![1, 12288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S_, .f32⟩
  | .hbm, ⟨5, _⟩ => ⟨S1x12288, .f32⟩
  | .hbm, ⟨6, _⟩ => ⟨S1x12288, .f32⟩
  | .hbm, ⟨7, _⟩ => ⟨S_, .f32⟩
  | .hbm, ⟨8, _⟩ => ⟨S1x12288, .f32⟩
  | .hbm, ⟨9, _⟩ => ⟨S1x12288, .f32⟩
  | .hbm, ⟨10, _⟩ => ⟨S1x12288, .f32⟩
  | .hbm, ⟨11, _⟩ => ⟨S_, .f32⟩
  | .hbm, ⟨12, _⟩ => ⟨S1x12288, .f32⟩
  | .hbm, ⟨13, _⟩ => ⟨S1x12288, .f32⟩
  | .hbm, ⟨14, _⟩ => ⟨S1x12288, .f32⟩
  | .hbm, ⟨15, _⟩ => ⟨S_, .f32⟩
  | .hbm, ⟨16, _⟩ => ⟨S1x12288, .f32⟩
  | .hbm, ⟨17, _⟩ => ⟨S1x12288, .f32⟩
  | .hbm, ⟨18, _⟩ => ⟨S1x12288, .f32⟩
  | .hbm, ⟨19, _⟩ => ⟨S_, .f32⟩
  | .hbm, ⟨20, _⟩ => ⟨S1x12288, .f32⟩
  | .hbm, ⟨21, _⟩ => ⟨S1x12288, .f32⟩
  | .hbm, ⟨22, _⟩ => ⟨S_, .f32⟩
  | .hbm, ⟨23, _⟩ => ⟨S1x12288, .f32⟩
  | .hbm, ⟨24, _⟩ => ⟨S1x12288, .f32⟩
  | .hbm, ⟨25, _⟩ => ⟨S1x12288, .f32⟩
  | .hbm, ⟨26, _⟩ => ⟨S_, .f32⟩
  | .hbm, ⟨27, _⟩ => ⟨S1x12288, .f32⟩
  | .hbm, ⟨28, _⟩ => ⟨S1x12288, .f32⟩
  | .hbm, ⟨29, _⟩ => ⟨S1x12288, .f32⟩
  | .hbm, ⟨30, _⟩ => ⟨S_, .f32⟩
  | .hbm, ⟨31, _⟩ => ⟨S1x12288, .f32⟩
  | .hbm, ⟨32, _⟩ => ⟨S1x12288, .f32⟩
  | .hbm, ⟨33, _⟩ => ⟨S1x12288, .f32⟩
  | .hbm, ⟨34, _⟩ => ⟨S_, .f32⟩
  | .hbm, ⟨35, _⟩ => ⟨S1x12288, .f32⟩
  | .hbm, ⟨36, _⟩ => ⟨S1x12288, .f32⟩
  | _, _ => ⟨S1x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference27Ideal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel28.lean ====
abbrev S3x256 : Shape := ⟨2, ![3, 256]⟩

abbrev nBuf : Space → Nat
  | .hbm => 8
  | .vmem => 8
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .hbm, ⟨7, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference28Ideal.lean ====
abbrev S3x256 : Shape := ⟨2, ![3, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S_, .f32⟩
  | .hbm, ⟨5, _⟩ => ⟨S3x256, .f32⟩
  | .hbm, ⟨6, _⟩ => ⟨S3x256, .f32⟩
  | .hbm, ⟨7, _⟩ => ⟨S_, .f32⟩
  | .hbm, ⟨8, _⟩ => ⟨S3x256, .f32⟩
  | .hbm, ⟨9, _⟩ => ⟨S3x256, .f32⟩
  | .hbm, ⟨10, _⟩ => ⟨S3x256, .f32⟩
  | .hbm, ⟨11, _⟩ => ⟨S_, .f32⟩
  | .hbm, ⟨12, _⟩ => ⟨S3x256, .f32⟩
  | .hbm, ⟨13, _⟩ => ⟨S3x256, .f32⟩
  | .hbm, ⟨14, _⟩ => ⟨S3x256, .f32⟩
  | .hbm, ⟨15, _⟩ => ⟨S_, .f32⟩
  | .hbm, ⟨16, _⟩ => ⟨S3x256, .f32⟩
  | .hbm, ⟨17, _⟩ => ⟨S3x256, .f32⟩
  | .hbm, ⟨18, _⟩ => ⟨S3x256, .f32⟩
  | .hbm, ⟨19, _⟩ => ⟨S_, .f32⟩
  | .hbm, ⟨20, _⟩ => ⟨S3x256, .f32⟩
  | .hbm, ⟨21, _⟩ => ⟨S3x256, .f32⟩
  | .hbm, ⟨22, _⟩ => ⟨S_, .f32⟩
  | .hbm, ⟨23, _⟩ => ⟨S3x256, .f32⟩
  | .hbm, ⟨24, _⟩ => ⟨S3x256, .f32⟩
  | .hbm, ⟨25, _⟩ => ⟨S3x256, .f32⟩
  | .hbm, ⟨26, _⟩ => ⟨S_, .f32⟩
  | .hbm, ⟨27, _⟩ => ⟨S3x256, .f32⟩
  | .hbm, ⟨28, _⟩ => ⟨S3x256, .f32⟩
  | .hbm, ⟨29, _⟩ => ⟨S3x256, .f32⟩
  | .hbm, ⟨30, _⟩ => ⟨S_, .f32⟩
  | .hbm, ⟨31, _⟩ => ⟨S3x256, .f32⟩
  | .hbm, ⟨32, _⟩ => ⟨S3x256, .f32⟩
  | .hbm, ⟨33, _⟩ => ⟨S3x256, .f32⟩
  | .hbm, ⟨34, _⟩ => ⟨S_, .f32⟩
  | .hbm, ⟨35, _⟩ => ⟨S3x256, .f32⟩
  | .hbm, ⟨36, _⟩ => ⟨S3x256, .f32⟩
  | _, _ => ⟨S3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel29.lean ====
abbrev S2x1024 : Shape := ⟨2, ![2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference29Ideal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel30.lean ====
abbrev S1x128 : Shape := ⟨2, ![1, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference30Ideal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel31.lean ====
abbrev S8x2048 : Shape := ⟨2, ![8, 2048]⟩
abbrev S8x3072 : Shape := ⟨2, ![8, 3072]⟩
abbrev S2048x3072 : Shape := ⟨2, ![2048, 3072]⟩
abbrev S2048x8 : Shape := ⟨2, ![2048, 8]⟩
abbrev S256x8 : Shape := ⟨2, ![256, 8]⟩
abbrev S8x1536 : Shape := ⟨2, ![8, 1536]⟩
abbrev S256x1536 : Shape := ⟨2, ![256, 1536]⟩
abbrev S256x1 : Shape := ⟨2, ![256, 1]⟩
abbrev S1x1536 : Shape := ⟨2, ![1, 1536]⟩

abbrev nBuf : Space → Nat
  | .hbm => 10
  | .vmem => 18
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S2048x8, .f32⟩
  | .hbm, ⟨6, _⟩ => ⟨S2048x3072, .f32⟩
  | .hbm, ⟨7, _⟩ => ⟨S2048x3072, .f32⟩
  | .hbm, ⟨8, _⟩ => ⟨S2048x3072, .f32⟩
  | .hbm, ⟨9, _⟩ => ⟨S2048x3072, .f32⟩
  | .local _ .vmem, ⟨0, _⟩ => ⟨S256x8, .f32⟩
  | .local _ .vmem, ⟨1, _⟩ => ⟨S256x8, .f32⟩
  | .local _ .vmem, ⟨2, _⟩ => ⟨S8x1536, .f32⟩
  | .local _ .vmem, ⟨3, _⟩ => ⟨S8x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | .local _ .vmem, ⟨14, _⟩ => ⟨S256x1536, .f32⟩
  | .local _ .vmem, ⟨15, _⟩ => ⟨S256x1536, .f32⟩
  | .local _ .vmem, ⟨16, _⟩ => ⟨S256x1536, .f32⟩
  | .local _ .vmem, ⟨17, _⟩ => ⟨S256x1536, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference31Ideal.lean ====
abbrev S8x2048 : Shape := ⟨2, ![8, 2048]⟩
abbrev S8x3072 : Shape := ⟨2, ![8, 3072]⟩
abbrev S2048x3072 : Shape := ⟨2, ![2048, 3072]⟩
abbrev S3072x2048 : Shape := ⟨2, ![3072, 2048]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S8x3072, .f32⟩
  | .hbm, ⟨2, _⟩ => ⟨S2048x3072, .f32⟩
  | .hbm, ⟨3, _⟩ => ⟨S2048x3072, .f32⟩
  | .hbm, ⟨4, _⟩ => ⟨S2048x3072, .f32⟩
  | .hbm, ⟨5, _⟩ => ⟨S8x3072, .f32⟩
  | .hbm, ⟨6, _⟩ => ⟨S3072x2048, .f32⟩
  | .hbm, ⟨7, _⟩ => ⟨S2048x3072, .f32⟩
  | .hbm, ⟨8, _⟩ => ⟨S_, .f32⟩
  | .hbm, ⟨9, _⟩ => ⟨S2048x3072, .f32⟩
  | .hbm, ⟨10, _⟩ => ⟨S2048x3072, .f32⟩
  | .hbm, ⟨11, _⟩ => ⟨S_, .f32⟩
  | .hbm, ⟨12, _⟩ => ⟨S2048x3072, .f32⟩
  | .hbm, ⟨13, _⟩ => ⟨S2048x3072, .f32⟩
  | .hbm, ⟨14, _⟩ => ⟨S2048x3072, .f32⟩
  | .hbm, ⟨15, _⟩ => ⟨S_, .f32⟩
  | .hbm, ⟨16, _⟩ => ⟨S2048x3072, .f32⟩
  | .hbm, ⟨17, _⟩ => ⟨S2048x3072, .f32⟩
  | .hbm, ⟨18, _⟩ => ⟨S2048x3072, .f32⟩
  | .hbm, ⟨19, _⟩ => ⟨S_, .f32⟩
  | .hbm, ⟨20, _⟩ => ⟨S2048x3072, .f32⟩
  | .hbm, ⟨21, _⟩ => ⟨S2048x3072, .f32⟩
  | .hbm, ⟨22, _⟩ => ⟨S2048x3072, .f32⟩
  | .hbm, ⟨23, _⟩ => ⟨S_, .f32⟩
  | .hbm, ⟨24, _⟩ => ⟨S2048x3072, .f32⟩
  | .hbm, ⟨25, _⟩ => ⟨S2048x3072, .f32⟩
  | .hbm, ⟨26, _⟩ => ⟨S_, .f32⟩
  | .hbm, ⟨27, _⟩ => ⟨S2048x3072, .f32⟩
  | .hbm, ⟨28, _⟩ => ⟨S2048x3072, .f32⟩
  | .hbm, ⟨29, _⟩ => ⟨S2048x3072, .f32⟩
  | .hbm, ⟨30, _⟩ => ⟨S_, .f32⟩
  | .hbm, ⟨31, _⟩ => ⟨S2048x3072, .f32⟩
  | .hbm, ⟨32, _⟩ => ⟨S2048x3072, .f32⟩
  | .hbm, ⟨33, _⟩ => ⟨S2048x3072, .f32⟩
  | .hbm, ⟨34, _⟩ => ⟨S_, .f32⟩
  | .hbm, ⟨35, _⟩ => ⟨S2048x3072, .f32⟩
  | .hbm, ⟨36, _⟩ => ⟨S2048x3072, .f32⟩
  | .hbm, ⟨37, _⟩ => ⟨S2048x3072, .f32⟩
  | .hbm, ⟨38, _⟩ => ⟨S_, .f32⟩
  | .hbm, ⟨39, _⟩ => ⟨S2048x3072, .f32⟩
  | .hbm, ⟨40, _⟩ => ⟨S2048x3072, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== Kernel32.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S512x2048, .bf16⟩
  | .local _ .vmem, ⟨6, _⟩ => ⟨S512x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference32Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩

abbrev nBuf : Space → Nat
  | .hbm => 27
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== Kernel33.lean ====
abbrev S4096x11264 : Shape := ⟨2, ![4096, 11264]⟩
abbrev S3x1024 : Shape := ⟨2, ![3, 1024]⟩
abbrev S4096x1024 : Shape := ⟨2, ![4096, 1024]⟩
abbrev S4096x128 : Shape := ⟨2, ![4096, 128]⟩
abbrev S3x128 : Shape := ⟨2, ![3, 128]⟩
abbrev S1x128 : Shape := ⟨2, ![1, 128]⟩
abbrev S256x128 : Shape := ⟨2, ![256, 128]⟩

abbrev nBuf : Space → Nat
  | .hbm => 3
  | .vmem => 10
  | .smem => 0
  | _ => 0

abbrev bufTy : (tb : Table) → Fin (tcTables nBuf tb) → BufTy
  | .hbm, ⟨0, _⟩ => ⟨S4096x11264, .f32⟩
  | .hbm, ⟨1, _⟩ => ⟨S3x1024, .f32⟩
  | .hbm, ⟨2, _⟩ => ⟨S4096x1024, .bf16⟩
  | .local _ .vmem, ⟨0, _⟩ => ⟨S4096x128, .f32⟩
  | .local _ .vmem, ⟨1, _⟩ => ⟨S4096x128, .f32⟩
  | .local _ .vmem, ⟨2, _⟩ => ⟨S4096x128, .f32⟩
  | .local _ .vmem, ⟨3, _⟩ => ⟨S4096x128, .f32⟩
  | .local _ .vmem, ⟨4, _⟩ => ⟨S4096x128, .f32⟩
  | .local _ .vmem, ⟨5, _⟩ => ⟨S4096x128, .f32⟩
  | .local _ .vmem, ⟨6, _⟩ => ⟨S3x128, .f32⟩
  | .local _ .vmem, ⟨7, _⟩ => ⟨S3x128, .f32⟩
  | .local _ .vmem, ⟨8, _⟩ => ⟨S4096x128, .bf16⟩
  | .local _ .vmem, ⟨9, _⟩ => ⟨S4096x128, .bf16⟩
  | _, _ => ⟨S4096x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c16_i32 : BitVec 32 := 16#32
  let v4 : BitVec 32 := Scalar.addi c0_i32 c16_i32
  let c1_i32 : BitVec 32 := 1#32
  ⟨c0_i32, v4, c1_i32⟩
def k0_mult1 (k0_t1 : Fin k0_t1_loop.trips) : BitVec 32 :=
  let c0_i32 : BitVec 32 := 0#32
  let c1_i32 : BitVec 32 := 1#32
  let arg6 : BitVec 32 := Scf.iv c0_i32 c1_i32 k0_t1
  let c256_i32 : BitVec 32 := 256#32
  let v5 : BitVec 32 := Scalar.muli arg6 c256_i32
  v5
def k0_mult2 (k0_t1 : Fin k0_t1_loop.trips) : BitVec 32 :=
  let c0_i32 : BitVec 32 := 0#32
  let c1_i32 : BitVec 32 := 1#32
  let arg6 : BitVec 32 := Scf.iv c0_i32 c1_i32 k0_t1
  let c1_i32_4 : BitVec 32 := 1#32
  let v7 : BitVec 32 := Scalar.subi arg6 c1_i32_4
  let c0_i32_5 : BitVec 32 := 0#32
  let v8 : BitVec 32 := Scalar.maxsi v7 c0_i32_5
  let c256_i32_6 : BitVec 32 := 256#32
  let v9 : BitVec 32 := Scalar.muli v8 c256_i32_6
  v9
def k0_off1 (k0_t1 : Fin k0_t1_loop.trips) : Fin 2 → Nat :=
  let c0_i32 : BitVec 32 := 0#32
  let c1_i32 : BitVec 32 := 1#32
  let arg6 : BitVec 32 := Scf.iv c0_i32 c1_i32 k0_t1
  let c256_i32 : BitVec 32 := 256#32
  let v5 : BitVec 32 := Scalar.muli arg6 c256_i32
  let v6 : BitVec 32 := v5
  let v11 : Index := Scalar.indexCast v6
  let c0_7 : Index := 0#32
  ![v11.toNat, 0]
def k0_off2 (k0_t1 : Fin k0_t1_loop.trips) : Fin 2 → Nat :=
  let c0_i32 : BitVec 32 := 0#32
  let c1_i32 : BitVec 32 := 1#32
  let arg6 : BitVec 32 := Scf.iv c0_i32 c1_i32 k0_t1
  let c1_i32_4 : BitVec 32 := 1#32
  let v7 : BitVec 32 := Scalar.subi arg6 c1_i32_4
  let c0_i32_5 : BitVec 32 := 0#32
  let v8 : BitVec 32 := Scalar.maxsi v7 c0_i32_5
  let c256_i32_6 : BitVec 32 := 256#32
  let v9 : BitVec 32 := Scalar.muli v8 c256_i32_6
  let v10 : BitVec 32 := v9
  let v17 : Index := Scalar.indexCast v10
  let c0_10 : Index := 0#32
  ![v17.toNat, 0]
def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c16_i32 : BitVec 32 := 16#32
  let v0 : BitVec 32 := Scalar.addi arg0 c16_i32
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference33Ideal.lean ====
abbrev S4096x11264 : Shape := ⟨2, ![4096, 11264]⟩
abbrev S3x1024 : Shape := ⟨2, ![3, 1024]⟩
abbrev S4096x1024 : Shape := ⟨2, ![4096, 1024]⟩
abbrev S_ : Shape := ⟨0, ![]⟩
abbrev S4098x1024 : Shape := ⟨2, ![4098, 1024]⟩
abbrev S1x1024 : Shape := ⟨2, ![1, 1024]⟩
abbrev S1024 : Shape := ⟨1, ![1024]⟩

abbrev nBuf : Space → Nat
  | .hbm => 31
  | .vmem => 0
  | .smem => 0
  | _ => 0

abbrev bufTy : (tb : Table) → Fin (tcTables nBuf tb) → BufTy
  | .hbm, ⟨0, _⟩ => ⟨S4096x11264, .f32⟩
  | .hbm, ⟨1, _⟩ => ⟨S3x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S4096x1024, .f32⟩
  | .hbm, ⟨6, _⟩ => ⟨S_, .i32⟩
  | .hbm, ⟨7, _⟩ => ⟨S_, .f32⟩
  | .hbm, ⟨8, _⟩ => ⟨S4098x1024, .f32⟩
  | .hbm, ⟨9, _⟩ => ⟨S1x1024, .f32⟩
  | .hbm, ⟨10, _⟩ => ⟨S1024, .f32⟩
  | .hbm, ⟨11, _⟩ => ⟨S4096x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S1024, .f32⟩
  | .hbm, ⟨17, _⟩ => ⟨S4096x1024, .f32⟩
  | .hbm, ⟨18, _⟩ => ⟨S1x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x1024, .f32⟩
  | .hbm, ⟨23, _⟩ => ⟨S1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .bf16⟩
  | _, _ => ⟨S4096x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩

abbrev nD : Nat := 1
abbrev τ : Topo := Topo.v7x

variable {F : FTy → Type} [FloatOps F]
-- ==== Kernel34.lean ====
abbrev S4096x2048 : Shape := ⟨2, ![4096, 2048]⟩
abbrev S1x2048 : Shape := ⟨2, ![1, 2048]⟩
abbrev S1x128 : Shape := ⟨2, ![1, 128]⟩
abbrev S512x2048 : Shape := ⟨2, ![512, 2048]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S2048 : Shape := ⟨1, ![2048]⟩

abbrev nBuf : Space → Nat
  | .hbm => 10
  | .vmem => 15
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S4096x2048, .bf16⟩
  | .hbm, ⟨7, _⟩ => ⟨S1x128, .f32⟩
  | .hbm, ⟨8, _⟩ => ⟨S1x2048, .f32⟩
  | .hbm, ⟨9, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x128, .f32⟩
  | .local _ .vmem, ⟨13, _⟩ => ⟨S1x2048, .f32⟩
  | .local _ .vmem, ⟨14, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference34Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩
abbrev S1x128 : Shape := ⟨2, ![1, 128]⟩

abbrev nBuf : Space → Nat
  | .hbm => 81
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S4096x2048, .f32⟩
  | .hbm, ⟨4, _⟩ => ⟨S1x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096, .f32⟩
  | .hbm, ⟨56, _⟩ => ⟨S4096x1, .f32⟩
  | .hbm, ⟨57, _⟩ => ⟨S4096x2048, .f32⟩
  | .hbm, ⟨58, _⟩ => ⟨S4096x2048, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S_, .f32⟩
  | .hbm, ⟨77, _⟩ => ⟨S2048, .f32⟩
  | .hbm, ⟨78, _⟩ => ⟨S1x2048, .f32⟩
  | .hbm, ⟨79, _⟩ => ⟨S4096x2048, .bf16⟩
  | .hbm, ⟨80, _⟩ => ⟨S1x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_cst_8 : Ref sig .tc := ⟨.hbm, 38, rfl⟩
abbrev main_cst_9 : Ref sig .tc := ⟨.hbm, 39, rfl⟩
abbrev main_v24 : Ref sig .tc := ⟨.hbm, 40, rfl⟩
abbrev main_v25 : Ref sig .tc := ⟨.hbm, 41, rfl⟩
abbrev main_cst_10 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_11 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_12 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_cst_14 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]
-- ==== Kernel35.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 13
  | .vmem => 19
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S4096x2048, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S4096x2048, .bf16⟩
  | .hbm, ⟨12, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S1x2048, .f32⟩
  | .local _ .vmem, ⟨11, _⟩ => ⟨S512x2048, .f32⟩
  | .local _ .vmem, ⟨12, _⟩ => ⟨S512x2048, .f32⟩
  | .local _ .vmem, ⟨13, _⟩ => ⟨S1x2048, .f32⟩
  | .local _ .vmem, ⟨14, _⟩ => ⟨S1x2048, .f32⟩
  | .local _ .vmem, ⟨15, _⟩ => ⟨S1x2048, .f32⟩
  | .local _ .vmem, ⟨16, _⟩ => ⟨S512x2048, .bf16⟩
  | .local _ .vmem, ⟨17, _⟩ => ⟨S512x2048, .bf16⟩
  | .local _ .vmem, ⟨18, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v61 : BitVec 1 := Scalar.cmpi .eq arg0 c7_i32
  let v62 : BitVec 32 := Scalar.extui v61
  let c0_i32_38 : BitVec 32 := 0#32
  let v63 : BitVec 1 := Scalar.cmpi .ne v62 c0_i32_38
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== Reference35Ideal.lean ====
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 79
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S4096x2048, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S2048, .f32⟩
  | .hbm, ⟨38, _⟩ => ⟨S1x2048, .f32⟩
  | .hbm, ⟨39, _⟩ => ⟨S4096x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S_, .f32⟩
  | .hbm, ⟨53, _⟩ => ⟨S4096, .f32⟩
  | .hbm, ⟨54, _⟩ => ⟨S4096x1, .f32⟩
  | .hbm, ⟨55, _⟩ => ⟨S4096x2048, .f32⟩
  | .hbm, ⟨56, _⟩ => ⟨S4096x2048, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S_, .f32⟩
  | .hbm, ⟨76, _⟩ => ⟨S2048, .f32⟩
  | .hbm, ⟨77, _⟩ => ⟨S1x2048, .f32⟩
  | .hbm, ⟨78, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_cst_10 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_11 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩

abbrev nD : Nat := 1
abbrev τ : Topo := Topo.v7x

variable {F : FTy → Type} [FloatOps F]
-- ==== Kernel36.lean ====
abbrev S8x12288 : Shape := ⟨2, ![8, 12288]⟩
abbrev S8x2048 : Shape := ⟨2, ![8, 2048]⟩
abbrev S8x1024 : Shape := ⟨2, ![8, 1024]⟩
abbrev S8x128 : Shape := ⟨2, ![8, 128]⟩
abbrev S8x3x1024 : Shape := ⟨3, ![8, 3, 1024]⟩
abbrev S8x3072 : Shape := ⟨2, ![8, 3072]⟩
abbrev S8x22784 : Shape := ⟨2, ![8, 22784]⟩
abbrev S_ : Shape := ⟨0, ![]⟩
abbrev S8x23552 : Shape := ⟨2, ![8, 23552]⟩
abbrev S1x23552 : Shape := ⟨2, ![1, 23552]⟩
abbrev S1x12288 : Shape := ⟨2, ![1, 12288]⟩
abbrev S1x2048 : Shape := ⟨2, ![1, 2048]⟩
abbrev S1x1024 : Shape := ⟨2, ![1, 1024]⟩
abbrev S1x128 : Shape := ⟨2, ![1, 128]⟩
abbrev S1x3072 : Shape := ⟨2, ![1, 3072]⟩
abbrev S3x1024 : Shape := ⟨2, ![3, 1024]⟩
abbrev S1x1 : Shape := ⟨2, ![1, 1]⟩

abbrev nBuf : Space → Nat
  | .hbm => 25
  | .vmem => 2
  | .smem => 0
  | _ => 0

abbrev bufTy : (tb : Table) → Fin (tcTables nBuf tb) → BufTy
  | .hbm, ⟨0, _⟩ => ⟨S8x12288, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S8x1024, .f32⟩
  | .hbm, ⟨5, _⟩ => ⟨S8x128, .f32⟩
  | .hbm, ⟨6, _⟩ => ⟨S8x3x1024, .f32⟩
  | .hbm, ⟨7, _⟩ => ⟨S8x128, .f32⟩
  | .hbm, ⟨8, _⟩ => ⟨S8x3072, .f32⟩
  | .hbm, ⟨9, _⟩ => ⟨S8x22784, .f32⟩
  | .hbm, ⟨10, _⟩ => ⟨S_, .i32⟩
  | .hbm, ⟨11, _⟩ => ⟨S_, .f32⟩
  | .hbm, ⟨12, _⟩ => ⟨S8x23552, .f32⟩
  | .hbm, ⟨13, _⟩ => ⟨S1x23552, .f32⟩
  | .hbm, ⟨14, _⟩ => ⟨S1x12288, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S1x1024, .f32⟩
  | .hbm, ⟨19, _⟩ => ⟨S1x128, .f32⟩
  | .hbm, ⟨20, _⟩ => ⟨S1x3072, .f32⟩
  | .hbm, ⟨21, _⟩ => ⟨S1x128, .f32⟩
  | .hbm, ⟨22, _⟩ => ⟨S3x1024, .f32⟩
  | .hbm, ⟨23, _⟩ => ⟨S1x1, .f32⟩
  | .hbm, ⟨24, _⟩ => ⟨S_, .f32⟩
  | .local _ .vmem, ⟨0, _⟩ => ⟨S8x23552, .f32⟩
  | .local _ .vmem, ⟨1, _⟩ => ⟨S1x23552, .f32⟩
  | _, _ => ⟨S8x12288, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x23552 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x23552 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Reference36Ideal.lean ====
abbrev S8x12288 : Shape := ⟨2, ![8, 12288]⟩
abbrev S8x2048 : Shape := ⟨2, ![8, 2048]⟩
abbrev S8x1024 : Shape := ⟨2, ![8, 1024]⟩
abbrev S8x128 : Shape := ⟨2, ![8, 128]⟩
abbrev S8x3x1024 : Shape := ⟨3, ![8, 3, 1024]⟩
abbrev S_ : Shape := ⟨0, ![]⟩
abbrev S12288 : Shape := ⟨1, ![12288]⟩
abbrev S1x12288 : Shape := ⟨2, ![1, 12288]⟩
abbrev S2048 : Shape := ⟨1, ![2048]⟩
abbrev S1x2048 : Shape := ⟨2, ![1, 2048]⟩
abbrev S1024 : Shape := ⟨1, ![1024]⟩
abbrev S1x1024 : Shape := ⟨2, ![1, 1024]⟩
abbrev S128 : Shape := ⟨1, ![128]⟩
abbrev S1x128 : Shape := ⟨2, ![1, 128]⟩
abbrev S3x1024 : Shape := ⟨2, ![3, 1024]⟩
abbrev S8x1 : Shape := ⟨2, ![8, 1]⟩
abbrev S8 : Shape := ⟨1, ![8]⟩

abbrev nBuf : Space → Nat
  | .hbm => 32
  | .vmem => 0
  | .smem => 0
  | _ => 0

abbrev bufTy : (tb : Table) → Fin (tcTables nBuf tb) → BufTy
  | .hbm, ⟨0, _⟩ => ⟨S8x12288, .f32⟩
  | .hbm, ⟨1, _⟩ => ⟨S8x2048, .f32⟩
  | .hbm, ⟨2, _⟩ => ⟨S8x2048, .f32⟩
  | .hbm, ⟨3, _⟩ => ⟨S8x2048, .f32⟩
  | .hbm, ⟨4, _⟩ => ⟨S8x1024, .f32⟩
  | .hbm, ⟨5, _⟩ => ⟨S8x128, .f32⟩
  | .hbm, ⟨6, _⟩ => ⟨S8x3x1024, .f32⟩
  | .hbm, ⟨7, _⟩ => ⟨S8x128, .f32⟩
  | .hbm, ⟨8, _⟩ => ⟨S_, .f32⟩
  | .hbm, ⟨9, _⟩ => ⟨S12288, .f32⟩
  | .hbm, ⟨10, _⟩ => ⟨S1x12288, .f32⟩
  | .hbm, ⟨11, _⟩ => ⟨S_, .f32⟩
  | .hbm, ⟨12, _⟩ => ⟨S2048, .f32⟩
  | .hbm, ⟨13, _⟩ => ⟨S1x2048, .f32⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S_, .f32⟩
  | .hbm, ⟨18, _⟩ => ⟨S2048, .f32⟩
  | .hbm, ⟨19, _⟩ => ⟨S1x2048, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S_, .f32⟩
  | .hbm, ⟨27, _⟩ => ⟨S3x1024, .f32⟩
  | .hbm, ⟨28, _⟩ => ⟨S8x1, .f32⟩
  | .hbm, ⟨29, _⟩ => ⟨S8, .f32⟩
  | .hbm, ⟨30, _⟩ => ⟨S_, .f32⟩
  | .hbm, ⟨31, _⟩ => ⟨S_, .f32⟩
  | _, _ => ⟨S8x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_v8 : Ref sig .tc := ⟨.hbm, 21, rfl⟩
abbrev main_v9 : Ref sig .tc := ⟨.hbm, 22, rfl⟩
abbrev main_cst_4 : Ref sig .tc := ⟨.hbm, 23, rfl⟩
abbrev main_v10 : Ref sig .tc := ⟨.hbm, 24, rfl⟩
abbrev main_v11 : Ref sig .tc := ⟨.hbm, 25, rfl⟩
abbrev main_cst_5 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_6 : Ref sig .tc := ⟨.hbm, 30, rfl⟩
abbrev main_v15 : Ref sig .tc := ⟨.hbm, 31, rfl⟩

abbrev nD : Nat := 1
abbrev τ : Topo := Topo.v7x

variable {F : FTy → Type} [FloatOps F]
-- ==== Kernel37.lean ====
abbrev S1x1024 : Shape := ⟨2, ![1, 1024]⟩
abbrev S2x1024 : Shape := ⟨2, ![2, 1024]⟩
abbrev S_ : Shape := ⟨0, ![]⟩
abbrev S1024 : Shape := ⟨1, ![1024]⟩

abbrev nBuf : Space → Nat
  | .hbm => 18
  | .vmem => 3
  | .smem => 0
  | _ => 0

abbrev bufTy : (tb : Table) → Fin (tcTables nBuf tb) → BufTy
  | .hbm, ⟨0, _⟩ => ⟨S1x1024, .f32⟩
  | .hbm, ⟨1, _⟩ => ⟨S2x1024, .f32⟩
  | .hbm, ⟨2, _⟩ => ⟨S_, .f32⟩
  | .hbm, ⟨3, _⟩ => ⟨S1024, .f32⟩
  | .hbm, ⟨4, _⟩ => ⟨S_, .f32⟩
  | .hbm, ⟨5, _⟩ => ⟨S1024, .f32⟩
  | .hbm, ⟨6, _⟩ => ⟨S1024, .f32⟩
  | .hbm, ⟨7, _⟩ => ⟨S1x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S1024, .f32⟩
  | .hbm, ⟨13, _⟩ => ⟨S1x1024, .f32⟩
  | .hbm, ⟨14, _⟩ => ⟨S2x1024, .f32⟩
  | .hbm, ⟨15, _⟩ => ⟨S2x1024, .f32⟩
  | .hbm, ⟨16, _⟩ => ⟨S1x1024, .f32⟩
  | .hbm, ⟨17, _⟩ => ⟨S2x1024, .f32⟩
  | .local _ .vmem, ⟨0, _⟩ => ⟨S1x1024, .f32⟩
  | .local _ .vmem, ⟨1, _⟩ => ⟨S1x1024, .f32⟩
  | .local _ .vmem, ⟨2, _⟩ => ⟨S2x1024, .f32⟩
  | _, _ => ⟨S1x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference37Ideal.lean ====
abbrev S1x1024 : Shape := ⟨2, ![1, 1024]⟩
abbrev S2x1024 : Shape := ⟨2, ![2, 1024]⟩
abbrev S_ : Shape := ⟨0, ![]⟩
abbrev S1024 : Shape := ⟨1, ![1024]⟩

abbrev nBuf : Space → Nat
  | .hbm => 57
  | .vmem => 0
  | .smem => 0
  | _ => 0

abbrev bufTy : (tb : Table) → Fin (tcTables nBuf tb) → BufTy
  | .hbm, ⟨0, _⟩ => ⟨S1x1024, .f32⟩
  | .hbm, ⟨1, _⟩ => ⟨S2x1024, .f32⟩
  | .hbm, ⟨2, _⟩ => ⟨S_, .f32⟩
  | .hbm, ⟨3, _⟩ => ⟨S1024, .f32⟩
  | .hbm, ⟨4, _⟩ => ⟨S1x1024, .f32⟩
  | .hbm, ⟨5, _⟩ => ⟨S2x1024, .f32⟩
  | .hbm, ⟨6, _⟩ => ⟨S2x1024, .i1⟩
  | .hbm, ⟨7, _⟩ => ⟨S2x1024, .f32⟩
  | .hbm, ⟨8, _⟩ => ⟨S_, .f32⟩
  | .hbm, ⟨9, _⟩ => ⟨S1024, .f32⟩
  | .hbm, ⟨10, _⟩ => ⟨S_, .f32⟩
  | .hbm, ⟨11, _⟩ => ⟨S1024, .f32⟩
  | .hbm, ⟨12, _⟩ => ⟨S1024, .f32⟩
  | .hbm, ⟨13, _⟩ => ⟨S_, .f32⟩
  | .hbm, ⟨14, _⟩ => ⟨S1024, .f32⟩
  | .hbm, ⟨15, _⟩ => ⟨S1024, .i1⟩
  | .hbm, ⟨16, _⟩ => ⟨S_, .f32⟩
  | .hbm, ⟨17, _⟩ => ⟨S1024, .f32⟩
  | .hbm, ⟨18, _⟩ => ⟨S1024, .i1⟩
  | .hbm, ⟨19, _⟩ => ⟨S_, .f32⟩
  | .hbm, ⟨20, _⟩ => ⟨S1024, .f32⟩
  | .hbm, ⟨21, _⟩ => ⟨S_, .f32⟩
  | .hbm, ⟨22, _⟩ => ⟨S1024, .f32⟩
  | .hbm, ⟨23, _⟩ => ⟨S_, .f32⟩
  | .hbm, ⟨24, _⟩ => ⟨S1024, .f32⟩
  | .hbm, ⟨25, _⟩ => ⟨S1024, .f32⟩
  | .hbm, ⟨26, _⟩ => ⟨S1024, .f32⟩
  | .hbm, ⟨27, _⟩ => ⟨S1x1024, .f32⟩
  | .hbm, ⟨28, _⟩ => ⟨S2x1024, .f32⟩
  | .hbm, ⟨29, _⟩ => ⟨S2x1024, .f32⟩
  | .hbm, ⟨30, _⟩ => ⟨S2x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2x1024, .f32⟩
  | .hbm, ⟨35, _⟩ => ⟨S2x1024, .f32⟩
  | .hbm, ⟨36, _⟩ => ⟨S1x1024, .f32⟩
  | .hbm, ⟨37, _⟩ => ⟨S_, .f32⟩
  | .hbm, ⟨38, _⟩ => ⟨S1x1024, .f32⟩
  | .hbm, ⟨39, _⟩ => ⟨S1x1024, .f32⟩
  | .hbm, ⟨40, _⟩ => ⟨S1x1024, .f32⟩
  | .hbm, ⟨41, _⟩ => ⟨S_, .f32⟩
  | .hbm, ⟨42, _⟩ => ⟨S2x1024, .f32⟩
  | .hbm, ⟨43, _⟩ => ⟨S2x1024, .f32⟩
  | .hbm, ⟨44, _⟩ => ⟨S2x1024, .f32⟩
  | .hbm, ⟨45, _⟩ => ⟨S2x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S1x1024, .f32⟩
  | .hbm, ⟨50, _⟩ => ⟨S2x1024, .f32⟩
  | .hbm, ⟨51, _⟩ => ⟨S2x1024, .f32⟩
  | .hbm, ⟨52, _⟩ => ⟨S_, .f32⟩
  | .hbm, ⟨53, _⟩ => ⟨S1024, .f32⟩
  | .hbm, ⟨54, _⟩ => ⟨S2x1024, .f32⟩
  | .hbm, ⟨55, _⟩ => ⟨S2x1024, .f32⟩
  | .hbm, ⟨56, _⟩ => ⟨S2x1024, .f32⟩
  | _, _ => ⟨S1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_9 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_10 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_11 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Proof.DMergedBlocks.lean ====
/-
  The gradient of the gated merge, block by block: what the kernel reads at each grid point, as entries of the argument
  arrays, and the product `dmob @ w_oᵀ` it forms there, as a sum over the contracted axis.
-/
module

public import proofs.«01_k».proof.Proof.Gen.KernelIdeal.Value
public import proofs.«01_k».proof.Proof.Gen.ReferenceIdeal.Read
public import Idealize.ShloMosaic.Lib.MatmulPlain
public import Idealize.ShloMosaic.Lib.IdealHost
public import Idealize.ShloMosaic.Lib.Pipeline.ValueKit.Geometry

@[expose] public section

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Merge

open Cert.KernelIdeal Cert.KernelIdeal.Gen

variable (m : (ℓ : Loc nD τ sig) → Buf (Elt Ideal) ℓ)

theorem hz : (![0, 0] : Fin 2 → Nat) = fun _ => 0 := funext fun a => by fin_cases a <;> rfl

/-- The five arguments on device `c`. -/
abbrev A0 (c : Dev nD) : Vec Ideal S4096x2048 .bf16 := m ((c : Thread nD τ).loc main_arg0)
abbrev A1 (c : Dev nD) : Vec Ideal S2048x2048 .bf16 := m ((c : Thread nD τ).loc main_arg1)
abbrev A2 (c : Dev nD) : Vec Ideal S4096x11264 .f32 := m ((c : Thread nD τ).loc main_arg2)
abbrev A3 (c : Dev nD) : Vec Ideal S4096x2048 .bf16 := m ((c : Thread nD τ).loc main_arg3)
abbrev A4 (c : Dev nD) : Vec Ideal S4096x2048 .bf16 := m ((c : Thread nD τ).loc main_arg4)

/-- How the windows move together: every window's block index at a point, from output window 6's. -/
theorem idx_facts : ∀ t : Fin cfg0.N,
    (win0_0.index t 0 = win0_6.index t 0 ∧ win0_0.index t 1 = 0)
    ∧ (win0_1.index t 0 = win0_6.index t 1 ∧ win0_1.index t 1 = 0)
    ∧ (win0_2.index t 0 = win0_6.index t 0 ∧ win0_2.index t 1 = 14 + win0_6.index t 1)
    ∧ (win0_3.index t 0 = win0_6.index t 0 ∧ win0_3.index t 1 = 18 + win0_6.index t 1)
    ∧ (win0_4.index t 0 = win0_6.index t 0 ∧ win0_4.index t 1 = win0_6.index t 1)
    ∧ (win0_5.index t 0 = win0_6.index t 0 ∧ win0_5.index t 1 = win0_6.index t 1)
    ∧ (win0_7.index t = win0_6.index t ∧ win0_8.index t = win0_6.index t ∧ win0_9.index t = win0_6.index t)
    ∧ (win0_6.index t 0 < 4 ∧ win0_6.index t 1 < 4) :=
  (by decide +kernel : ∀ t : Fin grid0.N, _)

/-- The row and the column of the result arrays that entry `j` of point `t`'s block is. -/
def row (t : Fin cfg0.N) (j : S1024x512.Idx) : Fin 4096 :=
  ⟨win0_6.index t 0 * 1024 + (j 0).val, by
    have h := (idx_facts t).2.2.2.2.2.2.2.1; have hj : (j 0).val < 1024 := (j 0).isLt; omega⟩
def col (t : Fin cfg0.N) (j : S1024x512.Idx) : Fin 2048 :=
  ⟨win0_6.index t 1 * 512 + (j 1).val, by
    have h := (idx_facts t).2.2.2.2.2.2.2.2; have hj : (j 1).val < 512 := (j 1).isLt; omega⟩

theorem iblk0_apply (c : Dev nD) (t : Fin cfg0.N) (j : S1024x512.Idx) (k : Fin 2048) :
    iblk m c 0 t (ix2 (j 0) k) = A0 m c (ix2 (row t j) k) := by
  show A0 m c ((win0_0.rect t).emb (ix2 (j 0) k)) = _
  refine congrArg _ (Shape.idx_ext₂ ?_ ?_)
  · rw [win0_0.rect_emb_val t, (idx_facts t).1.1]; rfl
  · rw [win0_0.rect_emb_val t, (idx_facts t).1.2]
    show 0 * 2048 + k.val = k.val
    omega

theorem iblk1_apply (c : Dev nD) (t : Fin cfg0.N) (j : S1024x512.Idx) (k : Fin 2048) :
    iblk m c 1 t (ix2 (j 1) k) = A1 m c (ix2 (col t j) k) := by
  show A1 m c ((win0_1.rect t).emb (ix2 (j 1) k)) = _
  refine congrArg _ (Shape.idx_ext₂ ?_ ?_)
  · rw [win0_1.rect_emb_val t, (idx_facts t).2.1.1]; rfl
  · rw [win0_1.rect_emb_val t, (idx_facts t).2.1.2]
    show 0 * 2048 + k.val = k.val
    omega

theorem iblk2_apply (c : Dev nD) (t : Fin cfg0.N) (j : S1024x512.Idx) :
    iblk m c 2 t j = A2 m c (ix2 (row t j) ⟨7168 + (col t j).val, by omega⟩) := by
  show A2 m c ((win0_2.rect t).emb j) = _
  refine congrArg _ (Shape.idx_ext₂ ?_ ?_)
  · rw [win0_2.rect_emb_val t, (idx_facts t).2.2.1.1]; rfl
  · rw [win0_2.rect_emb_val t, (idx_facts t).2.2.1.2]
    show (14 + win0_6.index t 1) * 512 + (j 1).val = 7168 + (win0_6.index t 1 * 512 + (j 1).val)
    omega

theorem iblk3_apply (c : Dev nD) (t : Fin cfg0.N) (j : S1024x512.Idx) :
    iblk m c 3 t j = A2 m c (ix2 (row t j) ⟨9216 + (col t j).val, by omega⟩) := by
  show A2 m c ((win0_3.rect t).emb j) = _
  refine congrArg _ (Shape.idx_ext₂ ?_ ?_)
  · rw [win0_3.rect_emb_val t, (idx_facts t).2.2.2.1.1]; rfl
  · rw [win0_3.rect_emb_val t, (idx_facts t).2.2.2.1.2]
    show (18 + win0_6.index t 1) * 512 + (j 1).val = 9216 + (win0_6.index t 1 * 512 + (j 1).val)
    omega

theorem iblk4_apply (c : Dev nD) (t : Fin cfg0.N) (j : S1024x512.Idx) :
    iblk m c 4 t j = A3 m c (ix2 (row t j) (col t j)) := by
  show A3 m c ((win0_4.rect t).emb j) = _
  refine congrArg _ (Shape.idx_ext₂ ?_ ?_)
  · rw [win0_4.rect_emb_val t, (idx_facts t).2.2.2.2.1.1]; rfl
  · rw [win0_4.rect_emb_val t, (idx_facts t).2.2.2.2.1.2]; rfl

theorem iblk5_apply (c : Dev nD) (t : Fin cfg0.N) (j : S1024x512.Idx) :
    iblk m c 5 t j = A4 m c (ix2 (row t j) (col t j)) := by
  show A4 m c ((win0_5.rect t).emb j) = _
  refine congrArg _ (Shape.idx_ext₂ ?_ ?_)
  · rw [win0_5.rect_emb_val t, (idx_facts t).2.2.2.2.2.1.1]; rfl
  · rw [win0_5.rect_emb_val t, (idx_facts t).2.2.2.2.2.1.2]; rfl

/-- The kernel's product at an entry of the block: the sum over the contracted axis of the products, nothing added. -/
theorem pay4_apply (w : Vec Ideal S512x2048 .bf16) (x : Vec Ideal S1024x2048 .bf16) (j : S1024x512.Idx) :
    k0_pay4 w x j = ∑ k : Fin 2048, x (ix2 (j 0) k) * w (ix2 (j 1) k) := by
  conv_lhs => rw [eq_ix2 j]
  unfold k0_pay4
  refine (Ideal.matmul_transposedRhs_apply (M := 1024) (K := 2048) (N := 512) none x w _ (j 0) (j 1)).trans ?_
  exact (congrArg (· + _) Ideal.ofBits_zero_f32).trans (zero_add _)

/-- So at point `t` the product's entry is the whole arrays' product at that row and column. -/
theorem dm_apply (c : Dev nD) (t : Fin cfg0.N) (j : S1024x512.Idx) :
    k0_pay4 (iblk m c 1 t) (iblk m c 0 t) j
      = ∑ k : Fin 2048, A0 m c (ix2 (row t j) k) * A1 m c (ix2 (col t j) k) := by
  rw [pay4_apply]
  exact Finset.sum_congr rfl fun k _ => by rw [iblk0_apply, iblk1_apply]

end Cert.KernelIdeal.Merge

end
-- ==== Proof.DMerged.lean ====
/-
  The gradient of the gated merge: the kernel's four result arrays are the reference's, entry by entry.
-/
module

public import proofs.«01_k».proof.Proof.DMergedBlocks

@[expose] public section

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Merge

open Cert.KernelIdeal Cert.KernelIdeal.Gen Cert.ReferenceIdeal.Read

variable (m : (ℓ : Loc nD τ sig) → Buf (Elt Ideal) ℓ)

/-- The logistic function as both programs compute it on the extended reals. -/
def sg (x : EReal) : EReal := Ideal.div 1 (1 + Ideal.exp (-x))

theorem pay5_apply (v : Vec Ideal S1024x512 .f32) (j : S1024x512.Idx) : k0_pay5 v j = sg (v j) := by
  show Ideal.div (Ideal.ofBits .f32 0x3F800000#32) (Ideal.ofBits .f32 0x3F800000#32 + Ideal.exp (Ideal.ofBits .f32 0x00000000#32 - v j)) = _
  rw [Ideal.ofBits_zero_f32, Ideal.ofBits_one_f32, zero_sub]; rfl

theorem pay6_apply (v : Vec Ideal S1024x512 .f32) (j : S1024x512.Idx) : k0_pay6 v j = sg (v j) := by
  show Ideal.div (Ideal.ofBits .f32 0x3F800000#32) (Ideal.ofBits .f32 0x3F800000#32 + Ideal.exp (Ideal.ofBits .f32 0x00000000#32 - v j)) = _
  rw [Ideal.ofBits_zero_f32, Ideal.ofBits_one_f32, zero_sub]; rfl

theorem pay10_apply (w : Vec Ideal S512x2048 .bf16) (x : Vec Ideal S1024x2048 .bf16) (g : Vec Ideal S1024x512 .f32)
    (y : Vec Ideal S1024x512 .bf16) (j : S1024x512.Idx) :
    k0_pay10 w x g y j = k0_pay4 w x j * y j * sg (g j) * (1 - sg (g j)) := by
  show k0_pay4 w x j * y j * k0_pay5 g j * (Ideal.ofBits .f32 0x3F800000#32 - k0_pay5 g j) = _
  rw [Ideal.ofBits_one_f32, pay5_apply]

theorem pay7_apply (w : Vec Ideal S512x2048 .bf16) (x : Vec Ideal S1024x2048 .bf16) (g : Vec Ideal S1024x512 .f32)
    (y : Vec Ideal S1024x512 .bf16) (j : S1024x512.Idx) :
    k0_pay1 (k0_pay7 w x g y) j = k0_pay4 w x j * y j * sg (g j) * (1 - sg (g j)) := by
  show k0_pay4 w x j * y j * k0_pay6 g j * (Ideal.ofBits .f32 0x3F800000#32 - k0_pay6 g j) = _
  rw [Ideal.ofBits_one_f32, pay6_apply]

theorem pay8_apply (w : Vec Ideal S512x2048 .bf16) (x : Vec Ideal S1024x2048 .bf16) (g : Vec Ideal S1024x512 .f32) (j : S1024x512.Idx) :
    k0_pay2 (k0_pay8 w x g) j = k0_pay4 w x j * sg (g j) := by
  show k0_pay4 w x j * k0_pay5 g j = _
  rw [pay5_apply]

theorem pay9_apply (w : Vec Ideal S512x2048 .bf16) (x : Vec Ideal S1024x2048 .bf16) (g : Vec Ideal S1024x512 .f32) (j : S1024x512.Idx) :
    k0_pay3 (k0_pay9 w x g) j = k0_pay4 w x j * sg (g j) := by
  show k0_pay4 w x j * k0_pay6 g j = _
  rw [pay6_apply]

/-! ## The reference at an entry -/

section Ref
variable (x0 : Vec Ideal S4096x2048 .bf16) (x1 : Vec Ideal S2048x2048 .bf16) (x2 : Vec Ideal S4096x11264 .f32)
  (x3 x4 : Vec Ideal S4096x2048 .bf16) (r : Fin 4096) (q : Fin 2048)

/-- The cotangent of the merged branch at an entry: `dmob @ w_oᵀ`. -/
def dmAt : EReal := ∑ k : Fin 2048, x0 (ix2 r k) * x1 (ix2 q k)

theorem ref_dm : val_main_v28 (F := Ideal) x0 x1 (ix2 r q) = dmAt x0 x1 r q := by
  rw [val_main_v28_apply]
  refine Finset.sum_congr rfl fun k _ => ?_
  rw [val_main_v5_apply, val_main_v2_apply]
  refine congrArg₂ (fun a b : EReal => a * b) (congrArg x0 (Shape.idx_ext₂ rfl rfl)) (congrArg x1 (Shape.idx_ext₂ rfl rfl))

theorem ref_sa : val_main_v11 (F := Ideal) x2 (ix2 r q) = sg (x2 (ix2 r ⟨7168 + q.val, by omega⟩)) := by
  rw [val_main_v11_apply, val_main_v10_apply, val_main_v9_apply, val_main_v8_apply, val_main_v7_apply, val_main_v6_apply,
    val_main_v0_apply, val_main_cst_0_apply, val_main_cst_apply]
  show Ideal.div (Ideal.ofBits .f32 0x3F800000#32) (Ideal.ofBits .f32 0x3F800000#32 + Ideal.exp (-(x2 _))) = _
  rw [Ideal.ofBits_one_f32]
  refine congrArg (fun z => sg (x2 z)) (Shape.idx_ext₂ rfl ?_)
  show 7168 + q.val = 7168 + q.val
  rfl

theorem ref_sb : val_main_v21 (F := Ideal) x2 (ix2 r q) = sg (x2 (ix2 r ⟨9216 + q.val, by omega⟩)) := by
  rw [val_main_v21_apply, val_main_v20_apply, val_main_v19_apply, val_main_v18_apply, val_main_v17_apply, val_main_v16_apply,
    val_main_v1_apply, val_main_cst_3_apply, val_main_cst_2_apply]
  show Ideal.div (Ideal.ofBits .f32 0x3F800000#32) (Ideal.ofBits .f32 0x3F800000#32 + Ideal.exp (-(x2 _))) = _
  rw [Ideal.ofBits_one_f32]
  refine congrArg (fun z => sg (x2 z)) (Shape.idx_ext₂ rfl ?_)
  show 9216 + q.val = 9216 + q.val
  rfl

theorem ref35 : val_main_v35 (F := Ideal) x0 x1 x2 x3 (ix2 r q)
    = dmAt x0 x1 r q * x3 (ix2 r q) * (sg (x2 (ix2 r ⟨7168 + q.val, by omega⟩)) * (1 - sg (x2 (ix2 r ⟨7168 + q.val, by omega⟩)))) := by
  rw [val_main_v35_apply, val_main_v34_apply, val_main_v33_apply, val_main_v14_apply, val_main_v13_apply, val_main_v12_apply,
    val_main_v3_apply, val_main_cst_1_apply, ref_dm, ref_sa]
  show dmAt x0 x1 r q * x3 (ix2 r q) * (sg _ * (Ideal.ofBits .f32 0x3F800000#32 - sg _)) = _
  rw [Ideal.ofBits_one_f32]

theorem ref36 : val_main_v36 (F := Ideal) x0 x1 x2 x4 (ix2 r q)
    = dmAt x0 x1 r q * x4 (ix2 r q) * (sg (x2 (ix2 r ⟨9216 + q.val, by omega⟩)) * (1 - sg (x2 (ix2 r ⟨9216 + q.val, by omega⟩)))) := by
  rw [val_main_v36_apply, val_main_v31_apply, val_main_v30_apply, val_main_v24_apply, val_main_v23_apply, val_main_v22_apply,
    val_main_v4_apply, val_main_cst_4_apply, ref_dm, ref_sb]
  show dmAt x0 x1 r q * x4 (ix2 r q) * (sg _ * (Ideal.ofBits .f32 0x3F800000#32 - sg _)) = _
  rw [Ideal.ofBits_one_f32]

theorem ref37 : val_main_v37 (F := Ideal) x0 x1 x2 (ix2 r q) = sg (x2 (ix2 r ⟨7168 + q.val, by omega⟩)) * dmAt x0 x1 r q := by
  rw [val_main_v37_apply, val_main_v32_apply, ref_dm, ref_sa]; rfl

theorem ref38 : val_main_v38 (F := Ideal) x0 x1 x2 (ix2 r q) = sg (x2 (ix2 r ⟨9216 + q.val, by omega⟩)) * dmAt x0 x1 r q := by
  rw [val_main_v38_apply, val_main_v29_apply, ref_dm, ref_sb]; rfl

end Ref

/-! ## What each point writes back is its block of the reference's array -/

theorem emb_eq6 (t : Fin cfg0.N) (j : S1024x512.Idx) : (win0_6.rect t).emb j = ix2 (row t j) (col t j) :=
  Shape.idx_ext₂ (win0_6.rect_emb_val t j 0) (win0_6.rect_emb_val t j 1)
theorem emb_eq7 (t : Fin cfg0.N) (j : S1024x512.Idx) : (win0_7.rect t).emb j = ix2 (row t j) (col t j) := by
  have h := (idx_facts t).2.2.2.2.2.2.1.1
  refine Shape.idx_ext₂ ?_ ?_
  · rw [win0_7.rect_emb_val t, h]; rfl
  · rw [win0_7.rect_emb_val t, h]; rfl
theorem emb_eq8 (t : Fin cfg0.N) (j : S1024x512.Idx) : (win0_8.rect t).emb j = ix2 (row t j) (col t j) := by
  have h := (idx_facts t).2.2.2.2.2.2.1.2.1
  refine Shape.idx_ext₂ ?_ ?_
  · rw [win0_8.rect_emb_val t, h]; rfl
  · rw [win0_8.rect_emb_val t, h]; rfl
theorem emb_eq9 (t : Fin cfg0.N) (j : S1024x512.Idx) : (win0_9.rect t).emb j = ix2 (row t j) (col t j) := by
  have h := (idx_facts t).2.2.2.2.2.2.1.2.2
  refine Shape.idx_ext₂ ?_ ?_
  · rw [win0_9.rect_emb_val t, h]; rfl
  · rw [win0_9.rect_emb_val t, h]; rfl

abbrev R6 (c : Dev nD) : Vec Ideal S4096x2048 .bf16 := val_main_v35 (F := Ideal) (A0 m c) (A1 m c) (A2 m c) (A3 m c)
abbrev R7 (c : Dev nD) : Vec Ideal S4096x2048 .bf16 := val_main_v36 (F := Ideal) (A0 m c) (A1 m c) (A2 m c) (A4 m c)
abbrev R8 (c : Dev nD) : Vec Ideal S4096x2048 .bf16 := val_main_v37 (F := Ideal) (A0 m c) (A1 m c) (A2 m c)
abbrev R9 (c : Dev nD) : Vec Ideal S4096x2048 .bf16 := val_main_v38 (F := Ideal) (A0 m c) (A1 m c) (A2 m c)

theorem flushed6_eq (c : Dev nD) (t : Fin cfg0.N) :
    (dats m 0 c).flushed 6 t = ((cfg0.win 6).blk t).view.read (Elt Ideal) (R6 m c) := by
  rw [Value.flushed6]
  unfold out0_6
  rw [View.canon_unit_zero hz, View.ld_unit_zero hz, View.ld_unit_zero hz, View.ld_unit_zero hz, View.ld_unit_zero hz]
  funext j
  show k0_pay10 (iblk m c 1 t) (iblk m c 0 t) (iblk m c 2 t) (iblk m c 4 t) j = R6 m c ((win0_6.rect t).emb j)
  rw [emb_eq6, pay10_apply, dm_apply, iblk2_apply, iblk4_apply]
  refine Eq.trans ?_ (ref35 _ _ _ _ _ _).symm
  unfold dmAt
  ac_rfl

theorem flushed7_eq (c : Dev nD) (t : Fin cfg0.N) :
    (dats m 0 c).flushed 7 t = ((cfg0.win 7).blk t).view.read (Elt Ideal) (R7 m c) := by
  rw [Value.flushed7]
  unfold out0_7
  rw [View.canon_unit_zero hz, View.ld_unit_zero hz, View.ld_unit_zero hz, View.ld_unit_zero hz, View.ld_unit_zero hz]
  funext j
  show k0_pay1 (k0_pay7 (iblk m c 1 t) (iblk m c 0 t) (iblk m c 3 t) (iblk m c 5 t)) j = R7 m c ((win0_7.rect t).emb j)
  rw [emb_eq7, pay7_apply, dm_apply, iblk3_apply, iblk5_apply]
  refine Eq.trans ?_ (ref36 _ _ _ _ _ _).symm
  unfold dmAt
  ac_rfl

theorem flushed8_eq (c : Dev nD) (t : Fin cfg0.N) :
    (dats m 0 c).flushed 8 t = ((cfg0.win 8).blk t).view.read (Elt Ideal) (R8 m c) := by
  rw [Value.flushed8]
  unfold out0_8
  rw [View.canon_unit_zero hz, View.ld_unit_zero hz, View.ld_unit_zero hz, View.ld_unit_zero hz]
  funext j
  show k0_pay2 (k0_pay8 (iblk m c 1 t) (iblk m c 0 t) (iblk m c 2 t)) j = R8 m c ((win0_8.rect t).emb j)
  rw [emb_eq8, pay8_apply, dm_apply, iblk2_apply]
  exact (mul_comm _ _).trans (ref37 _ _ _ _ _).symm

theorem flushed9_eq (c : Dev nD) (t : Fin cfg0.N) :
    (dats m 0 c).flushed 9 t = ((cfg0.win 9).blk t).view.read (Elt Ideal) (R9 m c) := by
  rw [Value.flushed9]
  unfold out0_9
  rw [View.canon_unit_zero hz, View.ld_unit_zero hz, View.ld_unit_zero hz, View.ld_unit_zero hz]
  funext j
  show k0_pay3 (k0_pay9 (iblk m c 1 t) (iblk m c 0 t) (iblk m c 3 t)) j = R9 m c ((win0_9.rect t).emb j)
  rw [emb_eq9, pay9_apply, dm_apply, iblk3_apply]
  exact (mul_comm _ _).trans (ref38 _ _ _ _ _).symm

/-! ## The blocks tile the arrays -/

theorem final6 (c : Dev nD) : (dats m 0 c).arrAt 6 cfg0.N = R6 m c :=
  (dats m 0 c).arrAt_eq_of_cover 6 (R6 m c) (fun t _ => flushed6_eq m c t) (Pipeline.Window.Covers.cover _ (by decide +kernel) (Memref.isWhole_whole _))
theorem final7 (c : Dev nD) : (dats m 0 c).arrAt 7 cfg0.N = R7 m c :=
  (dats m 0 c).arrAt_eq_of_cover 7 (R7 m c) (fun t _ => flushed7_eq m c t) (Pipeline.Window.Covers.cover _ (by decide +kernel) (Memref.isWhole_whole _))
theorem final8 (c : Dev nD) : (dats m 0 c).arrAt 8 cfg0.N = R8 m c :=
  (dats m 0 c).arrAt_eq_of_cover 8 (R8 m c) (fun t _ => flushed8_eq m c t) (Pipeline.Window.Covers.cover _ (by decide +kernel) (Memref.isWhole_whole _))
theorem final9 (c : Dev nD) : (dats m 0 c).arrAt 9 cfg0.N = R9 m c :=
  (dats m 0 c).arrAt_eq_of_cover 9 (R9 m c) (fun t _ => flushed9_eq m c t) (Pipeline.Window.Covers.cover _ (by decide +kernel) (Memref.isWhole_whole _))

end Cert.KernelIdeal.Merge

end
-- ==== Proof.DMergedClaim.lean ====
/-
  The value claim about the gradient of the gated merge, from the kernel's run and the reference's.
-/
module

public import proofs.«01_k».proof.Defs
public import proofs.«01_k».proof.Proof.DMerged

@[expose] public section

set_option maxRecDepth 16384

noncomputable section

open Idealize.ShloMosaic Idealize.ShloMosaic.TcCoe Idealize.SL.Sem

namespace Cert.DMergedClaim

open Cert.ReferenceIdeal.Read

open Cert.KernelIdeal.Merge

/-- The kernel and the reference end with equal results: at every entry, `dm * y * (sig g * (1 - sig g))` for the two
    gates and `sig g * dm` for the two branches, `dm` the product `dmob @ w_oᵀ` at that entry. -/
theorem algebraic : Cert.algebraic_KernelIdeal_ReferenceIdeal := by
  intro m ρ m' ρ' _ hagree
  refine ⟨R6 m, R7 m, R8 m, R9 m, ?_, ?_⟩
  · refine (θ_run _ _ _).mono (fun r h c => ?_) (Cert.KernelIdeal.Value.run_blocks (F := Ideal) m ρ)
    obtain ⟨h6, h7, h8, h9, hargs⟩ := h c
    exact ⟨h6.trans (final6 m c), h7.trans (final7 m c), h8.trans (final8 m c), h9.trans (final9 m c), hargs⟩
  · refine (θ_run _ _ _).mono (fun r h c => ?_) (Cert.ReferenceIdeal.Value.run (F := Ideal) m' ρ')
    obtain ⟨e0, e1, e2, e3, e4⟩ := hagree c
    obtain ⟨h35, h36, h37, h38, hargs⟩ := h c
    rw [val_main_v35_eq, e0, e1, e2, e3] at h35
    rw [val_main_v36_eq, e0, e1, e2, e4] at h36
    rw [val_main_v37_eq, e0, e1, e2] at h37
    rw [val_main_v38_eq, e0, e1, e2] at h38
    exact ⟨h35, h36, h37, h38, hargs⟩

end Cert.DMergedClaim

end
-- ==== Proof.Products.lean ====
/-
  What the weight-gradient products share: a product whose two operands are contracted on their first axes, read at an
  entry, and indices of rank three by their coordinates.
-/
module

public import Idealize.ShloMosaic.Lib.MatmulPlain
public import Idealize.ShloMosaic.Lib.IdealHost
public import Idealize.ShloMosaic.Lib.Pipeline.ValueKit.Geometry

@[expose] public section

noncomputable section

open Idealize.ShloMosaic Idealize.ShloMosaic.ValueIdx
open scoped BigOperators

namespace Cert.Products

/-- The offsets of a whole-block access of rank two. -/
theorem hz : (![0, 0] : Fin 2 → Nat) = fun _ => 0 := funext fun a => by fin_cases a <;> rfl
/-- The offsets of a whole-block access of rank three. -/
theorem hz3 : (![0, 0, 0] : Fin 3 → Nat) = fun _ => 0 := funext fun a => by fin_cases a <;> rfl

/-- Two indices of rank three with equal coordinates are equal. -/
theorem idx_ext3 {n : Fin 3 → Nat} {x y : (⟨3, n⟩ : Shape).Idx} (h0 : (x 0).val = (y 0).val) (h1 : (x 1).val = (y 1).val)
    (h2 : (x 2).val = (y 2).val) : x = y :=
  funext fun a => Fin.ext (match a with | ⟨0, _⟩ => h0 | ⟨1, _⟩ => h1 | ⟨2, _⟩ => h2)

/-- The product of two extended reals. -/
def pr (a b : EReal) : EReal := a * b

theorem pr_comm (a b : EReal) : pr a b = pr b a := mul_comm a b

/-- `[K,M]ᵀ × [K,N]`: both operands contracted on their first axis. -/
def firstAxes (M K N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

theorem firstAxes_contr_rank (M K N : ℕ) : (firstAxes M K N).contr.rank = 1 := rfl
theorem firstAxes_contr_size (M K N : ℕ) :
    (firstAxes M K N).contr.size ⟨0, by rw [firstAxes_contr_rank]; exact Nat.one_pos⟩ = K := rfl

/-- Its contraction index as its one coordinate. -/
def firstAxesContr (M K N : ℕ) : (firstAxes M K N).contr.Idx ≃ Fin K :=
  contrEquiv1 _ K (firstAxes_contr_rank M K N) (firstAxes_contr_size M K N)

/-- `[K,M]ᵀ × [K,N]` read at (r, c): the accumulator plus Σ_k lhs[k,r] · rhs[k,c]. -/
theorem matmul_firstAxes_apply {M K N : ℕ} {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (firstAxes M K N) prec lhs rhs acc (ix2 r c) = acc (ix2 r c) + ∑ k : Fin K, lhs (ix2 k r) * rhs (ix2 k c) := by
  rw [Ideal.matmul_apply, ← Equiv.sum_comp (firstAxesContr M K N).symm]
  refine congrArg (acc (ix2 r c) + ·) (Finset.sum_congr rfl fun k _ => ?_)
  have hk := contrEquiv1_symm_val _ K (firstAxes_contr_rank M K N) (firstAxes_contr_size M K N) k
  have el : (firstAxes M K N).lhsIdx (ix2 r c) ((firstAxesContr M K N).symm k) = ix2 k r := by
    funext a; apply Fin.ext
    match a with
    | ⟨0, _⟩ => exact hk
    | ⟨1, _⟩ => rfl
  have er : (firstAxes M K N).rhsIdx (ix2 r c) ((firstAxesContr M K N).symm k) = ix2 k c := by
    funext a; apply Fin.ext
    match a with
    | ⟨0, _⟩ => exact hk
    | ⟨1, _⟩ => rfl
  rw [el, er]

/-- The same onto a zero accumulator. -/
theorem matmul_firstAxes_zero {M K N : ℕ} {φ₁ φ₂ : FTy} (prec : Option ContractPrecision)
    (lhs : FVec Ideal ⟨2, ![K, M]⟩ φ₁) (rhs : FVec Ideal ⟨2, ![K, N]⟩ φ₂) (r : Fin M) (c : Fin N) :
    FloatOps.matmul (firstAxes M K N) prec lhs rhs (constant ⟨2, ![M, N]⟩ .f32 0x00000000#32) (ix2 r c)
      = ∑ k : Fin K, pr (lhs (ix2 k r)) (rhs (ix2 k c)) :=
  (matmul_firstAxes_apply prec lhs rhs _ r c).trans ((congrArg (· + _) Ideal.ofBits_zero_f32).trans (zero_add _))

end Cert.Products

end
-- ==== Proof.Chunks.lean ====
/-
  A rectangle of an array of rank two or three, loaded: what it reads at an entry.
-/
module

public import proofs.«01_k».proof.Proof.Products
public import Idealize.ShloMosaic.Lib.Pipeline.ValueKit.Tiles
public import Idealize.ShloMosaic.Lib.Pipeline.ReadBack

@[expose] public section

noncomputable section

open Idealize.ShloMosaic Idealize.ShloMosaic.ValueIdx

namespace Cert.Chunks

/-- The rectangle of `m` rows and `n` columns at row `o` and column `p`, read at (`r`, `q`). -/
theorem ld2 {M N m n : ℕ} {e : EltTy} (o p : ℕ) (X : Vec Ideal ⟨2, ![M, N]⟩ e) (inb : ∀ a, ![o, p] a + ![m, n] a ≤ ![M, N] a)
    (r : Fin m) (q : Fin n) (r' : Fin M) (q' : Fin N) (hr : r'.val = o + r.val) (hq : q'.val = p + q.val) :
    View.ld X (Rect.unit (s := ⟨2, ![M, N]⟩) ![o, p] ![m, n] inb) (ix2 r q) = X (ix2 r' q') :=
  View.ld_unit_apply_of X ![o, p] ![m, n] inb (ix2 r q) (ix2 r' q') (fun a => match a with | ⟨0, _⟩ => hr | ⟨1, _⟩ => hq)

/-- The same of an array of rank three. -/
theorem ld3 {L M N l m n : ℕ} {e : EltTy} (u o p : ℕ) (X : Vec Ideal ⟨3, ![L, M, N]⟩ e)
    (inb : ∀ a, ![u, o, p] a + ![l, m, n] a ≤ ![L, M, N] a) (s : Fin l) (r : Fin m) (q : Fin n) (s' : Fin L) (r' : Fin M) (q' : Fin N)
    (hs : s'.val = u + s.val) (hr : r'.val = o + r.val) (hq : q'.val = p + q.val) :
    View.ld X (Rect.unit (s := ⟨3, ![L, M, N]⟩) ![u, o, p] ![l, m, n] inb) (ix3 s r q) = X (ix3 s' r' q') :=
  View.ld_unit_apply_of X ![u, o, p] ![l, m, n] inb (ix3 s r q) (ix3 s' r' q')
    (fun a => match a with | ⟨0, _⟩ => hs | ⟨1, _⟩ => hr | ⟨2, _⟩ => hq)

/-- Where the rectangle puts its entry (`r`, `q`). -/
theorem emb2 {M N m n : ℕ} (o p : ℕ) (inb : ∀ a, ![o, p] a + ![m, n] a ≤ ![M, N] a)
    (r : Fin m) (q : Fin n) (r' : Fin M) (q' : Fin N) (hr : r'.val = o + r.val) (hq : q'.val = p + q.val) :
    (Rect.unit (s := ⟨2, ![M, N]⟩) ![o, p] ![m, n] inb).emb (ix2 r q) = ix2 r' q' :=
  Shape.idx_ext₂ ((Rect.idx_unit_val (s := ⟨2, ![M, N]⟩) ![o, p] ![m, n] inb (ix2 r q) 0).trans hr.symm)
    ((Rect.idx_unit_val (s := ⟨2, ![M, N]⟩) ![o, p] ![m, n] inb (ix2 r q) 1).trans hq.symm)

/-- The logistic function as both programs compute it on the extended reals. -/
def sg (x : EReal) : EReal := Ideal.div 1 (1 + Ideal.exp (-x))

/-- The kernels' chain for it: one over one plus the exponential of zero minus the argument. -/
theorem sg_kernel (x : EReal) : Ideal.div (Ideal.ofBits .f32 0x3F800000#32)
    (Ideal.ofBits .f32 0x3F800000#32 + Ideal.exp (Ideal.ofBits .f32 0x00000000#32 - x)) = sg x := by
  rw [Ideal.ofBits_zero_f32, Ideal.ofBits_one_f32, zero_sub]; rfl

/-- The references' chain for it. -/
theorem sg_reference (x : EReal) : Ideal.div (Ideal.ofBits .f32 0x3F800000#32)
    (Ideal.ofBits .f32 0x3F800000#32 + Ideal.exp (-x)) = sg x := by
  rw [Ideal.ofBits_one_f32]; rfl

/-- The sum of two extended reals. -/
def plus (a b : EReal) : EReal := a + b

end Cert.Chunks

end
-- ==== Proof.Finite.lean ====
/-
  Real numbers among the extended reals: which operations keep them, and how a comparison with infinity says that a
  value is one.
-/
module

public import proofs.«01_k».proof.Proof.Products
public import proofs.«01_k».proof.Proof.Chunks

@[expose] public section

noncomputable section

open Idealize.ShloMosaic Idealize.ShloMosaic.TcCoe Idealize.SL.Sem Idealize.ShloMosaic.ValueIdx

namespace Cert.Finite

open Cert.Products Cert.Chunks

/-- An extended real that is a real number. -/
def Real' (x : EReal) : Prop := ∃ r : ℝ, x = (r : EReal)

theorem real_coe (r : ℝ) : Real' (r : EReal) := ⟨r, rfl⟩

theorem real_pr {a b : EReal} (ha : Real' a) (hb : Real' b) : Real' (pr a b) := by
  obtain ⟨r, rfl⟩ := ha
  obtain ⟨s, rfl⟩ := hb
  exact ⟨r * s, (EReal.coe_mul r s).symm⟩

theorem real_sum {n : ℕ} (f : Fin n → EReal) (h : ∀ k, Real' (f k)) : Real' (∑ k : Fin n, f k) := by
  refine Finset.sum_induction f Real' ?_ ⟨0, EReal.coe_zero.symm⟩ fun k _ => h k
  rintro _ _ ⟨a, rfl⟩ ⟨b, rfl⟩
  exact ⟨a + b, (EReal.coe_add a b).symm⟩

/-- A sum of real numbers is the sum of the numbers. -/
theorem coe_sum {n : ℕ} (f : Fin n → ℝ) : (∑ k : Fin n, (f k : EReal)) = ((∑ k : Fin n, f k : ℝ) : EReal) := by
  refine Finset.sum_hom_rel (r := fun (a : EReal) (b : ℝ) => a = (b : EReal)) EReal.coe_zero.symm ?_
  rintro k a b rfl
  exact (EReal.coe_add _ _).symm

/-- A value whose absolute value is below the word of infinity is a real number. -/
theorem real_of_mask {x : EReal} (h : Ideal.cmp .olt (max x (-x)) (Ideal.ofBits .f32 0x7F800000#32) = 1#1) : Real' x := by
  have ht : Ideal.ofBits .f32 0x7F800000#32 = ⊤ := by
    rfl
  rw [ht] at h
  have h' : max x (-x) < ⊤ := by
    by_contra hn
    simp [Ideal.cmp, hn] at h
  have h1 : x ≠ ⊤ := fun e => by simp [e] at h'
  have h2 : x ≠ ⊥ := fun e => by simp [e] at h'
  exact ⟨x.toReal, (EReal.coe_toReal h1 h2).symm⟩

end Cert.Finite

end
-- ==== Proof.DAct.lean ====
/-
  The gradient of the SwiGLU gate: the kernel's two result arrays are the reference's, entry by entry, when every
  argument is finite.
-/
module

public import proofs.«01_k».proof.Proof.Products
public import proofs.«01_k».proof.Proof.Finite
public import proofs.«01_k».proof.Proof.Gen.Kernel2Ideal.Value
public import proofs.«01_k».proof.Proof.Gen.Reference2Ideal.Run
public import proofs.«01_k».proof.Proof.Gen.Reference2Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel2Ideal.DAct

open Cert.Reference2Ideal.Read

open Cert.Kernel2Ideal Cert.Kernel2Ideal.Gen Cert.Products Cert.Chunks Cert.Finite

variable (m : (ℓ : Loc nD τ sig) → Buf (Elt Ideal) ℓ)

/-- The four arguments on device `c`: the incoming gradient, the down weight, and the two saved input products. -/
abbrev A0 (c : Dev nD) : Vec Ideal S4096x2048 .bf16 := m ((c : Thread nD τ).loc main_arg0)
abbrev A1 (c : Dev nD) : Vec Ideal S5632x2048 .bf16 := m ((c : Thread nD τ).loc main_arg1)
abbrev A2 (c : Dev nD) : Vec Ideal S4096x5632 .bf16 := m ((c : Thread nD τ).loc main_arg2)
abbrev A3 (c : Dev nD) : Vec Ideal S4096x5632 .bf16 := m ((c : Thread nD τ).loc main_arg3)

theorem sg_coe (x : ℝ) : sg (x : EReal) = ((1 / (1 + Real.exp (-x)) : ℝ) : EReal) := by
  have h : (1 + Real.exp (-x)) ≠ 0 := ne_of_gt (by positivity)
  unfold sg
  rw [← EReal.coe_neg, Ideal.exp_coe, ← EReal.coe_one, ← EReal.coe_add, Ideal.div_coe h, ← EReal.coe_mul, one_mul]

/-- The gradient the kernel forms in the gate, from the gradient `d` of the gated product, the up value and the gate. -/
def gateK (d u g : EReal) : EReal := pr (pr d u) (pr (sg g) (plus 1 (pr g (1 - sg g))))
/-- The reference's: the two terms of the product rule for `g * sg g`. -/
def gateR (d u g : EReal) : EReal := plus (pr (pr d u) (sg g)) (pr (pr g (pr d u)) (pr (sg g) (1 - sg g)))
/-- The gradient in the up value. -/
def upR (d g : EReal) : EReal := pr (pr g (sg g)) d

/-- The two agree on real numbers. -/
theorem gate_eq {d u g : EReal} (hd : Real' d) (hu : Real' u) (hg : Real' g) : gateK d u g = gateR d u g := by
  obtain ⟨d, rfl⟩ := hd
  obtain ⟨u, rfl⟩ := hu
  obtain ⟨g, rfl⟩ := hg
  unfold gateK gateR
  rw [sg_coe]
  simp only [pr, plus, ← EReal.coe_one, ← EReal.coe_mul, ← EReal.coe_add, ← EReal.coe_sub]
  refine congrArg _ ?_
  ring

/-- How the windows move together. -/
theorem idx_facts : ∀ t : Fin cfg0.N,
    (win0_0.index t 0 = win0_4.index t 0 ∧ win0_0.index t 1 = 0) ∧ (win0_1.index t 0 = win0_4.index t 1 ∧ win0_1.index t 1 = 0)
    ∧ (win0_4.index t 0 < 4 ∧ win0_4.index t 1 < 4)
    ∧ (win0_2.index t = win0_4.index t ∧ win0_3.index t = win0_4.index t ∧ win0_5.index t = win0_4.index t) :=
  (by decide +kernel : ∀ t : Fin grid0.N, _)

/-- The row and the column of the result arrays that entry (`r`, `q`) of point `t`'s block is. -/
def row (t : Fin cfg0.N) (r : Fin 1024) : Fin 4096 :=
  ⟨win0_4.index t 0 * 1024 + r.val, by have h := (idx_facts t).2.2.1.1; omega⟩
def col (t : Fin cfg0.N) (q : Fin 1408) : Fin 5632 :=
  ⟨win0_4.index t 1 * 1408 + q.val, by have h := (idx_facts t).2.2.1.2; omega⟩

theorem iblk0_apply (c : Dev nD) (t : Fin cfg0.N) (r : Fin 1024) (k : Fin 2048) :
    iblk m c 0 t (ix2 r k) = A0 m c (ix2 (row t r) k) := by
  show A0 m c ((win0_0.rect t).emb (ix2 r k)) = _
  refine congrArg _ (Shape.idx_ext₂ ?_ ?_)
  · rw [win0_0.rect_emb_val t, (idx_facts t).1.1]; rfl
  · rw [win0_0.rect_emb_val t, (idx_facts t).1.2]
    show 0 * 2048 + k.val = k.val
    omega

theorem iblk1_apply (c : Dev nD) (t : Fin cfg0.N) (q : Fin 1408) (k : Fin 2048) :
    iblk m c 1 t (ix2 q k) = A1 m c (ix2 (col t q) k) := by
  show A1 m c ((win0_1.rect t).emb (ix2 q k)) = _
  refine congrArg _ (Shape.idx_ext₂ ?_ ?_)
  · rw [win0_1.rect_emb_val t, (idx_facts t).2.1.1]; rfl
  · rw [win0_1.rect_emb_val t, (idx_facts t).2.1.2]
    show 0 * 2048 + k.val = k.val
    omega

theorem iblk2_apply (c : Dev nD) (t : Fin cfg0.N) (r : Fin 1024) (q : Fin 1408) :
    iblk m c 2 t (ix2 r q) = A2 m c (ix2 (row t r) (col t q)) := by
  show A2 m c ((win0_2.rect t).emb (ix2 r q)) = _
  have h := (idx_facts t).2.2.2.1
  refine congrArg _ (Shape.idx_ext₂ ?_ ?_)
  · rw [win0_2.rect_emb_val t, h]; rfl
  · rw [win0_2.rect_emb_val t, h]; rfl

theorem iblk3_apply (c : Dev nD) (t : Fin cfg0.N) (r : Fin 1024) (q : Fin 1408) :
    iblk m c 3 t (ix2 r q) = A3 m c (ix2 (row t r) (col t q)) := by
  show A3 m c ((win0_3.rect t).emb (ix2 r q)) = _
  have h := (idx_facts t).2.2.2.2.1
  refine congrArg _ (Shape.idx_ext₂ ?_ ?_)
  · rw [win0_3.rect_emb_val t, h]; rfl
  · rw [win0_3.rect_emb_val t, h]; rfl

/-- A block of rows times a chunk of 768 rows of the weight's block, onto zero, at an entry. -/
theorem pay4_apply (w : Vec Ideal S768x2048 .bf16) (x : Vec Ideal S1024x2048 .bf16) (r : Fin 1024) (q : Fin 768) :
    k0_pay4 w x (ix2 r q) = ∑ k : Fin 2048, pr (x (ix2 r k)) (w (ix2 q k)) := by
  unfold k0_pay4
  refine (Ideal.matmul_transposedRhs_apply (M := 1024) (K := 2048) (N := 768) (φ₁ := .bf16) (φ₂ := .bf16) none x w _ r q).trans ?_
  exact (congrArg (· + _) Ideal.ofBits_zero_f32).trans (zero_add _)

/-- A block of rows times a chunk of 640 rows of the weight's block, onto zero, at an entry. -/
theorem pay8_apply (w : Vec Ideal S640x2048 .bf16) (x : Vec Ideal S1024x2048 .bf16) (r : Fin 1024) (q : Fin 640) :
    k0_pay8 w x (ix2 r q) = ∑ k : Fin 2048, pr (x (ix2 r k)) (w (ix2 q k)) := by
  unfold k0_pay8
  refine (Ideal.matmul_transposedRhs_apply (M := 1024) (K := 2048) (N := 640) (φ₁ := .bf16) (φ₂ := .bf16) none x w _ r q).trans ?_
  exact (congrArg (· + _) Ideal.ofBits_zero_f32).trans (zero_add _)

/-- The kernel's chain for the logistic function at bf16. -/
theorem sg_bf16 (x : EReal) : Ideal.div (Ideal.ofBits .bf16 0x3F80#16)
    (Ideal.ofBits .bf16 0x3F80#16 + Ideal.exp (Ideal.ofBits .bf16 0x0000#16 - x)) = sg x := by
  rw [Ideal.ofBits_zero_bf16, Ideal.ofBits_one_bf16, zero_sub]; rfl

theorem pay1_apply (g : Vec Ideal S1024x640 .bf16) (j : S1024x640.Idx) : k0_pay1 g j = sg (g j) := sg_bf16 (g j)
theorem pay5_apply (g : Vec Ideal S1024x768 .bf16) (j : S1024x768.Idx) : k0_pay5 g j = sg (g j) := sg_bf16 (g j)

theorem pay2_apply (d : Vec Ideal S1024x640 .f32) (g u : Vec Ideal S1024x640 .bf16) (j : S1024x640.Idx) :
    k0_pay2 d g u j = gateK (d j) (u j) (g j) := by
  unfold gateK
  rw [← pay1_apply g j, ← Ideal.ofBits_one_bf16]
  rfl
theorem pay3_apply (d : Vec Ideal S1024x640 .f32) (g : Vec Ideal S1024x640 .bf16) (j : S1024x640.Idx) :
    k0_pay3 d g j = pr (d j) (pr (g j) (sg (g j))) := by
  rw [← pay1_apply g j]
  rfl
theorem pay6_apply (w : Vec Ideal S768x2048 .bf16) (x : Vec Ideal S1024x2048 .bf16) (g u : Vec Ideal S1024x768 .bf16) (j : S1024x768.Idx) :
    k0_pay6 w x g u j = gateK (k0_pay4 w x j) (u j) (g j) := by
  unfold gateK
  rw [← pay5_apply g j, ← Ideal.ofBits_one_bf16]
  rfl
theorem pay7_apply (w : Vec Ideal S768x2048 .bf16) (x : Vec Ideal S1024x2048 .bf16) (g : Vec Ideal S1024x768 .bf16) (j : S1024x768.Idx) :
    k0_pay7 w x g j = pr (k0_pay4 w x j) (pr (g j) (sg (g j))) := by
  rw [← pay5_apply g j]
  rfl

/-- One point's block of the gated product's gradient, and its blocks of the two results, entry by entry. -/
def PD (x0 : Vec Ideal S1024x2048 .bf16) (x1 : Vec Ideal S1408x2048 .bf16) : S1024x1408.Idx → EReal :=
  fun y => ∑ k : Fin 2048, pr (x0 (ix2 (y 0) k)) (x1 (ix2 (y 1) k))
def P4 (x0 : Vec Ideal S1024x2048 .bf16) (x1 : Vec Ideal S1408x2048 .bf16) (x2 x3 : Vec Ideal S1024x1408 .bf16) : Vec Ideal S1024x1408 .bf16 :=
  fun y => gateK (PD x0 x1 y) (x3 y) (x2 y)
def P5 (x0 : Vec Ideal S1024x2048 .bf16) (x1 : Vec Ideal S1408x2048 .bf16) (x2 : Vec Ideal S1024x1408 .bf16) : Vec Ideal S1024x1408 .bf16 :=
  fun y => pr (PD x0 x1 y) (pr (x2 y) (sg (x2 y)))

/-- The columns of a chunk inside the block. -/
def lo (q : Fin 768) : Fin 1408 := ⟨q.val, by omega⟩
def hi (q : Fin 640) : Fin 1408 := ⟨768 + q.val, by omega⟩

theorem ldx (x0 : Vec Ideal S1024x2048 .bf16) (r : Fin 1024) (k : Fin 2048) :
    View.ld x0 (Rect.unit (s := S1024x2048) ![0, 0] ![1024, 2048] inb_S1024x2048_S1024x2048_0_0) (ix2 r k) = x0 (ix2 r k) :=
  ld2 0 0 x0 _ r k r k (Nat.zero_add _).symm (Nat.zero_add _).symm

/-- A chunk's sum over the loaded blocks is the block's product at the chunk's column. -/
theorem sum_hi (x0 : Vec Ideal S1024x2048 .bf16) (x1 : Vec Ideal S1408x2048 .bf16) (r : Fin 1024) (q : Fin 640) :
    k0_pay8 (View.ld x1 (Rect.unit (s := S1408x2048) ![768, 0] ![640, 2048] inb_S1408x2048_S640x2048_768_0))
      (View.ld x0 (Rect.unit (s := S1024x2048) ![0, 0] ![1024, 2048] inb_S1024x2048_S1024x2048_0_0)) (ix2 r q) = PD x0 x1 (ix2 r (hi q)) :=
  (pay8_apply _ _ r q).trans (Finset.sum_congr rfl fun k _ => congrArg₂ pr (ldx x0 r k) (ld2 768 0 x1 _ q k (hi q) k rfl (Nat.zero_add _).symm))
theorem sum_lo (x0 : Vec Ideal S1024x2048 .bf16) (x1 : Vec Ideal S1408x2048 .bf16) (r : Fin 1024) (q : Fin 768) :
    k0_pay4 (View.ld x1 (Rect.unit (s := S1408x2048) ![0, 0] ![768, 2048] inb_S1408x2048_S768x2048_0_0))
      (View.ld x0 (Rect.unit (s := S1024x2048) ![0, 0] ![1024, 2048] inb_S1024x2048_S1024x2048_0_0)) (ix2 r q) = PD x0 x1 (ix2 r (lo q)) :=
  (pay4_apply _ _ r q).trans (Finset.sum_congr rfl fun k _ => congrArg₂ pr (ldx x0 r k) (ld2 0 0 x1 _ q k (lo q) k (Nat.zero_add _).symm (Nat.zero_add _).symm))

/-- A chunk of a saved product's block. -/
theorem val_hi (x : Vec Ideal S1024x1408 .bf16) (r : Fin 1024) (q : Fin 640) :
    View.ld x (Rect.unit (s := S1024x1408) ![0, 768] ![1024, 640] inb_S1024x1408_S1024x640_0_768) (ix2 r q) = x (ix2 r (hi q)) :=
  ld2 0 768 x _ r q r (hi q) (Nat.zero_add _).symm rfl
theorem val_lo (x : Vec Ideal S1024x1408 .bf16) (r : Fin 1024) (q : Fin 768) :
    View.ld x (Rect.unit (s := S1024x1408) ![0, 0] ![1024, 768] inb_S1024x1408_S1024x768_0_0) (ix2 r q) = x (ix2 r (lo q)) :=
  ld2 0 0 x _ r q r (lo q) (Nat.zero_add _).symm (Nat.zero_add _).symm

/-- Where the two chunks lie in the block. -/
theorem at_hi (r : Fin 1024) (q : Fin 640) : (Rect.unit (s := S1024x1408) ![0, 768] ![1024, 640] inb_S1024x1408_S1024x640_0_768).emb (ix2 r q) = ix2 r (hi q) :=
  emb2 0 768 inb_S1024x1408_S1024x640_0_768 r q r (hi q) (Nat.zero_add _).symm rfl
theorem at_lo (r : Fin 1024) (q : Fin 768) : (Rect.unit (s := S1024x1408) ![0, 0] ![1024, 768] inb_S1024x1408_S1024x768_0_0).emb (ix2 r q) = ix2 r (lo q) :=
  emb2 0 0 inb_S1024x1408_S1024x768_0_0 r q r (lo q) (Nat.zero_add _).symm (Nat.zero_add _).symm

theorem gateK_congr {d d' u u' g g' : EReal} (hd : d = d') (hu : u = u') (hg : g = g') : gateK d u g = gateK d' u' g' := by
  rw [hd, hu, hg]
theorem up_congr {d d' g g' : EReal} (hd : d = d') (hg : g = g') : pr d (pr g (sg g)) = pr d' (pr g' (sg g')) := by rw [hd, hg]

/-- The two chunks the body stores make up the block of result 1. -/
theorem out_A4 (c : Dev nD) (i : grid0.Coords) (a3 : Memref sig .tc .vmem S1024x2048 .bf16) (h3 : a3.IsWhole)
    (a4 : Memref sig .tc .vmem S1408x2048 .bf16) (h4 : a4.IsWhole) (a5 : Memref sig .tc .vmem S1024x1408 .bf16) (h5 : a5.IsWhole)
    (a6 : Memref sig .tc .vmem S1024x1408 .bf16) (h6 : a6.IsWhole) (a7 : Memref sig .tc .vmem S1024x1408 .bf16) (h7 : a7.IsWhole)
    (a8 : Memref sig .tc .vmem S1024x1408 .bf16) (h8 : a8.IsWhole) (x0 : Vec Ideal S1024x2048 .bf16) (x1 : Vec Ideal S1408x2048 .bf16)
    (x2 x3 : Vec Ideal S1024x1408 .bf16) (y : S1024x1408.Idx) :
    out0_A_4 c i a3 h3 a4 h4 a5 h5 a6 h6 a7 h7 a8 h8 x0 x1 x2 x3 y = P4 x0 x1 x2 x3 y := by
  refine View.read_writes_apply_of_pieces _ _ (P4 x0 x1 x2 x3) _ (View.PiecesOf.mem ?_) y
    (cover0_A_4 c i a3 h3 a4 h4 a5 h5 a6 h6 a7 h7 a8 h8 x0 x1 x2 x3 y)
  unfold kernelRun0_A
  dsimp only
  simp only [kernelRun0_A.sl.r, View.readAt_eq_ld, h3.read_unread, h4.read_unread, h5.read_unread, h6.read_unread]
  refine ⟨fun z => ?_, fun z => ?_, trivial⟩
  · obtain ⟨r, q, rfl⟩ : ∃ (r : Fin 1024) (q : Fin 640), z = ix2 r q := ⟨z 0, z 1, eq_ix2 z⟩
    exact (pay2_apply _ _ _ _).trans ((gateK_congr (sum_hi x0 x1 r q) (val_hi x3 r q) (val_hi x2 r q)).trans (congrArg (P4 x0 x1 x2 x3) (at_hi r q)).symm)
  · obtain ⟨r, q, rfl⟩ : ∃ (r : Fin 1024) (q : Fin 768), z = ix2 r q := ⟨z 0, z 1, eq_ix2 z⟩
    exact (pay6_apply _ _ _ _ _).trans ((gateK_congr (sum_lo x0 x1 r q) (val_lo x3 r q) (val_lo x2 r q)).trans (congrArg (P4 x0 x1 x2 x3) (at_lo r q)).symm)

/-- The two chunks the body stores make up the block of result 2. -/
theorem out_A5 (c : Dev nD) (i : grid0.Coords) (a3 : Memref sig .tc .vmem S1024x2048 .bf16) (h3 : a3.IsWhole)
    (a4 : Memref sig .tc .vmem S1408x2048 .bf16) (h4 : a4.IsWhole) (a5 : Memref sig .tc .vmem S1024x1408 .bf16) (h5 : a5.IsWhole)
    (a6 : Memref sig .tc .vmem S1024x1408 .bf16) (h6 : a6.IsWhole) (a7 : Memref sig .tc .vmem S1024x1408 .bf16) (h7 : a7.IsWhole)
    (a8 : Memref sig .tc .vmem S1024x1408 .bf16) (h8 : a8.IsWhole) (x0 : Vec Ideal S1024x2048 .bf16) (x1 : Vec Ideal S1408x2048 .bf16)
    (x2 x3 : Vec Ideal S1024x1408 .bf16) (y : S1024x1408.Idx) :
    out0_A_5 c i a3 h3 a4 h4 a5 h5 a6 h6 a7 h7 a8 h8 x0 x1 x2 x3 y = P5 x0 x1 x2 y := by
  refine View.read_writes_apply_of_pieces _ _ (P5 x0 x1 x2) _ (View.PiecesOf.mem ?_) y
    (cover0_A_5 c i a3 h3 a4 h4 a5 h5 a6 h6 a7 h7 a8 h8 x0 x1 x2 x3 y)
  unfold kernelRun0_A
  dsimp only
  simp only [kernelRun0_A.sl.r, View.readAt_eq_ld, h3.read_unread, h4.read_unread, h5.read_unread, h6.read_unread]
  refine ⟨fun z => ?_, fun z => ?_, trivial⟩
  · obtain ⟨r, q, rfl⟩ : ∃ (r : Fin 1024) (q : Fin 640), z = ix2 r q := ⟨z 0, z 1, eq_ix2 z⟩
    exact (pay3_apply _ _ _).trans ((up_congr (sum_hi x0 x1 r q) (val_hi x2 r q)).trans (congrArg (P5 x0 x1 x2) (at_hi r q)).symm)
  · obtain ⟨r, q, rfl⟩ : ∃ (r : Fin 1024) (q : Fin 768), z = ix2 r q := ⟨z 0, z 1, eq_ix2 z⟩
    exact (pay7_apply _ _ _ _).trans ((up_congr (sum_lo x0 x1 r q) (val_lo x2 r q)).trans (congrArg (P5 x0 x1 x2) (at_lo r q)).symm)

section Ref
open Cert.Reference2Ideal.Read
variable (x0 : Vec Ideal S4096x2048 .bf16) (x1 : Vec Ideal S5632x2048 .bf16) (x2 x3 : Vec Ideal S4096x5632 .bf16) (r : Fin 4096) (q : Fin 5632)

/-- The gated product's gradient at an entry. -/
def dAt : EReal := ∑ k : Fin 2048, pr (x0 (ix2 r k)) (x1 (ix2 q k))

theorem ref_d : val_main_v7 (F := Ideal) x0 x1 (ix2 r q) = dAt x0 x1 r q := by
  refine (val_main_v7_apply x0 x1 _).trans (Finset.sum_congr rfl fun k _ => ?_)
  rw [val_main_v0_apply, val_main_v1_apply]
  show pr (x0 _) (x1 _) = _
  exact congrArg₂ pr (congrArg x0 (Shape.idx_ext₂ rfl rfl)) (congrArg x1 (Shape.idx_ext₂ rfl rfl))

theorem ref_sg : val_main_v4_2 (F := Ideal) x2 (ix2 r q) = sg (x2 (ix2 r q)) := by
  rw [val_main_v4_2_apply, val_main_call0_v4_apply, val_main_call0_cst_0_apply, val_main_call0_v3_apply, val_main_call0_v2_apply,
    val_main_call0_cst_apply, val_main_call0_v1_apply, val_main_call0_v0_apply, val_main_v2_apply]
  exact sg_reference _

theorem ref_gate : val_main_v10 (F := Ideal) x0 x1 x2 x3 (ix2 r q) = gateR (dAt x0 x1 r q) (x3 (ix2 r q)) (x2 (ix2 r q)) := by
  rw [val_main_v10_apply, val_main_call1_v1_apply, val_main_call1_v2_apply, val_main_call1_v0_apply, val_main_v4_1_apply,
    val_main_call0_v7_apply, val_main_call0_v6_apply, val_main_call0_cst_1_apply, val_main_v9_apply, ref_d, ref_sg, val_main_v3_apply,
    val_main_v2_apply]
  unfold gateR
  rw [← Ideal.ofBits_one_f32]
  rfl

theorem ref_up : val_main_v8 (F := Ideal) x0 x1 x2 (ix2 r q) = upR (dAt x0 x1 r q) (x2 (ix2 r q)) := by
  rw [val_main_v8_apply, val_main_v4_0_apply, ref_d, ref_sg, val_main_v2_apply]
  rfl

end Ref

/-- The reference's two results on the arguments of device `c`. -/
abbrev R4 (c : Dev nD) : Vec Ideal S4096x5632 .bf16 := val_main_v11 (F := Ideal) (A0 m c) (A1 m c) (A2 m c) (A3 m c)
abbrev R5 (c : Dev nD) : Vec Ideal S4096x5632 .bf16 := val_main_v12 (F := Ideal) (A0 m c) (A1 m c) (A2 m c)

/-- Every argument's every entry is a real number. -/
def AllReal (c : Dev nD) : Prop :=
  (∀ i, Real' (A0 m c i)) ∧ (∀ i, Real' (A1 m c i)) ∧ (∀ i, Real' (A2 m c i)) ∧ ∀ i, Real' (A3 m c i)

theorem emb_eq4 (t : Fin cfg0.N) (r : Fin 1024) (q : Fin 1408) : (win0_4.rect t).emb (ix2 r q) = ix2 (row t r) (col t q) :=
  Shape.idx_ext₂ (win0_4.rect_emb_val t _ 0) (win0_4.rect_emb_val t _ 1)
theorem emb_eq5 (t : Fin cfg0.N) (r : Fin 1024) (q : Fin 1408) : (win0_5.rect t).emb (ix2 r q) = ix2 (row t r) (col t q) := by
  have h := (idx_facts t).2.2.2.2.2
  refine Shape.idx_ext₂ ?_ ?_
  · rw [win0_5.rect_emb_val t, h]; rfl
  · rw [win0_5.rect_emb_val t, h]; rfl

theorem product_eq (c : Dev nD) (t : Fin cfg0.N) (r : Fin 1024) (q : Fin 1408) :
    PD (iblk m c 0 t) (iblk m c 1 t) (ix2 r q) = dAt (A0 m c) (A1 m c) (row t r) (col t q) := by
  show (∑ k : Fin 2048, pr (iblk m c 0 t (ix2 r k)) (iblk m c 1 t (ix2 q k))) = _
  exact Finset.sum_congr rfl fun k _ => by rw [iblk0_apply, iblk1_apply]

/-- Each point writes back its block of the reference's gate gradient. -/
theorem flushed4_eq (c : Dev nD) (h : AllReal m c) (t : Fin cfg0.N) :
    (dats m 0 c).flushed 4 t = ((cfg0.win 4).blk t).view.read (Elt Ideal) (R4 m c) := by
  rw [Value.flushed4_A]
  funext j
  obtain ⟨r, q, rfl⟩ : ∃ (r : Fin 1024) (q : Fin 1408), j = ix2 r q := ⟨j 0, j 1, eq_ix2 j⟩
  refine (out_A4 c _ _ _ _ _ _ _ _ _ _ _ _ _ _ _ _ _ (ix2 r q)).trans ?_
  show gateK (PD (iblk m c 0 t) (iblk m c 1 t) (ix2 r q)) (iblk m c 3 t (ix2 r q)) (iblk m c 2 t (ix2 r q)) = R4 m c ((win0_4.rect t).emb (ix2 r q))
  rw [emb_eq4, product_eq, iblk2_apply, iblk3_apply]
  refine (gate_eq (real_sum _ fun k => real_pr (h.1 _) (h.2.1 _)) (h.2.2.2 _) (h.2.2.1 _)).trans ?_
  exact (ref_gate _ _ _ _ _ _).symm

/-- Each point writes back its block of the reference's up gradient. -/
theorem flushed5_eq (c : Dev nD) (t : Fin cfg0.N) :
    (dats m 0 c).flushed 5 t = ((cfg0.win 5).blk t).view.read (Elt Ideal) (R5 m c) := by
  rw [Value.flushed5_A]
  funext j
  obtain ⟨r, q, rfl⟩ : ∃ (r : Fin 1024) (q : Fin 1408), j = ix2 r q := ⟨j 0, j 1, eq_ix2 j⟩
  refine (out_A5 c _ _ _ _ _ _ _ _ _ _ _ _ _ _ _ _ _ (ix2 r q)).trans ?_
  show pr (PD (iblk m c 0 t) (iblk m c 1 t) (ix2 r q)) (pr (iblk m c 2 t (ix2 r q)) (sg (iblk m c 2 t (ix2 r q)))) = R5 m c ((win0_5.rect t).emb (ix2 r q))
  rw [emb_eq5, product_eq, iblk2_apply]
  exact (pr_comm _ _).trans (ref_up _ _ _ _ _).symm

/-- The kernel's result array 1 is the reference's. -/
theorem final4 (c : Dev nD) (h : AllReal m c) : (dats m 0 c).arrAt 4 cfg0.N = R4 m c :=
  (dats m 0 c).arrAt_eq_of_cover 4 (R4 m c) (fun t _ => flushed4_eq m c h t) (Pipeline.Window.Covers.cover _ (by decide +kernel) (Memref.isWhole_whole _))

/-- The kernel's result array 2 is the reference's. -/
theorem final5 (c : Dev nD) : (dats m 0 c).arrAt 5 cfg0.N = R5 m c :=
  (dats m 0 c).arrAt_eq_of_cover 5 (R5 m c) (fun t _ => flushed5_eq m c t) (Pipeline.Window.Covers.cover _ (by decide +kernel) (Memref.isWhole_whole _))

end Cert.Kernel2Ideal.DAct

end
-- ==== Proof.DActClaim.lean ====
/-
  The value claim about the gradient of the SwiGLU gate.
-/
module

public import proofs.«01_k».proof.Defs
public import proofs.«01_k».proof.Proof.Gen.Pre_finite2
public import proofs.«01_k».proof.Proof.DAct

@[expose] public section

set_option maxRecDepth 16384

noncomputable section

open Idealize.ShloMosaic Idealize.ShloMosaic.TcCoe Idealize.SL.Sem

namespace Cert.DActClaim

open Cert.Kernel2Ideal.DAct Cert.Finite

/-- The stated precondition says that every entry of every argument is a real number. -/
theorem allReal (m : (ℓ : Loc Cert.Kernel2Ideal.nD Cert.Kernel2Ideal.τ Cert.Kernel2Ideal.sig) → Buf (Elt Ideal) ℓ)
    (h : Cert.Pre_Kernel2Ideal_finite2 m) (c : Dev Cert.Kernel2Ideal.nD) : AllReal m c := by
  obtain ⟨h0, h1, h2, h3⟩ := h c
  exact ⟨fun i => real_of_mask (congrFun h0 i), fun i => real_of_mask (congrFun h1 i), fun i => real_of_mask (congrFun h2 i),
    fun i => real_of_mask (congrFun h3 i)⟩

/-- On real arguments the kernel and the reference end with equal results: the gradients in the gate and in the up product. -/
theorem algebraic : Cert.algebraic_Kernel2Ideal_Reference2Ideal_pre_finite2 := by
  intro m ρ m' ρ' hpre hagree
  refine ⟨R4 m, R5 m, ?_, ?_⟩
  · refine (θ_run _ _ _).mono (fun r h c => ?_) (Cert.Kernel2Ideal.Value.run_blocks (F := Ideal) m ρ)
    obtain ⟨h0, h1, hargs⟩ := h c
    exact ⟨h0.trans (final4 m c (allReal m hpre c)), h1.trans (final5 m c), hargs⟩
  · refine (θ_run _ _ _).mono (fun r h c => ?_) (Cert.Reference2Ideal.Value.run (F := Ideal) m' ρ')
    obtain ⟨e0, e1, e2, e3⟩ := hagree c
    obtain ⟨h0, h1, hargs⟩ := h c
    rw [Cert.Reference2Ideal.Read.val_main_v11_eq, e0, e1, e2, e3] at h0
    rw [Cert.Reference2Ideal.Read.val_main_v12_eq, e0, e1, e2] at h1
    exact ⟨h0, h1, hargs⟩

end Cert.DActClaim

end
-- ==== Proof.ConvBwdStep.lean ====
/-
  The gradient of the short gated convolution, one strip of 256 rows: what the kernel computes there, as sums of
  products of entries of the staged columns. The strip's neighbours are read through rotations and selections; here
  they become plain shifts of the row, with zeros before the first row and after the last.
-/
module

public import proofs.«01_k».proof.Proof.Gen.Kernel3Ideal.Value
public import Idealize.ShloMosaic.Lib.KernelVsHost
public import Idealize.ShloMosaic.Lib.IdealHost
public import Idealize.ShloMosaic.Lib.Pipeline.ValueKit.Geometry
public import Idealize.ShloMosaic.Lib.Tactic

@[expose] public section

set_option maxRecDepth 16384

noncomputable section

namespace Cert.Kernel3Ideal.Conv

open Cert.Kernel3Ideal Cert.Kernel3Ideal.Gen
open Idealize.ShloMosaic Idealize.ShloMosaic.TcCoe Idealize.SL.Sem Idealize.ShloMosaic.ValueIdx

/-- The product of two columns, preceded by two rows of zeros. -/
def up (X Y : S4096x128.Idx → EReal) (q : Fin 128) (n : ℕ) : EReal :=
  if h : 2 ≤ n ∧ n < 4098 then X (ix2 (⟨n - 2, by omega⟩ : Fin 4096) q) * Y (ix2 (⟨n - 2, by omega⟩ : Fin 4096) q) else 0

/-- The product of two columns, followed by zeros. -/
def dn (X Y : S4096x128.Idx → EReal) (q : Fin 128) (n : ℕ) : EReal :=
  if h : n < 4096 then X (ix2 (⟨n, h⟩ : Fin 4096) q) * Y (ix2 (⟨n, h⟩ : Fin 4096) q) else 0

/-- The strip's row numbers. -/
abbrev rid : IVec S256x128 32 := iota .tc S256x128 32 [0] iota_S256x128_d0_w32

theorem trips_lt (k : Fin k0_t1_loop.trips) : k.val < 16 := Nat.lt_of_lt_of_le k.isLt k0_t1_abs.2.1

/-- A rotation down by `s` rows, its first `s` rows taken from another vector. -/
theorem tap_down (s : ℕ) (sb : BitVec 32) (hsb : sb.toNat = s) (hs : s < 256)
    (hc : ∀ r : Fin 256, IntOp.cmpi .sge (BitVec.ofNat 32 r.val) sb = if s ≤ r.val then 1#1 else 0#1)
    (A B : S256x128.Idx → EReal) (r : Fin 256) (q : Fin 128) :
    select (cmpi .sge rid (broadcast S256x128 sb)) (dynamicRotate 0 sb none A rotates_S256x128_d0)
      (dynamicRotate 0 sb none B rotates_S256x128_d0) (ix2 r q)
      = if h : s ≤ r.val then A (ix2 (⟨r.val - s, by omega⟩ : Fin 256) q) else B (ix2 (⟨r.val + 256 - s, by omega⟩ : Fin 256) q) := by
  have hr := r.isLt
  show Scalar.select (IntOp.cmpi .sge (rid (ix2 r q)) sb) (dynamicRotate 0 sb none A rotates_S256x128_d0 (ix2 r q))
    (dynamicRotate 0 sb none B rotates_S256x128_d0 (ix2 r q)) = _
  rw [show rid (ix2 r q) = BitVec.ofNat 32 r.val from iota_single_apply .tc S256x128 32 0 _ (ix2 r q), hc r]
  by_cases h : s ≤ r.val
  · rw [if_pos h, dif_pos h]
    refine (show Scalar.select 1#1 _ _ = _ from if_pos rfl).trans ?_
    refine dynamicRotate_apply 0 sb A _ (ix2 r q) (ix2 (⟨r.val - s, by omega⟩ : Fin 256) q) fun b => ?_
    match b with
    | ⟨0, _⟩ => show r.val - s = (r.val + 256 - sb.toNat % 256) % 256; rw [hsb]; omega
    | ⟨1, _⟩ => rfl
  · rw [if_neg h, dif_neg h]
    refine (show Scalar.select 0#1 _ _ = _ from if_neg (by decide)).trans ?_
    refine dynamicRotate_apply 0 sb B _ (ix2 r q) (ix2 (⟨r.val + 256 - s, by omega⟩ : Fin 256) q) fun b => ?_
    match b with
    | ⟨0, _⟩ => show r.val + 256 - s = (r.val + 256 - sb.toNat % 256) % 256; rw [hsb]; omega
    | ⟨1, _⟩ => rfl

/-- A rotation up by `s` rows, its last `s` rows taken from another vector. -/
theorem tap_up (s : ℕ) (sb : BitVec 32) (hsb : sb.toNat = 256 - s) (hs : s < 256) (hs0 : 0 < s)
    (hc : ∀ r : Fin 256, IntOp.cmpi .slt (BitVec.ofNat 32 r.val) sb = if r.val < 256 - s then 1#1 else 0#1)
    (A B : S256x128.Idx → EReal) (r : Fin 256) (q : Fin 128) :
    select (cmpi .slt rid (broadcast S256x128 sb)) (dynamicRotate 0 sb none A rotates_S256x128_d0)
      (dynamicRotate 0 sb none B rotates_S256x128_d0) (ix2 r q)
      = if h : r.val < 256 - s then A (ix2 (⟨r.val + s, by omega⟩ : Fin 256) q)
        else B (ix2 (⟨r.val + s - 256, by omega⟩ : Fin 256) q) := by
  have hr := r.isLt
  show Scalar.select (IntOp.cmpi .slt (rid (ix2 r q)) sb) (dynamicRotate 0 sb none A rotates_S256x128_d0 (ix2 r q))
    (dynamicRotate 0 sb none B rotates_S256x128_d0 (ix2 r q)) = _
  rw [show rid (ix2 r q) = BitVec.ofNat 32 r.val from iota_single_apply .tc S256x128 32 0 _ (ix2 r q), hc r]
  by_cases h : r.val < 256 - s
  · rw [if_pos h, dif_pos h]
    refine (show Scalar.select 1#1 _ _ = _ from if_pos rfl).trans ?_
    refine dynamicRotate_apply 0 sb A _ (ix2 r q) (ix2 (⟨r.val + s, by omega⟩ : Fin 256) q) fun b => ?_
    match b with
    | ⟨0, _⟩ => show r.val + s = (r.val + 256 - sb.toNat % 256) % 256; rw [hsb]; omega
    | ⟨1, _⟩ => rfl
  · rw [if_neg h, dif_neg h]
    refine (show Scalar.select 0#1 _ _ = _ from if_neg (by decide)).trans ?_
    refine dynamicRotate_apply 0 sb B _ (ix2 r q) (ix2 (⟨r.val + s - 256, by omega⟩ : Fin 256) q) fun b => ?_
    match b with
    | ⟨0, _⟩ => show r.val + s - 256 = (r.val + 256 - sb.toNat % 256) % 256; rw [hsb]; omega
    | ⟨1, _⟩ => rfl

/-! ## The strips a trip loads -/

variable (X Y : S4096x128.Idx → EReal) (k : Fin k0_t1_loop.trips) (r : Fin 256) (q : Fin 128)

/-- The trip's own strip, the strip before it and the strip after it. -/
abbrev own : S256x128.Idx → EReal := View.ld (Val := Elt Ideal) (e' := .f32) X (Rect.unit (s := S4096x128) (k0_off1 k) S256x128.size (k0_off1_inb k))
abbrev before : S256x128.Idx → EReal := View.ld (Val := Elt Ideal) (e' := .f32) X (Rect.unit (s := S4096x128) (k0_off2 k) S256x128.size (k0_off2_inb k))
abbrev after : S256x128.Idx → EReal := View.ld (Val := Elt Ideal) (e' := .f32) X (Rect.unit (s := S4096x128) (k0_off3 k) S256x128.size (k0_off3_inb k))

theorem off2_eq : ∀ k : Fin k0_t1_loop.trips, k0_off2 k = ![256 * (k.val - 1), 0] := by decide +kernel

theorem own_apply : own X k (ix2 r q) = X (ix2 (⟨256 * k.val + r.val, by have := trips_lt k; omega⟩ : Fin 4096) q) := by
  refine congrArg X (Shape.idx_ext₂ ?_ ?_)
  · show k0_off1 k 0 + 1 * r.val = 256 * k.val + r.val; rw [k0_off1_eq, one_mul]; rfl
  · show k0_off1 k 1 + 1 * q.val = q.val; rw [k0_off1_eq, one_mul]; exact Nat.zero_add _

theorem before_apply : before X k (ix2 r q) = X (ix2 (⟨256 * (k.val - 1) + r.val, by have := trips_lt k; omega⟩ : Fin 4096) q) := by
  refine congrArg X (Shape.idx_ext₂ ?_ ?_)
  · show k0_off2 k 0 + 1 * r.val = 256 * (k.val - 1) + r.val; rw [off2_eq, one_mul]; rfl
  · show k0_off2 k 1 + 1 * q.val = q.val; rw [off2_eq, one_mul]; exact Nat.zero_add _

theorem after_apply : after X k (ix2 r q) = X (ix2 (⟨256 * min (k.val + 1) 15 + r.val, by have := trips_lt k; omega⟩ : Fin 4096) q) := by
  refine congrArg X (Shape.idx_ext₂ ?_ ?_)
  · show k0_off3 k 0 + 1 * r.val = 256 * min (k.val + 1) 15 + r.val; rw [k0_off3_eq, one_mul]; rfl
  · show k0_off3 k 1 + 1 * q.val = q.val; rw [k0_off3_eq, one_mul]; exact Nat.zero_add _

theorem up_of (n : ℕ) (i : Fin 4096) (h : n = i.val + 2) : up X Y q n = X (ix2 i q) * Y (ix2 i q) := by
  subst h
  have hi := i.isLt
  unfold up; rw [dif_pos ⟨by omega, by omega⟩]; rfl

theorem up_zero (n : ℕ) (h : n < 2) : up X Y q n = 0 := by
  unfold up; rw [dif_neg (by omega)]

theorem dn_of (n : ℕ) (i : Fin 4096) (h : n = i.val) : dn X Y q n = X (ix2 i q) * Y (ix2 i q) := by
  subst h; unfold dn; rw [dif_pos i.isLt]

theorem dn_zero (n : ℕ) (h : 4096 ≤ n) : dn X Y q n = 0 := by
  unfold dn; rw [dif_neg (by omega)]

/-! ## What a trip forms -/

theorem pay5_apply : k0_pay5 (F := Ideal) (own X k) (own Y k) (ix2 r q) = up X Y q (256 * k.val + r.val + 2) := by
  rw [up_of X Y q _ (⟨256 * k.val + r.val, by have := trips_lt k; omega⟩ : Fin 4096) rfl, ← own_apply X, ← own_apply Y]; rfl

theorem isFirst : ∀ k : Fin k0_t1_loop.trips, Scalar.cmpi .sgt (Scf.iv 0#32 1#32 k) 0#32 = if 0 < k.val then 1#1 else 0#1 := by decide +kernel
theorem isLast : ∀ k : Fin k0_t1_loop.trips, Scalar.cmpi .slt (Scf.iv 0#32 1#32 k) 15#32 = if k.val < 15 then 1#1 else 0#1 := by decide +kernel

theorem pay6_apply : k0_pay6 (F := Ideal) 0#32 1#32 k (before X k) (before Y k) (ix2 r q)
    = if 0 < k.val then up X Y q (256 * k.val + r.val - 254) else 0 := by
  have hk := trips_lt k
  show Scalar.select (Scalar.cmpi .sgt (Scf.iv 0#32 1#32 k) 0#32) (mulf (F := Ideal) (φ := .f32) (before X k) (before Y k))
    (broadcast S256x128 (Scalar.ofBits (F := Ideal) .f32 0x00000000#32)) (ix2 r q) = _
  rw [isFirst k]
  by_cases h : 0 < k.val
  · rw [if_pos h, if_pos h]
    show before X k (ix2 r q) * before Y k (ix2 r q) = _
    rw [before_apply, before_apply]
    exact (up_of X Y q _ (⟨256 * (k.val - 1) + r.val, by omega⟩ : Fin 4096) (by show _ = 256 * (k.val - 1) + r.val + 2; omega)).symm
  · rw [if_neg h, if_neg h]
    exact Ideal.ofBits_zero_f32

theorem pay7_apply : k0_pay7 (F := Ideal) rid 0#32 1#32 k (own X k) (own Y k) (before X k) (before Y k) (ix2 r q)
    = up X Y q (256 * k.val + r.val + 1) := by
  have hk := trips_lt k
  have hr := r.isLt
  refine (tap_down 1 1#32 rfl (by decide) (by decide +kernel) (k0_pay5 (F := Ideal) (own X k) (own Y k))
    (k0_pay6 (F := Ideal) 0#32 1#32 k (before X k) (before Y k)) r q).trans ?_
  by_cases h : 1 ≤ r.val
  · rw [dif_pos h, pay5_apply]; congr 1; show 256 * k.val + (r.val - 1) + 2 = _; omega
  · rw [dif_neg h, pay6_apply]
    by_cases h0 : 0 < k.val
    · rw [if_pos h0]; exact congrArg (up X Y q) (by show 256 * k.val + (r.val + 256 - 1) - 254 = _; omega)
    · rw [if_neg h0]; exact (up_zero _ _ _ _ (by omega)).symm

theorem pay8_apply : k0_pay8 (F := Ideal) rid 0#32 1#32 k (own X k) (own Y k) (before X k) (before Y k) (ix2 r q)
    = up X Y q (256 * k.val + r.val) := by
  have hk := trips_lt k
  have hr := r.isLt
  refine (tap_down 2 2#32 rfl (by decide) (by decide +kernel) (k0_pay5 (F := Ideal) (own X k) (own Y k))
    (k0_pay6 (F := Ideal) 0#32 1#32 k (before X k) (before Y k)) r q).trans ?_
  by_cases h : 2 ≤ r.val
  · rw [dif_pos h, pay5_apply]; congr 1; show 256 * k.val + (r.val - 2) + 2 = _; omega
  · rw [dif_neg h, pay6_apply]
    by_cases h0 : 0 < k.val
    · rw [if_pos h0]; exact congrArg (up X Y q) (by show 256 * k.val + (r.val + 256 - 2) - 254 = _; omega)
    · rw [if_neg h0]; exact (up_zero _ _ _ _ (by omega)).symm

theorem pay12_apply : k0_pay12 (F := Ideal) (own Y k) (own X k) (ix2 r q) = dn X Y q (256 * k.val + r.val) := by
  rw [dn_of X Y q _ (⟨256 * k.val + r.val, by have := trips_lt k; omega⟩ : Fin 4096) rfl, ← own_apply X, ← own_apply Y]; rfl

/-- The next strip's product, or zeros after the last strip. -/
abbrev nextProd : S256x128.Idx → EReal :=
  Scalar.select (Scalar.cmpi .slt (Scf.iv 0#32 1#32 k) 15#32) (mulf (F := Ideal) (φ := .f32) (after X k) (after Y k))
    (broadcast S256x128 (Scalar.ofBits (F := Ideal) .f32 0x00000000#32))

theorem nextProd_apply : nextProd X Y k (ix2 r q) = dn X Y q (256 * k.val + r.val + 256) := by
  have hk := trips_lt k
  unfold nextProd
  rw [isLast k]
  by_cases h : k.val < 15
  · rw [if_pos h]
    show after X k (ix2 r q) * after Y k (ix2 r q) = _
    rw [after_apply, after_apply]
    exact (dn_of X Y q _ (⟨256 * min (k.val + 1) 15 + r.val, by omega⟩ : Fin 4096) (by show _ = 256 * min (k.val + 1) 15 + r.val; omega)).symm
  · rw [if_neg h, dn_zero _ _ _ _ (by omega)]
    exact Ideal.ofBits_zero_f32

theorem next1_apply : select (cmpi .slt rid (broadcast S256x128 255#32))
      (dynamicRotate 0 255#32 none (k0_pay12 (F := Ideal) (own Y k) (own X k)) rotates_S256x128_d0)
      (dynamicRotate 0 255#32 none (nextProd X Y k) rotates_S256x128_d0) (ix2 r q) = dn X Y q (256 * k.val + r.val + 1) := by
  have hr := r.isLt
  refine (tap_up 1 255#32 rfl (by decide) (by decide) (by decide +kernel) _ _ r q).trans ?_
  by_cases h : r.val < 256 - 1
  · rw [dif_pos h, pay12_apply]; rfl
  · rw [dif_neg h, nextProd_apply]; congr 1; show 256 * k.val + (r.val + 1 - 256) + 256 = _; omega

theorem next2_apply : select (cmpi .slt rid (broadcast S256x128 254#32))
      (dynamicRotate 0 254#32 none (k0_pay12 (F := Ideal) (own Y k) (own X k)) rotates_S256x128_d0)
      (dynamicRotate 0 254#32 none (nextProd X Y k) rotates_S256x128_d0) (ix2 r q) = dn X Y q (256 * k.val + r.val + 2) := by
  have hr := r.isLt
  refine (tap_up 2 254#32 rfl (by decide) (by decide) (by decide +kernel) _ _ r q).trans ?_
  by_cases h : r.val < 256 - 2
  · rw [dif_pos h, pay12_apply]; rfl
  · rw [dif_neg h, nextProd_apply]; congr 1; show 256 * k.val + (r.val + 2 - 256) + 256 = _; omega

/-- A row spread over the strip. -/
theorem spread_apply (v : S1x128.Idx → EReal) : broadcastTo S256x128 v broadcasts_S1x128_S256x128 (ix2 r q) = v (ix2 (0 : Fin 1) q) := by
  refine broadcastTo_apply v _ (ix2 r q) (ix2 (0 : Fin 1) q) fun a => ?_
  match a with
  | ⟨0, _⟩ => rfl
  | ⟨1, _⟩ => rfl

variable (Z W : S4096x128.Idx → EReal) (v0 v1 v2 : S1x128.Idx → EReal)

/-- The gradient of the convolution's gate on a strip. -/
theorem pay11_apply : k0_pay11 (F := Ideal) v2 (k0_pay5 (F := Ideal) (own X k) (own Y k))
      (k0_pay9 (F := Ideal) v0 rid 0#32 1#32 k (own X k) (own Y k) (before X k) (before Y k))
      (k0_pay10 (F := Ideal) v1 rid 0#32 1#32 k (own X k) (own Y k) (before X k) (before Y k)) (own Z k) (ix2 r q)
    = Z (ix2 (⟨256 * k.val + r.val, by have := trips_lt k; omega⟩ : Fin 4096) q)
      * (v0 (ix2 (0 : Fin 1) q) * up X Y q (256 * k.val + r.val) + v1 (ix2 (0 : Fin 1) q) * up X Y q (256 * k.val + r.val + 1)
        + v2 (ix2 (0 : Fin 1) q) * up X Y q (256 * k.val + r.val + 2)) := by
  rw [← pay5_apply, ← pay7_apply, ← pay8_apply, ← own_apply Z, ← spread_apply r q v0, ← spread_apply r q v1, ← spread_apply r q v2]
  rfl

/-- The gradient of the convolved product on a strip. -/
theorem pay13_apply : k0_pay13 (F := Ideal) v0 v1 v2 rid (Scf.iv 0#32 1#32 k) (own Y k) (own X k) (after X k) (after Y k) (ix2 r q)
    = v2 (ix2 (0 : Fin 1) q) * dn X Y q (256 * k.val + r.val) + v1 (ix2 (0 : Fin 1) q) * dn X Y q (256 * k.val + r.val + 1)
        + v0 (ix2 (0 : Fin 1) q) * dn X Y q (256 * k.val + r.val + 2) := by
  rw [← pay12_apply, ← next1_apply, ← next2_apply, ← spread_apply r q v0, ← spread_apply r q v1, ← spread_apply r q v2]
  rfl

/-- A strip's contribution to one row of the taps' gradient: the products summed over the strip's rows. -/
theorem rowSum_apply (v : S1x128.Idx → EReal) (A B : S256x128.Idx → EReal) :
    addf (F := Ideal) (φ := .f32) v (shapeCast S1x128 (multiReduction (F := Ideal) (φ := .f32) .add [0] S128 (mulf (F := Ideal) (φ := .f32) A B) 0x00000000#32 reduces_S256x128_S128 (.inl rfl) rfl)
        shapeCasts_S128_S1x128) (ix2 (0 : Fin 1) q)
      = v (ix2 (0 : Fin 1) q) + ∑ r : Fin 256, A (ix2 r q) * B (ix2 r q) := by
  refine congrArg (v (ix2 (0 : Fin 1) q) + ·) ?_
  refine (shapeCast_apply _ shapeCasts_S128_S1x128 (ix2 (0 : Fin 1) q) (ix1 q) (by
    rw [Shape.rowMajor_val_two, Shape.rowMajor_val_one]; show q.val = 0 * 128 + q.val; omega)).trans ?_
  refine (Ideal.multiReduction_add_single _ _ reduces_S256x128_S128 _ _ (ix1 q)).trans ?_
  refine Finset.sum_congr rfl fun r _ => ?_
  have e : reduces_S256x128_S128.lift (ix1 q) r = ix2 r q := Shape.idx_ext₂ rfl rfl
  rw [e]; rfl

end Cert.Kernel3Ideal.Conv

end
-- ==== Proof.ConvBwdBody.lean ====
/-
  The gradient of the short gated convolution, one column block: what the sixteen strips leave in the staging buffers,
  as functions of the staged columns, and the taps' gradient as sums over all rows.
-/
module

public import proofs.«01_k».proof.Proof.ConvBwdStep

@[expose] public section

set_option maxRecDepth 16384

noncomputable section

namespace Cert.Kernel3Ideal.Conv

open Cert.Kernel3Ideal Cert.Kernel3Ideal.Gen
open Idealize.ShloMosaic Idealize.ShloMosaic.TcCoe Idealize.ShloMosaic.Tactic Idealize.SL.Sem Idealize.ShloMosaic.ValueIdx

variable (𝒱 : Variants) (c : Dev nD) (bd : Option 𝒱.V) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S3x128 .f32) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S3x128 .f32) (harg9 : arg9.IsWhole)
  (x0 x1 x2 x3 : Vec Ideal S4096x128 .f32) (x4 : Vec Ideal S3x128 .f32)
  (v0 v1 v2 : Vec Ideal S1x128 .f32) (k : Fin k0_t1_loop.trips)
  (acc : FVec Ideal S1x128 .f32 × FVec Ideal S1x128 .f32 × FVec Ideal S1x128 .f32)

/-- The gradient of the gate: the output's gradient times the convolution. -/
def G5 : Vec Ideal S4096x128 .bf16 := fun y =>
  (x0 y : EReal) * (v0 (ix2 (0 : Fin 1) (y 1)) * up x2 x3 (y 1) (y 0).val + v1 (ix2 (0 : Fin 1) (y 1)) * up x2 x3 (y 1) ((y 0).val + 1)
    + v2 (ix2 (0 : Fin 1) (y 1)) * up x2 x3 (y 1) ((y 0).val + 2))

/-- The gradient of the convolved product. -/
def du : S4096x128.Idx → EReal := fun y =>
  v2 (ix2 (0 : Fin 1) (y 1)) * dn x0 x1 (y 1) (y 0).val + v1 (ix2 (0 : Fin 1) (y 1)) * dn x0 x1 (y 1) ((y 0).val + 1)
    + v0 (ix2 (0 : Fin 1) (y 1)) * dn x0 x1 (y 1) ((y 0).val + 2)

/-- The gradients of the product's two factors. -/
def G6 : Vec Ideal S4096x128 .bf16 := fun y => du x0 x1 v0 v1 v2 y * (x3 y : EReal)
def G7 : Vec Ideal S4096x128 .bf16 := fun y => du x0 x1 v0 v1 v2 y * (x2 y : EReal)

/-- What one trip stores through each output and what it carries on, as the printed operations. -/
theorem trip5 : (trip_k0_t1 (F := Ideal) 𝒱 c bd i arg1 harg1 arg2 harg2 arg3 harg3 arg4 harg4 arg5 harg5 arg6 harg6 arg7 harg7 arg8 harg8 arg9 harg9 v0 v1 v2 rid (harg1.unread x0) (harg2.unread x1) (harg3.unread x2) (harg4.unread x3) k).2.1 acc
    = [⟨Rect.unit (s := S4096x128) (k0_off1 k) S256x128.size (k0_off1_inb k), k0_pay11 v2 (k0_pay5 (own x2 k) (own x3 k))
      (k0_pay9 v0 rid 0#32 1#32 k (own x2 k) (own x3 k) (before x2 k) (before x3 k))
      (k0_pay10 v1 rid 0#32 1#32 k (own x2 k) (own x3 k) (before x2 k) (before x3 k)) (own x0 k)⟩] := by
  unfold trip_k0_t1
  dsimp only
  sl_unfold_words
  simp only [View.readAt_eq_ld, harg1.read_unread, harg2.read_unread, harg3.read_unread, harg4.read_unread]
  rfl

theorem trip6 : (trip_k0_t1 (F := Ideal) 𝒱 c bd i arg1 harg1 arg2 harg2 arg3 harg3 arg4 harg4 arg5 harg5 arg6 harg6 arg7 harg7 arg8 harg8 arg9 harg9 v0 v1 v2 rid (harg1.unread x0) (harg2.unread x1) (harg3.unread x2) (harg4.unread x3) k).2.2.1 acc
    = [⟨Rect.unit (s := S4096x128) (k0_off1 k) S256x128.size (k0_off1_inb k), k0_pay14 v0 v1 v2 rid (Scf.iv 0#32 1#32 k) (own x3 k) (own x1 k) (own x0 k) (after x0 k) (after x1 k)⟩] := by
  unfold trip_k0_t1
  dsimp only
  sl_unfold_words
  simp only [View.readAt_eq_ld, harg1.read_unread, harg2.read_unread, harg3.read_unread, harg4.read_unread]
  rfl

theorem trip7 : (trip_k0_t1 (F := Ideal) 𝒱 c bd i arg1 harg1 arg2 harg2 arg3 harg3 arg4 harg4 arg5 harg5 arg6 harg6 arg7 harg7 arg8 harg8 arg9 harg9 v0 v1 v2 rid (harg1.unread x0) (harg2.unread x1) (harg3.unread x2) (harg4.unread x3) k).2.2.2.1 acc
    = [⟨Rect.unit (s := S4096x128) (k0_off1 k) S256x128.size (k0_off1_inb k), k0_pay15 v0 v1 v2 rid (Scf.iv 0#32 1#32 k) (own x2 k) (own x1 k) (own x0 k) (after x0 k) (after x1 k)⟩] := by
  unfold trip_k0_t1
  dsimp only
  sl_unfold_words
  simp only [View.readAt_eq_ld, harg1.read_unread, harg2.read_unread, harg3.read_unread, harg4.read_unread]
  rfl

theorem tripR : (trip_k0_t1 (F := Ideal) 𝒱 c bd i arg1 harg1 arg2 harg2 arg3 harg3 arg4 harg4 arg5 harg5 arg6 harg6 arg7 harg7 arg8 harg8 arg9 harg9 v0 v1 v2 rid (harg1.unread x0) (harg2.unread x1) (harg3.unread x2) (harg4.unread x3) k).1 acc
    = (k0_pay2 acc.1 (k0_pay8 rid 0#32 1#32 k (own x2 k) (own x3 k) (before x2 k) (before x3 k)) (k0_pay12 (own x1 k) (own x0 k)),
       k0_pay3 acc.2.1 (k0_pay7 rid 0#32 1#32 k (own x2 k) (own x3 k) (before x2 k) (before x3 k)) (k0_pay12 (own x1 k) (own x0 k)),
       k0_pay4 acc.2.2 (k0_pay5 (own x2 k) (own x3 k)) (k0_pay12 (own x1 k) (own x0 k))) := by
  unfold trip_k0_t1
  dsimp only
  sl_unfold_words
  simp only [View.readAt_eq_ld, harg1.read_unread, harg2.read_unread, harg3.read_unread, harg4.read_unread]
  rfl

/-- The strip's row and column in the block. -/
theorem strip_emb (x : S256x128.Idx) : (Rect.unit (s := S4096x128) (k0_off1 k) S256x128.size (k0_off1_inb k)).emb x
    = ix2 (⟨256 * k.val + (x 0).val, by have := trips_lt k; have h : (x 0).val < 256 := (x 0).isLt; omega⟩ : Fin 4096) (x 1) := by
  refine Shape.idx_ext₂ ?_ ?_
  · show k0_off1 k 0 + 1 * (x 0).val = 256 * k.val + (x 0).val; rw [k0_off1_eq, one_mul]; rfl
  · show k0_off1 k 1 + 1 * (x 1).val = (x 1).val; rw [k0_off1_eq, one_mul]; exact Nat.zero_add _

theorem step5 (p) (hp : p ∈ (trip_k0_t1 (F := Ideal) 𝒱 c bd i arg1 harg1 arg2 harg2 arg3 harg3 arg4 harg4 arg5 harg5 arg6 harg6 arg7 harg7 arg8 harg8 arg9 harg9 v0 v1 v2 rid (harg1.unread x0) (harg2.unread x1) (harg3.unread x2) (harg4.unread x3) k).2.1 acc) (x : p.1.shape.Idx) : p.2 x = G5 x0 x2 x3 v0 v1 v2 (p.1.emb x) := by
  rw [trip5] at hp
  obtain rfl := List.mem_singleton.mp hp
  refine Eq.trans ?_ (congrArg (G5 x0 x2 x3 v0 v1 v2) (strip_emb k x)).symm
  refine (congrArg _ (eq_ix2 x)).trans ?_
  exact pay11_apply x2 x3 k (x 0) (x 1) x0 v0 v1 v2

theorem step6 (p) (hp : p ∈ (trip_k0_t1 (F := Ideal) 𝒱 c bd i arg1 harg1 arg2 harg2 arg3 harg3 arg4 harg4 arg5 harg5 arg6 harg6 arg7 harg7 arg8 harg8 arg9 harg9 v0 v1 v2 rid (harg1.unread x0) (harg2.unread x1) (harg3.unread x2) (harg4.unread x3) k).2.2.1 acc) (x : p.1.shape.Idx) : p.2 x = G6 x0 x1 x3 v0 v1 v2 (p.1.emb x) := by
  rw [trip6] at hp
  obtain rfl := List.mem_singleton.mp hp
  refine Eq.trans ?_ (congrArg (G6 x0 x1 x3 v0 v1 v2) (strip_emb k x)).symm
  refine (congrArg _ (eq_ix2 x)).trans ?_
  exact congrArg₂ (· * ·) (pay13_apply x0 x1 k (x 0) (x 1) v0 v1 v2) (own_apply x3 k (x 0) (x 1))

theorem step7 (p) (hp : p ∈ (trip_k0_t1 (F := Ideal) 𝒱 c bd i arg1 harg1 arg2 harg2 arg3 harg3 arg4 harg4 arg5 harg5 arg6 harg6 arg7 harg7 arg8 harg8 arg9 harg9 v0 v1 v2 rid (harg1.unread x0) (harg2.unread x1) (harg3.unread x2) (harg4.unread x3) k).2.2.2.1 acc) (x : p.1.shape.Idx) : p.2 x = G7 x0 x1 x2 v0 v1 v2 (p.1.emb x) := by
  rw [trip7] at hp
  obtain rfl := List.mem_singleton.mp hp
  refine Eq.trans ?_ (congrArg (G7 x0 x1 x2 v0 v1 v2) (strip_emb k x)).symm
  refine (congrArg _ (eq_ix2 x)).trans ?_
  exact congrArg₂ (· * ·) (pay13_apply x0 x1 k (x 0) (x 1) v0 v1 v2) (own_apply x2 k (x 0) (x 1))

/-- After any number of trips every piece stored is a strip of the gradients. -/
theorem st_pieces : ∀ n : ℕ, n ≤ k0_t1_loop.trips →
    (∀ p ∈ (st_k0_t1 (F := Ideal) 𝒱 c bd i arg1 harg1 arg2 harg2 arg3 harg3 arg4 harg4 arg5 harg5 arg6 harg6 arg7 harg7 arg8 harg8 arg9 harg9 v0 v1 v2 rid (harg1.unread x0) (harg2.unread x1) (harg3.unread x2) (harg4.unread x3) (k0_pay1 (F := Ideal), k0_pay1 (F := Ideal), k0_pay1 (F := Ideal)) n).2.1, ∀ x : p.1.shape.Idx, p.2 x = G5 x0 x2 x3 v0 v1 v2 (p.1.emb x))
    ∧ (∀ p ∈ (st_k0_t1 (F := Ideal) 𝒱 c bd i arg1 harg1 arg2 harg2 arg3 harg3 arg4 harg4 arg5 harg5 arg6 harg6 arg7 harg7 arg8 harg8 arg9 harg9 v0 v1 v2 rid (harg1.unread x0) (harg2.unread x1) (harg3.unread x2) (harg4.unread x3) (k0_pay1 (F := Ideal), k0_pay1 (F := Ideal), k0_pay1 (F := Ideal)) n).2.2.1, ∀ x : p.1.shape.Idx, p.2 x = G6 x0 x1 x3 v0 v1 v2 (p.1.emb x))
    ∧ (∀ p ∈ (st_k0_t1 (F := Ideal) 𝒱 c bd i arg1 harg1 arg2 harg2 arg3 harg3 arg4 harg4 arg5 harg5 arg6 harg6 arg7 harg7 arg8 harg8 arg9 harg9 v0 v1 v2 rid (harg1.unread x0) (harg2.unread x1) (harg3.unread x2) (harg4.unread x3) (k0_pay1 (F := Ideal), k0_pay1 (F := Ideal), k0_pay1 (F := Ideal)) n).2.2.2, ∀ x : p.1.shape.Idx, p.2 x = G7 x0 x1 x2 v0 v1 v2 (p.1.emb x))
  | 0, _ => ⟨fun p hp => absurd hp List.not_mem_nil, fun p hp => absurd hp List.not_mem_nil, fun p hp => absurd hp List.not_mem_nil⟩
  | n + 1, h => by
    have ih := st_pieces n (Nat.le_of_succ_le h)
    have e := st_k0_t1_succ (F := Ideal) 𝒱 c bd i arg1 harg1 arg2 harg2 arg3 harg3 arg4 harg4 arg5 harg5 arg6 harg6 arg7 harg7 arg8 harg8 arg9 harg9 v0 v1 v2 rid (harg1.unread x0) (harg2.unread x1) (harg3.unread x2) (harg4.unread x3) (k0_pay1 (F := Ideal), k0_pay1 (F := Ideal), k0_pay1 (F := Ideal)) ⟨n, h⟩
    simp only at e
    rw [e]
    refine ⟨fun p hp x => ?_, fun p hp x => ?_, fun p hp x => ?_⟩
    · rcases List.mem_append.mp hp with hp | hp
      · exact step5 𝒱 c bd i arg1 harg1 arg2 harg2 arg3 harg3 arg4 harg4 arg5 harg5 arg6 harg6 arg7 harg7 arg8 harg8 arg9 harg9 x0 x1 x2 x3 v0 v1 v2 ⟨n, h⟩ _ p hp x
      · exact ih.1 p hp x
    · rcases List.mem_append.mp hp with hp | hp
      · exact step6 𝒱 c bd i arg1 harg1 arg2 harg2 arg3 harg3 arg4 harg4 arg5 harg5 arg6 harg6 arg7 harg7 arg8 harg8 arg9 harg9 x0 x1 x2 x3 v0 v1 v2 ⟨n, h⟩ _ p hp x
      · exact ih.2.1 p hp x
    · rcases List.mem_append.mp hp with hp | hp
      · exact step7 𝒱 c bd i arg1 harg1 arg2 harg2 arg3 harg3 arg4 harg4 arg5 harg5 arg6 harg6 arg7 harg7 arg8 harg8 arg9 harg9 x0 x1 x2 x3 v0 v1 v2 ⟨n, h⟩ _ p hp x
      · exact ih.2.2 p hp x

/-- A strip's sum joins the sum over the rows before it. -/
theorem join (f : ℕ → EReal) (n : ℕ) : ∑ j ∈ Finset.range (256 * (n + 1)), f j
    = ∑ j ∈ Finset.range (256 * n), f j + ∑ r : Fin 256, f (256 * n + r.val) := by
  rw [show 256 * (n + 1) = 256 * n + 256 from by ring, Finset.sum_range_add, Finset.sum_range (fun x => f (256 * n + x))]

/-- What is carried into trip `n`: the taps' gradient summed over the rows before it. -/
theorem st_carry (q : Fin 128) : ∀ n : ℕ, n ≤ k0_t1_loop.trips →
    (st_k0_t1 (F := Ideal) 𝒱 c bd i arg1 harg1 arg2 harg2 arg3 harg3 arg4 harg4 arg5 harg5 arg6 harg6 arg7 harg7 arg8 harg8 arg9 harg9 v0 v1 v2 rid (harg1.unread x0) (harg2.unread x1) (harg3.unread x2) (harg4.unread x3) (k0_pay1 (F := Ideal), k0_pay1 (F := Ideal), k0_pay1 (F := Ideal)) n).1.1 (ix2 (0 : Fin 1) q) = ∑ j ∈ Finset.range (256 * n), dn x0 x1 q j * up x2 x3 q j
    ∧ (st_k0_t1 (F := Ideal) 𝒱 c bd i arg1 harg1 arg2 harg2 arg3 harg3 arg4 harg4 arg5 harg5 arg6 harg6 arg7 harg7 arg8 harg8 arg9 harg9 v0 v1 v2 rid (harg1.unread x0) (harg2.unread x1) (harg3.unread x2) (harg4.unread x3) (k0_pay1 (F := Ideal), k0_pay1 (F := Ideal), k0_pay1 (F := Ideal)) n).1.2.1 (ix2 (0 : Fin 1) q) = ∑ j ∈ Finset.range (256 * n), dn x0 x1 q j * up x2 x3 q (j + 1)
    ∧ (st_k0_t1 (F := Ideal) 𝒱 c bd i arg1 harg1 arg2 harg2 arg3 harg3 arg4 harg4 arg5 harg5 arg6 harg6 arg7 harg7 arg8 harg8 arg9 harg9 v0 v1 v2 rid (harg1.unread x0) (harg2.unread x1) (harg3.unread x2) (harg4.unread x3) (k0_pay1 (F := Ideal), k0_pay1 (F := Ideal), k0_pay1 (F := Ideal)) n).1.2.2 (ix2 (0 : Fin 1) q) = ∑ j ∈ Finset.range (256 * n), dn x0 x1 q j * up x2 x3 q (j + 2)
  | 0, _ => by
    refine ⟨?_, ?_, ?_⟩ <;> exact Ideal.ofBits_zero_f32
  | n + 1, h => by
    obtain ⟨i0, i1, i2⟩ := st_carry q n (Nat.le_of_succ_le h)
    have e := st_k0_t1_succ (F := Ideal) 𝒱 c bd i arg1 harg1 arg2 harg2 arg3 harg3 arg4 harg4 arg5 harg5 arg6 harg6 arg7 harg7 arg8 harg8 arg9 harg9 v0 v1 v2 rid (harg1.unread x0) (harg2.unread x1) (harg3.unread x2) (harg4.unread x3) (k0_pay1 (F := Ideal), k0_pay1 (F := Ideal), k0_pay1 (F := Ideal)) ⟨n, h⟩
    simp only at e
    rw [e]
    dsimp only [tripR_k0_t1]
    rw [tripR, join, join, join, ← i0, ← i1, ← i2]
    refine ⟨?_, ?_, ?_⟩
    · refine (rowSum_apply q _ _ _).trans (congrArg _ (Finset.sum_congr rfl fun r _ => ?_))
      rw [pay12_apply x0 x1, pay8_apply]
    · refine (rowSum_apply q _ _ _).trans (congrArg _ (Finset.sum_congr rfl fun r _ => ?_))
      rw [pay12_apply x0 x1, pay7_apply]
    · refine (rowSum_apply q _ _ _).trans (congrArg _ (Finset.sum_congr rfl fun r _ => ?_))
      rw [pay12_apply x0 x1, pay5_apply]

end Cert.Kernel3Ideal.Conv

end
-- ==== Proof.ConvBwdOut.lean ====
/-
  The gradient of the short gated convolution: what the kernel leaves at one column block, as functions of the blocks it
  reads there.
-/
module

public import proofs.«01_k».proof.Proof.ConvBwdBody
public import proofs.«01_k».proof.Proof.Gen.Kernel3Ideal.Value

@[expose] public section

set_option maxRecDepth 16384

noncomputable section

namespace Cert.Kernel3Ideal.Conv

open Cert.Kernel3Ideal Cert.Kernel3Ideal.Gen
open Idealize.ShloMosaic Idealize.ShloMosaic.TcCoe Idealize.ShloMosaic.Tactic Idealize.SL.Sem Idealize.ShloMosaic.ValueIdx

/-- The three taps' rows of the staged weights. -/
def tapRow0 (x4 : Vec Ideal S3x128 .f32) : Vec Ideal S1x128 .f32 := View.ld (e' := .f32) x4 (Rect.unit ![0, 0] ![1, 128] inb_S3x128_S1x128_0_0)
def tapRow1 (x4 : Vec Ideal S3x128 .f32) : Vec Ideal S1x128 .f32 := View.ld (e' := .f32) x4 (Rect.unit ![1, 0] ![1, 128] inb_S3x128_S1x128_1_0)
def tapRow2 (x4 : Vec Ideal S3x128 .f32) : Vec Ideal S1x128 .f32 := View.ld (e' := .f32) x4 (Rect.unit ![2, 0] ![1, 128] inb_S3x128_S1x128_2_0)

theorem tapRow0_apply (x4 : Vec Ideal S3x128 .f32) (q : Fin 128) : tapRow0 x4 (ix2 (0 : Fin 1) q) = x4 (ix2 (0 : Fin 3) q) := by
  show x4 _ = _; exact congrArg x4 (Shape.idx_ext₂ rfl (by show 0 + 1 * q.val = q.val; omega))
theorem tapRow1_apply (x4 : Vec Ideal S3x128 .f32) (q : Fin 128) : tapRow1 x4 (ix2 (0 : Fin 1) q) = x4 (ix2 (1 : Fin 3) q) := by
  show x4 _ = _; exact congrArg x4 (Shape.idx_ext₂ rfl (by show 0 + 1 * q.val = q.val; omega))
theorem tapRow2_apply (x4 : Vec Ideal S3x128 .f32) (q : Fin 128) : tapRow2 x4 (ix2 (0 : Fin 1) q) = x4 (ix2 (2 : Fin 3) q) := by
  show x4 _ = _; exact congrArg x4 (Shape.idx_ext₂ rfl (by show 0 + 1 * q.val = q.val; omega))

/-- The taps' gradient over one column block. -/
def G8 (x0 x1 x2 x3 : Vec Ideal S4096x128 .f32) : Vec Ideal S3x128 .f32 := fun y =>
  ∑ r ∈ Finset.range 4096, dn x0 x1 (y 1) r * up x2 x3 (y 1) (r + (y 0).val)

theorem row_piece (x0 x1 x2 x3 : Vec Ideal S4096x128 .f32) (v : Vec Ideal S1x128 .f32) (o : ℕ) (inb : ∀ a, (![o, 0] : Fin 2 → ℕ) a + (![1, 128] : Fin 2 → ℕ) a ≤ S3x128.size a)
    (h : ∀ q : Fin 128, v (ix2 (0 : Fin 1) q) = ∑ j ∈ Finset.range (256 * Scf.trips 0#32 (Scalar.addi 0#32 16#32) 1#32), dn x0 x1 q j * up x2 x3 q (j + o)) (x : S1x128.Idx) :
    v x = G8 x0 x1 x2 x3 ((Rect.unit (s := S3x128) ![o, 0] ![1, 128] inb).emb x) := by
  have h0 : (x 0).val < 1 := (x 0).isLt
  have e : x = ix2 (0 : Fin 1) (x 1) := Shape.idx_ext₂ (by show (x 0).val = 0; omega) rfl
  have e1 : ((Rect.unit (s := S3x128) ![o, 0] ![1, 128] inb).emb x) 1 = x 1 := Fin.ext (by show 0 + 1 * (x 1).val = (x 1).val; omega)
  have e0 : (((Rect.unit (s := S3x128) ![o, 0] ![1, 128] inb).emb x) 0).val = o := by show o + 1 * (x 0).val = o; omega
  unfold G8
  rw [e0, e1]
  exact (congrArg v e).trans (h (x 1))

variable (c : Dev nD) (i : grid0.Coords) (arg1 : Memref sig .tc .vmem S4096x128 .f32) (harg1 : arg1.IsWhole) (arg2 : Memref sig .tc .vmem S4096x128 .f32) (harg2 : arg2.IsWhole) (arg3 : Memref sig .tc .vmem S4096x128 .f32) (harg3 : arg3.IsWhole) (arg4 : Memref sig .tc .vmem S4096x128 .f32) (harg4 : arg4.IsWhole) (arg5 : Memref sig .tc .vmem S3x128 .f32) (harg5 : arg5.IsWhole) (arg6 : Memref sig .tc .vmem S4096x128 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S3x128 .f32) (harg9 : arg9.IsWhole)
  (x0 x1 x2 x3 : Vec Ideal S4096x128 .f32) (x4 : Vec Ideal S3x128 .f32)

theorem last_trip : Scf.trips 0#32 (Scalar.addi 0#32 16#32) 1#32 ≤ k0_t1_loop.trips := le_of_eq rfl

theorem out5_eq : out0_A_5 (F := Ideal) c i arg1 harg1 arg2 harg2 arg3 harg3 arg4 harg4 arg5 harg5 arg6 harg6 arg7 harg7 arg8 harg8 arg9 harg9 x0 x1 x2 x3 x4
    = G5 x0 x2 x3 (tapRow0 x4) (tapRow1 x4) (tapRow2 x4) := by
  unfold out0_A_5
  rw [View.read_writes_eq_canon _ _ _ (cover0_A_5 c i arg1 harg1 arg2 harg2 arg3 harg3 arg4 harg4 arg5 harg5 arg6 harg6 arg7 harg7 arg8 harg8 arg9 harg9 x0 x1 x2 x3 x4)]
  funext y
  refine View.canon_apply_of_pieces (G5 x0 x2 x3 (tapRow0 x4) (tapRow1 x4) (tapRow2 x4)) _ ?_ y (cover0_A_5 c i arg1 harg1 arg2 harg2 arg3 harg3 arg4 harg4 arg5 harg5 arg6 harg6 arg7 harg7 arg8 harg8 arg9 harg9 x0 x1 x2 x3 x4 y)
  have h := (st_pieces Variants.none c none i arg1 harg1 arg2 harg2 arg3 harg3 arg4 harg4 arg5 harg5 arg6 harg6 arg7 harg7 arg8 harg8 arg9 harg9 x0 x1 x2 x3 (tapRow0 x4) (tapRow1 x4) (tapRow2 x4) _ last_trip).1
  unfold kernelRun0_A
  dsimp only
  sl_unfold_words
  simp only [View.readAt_eq_ld, harg5.read_unread]
  unfold tapRow0 tapRow1 tapRow2 rid at h
  exact h

theorem out6_eq : out0_A_6 (F := Ideal) c i arg1 harg1 arg2 harg2 arg3 harg3 arg4 harg4 arg5 harg5 arg6 harg6 arg7 harg7 arg8 harg8 arg9 harg9 x0 x1 x2 x3 x4
    = G6 x0 x1 x3 (tapRow0 x4) (tapRow1 x4) (tapRow2 x4) := by
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4)]
  funext y
  refine View.canon_apply_of_pieces (G6 x0 x1 x3 (tapRow0 x4) (tapRow1 x4) (tapRow2 x4)) _ ?_ y (cover0_A_6 c i arg1 harg1 arg2 harg2 arg3 harg3 arg4 harg4 arg5 harg5 arg6 harg6 arg7 harg7 arg8 harg8 arg9 harg9 x0 x1 x2 x3 x4 y)
  have h := (st_pieces Variants.none c none i arg1 harg1 arg2 harg2 arg3 harg3 arg4 harg4 arg5 harg5 arg6 harg6 arg7 harg7 arg8 harg8 arg9 harg9 x0 x1 x2 x3 (tapRow0 x4) (tapRow1 x4) (tapRow2 x4) _ last_trip).2.1
  unfold kernelRun0_A
  dsimp only
  sl_unfold_words
  simp only [View.readAt_eq_ld, harg5.read_unread]
  unfold tapRow0 tapRow1 tapRow2 rid at h
  exact h

theorem out7_eq : out0_A_7 (F := Ideal) c i arg1 harg1 arg2 harg2 arg3 harg3 arg4 harg4 arg5 harg5 arg6 harg6 arg7 harg7 arg8 harg8 arg9 harg9 x0 x1 x2 x3 x4
    = G7 x0 x1 x2 (tapRow0 x4) (tapRow1 x4) (tapRow2 x4) := by
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4)]
  funext y
  refine View.canon_apply_of_pieces (G7 x0 x1 x2 (tapRow0 x4) (tapRow1 x4) (tapRow2 x4)) _ ?_ y (cover0_A_7 c i arg1 harg1 arg2 harg2 arg3 harg3 arg4 harg4 arg5 harg5 arg6 harg6 arg7 harg7 arg8 harg8 arg9 harg9 x0 x1 x2 x3 x4 y)
  have h := (st_pieces Variants.none c none i arg1 harg1 arg2 harg2 arg3 harg3 arg4 harg4 arg5 harg5 arg6 harg6 arg7 harg7 arg8 harg8 arg9 harg9 x0 x1 x2 x3 (tapRow0 x4) (tapRow1 x4) (tapRow2 x4) _ last_trip).2.2
  unfold kernelRun0_A
  dsimp only
  sl_unfold_words
  simp only [View.readAt_eq_ld, harg5.read_unread]
  unfold tapRow0 tapRow1 tapRow2 rid at h
  exact h

theorem out8_eq : out0_A_8 (F := Ideal) c i arg1 harg1 arg2 harg2 arg3 harg3 arg4 harg4 arg5 harg5 arg6 harg6 arg7 harg7 arg8 harg8 arg9 harg9 x0 x1 x2 x3 x4 = G8 x0 x1 x2 x3 := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4)]
  funext y
  refine View.canon_apply_of_pieces (G8 x0 x1 x2 x3) _ ?_ y (cover0_A_8 c i arg1 harg1 arg2 harg2 arg3 harg3 arg4 harg4 arg5 harg5 arg6 harg6 arg7 harg7 arg8 harg8 arg9 harg9 x0 x1 x2 x3 x4 y)
  have h := fun q => st_carry Variants.none c none i arg1 harg1 arg2 harg2 arg3 harg3 arg4 harg4 arg5 harg5 arg6 harg6 arg7 harg7 arg8 harg8 arg9 harg9 x0 x1 x2 x3 (tapRow0 x4) (tapRow1 x4) (tapRow2 x4) q _ last_trip
  unfold kernelRun0_A
  dsimp only
  sl_unfold_words
  simp only [View.readAt_eq_ld, harg5.read_unread]
  unfold tapRow0 tapRow1 tapRow2 rid at h
  intro p hp x
  rcases List.mem_cons.mp hp with rfl | hp
  · exact row_piece x0 x1 x2 x3 _ 2 inb_S3x128_S1x128_2_0 (fun q => (h q).2.2) x
  rcases List.mem_cons.mp hp with rfl | hp
  · exact row_piece x0 x1 x2 x3 _ 1 inb_S3x128_S1x128_1_0 (fun q => (h q).2.1) x
  obtain rfl := List.mem_singleton.mp hp
  exact row_piece x0 x1 x2 x3 _ 0 inb_S3x128_S1x128_0_0 (fun q => (h q).1) x

end Cert.Kernel3Ideal.Conv

end
-- ==== Proof.ConvBwdRef.lean ====
/-
  The gradient of the short gated convolution as the reference computes it: each result at an entry, in products and
  sums of the arguments' entries.
-/
module

public import proofs.«01_k».proof.Proof.Gen.Reference3Ideal.Read
public import Idealize.ShloMosaic.Lib.KernelVsHost
public import Idealize.ShloMosaic.Lib.IdealHost

@[expose] public section

set_option maxRecDepth 16384

noncomputable section

namespace Cert.Reference3Ideal.Conv

open Cert.Reference3Ideal Cert.Reference3Ideal.Gen Cert.Reference3Ideal.Read
open Idealize.ShloMosaic Idealize.ShloMosaic.TcCoe Idealize.SL.Sem Idealize.ShloMosaic.ValueIdx

variable (x0 : S4096x1024.Idx → EReal) (x1 : S4096x11264.Idx → EReal) (x2 : S3x1024.Idx → EReal) (C : Fin 1024)

/-- The gated input of the convolution, preceded by two rows of zeros. -/
def upA (n : ℕ) : EReal :=
  if h : 2 ≤ n ∧ n < 4098 then x1 (ix2 (⟨n - 2, by omega⟩ : Fin 4096) (⟨1024 + C.val, by omega⟩ : Fin 11264))
    * x1 (ix2 (⟨n - 2, by omega⟩ : Fin 4096) (⟨2048 + C.val, by omega⟩ : Fin 11264)) else 0

/-- The gradient of the convolution's output, followed by zeros. -/
def dnA (n : ℕ) : EReal :=
  if h : n < 4096 then x0 (ix2 (⟨n, h⟩ : Fin 4096) C) * x1 (ix2 (⟨n, h⟩ : Fin 4096) (⟨C.val, by omega⟩ : Fin 11264)) else 0

theorem ref5 (n : Fin 4098) : val_main_v5 (F := Ideal) x1 (ix2 n C) = upA x1 C n.val := by
  unfold val_main_v5
  by_cases h : 2 ≤ n.val
  · refine (concatenate_pair_apply_right (s₁ := S2x1024) (s₂ := S4096x1024) (t := S4098x1024) (0 : Fin 2) _ _ concatenates_S2x1024_S4096x1024_S4098x1024_d0 (ix2 n C) rfl rfl
      (ix2 (⟨n.val - 2, by omega⟩ : Fin 4096) C) (fun b hb => ?_) ?_).trans ?_
    · match b with
      | ⟨0, _⟩ => exact absurd rfl hb
      | ⟨1, _⟩ => rfl
    · show n.val - 2 + 2 = n.val; omega
    · rw [val_main_v3_apply, val_main_v1_apply, val_main_v2_apply]
      unfold upA
      rw [dif_pos ⟨h, n.isLt⟩]
      exact congrArg₂ (· * ·) (congrArg x1 (Shape.idx_ext₂ rfl rfl)) (congrArg x1 (Shape.idx_ext₂ rfl rfl))
  · refine (concatenate_pair_apply_left (s₁ := S2x1024) (s₂ := S4096x1024) (t := S4098x1024) (0 : Fin 2) _ _ concatenates_S2x1024_S4096x1024_S4098x1024_d0 (ix2 n C) rfl
      (ix2 (⟨n.val, by omega⟩ : Fin 2) C) (fun b => ?_)).trans ?_
    · match b with
      | ⟨0, _⟩ => rfl
      | ⟨1, _⟩ => rfl
    · rw [val_main_v4_apply, val_main_cst_apply]
      unfold upA
      rw [dif_neg (fun hh => h hh.1)]
      exact Ideal.ofBits_zero_f32

theorem ref9 (r : Fin 4096) : val_main_v9 (F := Ideal) x1 (ix2 r C) = upA x1 C (r.val) := by
  rw [val_main_v9_apply, show idx_main_v9 (ix2 r C) = ix2 (⟨r.val, by omega⟩ : Fin 4098) C from Shape.idx_ext₂ rfl rfl]
  exact ref5 x1 C _

theorem ref15 (r : Fin 4096) : val_main_v15 (F := Ideal) x1 (ix2 r C) = upA x1 C (r.val + 1) := by
  rw [val_main_v15_apply, show idx_main_v15 (ix2 r C) = ix2 (⟨r.val + 1, by omega⟩ : Fin 4098) C from Shape.idx_ext₂ (Nat.add_comm 1 r.val) rfl]
  exact ref5 x1 C _

theorem ref22 (r : Fin 4096) : val_main_v22 (F := Ideal) x1 (ix2 r C) = upA x1 C (r.val + 2) := by
  rw [val_main_v22_apply, show idx_main_v22 (ix2 r C) = ix2 (⟨r.val + 2, by omega⟩ : Fin 4098) C from Shape.idx_ext₂ (Nat.add_comm 2 r.val) rfl]
  exact ref5 x1 C _

theorem ref10 (z : Fin 1) : val_main_v10 (F := Ideal) x2 (ix2 z C) = x2 (ix2 (0 : Fin 3) C) := by
  rw [val_main_v10_apply, val_main_v8_apply, val_main_v7_apply]
  exact congrArg x2 (Shape.idx_ext₂ rfl (Nat.mod_eq_of_lt C.isLt))

theorem ref16 (z : Fin 1) : val_main_v16 (F := Ideal) x2 (ix2 z C) = x2 (ix2 (1 : Fin 3) C) := by
  rw [val_main_v16_apply, val_main_v14_apply, val_main_v13_apply]
  exact congrArg x2 (Shape.idx_ext₂ rfl (Nat.mod_eq_of_lt C.isLt))

theorem ref23 (z : Fin 1) : val_main_v23 (F := Ideal) x2 (ix2 z C) = x2 (ix2 (2 : Fin 3) C) := by
  rw [val_main_v23_apply, val_main_v21_apply, val_main_v20_apply]
  exact congrArg x2 (Shape.idx_ext₂ rfl (Nat.mod_eq_of_lt C.isLt))

theorem ref11 (r : Fin 4096) : val_main_v11 (F := Ideal) x2 (ix2 r C) = x2 (ix2 (0 : Fin 3) C) := by
  rw [val_main_v11_apply]; exact (congrArg _ (Shape.idx_ext₂ rfl rfl)).trans (ref10 x2 C 0)
theorem ref17 (r : Fin 4096) : val_main_v17 (F := Ideal) x2 (ix2 r C) = x2 (ix2 (1 : Fin 3) C) := by
  rw [val_main_v17_apply]; exact (congrArg _ (Shape.idx_ext₂ rfl rfl)).trans (ref16 x2 C 0)
theorem ref24 (r : Fin 4096) : val_main_v24 (F := Ideal) x2 (ix2 r C) = x2 (ix2 (2 : Fin 3) C) := by
  rw [val_main_v24_apply]; exact (congrArg _ (Shape.idx_ext₂ rfl rfl)).trans (ref23 x2 C 0)
theorem ref30 (r : Fin 4096) : val_main_v30 (F := Ideal) x2 (ix2 r C) = x2 (ix2 (2 : Fin 3) C) := by
  rw [val_main_v30_apply]; exact (congrArg _ (Shape.idx_ext₂ rfl rfl)).trans (ref23 x2 C 0)
theorem ref39 (r : Fin 4096) : val_main_v39 (F := Ideal) x2 (ix2 r C) = x2 (ix2 (1 : Fin 3) C) := by
  rw [val_main_v39_apply]; exact (congrArg _ (Shape.idx_ext₂ rfl rfl)).trans (ref16 x2 C 0)
theorem ref50 (r : Fin 4096) : val_main_v50 (F := Ideal) x2 (ix2 r C) = x2 (ix2 (0 : Fin 3) C) := by
  rw [val_main_v50_apply]; exact (congrArg _ (Shape.idx_ext₂ rfl rfl)).trans (ref10 x2 C 0)

/-- The convolution's output. -/
theorem ref26 (r : Fin 4096) : val_main_v26 (F := Ideal) x1 x2 (ix2 r C)
    = x2 (ix2 (0 : Fin 3) C) * upA x1 C r.val + x2 (ix2 (1 : Fin 3) C) * upA x1 C (r.val + 1)
      + x2 (ix2 (2 : Fin 3) C) * upA x1 C (r.val + 2) := by
  rw [val_main_v26_apply, val_main_v19_apply, val_main_v12_apply, val_main_v18_apply, val_main_v25_apply,
    ref11, ref17, ref24, ref9, ref15, ref22]
  rfl

/-- The gate's gradient. -/
theorem ref65 (r : Fin 4096) : val_main_v65 (F := Ideal) x0 x1 x2 (ix2 r C)
    = x0 (ix2 r C) * (x2 (ix2 (0 : Fin 3) C) * upA x1 C r.val + x2 (ix2 (1 : Fin 3) C) * upA x1 C (r.val + 1)
      + x2 (ix2 (2 : Fin 3) C) * upA x1 C (r.val + 2)) := by
  rw [← ref26]; rfl

theorem ref28 (r : Fin 4096) : val_main_v28 (F := Ideal) x0 x1 (ix2 r C) = dnA x0 x1 C r.val := by
  rw [val_main_v28_apply, val_main_v0_apply]
  unfold dnA
  rw [dif_pos r.isLt]
  exact (mul_comm _ _).trans (congrArg (x0 (ix2 r C) * ·) (congrArg x1 (Shape.idx_ext₂ rfl rfl)))

theorem dnA_zero (n : ℕ) (h : 4096 ≤ n) : dnA x0 x1 C n = 0 := by
  unfold dnA; rw [dif_neg (by omega)]

theorem zero3 (i) : val_main_cst_3 (F := Ideal) i = (0 : EReal) := Ideal.ofBits_zero_f32
theorem zero7 (i) : val_main_cst_7 (F := Ideal) i = (0 : EReal) := Ideal.ofBits_zero_f32
theorem zero11 (i) : val_main_cst_11 (F := Ideal) i = (0 : EReal) := Ideal.ofBits_zero_f32

theorem ref36 (r : Fin 4096) : val_main_v36 (F := Ideal) x0 x1 x2 (ix2 (⟨r.val + 2, by omega⟩ : Fin 4098) C)
    = x2 (ix2 (2 : Fin 3) C) * dnA x0 x1 C r.val := by
  unfold val_main_v36
  refine (pad_apply_of_inside _ _ _ _ _ _ _ _ (ix2 r C) fun a => ?_).trans ?_
  · match a with
    | ⟨0, _⟩ => show r.val + 2 = 2 + r.val * 1; omega
    | ⟨1, _⟩ => show C.val = 0 + C.val * 1; omega
  · rw [val_main_v31_apply, ref30, ref28]; rfl

theorem ref45 (r : Fin 4096) : val_main_v45 (F := Ideal) x0 x1 x2 (ix2 (⟨r.val + 2, by omega⟩ : Fin 4098) C)
    = x2 (ix2 (1 : Fin 3) C) * dnA x0 x1 C (r.val + 1) := by
  unfold val_main_v45
  by_cases h : r.val + 1 < 4096
  · refine (pad_apply_of_inside _ _ _ _ _ _ _ _ (ix2 (⟨r.val + 1, h⟩ : Fin 4096) C) fun a => ?_).trans ?_
    · match a with
      | ⟨0, _⟩ => show r.val + 2 = 1 + (r.val + 1) * 1; omega
      | ⟨1, _⟩ => show C.val = 0 + C.val * 1; omega
    · rw [val_main_v40_apply, ref39, ref28]; rfl
  · refine (pad_apply_of_not_inside _ _ _ _ _ _ _ _ (0 : Fin 2) ?_).trans ?_
    · rintro ⟨-, -, h3⟩
      have h3' : (r.val + 2 - 1) / 1 < 4096 := h3
      rw [Nat.div_one] at h3'
      omega
    · rw [zero7, dnA_zero _ _ _ _ (by omega), mul_zero]

theorem ref56 (r : Fin 4096) : val_main_v56 (F := Ideal) x0 x1 x2 (ix2 (⟨r.val + 2, by omega⟩ : Fin 4098) C)
    = x2 (ix2 (0 : Fin 3) C) * dnA x0 x1 C (r.val + 2) := by
  unfold val_main_v56
  by_cases h : r.val + 2 < 4096
  · refine (pad_apply_of_inside _ _ _ _ _ _ _ _ (ix2 (⟨r.val + 2, h⟩ : Fin 4096) C) fun a => ?_).trans ?_
    · match a with
      | ⟨0, _⟩ => show r.val + 2 = 0 + (r.val + 2) * 1; omega
      | ⟨1, _⟩ => show C.val = 0 + C.val * 1; omega
    · rw [val_main_v51_apply, ref50, ref28]; rfl
  · refine (pad_apply_of_not_inside _ _ _ _ _ _ _ _ (0 : Fin 2) ?_).trans ?_
    · rintro ⟨-, -, h3⟩
      have h3' : (r.val + 2 - 0) / 1 < 4096 := h3
      rw [Nat.div_one] at h3'
      omega
    · rw [zero11, dnA_zero _ _ _ _ (by omega), mul_zero]

/-- The gradient of the convolution's input. -/
theorem ref62 (r : Fin 4096) : val_main_v62 (F := Ideal) x0 x1 x2 (ix2 r C)
    = x2 (ix2 (2 : Fin 3) C) * dnA x0 x1 C r.val + x2 (ix2 (1 : Fin 3) C) * dnA x0 x1 C (r.val + 1)
      + x2 (ix2 (0 : Fin 3) C) * dnA x0 x1 C (r.val + 2) := by
  rw [val_main_v62_apply]
  rw [show idx_main_v62 (ix2 r C) = ix2 (⟨r.val + 2, by omega⟩ : Fin 4098) C from Shape.idx_ext₂ (Nat.add_comm 2 r.val) rfl,
    val_main_v57_apply, val_main_v46_apply, ref36, ref45, ref56]
  rfl

theorem ref66 (r : Fin 4096) : val_main_v66 (F := Ideal) x0 x1 x2 (ix2 r C)
    = val_main_v62 (F := Ideal) x0 x1 x2 (ix2 r C) * x1 (ix2 r (⟨2048 + C.val, by omega⟩ : Fin 11264)) := by
  have h : val_main_v2 (F := Ideal) x1 (ix2 r C) = x1 (ix2 r (⟨2048 + C.val, by omega⟩ : Fin 11264)) := by
    rw [val_main_v2_apply]; exact congrArg x1 (Shape.idx_ext₂ rfl rfl)
  rw [← h]; rfl

theorem ref67 (r : Fin 4096) : val_main_v67 (F := Ideal) x0 x1 x2 (ix2 r C)
    = x1 (ix2 r (⟨1024 + C.val, by omega⟩ : Fin 11264)) * val_main_v62 (F := Ideal) x0 x1 x2 (ix2 r C) := by
  have h : val_main_v1 (F := Ideal) x1 (ix2 r C) = x1 (ix2 r (⟨1024 + C.val, by omega⟩ : Fin 11264)) := by
    rw [val_main_v1_apply]; exact congrArg x1 (Shape.idx_ext₂ rfl rfl)
  rw [← h]; rfl

/-! ## The taps' gradient -/

theorem ref37 (z : Fin 1) : val_main_v37 (F := Ideal) x0 x1 (ix2 z C) = ∑ r : Fin 4096, dnA x0 x1 C r.val * upA x1 C (r.val + 2) := by
  rw [val_main_v37_apply, val_main_v35_apply, Fin.sum_univ_one, val_main_v34_apply, val_main_v33_apply]
  rw [show val_main_cst_2 (F := Ideal) (Shape.Idx.first h_S_) = (0 : EReal) from Ideal.ofBits_zero_f32,
    show val_main_cst_1 (F := Ideal) (Shape.Idx.first h_S_) = (0 : EReal) from Ideal.ofBits_zero_f32, zero_add, zero_add]
  refine Finset.sum_congr rfl fun r _ => ?_
  rw [show idx_main_v33 (idx_main_v34 (idx_main_v35 (idx_main_v37 (ix2 z C)) 0)) r = ix2 r C from
      Shape.idx_ext₂ rfl (by show 0 * 1024 + C.val = C.val; omega),
    val_main_v32_apply, ref28, ref22]
  rfl

theorem ref47 (z : Fin 1) : val_main_v47 (F := Ideal) x0 x1 (ix2 z C) = ∑ r : Fin 4096, dnA x0 x1 C r.val * upA x1 C (r.val + 1) := by
  rw [val_main_v47_apply, val_main_v44_apply, Fin.sum_univ_one, val_main_v43_apply, val_main_v42_apply]
  rw [show val_main_cst_6 (F := Ideal) (Shape.Idx.first h_S_) = (0 : EReal) from Ideal.ofBits_zero_f32,
    show val_main_cst_5 (F := Ideal) (Shape.Idx.first h_S_) = (0 : EReal) from Ideal.ofBits_zero_f32, zero_add, zero_add]
  refine Finset.sum_congr rfl fun r _ => ?_
  rw [show idx_main_v42 (idx_main_v43 (idx_main_v44 (idx_main_v47 (ix2 z C)) 0)) r = ix2 r C from
      Shape.idx_ext₂ rfl (by show 0 * 1024 + C.val = C.val; omega),
    val_main_v41_apply, ref28, ref15]
  rfl

theorem ref58 (z : Fin 1) : val_main_v58 (F := Ideal) x0 x1 (ix2 z C) = ∑ r : Fin 4096, dnA x0 x1 C r.val * upA x1 C r.val := by
  rw [val_main_v58_apply, val_main_v55_apply, Fin.sum_univ_one, val_main_v54_apply, val_main_v53_apply]
  rw [show val_main_cst_10 (F := Ideal) (Shape.Idx.first h_S_) = (0 : EReal) from Ideal.ofBits_zero_f32,
    show val_main_cst_9 (F := Ideal) (Shape.Idx.first h_S_) = (0 : EReal) from Ideal.ofBits_zero_f32, zero_add, zero_add]
  refine Finset.sum_congr rfl fun r _ => ?_
  rw [show idx_main_v53 (idx_main_v54 (idx_main_v55 (idx_main_v58 (ix2 z C)) 0)) r = ix2 r C from
      Shape.idx_ext₂ rfl (by show 0 * 1024 + C.val = C.val; omega),
    val_main_v52_apply, ref28, ref9]
  rfl

theorem ref38 (j : Fin 3) : val_main_v38 (F := Ideal) x0 x1 (ix2 j C)
    = if j.val = 2 then ∑ r : Fin 4096, dnA x0 x1 C r.val * upA x1 C (r.val + 2) else 0 := by
  unfold val_main_v38
  by_cases h : j.val = 2
  · rw [if_pos h, ← ref37 x0 x1 C 0]
    refine pad_apply_of_inside _ _ _ _ _ _ _ _ (ix2 (0 : Fin 1) C) fun a => ?_
    match a with
    | ⟨0, _⟩ => exact h
    | ⟨1, _⟩ => show C.val = 0 + C.val * 1; omega
  · rw [if_neg h]
    refine (pad_apply_of_not_inside _ _ _ _ _ _ _ _ (0 : Fin 2) ?_).trans Ideal.ofBits_zero_f32
    rintro ⟨h1, -, h3⟩
    have h1' : 2 ≤ j.val := h1
    omega

theorem ref48 (j : Fin 3) : val_main_v48 (F := Ideal) x0 x1 (ix2 j C)
    = if j.val = 1 then ∑ r : Fin 4096, dnA x0 x1 C r.val * upA x1 C (r.val + 1) else 0 := by
  unfold val_main_v48
  by_cases h : j.val = 1
  · rw [if_pos h, ← ref47 x0 x1 C 0]
    refine pad_apply_of_inside _ _ _ _ _ _ _ _ (ix2 (0 : Fin 1) C) fun a => ?_
    match a with
    | ⟨0, _⟩ => exact h
    | ⟨1, _⟩ => show C.val = 0 + C.val * 1; omega
  · rw [if_neg h]
    refine (pad_apply_of_not_inside _ _ _ _ _ _ _ _ (0 : Fin 2) ?_).trans Ideal.ofBits_zero_f32
    rintro ⟨h1, -, h3⟩
    have h1' : 1 ≤ j.val := h1
    have h3' : (j.val - 1) / 1 < 1 := h3
    rw [Nat.div_one] at h3'
    omega

theorem ref59 (j : Fin 3) : val_main_v59 (F := Ideal) x0 x1 (ix2 j C)
    = if j.val = 0 then ∑ r : Fin 4096, dnA x0 x1 C r.val * upA x1 C r.val else 0 := by
  unfold val_main_v59
  by_cases h : j.val = 0
  · rw [if_pos h, ← ref58 x0 x1 C 0]
    refine pad_apply_of_inside _ _ _ _ _ _ _ _ (ix2 (0 : Fin 1) C) fun a => ?_
    match a with
    | ⟨0, _⟩ => exact h
    | ⟨1, _⟩ => show C.val = 0 + C.val * 1; omega
  · rw [if_neg h]
    refine (pad_apply_of_not_inside _ _ _ _ _ _ _ _ (0 : Fin 2) ?_).trans Ideal.ofBits_zero_f32
    rintro ⟨h1, -, h3⟩
    have h3' : (j.val - 0) / 1 < 1 := h3
    rw [Nat.div_one] at h3'
    omega

/-- The taps' gradient: at tap `j` the output's gradient against the input shifted by `2 - j` rows, summed over the rows. -/
theorem ref60 (j : Fin 3) : val_main_v60 (F := Ideal) x0 x1 (ix2 j C)
    = ∑ r : Fin 4096, dnA x0 x1 C r.val * upA x1 C (r.val + j.val) := by
  rw [val_main_v60_apply, val_main_v49_apply, ref38, ref48, ref59]
  match j with
  | ⟨0, _⟩ => exact (congrArg (· + _) (add_zero (0 : EReal))).trans (zero_add _)
  | ⟨1, _⟩ => exact (add_zero _).trans (zero_add _)
  | ⟨2, _⟩ => exact (add_zero _).trans (add_zero _)

end Cert.Reference3Ideal.Conv

end
-- ==== Proof.ConvBwd.lean ====
/-
  The gradient of the short gated convolution: the kernel's four result arrays are the reference's, entry by entry.
-/
module

public import proofs.«01_k».proof.Proof.ConvBwdOut
public import proofs.«01_k».proof.Proof.ConvBwdRef

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel3Ideal.Conv

open Cert.Reference3Ideal.Read

open Cert.Kernel3Ideal Cert.Kernel3Ideal.Gen
open Cert.Reference3Ideal.Conv (upA dnA ref60 ref62 ref65 ref66 ref67)

variable (m : (ℓ : Loc nD τ sig) → Buf (Elt Ideal) ℓ)

/-- The three arguments on device `c`: the gradient, the projection, the taps. -/
abbrev A0 (c : Dev nD) : Vec Ideal S4096x1024 .f32 := m ((c : Thread nD τ).loc main_arg0)
abbrev A1 (c : Dev nD) : Vec Ideal S4096x11264 .f32 := m ((c : Thread nD τ).loc main_arg1)
abbrev A2 (c : Dev nD) : Vec Ideal S3x1024 .f32 := m ((c : Thread nD τ).loc main_arg2)

/-- The windows' block columns at point `t`. -/
theorem idx_facts : ∀ t : Fin cfg0.N,
    (win0_0.index t 0 = 0 ∧ win0_0.index t 1 = t.val)
    ∧ (win0_1.index t 0 = 0 ∧ win0_1.index t 1 = t.val)
    ∧ (win0_2.index t 0 = 0 ∧ win0_2.index t 1 = 8 + t.val)
    ∧ (win0_3.index t 0 = 0 ∧ win0_3.index t 1 = 16 + t.val)
    ∧ (win0_4.index t 0 = 0 ∧ win0_4.index t 1 = t.val)
    ∧ (win0_5.index t 0 = 0 ∧ win0_5.index t 1 = t.val)
    ∧ (win0_6.index t 0 = 0 ∧ win0_6.index t 1 = t.val)
    ∧ (win0_7.index t 0 = 0 ∧ win0_7.index t 1 = t.val)
    ∧ (win0_8.index t 0 = 0 ∧ win0_8.index t 1 = t.val) :=
  (by decide +kernel : ∀ t : Fin grid0.N, _)

theorem t_lt : ∀ t : Fin cfg0.N, t.val < 8 := (by decide +kernel : ∀ t : Fin grid0.N, t.val < 8)

/-- The column of the arrays that column `q` of point `t`'s block is. -/
def col (t : Fin cfg0.N) (q : Fin 128) : Fin 1024 := ⟨t.val * 128 + q.val, by have := t_lt t; omega⟩

variable (c : Dev nD) (t : Fin cfg0.N) (r : Fin 4096) (q : Fin 128)

theorem iblk0_apply : iblk m c 0 t (ix2 r q) = A0 m c (ix2 r (col t q)) := by
  show A0 m c ((win0_0.rect t).emb (ix2 r q)) = _
  refine congrArg _ (Shape.idx_ext₂ ?_ ?_)
  · rw [win0_0.rect_emb_val t, (idx_facts t).1.1]; show 0 * 4096 + r.val = r.val; omega
  · rw [win0_0.rect_emb_val t, (idx_facts t).1.2]; rfl

theorem iblk1_apply : iblk m c 1 t (ix2 r q) = A1 m c (ix2 r (⟨(col t q).val, by omega⟩ : Fin 11264)) := by
  show A1 m c ((win0_1.rect t).emb (ix2 r q)) = _
  refine congrArg _ (Shape.idx_ext₂ ?_ ?_)
  · rw [win0_1.rect_emb_val t, (idx_facts t).2.1.1]; show 0 * 4096 + r.val = r.val; omega
  · rw [win0_1.rect_emb_val t, (idx_facts t).2.1.2]; rfl

theorem iblk2_apply : iblk m c 2 t (ix2 r q) = A1 m c (ix2 r (⟨1024 + (col t q).val, by omega⟩ : Fin 11264)) := by
  show A1 m c ((win0_2.rect t).emb (ix2 r q)) = _
  refine congrArg _ (Shape.idx_ext₂ ?_ ?_)
  · rw [win0_2.rect_emb_val t, (idx_facts t).2.2.1.1]; show 0 * 4096 + r.val = r.val; omega
  · rw [win0_2.rect_emb_val t, (idx_facts t).2.2.1.2]; show (8 + t.val) * 128 + q.val = 1024 + (t.val * 128 + q.val); omega

theorem iblk3_apply : iblk m c 3 t (ix2 r q) = A1 m c (ix2 r (⟨2048 + (col t q).val, by omega⟩ : Fin 11264)) := by
  show A1 m c ((win0_3.rect t).emb (ix2 r q)) = _
  refine congrArg _ (Shape.idx_ext₂ ?_ ?_)
  · rw [win0_3.rect_emb_val t, (idx_facts t).2.2.2.1.1]; show 0 * 4096 + r.val = r.val; omega
  · rw [win0_3.rect_emb_val t, (idx_facts t).2.2.2.1.2]; show (16 + t.val) * 128 + q.val = 2048 + (t.val * 128 + q.val); omega

theorem iblk4_apply (j : Fin 3) : iblk m c 4 t (ix2 j q) = A2 m c (ix2 j (col t q)) := by
  show A2 m c ((win0_4.rect t).emb (ix2 j q)) = _
  refine congrArg _ (Shape.idx_ext₂ ?_ ?_)
  · rw [win0_4.rect_emb_val t, (idx_facts t).2.2.2.2.1.1]; show 0 * 3 + j.val = j.val; omega
  · rw [win0_4.rect_emb_val t, (idx_facts t).2.2.2.2.1.2]; rfl

/-- The shifted product and the shifted gradient over a block are those over the arrays. -/
theorem up_eq (n : ℕ) : up (iblk m c 2 t) (iblk m c 3 t) q n = upA (A1 m c) (col t q) n := by
  unfold up upA
  by_cases h : 2 ≤ n ∧ n < 4098
  · rw [dif_pos h, dif_pos h, iblk2_apply, iblk3_apply]
  · rw [dif_neg h, dif_neg h]

theorem dn_eq (n : ℕ) : dn (iblk m c 0 t) (iblk m c 1 t) q n = dnA (A0 m c) (A1 m c) (col t q) n := by
  unfold dn dnA
  by_cases h : n < 4096
  · rw [dif_pos h, dif_pos h, iblk0_apply, iblk1_apply]
  · rw [dif_neg h, dif_neg h]

abbrev R5 : Vec Ideal S4096x1024 .bf16 := val_main_v65 (F := Ideal) (A0 m c) (A1 m c) (A2 m c)
abbrev R6 : Vec Ideal S4096x1024 .bf16 := val_main_v66 (F := Ideal) (A0 m c) (A1 m c) (A2 m c)
abbrev R7 : Vec Ideal S4096x1024 .bf16 := val_main_v67 (F := Ideal) (A0 m c) (A1 m c) (A2 m c)
abbrev R8 : Vec Ideal S3x1024 .f32 := val_main_v60 (F := Ideal) (A0 m c) (A1 m c)

theorem emb_eq5 : (win0_5.rect t).emb (ix2 r q) = ix2 r (col t q) := by
  refine Shape.idx_ext₂ ?_ ?_
  · rw [win0_5.rect_emb_val t, (idx_facts t).2.2.2.2.2.1.1]; show 0 * 4096 + r.val = r.val; omega
  · rw [win0_5.rect_emb_val t, (idx_facts t).2.2.2.2.2.1.2]; rfl
theorem emb_eq6 : (win0_6.rect t).emb (ix2 r q) = ix2 r (col t q) := by
  refine Shape.idx_ext₂ ?_ ?_
  · rw [win0_6.rect_emb_val t, (idx_facts t).2.2.2.2.2.2.1.1]; show 0 * 4096 + r.val = r.val; omega
  · rw [win0_6.rect_emb_val t, (idx_facts t).2.2.2.2.2.2.1.2]; rfl
theorem emb_eq7 : (win0_7.rect t).emb (ix2 r q) = ix2 r (col t q) := by
  refine Shape.idx_ext₂ ?_ ?_
  · rw [win0_7.rect_emb_val t, (idx_facts t).2.2.2.2.2.2.2.1.1]; show 0 * 4096 + r.val = r.val; omega
  · rw [win0_7.rect_emb_val t, (idx_facts t).2.2.2.2.2.2.2.1.2]; rfl
theorem emb_eq8 (j : Fin 3) : (win0_8.rect t).emb (ix2 j q) = ix2 j (col t q) := by
  refine Shape.idx_ext₂ ?_ ?_
  · rw [win0_8.rect_emb_val t, (idx_facts t).2.2.2.2.2.2.2.2.1]; show 0 * 3 + j.val = j.val; omega
  · rw [win0_8.rect_emb_val t, (idx_facts t).2.2.2.2.2.2.2.2.2]; rfl

/-- The gradient of the convolution's input over a block is that over the arrays. -/
theorem du_eq : du (iblk m c 0 t) (iblk m c 1 t) (tapRow0 (iblk m c 4 t)) (tapRow1 (iblk m c 4 t)) (tapRow2 (iblk m c 4 t)) (ix2 r q)
    = val_main_v62 (F := Ideal) (A0 m c) (A1 m c) (A2 m c) (ix2 r (col t q)) := by
  refine Eq.trans ?_ (ref62 _ _ _ _ _).symm
  show tapRow2 (iblk m c 4 t) (ix2 (0 : Fin 1) q) * dn (iblk m c 0 t) (iblk m c 1 t) q r.val
    + tapRow1 (iblk m c 4 t) (ix2 (0 : Fin 1) q) * dn (iblk m c 0 t) (iblk m c 1 t) q (r.val + 1)
    + tapRow0 (iblk m c 4 t) (ix2 (0 : Fin 1) q) * dn (iblk m c 0 t) (iblk m c 1 t) q (r.val + 2) = _
  rw [dn_eq, dn_eq, dn_eq, tapRow0_apply, tapRow1_apply, tapRow2_apply, iblk4_apply, iblk4_apply, iblk4_apply]

/-! ## What each point writes back is its block of the reference's array -/

theorem flushed5_eq : (dats m 0 c).flushed 5 t = ((cfg0.win 5).blk t).view.read (Elt Ideal) (R5 m c) := by
  rw [Value.flushed5_A, out5_eq]
  funext j
  obtain ⟨r, q, rfl⟩ : ∃ (r : Fin 4096) (q : Fin 128), j = ix2 r q := ⟨j 0, j 1, eq_ix2 j⟩
  show G5 _ _ _ _ _ _ (ix2 r q) = R5 m c ((win0_5.rect t).emb (ix2 r q))
  rw [emb_eq5]
  refine Eq.trans ?_ (ref65 _ _ _ _ _).symm
  show (show EReal from iblk m c 0 t (ix2 r q)) * (tapRow0 (iblk m c 4 t) (ix2 (0 : Fin 1) q) * up (iblk m c 2 t) (iblk m c 3 t) q r.val
    + tapRow1 (iblk m c 4 t) (ix2 (0 : Fin 1) q) * up (iblk m c 2 t) (iblk m c 3 t) q (r.val + 1)
    + tapRow2 (iblk m c 4 t) (ix2 (0 : Fin 1) q) * up (iblk m c 2 t) (iblk m c 3 t) q (r.val + 2)) = _
  rw [up_eq, up_eq, up_eq, tapRow0_apply, tapRow1_apply, tapRow2_apply, iblk4_apply, iblk4_apply, iblk4_apply, iblk0_apply]

theorem flushed6_eq : (dats m 0 c).flushed 6 t = ((cfg0.win 6).blk t).view.read (Elt Ideal) (R6 m c) := by
  rw [Value.flushed6_A, out6_eq]
  funext j
  obtain ⟨r, q, rfl⟩ : ∃ (r : Fin 4096) (q : Fin 128), j = ix2 r q := ⟨j 0, j 1, eq_ix2 j⟩
  show G6 _ _ _ _ _ _ (ix2 r q) = R6 m c ((win0_6.rect t).emb (ix2 r q))
  rw [emb_eq6]
  refine Eq.trans ?_ (ref66 _ _ _ _ _).symm
  exact congrArg₂ (· * ·) (du_eq m c t r q) (iblk3_apply m c t r q)

theorem flushed7_eq : (dats m 0 c).flushed 7 t = ((cfg0.win 7).blk t).view.read (Elt Ideal) (R7 m c) := by
  rw [Value.flushed7_A, out7_eq]
  funext j
  obtain ⟨r, q, rfl⟩ : ∃ (r : Fin 4096) (q : Fin 128), j = ix2 r q := ⟨j 0, j 1, eq_ix2 j⟩
  show G7 _ _ _ _ _ _ (ix2 r q) = R7 m c ((win0_7.rect t).emb (ix2 r q))
  rw [emb_eq7]
  refine Eq.trans ?_ ((mul_comm _ _).trans (ref67 _ _ _ _ _).symm)
  exact congrArg₂ (· * ·) (du_eq m c t r q) (iblk2_apply m c t r q)

theorem flushed8_eq : (dats m 0 c).flushed 8 t = ((cfg0.win 8).blk t).view.read (Elt Ideal) (R8 m c) := by
  rw [Value.flushed8_A, out8_eq]
  funext j
  obtain ⟨r, q, rfl⟩ : ∃ (r : Fin 3) (q : Fin 128), j = ix2 r q := ⟨j 0, j 1, eq_ix2 j⟩
  show G8 _ _ _ _ (ix2 r q) = R8 m c ((win0_8.rect t).emb (ix2 r q))
  rw [emb_eq8]
  refine Eq.trans ?_ (ref60 _ _ _ _).symm
  refine (Finset.sum_range _).trans (Finset.sum_congr rfl fun n _ => ?_)
  exact congrArg₂ (· * ·) (dn_eq m c t q _) (up_eq m c t q _)

/-! ## The blocks tile the arrays -/

theorem final5 : (dats m 0 c).arrAt 5 cfg0.N = R5 m c :=
  (dats m 0 c).arrAt_eq_of_cover 5 (R5 m c) (fun t _ => flushed5_eq m c t) (Pipeline.Window.Covers.cover _ (by decide +kernel) (Memref.isWhole_whole _))
theorem final6 : (dats m 0 c).arrAt 6 cfg0.N = R6 m c :=
  (dats m 0 c).arrAt_eq_of_cover 6 (R6 m c) (fun t _ => flushed6_eq m c t) (Pipeline.Window.Covers.cover _ (by decide +kernel) (Memref.isWhole_whole _))
theorem final7 : (dats m 0 c).arrAt 7 cfg0.N = R7 m c :=
  (dats m 0 c).arrAt_eq_of_cover 7 (R7 m c) (fun t _ => flushed7_eq m c t) (Pipeline.Window.Covers.cover _ (by decide +kernel) (Memref.isWhole_whole _))
theorem final8 : (dats m 0 c).arrAt 8 cfg0.N = R8 m c :=
  (dats m 0 c).arrAt_eq_of_cover 8 (R8 m c) (fun t _ => flushed8_eq m c t) (Pipeline.Window.Covers.cover _ (by decide +kernel) (Memref.isWhole_whole _))

end Cert.Kernel3Ideal.Conv

end
-- ==== Proof.ConvBwdClaim.lean ====
/-
  The value claim about the gradient of the short gated convolution, from the kernel's run and the reference's.
-/
module

public import proofs.«01_k».proof.Defs
public import proofs.«01_k».proof.Proof.ConvBwd

@[expose] public section

set_option maxRecDepth 16384

noncomputable section

open Idealize.ShloMosaic Idealize.ShloMosaic.TcCoe Idealize.SL.Sem

namespace Cert.ConvBwdClaim

open Cert.Reference3Ideal.Read

open Cert.Kernel3Ideal.Conv

/-- The kernel and the reference end with equal results: the gradients of the gate, of the two factors of the convolved
    product, and of the taps summed over all rows. -/
theorem algebraic : Cert.algebraic_Kernel3Ideal_Reference3Ideal := by
  intro m ρ m' ρ' _ hagree
  refine ⟨R5 m, R6 m, R7 m, R8 m, ?_, ?_⟩
  · refine (θ_run _ _ _).mono (fun r h c => ?_) (Cert.Kernel3Ideal.Value.run_blocks (F := Ideal) m ρ)
    obtain ⟨h5, h6, h7, h8, hargs⟩ := h c
    exact ⟨h5.trans (final5 m c), h6.trans (final6 m c), h7.trans (final7 m c), h8.trans (final8 m c), hargs⟩
  · refine (θ_run _ _ _).mono (fun r h c => ?_) (Cert.Reference3Ideal.Value.run (F := Ideal) m' ρ')
    obtain ⟨e0, e1, e2⟩ := hagree c
    obtain ⟨h65, h66, h67, h60, hargs⟩ := h c
    rw [val_main_v65_eq, e0, e1, e2] at h65
    rw [val_main_v66_eq, e0, e1, e2] at h66
    rw [val_main_v67_eq, e0, e1, e2] at h67
    rw [val_main_v60_eq, e0, e1] at h60
    exact ⟨h65, h66, h67, h60, hargs⟩

end Cert.ConvBwdClaim

end
-- ==== Proof.BlockSum.lean ====
/-
  A sum over four blocks laid end to end is the sum of the four blocks' sums.
-/
module

public import proofs.«01_k».proof.Proof.Products

@[expose] public section

noncomputable section

open scoped BigOperators

namespace Cert.Products

/-- The sum of two extended reals. -/
def plus (a b : EReal) : EReal := a + b

/-- Position `j` of block `b`, of four blocks of `N` positions each. -/
def inBlock {T N : ℕ} (h : T = 4 * N) (b : Fin 4) (j : Fin N) : Fin T :=
  ⟨b.val * N + j.val, by
    have hb := b.isLt
    have hj := j.isLt
    have : b.val * N + N ≤ 4 * N := by
      have := Nat.mul_le_mul_right N (Nat.succ_le_of_lt hb)
      rwa [Nat.succ_mul] at this
    omega⟩

/-- A sum over four blocks laid end to end, block by block. -/
theorem sum_blocks {T N : ℕ} (h : T = 4 * N) (f : Fin T → EReal) :
    ∑ k : Fin T, f k = plus (plus (plus (∑ j : Fin N, f (inBlock h 0 j)) (∑ j : Fin N, f (inBlock h 1 j)))
      (∑ j : Fin N, f (inBlock h 2 j))) (∑ j : Fin N, f (inBlock h 3 j)) := by
  subst h
  rw [← Equiv.sum_comp finProdFinEquiv f, Fintype.sum_prod_type, Fin.sum_univ_four]
  have e : ∀ (b : Fin 4) (j : Fin N), finProdFinEquiv (b, j) = inBlock rfl b j := fun b j =>
    Fin.ext (by show j.val + N * b.val = b.val * N + j.val; rw [Nat.mul_comm N, Nat.add_comm])
  simp only [e]
  rfl

/-- Four pairs added pair by pair are the second members' sum plus the first members'. -/
theorem plus_pairs (g0 g1 g2 g3 u0 u1 u2 u3 : EReal) :
    plus (plus (plus (plus g0 u0) (plus g1 u1)) (plus g2 u2)) (plus g3 u3)
      = plus (plus (plus (plus u0 u1) u2) u3) (plus (plus (plus g0 g1) g2) g3) := by
  unfold plus
  abel

end Cert.Products

end
-- ==== Proof.DH2.lean ====
/-
  The gradient of the feed-forward block's input: two products accumulated over four blocks of the contracted axis in
  the result's own block. The kernel's result array is the reference's, entry by entry.
-/
module

public import proofs.«01_k».proof.Proof.Gen.Kernel5Ideal.Value
public import proofs.«01_k».proof.Proof.Gen.Reference5Ideal.Read
public import proofs.«01_k».proof.Proof.BlockSum

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel5Ideal.H2

open Cert.Kernel5Ideal Cert.Kernel5Ideal.Gen Cert.Products

variable (m : (ℓ : Loc nD τ sig) → Buf (Elt Ideal) ℓ)

/-- The four arguments on device `c`: the two gradients and the two weights in blocks of columns. -/
abbrev A0 (c : Dev nD) : Vec Ideal S4096x5632 .bf16 := m ((c : Thread nD τ).loc main_arg0)
abbrev A1 (c : Dev nD) : Vec Ideal S4x2048x1408 .bf16 := m ((c : Thread nD τ).loc main_arg1)
abbrev A2 (c : Dev nD) : Vec Ideal S4096x5632 .bf16 := m ((c : Thread nD τ).loc main_arg2)
abbrev A3 (c : Dev nD) : Vec Ideal S4x2048x1408 .bf16 := m ((c : Thread nD τ).loc main_arg3)

/-- Where each window stands at point `t`: block row `t / 4`, contracted block `t % 4`. -/
theorem idx_facts : ∀ t : Fin cfg0.N,
    (win0_0.index t 0 = t.val / 4 ∧ win0_0.index t 1 = t.val % 4)
    ∧ (win0_1.index t 0 = t.val / 4 ∧ win0_1.index t 1 = t.val % 4)
    ∧ (win0_2.index t 0 = t.val % 4 ∧ win0_2.index t 1 = 0 ∧ win0_2.index t 2 = 0)
    ∧ (win0_3.index t 0 = t.val % 4 ∧ win0_3.index t 1 = 0 ∧ win0_3.index t 2 = 0)
    ∧ (win0_4.index t 0 = t.val / 4 ∧ win0_4.index t 1 = 0) :=
  (by decide +kernel : ∀ t : Fin grid0.N, _)

/-- Row `r` of block row `g`. -/
def row (g : ℕ) (hg : g < 8) (r : Fin 512) : Fin 4096 := ⟨g * 512 + r.val, by omega⟩

theorem group_lt (t : Fin cfg0.N) : t.val / 4 < 8 := by
  have h : t.val < 32 := lt_of_lt_of_eq t.isLt (show cfg0.N = 32 from N_0)
  omega

/-- The contracted block of point `t`. -/
def part (t : Fin cfg0.N) : Fin 4 := ⟨t.val % 4, Nat.mod_lt _ (by decide)⟩

/-- Column `j` of block `b` of the contracted axis. -/
abbrev colOf (b : Fin 4) (j : Fin 1408) : Fin 5632 := inBlock (N := 1408) rfl b j

theorem iblk0_apply (c : Dev nD) (t : Fin cfg0.N) (r : Fin 512) (j : Fin 1408) :
    iblk m c 0 t (ix2 r j) = A0 m c (ix2 (row (t.val / 4) (group_lt t) r) (colOf (part t) j)) := by
  show A0 m c ((win0_0.rect t).emb (ix2 r j)) = _
  refine congrArg _ (Shape.idx_ext₂ ?_ ?_)
  · rw [win0_0.rect_emb_val t, (idx_facts t).1.1]; rfl
  · rw [win0_0.rect_emb_val t, (idx_facts t).1.2]; rfl

theorem iblk1_apply (c : Dev nD) (t : Fin cfg0.N) (r : Fin 512) (j : Fin 1408) :
    iblk m c 1 t (ix2 r j) = A2 m c (ix2 (row (t.val / 4) (group_lt t) r) (colOf (part t) j)) := by
  show A2 m c ((win0_1.rect t).emb (ix2 r j)) = _
  refine congrArg _ (Shape.idx_ext₂ ?_ ?_)
  · rw [win0_1.rect_emb_val t, (idx_facts t).2.1.1]; rfl
  · rw [win0_1.rect_emb_val t, (idx_facts t).2.1.2]; rfl

theorem iblk2_apply (c : Dev nD) (t : Fin cfg0.N) (q : Fin 2048) (j : Fin 1408) :
    iblk m c 2 t (ix3 0 q j) = A1 m c (ix3 (part t) q j) := by
  show A1 m c ((win0_2.rect t).emb (ix3 0 q j)) = _
  refine congrArg _ (idx_ext3 ?_ ?_ ?_)
  · rw [win0_2.rect_emb_val t, (idx_facts t).2.2.1.1]
    show t.val % 4 * 1 + 0 = t.val % 4
    omega
  · rw [win0_2.rect_emb_val t, (idx_facts t).2.2.1.2.1]
    show 0 * 2048 + q.val = q.val
    omega
  · rw [win0_2.rect_emb_val t, (idx_facts t).2.2.1.2.2]
    show 0 * 1408 + j.val = j.val
    omega

theorem iblk3_apply (c : Dev nD) (t : Fin cfg0.N) (q : Fin 2048) (j : Fin 1408) :
    iblk m c 3 t (ix3 0 q j) = A3 m c (ix3 (part t) q j) := by
  show A3 m c ((win0_3.rect t).emb (ix3 0 q j)) = _
  refine congrArg _ (idx_ext3 ?_ ?_ ?_)
  · rw [win0_3.rect_emb_val t, (idx_facts t).2.2.2.1.1]
    show t.val % 4 * 1 + 0 = t.val % 4
    omega
  · rw [win0_3.rect_emb_val t, (idx_facts t).2.2.2.1.2.1]
    show 0 * 2048 + q.val = q.val
    omega
  · rw [win0_3.rect_emb_val t, (idx_facts t).2.2.2.1.2.2]
    show 0 * 1408 + j.val = j.val
    omega

/-! ## The body at an entry -/

/-- A block of rows times a block of the weight, transposed, onto zero: the sum over the block's columns. -/
theorem prod_apply (w : Vec Ideal S1x2048x1408 .bf16) (x : Vec Ideal S512x1408 .bf16) (r : Fin 512) (q : Fin 2048) :
    matmul (F := Ideal) (φ₁ := .bf16) (φ₂ := .bf16) dot_S512x1408_S2048x1408_S512x2048_1_1_0_0_n_n none x
      (shapeCast S2048x1408 w shapeCasts_S1x2048x1408_S2048x1408 : FVec Ideal S2048x1408 .bf16) (constant S512x2048 .f32 0x00000000#32) (ix2 r q)
      = ∑ j : Fin 1408, pr (x (ix2 r j)) (w (ix3 0 q j)) := by
  refine (Ideal.matmul_transposedRhs_apply (M := 512) (K := 1408) (N := 2048) (φ₁ := .bf16) (φ₂ := .bf16) none x _ _ r q).trans ?_
  refine (congrArg (· + _) Ideal.ofBits_zero_f32).trans ((zero_add _).trans (Finset.sum_congr rfl fun j _ => ?_))
  refine congrArg (pr (x (ix2 r j))) (shapeCast_apply _ shapeCasts_S1x2048x1408_S2048x1408 (ix2 q j) (ix3 0 q j) ?_)
  rewrite [Shape.rowMajor_val_two, Shape.rowMajor_val_three]
  show (0 * 2048 + q.val) * 1408 + j.val = q.val * 1408 + j.val
  omega

theorem pay1_apply (w : Vec Ideal S1x2048x1408 .bf16) (x : Vec Ideal S512x1408 .bf16) (w' : Vec Ideal S1x2048x1408 .bf16)
    (x' : Vec Ideal S512x1408 .bf16) (r : Fin 512) (q : Fin 2048) :
    k0_pay1 w x w' x' (ix2 r q)
      = plus (∑ j : Fin 1408, pr (x (ix2 r j)) (w (ix3 0 q j))) (∑ j : Fin 1408, pr (x' (ix2 r j)) (w' (ix3 0 q j))) :=
  congrArg₂ plus (prod_apply w x r q) (prod_apply w' x' r q)

/-! ## What the result's block holds after each point -/

/-- What point `t` adds to the block. -/
abbrev step (c : Dev nD) (t : Fin cfg0.N) : FVec Ideal S512x2048 .f32 :=
  k0_pay1 (iblk m c 2 t) (iblk m c 0 t) (iblk m c 3 t) (iblk m c 1 t)

/-- At the first contracted block the point stores its term. -/
theorem out_A (c : Dev nD) (i : grid0.Coords) (a3 : Memref sig .tc .vmem S512x1408 .bf16) (h3 : a3.IsWhole)
    (a4 : Memref sig .tc .vmem S512x1408 .bf16) (h4 : a4.IsWhole) (a5 : Memref sig .tc .vmem S1x2048x1408 .bf16) (h5 : a5.IsWhole)
    (a6 : Memref sig .tc .vmem S1x2048x1408 .bf16) (h6 : a6.IsWhole) (a7 : Memref sig .tc .vmem S512x2048 .f32) (h7 : a7.IsWhole)
    (hc0 : cond0_0 i) (hc1 : ¬cond0_1 i) (x0 x1 : Vec Ideal S512x1408 .bf16) (x2 x3 : Vec Ideal S1x2048x1408 .bf16) :
    out0_A_4 c i a3 h3 a4 h4 a5 h5 a6 h6 a7 h7 hc0 hc1 x0 x1 x2 x3 = k0_pay1 x2 x0 x3 x1 := by
  unfold out0_A_4
  rw [View.read_writes_eq_canon _ _ _ (cover0_A_4 c i a3 h3 a4 h4 a5 h5 a6 h6 a7 h7 hc0 hc1 x0 x1 x2 x3)]
  unfold kernelRun0_A
  dsimp only
  rw [View.canon_unit_zero hz]
  simp only [View.readAt_eq_ld, h3.read_unread, h4.read_unread, h5.read_unread, h6.read_unread,
    View.ld_unit_zero (S := S512x1408) hz, View.ld_unit_zero (S := S1x2048x1408) hz3]

/-- At a later contracted block the point adds its term to what the block held. -/
theorem out_B (c : Dev nD) (i : grid0.Coords) (a3 : Memref sig .tc .vmem S512x1408 .bf16) (h3 : a3.IsWhole)
    (a4 : Memref sig .tc .vmem S512x1408 .bf16) (h4 : a4.IsWhole) (a5 : Memref sig .tc .vmem S1x2048x1408 .bf16) (h5 : a5.IsWhole)
    (a6 : Memref sig .tc .vmem S1x2048x1408 .bf16) (h6 : a6.IsWhole) (a7 : Memref sig .tc .vmem S512x2048 .f32) (h7 : a7.IsWhole)
    (hc0 : ¬cond0_0 i) (hc1 : cond0_1 i) (x0 x1 : Vec Ideal S512x1408 .bf16) (x2 x3 : Vec Ideal S1x2048x1408 .bf16)
    (xo : Vec Ideal S512x2048 .f32) :
    out0_B_4 c i a3 h3 a4 h4 a5 h5 a6 h6 a7 h7 hc0 hc1 x0 x1 x2 x3 xo = addf (F := Ideal) xo (k0_pay1 x2 x0 x3 x1) := by
  unfold out0_B_4
  rw [View.read_writes_eq_canon _ _ _ (cover0_B_4 c i a3 h3 a4 h4 a5 h5 a6 h6 a7 h7 hc0 hc1 x0 x1 x2 x3 xo)]
  unfold kernelRun0_B
  dsimp only
  rw [View.canon_unit_zero hz]
  unfold k0_pay2
  simp only [View.readAt_eq_ld, h3.read_unread, h4.read_unread, h5.read_unread, h6.read_unread, h7.read_unread,
    View.ld_unit_zero (S := S512x1408) hz, View.ld_unit_zero (S := S1x2048x1408) hz3, View.ld_unit_zero (S := S512x2048) hz,
    shapeCast_self]

theorem outs_first (c : Dev nD) (n : ℕ) (h : n < cfg0.N) (h0 : n % 4 = 0) : outsAt0 m c n h = step m c ⟨n, h⟩ :=
  (outsAt0_A m c ⟨n, h⟩ h0 (by dsimp only; omega)).trans (out_A ..)

theorem outs_next (c : Dev nD) (n : ℕ) (h : n + 1 < cfg0.N) (h0 : ¬(n + 1) % 4 = 0) :
    outsAt0 m c (n + 1) h = addf (F := Ideal) (outsAt0 m c n (Nat.lt_of_succ_lt h)) (step m c ⟨n + 1, h⟩) :=
  (outsAt0_B m c ⟨n + 1, h⟩ h0 (by dsimp only; omega)).trans (out_B ..)

/-- After the last contracted block the block holds the four points' terms added first to last. -/
theorem outs_last (c : Dev nD) (n : ℕ) (h : n + 3 < cfg0.N) (h0 : n % 4 = 0) (e : S512x2048.Idx) :
    outsAt0 m c (n + 3) h e = plus (plus (plus (step m c ⟨n, by omega⟩ e) (step m c ⟨n + 1, by omega⟩ e))
      (step m c ⟨n + 2, by omega⟩ e)) (step m c ⟨n + 3, h⟩ e) := by
  rw [outs_next m c (n + 2) h (by omega), outs_next m c (n + 1) (by omega) (by omega), outs_next m c n (by omega) (by omega),
    outs_first m c n (by omega) h0]
  rfl

/-- The two products' terms of contracted block `b`, at row `i` and column `q`. -/
def gAt (x : Vec Ideal S4096x5632 .bf16) (w : Vec Ideal S4x2048x1408 .bf16) (b : Fin 4) (i : Fin 4096) (q : Fin 2048) : EReal :=
  ∑ j : Fin 1408, pr (x (ix2 i (colOf b j))) (w (ix3 b q j))

theorem step_apply (c : Dev nD) (t : Fin cfg0.N) (g : ℕ) (hg : g < 8) (b : Fin 4) (e : t.val = g * 4 + b.val) (r : Fin 512)
    (q : Fin 2048) : step m c t (ix2 r q)
      = plus (gAt (A0 m c) (A1 m c) b (row g hg r) q) (gAt (A2 m c) (A3 m c) b (row g hg r) q) := by
  have hb : part t = b := Fin.ext (by show t.val % 4 = b.val; omega)
  have hr : row (t.val / 4) (group_lt t) r = row g hg r := Fin.ext (by show t.val / 4 * 512 + r.val = g * 512 + r.val; omega)
  refine (pay1_apply _ _ _ _ r q).trans (congrArg₂ plus (Finset.sum_congr rfl fun j _ => ?_) (Finset.sum_congr rfl fun j _ => ?_))
  · rw [iblk0_apply, iblk2_apply, hb, hr]
  · rw [iblk1_apply, iblk3_apply, hb, hr]

/-! ## The reference at an entry -/

section Ref
open Cert.Reference5Ideal.Read

theorem ref_g (x : Vec Ideal S4096x5632 .bf16) (w : Vec Ideal S4x2048x1408 .bf16) (i : Fin 4096) (q : Fin 2048) :
    ∑ k : Fin 5632, pr (x (ix2 i k)) (w (ix3 ⟨k.val / 1408, by omega⟩ q ⟨k.val % 1408, by omega⟩))
      = plus (plus (plus (gAt x w 0 i q) (gAt x w 1 i q)) (gAt x w 2 i q)) (gAt x w 3 i q) := by
  refine (sum_blocks (N := 1408) rfl _).trans ?_
  have e : ∀ b : Fin 4, (∑ j : Fin 1408, pr (x (ix2 i (colOf b j))) (w (ix3 ⟨(colOf b j).val / 1408, by omega⟩ q ⟨(colOf b j).val % 1408, by omega⟩)))
      = gAt x w b i q := fun b => Finset.sum_congr rfl fun j _ => by
    refine congrArg (pr _) (congrArg w (idx_ext3 ?_ rfl ?_))
    · show (b.val * 1408 + j.val) / 1408 = b.val
      omega
    · show (b.val * 1408 + j.val) % 1408 = j.val
      omega
  rw [← e 0, ← e 1, ← e 2, ← e 3]

theorem ref12 (x0 : Vec Ideal S4096x5632 .bf16) (x1 : Vec Ideal S4x2048x1408 .bf16) (i : Fin 4096) (q : Fin 2048) :
    val_main_v12 (F := Ideal) x0 x1 (ix2 i q)
      = ∑ k : Fin 5632, pr (x0 (ix2 i k)) (x1 (ix3 ⟨k.val / 1408, by omega⟩ q ⟨k.val % 1408, by omega⟩)) := by
  rw [val_main_v12_apply]
  refine Finset.sum_congr rfl fun k _ => ?_
  rw [val_main_v0_apply, val_main_v6_apply, val_main_v5_apply, val_main_v1_apply]
  show pr (x0 _) (x1 _) = _
  refine congrArg₂ pr (congrArg x0 (Shape.idx_ext₂ rfl rfl)) (congrArg x1 (idx_ext3 ?_ ?_ ?_))
  · show (q.val * 5632 + k.val) / 1408 % 4 = k.val / 1408
    omega
  · show (q.val * 5632 + k.val) / 5632 = q.val
    omega
  · show (q.val * 5632 + k.val) % 1408 = k.val % 1408
    omega

theorem ref11 (x2 : Vec Ideal S4096x5632 .bf16) (x3 : Vec Ideal S4x2048x1408 .bf16) (i : Fin 4096) (q : Fin 2048) :
    val_main_v11 (F := Ideal) x2 x3 (ix2 i q)
      = ∑ k : Fin 5632, pr (x2 (ix2 i k)) (x3 (ix3 ⟨k.val / 1408, by omega⟩ q ⟨k.val % 1408, by omega⟩)) := by
  rw [val_main_v11_apply]
  refine Finset.sum_congr rfl fun k _ => ?_
  rw [val_main_v2_apply, val_main_v9_apply, val_main_v8_apply, val_main_v3_apply]
  show pr (x2 _) (x3 _) = _
  refine congrArg₂ pr (congrArg x2 (Shape.idx_ext₂ rfl rfl)) (congrArg x3 (idx_ext3 ?_ ?_ ?_))
  · show (q.val * 5632 + k.val) / 1408 % 4 = k.val / 1408
    omega
  · show (q.val * 5632 + k.val) / 5632 = q.val
    omega
  · show (q.val * 5632 + k.val) % 1408 = k.val % 1408
    omega

theorem ref13 (x0 : Vec Ideal S4096x5632 .bf16) (x1 : Vec Ideal S4x2048x1408 .bf16) (x2 : Vec Ideal S4096x5632 .bf16)
    (x3 : Vec Ideal S4x2048x1408 .bf16) (i : Fin 4096) (q : Fin 2048) :
    val_main_v13 (F := Ideal) x0 x1 x2 x3 (ix2 i q)
      = plus (plus (plus (plus (gAt x2 x3 0 i q) (gAt x2 x3 1 i q)) (gAt x2 x3 2 i q)) (gAt x2 x3 3 i q))
          (plus (plus (plus (gAt x0 x1 0 i q) (gAt x0 x1 1 i q)) (gAt x0 x1 2 i q)) (gAt x0 x1 3 i q)) := by
  rw [val_main_v13_apply]
  exact congrArg₂ plus ((ref11 x2 x3 i q).trans (ref_g x2 x3 i q)) ((ref12 x0 x1 i q).trans (ref_g x0 x1 i q))

/-- The reference's result on the arguments of device `c`. -/
abbrev R (c : Dev nD) : Vec Ideal S4096x2048 .f32 := val_main_v13 (F := Ideal) (A0 m c) (A1 m c) (A2 m c) (A3 m c)

end Ref

theorem emb_eq (t : Fin cfg0.N) (g : ℕ) (hg : g < 8) (e : t.val / 4 = g) (r : Fin 512) (q : Fin 2048) :
    (win0_4.rect t).emb (ix2 r q) = ix2 (row g hg r) q := by
  subst e
  refine Shape.idx_ext₂ ?_ ?_
  · rw [win0_4.rect_emb_val t, (idx_facts t).2.2.2.2.1]; rfl
  · rw [win0_4.rect_emb_val t, (idx_facts t).2.2.2.2.2]
    show 0 * 2048 + q.val = q.val
    omega

/-- Each write-back, at the last contracted block, writes its block of the reference's array. -/
theorem flushed_eq (c : Dev nD) (t : Fin cfg0.N) (hf : (cfg0.win 4).flush t = true) :
    (dats m 0 c).flushed 4 t = ((cfg0.win 4).blk t).view.read (Elt Ideal) (R m c) := by
  have h3 : t.val % 4 = 3 := (flush0_4 t).mp hf
  have hN : t.val < 32 := lt_of_lt_of_eq t.isLt (show cfg0.N = 32 from N_0)
  have hg : t.val / 4 < 8 := group_lt t
  rw [Value.flushed4]
  funext e
  obtain ⟨r, q, rfl⟩ : ∃ (r : Fin 512) (q : Fin 2048), e = ix2 r q := ⟨e 0, e 1, eq_ix2 e⟩
  show outsAt0 m c t.val t.isLt (ix2 r q) = R m c ((win0_4.rect t).emb (ix2 r q))
  rw [emb_eq t (t.val / 4) hg rfl]
  obtain ⟨n, hn⟩ := t
  obtain ⟨k, rfl⟩ : ∃ k, n = k + 3 := ⟨n - 3, by dsimp only at h3; omega⟩
  dsimp only at h3 hN hg ⊢
  rw [outs_last m c k hn (by omega),
    step_apply m c ⟨k, _⟩ ((k + 3) / 4) hg 0 (by show k = (k + 3) / 4 * 4 + 0; omega),
    step_apply m c ⟨k + 1, _⟩ ((k + 3) / 4) hg 1 (by show k + 1 = (k + 3) / 4 * 4 + 1; omega),
    step_apply m c ⟨k + 2, _⟩ ((k + 3) / 4) hg 2 (by show k + 2 = (k + 3) / 4 * 4 + 2; omega),
    step_apply m c ⟨k + 3, _⟩ ((k + 3) / 4) hg 3 (by show k + 3 = (k + 3) / 4 * 4 + 3; omega)]
  exact (plus_pairs _ _ _ _ _ _ _ _).trans (ref13 _ _ _ _ _ _).symm

/-- The kernel's result array is the reference's. -/
theorem final (c : Dev nD) : (dats m 0 c).arrAt 4 cfg0.N = R m c :=
  (dats m 0 c).arrAt_eq_of_cover 4 (R m c) (flushed_eq m c) (Pipeline.Window.Covers.cover _ (by decide +kernel) (Memref.isWhole_whole _))

end Cert.Kernel5Ideal.H2

end
-- ==== Proof.DH2Claim.lean ====
/-
  The value claim about the gradient of the feed-forward block's input, from the kernel's run and the reference's.
-/
module

public import proofs.«01_k».proof.Defs
public import proofs.«01_k».proof.Proof.DH2

@[expose] public section

set_option maxRecDepth 16384

noncomputable section

open Idealize.ShloMosaic Idealize.ShloMosaic.TcCoe Idealize.SL.Sem

namespace Cert.DH2Claim

open Cert.Kernel5Ideal.H2

/-- The kernel and the reference end with equal results: at every entry, the sum of the two sums over the contracted axis of the
    products of the two arguments' entries. -/
theorem algebraic : Cert.algebraic_Kernel5Ideal_Reference5Ideal := by
  intro m ρ m' ρ' _ hagree
  refine ⟨R m, ?_, ?_⟩
  · refine (θ_run _ _ _).mono (fun r h c => ?_) (Cert.Kernel5Ideal.Value.run_blocks (F := Ideal) m ρ)
    obtain ⟨h2, hargs⟩ := h c
    exact ⟨h2.trans (final m c), hargs⟩
  · refine (θ_run _ _ _).mono (fun r h c => ?_) (Cert.Reference5Ideal.Value.run (F := Ideal) m' ρ')
    obtain ⟨e0, e1, e2, e3⟩ := hagree c
    obtain ⟨h0, hargs⟩ := h c
    rw [Cert.Reference5Ideal.Read.val_main_v13_eq, e0, e1, e2, e3] at h0
    exact ⟨h0, hargs⟩

end Cert.DH2Claim

end
-- ==== Proof.DwDown.lean ====
/-
  The gradient of the second feed-forward weight: the kernel's result array is the reference's, entry by entry.
-/
module

public import proofs.«01_k».proof.Proof.Gen.Kernel6Ideal.Value
public import proofs.«01_k».proof.Proof.Gen.Reference6Ideal.Read
public import proofs.«01_k».proof.Proof.Products

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel6Ideal.Down

open Cert.Reference6Ideal.Read

open Cert.Kernel6Ideal Cert.Kernel6Ideal.Gen Cert.Products

variable (m : (ℓ : Loc nD τ sig) → Buf (Elt Ideal) ℓ)

/-- The two arguments on device `c`. -/
abbrev A0 (c : Dev nD) : Vec Ideal S4096x5632 .bf16 := m ((c : Thread nD τ).loc main_arg0)
abbrev A1 (c : Dev nD) : Vec Ideal S4096x2048 .bf16 := m ((c : Thread nD τ).loc main_arg1)

/-- How the windows move together. -/
theorem idx_facts : ∀ t : Fin cfg0.N,
    (win0_0.index t 0 = 0 ∧ win0_0.index t 1 = win0_2.index t 0)
    ∧ (win0_1.index t 0 = 0 ∧ win0_1.index t 1 = 0)
    ∧ (win0_2.index t 0 < 11 ∧ win0_2.index t 1 = 0) :=
  (by decide +kernel : ∀ t : Fin grid0.N, _)

/-- The row of the result array that row `r` of point `t`'s block is. -/
def row (t : Fin cfg0.N) (r : Fin 512) : Fin 5632 :=
  ⟨win0_2.index t 0 * 512 + r.val, by have h := (idx_facts t).2.2.1; omega⟩

theorem iblk0_apply (c : Dev nD) (t : Fin cfg0.N) (k : Fin 4096) (r : Fin 512) :
    iblk m c 0 t (ix2 k r) = A0 m c (ix2 k (row t r)) := by
  show A0 m c ((win0_0.rect t).emb (ix2 k r)) = _
  refine congrArg _ (Shape.idx_ext₂ ?_ ?_)
  · rw [win0_0.rect_emb_val t, (idx_facts t).1.1]
    show 0 * 4096 + k.val = k.val
    omega
  · rw [win0_0.rect_emb_val t, (idx_facts t).1.2]; rfl

theorem iblk1_apply (c : Dev nD) (t : Fin cfg0.N) (k : Fin 4096) (q : Fin 2048) :
    iblk m c 1 t (ix2 k q) = A1 m c (ix2 k q) := by
  show A1 m c ((win0_1.rect t).emb (ix2 k q)) = _
  refine congrArg _ (Shape.idx_ext₂ ?_ ?_)
  · rw [win0_1.rect_emb_val t, (idx_facts t).2.1.1]
    show 0 * 4096 + k.val = k.val
    omega
  · rw [win0_1.rect_emb_val t, (idx_facts t).2.1.2]
    show 0 * 2048 + q.val = q.val
    omega

/-- What the body stores at an entry of the block: the sum over the contracted axis. -/
theorem pay1_apply (w : Vec Ideal S4096x2048 .bf16) (x : Vec Ideal S4096x512 .bf16) (r : Fin 512) (q : Fin 2048) :
    k0_pay1 w x (ix2 r q) = ∑ k : Fin 4096, pr (x (ix2 k r)) (w (ix2 k q)) := by
  unfold k0_pay1
  exact matmul_firstAxes_zero (M := 512) (K := 4096) (N := 2048) (φ₁ := .bf16) (φ₂ := .bf16) none x w r q

/-- The reference's result at an entry. -/
theorem ref_apply (x0 : Vec Ideal S4096x5632 .bf16) (x1 : Vec Ideal S4096x2048 .bf16) (r : Fin 5632) (q : Fin 2048) :
    val_main_v6 (F := Ideal) x0 x1 (ix2 r q)
      = ∑ k : Fin 4096, pr (x0 (ix2 k r)) (x1 (ix2 k q)) := by
  rw [val_main_v6_apply, val_main_v5_apply]
  refine (val_main_v4_apply x0 x1 _).trans (Finset.sum_congr rfl fun k _ => ?_)
  rw [val_main_v0_apply, val_main_v1_apply]
  refine Eq.trans ?_ (pr_comm (x1 (ix2 k q)) (x0 (ix2 k r)))
  exact congrArg₂ pr (congrArg x1 (Shape.idx_ext₂ rfl rfl)) (congrArg x0 (Shape.idx_ext₂ rfl rfl))

/-- The reference's result on the arguments of device `c`. -/
abbrev R (c : Dev nD) : Vec Ideal S5632x2048 .bf16 := val_main_v6 (F := Ideal) (A0 m c) (A1 m c)

theorem emb_eq (t : Fin cfg0.N) (r : Fin 512) (q : Fin 2048) : (win0_2.rect t).emb (ix2 r q) = ix2 (row t r) q := by
  refine Shape.idx_ext₂ (win0_2.rect_emb_val t _ 0) ?_
  rw [win0_2.rect_emb_val t, (idx_facts t).2.2.2]
  show 0 * 2048 + q.val = q.val
  omega

/-- Each point writes back its block of the reference's array. -/
theorem flushed_eq (c : Dev nD) (t : Fin cfg0.N) :
    (dats m 0 c).flushed 2 t = ((cfg0.win 2).blk t).view.read (Elt Ideal) (R m c) := by
  rw [Value.flushed2]
  unfold out0_2
  rw [View.canon_unit_zero hz, View.ld_unit_zero hz, View.ld_unit_zero hz]
  funext j
  obtain ⟨r, q, rfl⟩ : ∃ (r : Fin 512) (q : Fin 2048), j = ix2 r q := ⟨j 0, j 1, eq_ix2 j⟩
  show k0_pay1 (iblk m c 1 t) (iblk m c 0 t) (ix2 r q) = R m c ((win0_2.rect t).emb (ix2 r q))
  rw [emb_eq, pay1_apply]
  refine Eq.trans (Finset.sum_congr rfl fun k _ => ?_) (ref_apply _ _ _ _).symm
  rw [iblk0_apply, iblk1_apply]

/-- The kernel's result array is the reference's. -/
theorem final (c : Dev nD) : (dats m 0 c).arrAt 2 cfg0.N = R m c :=
  (dats m 0 c).arrAt_eq_of_cover 2 (R m c) (fun t _ => flushed_eq m c t) (Pipeline.Window.Covers.cover _ (by decide +kernel) (Memref.isWhole_whole _))

end Cert.Kernel6Ideal.Down

end
-- ==== Proof.DwDownClaim.lean ====
/-
  The value claim about the gradient of the second feed-forward weight, from the kernel's run and the reference's.
-/
module

public import proofs.«01_k».proof.Defs
public import proofs.«01_k».proof.Proof.DwDown

@[expose] public section

set_option maxRecDepth 16384

noncomputable section

open Idealize.ShloMosaic Idealize.ShloMosaic.TcCoe Idealize.SL.Sem

namespace Cert.DwDownClaim

open Cert.Kernel6Ideal.Down

/-- The kernel and the reference end with equal results: at every entry, the sum over the contracted axis of the
    products of the two arguments' entries. -/
theorem algebraic : Cert.algebraic_Kernel6Ideal_Reference6Ideal := by
  intro m ρ m' ρ' _ hagree
  refine ⟨R m, ?_, ?_⟩
  · refine (θ_run _ _ _).mono (fun r h c => ?_) (Cert.Kernel6Ideal.Value.run_blocks (F := Ideal) m ρ)
    obtain ⟨h2, hargs⟩ := h c
    exact ⟨h2.trans (final m c), hargs⟩
  · refine (θ_run _ _ _).mono (fun r h c => ?_) (Cert.Reference6Ideal.Value.run (F := Ideal) m' ρ')
    obtain ⟨e0, e1⟩ := hagree c
    obtain ⟨h0, hargs⟩ := h c
    rw [Cert.Reference6Ideal.Read.val_main_v6_eq, e0, e1] at h0
    exact ⟨h0, hargs⟩

end Cert.DwDownClaim

end
-- ==== Proof.DwGate.lean ====
/-
  The gradient of the feed-forward gate weight, in blocks of columns: the kernel's result array is the reference's, entry by entry.
-/
module

public import proofs.«01_k».proof.Proof.Gen.Kernel7Ideal.Value
public import proofs.«01_k».proof.Proof.Gen.Reference7Ideal.Read
public import proofs.«01_k».proof.Proof.Products

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel7Ideal.Gate

open Cert.Reference7Ideal.Read

open Cert.Kernel7Ideal Cert.Kernel7Ideal.Gen Cert.Products

variable (m : (ℓ : Loc nD τ sig) → Buf (Elt Ideal) ℓ)

/-- The two arguments on device `c`. -/
abbrev A0 (c : Dev nD) : Vec Ideal S4096x2048 .bf16 := m ((c : Thread nD τ).loc main_arg0)
abbrev A1 (c : Dev nD) : Vec Ideal S4096x5632 .bf16 := m ((c : Thread nD τ).loc main_arg1)

/-- How the windows move together. -/
theorem idx_facts : ∀ t : Fin cfg0.N,
    (win0_0.index t 0 = 0 ∧ win0_0.index t 1 = win0_2.index t 1)
    ∧ (win0_1.index t 0 = 0 ∧ win0_1.index t 1 = win0_2.index t 0)
    ∧ (win0_2.index t 0 < 4 ∧ win0_2.index t 1 < 2 ∧ win0_2.index t 2 = 0) :=
  (by decide +kernel : ∀ t : Fin grid0.N, _)

/-- The block column, and the row within it, of the result array that row `r` of point `t`'s block is. -/
def blk (t : Fin cfg0.N) : Fin 4 := ⟨win0_2.index t 0, (idx_facts t).2.2.1⟩
def row (t : Fin cfg0.N) (r : Fin 1024) : Fin 2048 :=
  ⟨win0_2.index t 1 * 1024 + r.val, by have h := (idx_facts t).2.2.2.1; omega⟩

/-- Column `q` of block column `b` of an array of 5632 columns. -/
def colOf (b : Fin 4) (q : Fin 1408) : Fin 5632 := ⟨b.val * 1408 + q.val, by omega⟩

theorem iblk0_apply (c : Dev nD) (t : Fin cfg0.N) (k : Fin 4096) (r : Fin 1024) :
    iblk m c 0 t (ix2 k r) = A0 m c (ix2 k (row t r)) := by
  show A0 m c ((win0_0.rect t).emb (ix2 k r)) = _
  refine congrArg _ (Shape.idx_ext₂ ?_ ?_)
  · rw [win0_0.rect_emb_val t, (idx_facts t).1.1]
    show 0 * 4096 + k.val = k.val
    omega
  · rw [win0_0.rect_emb_val t, (idx_facts t).1.2]; rfl

theorem iblk1_apply (c : Dev nD) (t : Fin cfg0.N) (k : Fin 4096) (q : Fin 1408) :
    iblk m c 1 t (ix2 k q) = A1 m c (ix2 k (colOf (blk t) q)) := by
  show A1 m c ((win0_1.rect t).emb (ix2 k q)) = _
  refine congrArg _ (Shape.idx_ext₂ ?_ ?_)
  · rw [win0_1.rect_emb_val t, (idx_facts t).2.1.1]
    show 0 * 4096 + k.val = k.val
    omega
  · rw [win0_1.rect_emb_val t, (idx_facts t).2.1.2]; rfl

/-- What the body stores at an entry of the block: the sum over the contracted axis. -/
theorem pay1_apply (w : Vec Ideal S4096x1408 .bf16) (x : Vec Ideal S4096x1024 .bf16) (z : Fin 1) (r : Fin 1024) (q : Fin 1408) :
    k0_pay1 w x (ix3 z r q) = ∑ k : Fin 4096, pr (x (ix2 k r)) (w (ix2 k q)) := by
  unfold k0_pay1
  refine (shapeCast_apply _ shapeCasts_S1024x1408_S1x1024x1408 (ix3 z r q) (ix2 r q) ?_).trans ?_
  · rewrite [Shape.rowMajor_val_two, Shape.rowMajor_val_three]
    show r.val * 1408 + q.val = (z.val * 1024 + r.val) * 1408 + q.val
    have hz : z.val = 0 := by omega
    rw [hz]; omega
  exact matmul_firstAxes_zero (M := 1024) (K := 4096) (N := 1408) (φ₁ := .bf16) (φ₂ := .bf16) none x w r q

/-- The reference's result at an entry. -/
theorem ref_apply (x0 : Vec Ideal S4096x2048 .bf16) (x1 : Vec Ideal S4096x5632 .bf16) (b : Fin 4) (r : Fin 2048) (q : Fin 1408) :
    val_main_v10 (F := Ideal) x0 x1 (ix3 b r q)
      = ∑ k : Fin 4096, pr (x0 (ix2 k r)) (x1 (ix2 k (colOf b q))) := by
  rw [val_main_v10_apply, val_main_v9_apply, val_main_v8_apply, val_main_v7_apply]
  refine (val_main_v6_apply x0 x1 _).trans (Finset.sum_congr rfl fun k _ => ?_)
  rw [val_main_v0_apply, val_main_v1_apply]
  refine Eq.trans ?_ (pr_comm (x1 (ix2 k (colOf b q))) (x0 (ix2 k r)))
  show pr (x1 _) (x0 _) = _
  refine congrArg₂ pr (congrArg x1 (Shape.idx_ext₂ rfl ?_)) (congrArg x0 (Shape.idx_ext₂ rfl ?_))
  · show ((r.val * 4 + b.val) * 1408 + q.val) % 5632 = b.val * 1408 + q.val
    omega
  · show ((r.val * 4 + b.val) * 1408 + q.val) / 5632 = r.val
    omega

/-- The reference's result on the arguments of device `c`. -/
abbrev R (c : Dev nD) : Vec Ideal S4x2048x1408 .bf16 := val_main_v10 (F := Ideal) (A0 m c) (A1 m c)

theorem emb_eq (t : Fin cfg0.N) (z : Fin 1) (r : Fin 1024) (q : Fin 1408) :
    (win0_2.rect t).emb (ix3 z r q) = ix3 (blk t) (row t r) q := by
  refine idx_ext3 ?_ (win0_2.rect_emb_val t _ 1) ?_
  · rw [win0_2.rect_emb_val t]
    show win0_2.index t 0 * 1 + z.val = win0_2.index t 0
    omega
  · rw [win0_2.rect_emb_val t, (idx_facts t).2.2.2.2]
    show 0 * 1408 + q.val = q.val
    omega

/-- Each point writes back its block of the reference's array. -/
theorem flushed_eq (c : Dev nD) (t : Fin cfg0.N) :
    (dats m 0 c).flushed 2 t = ((cfg0.win 2).blk t).view.read (Elt Ideal) (R m c) := by
  rw [Value.flushed2]
  unfold out0_2
  rw [View.canon_unit_zero hz3, View.ld_unit_zero hz, View.ld_unit_zero hz]
  funext j
  obtain ⟨z, r, q, rfl⟩ : ∃ (z : Fin 1) (r : Fin 1024) (q : Fin 1408), j = ix3 z r q := ⟨j 0, j 1, j 2, eq_ix3 j⟩
  show k0_pay1 (iblk m c 1 t) (iblk m c 0 t) (ix3 z r q) = R m c ((win0_2.rect t).emb (ix3 z r q))
  rw [emb_eq, pay1_apply]
  refine Eq.trans (Finset.sum_congr rfl fun k _ => ?_) (ref_apply _ _ _ _ _).symm
  rw [iblk0_apply, iblk1_apply]

/-- The kernel's result array is the reference's. -/
theorem final (c : Dev nD) : (dats m 0 c).arrAt 2 cfg0.N = R m c :=
  (dats m 0 c).arrAt_eq_of_cover 2 (R m c) (fun t _ => flushed_eq m c t) (Pipeline.Window.Covers.cover _ (by decide +kernel) (Memref.isWhole_whole _))

end Cert.Kernel7Ideal.Gate

end
-- ==== Proof.DwGateClaim.lean ====
/-
  The value claim about the gradient of the feed-forward gate weight, from the kernel's run and the reference's.
-/
module

public import proofs.«01_k».proof.Defs
public import proofs.«01_k».proof.Proof.DwGate

@[expose] public section

set_option maxRecDepth 16384

noncomputable section

open Idealize.ShloMosaic Idealize.ShloMosaic.TcCoe Idealize.SL.Sem

namespace Cert.DwGateClaim

open Cert.Kernel7Ideal.Gate

/-- The kernel and the reference end with equal results: at every entry, the sum over the contracted axis of the
    products of the two arguments' entries. -/
theorem algebraic : Cert.algebraic_Kernel7Ideal_Reference7Ideal := by
  intro m ρ m' ρ' _ hagree
  refine ⟨R m, ?_, ?_⟩
  · refine (θ_run _ _ _).mono (fun r h c => ?_) (Cert.Kernel7Ideal.Value.run_blocks (F := Ideal) m ρ)
    obtain ⟨h2, hargs⟩ := h c
    exact ⟨h2.trans (final m c), hargs⟩
  · refine (θ_run _ _ _).mono (fun r h c => ?_) (Cert.Reference7Ideal.Value.run (F := Ideal) m' ρ')
    obtain ⟨e0, e1⟩ := hagree c
    obtain ⟨h0, hargs⟩ := h c
    rw [Cert.Reference7Ideal.Read.val_main_v10_eq, e0, e1] at h0
    exact ⟨h0, hargs⟩

end Cert.DwGateClaim

end
-- ==== Proof.DwUp.lean ====
/-
  The gradient of the feed-forward up weight, in blocks of columns: the kernel's result array is the reference's, entry by entry.
-/
module

public import proofs.«01_k».proof.Proof.Gen.Kernel8Ideal.Value
public import proofs.«01_k».proof.Proof.Gen.Reference8Ideal.Read
public import proofs.«01_k».proof.Proof.Products

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel8Ideal.Up

open Cert.Reference8Ideal.Read

open Cert.Kernel8Ideal Cert.Kernel8Ideal.Gen Cert.Products

variable (m : (ℓ : Loc nD τ sig) → Buf (Elt Ideal) ℓ)

/-- The two arguments on device `c`. -/
abbrev A0 (c : Dev nD) : Vec Ideal S4096x2048 .bf16 := m ((c : Thread nD τ).loc main_arg0)
abbrev A1 (c : Dev nD) : Vec Ideal S4096x5632 .bf16 := m ((c : Thread nD τ).loc main_arg1)

/-- How the windows move together. -/
theorem idx_facts : ∀ t : Fin cfg0.N,
    (win0_0.index t 0 = 0 ∧ win0_0.index t 1 = win0_2.index t 1)
    ∧ (win0_1.index t 0 = 0 ∧ win0_1.index t 1 = win0_2.index t 0)
    ∧ (win0_2.index t 0 < 4 ∧ win0_2.index t 1 < 2 ∧ win0_2.index t 2 = 0) :=
  (by decide +kernel : ∀ t : Fin grid0.N, _)

/-- The block column, and the row within it, of the result array that row `r` of point `t`'s block is. -/
def blk (t : Fin cfg0.N) : Fin 4 := ⟨win0_2.index t 0, (idx_facts t).2.2.1⟩
def row (t : Fin cfg0.N) (r : Fin 1024) : Fin 2048 :=
  ⟨win0_2.index t 1 * 1024 + r.val, by have h := (idx_facts t).2.2.2.1; omega⟩

/-- Column `q` of block column `b` of an array of 5632 columns. -/
def colOf (b : Fin 4) (q : Fin 1408) : Fin 5632 := ⟨b.val * 1408 + q.val, by omega⟩

theorem iblk0_apply (c : Dev nD) (t : Fin cfg0.N) (k : Fin 4096) (r : Fin 1024) :
    iblk m c 0 t (ix2 k r) = A0 m c (ix2 k (row t r)) := by
  show A0 m c ((win0_0.rect t).emb (ix2 k r)) = _
  refine congrArg _ (Shape.idx_ext₂ ?_ ?_)
  · rw [win0_0.rect_emb_val t, (idx_facts t).1.1]
    show 0 * 4096 + k.val = k.val
    omega
  · rw [win0_0.rect_emb_val t, (idx_facts t).1.2]; rfl

theorem iblk1_apply (c : Dev nD) (t : Fin cfg0.N) (k : Fin 4096) (q : Fin 1408) :
    iblk m c 1 t (ix2 k q) = A1 m c (ix2 k (colOf (blk t) q)) := by
  show A1 m c ((win0_1.rect t).emb (ix2 k q)) = _
  refine congrArg _ (Shape.idx_ext₂ ?_ ?_)
  · rw [win0_1.rect_emb_val t, (idx_facts t).2.1.1]
    show 0 * 4096 + k.val = k.val
    omega
  · rw [win0_1.rect_emb_val t, (idx_facts t).2.1.2]; rfl

/-- What the body stores at an entry of the block: the sum over the contracted axis. -/
theorem pay1_apply (w : Vec Ideal S4096x1408 .bf16) (x : Vec Ideal S4096x1024 .bf16) (z : Fin 1) (r : Fin 1024) (q : Fin 1408) :
    k0_pay1 w x (ix3 z r q) = ∑ k : Fin 4096, pr (x (ix2 k r)) (w (ix2 k q)) := by
  unfold k0_pay1
  refine (shapeCast_apply _ shapeCasts_S1024x1408_S1x1024x1408 (ix3 z r q) (ix2 r q) ?_).trans ?_
  · rewrite [Shape.rowMajor_val_two, Shape.rowMajor_val_three]
    show r.val * 1408 + q.val = (z.val * 1024 + r.val) * 1408 + q.val
    have hz : z.val = 0 := by omega
    rw [hz]; omega
  exact matmul_firstAxes_zero (M := 1024) (K := 4096) (N := 1408) (φ₁ := .bf16) (φ₂ := .bf16) none x w r q

/-- The reference's result at an entry. -/
theorem ref_apply (x0 : Vec Ideal S4096x2048 .bf16) (x1 : Vec Ideal S4096x5632 .bf16) (b : Fin 4) (r : Fin 2048) (q : Fin 1408) :
    val_main_v10 (F := Ideal) x0 x1 (ix3 b r q)
      = ∑ k : Fin 4096, pr (x0 (ix2 k r)) (x1 (ix2 k (colOf b q))) := by
  rw [val_main_v10_apply, val_main_v9_apply, val_main_v8_apply, val_main_v7_apply]
  refine (val_main_v6_apply x0 x1 _).trans (Finset.sum_congr rfl fun k _ => ?_)
  rw [val_main_v0_apply, val_main_v1_apply]
  refine Eq.trans ?_ (pr_comm (x1 (ix2 k (colOf b q))) (x0 (ix2 k r)))
  show pr (x1 _) (x0 _) = _
  refine congrArg₂ pr (congrArg x1 (Shape.idx_ext₂ rfl ?_)) (congrArg x0 (Shape.idx_ext₂ rfl ?_))
  · show ((r.val * 4 + b.val) * 1408 + q.val) % 5632 = b.val * 1408 + q.val
    omega
  · show ((r.val * 4 + b.val) * 1408 + q.val) / 5632 = r.val
    omega

/-- The reference's result on the arguments of device `c`. -/
abbrev R (c : Dev nD) : Vec Ideal S4x2048x1408 .bf16 := val_main_v10 (F := Ideal) (A0 m c) (A1 m c)

theorem emb_eq (t : Fin cfg0.N) (z : Fin 1) (r : Fin 1024) (q : Fin 1408) :
    (win0_2.rect t).emb (ix3 z r q) = ix3 (blk t) (row t r) q := by
  refine idx_ext3 ?_ (win0_2.rect_emb_val t _ 1) ?_
  · rw [win0_2.rect_emb_val t]
    show win0_2.index t 0 * 1 + z.val = win0_2.index t 0
    omega
  · rw [win0_2.rect_emb_val t, (idx_facts t).2.2.2.2]
    show 0 * 1408 + q.val = q.val
    omega

/-- Each point writes back its block of the reference's array. -/
theorem flushed_eq (c : Dev nD) (t : Fin cfg0.N) :
    (dats m 0 c).flushed 2 t = ((cfg0.win 2).blk t).view.read (Elt Ideal) (R m c) := by
  rw [Value.flushed2]
  unfold out0_2
  rw [View.canon_unit_zero hz3, View.ld_unit_zero hz, View.ld_unit_zero hz]
  funext j
  obtain ⟨z, r, q, rfl⟩ : ∃ (z : Fin 1) (r : Fin 1024) (q : Fin 1408), j = ix3 z r q := ⟨j 0, j 1, j 2, eq_ix3 j⟩
  show k0_pay1 (iblk m c 1 t) (iblk m c 0 t) (ix3 z r q) = R m c ((win0_2.rect t).emb (ix3 z r q))
  rw [emb_eq, pay1_apply]
  refine Eq.trans (Finset.sum_congr rfl fun k _ => ?_) (ref_apply _ _ _ _ _).symm
  rw [iblk0_apply, iblk1_apply]

/-- The kernel's result array is the reference's. -/
theorem final (c : Dev nD) : (dats m 0 c).arrAt 2 cfg0.N = R m c :=
  (dats m 0 c).arrAt_eq_of_cover 2 (R m c) (fun t _ => flushed_eq m c t) (Pipeline.Window.Covers.cover _ (by decide +kernel) (Memref.isWhole_whole _))

end Cert.Kernel8Ideal.Up

end
-- ==== Proof.DwUpClaim.lean ====
/-
  The value claim about the gradient of the feed-forward up weight, from the kernel's run and the reference's.
-/
module

public import proofs.«01_k».proof.Defs
public import proofs.«01_k».proof.Proof.DwUp

@[expose] public section

set_option maxRecDepth 16384

noncomputable section

open Idealize.ShloMosaic Idealize.ShloMosaic.TcCoe Idealize.SL.Sem

namespace Cert.DwUpClaim

open Cert.Kernel8Ideal.Up

/-- The kernel and the reference end with equal results: at every entry, the sum over the contracted axis of the
    products of the two arguments' entries. -/
theorem algebraic : Cert.algebraic_Kernel8Ideal_Reference8Ideal := by
  intro m ρ m' ρ' _ hagree
  refine ⟨R m, ?_, ?_⟩
  · refine (θ_run _ _ _).mono (fun r h c => ?_) (Cert.Kernel8Ideal.Value.run_blocks (F := Ideal) m ρ)
    obtain ⟨h2, hargs⟩ := h c
    exact ⟨h2.trans (final m c), hargs⟩
  · refine (θ_run _ _ _).mono (fun r h c => ?_) (Cert.Reference8Ideal.Value.run (F := Ideal) m' ρ')
    obtain ⟨e0, e1⟩ := hagree c
    obtain ⟨h0, hargs⟩ := h c
    rw [Cert.Reference8Ideal.Read.val_main_v10_eq, e0, e1] at h0
    exact ⟨h0, hargs⟩

end Cert.DwUpClaim

end
-- ==== Proof.DwO.lean ====
/-
  The gradient of the output projection's weight: the kernel's result array is the reference's, entry by entry.
-/
module

public import proofs.«01_k».proof.Proof.Gen.Kernel9Ideal.Value
public import proofs.«01_k».proof.Proof.Gen.Reference9Ideal.Read
public import proofs.«01_k».proof.Proof.Products

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel9Ideal.DwO

open Cert.Reference9Ideal.Read

open Cert.Kernel9Ideal Cert.Kernel9Ideal.Gen Cert.Products

variable (m : (ℓ : Loc nD τ sig) → Buf (Elt Ideal) ℓ)

/-- The two arguments on device `c`. -/
abbrev A0 (c : Dev nD) : Vec Ideal S4096x2048 .bf16 := m ((c : Thread nD τ).loc main_arg0)
abbrev A1 (c : Dev nD) : Vec Ideal S4096x2048 .bf16 := m ((c : Thread nD τ).loc main_arg1)

/-- How the windows move together. -/
theorem idx_facts : ∀ t : Fin cfg0.N,
    (win0_0.index t 0 = 0 ∧ win0_0.index t 1 = win0_2.index t 0)
    ∧ (win0_1.index t 0 = 0 ∧ win0_1.index t 1 = 0)
    ∧ (win0_2.index t 0 < 4 ∧ win0_2.index t 1 = 0) :=
  (by decide +kernel : ∀ t : Fin grid0.N, _)

/-- The row of the result array that row `r` of point `t`'s block is. -/
def row (t : Fin cfg0.N) (r : Fin 512) : Fin 2048 :=
  ⟨win0_2.index t 0 * 512 + r.val, by have h := (idx_facts t).2.2.1; omega⟩

theorem iblk0_apply (c : Dev nD) (t : Fin cfg0.N) (k : Fin 4096) (r : Fin 512) :
    iblk m c 0 t (ix2 k r) = A0 m c (ix2 k (row t r)) := by
  show A0 m c ((win0_0.rect t).emb (ix2 k r)) = _
  refine congrArg _ (Shape.idx_ext₂ ?_ ?_)
  · rw [win0_0.rect_emb_val t, (idx_facts t).1.1]
    show 0 * 4096 + k.val = k.val
    omega
  · rw [win0_0.rect_emb_val t, (idx_facts t).1.2]; rfl

theorem iblk1_apply (c : Dev nD) (t : Fin cfg0.N) (k : Fin 4096) (q : Fin 2048) :
    iblk m c 1 t (ix2 k q) = A1 m c (ix2 k q) := by
  show A1 m c ((win0_1.rect t).emb (ix2 k q)) = _
  refine congrArg _ (Shape.idx_ext₂ ?_ ?_)
  · rw [win0_1.rect_emb_val t, (idx_facts t).2.1.1]
    show 0 * 4096 + k.val = k.val
    omega
  · rw [win0_1.rect_emb_val t, (idx_facts t).2.1.2]
    show 0 * 2048 + q.val = q.val
    omega

/-- What the body stores at an entry of the block: the sum over the contracted axis. -/
theorem pay1_apply (w : Vec Ideal S4096x2048 .bf16) (x : Vec Ideal S4096x512 .bf16) (r : Fin 512) (q : Fin 2048) :
    k0_pay1 w x (ix2 r q) = ∑ k : Fin 4096, pr (x (ix2 k r)) (w (ix2 k q)) := by
  unfold k0_pay1
  exact matmul_firstAxes_zero (M := 512) (K := 4096) (N := 2048) (φ₁ := .bf16) (φ₂ := .bf16) none x w r q

/-- The reference's result at an entry. -/
theorem ref_apply (x0 : Vec Ideal S4096x2048 .bf16) (x1 : Vec Ideal S4096x2048 .bf16) (r : Fin 2048) (q : Fin 2048) :
    val_main_v6 (F := Ideal) x0 x1 (ix2 r q)
      = ∑ k : Fin 4096, pr (x0 (ix2 k r)) (x1 (ix2 k q)) := by
  rw [val_main_v6_apply, val_main_v5_apply]
  refine (val_main_v4_apply x0 x1 _).trans (Finset.sum_congr rfl fun k _ => ?_)
  rw [val_main_v0_apply, val_main_v1_apply]
  refine Eq.trans ?_ (pr_comm (x1 (ix2 k q)) (x0 (ix2 k r)))
  exact congrArg₂ pr (congrArg x1 (Shape.idx_ext₂ rfl rfl)) (congrArg x0 (Shape.idx_ext₂ rfl rfl))

/-- The reference's result on the arguments of device `c`. -/
abbrev R (c : Dev nD) : Vec Ideal S2048x2048 .bf16 := val_main_v6 (F := Ideal) (A0 m c) (A1 m c)

theorem emb_eq (t : Fin cfg0.N) (r : Fin 512) (q : Fin 2048) : (win0_2.rect t).emb (ix2 r q) = ix2 (row t r) q := by
  refine Shape.idx_ext₂ (win0_2.rect_emb_val t _ 0) ?_
  rw [win0_2.rect_emb_val t, (idx_facts t).2.2.2]
  show 0 * 2048 + q.val = q.val
  omega

/-- Each point writes back its block of the reference's array. -/
theorem flushed_eq (c : Dev nD) (t : Fin cfg0.N) :
    (dats m 0 c).flushed 2 t = ((cfg0.win 2).blk t).view.read (Elt Ideal) (R m c) := by
  rw [Value.flushed2]
  unfold out0_2
  rw [View.canon_unit_zero hz, View.ld_unit_zero hz, View.ld_unit_zero hz]
  funext j
  obtain ⟨r, q, rfl⟩ : ∃ (r : Fin 512) (q : Fin 2048), j = ix2 r q := ⟨j 0, j 1, eq_ix2 j⟩
  show k0_pay1 (iblk m c 1 t) (iblk m c 0 t) (ix2 r q) = R m c ((win0_2.rect t).emb (ix2 r q))
  rw [emb_eq, pay1_apply]
  refine Eq.trans (Finset.sum_congr rfl fun k _ => ?_) (ref_apply _ _ _ _).symm
  rw [iblk0_apply, iblk1_apply]

/-- The kernel's result array is the reference's. -/
theorem final (c : Dev nD) : (dats m 0 c).arrAt 2 cfg0.N = R m c :=
  (dats m 0 c).arrAt_eq_of_cover 2 (R m c) (fun t _ => flushed_eq m c t) (Pipeline.Window.Covers.cover _ (by decide +kernel) (Memref.isWhole_whole _))

end Cert.Kernel9Ideal.DwO

end
-- ==== Proof.DwOClaim.lean ====
/-
  The value claim about the gradient of the output projection's weight, from the kernel's run and the reference's.
-/
module

public import proofs.«01_k».proof.Defs
public import proofs.«01_k».proof.Proof.DwO

@[expose] public section

set_option maxRecDepth 16384

noncomputable section

open Idealize.ShloMosaic Idealize.ShloMosaic.TcCoe Idealize.SL.Sem

namespace Cert.DwOClaim

open Cert.Kernel9Ideal.DwO

/-- The kernel and the reference end with equal results: at every entry, the sum over the contracted axis of the
    products of the two arguments' entries. -/
theorem algebraic : Cert.algebraic_Kernel9Ideal_Reference9Ideal := by
  intro m ρ m' ρ' _ hagree
  refine ⟨R m, ?_, ?_⟩
  · refine (θ_run _ _ _).mono (fun r h c => ?_) (Cert.Kernel9Ideal.Value.run_blocks (F := Ideal) m ρ)
    obtain ⟨h2, hargs⟩ := h c
    exact ⟨h2.trans (final m c), hargs⟩
  · refine (θ_run _ _ _).mono (fun r h c => ?_) (Cert.Reference9Ideal.Value.run (F := Ideal) m' ρ')
    obtain ⟨e0, e1⟩ := hagree c
    obtain ⟨h0, hargs⟩ := h c
    rw [Cert.Reference9Ideal.Read.val_main_v6_eq, e0, e1] at h0
    exact ⟨h0, hargs⟩

end Cert.DwOClaim

end
-- ==== Proof.DBranch.lean ====
/-
  The gradients of the two branches' outputs: each one product, accumulated over four blocks of the contracted axis in
  the result's own block. The kernel's two result arrays are the reference's, entry by entry.
-/
module

public import proofs.«01_k».proof.Proof.Gen.Kernel10Ideal.Value
public import proofs.«01_k».proof.Proof.Gen.Reference10Ideal.Read
public import proofs.«01_k».proof.Proof.BlockSum

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel10Ideal.DBr

open Cert.Kernel10Ideal Cert.Kernel10Ideal.Gen Cert.Products

variable (m : (ℓ : Loc nD τ sig) → Buf (Elt Ideal) ℓ)

/-- The four arguments on device `c`: the two cotangents and the two weights in blocks of columns. -/
abbrev A0 (c : Dev nD) : Vec Ideal S4096x2048 .bf16 := m ((c : Thread nD τ).loc main_arg0)
abbrev A1 (c : Dev nD) : Vec Ideal S4x1024x512 .bf16 := m ((c : Thread nD τ).loc main_arg1)
abbrev A2 (c : Dev nD) : Vec Ideal S4096x2048 .bf16 := m ((c : Thread nD τ).loc main_arg2)
abbrev A3 (c : Dev nD) : Vec Ideal S4x1024x512 .bf16 := m ((c : Thread nD τ).loc main_arg3)

/-- Where each window stands at point `t`: block row `t / 4`, contracted block `t % 4`. -/
theorem idx_facts : ∀ t : Fin cfg0.N,
    (win0_0.index t 0 = t.val / 4 ∧ win0_0.index t 1 = t.val % 4)
    ∧ (win0_1.index t 0 = t.val / 4 ∧ win0_1.index t 1 = t.val % 4)
    ∧ (win0_2.index t 0 = t.val % 4 ∧ win0_2.index t 1 = 0 ∧ win0_2.index t 2 = 0)
    ∧ (win0_3.index t 0 = t.val % 4 ∧ win0_3.index t 1 = 0 ∧ win0_3.index t 2 = 0)
    ∧ (win0_4.index t 0 = t.val / 4 ∧ win0_4.index t 1 = 0)
    ∧ (win0_5.index t 0 = t.val / 4 ∧ win0_5.index t 1 = 0) :=
  (by decide +kernel : ∀ t : Fin grid0.N, _)

/-- Row `r` of block row `g`. -/
def row (g : ℕ) (hg : g < 4) (r : Fin 1024) : Fin 4096 := ⟨g * 1024 + r.val, by omega⟩

theorem group_lt (t : Fin cfg0.N) : t.val / 4 < 4 := by
  have h : t.val < 16 := lt_of_lt_of_eq t.isLt (show cfg0.N = 16 from N_0)
  omega

/-- The contracted block of point `t`. -/
def part (t : Fin cfg0.N) : Fin 4 := ⟨t.val % 4, Nat.mod_lt _ (by decide)⟩

/-- Column `j` of block `b` of the contracted axis. -/
abbrev colOf (b : Fin 4) (j : Fin 512) : Fin 2048 := inBlock (N := 512) rfl b j

theorem iblk0_apply (c : Dev nD) (t : Fin cfg0.N) (r : Fin 1024) (j : Fin 512) :
    iblk m c 0 t (ix2 r j) = A0 m c (ix2 (row (t.val / 4) (group_lt t) r) (colOf (part t) j)) := by
  show A0 m c ((win0_0.rect t).emb (ix2 r j)) = _
  refine congrArg _ (Shape.idx_ext₂ ?_ ?_)
  · rw [win0_0.rect_emb_val t, (idx_facts t).1.1]; rfl
  · rw [win0_0.rect_emb_val t, (idx_facts t).1.2]; rfl

theorem iblk1_apply (c : Dev nD) (t : Fin cfg0.N) (r : Fin 1024) (j : Fin 512) :
    iblk m c 1 t (ix2 r j) = A2 m c (ix2 (row (t.val / 4) (group_lt t) r) (colOf (part t) j)) := by
  show A2 m c ((win0_1.rect t).emb (ix2 r j)) = _
  refine congrArg _ (Shape.idx_ext₂ ?_ ?_)
  · rw [win0_1.rect_emb_val t, (idx_facts t).2.1.1]; rfl
  · rw [win0_1.rect_emb_val t, (idx_facts t).2.1.2]; rfl

theorem iblk2_apply (c : Dev nD) (t : Fin cfg0.N) (q : Fin 1024) (j : Fin 512) :
    iblk m c 2 t (ix3 0 q j) = A1 m c (ix3 (part t) q j) := by
  show A1 m c ((win0_2.rect t).emb (ix3 0 q j)) = _
  refine congrArg _ (idx_ext3 ?_ ?_ ?_)
  · rw [win0_2.rect_emb_val t, (idx_facts t).2.2.1.1]
    show t.val % 4 * 1 + 0 = t.val % 4
    omega
  · rw [win0_2.rect_emb_val t, (idx_facts t).2.2.1.2.1]
    show 0 * 1024 + q.val = q.val
    omega
  · rw [win0_2.rect_emb_val t, (idx_facts t).2.2.1.2.2]
    show 0 * 512 + j.val = j.val
    omega

theorem iblk3_apply (c : Dev nD) (t : Fin cfg0.N) (q : Fin 1024) (j : Fin 512) :
    iblk m c 3 t (ix3 0 q j) = A3 m c (ix3 (part t) q j) := by
  show A3 m c ((win0_3.rect t).emb (ix3 0 q j)) = _
  refine congrArg _ (idx_ext3 ?_ ?_ ?_)
  · rw [win0_3.rect_emb_val t, (idx_facts t).2.2.2.1.1]
    show t.val % 4 * 1 + 0 = t.val % 4
    omega
  · rw [win0_3.rect_emb_val t, (idx_facts t).2.2.2.1.2.1]
    show 0 * 1024 + q.val = q.val
    omega
  · rw [win0_3.rect_emb_val t, (idx_facts t).2.2.2.1.2.2]
    show 0 * 512 + j.val = j.val
    omega

/-! ## The body at an entry -/

/-- A block of rows times a block of the weight, transposed, onto zero: the sum over the block's columns. -/
theorem prod_apply (w : Vec Ideal S1x1024x512 .bf16) (x : Vec Ideal S1024x512 .bf16) (r : Fin 1024) (q : Fin 1024) :
    matmul (F := Ideal) (φ₁ := .bf16) (φ₂ := .bf16) dot_S1024x512_S1024x512_S1024x1024_1_1_0_0_n_n none x
      (shapeCast S1024x512 w shapeCasts_S1x1024x512_S1024x512 : FVec Ideal S1024x512 .bf16) (constant S1024x1024 .f32 0x00000000#32) (ix2 r q)
      = ∑ j : Fin 512, pr (x (ix2 r j)) (w (ix3 0 q j)) := by
  refine (Ideal.matmul_transposedRhs_apply (M := 1024) (K := 512) (N := 1024) (φ₁ := .bf16) (φ₂ := .bf16) none x _ _ r q).trans ?_
  refine (congrArg (· + _) Ideal.ofBits_zero_f32).trans ((zero_add _).trans (Finset.sum_congr rfl fun j _ => ?_))
  refine congrArg (pr (x (ix2 r j))) (shapeCast_apply _ shapeCasts_S1x1024x512_S1024x512 (ix2 q j) (ix3 0 q j) ?_)
  rewrite [Shape.rowMajor_val_two, Shape.rowMajor_val_three]
  show (0 * 1024 + q.val) * 512 + j.val = q.val * 512 + j.val
  omega

/-! ## What the two results' blocks hold after each point -/

/-- What point `t` adds to the two blocks. -/
abbrev step4 (c : Dev nD) (t : Fin cfg0.N) : FVec Ideal S1024x1024 .f32 := k0_pay1 (iblk m c 2 t) (iblk m c 0 t)
abbrev step5 (c : Dev nD) (t : Fin cfg0.N) : FVec Ideal S1024x1024 .f32 := k0_pay2 (iblk m c 3 t) (iblk m c 1 t)

/-- At the first contracted block the point stores its term (window 4). -/
theorem out_A4 (c : Dev nD) (i : grid0.Coords) (a3 : Memref sig .tc .vmem S1024x512 .bf16) (h3 : a3.IsWhole)
    (a4 : Memref sig .tc .vmem S1024x512 .bf16) (h4 : a4.IsWhole) (a5 : Memref sig .tc .vmem S1x1024x512 .bf16) (h5 : a5.IsWhole)
    (a6 : Memref sig .tc .vmem S1x1024x512 .bf16) (h6 : a6.IsWhole) (a7 : Memref sig .tc .vmem S1024x1024 .f32) (h7 : a7.IsWhole)
    (a8 : Memref sig .tc .vmem S1024x1024 .f32) (h8 : a8.IsWhole)
    (hc0 : cond0_0 i) (hc1 : ¬cond0_1 i) (x0 x1 : Vec Ideal S1024x512 .bf16) (x2 x3 : Vec Ideal S1x1024x512 .bf16) :
    out0_A_4 c i a3 h3 a4 h4 a5 h5 a6 h6 a7 h7 a8 h8 hc0 hc1 x0 x1 x2 x3 = k0_pay1 x2 x0 := by
  unfold out0_A_4
  rw [View.read_writes_eq_canon _ _ _ (cover0_A_4 c i a3 h3 a4 h4 a5 h5 a6 h6 a7 h7 a8 h8 hc0 hc1 x0 x1 x2 x3)]
  unfold kernelRun0_A
  dsimp only
  rw [View.canon_unit_zero hz]
  simp only [View.readAt_eq_ld, h3.read_unread, h4.read_unread, h5.read_unread, h6.read_unread,
    View.ld_unit_zero (S := S1024x512) hz, View.ld_unit_zero (S := S1x1024x512) hz3]

/-- At the first contracted block the point stores its term (window 5). -/
theorem out_A5 (c : Dev nD) (i : grid0.Coords) (a3 : Memref sig .tc .vmem S1024x512 .bf16) (h3 : a3.IsWhole)
    (a4 : Memref sig .tc .vmem S1024x512 .bf16) (h4 : a4.IsWhole) (a5 : Memref sig .tc .vmem S1x1024x512 .bf16) (h5 : a5.IsWhole)
    (a6 : Memref sig .tc .vmem S1x1024x512 .bf16) (h6 : a6.IsWhole) (a7 : Memref sig .tc .vmem S1024x1024 .f32) (h7 : a7.IsWhole)
    (a8 : Memref sig .tc .vmem S1024x1024 .f32) (h8 : a8.IsWhole)
    (hc0 : cond0_0 i) (hc1 : ¬cond0_1 i) (x0 x1 : Vec Ideal S1024x512 .bf16) (x2 x3 : Vec Ideal S1x1024x512 .bf16) :
    out0_A_5 c i a3 h3 a4 h4 a5 h5 a6 h6 a7 h7 a8 h8 hc0 hc1 x0 x1 x2 x3 = k0_pay2 x3 x1 := by
  unfold out0_A_5
  rw [View.read_writes_eq_canon _ _ _ (cover0_A_5 c i a3 h3 a4 h4 a5 h5 a6 h6 a7 h7 a8 h8 hc0 hc1 x0 x1 x2 x3)]
  unfold kernelRun0_A
  dsimp only
  rw [View.canon_unit_zero hz]
  simp only [View.readAt_eq_ld, h3.read_unread, h4.read_unread, h5.read_unread, h6.read_unread,
    View.ld_unit_zero (S := S1024x512) hz, View.ld_unit_zero (S := S1x1024x512) hz3]

/-- At a later contracted block the point adds its term to what the block held (window 4). -/
theorem out_B4 (c : Dev nD) (i : grid0.Coords) (a3 : Memref sig .tc .vmem S1024x512 .bf16) (h3 : a3.IsWhole)
    (a4 : Memref sig .tc .vmem S1024x512 .bf16) (h4 : a4.IsWhole) (a5 : Memref sig .tc .vmem S1x1024x512 .bf16) (h5 : a5.IsWhole)
    (a6 : Memref sig .tc .vmem S1x1024x512 .bf16) (h6 : a6.IsWhole) (a7 : Memref sig .tc .vmem S1024x1024 .f32) (h7 : a7.IsWhole)
    (a8 : Memref sig .tc .vmem S1024x1024 .f32) (h8 : a8.IsWhole)
    (hc0 : ¬cond0_0 i) (hc1 : cond0_1 i) (x0 x1 : Vec Ideal S1024x512 .bf16) (x2 x3 : Vec Ideal S1x1024x512 .bf16)
    (xo4 xo5 : Vec Ideal S1024x1024 .f32) :
    out0_B_4 c i a3 h3 a4 h4 a5 h5 a6 h6 a7 h7 a8 h8 hc0 hc1 x0 x1 x2 x3 xo4 xo5 = addf (F := Ideal) xo4 (k0_pay1 x2 x0) := by
  unfold out0_B_4
  rw [View.read_writes_eq_canon _ _ _ (cover0_B_4 c i a3 h3 a4 h4 a5 h5 a6 h6 a7 h7 a8 h8 hc0 hc1 x0 x1 x2 x3 xo4 xo5)]
  unfold kernelRun0_B
  dsimp only
  rw [View.canon_unit_zero hz]
  unfold k0_pay3
  simp only [View.readAt_eq_ld, h3.read_unread, h4.read_unread, h5.read_unread, h6.read_unread, h7.read_unread, h8.read_unread,
    View.ld_unit_zero (S := S1024x512) hz, View.ld_unit_zero (S := S1x1024x512) hz3, View.ld_unit_zero (S := S1024x1024) hz,
    shapeCast_self]

/-- At a later contracted block the point adds its term to what the block held (window 5). -/
theorem out_B5 (c : Dev nD) (i : grid0.Coords) (a3 : Memref sig .tc .vmem S1024x512 .bf16) (h3 : a3.IsWhole)
    (a4 : Memref sig .tc .vmem S1024x512 .bf16) (h4 : a4.IsWhole) (a5 : Memref sig .tc .vmem S1x1024x512 .bf16) (h5 : a5.IsWhole)
    (a6 : Memref sig .tc .vmem S1x1024x512 .bf16) (h6 : a6.IsWhole) (a7 : Memref sig .tc .vmem S1024x1024 .f32) (h7 : a7.IsWhole)
    (a8 : Memref sig .tc .vmem S1024x1024 .f32) (h8 : a8.IsWhole)
    (hc0 : ¬cond0_0 i) (hc1 : cond0_1 i) (x0 x1 : Vec Ideal S1024x512 .bf16) (x2 x3 : Vec Ideal S1x1024x512 .bf16)
    (xo4 xo5 : Vec Ideal S1024x1024 .f32) :
    out0_B_5 c i a3 h3 a4 h4 a5 h5 a6 h6 a7 h7 a8 h8 hc0 hc1 x0 x1 x2 x3 xo4 xo5 = addf (F := Ideal) xo5 (k0_pay2 x3 x1) := by
  unfold out0_B_5
  rw [View.read_writes_eq_canon _ _ _ (cover0_B_5 c i a3 h3 a4 h4 a5 h5 a6 h6 a7 h7 a8 h8 hc0 hc1 x0 x1 x2 x3 xo4 xo5)]
  unfold kernelRun0_B
  dsimp only
  rw [View.canon_unit_zero hz]
  unfold k0_pay4
  simp only [View.readAt_eq_ld, h3.read_unread, h4.read_unread, h5.read_unread, h6.read_unread, h7.read_unread, h8.read_unread,
    View.ld_unit_zero (S := S1024x512) hz, View.ld_unit_zero (S := S1x1024x512) hz3, View.ld_unit_zero (S := S1024x1024) hz,
    shapeCast_self]

theorem outs_first (c : Dev nD) (n : ℕ) (h : n < cfg0.N) (h0 : n % 4 = 0) :
    outsAt0 m c n h = (step4 m c ⟨n, h⟩, step5 m c ⟨n, h⟩) :=
  (outsAt0_A m c ⟨n, h⟩ h0 (by dsimp only; omega)).trans (congrArg₂ Prod.mk (out_A4 ..) (out_A5 ..))

theorem outs_next (c : Dev nD) (n : ℕ) (h : n + 1 < cfg0.N) (h0 : ¬(n + 1) % 4 = 0) :
    outsAt0 m c (n + 1) h = (addf (F := Ideal) (outsAt0 m c n (Nat.lt_of_succ_lt h)).1 (step4 m c ⟨n + 1, h⟩),
      addf (F := Ideal) (outsAt0 m c n (Nat.lt_of_succ_lt h)).2 (step5 m c ⟨n + 1, h⟩)) :=
  (outsAt0_B m c ⟨n + 1, h⟩ h0 (by dsimp only; omega)).trans (congrArg₂ Prod.mk (out_B4 ..) (out_B5 ..))

/-- After the last contracted block the block holds the four points' terms added first to last (window 4). -/
theorem outs_last4 (c : Dev nD) (n : ℕ) (h : n + 3 < cfg0.N) (h0 : n % 4 = 0) (e : S1024x1024.Idx) :
    (outsAt0 m c (n + 3) h).1 e = plus (plus (plus (step4 m c ⟨n, by omega⟩ e) (step4 m c ⟨n + 1, by omega⟩ e))
      (step4 m c ⟨n + 2, by omega⟩ e)) (step4 m c ⟨n + 3, h⟩ e) := by
  rw [outs_next m c (n + 2) h (by omega), outs_next m c (n + 1) (by omega) (by omega), outs_next m c n (by omega) (by omega),
    outs_first m c n (by omega) h0]
  rfl

/-- After the last contracted block the block holds the four points' terms added first to last (window 5). -/
theorem outs_last5 (c : Dev nD) (n : ℕ) (h : n + 3 < cfg0.N) (h0 : n % 4 = 0) (e : S1024x1024.Idx) :
    (outsAt0 m c (n + 3) h).2 e = plus (plus (plus (step5 m c ⟨n, by omega⟩ e) (step5 m c ⟨n + 1, by omega⟩ e))
      (step5 m c ⟨n + 2, by omega⟩ e)) (step5 m c ⟨n + 3, h⟩ e) := by
  rw [outs_next m c (n + 2) h (by omega), outs_next m c (n + 1) (by omega) (by omega), outs_next m c n (by omega) (by omega),
    outs_first m c n (by omega) h0]
  rfl

/-- A product's term of contracted block `b`, at row `i` and column `q`. -/
def gAt (x : Vec Ideal S4096x2048 .bf16) (w : Vec Ideal S4x1024x512 .bf16) (b : Fin 4) (i : Fin 4096) (q : Fin 1024) : EReal :=
  ∑ j : Fin 512, pr (x (ix2 i (colOf b j))) (w (ix3 b q j))

theorem step4_apply (c : Dev nD) (t : Fin cfg0.N) (g : ℕ) (hg : g < 4) (b : Fin 4) (e : t.val = g * 4 + b.val) (r : Fin 1024)
    (q : Fin 1024) : step4 m c t (ix2 r q) = gAt (A0 m c) (A1 m c) b (row g hg r) q := by
  have hb : part t = b := Fin.ext (by show t.val % 4 = b.val; omega)
  have hr : row (t.val / 4) (group_lt t) r = row g hg r := Fin.ext (by show t.val / 4 * 1024 + r.val = g * 1024 + r.val; omega)
  refine (prod_apply (iblk m c 2 t) (iblk m c 0 t) r q).trans (Finset.sum_congr rfl fun j _ => ?_)
  rw [iblk0_apply, iblk2_apply, hb, hr]

theorem step5_apply (c : Dev nD) (t : Fin cfg0.N) (g : ℕ) (hg : g < 4) (b : Fin 4) (e : t.val = g * 4 + b.val) (r : Fin 1024)
    (q : Fin 1024) : step5 m c t (ix2 r q) = gAt (A2 m c) (A3 m c) b (row g hg r) q := by
  have hb : part t = b := Fin.ext (by show t.val % 4 = b.val; omega)
  have hr : row (t.val / 4) (group_lt t) r = row g hg r := Fin.ext (by show t.val / 4 * 1024 + r.val = g * 1024 + r.val; omega)
  refine (prod_apply (iblk m c 3 t) (iblk m c 1 t) r q).trans (Finset.sum_congr rfl fun j _ => ?_)
  rw [iblk1_apply, iblk3_apply, hb, hr]

/-! ## The reference at an entry -/

section Ref
open Cert.Reference10Ideal.Read

theorem ref_g (x : Vec Ideal S4096x2048 .bf16) (w : Vec Ideal S4x1024x512 .bf16) (i : Fin 4096) (q : Fin 1024) :
    ∑ k : Fin 2048, pr (x (ix2 i k)) (w (ix3 ⟨k.val / 512, by omega⟩ q ⟨k.val % 512, by omega⟩))
      = plus (plus (plus (gAt x w 0 i q) (gAt x w 1 i q)) (gAt x w 2 i q)) (gAt x w 3 i q) := by
  refine (sum_blocks (N := 512) rfl _).trans ?_
  have e : ∀ b : Fin 4, (∑ j : Fin 512, pr (x (ix2 i (colOf b j))) (w (ix3 ⟨(colOf b j).val / 512, by omega⟩ q ⟨(colOf b j).val % 512, by omega⟩)))
      = gAt x w b i q := fun b => Finset.sum_congr rfl fun j _ => by
    refine congrArg (pr _) (congrArg w (idx_ext3 ?_ rfl ?_))
    · show (b.val * 512 + j.val) / 512 = b.val
      omega
    · show (b.val * 512 + j.val) % 512 = j.val
      omega
  rw [← e 0, ← e 1, ← e 2, ← e 3]

theorem ref13 (x : Vec Ideal S4096x2048 .bf16) (w : Vec Ideal S4x1024x512 .bf16) (i : Fin 4096) (q : Fin 1024) :
    val_main_v13 (F := Ideal) x w (ix2 i q) = plus (plus (plus (gAt x w 0 i q) (gAt x w 1 i q)) (gAt x w 2 i q)) (gAt x w 3 i q) := by
  rw [val_main_v13_apply]
  refine Eq.trans (Finset.sum_congr rfl fun k _ => ?_) (ref_g x w i q)
  rw [val_main_v0_apply, val_main_v7_apply, val_main_v6_apply, val_main_v1_apply]
  show pr (x _) (w _) = _
  refine congrArg₂ pr (congrArg x (Shape.idx_ext₂ rfl rfl)) (congrArg w (idx_ext3 ?_ ?_ ?_))
  · show (q.val * 2048 + k.val) / 512 % 4 = k.val / 512
    omega
  · show (q.val * 2048 + k.val) / 2048 = q.val
    omega
  · show (q.val * 2048 + k.val) % 512 = k.val % 512
    omega

theorem ref12 (x : Vec Ideal S4096x2048 .bf16) (w : Vec Ideal S4x1024x512 .bf16) (i : Fin 4096) (q : Fin 1024) :
    val_main_v12 (F := Ideal) x w (ix2 i q) = plus (plus (plus (gAt x w 0 i q) (gAt x w 1 i q)) (gAt x w 2 i q)) (gAt x w 3 i q) := by
  rw [val_main_v12_apply]
  refine Eq.trans (Finset.sum_congr rfl fun k _ => ?_) (ref_g x w i q)
  rw [val_main_v2_apply, val_main_v10_apply, val_main_v9_apply, val_main_v3_apply]
  show pr (x _) (w _) = _
  refine congrArg₂ pr (congrArg x (Shape.idx_ext₂ rfl rfl)) (congrArg w (idx_ext3 ?_ ?_ ?_))
  · show (q.val * 2048 + k.val) / 512 % 4 = k.val / 512
    omega
  · show (q.val * 2048 + k.val) / 2048 = q.val
    omega
  · show (q.val * 2048 + k.val) % 512 = k.val % 512
    omega

/-- The reference's two results on the arguments of device `c`. -/
abbrev R4 (c : Dev nD) : Vec Ideal S4096x1024 .f32 := val_main_v13 (F := Ideal) (A0 m c) (A1 m c)
abbrev R5 (c : Dev nD) : Vec Ideal S4096x1024 .f32 := val_main_v12 (F := Ideal) (A2 m c) (A3 m c)

end Ref

theorem emb_eq4 (t : Fin cfg0.N) (g : ℕ) (hg : g < 4) (e : t.val / 4 = g) (r : Fin 1024) (q : Fin 1024) :
    (win0_4.rect t).emb (ix2 r q) = ix2 (row g hg r) q := by
  subst e
  refine Shape.idx_ext₂ ?_ ?_
  · rw [win0_4.rect_emb_val t, (idx_facts t).2.2.2.2.1.1]; rfl
  · rw [win0_4.rect_emb_val t, (idx_facts t).2.2.2.2.1.2]
    show 0 * 1024 + q.val = q.val
    omega

/-- Each write-back, at the last contracted block, writes its block of the reference's array. -/
theorem flushed4_eq (c : Dev nD) (t : Fin cfg0.N) (hf : (cfg0.win 4).flush t = true) :
    (dats m 0 c).flushed 4 t = ((cfg0.win 4).blk t).view.read (Elt Ideal) (R4 m c) := by
  have h3 : t.val % 4 = 3 := (flush0_4 t).mp hf
  have hN : t.val < 16 := lt_of_lt_of_eq t.isLt (show cfg0.N = 16 from N_0)
  have hg : t.val / 4 < 4 := group_lt t
  rw [Value.flushed4]
  funext e
  obtain ⟨r, q, rfl⟩ : ∃ (r : Fin 1024) (q : Fin 1024), e = ix2 r q := ⟨e 0, e 1, eq_ix2 e⟩
  show (outsAt0 m c t.val t.isLt).1 (ix2 r q) = R4 m c ((win0_4.rect t).emb (ix2 r q))
  rw [emb_eq4 t (t.val / 4) hg rfl]
  obtain ⟨n, hn⟩ := t
  obtain ⟨k, rfl⟩ : ∃ k, n = k + 3 := ⟨n - 3, by dsimp only at h3; omega⟩
  dsimp only at h3 hN hg ⊢
  rw [outs_last4 m c k hn (by omega),
    step4_apply m c ⟨k, _⟩ ((k + 3) / 4) hg 0 (by show k = (k + 3) / 4 * 4 + 0; omega),
    step4_apply m c ⟨k + 1, _⟩ ((k + 3) / 4) hg 1 (by show k + 1 = (k + 3) / 4 * 4 + 1; omega),
    step4_apply m c ⟨k + 2, _⟩ ((k + 3) / 4) hg 2 (by show k + 2 = (k + 3) / 4 * 4 + 2; omega),
    step4_apply m c ⟨k + 3, _⟩ ((k + 3) / 4) hg 3 (by show k + 3 = (k + 3) / 4 * 4 + 3; omega)]
  exact (ref13 _ _ _ _).symm

/-- The kernel's result array is the reference's. -/
theorem final4 (c : Dev nD) : (dats m 0 c).arrAt 4 cfg0.N = R4 m c :=
  (dats m 0 c).arrAt_eq_of_cover 4 (R4 m c) (flushed4_eq m c) (Pipeline.Window.Covers.cover _ (by decide +kernel) (Memref.isWhole_whole _))

theorem emb_eq5 (t : Fin cfg0.N) (g : ℕ) (hg : g < 4) (e : t.val / 4 = g) (r : Fin 1024) (q : Fin 1024) :
    (win0_5.rect t).emb (ix2 r q) = ix2 (row g hg r) q := by
  subst e
  refine Shape.idx_ext₂ ?_ ?_
  · rw [win0_5.rect_emb_val t, (idx_facts t).2.2.2.2.2.1]; rfl
  · rw [win0_5.rect_emb_val t, (idx_facts t).2.2.2.2.2.2]
    show 0 * 1024 + q.val = q.val
    omega

/-- Each write-back, at the last contracted block, writes its block of the reference's array. -/
theorem flushed5_eq (c : Dev nD) (t : Fin cfg0.N) (hf : (cfg0.win 5).flush t = true) :
    (dats m 0 c).flushed 5 t = ((cfg0.win 5).blk t).view.read (Elt Ideal) (R5 m c) := by
  have h3 : t.val % 4 = 3 := (flush0_5 t).mp hf
  have hN : t.val < 16 := lt_of_lt_of_eq t.isLt (show cfg0.N = 16 from N_0)
  have hg : t.val / 4 < 4 := group_lt t
  rw [Value.flushed5]
  funext e
  obtain ⟨r, q, rfl⟩ : ∃ (r : Fin 1024) (q : Fin 1024), e = ix2 r q := ⟨e 0, e 1, eq_ix2 e⟩
  show (outsAt0 m c t.val t.isLt).2 (ix2 r q) = R5 m c ((win0_5.rect t).emb (ix2 r q))
  rw [emb_eq5 t (t.val / 4) hg rfl]
  obtain ⟨n, hn⟩ := t
  obtain ⟨k, rfl⟩ : ∃ k, n = k + 3 := ⟨n - 3, by dsimp only at h3; omega⟩
  dsimp only at h3 hN hg ⊢
  rw [outs_last5 m c k hn (by omega),
    step5_apply m c ⟨k, _⟩ ((k + 3) / 4) hg 0 (by show k = (k + 3) / 4 * 4 + 0; omega),
    step5_apply m c ⟨k + 1, _⟩ ((k + 3) / 4) hg 1 (by show k + 1 = (k + 3) / 4 * 4 + 1; omega),
    step5_apply m c ⟨k + 2, _⟩ ((k + 3) / 4) hg 2 (by show k + 2 = (k + 3) / 4 * 4 + 2; omega),
    step5_apply m c ⟨k + 3, _⟩ ((k + 3) / 4) hg 3 (by show k + 3 = (k + 3) / 4 * 4 + 3; omega)]
  exact (ref12 _ _ _ _).symm

/-- The kernel's result array is the reference's. -/
theorem final5 (c : Dev nD) : (dats m 0 c).arrAt 5 cfg0.N = R5 m c :=
  (dats m 0 c).arrAt_eq_of_cover 5 (R5 m c) (flushed5_eq m c) (Pipeline.Window.Covers.cover _ (by decide +kernel) (Memref.isWhole_whole _))

end Cert.Kernel10Ideal.DBr

end
-- ==== Proof.DBranchClaim.lean ====
/-
  The value claim about the gradients of the two branches' outputs, from the kernel's run and the reference's.
-/
module

public import proofs.«01_k».proof.Defs
public import proofs.«01_k».proof.Proof.DBranch

@[expose] public section

set_option maxRecDepth 16384

noncomputable section

open Idealize.ShloMosaic Idealize.ShloMosaic.TcCoe Idealize.SL.Sem

namespace Cert.DBranchClaim

open Cert.Kernel10Ideal.DBr

/-- The kernel and the reference end with equal results: at every entry of each, the sum over the contracted axis of the
    products of the two arguments' entries. -/
theorem algebraic : Cert.algebraic_Kernel10Ideal_Reference10Ideal := by
  intro m ρ m' ρ' _ hagree
  refine ⟨R4 m, R5 m, ?_, ?_⟩
  · refine (θ_run _ _ _).mono (fun r h c => ?_) (Cert.Kernel10Ideal.Value.run_blocks (F := Ideal) m ρ)
    obtain ⟨h0, h1, hargs⟩ := h c
    exact ⟨h0.trans (final4 m c), h1.trans (final5 m c), hargs⟩
  · refine (θ_run _ _ _).mono (fun r h c => ?_) (Cert.Reference10Ideal.Value.run (F := Ideal) m' ρ')
    obtain ⟨e0, e1, e2, e3⟩ := hagree c
    obtain ⟨h0, h1, hargs⟩ := h c
    rw [Cert.Reference10Ideal.Read.val_main_v13_eq, e0, e1] at h0
    rw [Cert.Reference10Ideal.Read.val_main_v12_eq, e2, e3] at h1
    exact ⟨h0, h1, hargs⟩

end Cert.DBranchClaim

end
-- ==== Proof.DwBranch.lean ====
/-
  The gradients of the two branches' output weights, in blocks of columns: the kernel's two result arrays are the
  reference's, entry by entry.
-/
module

public import proofs.«01_k».proof.Proof.Gen.Kernel11Ideal.Value
public import proofs.«01_k».proof.Proof.Gen.Reference11Ideal.Read
public import proofs.«01_k».proof.Proof.Products

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel11Ideal.Branch

open Cert.Reference11Ideal.Read

open Cert.Kernel11Ideal Cert.Kernel11Ideal.Gen Cert.Products

variable (m : (ℓ : Loc nD τ sig) → Buf (Elt Ideal) ℓ)

/-- The four arguments on device `c`. -/
abbrev A0 (c : Dev nD) : Vec Ideal S4096x1024 .bf16 := m ((c : Thread nD τ).loc main_arg0)
abbrev A1 (c : Dev nD) : Vec Ideal S4096x2048 .bf16 := m ((c : Thread nD τ).loc main_arg1)
abbrev A2 (c : Dev nD) : Vec Ideal S4096x1024 .bf16 := m ((c : Thread nD τ).loc main_arg2)
abbrev A3 (c : Dev nD) : Vec Ideal S4096x2048 .bf16 := m ((c : Thread nD τ).loc main_arg3)

/-- How the windows move together. -/
theorem idx_facts : ∀ t : Fin cfg0.N,
    ((win0_0.index t 0 = 0 ∧ win0_0.index t 1 = win0_4.index t 1) ∧ (win0_1.index t 0 = 0 ∧ win0_1.index t 1 = win0_4.index t 1))
    ∧ ((win0_2.index t 0 = 0 ∧ win0_2.index t 1 = win0_4.index t 0) ∧ (win0_3.index t 0 = 0 ∧ win0_3.index t 1 = win0_4.index t 0))
    ∧ (win0_4.index t 0 < 4 ∧ win0_4.index t 1 < 2 ∧ win0_4.index t 2 = 0) ∧ win0_5.index t = win0_4.index t :=
  (by decide +kernel : ∀ t : Fin grid0.N, _)

/-- The block column, and the row within it, of the result arrays that row `r` of point `t`'s block is. -/
def blk (t : Fin cfg0.N) : Fin 4 := ⟨win0_4.index t 0, (idx_facts t).2.2.1.1⟩
def row (t : Fin cfg0.N) (r : Fin 512) : Fin 1024 :=
  ⟨win0_4.index t 1 * 512 + r.val, by have h := (idx_facts t).2.2.1.2.1; omega⟩

/-- Column `q` of block column `b` of an array of 2048 columns. -/
def colOf (b : Fin 4) (q : Fin 512) : Fin 2048 := ⟨b.val * 512 + q.val, by omega⟩

theorem iblk0_apply (c : Dev nD) (t : Fin cfg0.N) (k : Fin 4096) (r : Fin 512) :
    iblk m c 0 t (ix2 k r) = A0 m c (ix2 k (row t r)) := by
  show A0 m c ((win0_0.rect t).emb (ix2 k r)) = _
  refine congrArg _ (Shape.idx_ext₂ ?_ ?_)
  · rw [win0_0.rect_emb_val t, (idx_facts t).1.1.1]
    show 0 * 4096 + k.val = k.val
    omega
  · rw [win0_0.rect_emb_val t, (idx_facts t).1.1.2]; rfl

theorem iblk1_apply (c : Dev nD) (t : Fin cfg0.N) (k : Fin 4096) (r : Fin 512) :
    iblk m c 1 t (ix2 k r) = A2 m c (ix2 k (row t r)) := by
  show A2 m c ((win0_1.rect t).emb (ix2 k r)) = _
  refine congrArg _ (Shape.idx_ext₂ ?_ ?_)
  · rw [win0_1.rect_emb_val t, (idx_facts t).1.2.1]
    show 0 * 4096 + k.val = k.val
    omega
  · rw [win0_1.rect_emb_val t, (idx_facts t).1.2.2]; rfl

theorem iblk2_apply (c : Dev nD) (t : Fin cfg0.N) (k : Fin 4096) (q : Fin 512) :
    iblk m c 2 t (ix2 k q) = A1 m c (ix2 k (colOf (blk t) q)) := by
  show A1 m c ((win0_2.rect t).emb (ix2 k q)) = _
  refine congrArg _ (Shape.idx_ext₂ ?_ ?_)
  · rw [win0_2.rect_emb_val t, (idx_facts t).2.1.1.1]
    show 0 * 4096 + k.val = k.val
    omega
  · rw [win0_2.rect_emb_val t, (idx_facts t).2.1.1.2]; rfl

theorem iblk3_apply (c : Dev nD) (t : Fin cfg0.N) (k : Fin 4096) (q : Fin 512) :
    iblk m c 3 t (ix2 k q) = A3 m c (ix2 k (colOf (blk t) q)) := by
  show A3 m c ((win0_3.rect t).emb (ix2 k q)) = _
  refine congrArg _ (Shape.idx_ext₂ ?_ ?_)
  · rw [win0_3.rect_emb_val t, (idx_facts t).2.1.2.1]
    show 0 * 4096 + k.val = k.val
    omega
  · rw [win0_3.rect_emb_val t, (idx_facts t).2.1.2.2]; rfl

/-- What the body stores at an entry of the block of result 1: the sum over the contracted axis. -/
theorem pay1_apply (w : Vec Ideal S4096x512 .bf16) (x : Vec Ideal S4096x512 .bf16) (z : Fin 1) (r : Fin 512) (q : Fin 512) :
    k0_pay1 w x (ix3 z r q) = ∑ k : Fin 4096, pr (x (ix2 k r)) (w (ix2 k q)) := by
  unfold k0_pay1
  refine (shapeCast_apply _ shapeCasts_S512x512_S1x512x512 (ix3 z r q) (ix2 r q) ?_).trans ?_
  · rewrite [Shape.rowMajor_val_two, Shape.rowMajor_val_three]
    show r.val * 512 + q.val = (z.val * 512 + r.val) * 512 + q.val
    have hz : z.val = 0 := by omega
    rw [hz]; omega
  exact matmul_firstAxes_zero (M := 512) (K := 4096) (N := 512) (φ₁ := .bf16) (φ₂ := .bf16) none x w r q

/-- The reference's result 1 at an entry. -/
theorem ref4_apply (x0 : Vec Ideal S4096x1024 .bf16) (x1 : Vec Ideal S4096x2048 .bf16) (b : Fin 4) (r : Fin 1024) (q : Fin 512) :
    val_main_v19 (F := Ideal) x0 x1 (ix3 b r q)
      = ∑ k : Fin 4096, pr (x0 (ix2 k r)) (x1 (ix2 k (colOf b q))) := by
  rw [val_main_v19_apply, val_main_v18_apply, val_main_v17_apply, val_main_v16_apply]
  refine (val_main_v15_apply x0 x1 _).trans (Finset.sum_congr rfl fun k _ => ?_)
  rw [val_main_v0_apply, val_main_v1_apply]
  refine Eq.trans ?_ (pr_comm (x1 (ix2 k (colOf b q))) (x0 (ix2 k r)))
  show pr (x1 _) (x0 _) = _
  refine congrArg₂ pr (congrArg x1 (Shape.idx_ext₂ rfl ?_)) (congrArg x0 (Shape.idx_ext₂ rfl ?_))
  · show ((r.val * 4 + b.val) * 512 + q.val) % 2048 = b.val * 512 + q.val
    omega
  · show ((r.val * 4 + b.val) * 512 + q.val) / 2048 = r.val
    omega

/-- The reference's result 1 on the arguments of device `c`. -/
abbrev R4 (c : Dev nD) : Vec Ideal S4x1024x512 .bf16 := val_main_v19 (F := Ideal) (A0 m c) (A1 m c)

theorem emb_eq4 (t : Fin cfg0.N) (z : Fin 1) (r : Fin 512) (q : Fin 512) :
    (win0_4.rect t).emb (ix3 z r q) = ix3 (blk t) (row t r) q := by
  refine idx_ext3 ?_ (win0_4.rect_emb_val t _ 1) ?_
  · rw [win0_4.rect_emb_val t]
    show win0_4.index t 0 * 1 + z.val = win0_4.index t 0
    omega
  · rw [win0_4.rect_emb_val t, (idx_facts t).2.2.1.2.2]
    show 0 * 512 + q.val = q.val
    omega

/-- Each point writes back its block of the reference's array. -/
theorem flushed4_eq (c : Dev nD) (t : Fin cfg0.N) :
    (dats m 0 c).flushed 4 t = ((cfg0.win 4).blk t).view.read (Elt Ideal) (R4 m c) := by
  rw [Value.flushed4]
  unfold out0_4
  rw [View.canon_unit_zero hz3, View.ld_unit_zero hz, View.ld_unit_zero hz]
  funext j
  obtain ⟨z, r, q, rfl⟩ : ∃ (z : Fin 1) (r : Fin 512) (q : Fin 512), j = ix3 z r q := ⟨j 0, j 1, j 2, eq_ix3 j⟩
  show k0_pay1 (iblk m c 2 t) (iblk m c 0 t) (ix3 z r q) = R4 m c ((win0_4.rect t).emb (ix3 z r q))
  rw [emb_eq4, pay1_apply]
  refine Eq.trans (Finset.sum_congr rfl fun k _ => ?_) (ref4_apply _ _ _ _ _).symm
  rw [iblk0_apply, iblk2_apply]

/-- What the body stores at an entry of the block of result 2: the sum over the contracted axis. -/
theorem pay2_apply (w : Vec Ideal S4096x512 .bf16) (x : Vec Ideal S4096x512 .bf16) (z : Fin 1) (r : Fin 512) (q : Fin 512) :
    k0_pay2 w x (ix3 z r q) = ∑ k : Fin 4096, pr (x (ix2 k r)) (w (ix2 k q)) := by
  unfold k0_pay2
  refine (shapeCast_apply _ shapeCasts_S512x512_S1x512x512 (ix3 z r q) (ix2 r q) ?_).trans ?_
  · rewrite [Shape.rowMajor_val_two, Shape.rowMajor_val_three]
    show r.val * 512 + q.val = (z.val * 512 + r.val) * 512 + q.val
    have hz : z.val = 0 := by omega
    rw [hz]; omega
  exact matmul_firstAxes_zero (M := 512) (K := 4096) (N := 512) (φ₁ := .bf16) (φ₂ := .bf16) none x w r q

/-- The reference's result 2 at an entry. -/
theorem ref5_apply (x0 : Vec Ideal S4096x1024 .bf16) (x1 : Vec Ideal S4096x2048 .bf16) (b : Fin 4) (r : Fin 1024) (q : Fin 512) :
    val_main_v20 (F := Ideal) x0 x1 (ix3 b r q)
      = ∑ k : Fin 4096, pr (x0 (ix2 k r)) (x1 (ix2 k (colOf b q))) := by
  rw [val_main_v20_apply, val_main_v14_apply, val_main_v13_apply, val_main_v12_apply]
  refine (val_main_v11_apply x0 x1 _).trans (Finset.sum_congr rfl fun k _ => ?_)
  rw [val_main_v2_apply, val_main_v3_apply]
  refine Eq.trans ?_ (pr_comm (x1 (ix2 k (colOf b q))) (x0 (ix2 k r)))
  show pr (x1 _) (x0 _) = _
  refine congrArg₂ pr (congrArg x1 (Shape.idx_ext₂ rfl ?_)) (congrArg x0 (Shape.idx_ext₂ rfl ?_))
  · show ((r.val * 4 + b.val) * 512 + q.val) % 2048 = b.val * 512 + q.val
    omega
  · show ((r.val * 4 + b.val) * 512 + q.val) / 2048 = r.val
    omega

/-- The reference's result 2 on the arguments of device `c`. -/
abbrev R5 (c : Dev nD) : Vec Ideal S4x1024x512 .bf16 := val_main_v20 (F := Ideal) (A2 m c) (A3 m c)

theorem emb_eq5 (t : Fin cfg0.N) (z : Fin 1) (r : Fin 512) (q : Fin 512) :
    (win0_5.rect t).emb (ix3 z r q) = ix3 (blk t) (row t r) q := by
  have h := (idx_facts t).2.2.2
  refine idx_ext3 ?_ ?_ ?_
  · rw [win0_5.rect_emb_val t, h]
    show win0_4.index t 0 * 1 + z.val = win0_4.index t 0
    omega
  · rw [win0_5.rect_emb_val t, h]; rfl
  · rw [win0_5.rect_emb_val t, h, (idx_facts t).2.2.1.2.2]
    show 0 * 512 + q.val = q.val
    omega

/-- Each point writes back its block of the reference's array. -/
theorem flushed5_eq (c : Dev nD) (t : Fin cfg0.N) :
    (dats m 0 c).flushed 5 t = ((cfg0.win 5).blk t).view.read (Elt Ideal) (R5 m c) := by
  rw [Value.flushed5]
  unfold out0_5
  rw [View.canon_unit_zero hz3, View.ld_unit_zero hz, View.ld_unit_zero hz]
  funext j
  obtain ⟨z, r, q, rfl⟩ : ∃ (z : Fin 1) (r : Fin 512) (q : Fin 512), j = ix3 z r q := ⟨j 0, j 1, j 2, eq_ix3 j⟩
  show k0_pay2 (iblk m c 3 t) (iblk m c 1 t) (ix3 z r q) = R5 m c ((win0_5.rect t).emb (ix3 z r q))
  rw [emb_eq5, pay2_apply]
  refine Eq.trans (Finset.sum_congr rfl fun k _ => ?_) (ref5_apply _ _ _ _ _).symm
  rw [iblk1_apply, iblk3_apply]

/-- The kernel's result array 1 is the reference's. -/
theorem final4 (c : Dev nD) : (dats m 0 c).arrAt 4 cfg0.N = R4 m c :=
  (dats m 0 c).arrAt_eq_of_cover 4 (R4 m c) (fun t _ => flushed4_eq m c t) (Pipeline.Window.Covers.cover _ (by decide +kernel) (Memref.isWhole_whole _))

/-- The kernel's result array 2 is the reference's. -/
theorem final5 (c : Dev nD) : (dats m 0 c).arrAt 5 cfg0.N = R5 m c :=
  (dats m 0 c).arrAt_eq_of_cover 5 (R5 m c) (fun t _ => flushed5_eq m c t) (Pipeline.Window.Covers.cover _ (by decide +kernel) (Memref.isWhole_whole _))

end Cert.Kernel11Ideal.Branch

end
-- ==== Proof.DwBranchClaim.lean ====
/-
  The value claim about the gradients of the two branches' output weights, from the kernel's run and the reference's.
-/
module

public import proofs.«01_k».proof.Defs
public import proofs.«01_k».proof.Proof.DwBranch

@[expose] public section

set_option maxRecDepth 16384

noncomputable section

open Idealize.ShloMosaic Idealize.ShloMosaic.TcCoe Idealize.SL.Sem

namespace Cert.DwBranchClaim

open Cert.Kernel11Ideal.Branch

/-- The kernel and the reference end with equal results: at every entry of each, the sum over the contracted axis of the
    products of the two arguments' entries. -/
theorem algebraic : Cert.algebraic_Kernel11Ideal_Reference11Ideal := by
  intro m ρ m' ρ' _ hagree
  refine ⟨R4 m, R5 m, ?_, ?_⟩
  · refine (θ_run _ _ _).mono (fun r h c => ?_) (Cert.Kernel11Ideal.Value.run_blocks (F := Ideal) m ρ)
    obtain ⟨h0, h1, hargs⟩ := h c
    exact ⟨h0.trans (final4 m c), h1.trans (final5 m c), hargs⟩
  · refine (θ_run _ _ _).mono (fun r h c => ?_) (Cert.Reference11Ideal.Value.run (F := Ideal) m' ρ')
    obtain ⟨e0, e1, e2, e3⟩ := hagree c
    obtain ⟨h0, h1, hargs⟩ := h c
    rw [Cert.Reference11Ideal.Read.val_main_v19_eq, e0, e1] at h0
    rw [Cert.Reference11Ideal.Read.val_main_v20_eq, e2, e3] at h1
    exact ⟨h0, h1, hargs⟩

end Cert.DwBranchClaim

end
-- ==== Proof.FfnOut.lean ====
/-
  The feed-forward's last product and its gated residual: the kernel's two result arrays are the reference's, entry by entry.
-/
module

public import proofs.«01_k».proof.Proof.Gen.Kernel12Ideal.Value
public import proofs.«01_k».proof.Proof.Gen.Reference12Ideal.Read
public import proofs.«01_k».proof.Proof.Products

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel12Ideal.FfnOut

open Cert.Reference12Ideal.Read

open Cert.Kernel12Ideal Cert.Kernel12Ideal.Gen Cert.Products

variable (m : (ℓ : Loc nD τ sig) → Buf (Elt Ideal) ℓ)

/-- The four arguments on device `c`. -/
abbrev A0 (c : Dev nD) : Vec Ideal S4096x5632 .bf16 := m ((c : Thread nD τ).loc main_arg0)
abbrev A1 (c : Dev nD) : Vec Ideal S5632x2048 .bf16 := m ((c : Thread nD τ).loc main_arg1)
abbrev A2 (c : Dev nD) : Vec Ideal S4096x2048 .f32 := m ((c : Thread nD τ).loc main_arg2)
abbrev A3 (c : Dev nD) : Vec Ideal S1x2048 .f32 := m ((c : Thread nD τ).loc main_arg3)

/-- How the windows move together. -/
theorem idx_facts : ∀ t : Fin cfg0.N,
    (win0_0.index t 0 = win0_4.index t 0 ∧ win0_0.index t 1 = 0) ∧ (win0_1.index t 0 = 0 ∧ win0_1.index t 1 = win0_4.index t 1)
    ∧ win0_2.index t = win0_4.index t ∧ (win0_3.index t 0 = 0 ∧ win0_3.index t 1 = win0_4.index t 1)
    ∧ (win0_4.index t 0 < 4 ∧ win0_4.index t 1 < 4) ∧ win0_5.index t = win0_4.index t :=
  (by decide +kernel : ∀ t : Fin grid0.N, _)

/-- The row and the column of the result arrays that entry (`r`, `q`) of point `t`'s block is. -/
def row (t : Fin cfg0.N) (r : Fin 1024) : Fin 4096 :=
  ⟨win0_4.index t 0 * 1024 + r.val, by have h := (idx_facts t).2.2.2.2.1.1; omega⟩
def col (t : Fin cfg0.N) (q : Fin 512) : Fin 2048 :=
  ⟨win0_4.index t 1 * 512 + q.val, by have h := (idx_facts t).2.2.2.2.1.2; omega⟩

theorem iblk0_apply (c : Dev nD) (t : Fin cfg0.N) (r : Fin 1024) (k : Fin 5632) :
    iblk m c 0 t (ix2 r k) = A0 m c (ix2 (row t r) k) := by
  show A0 m c ((win0_0.rect t).emb (ix2 r k)) = _
  refine congrArg _ (Shape.idx_ext₂ ?_ ?_)
  · rw [win0_0.rect_emb_val t, (idx_facts t).1.1]; rfl
  · rw [win0_0.rect_emb_val t, (idx_facts t).1.2]
    show 0 * 5632 + k.val = k.val
    omega

theorem iblk1_apply (c : Dev nD) (t : Fin cfg0.N) (k : Fin 5632) (q : Fin 512) :
    iblk m c 1 t (ix2 k q) = A1 m c (ix2 k (col t q)) := by
  show A1 m c ((win0_1.rect t).emb (ix2 k q)) = _
  refine congrArg _ (Shape.idx_ext₂ ?_ ?_)
  · rw [win0_1.rect_emb_val t, (idx_facts t).2.1.1]
    show 0 * 5632 + k.val = k.val
    omega
  · rw [win0_1.rect_emb_val t, (idx_facts t).2.1.2]; rfl

theorem iblk2_apply (c : Dev nD) (t : Fin cfg0.N) (r : Fin 1024) (q : Fin 512) :
    iblk m c 2 t (ix2 r q) = A2 m c (ix2 (row t r) (col t q)) := by
  show A2 m c ((win0_2.rect t).emb (ix2 r q)) = _
  have h := (idx_facts t).2.2.1
  refine congrArg _ (Shape.idx_ext₂ ?_ ?_)
  · rw [win0_2.rect_emb_val t, h]; rfl
  · rw [win0_2.rect_emb_val t, h]; rfl

theorem iblk3_apply (c : Dev nD) (t : Fin cfg0.N) (q : Fin 512) :
    iblk m c 3 t (ix2 0 q) = A3 m c (ix2 0 (col t q)) := by
  show A3 m c ((win0_3.rect t).emb (ix2 0 q)) = _
  refine congrArg _ (Shape.idx_ext₂ ?_ ?_)
  · rw [win0_3.rect_emb_val t, (idx_facts t).2.2.2.1.1]; rfl
  · rw [win0_3.rect_emb_val t, (idx_facts t).2.2.2.1.2]; rfl

/-- The sum of two extended reals. -/
def plus (a b : EReal) : EReal := a + b

/-- The block's product at an entry: the sum over the contracted axis. -/
theorem pay1_apply (w : Vec Ideal S5632x512 .bf16) (x : Vec Ideal S1024x5632 .bf16) (r : Fin 1024) (q : Fin 512) :
    k0_pay1 w x (ix2 r q) = ∑ k : Fin 5632, pr (x (ix2 r k)) (w (ix2 k q)) := by
  unfold k0_pay1
  refine (Ideal.matmul_plain_apply (M := 1024) (K := 5632) (N := 512) (φ₁ := .bf16) (φ₂ := .bf16) none x w _ r q).trans ?_
  exact (congrArg (· + _) Ideal.ofBits_zero_f32).trans (zero_add _)

theorem pay2_apply (w : Vec Ideal S5632x512 .bf16) (x : Vec Ideal S1024x5632 .bf16) (u : Vec Ideal S1024x512 .f32)
    (g : Vec Ideal S1x512 .f32) (r : Fin 1024) (q : Fin 512) :
    k0_pay2 w x u g (ix2 r q)
      = plus (u (ix2 r q)) (pr (g (ix2 0 q)) (∑ k : Fin 5632, pr (x (ix2 r k)) (w (ix2 k q)))) := by
  show plus (u (ix2 r q)) (pr (broadcastTo S1024x512 g broadcasts_S1x512_S1024x512 (ix2 r q)) (k0_pay1 w x (ix2 r q))) = _
  rw [pay1_apply, broadcastTo_apply g broadcasts_S1x512_S1024x512 (ix2 r q) (ix2 0 q) (fun a => by match a with | ⟨0, _⟩ => rfl | ⟨1, _⟩ => rfl)]

section Ref
variable (x0 : Vec Ideal S4096x5632 .bf16) (x1 : Vec Ideal S5632x2048 .bf16) (x2 : Vec Ideal S4096x2048 .f32)
  (x3 : Vec Ideal S1x2048 .f32) (r : Fin 4096) (q : Fin 2048)

/-- The reference's product at an entry. -/
theorem ref_product : val_main_v2 (F := Ideal) x0 x1 (ix2 r q)
    = ∑ k : Fin 5632, pr (x0 (ix2 r k)) (x1 (ix2 k q)) := by
  refine (val_main_v2_apply x0 x1 _).trans (Finset.sum_congr rfl fun k _ => ?_)
  rw [val_main_v0_apply, val_main_v1_apply]
  show pr (x0 _) (x1 _) = _
  exact congrArg₂ pr (congrArg x0 (Shape.idx_ext₂ rfl rfl)) (congrArg x1 (Shape.idx_ext₂ rfl rfl))

/-- The reference's second result at an entry. -/
theorem ref_sum : val_main_v6 (F := Ideal) x0 x1 x2 x3 (ix2 r q)
    = plus (x2 (ix2 r q)) (pr (x3 (ix2 0 q)) (∑ k : Fin 5632, pr (x0 (ix2 r k)) (x1 (ix2 k q)))) := by
  rw [val_main_v6_apply, val_main_v5_apply,
    val_main_v4_apply, ref_product]
  show plus (x2 (ix2 r q)) (pr (x3 _) _) = _
  refine congrArg (fun z => plus (x2 (ix2 r q)) (pr z _)) (congrArg x3 (Shape.idx_ext₂ rfl rfl))

end Ref

/-- The reference's two results on the arguments of device `c`. -/
abbrev R4 (c : Dev nD) : Vec Ideal S4096x2048 .bf16 := val_main_v3 (F := Ideal) (A0 m c) (A1 m c)
abbrev R5 (c : Dev nD) : Vec Ideal S4096x2048 .f32 :=
  val_main_v6 (F := Ideal) (A0 m c) (A1 m c) (A2 m c) (A3 m c)

theorem emb_eq4 (t : Fin cfg0.N) (r : Fin 1024) (q : Fin 512) : (win0_4.rect t).emb (ix2 r q) = ix2 (row t r) (col t q) :=
  Shape.idx_ext₂ (win0_4.rect_emb_val t _ 0) (win0_4.rect_emb_val t _ 1)
theorem emb_eq5 (t : Fin cfg0.N) (r : Fin 1024) (q : Fin 512) : (win0_5.rect t).emb (ix2 r q) = ix2 (row t r) (col t q) := by
  have h := (idx_facts t).2.2.2.2.2
  refine Shape.idx_ext₂ ?_ ?_
  · rw [win0_5.rect_emb_val t, h]; rfl
  · rw [win0_5.rect_emb_val t, h]; rfl

/-- The product of point `t`'s blocks is the whole arrays' product at that row and column. -/
theorem product_eq (c : Dev nD) (t : Fin cfg0.N) (r : Fin 1024) (q : Fin 512) :
    (∑ k : Fin 5632, pr (iblk m c 0 t (ix2 r k)) (iblk m c 1 t (ix2 k q)))
      = ∑ k : Fin 5632, pr (A0 m c (ix2 (row t r) k)) (A1 m c (ix2 k (col t q))) :=
  Finset.sum_congr rfl fun k _ => by rw [iblk0_apply, iblk1_apply]

/-- Each point writes back its block of the reference's product. -/
theorem flushed4_eq (c : Dev nD) (t : Fin cfg0.N) :
    (dats m 0 c).flushed 4 t = ((cfg0.win 4).blk t).view.read (Elt Ideal) (R4 m c) := by
  rw [Value.flushed4]
  unfold out0_4
  rw [View.canon_unit_zero hz, View.ld_unit_zero hz, View.ld_unit_zero hz]
  funext j
  obtain ⟨r, q, rfl⟩ : ∃ (r : Fin 1024) (q : Fin 512), j = ix2 r q := ⟨j 0, j 1, eq_ix2 j⟩
  show k0_pay1 (iblk m c 1 t) (iblk m c 0 t) (ix2 r q) = R4 m c ((win0_4.rect t).emb (ix2 r q))
  rw [emb_eq4, pay1_apply]
  exact (product_eq m c t r q).trans (ref_product _ _ _ _).symm

/-- Each point writes back its block of the reference's gated residual. -/
theorem flushed5_eq (c : Dev nD) (t : Fin cfg0.N) :
    (dats m 0 c).flushed 5 t = ((cfg0.win 5).blk t).view.read (Elt Ideal) (R5 m c) := by
  rw [Value.flushed5]
  unfold out0_5
  rw [View.canon_unit_zero hz, View.ld_unit_zero hz, View.ld_unit_zero hz, View.ld_unit_zero hz, View.ld_unit_zero hz]
  funext j
  obtain ⟨r, q, rfl⟩ : ∃ (r : Fin 1024) (q : Fin 512), j = ix2 r q := ⟨j 0, j 1, eq_ix2 j⟩
  show k0_pay2 (iblk m c 1 t) (iblk m c 0 t) (iblk m c 2 t) (iblk m c 3 t) (ix2 r q) = R5 m c ((win0_5.rect t).emb (ix2 r q))
  rw [emb_eq5, pay2_apply, iblk2_apply, iblk3_apply, product_eq]
  exact (ref_sum _ _ _ _ _ _).symm

/-- The kernel's result array 1 is the reference's. -/
theorem final4 (c : Dev nD) : (dats m 0 c).arrAt 4 cfg0.N = R4 m c :=
  (dats m 0 c).arrAt_eq_of_cover 4 (R4 m c) (fun t _ => flushed4_eq m c t) (Pipeline.Window.Covers.cover _ (by decide +kernel) (Memref.isWhole_whole _))

/-- The kernel's result array 2 is the reference's. -/
theorem final5 (c : Dev nD) : (dats m 0 c).arrAt 5 cfg0.N = R5 m c :=
  (dats m 0 c).arrAt_eq_of_cover 5 (R5 m c) (fun t _ => flushed5_eq m c t) (Pipeline.Window.Covers.cover _ (by decide +kernel) (Memref.isWhole_whole _))

end Cert.Kernel12Ideal.FfnOut

end
-- ==== Proof.FfnOutClaim.lean ====
/-
  The value claim about the feed-forward's last product and its gated residual, from the kernel's run and the reference's.
-/
module

public import proofs.«01_k».proof.Defs
public import proofs.«01_k».proof.Proof.FfnOut

@[expose] public section

set_option maxRecDepth 16384

noncomputable section

open Idealize.ShloMosaic Idealize.ShloMosaic.TcCoe Idealize.SL.Sem

namespace Cert.FfnOutClaim

open Cert.Kernel12Ideal.FfnOut

/-- The kernel and the reference end with equal results: at every entry the product `act @ w_ffn_down`, and
    `x1 + gt_f * (act @ w_ffn_down)`. -/
theorem algebraic : Cert.algebraic_Kernel12Ideal_Reference12Ideal := by
  intro m ρ m' ρ' _ hagree
  refine ⟨R4 m, R5 m, ?_, ?_⟩
  · refine (θ_run _ _ _).mono (fun r h c => ?_) (Cert.Kernel12Ideal.Value.run_blocks (F := Ideal) m ρ)
    obtain ⟨h0, h1, hargs⟩ := h c
    exact ⟨h0.trans (final4 m c), h1.trans (final5 m c), hargs⟩
  · refine (θ_run _ _ _).mono (fun r h c => ?_) (Cert.Reference12Ideal.Value.run (F := Ideal) m' ρ')
    obtain ⟨e0, e1, e2, e3⟩ := hagree c
    obtain ⟨h0, h1, hargs⟩ := h c
    rw [Cert.Reference12Ideal.Read.val_main_v3_eq, e0, e1] at h0
    rw [Cert.Reference12Ideal.Read.val_main_v6_eq, e0, e1, e2, e3] at h1
    exact ⟨h0, h1, hargs⟩

end Cert.FfnOutClaim

end
-- ==== Proof.DH.lean ====
/-
  The gradient of the normalised mixer input: a product accumulated over eight blocks of the contracted axis in the
  result's own block. The kernel's result array is the reference's, entry by entry.
-/
module

public import proofs.«01_k».proof.Proof.Gen.Kernel13Ideal.Value
public import proofs.«01_k».proof.Proof.Gen.Reference13Ideal.Read
public import proofs.«01_k».proof.Proof.BlockSum

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel13Ideal.DH

open Cert.Kernel13Ideal Cert.Kernel13Ideal.Gen Cert.Products

variable (m : (ℓ : Loc nD τ sig) → Buf (Elt Ideal) ℓ)

/-- The two arguments on device `c`: the gradient of the projection, and the weight in blocks of columns. -/
abbrev A0 (c : Dev nD) : Vec Ideal S4096x11264 .bf16 := m ((c : Thread nD τ).loc main_arg0)
abbrev A1 (c : Dev nD) : Vec Ideal S4x2048x2816 .bf16 := m ((c : Thread nD τ).loc main_arg1)

/-- Where each window stands at point `t`: block row `t / 8`, contracted block `t % 8`. -/
theorem idx_facts : ∀ t : Fin cfg0.N,
    (win0_0.index t 0 = t.val / 8 ∧ win0_0.index t 1 = t.val % 8)
    ∧ (win0_1.index t 0 = t.val % 8 / 2 ∧ win0_1.index t 1 = 0 ∧ win0_1.index t 2 = t.val % 8 % 2)
    ∧ (win0_2.index t 0 = t.val / 8 ∧ win0_2.index t 1 = 0) :=
  (by decide +kernel : ∀ t : Fin grid0.N, _)

/-- Row `r` of block row `g`. -/
def row (g : ℕ) (hg : g < 4) (r : Fin 1024) : Fin 4096 := ⟨g * 1024 + r.val, by omega⟩

theorem group_lt (t : Fin cfg0.N) : t.val / 8 < 4 := by
  have h : t.val < 32 := lt_of_lt_of_eq t.isLt (show cfg0.N = 32 from N_0)
  omega

/-- The contracted block of point `t`. -/
def part (t : Fin cfg0.N) : Fin 8 := ⟨t.val % 8, Nat.mod_lt _ (by decide)⟩

/-- Column `j` of contracted block `b`: two blocks to each block of the weight's columns. -/
def colOf (b : Fin 8) (j : Fin 1408) : Fin 11264 := ⟨b.val * 1408 + j.val, by omega⟩
/-- The weight's block of columns, and the column within it, that column `j` of contracted block `b` is. -/
def wBlk (b : Fin 8) : Fin 4 := ⟨b.val / 2, by omega⟩
def wCol (b : Fin 8) (j : Fin 1408) : Fin 2816 := ⟨b.val % 2 * 1408 + j.val, by omega⟩

theorem iblk0_apply (c : Dev nD) (t : Fin cfg0.N) (r : Fin 1024) (j : Fin 1408) :
    iblk m c 0 t (ix2 r j) = A0 m c (ix2 (row (t.val / 8) (group_lt t) r) (colOf (part t) j)) := by
  show A0 m c ((win0_0.rect t).emb (ix2 r j)) = _
  refine congrArg _ (Shape.idx_ext₂ ?_ ?_)
  · rw [win0_0.rect_emb_val t, (idx_facts t).1.1]; rfl
  · rw [win0_0.rect_emb_val t, (idx_facts t).1.2]; rfl

theorem iblk1_apply (c : Dev nD) (t : Fin cfg0.N) (q : Fin 2048) (j : Fin 1408) :
    iblk m c 1 t (ix3 0 q j) = A1 m c (ix3 (wBlk (part t)) q (wCol (part t) j)) := by
  show A1 m c ((win0_1.rect t).emb (ix3 0 q j)) = _
  refine congrArg _ (idx_ext3 ?_ ?_ ?_)
  · rw [win0_1.rect_emb_val t, (idx_facts t).2.1.1]
    show t.val % 8 / 2 * 1 + 0 = t.val % 8 / 2
    omega
  · rw [win0_1.rect_emb_val t, (idx_facts t).2.1.2.1]
    show 0 * 2048 + q.val = q.val
    omega
  · rw [win0_1.rect_emb_val t, (idx_facts t).2.1.2.2]; rfl

/-! ## The body at an entry -/

/-- A block of rows times a block of the weight, transposed, onto zero: the sum over the block's columns. -/
theorem pay1_apply (w : Vec Ideal S1x2048x1408 .bf16) (x : Vec Ideal S1024x1408 .bf16) (r : Fin 1024) (q : Fin 2048) :
    k0_pay1 w x (ix2 r q) = ∑ j : Fin 1408, pr (x (ix2 r j)) (w (ix3 0 q j)) := by
  unfold k0_pay1
  refine (Ideal.matmul_transposedRhs_apply (M := 1024) (K := 1408) (N := 2048) (φ₁ := .bf16) (φ₂ := .bf16) none x _ _ r q).trans ?_
  refine (congrArg (· + _) Ideal.ofBits_zero_f32).trans ((zero_add _).trans (Finset.sum_congr rfl fun j _ => ?_))
  refine congrArg (pr (x (ix2 r j))) (shapeCast_apply _ shapeCasts_S1x2048x1408_S2048x1408 (ix2 q j) (ix3 0 q j) ?_)
  rewrite [Shape.rowMajor_val_two, Shape.rowMajor_val_three]
  show (0 * 2048 + q.val) * 1408 + j.val = q.val * 1408 + j.val
  omega

/-! ## What the result's block holds after each point -/

/-- What point `t` adds to the block. -/
abbrev step (c : Dev nD) (t : Fin cfg0.N) : FVec Ideal S1024x2048 .f32 :=
  k0_pay1 (iblk m c 1 t) (iblk m c 0 t)

/-- At the first contracted block the point stores its term. -/
theorem out_A (c : Dev nD) (i : grid0.Coords) (a3 : Memref sig .tc .vmem S1024x1408 .bf16) (h3 : a3.IsWhole)
    (a4 : Memref sig .tc .vmem S1x2048x1408 .bf16) (h4 : a4.IsWhole) (a5 : Memref sig .tc .vmem S1024x2048 .f32) (h5 : a5.IsWhole)
    (hc0 : cond0_0 i) (hc1 : ¬cond0_1 i) (x0 : Vec Ideal S1024x1408 .bf16) (x1 : Vec Ideal S1x2048x1408 .bf16) :
    out0_A_2 c i a3 h3 a4 h4 a5 h5 hc0 hc1 x0 x1 = k0_pay1 x1 x0 := by
  unfold out0_A_2
  rw [View.read_writes_eq_canon _ _ _ (cover0_A_2 c i a3 h3 a4 h4 a5 h5 hc0 hc1 x0 x1)]
  unfold kernelRun0_A
  dsimp only
  rw [View.canon_unit_zero hz]
  simp only [View.readAt_eq_ld, h3.read_unread, h4.read_unread,
    View.ld_unit_zero (S := S1024x1408) hz, View.ld_unit_zero (S := S1x2048x1408) hz3]

/-- At a later contracted block the point adds its term to what the block held. -/
theorem out_B (c : Dev nD) (i : grid0.Coords) (a3 : Memref sig .tc .vmem S1024x1408 .bf16) (h3 : a3.IsWhole)
    (a4 : Memref sig .tc .vmem S1x2048x1408 .bf16) (h4 : a4.IsWhole) (a5 : Memref sig .tc .vmem S1024x2048 .f32) (h5 : a5.IsWhole)
    (hc0 : ¬cond0_0 i) (hc1 : cond0_1 i) (x0 : Vec Ideal S1024x1408 .bf16) (x1 : Vec Ideal S1x2048x1408 .bf16)
    (xo : Vec Ideal S1024x2048 .f32) :
    out0_B_2 c i a3 h3 a4 h4 a5 h5 hc0 hc1 x0 x1 xo = addf (F := Ideal) xo (k0_pay1 x1 x0) := by
  unfold out0_B_2
  rw [View.read_writes_eq_canon _ _ _ (cover0_B_2 c i a3 h3 a4 h4 a5 h5 hc0 hc1 x0 x1 xo)]
  unfold kernelRun0_B
  dsimp only
  rw [View.canon_unit_zero hz]
  unfold k0_pay2
  simp only [View.readAt_eq_ld, h3.read_unread, h4.read_unread, h5.read_unread,
    View.ld_unit_zero (S := S1024x1408) hz, View.ld_unit_zero (S := S1x2048x1408) hz3, View.ld_unit_zero (S := S1024x2048) hz,
    shapeCast_self]

theorem outs_first (c : Dev nD) (n : ℕ) (h : n < cfg0.N) (h0 : n % 8 = 0) : outsAt0 m c n h = step m c ⟨n, h⟩ :=
  (outsAt0_A m c ⟨n, h⟩ h0 (by dsimp only; omega)).trans (out_A ..)

theorem outs_next (c : Dev nD) (n : ℕ) (h : n + 1 < cfg0.N) (h0 : ¬(n + 1) % 8 = 0) :
    outsAt0 m c (n + 1) h = addf (F := Ideal) (outsAt0 m c n (Nat.lt_of_succ_lt h)) (step m c ⟨n + 1, h⟩) :=
  (outsAt0_B m c ⟨n + 1, h⟩ h0 (by dsimp only; omega)).trans (out_B ..)

/-- The product's terms of contracted block `b`, at row `i` and column `q`. -/
def gAt (x : Vec Ideal S4096x11264 .bf16) (w : Vec Ideal S4x2048x2816 .bf16) (b : Fin 8) (i : Fin 4096) (q : Fin 2048) : EReal :=
  ∑ j : Fin 1408, pr (x (ix2 i (colOf b j))) (w (ix3 (wBlk b) q (wCol b j)))

theorem step_apply (c : Dev nD) (t : Fin cfg0.N) (g : ℕ) (hg : g < 4) (b : Fin 8) (e : t.val = g * 8 + b.val) (r : Fin 1024)
    (q : Fin 2048) : step m c t (ix2 r q) = gAt (A0 m c) (A1 m c) b (row g hg r) q := by
  have hb : part t = b := Fin.ext (by show t.val % 8 = b.val; omega)
  have hr : row (t.val / 8) (group_lt t) r = row g hg r := Fin.ext (by show t.val / 8 * 1024 + r.val = g * 1024 + r.val; omega)
  refine (pay1_apply _ _ r q).trans (Finset.sum_congr rfl fun j _ => ?_)
  rw [iblk0_apply, iblk1_apply, hb, hr]

/-- After contracted block `b` the block holds the terms of the blocks up to it. -/
theorem outs_upto (c : Dev nD) (g : ℕ) (hg : g < 4) (r : Fin 1024) (q : Fin 2048) : ∀ (b : ℕ) (hb : b < 8) (h : g * 8 + b < cfg0.N),
    outsAt0 m c (g * 8 + b) h (ix2 r q)
      = ∑ d : Fin (b + 1), gAt (A0 m c) (A1 m c) ⟨d.val, by omega⟩ (row g hg r) q
  | 0, _, h => by
    rw [outs_first m c (g * 8 + 0) h (by omega), step_apply m c ⟨g * 8 + 0, h⟩ g hg 0 rfl r q]
    exact (Fin.sum_univ_one (fun d : Fin 1 => gAt (A0 m c) (A1 m c) ⟨d.val, by omega⟩ (row g hg r) q)).symm
  | b + 1, hb, h => by
    refine (congrFun (outs_next m c (g * 8 + b) h (by omega)) (ix2 r q)).trans ?_
    rw [Fin.sum_univ_castSucc]
    exact congrArg₂ plus (outs_upto c g hg r q b (by omega) (Nat.lt_of_succ_lt h))
      (step_apply m c ⟨g * 8 + b + 1, h⟩ g hg ⟨b + 1, hb⟩ rfl r q)

/-! ## The reference at an entry -/

section Ref
open Cert.Reference13Ideal.Read

/-- A sum over the contracted axis, block by block. -/
theorem sum_parts (f : Fin 11264 → EReal) : ∑ k : Fin 11264, f k = ∑ b : Fin 8, ∑ j : Fin 1408, f (colOf b j) := by
  have e : ∀ (b : Fin 8) (j : Fin 1408), (finProdFinEquiv (b, j) : Fin (8 * 1408)) = colOf b j := fun b j =>
    Fin.ext (by show j.val + 1408 * b.val = b.val * 1408 + j.val; omega)
  refine (Equiv.sum_comp (finProdFinEquiv (m := 8) (n := 1408)) f).symm.trans ?_
  rw [Fintype.sum_prod_type]
  exact Finset.sum_congr rfl fun b _ => Finset.sum_congr rfl fun j _ => congrArg f (e b j)

theorem ref_apply (x0 : Vec Ideal S4096x11264 .bf16) (x1 : Vec Ideal S4x2048x2816 .bf16) (i : Fin 4096) (q : Fin 2048) :
    val_main_v6 (F := Ideal) x0 x1 (ix2 i q) = ∑ b : Fin 8, gAt x0 x1 b i q := by
  rw [val_main_v6_apply, sum_parts]
  refine Finset.sum_congr rfl fun b _ => Finset.sum_congr rfl fun j _ => ?_
  rw [val_main_v0_apply, val_main_v4_apply, val_main_v3_apply, val_main_v1_apply]
  show pr (x0 _) (x1 _) = _
  refine congrArg₂ pr (congrArg x0 (Shape.idx_ext₂ rfl rfl)) (congrArg x1 (idx_ext3 ?_ ?_ ?_))
  · show (q.val * 11264 + (b.val * 1408 + j.val)) / 2816 % 4 = b.val / 2
    omega
  · show (q.val * 11264 + (b.val * 1408 + j.val)) / 11264 = q.val
    omega
  · show (q.val * 11264 + (b.val * 1408 + j.val)) % 2816 = b.val % 2 * 1408 + j.val
    omega

/-- The reference's result on the arguments of device `c`. -/
abbrev R (c : Dev nD) : Vec Ideal S4096x2048 .f32 := val_main_v6 (F := Ideal) (A0 m c) (A1 m c)

end Ref

theorem emb_eq (t : Fin cfg0.N) (g : ℕ) (hg : g < 4) (e : t.val / 8 = g) (r : Fin 1024) (q : Fin 2048) :
    (win0_2.rect t).emb (ix2 r q) = ix2 (row g hg r) q := by
  subst e
  refine Shape.idx_ext₂ ?_ ?_
  · rw [win0_2.rect_emb_val t, (idx_facts t).2.2.1]; rfl
  · rw [win0_2.rect_emb_val t, (idx_facts t).2.2.2]
    show 0 * 2048 + q.val = q.val
    omega

/-- Each write-back, at the last contracted block, writes its block of the reference's array. -/
theorem flushed_eq (c : Dev nD) (t : Fin cfg0.N) (hf : (cfg0.win 2).flush t = true) :
    (dats m 0 c).flushed 2 t = ((cfg0.win 2).blk t).view.read (Elt Ideal) (R m c) := by
  have h7 : t.val % 8 = 7 := (flush0_2 t).mp hf
  have hN : t.val < 32 := lt_of_lt_of_eq t.isLt (show cfg0.N = 32 from N_0)
  rw [Value.flushed2]
  funext e
  obtain ⟨r, q, rfl⟩ : ∃ (r : Fin 1024) (q : Fin 2048), e = ix2 r q := ⟨e 0, e 1, eq_ix2 e⟩
  show outsAt0 m c t.val t.isLt (ix2 r q) = R m c ((win0_2.rect t).emb (ix2 r q))
  rw [emb_eq t (t.val / 8) (group_lt t) rfl]
  obtain ⟨n, hn⟩ := t
  obtain ⟨g, rfl⟩ : ∃ g, n = g * 8 + 7 := ⟨n / 8, by dsimp only at h7; omega⟩
  have hg : g < 4 := by dsimp only at hN; omega
  have er : row ((g * 8 + 7) / 8) (group_lt ⟨g * 8 + 7, hn⟩) r = row g hg r :=
    Fin.ext (by show (g * 8 + 7) / 8 * 1024 + r.val = g * 1024 + r.val; omega)
  dsimp only
  rw [er]
  exact (outs_upto m c g hg r q 7 (by decide) hn).trans (ref_apply _ _ _ _).symm

/-- The kernel's result array is the reference's. -/
theorem final (c : Dev nD) : (dats m 0 c).arrAt 2 cfg0.N = R m c :=
  (dats m 0 c).arrAt_eq_of_cover 2 (R m c) (flushed_eq m c) (Pipeline.Window.Covers.cover _ (by decide +kernel) (Memref.isWhole_whole _))

end Cert.Kernel13Ideal.DH

end
-- ==== Proof.DHClaim.lean ====
/-
  The value claim about the gradient of the normalised mixer input, from the kernel's run and the reference's.
-/
module

public import proofs.«01_k».proof.Defs
public import proofs.«01_k».proof.Proof.DH

@[expose] public section

set_option maxRecDepth 16384

noncomputable section

open Idealize.ShloMosaic Idealize.ShloMosaic.TcCoe Idealize.SL.Sem

namespace Cert.DHClaim

open Cert.Kernel13Ideal.DH

/-- The kernel and the reference end with equal results: at every entry, the sum over the contracted axis of the
    products of the two arguments' entries. -/
theorem algebraic : Cert.algebraic_Kernel13Ideal_Reference13Ideal := by
  intro m ρ m' ρ' _ hagree
  refine ⟨R m, ?_, ?_⟩
  · refine (θ_run _ _ _).mono (fun r h c => ?_) (Cert.Kernel13Ideal.Value.run_blocks (F := Ideal) m ρ)
    obtain ⟨h2, hargs⟩ := h c
    exact ⟨h2.trans (final m c), hargs⟩
  · refine (θ_run _ _ _).mono (fun r h c => ?_) (Cert.Reference13Ideal.Value.run (F := Ideal) m' ρ')
    obtain ⟨e0, e1⟩ := hagree c
    obtain ⟨h0, hargs⟩ := h c
    rw [Cert.Reference13Ideal.Read.val_main_v6_eq, e0, e1] at h0
    exact ⟨h0, hargs⟩

end Cert.DHClaim

end
-- ==== Proof.DwIn.lean ====
/-
  The gradient of the input projection's weight, in blocks of columns: the kernel's result array is the reference's, entry by entry.
-/
module

public import proofs.«01_k».proof.Proof.Gen.Kernel14Ideal.Value
public import proofs.«01_k».proof.Proof.Gen.Reference14Ideal.Read
public import proofs.«01_k».proof.Proof.Products

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel14Ideal.DwIn

open Cert.Reference14Ideal.Read

open Cert.Kernel14Ideal Cert.Kernel14Ideal.Gen Cert.Products

variable (m : (ℓ : Loc nD τ sig) → Buf (Elt Ideal) ℓ)

/-- The two arguments on device `c`. -/
abbrev A0 (c : Dev nD) : Vec Ideal S4096x2048 .bf16 := m ((c : Thread nD τ).loc main_arg0)
abbrev A1 (c : Dev nD) : Vec Ideal S4096x11264 .bf16 := m ((c : Thread nD τ).loc main_arg1)

/-- How the windows move together. -/
theorem idx_facts : ∀ t : Fin cfg0.N,
    (win0_0.index t 0 = 0 ∧ win0_0.index t 1 = win0_2.index t 1)
    ∧ (win0_1.index t 0 = 0 ∧ win0_1.index t 1 = win0_2.index t 0 * 2 + win0_2.index t 2)
    ∧ (win0_2.index t 0 < 4 ∧ win0_2.index t 1 < 2 ∧ win0_2.index t 2 < 2) :=
  (by decide +kernel : ∀ t : Fin grid0.N, _)

/-- The block column, and the row within it, of the result array that row `r` of point `t`'s block is. -/
def blk (t : Fin cfg0.N) : Fin 4 := ⟨win0_2.index t 0, (idx_facts t).2.2.1⟩
def row (t : Fin cfg0.N) (r : Fin 1024) : Fin 2048 :=
  ⟨win0_2.index t 1 * 1024 + r.val, by have h := (idx_facts t).2.2.2.1; omega⟩
/-- The column, within its block column, that column `q` of point `t`'s block is. -/
def sub (t : Fin cfg0.N) (q : Fin 1408) : Fin 2816 :=
  ⟨win0_2.index t 2 * 1408 + q.val, by have h := (idx_facts t).2.2.2.2; omega⟩

/-- Column `q` of block column `b` of an array of 11264 columns. -/
def colOf (b : Fin 4) (q : Fin 2816) : Fin 11264 := ⟨b.val * 2816 + q.val, by omega⟩

theorem iblk0_apply (c : Dev nD) (t : Fin cfg0.N) (k : Fin 4096) (r : Fin 1024) :
    iblk m c 0 t (ix2 k r) = A0 m c (ix2 k (row t r)) := by
  show A0 m c ((win0_0.rect t).emb (ix2 k r)) = _
  refine congrArg _ (Shape.idx_ext₂ ?_ ?_)
  · rw [win0_0.rect_emb_val t, (idx_facts t).1.1]
    show 0 * 4096 + k.val = k.val
    omega
  · rw [win0_0.rect_emb_val t, (idx_facts t).1.2]; rfl

theorem iblk1_apply (c : Dev nD) (t : Fin cfg0.N) (k : Fin 4096) (q : Fin 1408) :
    iblk m c 1 t (ix2 k q) = A1 m c (ix2 k (colOf (blk t) (sub t q))) := by
  show A1 m c ((win0_1.rect t).emb (ix2 k q)) = _
  refine congrArg _ (Shape.idx_ext₂ ?_ ?_)
  · rw [win0_1.rect_emb_val t, (idx_facts t).2.1.1]
    show 0 * 4096 + k.val = k.val
    omega
  · rw [win0_1.rect_emb_val t, (idx_facts t).2.1.2]
    show (win0_2.index t 0 * 2 + win0_2.index t 2) * 1408 + q.val = win0_2.index t 0 * 2816 + (win0_2.index t 2 * 1408 + q.val)
    omega

/-- What the body stores at an entry of the block: the sum over the contracted axis. -/
theorem pay1_apply (w : Vec Ideal S4096x1408 .bf16) (x : Vec Ideal S4096x1024 .bf16) (z : Fin 1) (r : Fin 1024) (q : Fin 1408) :
    k0_pay1 w x (ix3 z r q) = ∑ k : Fin 4096, pr (x (ix2 k r)) (w (ix2 k q)) := by
  unfold k0_pay1
  refine (shapeCast_apply _ shapeCasts_S1024x1408_S1x1024x1408 (ix3 z r q) (ix2 r q) ?_).trans ?_
  · rewrite [Shape.rowMajor_val_two, Shape.rowMajor_val_three]
    show r.val * 1408 + q.val = (z.val * 1024 + r.val) * 1408 + q.val
    have hz : z.val = 0 := by omega
    rw [hz]; omega
  exact matmul_firstAxes_zero (M := 1024) (K := 4096) (N := 1408) (φ₁ := .bf16) (φ₂ := .bf16) none x w r q

/-- The reference's result at an entry. -/
theorem ref_apply (x0 : Vec Ideal S4096x2048 .bf16) (x1 : Vec Ideal S4096x11264 .bf16) (b : Fin 4) (r : Fin 2048) (q : Fin 2816) :
    val_main_v10 (F := Ideal) x0 x1 (ix3 b r q)
      = ∑ k : Fin 4096, pr (x0 (ix2 k r)) (x1 (ix2 k (colOf b q))) := by
  rw [val_main_v10_apply, val_main_v9_apply, val_main_v8_apply, val_main_v7_apply]
  refine (val_main_v6_apply x0 x1 _).trans (Finset.sum_congr rfl fun k _ => ?_)
  rw [val_main_v0_apply, val_main_v1_apply]
  refine Eq.trans ?_ (pr_comm (x1 (ix2 k (colOf b q))) (x0 (ix2 k r)))
  show pr (x1 _) (x0 _) = _
  refine congrArg₂ pr (congrArg x1 (Shape.idx_ext₂ rfl ?_)) (congrArg x0 (Shape.idx_ext₂ rfl ?_))
  · show ((r.val * 4 + b.val) * 2816 + q.val) % 11264 = b.val * 2816 + q.val
    omega
  · show ((r.val * 4 + b.val) * 2816 + q.val) / 11264 = r.val
    omega

/-- The reference's result on the arguments of device `c`. -/
abbrev R (c : Dev nD) : Vec Ideal S4x2048x2816 .bf16 := val_main_v10 (F := Ideal) (A0 m c) (A1 m c)

theorem emb_eq (t : Fin cfg0.N) (z : Fin 1) (r : Fin 1024) (q : Fin 1408) :
    (win0_2.rect t).emb (ix3 z r q) = ix3 (blk t) (row t r) (sub t q) := by
  refine idx_ext3 ?_ (win0_2.rect_emb_val t _ 1) (win0_2.rect_emb_val t _ 2)
  rw [win0_2.rect_emb_val t]
  show win0_2.index t 0 * 1 + z.val = win0_2.index t 0
  omega

/-- Each point writes back its block of the reference's array. -/
theorem flushed_eq (c : Dev nD) (t : Fin cfg0.N) :
    (dats m 0 c).flushed 2 t = ((cfg0.win 2).blk t).view.read (Elt Ideal) (R m c) := by
  rw [Value.flushed2]
  unfold out0_2
  rw [View.canon_unit_zero hz3, View.ld_unit_zero hz, View.ld_unit_zero hz]
  funext j
  obtain ⟨z, r, q, rfl⟩ : ∃ (z : Fin 1) (r : Fin 1024) (q : Fin 1408), j = ix3 z r q := ⟨j 0, j 1, j 2, eq_ix3 j⟩
  show k0_pay1 (iblk m c 1 t) (iblk m c 0 t) (ix3 z r q) = R m c ((win0_2.rect t).emb (ix3 z r q))
  rw [emb_eq, pay1_apply]
  refine Eq.trans (Finset.sum_congr rfl fun k _ => ?_) (ref_apply _ _ _ _ _).symm
  rw [iblk0_apply, iblk1_apply]

/-- The kernel's result array is the reference's. -/
theorem final (c : Dev nD) : (dats m 0 c).arrAt 2 cfg0.N = R m c :=
  (dats m 0 c).arrAt_eq_of_cover 2 (R m c) (fun t _ => flushed_eq m c t) (Pipeline.Window.Covers.cover _ (by decide +kernel) (Memref.isWhole_whole _))

end Cert.Kernel14Ideal.DwIn

end
-- ==== Proof.DwInClaim.lean ====
/-
  The value claim about the gradient of the input projection's weight, from the kernel's run and the reference's.
-/
module

public import proofs.«01_k».proof.Defs
public import proofs.«01_k».proof.Proof.DwIn

@[expose] public section

set_option maxRecDepth 16384

noncomputable section

open Idealize.ShloMosaic Idealize.ShloMosaic.TcCoe Idealize.SL.Sem

namespace Cert.DwInClaim

open Cert.Kernel14Ideal.DwIn

/-- The kernel and the reference end with equal results: at every entry, the sum over the contracted axis of the
    products of the two arguments' entries. -/
theorem algebraic : Cert.algebraic_Kernel14Ideal_Reference14Ideal := by
  intro m ρ m' ρ' _ hagree
  refine ⟨R m, ?_, ?_⟩
  · refine (θ_run _ _ _).mono (fun r h c => ?_) (Cert.Kernel14Ideal.Value.run_blocks (F := Ideal) m ρ)
    obtain ⟨h2, hargs⟩ := h c
    exact ⟨h2.trans (final m c), hargs⟩
  · refine (θ_run _ _ _).mono (fun r h c => ?_) (Cert.Reference14Ideal.Value.run (F := Ideal) m' ρ')
    obtain ⟨e0, e1⟩ := hagree c
    obtain ⟨h0, hargs⟩ := h c
    rw [Cert.Reference14Ideal.Read.val_main_v10_eq, e0, e1] at h0
    exact ⟨h0, hargs⟩

end Cert.DwInClaim

end
-- ==== Proof.FfnIn.lean ====
/-
  The feed-forward layer's two input products and the gated product: the kernel's three result arrays are the
  reference's, entry by entry.
-/
module

public import proofs.«01_k».proof.Proof.Products
public import proofs.«01_k».proof.Proof.Chunks
public import proofs.«01_k».proof.Proof.Gen.Kernel15Ideal.Value
public import proofs.«01_k».proof.Proof.Gen.Reference15Ideal.Run
public import proofs.«01_k».proof.Proof.Gen.Reference15Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel15Ideal.FfnIn

open Cert.Reference15Ideal.Read

open Cert.Kernel15Ideal Cert.Kernel15Ideal.Gen Cert.Products Cert.Chunks

variable (m : (ℓ : Loc nD τ sig) → Buf (Elt Ideal) ℓ)

/-- The three arguments on device `c`: the normalised activations, the gate weight and the up weight. -/
abbrev A0 (c : Dev nD) : Vec Ideal S4096x2048 .bf16 := m ((c : Thread nD τ).loc main_arg0)
abbrev A1 (c : Dev nD) : Vec Ideal S4x2048x1408 .bf16 := m ((c : Thread nD τ).loc main_arg1)
abbrev A2 (c : Dev nD) : Vec Ideal S4x2048x1408 .bf16 := m ((c : Thread nD τ).loc main_arg2)

/-- How the windows move together. -/
theorem idx_facts : ∀ t : Fin cfg0.N,
    (win0_0.index t 0 = win0_3.index t 0 ∧ win0_0.index t 1 = 0)
    ∧ ((win0_1.index t 0 = win0_3.index t 1 ∧ win0_1.index t 1 = 0 ∧ win0_1.index t 2 = 0)
      ∧ (win0_2.index t 0 = win0_3.index t 1 ∧ win0_2.index t 1 = 0 ∧ win0_2.index t 2 = 0))
    ∧ (win0_3.index t 0 < 4 ∧ win0_3.index t 1 < 4) ∧ (win0_4.index t = win0_3.index t ∧ win0_5.index t = win0_3.index t) :=
  (by decide +kernel : ∀ t : Fin grid0.N, _)

/-- The row and the column of the result arrays that entry (`r`, `q`) of point `t`'s block is. -/
def row (t : Fin cfg0.N) (r : Fin 1024) : Fin 4096 :=
  ⟨win0_3.index t 0 * 1024 + r.val, by have h := (idx_facts t).2.2.1.1; omega⟩
def col (t : Fin cfg0.N) (q : Fin 1408) : Fin 5632 :=
  ⟨win0_3.index t 1 * 1408 + q.val, by have h := (idx_facts t).2.2.1.2; omega⟩

theorem iblk0_apply (c : Dev nD) (t : Fin cfg0.N) (r : Fin 1024) (k : Fin 2048) :
    iblk m c 0 t (ix2 r k) = A0 m c (ix2 (row t r) k) := by
  show A0 m c ((win0_0.rect t).emb (ix2 r k)) = _
  refine congrArg _ (Shape.idx_ext₂ ?_ ?_)
  · rw [win0_0.rect_emb_val t, (idx_facts t).1.1]; rfl
  · rw [win0_0.rect_emb_val t, (idx_facts t).1.2]
    show 0 * 2048 + k.val = k.val
    omega

theorem iblk1_apply (c : Dev nD) (t : Fin cfg0.N) (k : Fin 2048) (q : Fin 1408) :
    iblk m c 1 t (ix3 0 k q) = A1 m c (ix3 ⟨(col t q).val / 1408, by omega⟩ k ⟨(col t q).val % 1408, by omega⟩) := by
  show A1 m c ((win0_1.rect t).emb (ix3 0 k q)) = _
  refine congrArg _ (idx_ext3 ?_ ?_ ?_)
  · rw [win0_1.rect_emb_val t, (idx_facts t).2.1.1.1]
    show win0_3.index t 1 * 1 + 0 = (win0_3.index t 1 * 1408 + q.val) / 1408
    omega
  · rw [win0_1.rect_emb_val t, (idx_facts t).2.1.1.2.1]
    show 0 * 2048 + k.val = k.val
    omega
  · rw [win0_1.rect_emb_val t, (idx_facts t).2.1.1.2.2]
    show 0 * 1408 + q.val = (win0_3.index t 1 * 1408 + q.val) % 1408
    omega

theorem iblk2_apply (c : Dev nD) (t : Fin cfg0.N) (k : Fin 2048) (q : Fin 1408) :
    iblk m c 2 t (ix3 0 k q) = A2 m c (ix3 ⟨(col t q).val / 1408, by omega⟩ k ⟨(col t q).val % 1408, by omega⟩) := by
  show A2 m c ((win0_2.rect t).emb (ix3 0 k q)) = _
  refine congrArg _ (idx_ext3 ?_ ?_ ?_)
  · rw [win0_2.rect_emb_val t, (idx_facts t).2.1.2.1]
    show win0_3.index t 1 * 1 + 0 = (win0_3.index t 1 * 1408 + q.val) / 1408
    omega
  · rw [win0_2.rect_emb_val t, (idx_facts t).2.1.2.2.1]
    show 0 * 2048 + k.val = k.val
    omega
  · rw [win0_2.rect_emb_val t, (idx_facts t).2.1.2.2.2]
    show 0 * 1408 + q.val = (win0_3.index t 1 * 1408 + q.val) % 1408
    omega

/-- A block of rows times a chunk of 768 columns of a weight block, onto zero, at an entry. -/
theorem prod768 (w : Vec Ideal S1x2048x768 .bf16) (x : Vec Ideal S1024x2048 .bf16) (r : Fin 1024) (q : Fin 768) :
    matmul (F := Ideal) (φ₁ := .bf16) (φ₂ := .bf16) dot_S1024x2048_S2048x768_S1024x768_1_0_0_1_n_n none x
      (shapeCast S2048x768 w shapeCasts_S1x2048x768_S2048x768 : FVec Ideal S2048x768 .bf16) (constant S1024x768 .f32 0x00000000#32) (ix2 r q)
      = ∑ k : Fin 2048, pr (x (ix2 r k)) (w (ix3 0 k q)) := by
  refine (Ideal.matmul_plain_apply (M := 1024) (K := 2048) (N := 768) (φ₁ := .bf16) (φ₂ := .bf16) none x _ _ r q).trans ?_
  refine (congrArg (· + _) Ideal.ofBits_zero_f32).trans ((zero_add _).trans (Finset.sum_congr rfl fun k _ => ?_))
  refine congrArg (pr (x (ix2 r k))) (shapeCast_apply _ shapeCasts_S1x2048x768_S2048x768 (ix2 k q) (ix3 0 k q) ?_)
  rewrite [Shape.rowMajor_val_two, Shape.rowMajor_val_three]
  show (0 * 2048 + k.val) * 768 + q.val = k.val * 768 + q.val
  omega

/-- A block of rows times a chunk of 640 columns of a weight block, onto zero, at an entry. -/
theorem prod640 (w : Vec Ideal S1x2048x640 .bf16) (x : Vec Ideal S1024x2048 .bf16) (r : Fin 1024) (q : Fin 640) :
    matmul (F := Ideal) (φ₁ := .bf16) (φ₂ := .bf16) dot_S1024x2048_S2048x640_S1024x640_1_0_0_1_n_n none x
      (shapeCast S2048x640 w shapeCasts_S1x2048x640_S2048x640 : FVec Ideal S2048x640 .bf16) (constant S1024x640 .f32 0x00000000#32) (ix2 r q)
      = ∑ k : Fin 2048, pr (x (ix2 r k)) (w (ix3 0 k q)) := by
  refine (Ideal.matmul_plain_apply (M := 1024) (K := 2048) (N := 640) (φ₁ := .bf16) (φ₂ := .bf16) none x _ _ r q).trans ?_
  refine (congrArg (· + _) Ideal.ofBits_zero_f32).trans ((zero_add _).trans (Finset.sum_congr rfl fun k _ => ?_))
  refine congrArg (pr (x (ix2 r k))) (shapeCast_apply _ shapeCasts_S1x2048x640_S2048x640 (ix2 k q) (ix3 0 k q) ?_)
  rewrite [Shape.rowMajor_val_two, Shape.rowMajor_val_three]
  show (0 * 2048 + k.val) * 640 + q.val = k.val * 640 + q.val
  omega

theorem pay5_apply (w : Vec Ideal S1x2048x768 .bf16) (x : Vec Ideal S1024x2048 .bf16) (r : Fin 1024) (q : Fin 768) :
    k0_pay5 w x (ix2 r q) = ∑ k : Fin 2048, pr (x (ix2 r k)) (w (ix3 0 k q)) := prod768 w x r q

theorem pay6_apply (w : Vec Ideal S1x2048x768 .bf16) (x : Vec Ideal S1024x2048 .bf16) (r : Fin 1024) (q : Fin 768) :
    k0_pay6 w x (ix2 r q) = ∑ k : Fin 2048, pr (x (ix2 r k)) (w (ix3 0 k q)) := prod768 w x r q

theorem pay7_apply (w : Vec Ideal S1x2048x768 .bf16) (x : Vec Ideal S1024x2048 .bf16) (r : Fin 1024) (q : Fin 768) :
    k0_pay7 w x (ix2 r q) = ∑ k : Fin 2048, pr (x (ix2 r k)) (w (ix3 0 k q)) := prod768 w x r q

theorem pay8_apply (w : Vec Ideal S1x2048x768 .bf16) (x : Vec Ideal S1024x2048 .bf16) (r : Fin 1024) (q : Fin 768) :
    k0_pay8 w x (ix2 r q) = ∑ k : Fin 2048, pr (x (ix2 r k)) (w (ix3 0 k q)) := prod768 w x r q

theorem pay10_apply (w : Vec Ideal S1x2048x640 .bf16) (x : Vec Ideal S1024x2048 .bf16) (r : Fin 1024) (q : Fin 640) :
    k0_pay10 w x (ix2 r q) = ∑ k : Fin 2048, pr (x (ix2 r k)) (w (ix3 0 k q)) := prod640 w x r q

theorem pay1_apply (w : Vec Ideal S1x2048x640 .bf16) (x : Vec Ideal S1024x2048 .bf16) (r : Fin 1024) (q : Fin 640) :
    k0_pay1 w x (ix2 r q) = ∑ k : Fin 2048, pr (x (ix2 r k)) (w (ix3 0 k q)) := prod640 w x r q

theorem pay3_apply (w : Vec Ideal S1x2048x640 .bf16) (x : Vec Ideal S1024x2048 .bf16) (r : Fin 1024) (q : Fin 640) :
    k0_pay3 w x (ix2 r q) = ∑ k : Fin 2048, pr (x (ix2 r k)) (w (ix3 0 k q)) := prod640 w x r q

/-- The gate's swish times the up product. -/
def act (g u : EReal) : EReal := pr (pr g (sg g)) u

theorem pay9_apply (v w : Vec Ideal S1x2048x768 .bf16) (x y : Vec Ideal S1024x2048 .bf16) (r : Fin 1024) (q : Fin 768) :
    k0_pay9 v x w y (ix2 r q)
      = act (∑ k : Fin 2048, pr (x (ix2 r k)) (v (ix3 0 k q))) (∑ k : Fin 2048, pr (y (ix2 r k)) (w (ix3 0 k q))) := by
  rw [← pay5_apply v x, ← pay6_apply w y]
  unfold act
  rw [← sg_kernel]
  rfl

theorem pay4_apply (v w : Vec Ideal S1x2048x640 .bf16) (x y : Vec Ideal S1024x2048 .bf16) (r : Fin 1024) (q : Fin 640) :
    k0_pay4 (k0_pay10 v x) w y (ix2 r q)
      = act (∑ k : Fin 2048, pr (x (ix2 r k)) (v (ix3 0 k q))) (∑ k : Fin 2048, pr (y (ix2 r k)) (w (ix3 0 k q))) := by
  rw [← pay10_apply v x, ← pay1_apply w y]
  unfold act
  rw [← sg_kernel]
  rfl

/-- One point's block of a product, and its block of the gated product, entry by entry. -/
def P3 (x0 : Vec Ideal S1024x2048 .bf16) (x1 : Vec Ideal S1x2048x1408 .bf16) : Vec Ideal S1024x1408 .bf16 :=
  fun y => ∑ k : Fin 2048, pr (x0 (ix2 (y 0) k)) (x1 (ix3 0 k (y 1)))
def P5 (x0 : Vec Ideal S1024x2048 .bf16) (x1 x2 : Vec Ideal S1x2048x1408 .bf16) : Vec Ideal S1024x1408 .bf16 :=
  fun y => act (P3 x0 x1 y) (P3 x0 x2 y)

/-- The columns of a chunk inside the block. -/
def lo (q : Fin 768) : Fin 1408 := ⟨q.val, by omega⟩
def hi (q : Fin 640) : Fin 1408 := ⟨768 + q.val, by omega⟩

theorem ldx (x0 : Vec Ideal S1024x2048 .bf16) (r : Fin 1024) (k : Fin 2048) :
    View.ld x0 (Rect.unit (s := S1024x2048) ![0, 0] ![1024, 2048] inb_S1024x2048_S1024x2048_0_0) (ix2 r k) = x0 (ix2 r k) :=
  ld2 0 0 x0 _ r k r k (Nat.zero_add _).symm (Nat.zero_add _).symm

/-- A chunk's sum over the loaded blocks is the block's product at the chunk's column. -/
theorem sum_hi (x0 : Vec Ideal S1024x2048 .bf16) (x1 : Vec Ideal S1x2048x1408 .bf16) (r : Fin 1024) (q : Fin 640) :
    (∑ k : Fin 2048, pr (View.ld x0 (Rect.unit (s := S1024x2048) ![0, 0] ![1024, 2048] inb_S1024x2048_S1024x2048_0_0) (ix2 r k))
      (View.ld x1 (Rect.unit (s := S1x2048x1408) ![0, 0, 768] ![1, 2048, 640] inb_S1x2048x1408_S1x2048x640_0_0_768) (ix3 0 k q)))
      = P3 x0 x1 (ix2 r (hi q)) :=
  Finset.sum_congr rfl fun k _ => congrArg₂ pr (ldx x0 r k)
    (ld3 0 0 768 x1 _ 0 k q 0 k (hi q) rfl (Nat.zero_add _).symm rfl)
theorem sum_lo (x0 : Vec Ideal S1024x2048 .bf16) (x1 : Vec Ideal S1x2048x1408 .bf16) (r : Fin 1024) (q : Fin 768) :
    (∑ k : Fin 2048, pr (View.ld x0 (Rect.unit (s := S1024x2048) ![0, 0] ![1024, 2048] inb_S1024x2048_S1024x2048_0_0) (ix2 r k))
      (View.ld x1 (Rect.unit (s := S1x2048x1408) ![0, 0, 0] ![1, 2048, 768] inb_S1x2048x1408_S1x2048x768_0_0_0) (ix3 0 k q)))
      = P3 x0 x1 (ix2 r (lo q)) :=
  Finset.sum_congr rfl fun k _ => congrArg₂ pr (ldx x0 r k)
    (ld3 0 0 0 x1 _ 0 k q 0 k (lo q) rfl (Nat.zero_add _).symm (Nat.zero_add _).symm)

/-- Where the two chunks lie in the block. -/
theorem at_hi (r : Fin 1024) (q : Fin 640) : (Rect.unit (s := S1024x1408) ![0, 768] ![1024, 640] inb_S1024x1408_S1024x640_0_768).emb (ix2 r q) = ix2 r (hi q) :=
  emb2 0 768 inb_S1024x1408_S1024x640_0_768 r q r (hi q) (Nat.zero_add _).symm rfl
theorem at_lo (r : Fin 1024) (q : Fin 768) : (Rect.unit (s := S1024x1408) ![0, 0] ![1024, 768] inb_S1024x1408_S1024x768_0_0).emb (ix2 r q) = ix2 r (lo q) :=
  emb2 0 0 inb_S1024x1408_S1024x768_0_0 r q r (lo q) (Nat.zero_add _).symm (Nat.zero_add _).symm

/-- The two chunks the body stores make up the block of result 1. -/
theorem out_A3 (c : Dev nD) (i : grid0.Coords) (a3 : Memref sig .tc .vmem S1024x2048 .bf16) (h3 : a3.IsWhole)
    (a4 : Memref sig .tc .vmem S1x2048x1408 .bf16) (h4 : a4.IsWhole) (a5 : Memref sig .tc .vmem S1x2048x1408 .bf16) (h5 : a5.IsWhole)
    (a6 : Memref sig .tc .vmem S1024x1408 .bf16) (h6 : a6.IsWhole) (a7 : Memref sig .tc .vmem S1024x1408 .bf16) (h7 : a7.IsWhole)
    (a8 : Memref sig .tc .vmem S1024x1408 .bf16) (h8 : a8.IsWhole) (x0 : Vec Ideal S1024x2048 .bf16) (x1 x2 : Vec Ideal S1x2048x1408 .bf16)
    (y : S1024x1408.Idx) :
    out0_A_3 c i a3 h3 a4 h4 a5 h5 a6 h6 a7 h7 a8 h8 x0 x1 x2 y = P3 x0 x1 y := by
  refine View.read_writes_apply_of_pieces _ _ (P3 x0 x1) _ (View.PiecesOf.mem ?_) y
    (cover0_A_3 c i a3 h3 a4 h4 a5 h5 a6 h6 a7 h7 a8 h8 x0 x1 x2 y)
  unfold kernelRun0_A
  dsimp only
  simp only [kernelRun0_A.sl.r, View.readAt_eq_ld, h3.read_unread, h4.read_unread, h5.read_unread]
  refine ⟨fun z => ?_, fun z => ?_, trivial⟩
  · obtain ⟨r, q, rfl⟩ : ∃ (r : Fin 1024) (q : Fin 640), z = ix2 r q := ⟨z 0, z 1, eq_ix2 z⟩
    exact (pay10_apply _ _ r q).trans ((sum_hi x0 x1 r q).trans (congrArg (P3 x0 x1) (at_hi r q)).symm)
  · obtain ⟨r, q, rfl⟩ : ∃ (r : Fin 1024) (q : Fin 768), z = ix2 r q := ⟨z 0, z 1, eq_ix2 z⟩
    exact (pay7_apply _ _ r q).trans ((sum_lo x0 x1 r q).trans (congrArg (P3 x0 x1) (at_lo r q)).symm)

/-- The two chunks the body stores make up the block of result 2. -/
theorem out_A4 (c : Dev nD) (i : grid0.Coords) (a3 : Memref sig .tc .vmem S1024x2048 .bf16) (h3 : a3.IsWhole)
    (a4 : Memref sig .tc .vmem S1x2048x1408 .bf16) (h4 : a4.IsWhole) (a5 : Memref sig .tc .vmem S1x2048x1408 .bf16) (h5 : a5.IsWhole)
    (a6 : Memref sig .tc .vmem S1024x1408 .bf16) (h6 : a6.IsWhole) (a7 : Memref sig .tc .vmem S1024x1408 .bf16) (h7 : a7.IsWhole)
    (a8 : Memref sig .tc .vmem S1024x1408 .bf16) (h8 : a8.IsWhole) (x0 : Vec Ideal S1024x2048 .bf16) (x1 x2 : Vec Ideal S1x2048x1408 .bf16)
    (y : S1024x1408.Idx) :
    out0_A_4 c i a3 h3 a4 h4 a5 h5 a6 h6 a7 h7 a8 h8 x0 x1 x2 y = P3 x0 x2 y := by
  refine View.read_writes_apply_of_pieces _ _ (P3 x0 x2) _ (View.PiecesOf.mem ?_) y
    (cover0_A_4 c i a3 h3 a4 h4 a5 h5 a6 h6 a7 h7 a8 h8 x0 x1 x2 y)
  unfold kernelRun0_A
  dsimp only
  simp only [kernelRun0_A.sl.r, View.readAt_eq_ld, h3.read_unread, h4.read_unread, h5.read_unread]
  refine ⟨fun z => ?_, fun z => ?_, trivial⟩
  · obtain ⟨r, q, rfl⟩ : ∃ (r : Fin 1024) (q : Fin 640), z = ix2 r q := ⟨z 0, z 1, eq_ix2 z⟩
    exact (pay3_apply _ _ r q).trans ((sum_hi x0 x2 r q).trans (congrArg (P3 x0 x2) (at_hi r q)).symm)
  · obtain ⟨r, q, rfl⟩ : ∃ (r : Fin 1024) (q : Fin 768), z = ix2 r q := ⟨z 0, z 1, eq_ix2 z⟩
    exact (pay8_apply _ _ r q).trans ((sum_lo x0 x2 r q).trans (congrArg (P3 x0 x2) (at_lo r q)).symm)

/-- The two chunks the body stores make up the block of result 3. -/
theorem out_A5 (c : Dev nD) (i : grid0.Coords) (a3 : Memref sig .tc .vmem S1024x2048 .bf16) (h3 : a3.IsWhole)
    (a4 : Memref sig .tc .vmem S1x2048x1408 .bf16) (h4 : a4.IsWhole) (a5 : Memref sig .tc .vmem S1x2048x1408 .bf16) (h5 : a5.IsWhole)
    (a6 : Memref sig .tc .vmem S1024x1408 .bf16) (h6 : a6.IsWhole) (a7 : Memref sig .tc .vmem S1024x1408 .bf16) (h7 : a7.IsWhole)
    (a8 : Memref sig .tc .vmem S1024x1408 .bf16) (h8 : a8.IsWhole) (x0 : Vec Ideal S1024x2048 .bf16) (x1 x2 : Vec Ideal S1x2048x1408 .bf16)
    (y : S1024x1408.Idx) :
    out0_A_5 c i a3 h3 a4 h4 a5 h5 a6 h6 a7 h7 a8 h8 x0 x1 x2 y = P5 x0 x1 x2 y := by
  refine View.read_writes_apply_of_pieces _ _ (P5 x0 x1 x2) _ (View.PiecesOf.mem ?_) y
    (cover0_A_5 c i a3 h3 a4 h4 a5 h5 a6 h6 a7 h7 a8 h8 x0 x1 x2 y)
  unfold kernelRun0_A
  dsimp only
  simp only [kernelRun0_A.sl.r, View.readAt_eq_ld, h3.read_unread, h4.read_unread, h5.read_unread]
  refine ⟨fun z => ?_, fun z => ?_, trivial⟩
  · obtain ⟨r, q, rfl⟩ : ∃ (r : Fin 1024) (q : Fin 640), z = ix2 r q := ⟨z 0, z 1, eq_ix2 z⟩
    exact (pay4_apply _ _ _ _ r q).trans ((congrArg₂ act (sum_hi x0 x1 r q) (sum_hi x0 x2 r q)).trans (congrArg (P5 x0 x1 x2) (at_hi r q)).symm)
  · obtain ⟨r, q, rfl⟩ : ∃ (r : Fin 1024) (q : Fin 768), z = ix2 r q := ⟨z 0, z 1, eq_ix2 z⟩
    exact (pay9_apply _ _ _ _ r q).trans ((congrArg₂ act (sum_lo x0 x1 r q) (sum_lo x0 x2 r q)).trans (congrArg (P5 x0 x1 x2) (at_lo r q)).symm)

section Ref
open Cert.Reference15Ideal.Read
variable (x0 : Vec Ideal S4096x2048 .bf16) (x1 x2 : Vec Ideal S4x2048x1408 .bf16) (r : Fin 4096) (q : Fin 5632)

/-- An input product at an entry: column `q` of the weight is column `q % 1408` of its block `q / 1408`. -/
def prodAt (w : Vec Ideal S4x2048x1408 .bf16) : EReal :=
  ∑ k : Fin 2048, pr (x0 (ix2 r k)) (w (ix3 ⟨q.val / 1408, by omega⟩ k ⟨q.val % 1408, by omega⟩))

theorem ref_prod1 : val_main_v5 (F := Ideal) x0 x1 (ix2 r q) = prodAt x0 r q x1 := by
  refine (val_main_v5_apply x0 x1 _).trans (Finset.sum_congr rfl fun k _ => ?_)
  rw [val_main_v0_apply, val_main_v4_apply, val_main_v3_apply, val_main_v1_apply]
  show pr (x0 _) (x1 _) = _
  refine congrArg₂ pr (congrArg x0 (Shape.idx_ext₂ rfl rfl)) (congrArg x1 (idx_ext3 ?_ ?_ ?_))
  · show (k.val * 5632 + q.val) / 1408 % 4 = q.val / 1408
    omega
  · show (k.val * 5632 + q.val) / 5632 = k.val
    omega
  · show (k.val * 5632 + q.val) % 1408 = q.val % 1408
    omega

theorem ref_prod2 : val_main_v8 (F := Ideal) x0 x2 (ix2 r q) = prodAt x0 r q x2 := by
  refine (val_main_v8_apply x0 x2 _).trans (Finset.sum_congr rfl fun k _ => ?_)
  rw [val_main_v0_apply, val_main_v7_apply, val_main_v6_apply, val_main_v2_apply]
  show pr (x0 _) (x2 _) = _
  refine congrArg₂ pr (congrArg x0 (Shape.idx_ext₂ rfl rfl)) (congrArg x2 (idx_ext3 ?_ ?_ ?_))
  · show (k.val * 5632 + q.val) / 1408 % 4 = q.val / 1408
    omega
  · show (k.val * 5632 + q.val) / 5632 = k.val
    omega
  · show (k.val * 5632 + q.val) % 1408 = q.val % 1408
    omega

/-- The reference's gated product at an entry. -/
theorem ref_act : val_main_v10 (F := Ideal) x0 x1 x2 (ix2 r q) = act (prodAt x0 r q x1) (prodAt x0 r q x2) := by
  rw [val_main_v10_apply, val_main_v9_apply, val_main_call0_v5_apply, val_main_call0_v4_apply, val_main_call0_v3_apply, val_main_call0_v2_apply, val_main_call0_v1_apply, val_main_call0_v0_apply, val_main_call0_cst_apply, val_main_call0_cst_0_apply, ref_prod1, ref_prod2]
  unfold act
  rw [← sg_reference]
  rfl

end Ref

/-- The reference's three results on the arguments of device `c`. -/
abbrev R3 (c : Dev nD) : Vec Ideal S4096x5632 .bf16 := val_main_v11 (F := Ideal) (A0 m c) (A1 m c)
abbrev R4 (c : Dev nD) : Vec Ideal S4096x5632 .bf16 := val_main_v12 (F := Ideal) (A0 m c) (A2 m c)
abbrev R5 (c : Dev nD) : Vec Ideal S4096x5632 .bf16 :=
  val_main_v13 (F := Ideal) (A0 m c) (A1 m c) (A2 m c)

theorem emb_eq3 (t : Fin cfg0.N) (r : Fin 1024) (q : Fin 1408) : (win0_3.rect t).emb (ix2 r q) = ix2 (row t r) (col t q) :=
  Shape.idx_ext₂ (win0_3.rect_emb_val t _ 0) (win0_3.rect_emb_val t _ 1)
theorem emb_eq4 (t : Fin cfg0.N) (r : Fin 1024) (q : Fin 1408) : (win0_4.rect t).emb (ix2 r q) = ix2 (row t r) (col t q) := by
  have h := (idx_facts t).2.2.2.1
  refine Shape.idx_ext₂ ?_ ?_
  · rw [win0_4.rect_emb_val t, h]; rfl
  · rw [win0_4.rect_emb_val t, h]; rfl
theorem emb_eq5 (t : Fin cfg0.N) (r : Fin 1024) (q : Fin 1408) : (win0_5.rect t).emb (ix2 r q) = ix2 (row t r) (col t q) := by
  have h := (idx_facts t).2.2.2.2
  refine Shape.idx_ext₂ ?_ ?_
  · rw [win0_5.rect_emb_val t, h]; rfl
  · rw [win0_5.rect_emb_val t, h]; rfl

theorem product1_eq (c : Dev nD) (t : Fin cfg0.N) (r : Fin 1024) (q : Fin 1408) :
    P3 (iblk m c 0 t) (iblk m c 1 t) (ix2 r q) = prodAt (A0 m c) (row t r) (col t q) (A1 m c) := by
  show (∑ k : Fin 2048, pr (iblk m c 0 t (ix2 r k)) (iblk m c 1 t (ix3 0 k q))) = _
  exact Finset.sum_congr rfl fun k _ => by rw [iblk0_apply, iblk1_apply]

theorem product2_eq (c : Dev nD) (t : Fin cfg0.N) (r : Fin 1024) (q : Fin 1408) :
    P3 (iblk m c 0 t) (iblk m c 2 t) (ix2 r q) = prodAt (A0 m c) (row t r) (col t q) (A2 m c) := by
  show (∑ k : Fin 2048, pr (iblk m c 0 t (ix2 r k)) (iblk m c 2 t (ix3 0 k q))) = _
  exact Finset.sum_congr rfl fun k _ => by rw [iblk0_apply, iblk2_apply]

/-- Each point writes back its block of the reference's result 1. -/
theorem flushed3_eq (c : Dev nD) (t : Fin cfg0.N) :
    (dats m 0 c).flushed 3 t = ((cfg0.win 3).blk t).view.read (Elt Ideal) (R3 m c) := by
  rw [Value.flushed3_A]
  funext j
  obtain ⟨r, q, rfl⟩ : ∃ (r : Fin 1024) (q : Fin 1408), j = ix2 r q := ⟨j 0, j 1, eq_ix2 j⟩
  refine (out_A3 c _ _ _ _ _ _ _ _ _ _ _ _ _ _ _ _ (ix2 r q)).trans ?_
  show P3 (iblk m c 0 t) (iblk m c 1 t) (ix2 r q) = R3 m c ((win0_3.rect t).emb (ix2 r q))
  rw [emb_eq3]
  exact (product1_eq m c t r q).trans (ref_prod1 _ _ _ _).symm

/-- Each point writes back its block of the reference's result 2. -/
theorem flushed4_eq (c : Dev nD) (t : Fin cfg0.N) :
    (dats m 0 c).flushed 4 t = ((cfg0.win 4).blk t).view.read (Elt Ideal) (R4 m c) := by
  rw [Value.flushed4_A]
  funext j
  obtain ⟨r, q, rfl⟩ : ∃ (r : Fin 1024) (q : Fin 1408), j = ix2 r q := ⟨j 0, j 1, eq_ix2 j⟩
  refine (out_A4 c _ _ _ _ _ _ _ _ _ _ _ _ _ _ _ _ (ix2 r q)).trans ?_
  show P3 (iblk m c 0 t) (iblk m c 2 t) (ix2 r q) = R4 m c ((win0_4.rect t).emb (ix2 r q))
  rw [emb_eq4]
  exact (product2_eq m c t r q).trans (ref_prod2 _ _ _ _).symm

/-- Each point writes back its block of the reference's result 3. -/
theorem flushed5_eq (c : Dev nD) (t : Fin cfg0.N) :
    (dats m 0 c).flushed 5 t = ((cfg0.win 5).blk t).view.read (Elt Ideal) (R5 m c) := by
  rw [Value.flushed5_A]
  funext j
  obtain ⟨r, q, rfl⟩ : ∃ (r : Fin 1024) (q : Fin 1408), j = ix2 r q := ⟨j 0, j 1, eq_ix2 j⟩
  refine (out_A5 c _ _ _ _ _ _ _ _ _ _ _ _ _ _ _ _ (ix2 r q)).trans ?_
  show act (P3 (iblk m c 0 t) (iblk m c 1 t) (ix2 r q)) (P3 (iblk m c 0 t) (iblk m c 2 t) (ix2 r q)) = R5 m c ((win0_5.rect t).emb (ix2 r q))
  rw [emb_eq5]
  exact (congrArg₂ act (product1_eq m c t r q) (product2_eq m c t r q)).trans (ref_act _ _ _ _ _).symm

/-- The kernel's result array 1 is the reference's. -/
theorem final3 (c : Dev nD) : (dats m 0 c).arrAt 3 cfg0.N = R3 m c :=
  (dats m 0 c).arrAt_eq_of_cover 3 (R3 m c) (fun t _ => flushed3_eq m c t) (Pipeline.Window.Covers.cover _ (by decide +kernel) (Memref.isWhole_whole _))

/-- The kernel's result array 2 is the reference's. -/
theorem final4 (c : Dev nD) : (dats m 0 c).arrAt 4 cfg0.N = R4 m c :=
  (dats m 0 c).arrAt_eq_of_cover 4 (R4 m c) (fun t _ => flushed4_eq m c t) (Pipeline.Window.Covers.cover _ (by decide +kernel) (Memref.isWhole_whole _))

/-- The kernel's result array 3 is the reference's. -/
theorem final5 (c : Dev nD) : (dats m 0 c).arrAt 5 cfg0.N = R5 m c :=
  (dats m 0 c).arrAt_eq_of_cover 5 (R5 m c) (fun t _ => flushed5_eq m c t) (Pipeline.Window.Covers.cover _ (by decide +kernel) (Memref.isWhole_whole _))

end Cert.Kernel15Ideal.FfnIn

end
-- ==== Proof.FfnInClaim.lean ====
/-
  The value claim about the feed-forward layer's input products and gated product.
-/
module

public import proofs.«01_k».proof.Defs
public import proofs.«01_k».proof.Proof.FfnIn

@[expose] public section

set_option maxRecDepth 16384

noncomputable section

open Idealize.ShloMosaic Idealize.ShloMosaic.TcCoe Idealize.SL.Sem

namespace Cert.FfnInClaim

open Cert.Reference15Ideal.Read

open Cert.Kernel15Ideal.FfnIn

/-- The kernel and the reference end with equal results: the gate product, the up product, and the swish of the one times the other. -/
theorem algebraic : Cert.algebraic_Kernel15Ideal_Reference15Ideal := by
  intro m ρ m' ρ' _ hagree
  refine ⟨R3 m, R4 m, R5 m, ?_, ?_⟩
  · refine (θ_run _ _ _).mono (fun r h c => ?_) (Cert.Kernel15Ideal.Value.run_blocks (F := Ideal) m ρ)
    obtain ⟨h0, h1, h2, hargs⟩ := h c
    exact ⟨h0.trans (final3 m c), h1.trans (final4 m c), h2.trans (final5 m c), hargs⟩
  · refine (θ_run _ _ _).mono (fun r h c => ?_) (Cert.Reference15Ideal.Value.run (F := Ideal) m' ρ')
    obtain ⟨e0, e1, e2⟩ := hagree c
    obtain ⟨h0, h1, h2, hargs⟩ := h c
    rw [val_main_v11_eq, e0, e1] at h0
    rw [val_main_v12_eq, e0, e2] at h1
    rw [val_main_v13_eq, e0, e1, e2] at h2
    exact ⟨h0, h1, h2, hargs⟩

end Cert.FfnInClaim

end
-- ==== Proof.BranchOut.lean ====
/-
  The two branches' output products and their gated sum: the kernel's three result arrays are the reference's, entry by
  entry.
-/
module

public import proofs.«01_k».proof.Proof.Products
public import proofs.«01_k».proof.Proof.Chunks
public import proofs.«01_k».proof.Proof.Gen.Kernel16Ideal.Value
public import proofs.«01_k».proof.Proof.Gen.Reference16Ideal.Run
public import proofs.«01_k».proof.Proof.Gen.Reference16Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel16Ideal.BranchOut

open Cert.Reference16Ideal.Read

open Cert.Kernel16Ideal Cert.Kernel16Ideal.Gen Cert.Products Cert.Chunks

variable (m : (ℓ : Loc nD τ sig) → Buf (Elt Ideal) ℓ)

/-- The five arguments on device `c`: the two branches' outputs, their two weights, and the projection the gates are in. -/
abbrev A0 (c : Dev nD) : Vec Ideal S4096x1024 .bf16 := m ((c : Thread nD τ).loc main_arg0)
abbrev A1 (c : Dev nD) : Vec Ideal S4x1024x512 .bf16 := m ((c : Thread nD τ).loc main_arg1)
abbrev A2 (c : Dev nD) : Vec Ideal S4096x1024 .bf16 := m ((c : Thread nD τ).loc main_arg2)
abbrev A3 (c : Dev nD) : Vec Ideal S4x1024x512 .bf16 := m ((c : Thread nD τ).loc main_arg3)
abbrev A4 (c : Dev nD) : Vec Ideal S4096x11264 .f32 := m ((c : Thread nD τ).loc main_arg4)

/-- How the windows move together. -/
theorem idx_facts : ∀ t : Fin cfg0.N,
    ((win0_0.index t 0 = win0_6.index t 0 ∧ win0_0.index t 1 = 0) ∧ (win0_1.index t 0 = win0_6.index t 0 ∧ win0_1.index t 1 = 0))
    ∧ ((win0_2.index t 0 = win0_6.index t 1 ∧ win0_2.index t 1 = 0 ∧ win0_2.index t 2 = 0)
      ∧ (win0_3.index t 0 = win0_6.index t 1 ∧ win0_3.index t 1 = 0 ∧ win0_3.index t 2 = 0))
    ∧ ((win0_4.index t 0 = win0_6.index t 0 ∧ win0_4.index t 1 = 14 + win0_6.index t 1)
      ∧ (win0_5.index t 0 = win0_6.index t 0 ∧ win0_5.index t 1 = 18 + win0_6.index t 1))
    ∧ (win0_6.index t 0 < 4 ∧ win0_6.index t 1 < 4) ∧ (win0_7.index t = win0_6.index t ∧ win0_8.index t = win0_6.index t) :=
  (by decide +kernel : ∀ t : Fin grid0.N, _)

/-- The row and the column of the result arrays that entry (`r`, `q`) of point `t`'s block is. -/
def row (t : Fin cfg0.N) (r : Fin 1024) : Fin 4096 :=
  ⟨win0_6.index t 0 * 1024 + r.val, by have h := (idx_facts t).2.2.2.1.1; omega⟩
def col (t : Fin cfg0.N) (q : Fin 512) : Fin 2048 :=
  ⟨win0_6.index t 1 * 512 + q.val, by have h := (idx_facts t).2.2.2.1.2; omega⟩

theorem iblk0_apply (c : Dev nD) (t : Fin cfg0.N) (r : Fin 1024) (k : Fin 1024) :
    iblk m c 0 t (ix2 r k) = A0 m c (ix2 (row t r) k) := by
  show A0 m c ((win0_0.rect t).emb (ix2 r k)) = _
  refine congrArg _ (Shape.idx_ext₂ ?_ ?_)
  · rw [win0_0.rect_emb_val t, (idx_facts t).1.1.1]; rfl
  · rw [win0_0.rect_emb_val t, (idx_facts t).1.1.2]
    show 0 * 1024 + k.val = k.val
    omega

theorem iblk1_apply (c : Dev nD) (t : Fin cfg0.N) (r : Fin 1024) (k : Fin 1024) :
    iblk m c 1 t (ix2 r k) = A2 m c (ix2 (row t r) k) := by
  show A2 m c ((win0_1.rect t).emb (ix2 r k)) = _
  refine congrArg _ (Shape.idx_ext₂ ?_ ?_)
  · rw [win0_1.rect_emb_val t, (idx_facts t).1.2.1]; rfl
  · rw [win0_1.rect_emb_val t, (idx_facts t).1.2.2]
    show 0 * 1024 + k.val = k.val
    omega

theorem iblk2_apply (c : Dev nD) (t : Fin cfg0.N) (k : Fin 1024) (q : Fin 512) :
    iblk m c 2 t (ix3 0 k q) = A1 m c (ix3 ⟨(col t q).val / 512, by omega⟩ k ⟨(col t q).val % 512, by omega⟩) := by
  show A1 m c ((win0_2.rect t).emb (ix3 0 k q)) = _
  refine congrArg _ (idx_ext3 ?_ ?_ ?_)
  · rw [win0_2.rect_emb_val t, (idx_facts t).2.1.1.1]
    show win0_6.index t 1 * 1 + 0 = (win0_6.index t 1 * 512 + q.val) / 512
    omega
  · rw [win0_2.rect_emb_val t, (idx_facts t).2.1.1.2.1]
    show 0 * 1024 + k.val = k.val
    omega
  · rw [win0_2.rect_emb_val t, (idx_facts t).2.1.1.2.2]
    show 0 * 512 + q.val = (win0_6.index t 1 * 512 + q.val) % 512
    omega

theorem iblk3_apply (c : Dev nD) (t : Fin cfg0.N) (k : Fin 1024) (q : Fin 512) :
    iblk m c 3 t (ix3 0 k q) = A3 m c (ix3 ⟨(col t q).val / 512, by omega⟩ k ⟨(col t q).val % 512, by omega⟩) := by
  show A3 m c ((win0_3.rect t).emb (ix3 0 k q)) = _
  refine congrArg _ (idx_ext3 ?_ ?_ ?_)
  · rw [win0_3.rect_emb_val t, (idx_facts t).2.1.2.1]
    show win0_6.index t 1 * 1 + 0 = (win0_6.index t 1 * 512 + q.val) / 512
    omega
  · rw [win0_3.rect_emb_val t, (idx_facts t).2.1.2.2.1]
    show 0 * 1024 + k.val = k.val
    omega
  · rw [win0_3.rect_emb_val t, (idx_facts t).2.1.2.2.2]
    show 0 * 512 + q.val = (win0_6.index t 1 * 512 + q.val) % 512
    omega

theorem iblk4_apply (c : Dev nD) (t : Fin cfg0.N) (r : Fin 1024) (q : Fin 512) :
    iblk m c 4 t (ix2 r q) = A4 m c (ix2 (row t r) ⟨7168 + (col t q).val, by omega⟩) := by
  show A4 m c ((win0_4.rect t).emb (ix2 r q)) = _
  refine congrArg _ (Shape.idx_ext₂ ?_ ?_)
  · rw [win0_4.rect_emb_val t, (idx_facts t).2.2.1.1.1]; rfl
  · rw [win0_4.rect_emb_val t, (idx_facts t).2.2.1.1.2]
    show (14 + win0_6.index t 1) * 512 + q.val = 7168 + (win0_6.index t 1 * 512 + q.val)
    omega

theorem iblk5_apply (c : Dev nD) (t : Fin cfg0.N) (r : Fin 1024) (q : Fin 512) :
    iblk m c 5 t (ix2 r q) = A4 m c (ix2 (row t r) ⟨9216 + (col t q).val, by omega⟩) := by
  show A4 m c ((win0_5.rect t).emb (ix2 r q)) = _
  refine congrArg _ (Shape.idx_ext₂ ?_ ?_)
  · rw [win0_5.rect_emb_val t, (idx_facts t).2.2.1.2.1]; rfl
  · rw [win0_5.rect_emb_val t, (idx_facts t).2.2.1.2.2]
    show (18 + win0_6.index t 1) * 512 + q.val = 9216 + (win0_6.index t 1 * 512 + q.val)
    omega

/-- A block of rows times a block of the weight, onto zero, at an entry. -/
theorem prod_apply (w : Vec Ideal S1x1024x512 .bf16) (x : Vec Ideal S1024x1024 .bf16) (r : Fin 1024) (q : Fin 512) :
    matmul (F := Ideal) (φ₁ := .bf16) (φ₂ := .bf16) dot_S1024x1024_S1024x512_S1024x512_1_0_0_1_n_n none x
      (shapeCast S1024x512 w shapeCasts_S1x1024x512_S1024x512 : FVec Ideal S1024x512 .bf16) (constant S1024x512 .f32 0x00000000#32) (ix2 r q)
      = ∑ k : Fin 1024, pr (x (ix2 r k)) (w (ix3 0 k q)) := by
  refine (Ideal.matmul_plain_apply (M := 1024) (K := 1024) (N := 512) (φ₁ := .bf16) (φ₂ := .bf16) none x _ _ r q).trans ?_
  refine (congrArg (· + _) Ideal.ofBits_zero_f32).trans ((zero_add _).trans (Finset.sum_congr rfl fun k _ => ?_))
  refine congrArg (pr (x (ix2 r k))) (shapeCast_apply _ shapeCasts_S1x1024x512_S1024x512 (ix2 k q) (ix3 0 k q) ?_)
  rewrite [Shape.rowMajor_val_two, Shape.rowMajor_val_three]
  show (0 * 1024 + k.val) * 512 + q.val = k.val * 512 + q.val
  omega

theorem pay2_apply (w : Vec Ideal S1x1024x512 .bf16) (x : Vec Ideal S1024x1024 .bf16) (r : Fin 1024) (q : Fin 512) :
    k0_pay2 w x (ix2 r q) = ∑ k : Fin 1024, pr (x (ix2 r k)) (w (ix3 0 k q)) := prod_apply w x r q
theorem pay3_apply (w : Vec Ideal S1x1024x512 .bf16) (x : Vec Ideal S1024x1024 .bf16) (r : Fin 1024) (q : Fin 512) :
    k0_pay3 w x (ix2 r q) = ∑ k : Fin 1024, pr (x (ix2 r k)) (w (ix3 0 k q)) := prod_apply w x r q

theorem pay4_apply (v w : Vec Ideal S1x1024x512 .bf16) (x y : Vec Ideal S1024x1024 .bf16) (a b : Vec Ideal S1024x512 .f32)
    (r : Fin 1024) (q : Fin 512) :
    k0_pay4 v x w y a b (ix2 r q)
      = plus (pr (sg (a (ix2 r q))) (∑ k : Fin 1024, pr (x (ix2 r k)) (v (ix3 0 k q))))
        (pr (sg (b (ix2 r q))) (∑ k : Fin 1024, pr (y (ix2 r k)) (w (ix3 0 k q)))) := by
  rw [← pay2_apply v x, ← pay3_apply w y, ← sg_kernel, ← sg_kernel]
  rfl

section Ref
open Cert.Reference16Ideal.Read
variable (x0 x2 : Vec Ideal S4096x1024 .bf16) (x1 x3 : Vec Ideal S4x1024x512 .bf16) (x4 : Vec Ideal S4096x11264 .f32)
  (r : Fin 4096) (q : Fin 2048)

/-- A branch's output product at an entry: column `q` of the weight is column `q % 512` of its block `q / 512`. -/
def prodAt (x : Vec Ideal S4096x1024 .bf16) (w : Vec Ideal S4x1024x512 .bf16) : EReal :=
  ∑ k : Fin 1024, pr (x (ix2 r k)) (w (ix3 ⟨q.val / 512, by omega⟩ k ⟨q.val % 512, by omega⟩))

theorem ref_prod8 : val_main_v8 (F := Ideal) x0 x1 (ix2 r q) = prodAt r q x0 x1 := by
  refine (val_main_v8_apply x0 x1 _).trans (Finset.sum_congr rfl fun k _ => ?_)
  rw [val_main_v2_apply, val_main_v7_apply, val_main_v6_apply, val_main_v3_apply]
  show pr (x0 _) (x1 _) = _
  refine congrArg₂ pr (congrArg x0 (Shape.idx_ext₂ rfl rfl)) (congrArg x1 (idx_ext3 ?_ ?_ ?_))
  · show (k.val * 2048 + q.val) / 512 % 4 = q.val / 512
    omega
  · show (k.val * 2048 + q.val) / 2048 = k.val
    omega
  · show (k.val * 2048 + q.val) % 512 = q.val % 512
    omega

theorem ref_prod11 : val_main_v11 (F := Ideal) x2 x3 (ix2 r q) = prodAt r q x2 x3 := by
  refine (val_main_v11_apply x2 x3 _).trans (Finset.sum_congr rfl fun k _ => ?_)
  rw [val_main_v4_apply, val_main_v10_apply, val_main_v9_apply, val_main_v5_apply]
  show pr (x2 _) (x3 _) = _
  refine congrArg₂ pr (congrArg x2 (Shape.idx_ext₂ rfl rfl)) (congrArg x3 (idx_ext3 ?_ ?_ ?_))
  · show (k.val * 2048 + q.val) / 512 % 4 = q.val / 512
    omega
  · show (k.val * 2048 + q.val) / 2048 = k.val
    omega
  · show (k.val * 2048 + q.val) % 512 = q.val % 512
    omega

theorem ref_sg17 : val_main_v17 (F := Ideal) x4 (ix2 r q) = sg (x4 (ix2 r ⟨7168 + q.val, by omega⟩)) := by
  rw [val_main_v17_apply, val_main_v16_apply, val_main_v15_apply, val_main_v14_apply, val_main_v13_apply, val_main_v12_apply, val_main_v0_apply, val_main_cst_0_apply, val_main_cst_apply]
  refine (sg_reference (x4 _)).trans (congrArg (fun z => sg (x4 z)) (Shape.idx_ext₂ rfl ?_))
  show 7168 + q.val = 7168 + q.val
  rfl

theorem ref_sg24 : val_main_v24 (F := Ideal) x4 (ix2 r q) = sg (x4 (ix2 r ⟨9216 + q.val, by omega⟩)) := by
  rw [val_main_v24_apply, val_main_v23_apply, val_main_v22_apply, val_main_v21_apply, val_main_v20_apply, val_main_v19_apply, val_main_v1_apply, val_main_cst_2_apply, val_main_cst_1_apply]
  refine (sg_reference (x4 _)).trans (congrArg (fun z => sg (x4 z)) (Shape.idx_ext₂ rfl ?_))
  show 9216 + q.val = 9216 + q.val
  rfl

/-- The reference's gated sum at an entry. -/
theorem ref_sum : val_main_v26 (F := Ideal) x0 x1 x2 x3 x4 (ix2 r q)
    = plus (pr (sg (x4 (ix2 r ⟨7168 + q.val, by omega⟩))) (prodAt r q x0 x1)) (pr (sg (x4 (ix2 r ⟨9216 + q.val, by omega⟩))) (prodAt r q x2 x3)) := by
  rw [val_main_v26_apply, val_main_v18_apply, val_main_v25_apply, ref_sg17, ref_sg24, ref_prod8, ref_prod11]
  rfl

end Ref

/-- The reference's three results on the arguments of device `c`. -/
abbrev R6 (c : Dev nD) : Vec Ideal S4096x2048 .bf16 := val_main_v27 (F := Ideal) (A0 m c) (A1 m c)
abbrev R7 (c : Dev nD) : Vec Ideal S4096x2048 .bf16 := val_main_v28 (F := Ideal) (A2 m c) (A3 m c)
abbrev R8 (c : Dev nD) : Vec Ideal S4096x2048 .bf16 :=
  val_main_v29 (F := Ideal) (A0 m c) (A1 m c) (A2 m c) (A3 m c) (A4 m c)

theorem emb_eq6 (t : Fin cfg0.N) (r : Fin 1024) (q : Fin 512) : (win0_6.rect t).emb (ix2 r q) = ix2 (row t r) (col t q) :=
  Shape.idx_ext₂ (win0_6.rect_emb_val t _ 0) (win0_6.rect_emb_val t _ 1)
theorem emb_eq7 (t : Fin cfg0.N) (r : Fin 1024) (q : Fin 512) : (win0_7.rect t).emb (ix2 r q) = ix2 (row t r) (col t q) := by
  have h := (idx_facts t).2.2.2.2.1
  refine Shape.idx_ext₂ ?_ ?_
  · rw [win0_7.rect_emb_val t, h]; rfl
  · rw [win0_7.rect_emb_val t, h]; rfl
theorem emb_eq8 (t : Fin cfg0.N) (r : Fin 1024) (q : Fin 512) : (win0_8.rect t).emb (ix2 r q) = ix2 (row t r) (col t q) := by
  have h := (idx_facts t).2.2.2.2.2
  refine Shape.idx_ext₂ ?_ ?_
  · rw [win0_8.rect_emb_val t, h]; rfl
  · rw [win0_8.rect_emb_val t, h]; rfl

theorem product0_eq (c : Dev nD) (t : Fin cfg0.N) (r : Fin 1024) (q : Fin 512) :
    (∑ k : Fin 1024, pr (iblk m c 0 t (ix2 r k)) (iblk m c 2 t (ix3 0 k q))) = prodAt (row t r) (col t q) (A0 m c) (A1 m c) :=
  Finset.sum_congr rfl fun k _ => by rw [iblk0_apply, iblk2_apply]

theorem product1_eq (c : Dev nD) (t : Fin cfg0.N) (r : Fin 1024) (q : Fin 512) :
    (∑ k : Fin 1024, pr (iblk m c 1 t (ix2 r k)) (iblk m c 3 t (ix3 0 k q))) = prodAt (row t r) (col t q) (A2 m c) (A3 m c) :=
  Finset.sum_congr rfl fun k _ => by rw [iblk1_apply, iblk3_apply]

/-- Each point writes back its block of the reference's result 1. -/
theorem flushed6_eq (c : Dev nD) (t : Fin cfg0.N) :
    (dats m 0 c).flushed 6 t = ((cfg0.win 6).blk t).view.read (Elt Ideal) (R6 m c) := by
  rw [Value.flushed6]
  unfold out0_6
  rw [View.canon_unit_zero hz]
  simp only [View.ld_unit_zero (S := S1024x1024) hz, View.ld_unit_zero (S := S1x1024x512) hz3, View.ld_unit_zero (S := S1024x512) hz]
  funext j
  obtain ⟨r, q, rfl⟩ : ∃ (r : Fin 1024) (q : Fin 512), j = ix2 r q := ⟨j 0, j 1, eq_ix2 j⟩
  show k0_pay2 (iblk m c 2 t) (iblk m c 0 t) (ix2 r q) = R6 m c ((win0_6.rect t).emb (ix2 r q))
  rw [emb_eq6, pay2_apply]
  exact (product0_eq m c t r q).trans (ref_prod8 _ _ _ _).symm

/-- Each point writes back its block of the reference's result 2. -/
theorem flushed7_eq (c : Dev nD) (t : Fin cfg0.N) :
    (dats m 0 c).flushed 7 t = ((cfg0.win 7).blk t).view.read (Elt Ideal) (R7 m c) := by
  rw [Value.flushed7]
  unfold out0_7
  rw [View.canon_unit_zero hz]
  simp only [View.ld_unit_zero (S := S1024x1024) hz, View.ld_unit_zero (S := S1x1024x512) hz3, View.ld_unit_zero (S := S1024x512) hz]
  funext j
  obtain ⟨r, q, rfl⟩ : ∃ (r : Fin 1024) (q : Fin 512), j = ix2 r q := ⟨j 0, j 1, eq_ix2 j⟩
  show k0_pay3 (iblk m c 3 t) (iblk m c 1 t) (ix2 r q) = R7 m c ((win0_7.rect t).emb (ix2 r q))
  rw [emb_eq7, pay3_apply]
  exact (product1_eq m c t r q).trans (ref_prod11 _ _ _ _).symm

/-- Each point writes back its block of the reference's result 3. -/
theorem flushed8_eq (c : Dev nD) (t : Fin cfg0.N) :
    (dats m 0 c).flushed 8 t = ((cfg0.win 8).blk t).view.read (Elt Ideal) (R8 m c) := by
  rw [Value.flushed8]
  unfold out0_8
  rw [View.canon_unit_zero hz]
  simp only [View.ld_unit_zero (S := S1024x1024) hz, View.ld_unit_zero (S := S1x1024x512) hz3, View.ld_unit_zero (S := S1024x512) hz]
  funext j
  obtain ⟨r, q, rfl⟩ : ∃ (r : Fin 1024) (q : Fin 512), j = ix2 r q := ⟨j 0, j 1, eq_ix2 j⟩
  show k0_pay4 (iblk m c 2 t) (iblk m c 0 t) (iblk m c 3 t) (iblk m c 1 t) (iblk m c 4 t) (iblk m c 5 t) (ix2 r q) = R8 m c ((win0_8.rect t).emb (ix2 r q))
  rw [emb_eq8, pay4_apply, iblk4_apply, iblk5_apply, product0_eq, product1_eq]
  exact (ref_sum _ _ _ _ _ _ _).symm

/-- The kernel's result array 1 is the reference's. -/
theorem final6 (c : Dev nD) : (dats m 0 c).arrAt 6 cfg0.N = R6 m c :=
  (dats m 0 c).arrAt_eq_of_cover 6 (R6 m c) (fun t _ => flushed6_eq m c t) (Pipeline.Window.Covers.cover _ (by decide +kernel) (Memref.isWhole_whole _))

/-- The kernel's result array 2 is the reference's. -/
theorem final7 (c : Dev nD) : (dats m 0 c).arrAt 7 cfg0.N = R7 m c :=
  (dats m 0 c).arrAt_eq_of_cover 7 (R7 m c) (fun t _ => flushed7_eq m c t) (Pipeline.Window.Covers.cover _ (by decide +kernel) (Memref.isWhole_whole _))

/-- The kernel's result array 3 is the reference's. -/
theorem final8 (c : Dev nD) : (dats m 0 c).arrAt 8 cfg0.N = R8 m c :=
  (dats m 0 c).arrAt_eq_of_cover 8 (R8 m c) (fun t _ => flushed8_eq m c t) (Pipeline.Window.Covers.cover _ (by decide +kernel) (Memref.isWhole_whole _))

end Cert.Kernel16Ideal.BranchOut

end
-- ==== Proof.BranchOutClaim.lean ====
/-
  The value claim about the two branches' output products and their gated sum.
-/
module

public import proofs.«01_k».proof.Defs
public import proofs.«01_k».proof.Proof.BranchOut

@[expose] public section

set_option maxRecDepth 16384

noncomputable section

open Idealize.ShloMosaic Idealize.ShloMosaic.TcCoe Idealize.SL.Sem

namespace Cert.BranchOutClaim

open Cert.Reference16Ideal.Read

open Cert.Kernel16Ideal.BranchOut

/-- The kernel and the reference end with equal results: the two branches' output products, and their sum under the gates. -/
theorem algebraic : Cert.algebraic_Kernel16Ideal_Reference16Ideal := by
  intro m ρ m' ρ' _ hagree
  refine ⟨R6 m, R7 m, R8 m, ?_, ?_⟩
  · refine (θ_run _ _ _).mono (fun r h c => ?_) (Cert.Kernel16Ideal.Value.run_blocks (F := Ideal) m ρ)
    obtain ⟨h0, h1, h2, hargs⟩ := h c
    exact ⟨h0.trans (final6 m c), h1.trans (final7 m c), h2.trans (final8 m c), hargs⟩
  · refine (θ_run _ _ _).mono (fun r h c => ?_) (Cert.Reference16Ideal.Value.run (F := Ideal) m' ρ')
    obtain ⟨e0, e1, e2, e3, e4⟩ := hagree c
    obtain ⟨h0, h1, h2, hargs⟩ := h c
    rw [val_main_v27_eq, e0, e1] at h0
    rw [val_main_v28_eq, e2, e3] at h1
    rw [val_main_v29_eq, e0, e1, e2, e3, e4] at h2
    exact ⟨h0, h1, h2, hargs⟩

end Cert.BranchOutClaim

end
-- ==== Proof.WO.lean ====
/-
  The mixer's output projection and its gated residual: the kernel's two result arrays are the reference's, entry by entry.
-/
module

public import proofs.«01_k».proof.Proof.Gen.Kernel17Ideal.Value
public import proofs.«01_k».proof.Proof.Gen.Reference17Ideal.Read
public import proofs.«01_k».proof.Proof.Products
public import proofs.«01_k».proof.Proof.Chunks

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel17Ideal.WO

open Cert.Reference17Ideal.Read

open Cert.Kernel17Ideal Cert.Kernel17Ideal.Gen Cert.Products Cert.Chunks

variable (m : (ℓ : Loc nD τ sig) → Buf (Elt Ideal) ℓ)

/-- The four arguments on device `c`. -/
abbrev A0 (c : Dev nD) : Vec Ideal S4096x2048 .bf16 := m ((c : Thread nD τ).loc main_arg0)
abbrev A1 (c : Dev nD) : Vec Ideal S2048x2048 .bf16 := m ((c : Thread nD τ).loc main_arg1)
abbrev A2 (c : Dev nD) : Vec Ideal S4096x2048 .f32 := m ((c : Thread nD τ).loc main_arg2)
abbrev A3 (c : Dev nD) : Vec Ideal S1x2048 .f32 := m ((c : Thread nD τ).loc main_arg3)

/-- How the windows move together. -/
theorem idx_facts : ∀ t : Fin cfg0.N,
    (win0_0.index t 0 = win0_4.index t 0 ∧ win0_0.index t 1 = 0) ∧ (win0_1.index t 0 = 0 ∧ win0_1.index t 1 = win0_4.index t 1)
    ∧ win0_2.index t = win0_4.index t ∧ (win0_3.index t 0 = 0 ∧ win0_3.index t 1 = win0_4.index t 1)
    ∧ (win0_4.index t 0 < 4 ∧ win0_4.index t 1 < 2) ∧ win0_5.index t = win0_4.index t :=
  (by decide +kernel : ∀ t : Fin grid0.N, _)

/-- The row and the column of the result arrays that entry (`r`, `q`) of point `t`'s block is. -/
def row (t : Fin cfg0.N) (r : Fin 1024) : Fin 4096 :=
  ⟨win0_4.index t 0 * 1024 + r.val, by have h := (idx_facts t).2.2.2.2.1.1; omega⟩
def col (t : Fin cfg0.N) (q : Fin 1024) : Fin 2048 :=
  ⟨win0_4.index t 1 * 1024 + q.val, by have h := (idx_facts t).2.2.2.2.1.2; omega⟩

theorem iblk0_apply (c : Dev nD) (t : Fin cfg0.N) (r : Fin 1024) (k : Fin 2048) :
    iblk m c 0 t (ix2 r k) = A0 m c (ix2 (row t r) k) := by
  show A0 m c ((win0_0.rect t).emb (ix2 r k)) = _
  refine congrArg _ (Shape.idx_ext₂ ?_ ?_)
  · rw [win0_0.rect_emb_val t, (idx_facts t).1.1]; rfl
  · rw [win0_0.rect_emb_val t, (idx_facts t).1.2]
    show 0 * 2048 + k.val = k.val
    omega

theorem iblk1_apply (c : Dev nD) (t : Fin cfg0.N) (k : Fin 2048) (q : Fin 1024) :
    iblk m c 1 t (ix2 k q) = A1 m c (ix2 k (col t q)) := by
  show A1 m c ((win0_1.rect t).emb (ix2 k q)) = _
  refine congrArg _ (Shape.idx_ext₂ ?_ ?_)
  · rw [win0_1.rect_emb_val t, (idx_facts t).2.1.1]
    show 0 * 2048 + k.val = k.val
    omega
  · rw [win0_1.rect_emb_val t, (idx_facts t).2.1.2]; rfl

theorem iblk2_apply (c : Dev nD) (t : Fin cfg0.N) (r : Fin 1024) (q : Fin 1024) :
    iblk m c 2 t (ix2 r q) = A2 m c (ix2 (row t r) (col t q)) := by
  show A2 m c ((win0_2.rect t).emb (ix2 r q)) = _
  have h := (idx_facts t).2.2.1
  refine congrArg _ (Shape.idx_ext₂ ?_ ?_)
  · rw [win0_2.rect_emb_val t, h]; rfl
  · rw [win0_2.rect_emb_val t, h]; rfl

theorem iblk3_apply (c : Dev nD) (t : Fin cfg0.N) (q : Fin 1024) :
    iblk m c 3 t (ix2 0 q) = A3 m c (ix2 0 (col t q)) := by
  show A3 m c ((win0_3.rect t).emb (ix2 0 q)) = _
  refine congrArg _ (Shape.idx_ext₂ ?_ ?_)
  · rw [win0_3.rect_emb_val t, (idx_facts t).2.2.2.1.1]; rfl
  · rw [win0_3.rect_emb_val t, (idx_facts t).2.2.2.1.2]; rfl

/-- The block's product at an entry of the first column chunk: the sum over the contracted axis. -/
theorem pay1_apply (w : Vec Ideal S2048x768 .bf16) (x : Vec Ideal S1024x2048 .bf16) (r : Fin 1024) (q : Fin 768) :
    k0_pay1 w x (ix2 r q) = ∑ k : Fin 2048, pr (x (ix2 r k)) (w (ix2 k q)) := by
  unfold k0_pay1
  refine (Ideal.matmul_plain_apply (M := 1024) (K := 2048) (N := 768) (φ₁ := .bf16) (φ₂ := .bf16) none x w _ r q).trans ?_
  exact (congrArg (· + _) Ideal.ofBits_zero_f32).trans (zero_add _)

/-- The block's product at an entry of the second column chunk. -/
theorem pay4_apply (w : Vec Ideal S2048x256 .bf16) (x : Vec Ideal S1024x2048 .bf16) (r : Fin 1024) (q : Fin 256) :
    k0_pay4 w x (ix2 r q) = ∑ k : Fin 2048, pr (x (ix2 r k)) (w (ix2 k q)) := by
  unfold k0_pay4
  refine (Ideal.matmul_plain_apply (M := 1024) (K := 2048) (N := 256) (φ₁ := .bf16) (φ₂ := .bf16) none x w _ r q).trans ?_
  exact (congrArg (· + _) Ideal.ofBits_zero_f32).trans (zero_add _)

theorem pay2_apply (w : Vec Ideal S2048x768 .bf16) (x : Vec Ideal S1024x2048 .bf16) (u : Vec Ideal S1024x768 .f32)
    (g : Vec Ideal S1x768 .f32) (r : Fin 1024) (q : Fin 768) :
    k0_pay2 w x u g (ix2 r q)
      = plus (u (ix2 r q)) (pr (g (ix2 0 q)) (∑ k : Fin 2048, pr (x (ix2 r k)) (w (ix2 k q)))) := by
  show plus (u (ix2 r q)) (pr (broadcastTo S1024x768 g broadcasts_S1x768_S1024x768 (ix2 r q)) (k0_pay1 w x (ix2 r q))) = _
  rw [pay1_apply, broadcastTo_apply g broadcasts_S1x768_S1024x768 (ix2 r q) (ix2 0 q) (fun a => by match a with | ⟨0, _⟩ => rfl | ⟨1, _⟩ => rfl)]

theorem pay5_apply (w : Vec Ideal S2048x256 .bf16) (x : Vec Ideal S1024x2048 .bf16) (u : Vec Ideal S1024x256 .f32)
    (g : Vec Ideal S1x256 .f32) (r : Fin 1024) (q : Fin 256) :
    k0_pay5 w x u g (ix2 r q)
      = plus (u (ix2 r q)) (pr (g (ix2 0 q)) (∑ k : Fin 2048, pr (x (ix2 r k)) (w (ix2 k q)))) := by
  show plus (u (ix2 r q)) (pr (broadcastTo S1024x256 g broadcasts_S1x256_S1024x256 (ix2 r q)) (k0_pay4 w x (ix2 r q))) = _
  rw [pay4_apply, broadcastTo_apply g broadcasts_S1x256_S1024x256 (ix2 r q) (ix2 0 q) (fun a => by match a with | ⟨0, _⟩ => rfl | ⟨1, _⟩ => rfl)]

/-- One point's block of the product, and its block of the gated residual, entry by entry. -/
def P4 (x0 : Vec Ideal S1024x2048 .bf16) (x1 : Vec Ideal S2048x1024 .bf16) : Vec Ideal S1024x1024 .bf16 :=
  fun y => ∑ k : Fin 2048, pr (x0 (ix2 (y 0) k)) (x1 (ix2 k (y 1)))
def P5 (x0 : Vec Ideal S1024x2048 .bf16) (x1 : Vec Ideal S2048x1024 .bf16) (x2 : Vec Ideal S1024x1024 .f32)
    (x3 : Vec Ideal S1x1024 .f32) : Vec Ideal S1024x1024 .f32 :=
  fun y => plus (x2 y) (pr (x3 (ix2 0 (y 1))) (P4 x0 x1 y))

/-- The columns of a chunk inside the block. -/
def lo (q : Fin 768) : Fin 1024 := ⟨q.val, by omega⟩
def hi (q : Fin 256) : Fin 1024 := ⟨768 + q.val, by omega⟩

theorem ldx (x0 : Vec Ideal S1024x2048 .bf16) (r : Fin 1024) (k : Fin 2048) :
    View.ld x0 (Rect.unit (s := S1024x2048) ![0, 0] ![1024, 2048] inb_S1024x2048_S1024x2048_0_0) (ix2 r k) = x0 (ix2 r k) :=
  ld2 0 0 x0 _ r k r k (Nat.zero_add _).symm (Nat.zero_add _).symm

/-- The two chunks the body stores make up the block of the product. -/
theorem out_A4 (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1x1024 .f32) (h6 : a6.IsWhole) (a7 : Memref sig .tc .vmem S1024x1024 .bf16) (h7 : a7.IsWhole)
    (a8 : Memref sig .tc .vmem S1024x1024 .f32) (h8 : a8.IsWhole) (x0 : Vec Ideal S1024x2048 .bf16) (x1 : Vec Ideal S2048x1024 .bf16)
    (x2 : Vec Ideal S1024x1024 .f32) (x3 : Vec Ideal S1x1024 .f32) (y : S1024x1024.Idx) :
    out0_A_4 c i a3 h3 a4 h4 a5 h5 a6 h6 a7 h7 a8 h8 x0 x1 x2 x3 y = P4 x0 x1 y := by
  refine View.read_writes_apply_of_pieces _ _ (P4 x0 x1) _ (View.PiecesOf.mem ?_) y
    (cover0_A_4 c i a3 h3 a4 h4 a5 h5 a6 h6 a7 h7 a8 h8 x0 x1 x2 x3 y)
  unfold kernelRun0_A
  dsimp only
  simp only [View.readAt_eq_ld, h3.read_unread, h4.read_unread, h5.read_unread, h6.read_unread]
  refine ⟨fun z => ?_, fun z => ?_, trivial⟩
  · obtain ⟨r, q, rfl⟩ : ∃ (r : Fin 1024) (q : Fin 256), z = ix2 r q := ⟨z 0, z 1, eq_ix2 z⟩
    refine (pay4_apply _ _ r q).trans (Eq.trans ?_ (congrArg (P4 x0 x1) (emb2 0 768 inb_S1024x1024_S1024x256_0_768 r q r (hi q) (Nat.zero_add _).symm rfl)).symm)
    refine Finset.sum_congr rfl fun k _ => congrArg₂ pr (ldx x0 r k) ?_
    exact ld2 0 768 x1 _ k q k (hi q) (Nat.zero_add _).symm rfl
  · obtain ⟨r, q, rfl⟩ : ∃ (r : Fin 1024) (q : Fin 768), z = ix2 r q := ⟨z 0, z 1, eq_ix2 z⟩
    refine (pay1_apply _ _ r q).trans (Eq.trans ?_ (congrArg (P4 x0 x1) (emb2 0 0 inb_S1024x1024_S1024x768_0_0 r q r (lo q) (Nat.zero_add _).symm (Nat.zero_add _).symm)).symm)
    refine Finset.sum_congr rfl fun k _ => congrArg₂ pr (ldx x0 r k) ?_
    exact ld2 0 0 x1 _ k q k (lo q) (Nat.zero_add _).symm (Nat.zero_add _).symm

/-- The two chunks the body stores make up the block of the gated residual. -/
theorem out_A5 (c : Dev nD) (i : grid0.Coords) (a3 : Memref sig .tc .vmem S1024x2048 .bf16) (h3 : a3.IsWhole)
    (a4 : Memref sig .tc .vmem S2048x1024 .bf16) (h4 : a4.IsWhole) (a5 : Memref sig .tc .vmem S1024x1024 .f32) (h5 : a5.IsWhole)
    (a6 : Memref sig .tc .vmem S1x1024 .f32) (h6 : a6.IsWhole) (a7 : Memref sig .tc .vmem S1024x1024 .bf16) (h7 : a7.IsWhole)
    (a8 : Memref sig .tc .vmem S1024x1024 .f32) (h8 : a8.IsWhole) (x0 : Vec Ideal S1024x2048 .bf16) (x1 : Vec Ideal S2048x1024 .bf16)
    (x2 : Vec Ideal S1024x1024 .f32) (x3 : Vec Ideal S1x1024 .f32) (y : S1024x1024.Idx) :
    out0_A_5 c i a3 h3 a4 h4 a5 h5 a6 h6 a7 h7 a8 h8 x0 x1 x2 x3 y = P5 x0 x1 x2 x3 y := by
  refine View.read_writes_apply_of_pieces _ _ (P5 x0 x1 x2 x3) _ (View.PiecesOf.mem ?_) y
    (cover0_A_5 c i a3 h3 a4 h4 a5 h5 a6 h6 a7 h7 a8 h8 x0 x1 x2 x3 y)
  unfold kernelRun0_A
  dsimp only
  simp only [View.readAt_eq_ld, h3.read_unread, h4.read_unread, h5.read_unread, h6.read_unread]
  refine ⟨fun z => ?_, fun z => ?_, trivial⟩
  · obtain ⟨r, q, rfl⟩ : ∃ (r : Fin 1024) (q : Fin 256), z = ix2 r q := ⟨z 0, z 1, eq_ix2 z⟩
    refine (pay5_apply _ _ _ _ r q).trans (Eq.trans ?_ (congrArg (P5 x0 x1 x2 x3) (emb2 0 768 inb_S1024x1024_S1024x256_0_768 r q r (hi q) (Nat.zero_add _).symm rfl)).symm)
    refine congrArg₂ plus (ld2 0 768 x2 _ r q r (hi q) (Nat.zero_add _).symm rfl) (congrArg₂ pr (ld2 0 768 x3 _ 0 q 0 (hi q) rfl rfl) ?_)
    refine Finset.sum_congr rfl fun k _ => congrArg₂ pr (ldx x0 r k) ?_
    exact ld2 0 768 x1 _ k q k (hi q) (Nat.zero_add _).symm rfl
  · obtain ⟨r, q, rfl⟩ : ∃ (r : Fin 1024) (q : Fin 768), z = ix2 r q := ⟨z 0, z 1, eq_ix2 z⟩
    refine (pay2_apply _ _ _ _ r q).trans (Eq.trans ?_ (congrArg (P5 x0 x1 x2 x3) (emb2 0 0 inb_S1024x1024_S1024x768_0_0 r q r (lo q) (Nat.zero_add _).symm (Nat.zero_add _).symm)).symm)
    refine congrArg₂ plus (ld2 0 0 x2 _ r q r (lo q) (Nat.zero_add _).symm (Nat.zero_add _).symm)
      (congrArg₂ pr (ld2 0 0 x3 _ 0 q 0 (lo q) rfl (Nat.zero_add _).symm) ?_)
    refine Finset.sum_congr rfl fun k _ => congrArg₂ pr (ldx x0 r k) ?_
    exact ld2 0 0 x1 _ k q k (lo q) (Nat.zero_add _).symm (Nat.zero_add _).symm

section Ref
variable (x0 : Vec Ideal S4096x2048 .bf16) (x1 : Vec Ideal S2048x2048 .bf16) (x2 : Vec Ideal S4096x2048 .f32)
  (x3 : Vec Ideal S1x2048 .f32) (r : Fin 4096) (q : Fin 2048)

/-- The reference's product at an entry. -/
theorem ref_product : val_main_v2 (F := Ideal) x0 x1 (ix2 r q)
    = ∑ k : Fin 2048, pr (x0 (ix2 r k)) (x1 (ix2 k q)) := by
  refine (val_main_v2_apply x0 x1 _).trans (Finset.sum_congr rfl fun k _ => ?_)
  rw [val_main_v0_apply, val_main_v1_apply]
  show pr (x0 _) (x1 _) = _
  exact congrArg₂ pr (congrArg x0 (Shape.idx_ext₂ rfl rfl)) (congrArg x1 (Shape.idx_ext₂ rfl rfl))

/-- The reference's second result at an entry. -/
theorem ref_sum : val_main_v6 (F := Ideal) x0 x1 x2 x3 (ix2 r q)
    = plus (x2 (ix2 r q)) (pr (x3 (ix2 0 q)) (∑ k : Fin 2048, pr (x0 (ix2 r k)) (x1 (ix2 k q)))) := by
  rw [val_main_v6_apply, val_main_v5_apply,
    val_main_v4_apply, ref_product]
  show plus (x2 (ix2 r q)) (pr (x3 _) _) = _
  refine congrArg (fun z => plus (x2 (ix2 r q)) (pr z _)) (congrArg x3 (Shape.idx_ext₂ rfl rfl))

end Ref

/-- The reference's two results on the arguments of device `c`. -/
abbrev R4 (c : Dev nD) : Vec Ideal S4096x2048 .bf16 := val_main_v3 (F := Ideal) (A0 m c) (A1 m c)
abbrev R5 (c : Dev nD) : Vec Ideal S4096x2048 .f32 :=
  val_main_v6 (F := Ideal) (A0 m c) (A1 m c) (A2 m c) (A3 m c)

theorem emb_eq4 (t : Fin cfg0.N) (r : Fin 1024) (q : Fin 1024) : (win0_4.rect t).emb (ix2 r q) = ix2 (row t r) (col t q) :=
  Shape.idx_ext₂ (win0_4.rect_emb_val t _ 0) (win0_4.rect_emb_val t _ 1)
theorem emb_eq5 (t : Fin cfg0.N) (r : Fin 1024) (q : Fin 1024) : (win0_5.rect t).emb (ix2 r q) = ix2 (row t r) (col t q) := by
  have h := (idx_facts t).2.2.2.2.2
  refine Shape.idx_ext₂ ?_ ?_
  · rw [win0_5.rect_emb_val t, h]; rfl
  · rw [win0_5.rect_emb_val t, h]; rfl

/-- The product of point `t`'s blocks is the whole arrays' product at that row and column. -/
theorem product_eq (c : Dev nD) (t : Fin cfg0.N) (r : Fin 1024) (q : Fin 1024) :
    (∑ k : Fin 2048, pr (iblk m c 0 t (ix2 r k)) (iblk m c 1 t (ix2 k q)))
      = ∑ k : Fin 2048, pr (A0 m c (ix2 (row t r) k)) (A1 m c (ix2 k (col t q))) :=
  Finset.sum_congr rfl fun k _ => by rw [iblk0_apply, iblk1_apply]

/-- Each point writes back its block of the reference's product. -/
theorem flushed4_eq (c : Dev nD) (t : Fin cfg0.N) :
    (dats m 0 c).flushed 4 t = ((cfg0.win 4).blk t).view.read (Elt Ideal) (R4 m c) := by
  rw [Value.flushed4_A]
  funext j
  obtain ⟨r, q, rfl⟩ : ∃ (r : Fin 1024) (q : Fin 1024), j = ix2 r q := ⟨j 0, j 1, eq_ix2 j⟩
  refine (out_A4 c _ _ _ _ _ _ _ _ _ _ _ _ _ _ _ _ _ (ix2 r q)).trans ?_
  show P4 (iblk m c 0 t) (iblk m c 1 t) (ix2 r q) = R4 m c ((win0_4.rect t).emb (ix2 r q))
  rw [emb_eq4]
  exact (product_eq m c t r q).trans (ref_product _ _ _ _).symm

/-- Each point writes back its block of the reference's gated residual. -/
theorem flushed5_eq (c : Dev nD) (t : Fin cfg0.N) :
    (dats m 0 c).flushed 5 t = ((cfg0.win 5).blk t).view.read (Elt Ideal) (R5 m c) := by
  rw [Value.flushed5_A]
  funext j
  obtain ⟨r, q, rfl⟩ : ∃ (r : Fin 1024) (q : Fin 1024), j = ix2 r q := ⟨j 0, j 1, eq_ix2 j⟩
  refine (out_A5 c _ _ _ _ _ _ _ _ _ _ _ _ _ _ _ _ _ (ix2 r q)).trans ?_
  show plus (iblk m c 2 t (ix2 r q)) (pr (iblk m c 3 t (ix2 0 q)) (∑ k : Fin 2048, pr (iblk m c 0 t (ix2 r k)) (iblk m c 1 t (ix2 k q)))) = R5 m c ((win0_5.rect t).emb (ix2 r q))
  rw [emb_eq5, iblk2_apply, iblk3_apply, product_eq]
  exact (ref_sum _ _ _ _ _ _).symm

/-- The kernel's result array 1 is the reference's. -/
theorem final4 (c : Dev nD) : (dats m 0 c).arrAt 4 cfg0.N = R4 m c :=
  (dats m 0 c).arrAt_eq_of_cover 4 (R4 m c) (fun t _ => flushed4_eq m c t) (Pipeline.Window.Covers.cover _ (by decide +kernel) (Memref.isWhole_whole _))

/-- The kernel's result array 2 is the reference's. -/
theorem final5 (c : Dev nD) : (dats m 0 c).arrAt 5 cfg0.N = R5 m c :=
  (dats m 0 c).arrAt_eq_of_cover 5 (R5 m c) (fun t _ => flushed5_eq m c t) (Pipeline.Window.Covers.cover _ (by decide +kernel) (Memref.isWhole_whole _))

end Cert.Kernel17Ideal.WO

end
-- ==== Proof.WOClaim.lean ====
/-
  The value claim about the mixer's output projection and its gated residual, from the kernel's run and the reference's.
-/
module

public import proofs.«01_k».proof.Defs
public import proofs.«01_k».proof.Proof.WO

@[expose] public section

set_option maxRecDepth 16384

noncomputable section

open Idealize.ShloMosaic Idealize.ShloMosaic.TcCoe Idealize.SL.Sem

namespace Cert.WOClaim

open Cert.Kernel17Ideal.WO

/-- The kernel and the reference end with equal results: at every entry the product `merged @ w_o`, and
    `x + gt_m * (merged @ w_o)`. -/
theorem algebraic : Cert.algebraic_Kernel17Ideal_Reference17Ideal := by
  intro m ρ m' ρ' _ hagree
  refine ⟨R4 m, R5 m, ?_, ?_⟩
  · refine (θ_run _ _ _).mono (fun r h c => ?_) (Cert.Kernel17Ideal.Value.run_blocks (F := Ideal) m ρ)
    obtain ⟨h0, h1, hargs⟩ := h c
    exact ⟨h0.trans (final4 m c), h1.trans (final5 m c), hargs⟩
  · refine (θ_run _ _ _).mono (fun r h c => ?_) (Cert.Reference17Ideal.Value.run (F := Ideal) m' ρ')
    obtain ⟨e0, e1, e2, e3⟩ := hagree c
    obtain ⟨h0, h1, hargs⟩ := h c
    rw [Cert.Reference17Ideal.Read.val_main_v3_eq, e0, e1] at h0
    rw [Cert.Reference17Ideal.Read.val_main_v6_eq, e0, e1, e2, e3] at h1
    exact ⟨h0, h1, hargs⟩

end Cert.WOClaim

end
-- ==== Proof.Norms.lean ====
/-
  Sums along the rows and along the columns of a block, and the reciprocal root mean square of a row.
-/
module

public import proofs.«01_k».proof.Proof.Products
public import proofs.«01_k».proof.Proof.Chunks
public import Idealize.ShloMosaic.Lib.ValueLayoutCasts

@[expose] public section

set_option maxRecDepth 16384

noncomputable section

open Idealize.ShloMosaic Idealize.ShloMosaic.TcCoe Idealize.SL.Sem Idealize.ShloMosaic.ValueIdx

namespace Cert.Norms

open Cert.Products

/-- A block's sum along its rows. -/
theorem row_sum {a b : ℕ} (w : FVec Ideal ⟨2, ![a, b]⟩ .f32) (acc : BitVec 32) (h : Shape.Reduces ⟨2, ![a, b]⟩ [1] ⟨1, ![a]⟩)
    (hφ : FKind.Formats .f32) (hacc : acc = FKind.add.neutral .f32 hφ) (r : Fin a) :
    multiReduction .add [1] ⟨1, ![a]⟩ w acc h hφ hacc (ix1 r) = ∑ k : Fin b, w (ix2 r k) := by
  refine (Ideal.multiReduction_add_single w acc h hφ hacc (ix1 r)).trans (Finset.sum_congr rfl fun k _ => congrArg w ?_)
  exact Shape.idx_ext₂ ((h.lift_val _ _ _).trans rfl) ((h.lift_val _ _ _).trans rfl)

/-- A block's sum along its columns. -/
theorem col_sum {a b : ℕ} (w : FVec Ideal ⟨2, ![a, b]⟩ .f32) (acc : BitVec 32) (h : Shape.Reduces ⟨2, ![a, b]⟩ [0] ⟨1, ![b]⟩)
    (hφ : FKind.Formats .f32) (hacc : acc = FKind.add.neutral .f32 hφ) (q : Fin b) :
    multiReduction .add [0] ⟨1, ![b]⟩ w acc h hφ hacc (ix1 q) = ∑ k : Fin a, w (ix2 k q) := by
  refine (Ideal.multiReduction_add_single w acc h hφ hacc (ix1 q)).trans (Finset.sum_congr rfl fun k _ => congrArg w ?_)
  exact Shape.idx_ext₂ ((h.lift_val _ _ _).trans rfl) ((h.lift_val _ _ _).trans rfl)

/-- A column of numbers repeated along the rows of a block. -/
theorem spread {a b : ℕ} (v : FVec Ideal ⟨2, ![a, 1]⟩ .f32) (h : (⟨2, ![a, 1]⟩ : Shape).Broadcasts ⟨2, ![a, b]⟩) (r : Fin a) (q : Fin b) :
    broadcastTo ⟨2, ![a, b]⟩ v h (ix2 r q) = v (ix2 r 0) := by
  refine broadcastTo_apply v h (ix2 r q) (ix2 r (0 : Fin 1)) fun x => ?_
  match x with
  | ⟨0, _⟩ =>
    show r.val = if a = 1 then 0 else r.val
    split
    · have := r.isLt; omega
    · rfl
  | ⟨1, _⟩ => rfl

/-- One over the root of a row's mean square. -/
def rs (x : Fin 2048 → EReal) : EReal :=
  Ideal.rsqrt (Cert.Chunks.plus (Ideal.div (∑ k : Fin 2048, pr (x k) (x k)) (Ideal.ofBits .f32 0x45000000#32)) (Ideal.ofBits .f32 0x358637BD#32))

/-- A kernel's reciprocal root mean square. -/
theorem kernel_rs {a : ℕ} (v : FVec Ideal ⟨2, ![a, 2048]⟩ .f32) (h : Shape.Reduces ⟨2, ![a, 2048]⟩ [1] ⟨1, ![a]⟩)
    (hφ : FKind.Formats .f32) (hacc : 0x00000000#32 = FKind.add.neutral .f32 hφ) (hs : (⟨1, ![a]⟩ : Shape).ShapeCasts ⟨2, ![a, 1]⟩) (r : Fin a) :
    rsqrt (addf (divf (shapeCast ⟨2, ![a, 1]⟩ (multiReduction .add [1] ⟨1, ![a]⟩ (mulf v v) 0x00000000#32 h hφ hacc) hs)
      (broadcast ⟨2, ![a, 1]⟩ (Scalar.ofBits .f32 0x45000000#32))) (broadcast ⟨2, ![a, 1]⟩ (Scalar.ofBits .f32 0x358637BD#32))) (ix2 r 0)
      = rs fun k => v (ix2 r k) := by
  refine congrArg (fun z => Ideal.rsqrt (Cert.Chunks.plus (Ideal.div z (Ideal.ofBits .f32 0x45000000#32)) (Ideal.ofBits .f32 0x358637BD#32))) ?_
  rw [shapeCast_a_a1_apply, row_sum]
  rfl

end Cert.Norms

end
-- ==== Proof.NormGrad.lean ====
/-
  The gradient of a row's root-mean-square norm, in the factored form of a kernel and in the form of the chain rule:
  the two agree on real numbers.
-/
module

public import proofs.«01_k».proof.Proof.Norms
public import proofs.«01_k».proof.Proof.Finite

@[expose] public section

set_option maxRecDepth 16384

noncomputable section

open Idealize.ShloMosaic Idealize.ShloMosaic.TcCoe Idealize.SL.Sem Idealize.ShloMosaic.ValueIdx

namespace Cert.NormGrad

open Cert.Products (pr)
open Cert.Chunks (plus)
open Cert.Norms Cert.Finite

def minus (a b : EReal) : EReal := a - b

theorem word_width : Ideal.ofBits .f32 0x45000000#32 = ((2048 : ℝ) : EReal) := by
  simp [Ideal.ofBits, Ideal.ieee, -EReal.coe_mul]; norm_num

theorem word_half : Ideal.ofBits .f32 0xBF000000#32 = ((-(1 / 2) : ℝ) : EReal) := by
  simp [Ideal.ofBits, Ideal.ieee, -EReal.coe_mul, -EReal.coe_neg]; norm_num

theorem word_small : ∃ e : ℝ, 0 < e ∧ Ideal.ofBits .f32 0x358637BD#32 = (e : EReal) := by
  simp [Ideal.ofBits, Ideal.ieee, -EReal.coe_mul]

/-- The mean square of a row plus the small constant. -/
def ms (X : Fin 2048 → EReal) : EReal :=
  plus (Ideal.div (∑ k : Fin 2048, pr (X k) (X k)) (Ideal.ofBits .f32 0x45000000#32)) (Ideal.ofBits .f32 0x358637BD#32)

/-- The gradient of a row's norm in a kernel's form: `X` the row, `U` the gradient in the normalised row. -/
def kern (X U : Fin 2048 → EReal) (q : Fin 2048) : EReal :=
  pr (rs X) (minus (U q) (pr (pr (X q) (rs X)) (Ideal.div (∑ k : Fin 2048, pr (U k) (pr (X k) (rs X))) (Ideal.ofBits .f32 0x45000000#32))))

/-- What the chain rule sends back through the mean square, over the width. -/
def slope (X U : Fin 2048 → EReal) : EReal :=
  Ideal.div (pr (∑ k : Fin 2048, pr (X k) (U k)) (pr (Ideal.ofBits .f32 0xBF000000#32) (Ideal.div (rs X) (ms X)))) (Ideal.ofBits .f32 0x45000000#32)

/-- The same gradient in the chain rule's form. -/
def rule (X U : Fin 2048 → EReal) (q : Fin 2048) : EReal :=
  plus (plus (pr (U q) (rs X)) (pr (X q) (slope X U))) (pr (slope X U) (X q))

theorem coe_pr (a b : ℝ) : pr (a : EReal) (b : EReal) = ((a * b : ℝ) : EReal) := (EReal.coe_mul a b).symm
theorem coe_plus (a b : ℝ) : plus (a : EReal) (b : EReal) = ((a + b : ℝ) : EReal) := (EReal.coe_add a b).symm
theorem coe_minus (a b : ℝ) : minus (a : EReal) (b : EReal) = ((a - b : ℝ) : EReal) := (EReal.coe_sub a b).symm
theorem coe_div (a b : ℝ) (h : b ≠ 0) : Ideal.div (a : EReal) (b : EReal) = ((a / b : ℝ) : EReal) := by
  rw [Ideal.div_coe h, ← EReal.coe_mul]
  congr 1
  ring

theorem real_plus {a b : EReal} (ha : Real' a) (hb : Real' b) : Real' (plus a b) := by
  obtain ⟨r, rfl⟩ := ha
  obtain ⟨s, rfl⟩ := hb
  exact ⟨r + s, coe_plus r s⟩

/-- On a row of reals the mean square is a positive real and the reciprocal root is one over its root. -/
theorem parts (x : Fin 2048 → ℝ) : ∃ D : ℝ, 0 < D ∧ ms (fun k => (x k : EReal)) = (D : EReal)
    ∧ rs (fun k => (x k : EReal)) = (((√D)⁻¹ : ℝ) : EReal) := by
  obtain ⟨e, he, hw⟩ := word_small
  have hs : 0 ≤ ∑ k : Fin 2048, x k * x k := Finset.sum_nonneg fun k _ => mul_self_nonneg _
  have hD : 0 < (∑ k : Fin 2048, x k * x k) / 2048 + e := by positivity
  have hm : ms (fun k => (x k : EReal)) = (((∑ k : Fin 2048, x k * x k) / 2048 + e : ℝ) : EReal) := by
    unfold ms
    simp only [coe_pr, coe_sum]
    rw [word_width, hw, coe_div _ _ (by norm_num), coe_plus]
  refine ⟨_, hD, hm, ?_⟩
  show Ideal.rsqrt (ms fun k => (x k : EReal)) = _
  rw [hm, Ideal.rsqrt_coe, if_neg (not_lt.mpr hD.le), if_neg hD.ne']

theorem real_rs {X : Fin 2048 → EReal} (hX : ∀ k, Real' (X k)) : Real' (rs X) := by
  choose x hx using hX
  obtain rfl : X = fun k => (x k : EReal) := funext hx
  obtain ⟨D, _, _, h⟩ := parts x
  exact ⟨_, h⟩

/-- On reals the two forms of the gradient agree. -/
theorem kern_eq {X U : Fin 2048 → EReal} (hX : ∀ k, Real' (X k)) (hU : ∀ k, Real' (U k)) (q : Fin 2048) :
    kern X U q = rule X U q := by
  choose x hx using hX
  choose u hu using hU
  obtain rfl : X = fun k => (x k : EReal) := funext hx
  obtain rfl : U = fun k => (u k : EReal) := funext hu
  obtain ⟨D, hD, hm, hr⟩ := parts x
  have h2 : (√D)⁻¹ * (√D)⁻¹ = D⁻¹ := by
    rw [← mul_inv, Real.mul_self_sqrt hD.le]
  obtain ⟨w, hw, e0⟩ : ∃ w : ℝ, w ≠ 0 ∧ Ideal.ofBits .f32 0x45000000#32 = (w : EReal) := ⟨2048, by norm_num, word_width⟩
  unfold kern rule slope
  rw [hm, hr, e0, word_half]
  dsimp only
  generalize (√D)⁻¹ = R at h2
  have e1 : (∑ k : Fin 2048, pr (u k : EReal) (pr (x k : EReal) (R : EReal))) = (((∑ k : Fin 2048, x k * u k) * R : ℝ) : EReal) := by
    simp only [coe_pr, coe_sum]
    rw [Finset.sum_mul]
    exact congrArg _ (Finset.sum_congr rfl fun k _ => by ring)
  have e2 : (∑ k : Fin 2048, pr (x k : EReal) (u k : EReal)) = ((∑ k : Fin 2048, x k * u k : ℝ) : EReal) := by
    simp only [coe_pr, coe_sum]
  rw [e1, e2]
  generalize ∑ k : Fin 2048, x k * u k = s
  simp only [coe_div _ _ hw, coe_div _ _ hD.ne', coe_pr, coe_minus, coe_plus]
  refine congrArg _ ?_
  rw [div_eq_mul_inv R D, ← h2]
  ring

/-- A real factor goes into a sum of reals. -/
theorem sum_pr {n : ℕ} (f : Fin n → EReal) (hf : ∀ k, Real' (f k)) {a : EReal} (ha : Real' a) :
    pr (∑ k : Fin n, f k) a = ∑ k : Fin n, pr (f k) a := by
  choose x hx using hf
  obtain rfl : f = fun k => (x k : EReal) := funext hx
  obtain ⟨r, rfl⟩ := ha
  simp only [coe_pr, coe_sum, Finset.sum_mul]

/-- The terms of a column over all rows, as a function of a row number; zero past the last row. -/
def tot (f : Fin 4096 → EReal) (j : ℕ) : EReal := if h : j < 4096 then f ⟨j, h⟩ else 0

theorem tot_of (f : Fin 4096 → EReal) (i : Fin 4096) : tot f i.val = f i := dif_pos i.isLt

theorem tot_sum (f : Fin 4096 → EReal) : ∑ j ∈ Finset.range 4096, tot f j = ∑ i : Fin 4096, f i := by
  rw [Finset.sum_range]
  exact Finset.sum_congr rfl fun i _ => tot_of f i

/-- A sum over the first blocks of 512 rows and the next block. -/
theorem tot_step (f : ℕ → EReal) (n : ℕ) (g : Fin 512 → EReal) (hg : ∀ k : Fin 512, g k = f (512 * n + k.val)) :
    plus (∑ j ∈ Finset.range (512 * n), f j) (∑ k : Fin 512, g k) = ∑ j ∈ Finset.range (512 * (n + 1)), f j := by
  rw [show 512 * (n + 1) = 512 * n + 512 from rfl, Finset.sum_range_add, Finset.sum_range (fun x => f (512 * n + x)) (n := 512)]
  exact congrArg _ (Finset.sum_congr rfl fun k _ => hg k)

end Cert.NormGrad

end
-- ==== Proof.NormMixBwd.lean ====
/-
  The gradient of the first norm and its modulation: the row gradients and the three column sums a kernel keeps over
  eight blocks of rows are the reference's.
-/
module

public import proofs.«01_k».proof.Proof.Gen.Kernel18Ideal.Value
public import proofs.«01_k».proof.Proof.Gen.Reference18Ideal.Read
public import proofs.«01_k».proof.Proof.NormGrad

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel18Ideal.MixBwd

open Cert.Reference18Ideal.Read

open Cert.Kernel18Ideal Cert.Kernel18Ideal.Gen Cert.Products Cert.Norms Cert.Finite Cert.NormGrad
open Cert.Chunks (plus)

variable (m : (ℓ : Loc nD τ sig) → Buf (Elt Ideal) ℓ)

/-- The five arguments on device `c`: the incoming gradient, the rows, the norm's weight, the scale, the gradient that is added. -/
abbrev A0 (c : Dev nD) : Vec Ideal S4096x2048 .f32 := m ((c : Thread nD τ).loc main_arg0)
abbrev A1 (c : Dev nD) : Vec Ideal S4096x2048 .f32 := m ((c : Thread nD τ).loc main_arg1)
abbrev A2 (c : Dev nD) : Vec Ideal S1x2048 .f32 := m ((c : Thread nD τ).loc main_arg2)
abbrev A3 (c : Dev nD) : Vec Ideal S1x2048 .f32 := m ((c : Thread nD τ).loc main_arg3)
abbrev A4 (c : Dev nD) : Vec Ideal S4096x2048 .f32 := m ((c : Thread nD τ).loc main_arg4)

/-- Every entry of the five arguments is a real number. -/
def AllReal (c : Dev nD) : Prop :=
  (∀ i, Real' (A0 m c i)) ∧ (∀ i, Real' (A1 m c i)) ∧ (∀ i, Real' (A2 m c i)) ∧ (∀ i, Real' (A3 m c i)) ∧ (∀ i, Real' (A4 m c i))

/-- Where each window stands at point `t`. -/
theorem idx_facts : ∀ t : Fin cfg0.N,
    (win0_0.index t 0 = t.val ∧ win0_0.index t 1 = 0) ∧ (win0_1.index t 0 = t.val ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) ∧ (win0_5.index t 0 = t.val ∧ win0_5.index t 1 = 0)
    ∧ (win0_6.index t 0 = 0 ∧ win0_6.index t 1 = 0) ∧ (win0_7.index t 0 = 0 ∧ win0_7.index t 1 = 0)
    ∧ (win0_8.index t 0 = 0 ∧ win0_8.index t 1 = 0) :=
  (by decide +kernel : ∀ t : Fin grid0.N, _)

theorem lt8 (t : Fin cfg0.N) : t.val < 8 := lt_of_lt_of_eq t.isLt (show cfg0.N = 8 from N_0)

/-- Row `r` of block `g`. -/
def row (g : ℕ) (hg : g < 8) (r : Fin 512) : Fin 4096 := ⟨g * 512 + r.val, by omega⟩

theorem iblk0_apply (c : Dev nD) (t : Fin cfg0.N) (r : Fin 512) (q : Fin 2048) :
    iblk m c 0 t (ix2 r q) = A0 m c (ix2 (row t.val (lt8 t) r) q) := by
  show A0 m c ((win0_0.rect t).emb (ix2 r q)) = _
  refine congrArg _ (Shape.idx_ext₂ ?_ ?_)
  · rw [win0_0.rect_emb_val t, (idx_facts t).1.1]; rfl
  · rw [win0_0.rect_emb_val t, (idx_facts t).1.2]
    show 0 * 2048 + q.val = q.val
    omega

theorem iblk1_apply (c : Dev nD) (t : Fin cfg0.N) (r : Fin 512) (q : Fin 2048) :
    iblk m c 1 t (ix2 r q) = A1 m c (ix2 (row t.val (lt8 t) r) q) := by
  show A1 m c ((win0_1.rect t).emb (ix2 r q)) = _
  refine congrArg _ (Shape.idx_ext₂ ?_ ?_)
  · rw [win0_1.rect_emb_val t, (idx_facts t).2.1.1]; rfl
  · rw [win0_1.rect_emb_val t, (idx_facts t).2.1.2]
    show 0 * 2048 + q.val = q.val
    omega

theorem iblk4_apply (c : Dev nD) (t : Fin cfg0.N) (r : Fin 512) (q : Fin 2048) :
    iblk m c 4 t (ix2 r q) = A4 m c (ix2 (row t.val (lt8 t) r) q) := by
  show A4 m c ((win0_4.rect t).emb (ix2 r q)) = _
  refine congrArg _ (Shape.idx_ext₂ ?_ ?_)
  · rw [win0_4.rect_emb_val t, (idx_facts t).2.2.2.2.1.1]; rfl
  · rw [win0_4.rect_emb_val t, (idx_facts t).2.2.2.2.1.2]
    show 0 * 2048 + q.val = q.val
    omega

theorem iblk2_apply (c : Dev nD) (t : Fin cfg0.N) (q : Fin 2048) : iblk m c 2 t (ix2 0 q) = A2 m c (ix2 0 q) := by
  show A2 m c ((win0_2.rect t).emb (ix2 0 q)) = _
  refine congrArg _ (Shape.idx_ext₂ ?_ ?_)
  · rw [win0_2.rect_emb_val t, (idx_facts t).2.2.1.1]; rfl
  · rw [win0_2.rect_emb_val t, (idx_facts t).2.2.1.2]
    show 0 * 2048 + q.val = q.val
    omega

theorem iblk3_apply (c : Dev nD) (t : Fin cfg0.N) (q : Fin 2048) : iblk m c 3 t (ix2 0 q) = A3 m c (ix2 0 q) := by
  show A3 m c ((win0_3.rect t).emb (ix2 0 q)) = _
  refine congrArg _ (Shape.idx_ext₂ ?_ ?_)
  · rw [win0_3.rect_emb_val t, (idx_facts t).2.2.2.1.1]; rfl
  · rw [win0_3.rect_emb_val t, (idx_facts t).2.2.2.1.2]
    show 0 * 2048 + q.val = q.val
    omega

/-! ## The body at an entry -/

theorem pay9_apply (v : Vec Ideal S512x2048 .f32) (r : Fin 512) (q : Fin 2048) :
    k0_pay9 v (ix2 r q) = pr (v (ix2 r q)) (rs fun k => v (ix2 r k)) :=
  congrArg (pr _) ((spread _ _ r q).trans (kernel_rs v _ _ _ _ r))

/-- The gradient in the normalised row, as the kernel forms it. -/
def uK (dh g sc : EReal) : EReal := pr dh (pr g (plus (Ideal.ofBits .f32 0x3F800000#32) sc))

theorem pay1_apply (dh : Vec Ideal S512x2048 .f32) (g sc : Vec Ideal S1x2048 .f32) (x d1 : Vec Ideal S512x2048 .f32)
    (r : Fin 512) (q : Fin 2048) :
    k0_pay1 dh g (k0_pay7 sc) (k0_pay8 x) (k0_pay9 x) d1 (ix2 r q)
      = plus (d1 (ix2 r q)) (kern (fun k => x (ix2 r k)) (fun k => uK (dh (ix2 r k)) (g (ix2 0 k)) (sc (ix2 0 k))) q) := by
  have hu : ∀ k : Fin 2048, mulf (F := Ideal) dh (broadcastTo S512x2048 (mulf (F := Ideal) g (k0_pay7 sc)) broadcasts_S1x2048_S512x2048) (ix2 r k)
      = uK (dh (ix2 r k)) (g (ix2 0 k)) (sc (ix2 0 k)) := fun k =>
    congrArg (pr _) (broadcastTo_1b_ab_apply _ _ _ _)
  refine congrArg (plus _) (congrArg₂ pr ((spread _ _ r q).trans (kernel_rs x _ _ _ _ r)) (congrArg₂ minus (hu q)
    (congrArg₂ pr (pay9_apply x r q) ((spread _ _ r q).trans (congrArg (fun z => Ideal.div z (Ideal.ofBits .f32 0x45000000#32)) ?_)))))
  refine (shapeCast_a_a1_apply _ _ _ _).trans ((row_sum _ _ _ _ _ r).trans (Finset.sum_congr rfl fun k _ => ?_))
  exact congrArg₂ pr (hu k) (pay9_apply x r k)

theorem pay10_apply (dh : Vec Ideal S512x2048 .f32) (acc : Vec Ideal S1x2048 .f32) (q : Fin 2048) :
    k0_pay10 dh acc (ix2 0 q) = plus (acc (ix2 0 q)) (∑ k : Fin 512, dh (ix2 k q)) := by
  refine congrArg₂ plus (congrFun (shapeCast_self _ _) _) ((shapeCast_apply _ shapeCasts_S2048_S1x2048 (ix2 0 q) (ix1 q) ?_).trans (col_sum _ _ _ _ _ q))
  rewrite [Shape.rowMajor_val_one, Shape.rowMajor_val_two]
  show q.val = 0 * 2048 + q.val
  omega

theorem pay11_apply (x dh : Vec Ideal S512x2048 .f32) (acc : Vec Ideal S1x2048 .f32) (q : Fin 2048) :
    k0_pay11 x dh acc (ix2 0 q)
      = plus (acc (ix2 0 q)) (∑ k : Fin 512, pr (dh (ix2 k q)) (pr (x (ix2 k q)) (rs fun j => x (ix2 k j)))) := by
  refine congrArg₂ plus (congrFun (shapeCast_self _ _) _) ((shapeCast_apply _ shapeCasts_S2048_S1x2048 (ix2 0 q) (ix1 q) ?_).trans
    ((col_sum _ _ _ _ _ q).trans (Finset.sum_congr rfl fun k _ => congrArg (pr _) (pay9_apply x k q))))
  rewrite [Shape.rowMajor_val_one, Shape.rowMajor_val_two]
  show q.val = 0 * 2048 + q.val
  omega

/-! ## What the body leaves in each output's block -/

section Outs

variable (c : Dev nD) (i : grid0.Coords) (a1 : Memref sig .tc .vmem S512x2048 .f32) (h1 : a1.IsWhole) (a2 : Memref sig .tc .vmem S512x2048 .f32) (h2 : a2.IsWhole)
  (a3 : Memref sig .tc .vmem S1x2048 .f32) (h3 : a3.IsWhole) (a4 : Memref sig .tc .vmem S1x2048 .f32) (h4 : a4.IsWhole)
  (a5 : Memref sig .tc .vmem S512x2048 .f32) (h5 : a5.IsWhole) (a6 : Memref sig .tc .vmem S512x2048 .f32) (h6 : a6.IsWhole)
  (a7 : Memref sig .tc .vmem S1x2048 .f32) (h7 : a7.IsWhole) (a8 : Memref sig .tc .vmem S1x2048 .f32) (h8 : a8.IsWhole)
  (a9 : Memref sig .tc .vmem S1x2048 .f32) (h9 : a9.IsWhole)
  (x0 x1 : Vec Ideal S512x2048 .f32) (x2 x3 : Vec Ideal S1x2048 .f32) (x4 : Vec Ideal S512x2048 .f32) (o6 o7 : Vec Ideal S1x2048 .f32)

theorem out_A (hc0 : cond0_0 i) (hc1 : ¬cond0_1 i) :
    out0_A_5 c i a1 h1 a2 h2 a3 h3 a4 h4 a5 h5 a6 h6 a7 h7 a8 h8 a9 h9 hc0 hc1 x0 x1 x2 x3 x4 = k0_pay1 x0 x2 (k0_pay7 x3) (k0_pay8 x1) (k0_pay9 x1) x4
    ∧ out0_A_6 c i a1 h1 a2 h2 a3 h3 a4 h4 a5 h5 a6 h6 a7 h7 a8 h8 a9 h9 hc0 hc1 x0 x1 x2 x3 x4 = k0_pay10 x0 (k0_pay5 (F := Ideal))
    ∧ out0_A_7 c i a1 h1 a2 h2 a3 h3 a4 h4 a5 h5 a6 h6 a7 h7 a8 h8 a9 h9 hc0 hc1 x0 x1 x2 x3 x4 = k0_pay11 x1 x0 (k0_pay6 (F := Ideal)) := by
  unfold out0_A_5 out0_A_6 out0_A_7
  refine ⟨(View.read_writes_eq_canon _ _ _ fun _ => cover0_A_5 ..).trans ?_,
    (View.read_writes_eq_canon _ _ _ fun _ => cover0_A_6 ..).trans ?_,
    (View.read_writes_eq_canon _ _ _ fun _ => cover0_A_7 ..).trans ?_⟩
  all_goals
    unfold kernelRun0_A
    dsimp only
    rw [View.canon_cons_unit_zero hz]
    simp only [View.readAt_eq_ld, h1.read_unread, h2.read_unread, h3.read_unread, h4.read_unread, h5.read_unread, h7.read_unread, h8.read_unread, View.readCov_unit_zero (S := S1x2048) _ hz, View.ld_unit_zero (S := S512x2048) hz, View.ld_unit_zero (S := S1x2048) hz,
      kernelRun0_A.sl.r, kernelRun0_A.sl.r_1, kernelRun0_A.sl.r_2, kernelRun0_A.sl.r_3, kernelRun0_A.sl.r_4, kernelRun0_A.sl.v19, kernelRun0_A.sl.H6_1, kernelRun0_A.sl.v25, kernelRun0_A.sl.H7_1]

theorem out_B (hc0 : ¬cond0_0 i) (hc1 : ¬cond0_1 i) :
    out0_B_5 c i a1 h1 a2 h2 a3 h3 a4 h4 a5 h5 a6 h6 a7 h7 a8 h8 a9 h9 hc0 hc1 x0 x1 x2 x3 x4 o6 o7 = k0_pay1 x0 x2 (k0_pay7 x3) (k0_pay8 x1) (k0_pay9 x1) x4
    ∧ out0_B_6 c i a1 h1 a2 h2 a3 h3 a4 h4 a5 h5 a6 h6 a7 h7 a8 h8 a9 h9 hc0 hc1 x0 x1 x2 x3 x4 o6 o7 = k0_pay10 x0 o6
    ∧ out0_B_7 c i a1 h1 a2 h2 a3 h3 a4 h4 a5 h5 a6 h6 a7 h7 a8 h8 a9 h9 hc0 hc1 x0 x1 x2 x3 x4 o6 o7 = k0_pay11 x1 x0 o7 := by
  unfold out0_B_5 out0_B_6 out0_B_7
  refine ⟨(View.read_writes_eq_canon _ _ _ fun _ => cover0_B_5 ..).trans ?_,
    (View.read_writes_eq_canon _ _ _ fun _ => cover0_B_6 ..).trans ?_,
    (View.read_writes_eq_canon _ _ _ fun _ => cover0_B_7 ..).trans ?_⟩
  all_goals
    unfold kernelRun0_B
    dsimp only
    rw [View.canon_cons_unit_zero hz]
    simp only [View.readAt_eq_ld, h1.read_unread, h2.read_unread, h3.read_unread, h4.read_unread, h5.read_unread, h7.read_unread, h8.read_unread, View.readCov_unit_zero (S := S1x2048) _ hz, View.ld_unit_zero (S := S512x2048) hz, View.ld_unit_zero (S := S1x2048) hz,
      kernelRun0_B.sl.r, kernelRun0_B.sl.r_1, kernelRun0_B.sl.r_2, kernelRun0_B.sl.r_3, kernelRun0_B.sl.r_4]

theorem out_C (hc0 : ¬cond0_0 i) (hc1 : cond0_1 i) :
    out0_C_5 c i a1 h1 a2 h2 a3 h3 a4 h4 a5 h5 a6 h6 a7 h7 a8 h8 a9 h9 hc0 hc1 x0 x1 x2 x3 x4 o6 o7 = k0_pay1 x0 x2 (k0_pay7 x3) (k0_pay8 x1) (k0_pay9 x1) x4
    ∧ out0_C_6 c i a1 h1 a2 h2 a3 h3 a4 h4 a5 h5 a6 h6 a7 h7 a8 h8 a9 h9 hc0 hc1 x0 x1 x2 x3 x4 o6 o7 = k0_pay10 x0 o6
    ∧ out0_C_7 c i a1 h1 a2 h2 a3 h3 a4 h4 a5 h5 a6 h6 a7 h7 a8 h8 a9 h9 hc0 hc1 x0 x1 x2 x3 x4 o6 o7 = k0_pay4 x2 (k0_pay11 x1 x0 o7)
    ∧ out0_C_8 c i a1 h1 a2 h2 a3 h3 a4 h4 a5 h5 a6 h6 a7 h7 a8 h8 a9 h9 hc0 hc1 x0 x1 x2 x3 x4 o6 o7 = k0_pay3 (k0_pay7 x3) (k0_pay11 x1 x0 o7) := by
  unfold out0_C_5 out0_C_6 out0_C_7 out0_C_8
  refine ⟨(View.read_writes_eq_canon _ _ _ fun _ => cover0_C_5 ..).trans ?_,
    (View.read_writes_eq_canon _ _ _ fun _ => cover0_C_6 ..).trans ?_,
    (View.read_writes_eq_canon _ _ _ fun _ => cover0_C_7 ..).trans ?_,
    (View.read_writes_eq_canon _ _ _ fun _ => cover0_C_8 ..).trans ?_⟩
  all_goals
    unfold kernelRun0_C
    dsimp only
    rw [View.canon_cons_unit_zero hz]
    simp only [View.readAt_eq_ld, h1.read_unread, h2.read_unread, h3.read_unread, h4.read_unread, h5.read_unread, h7.read_unread, h8.read_unread, View.readCov_unit_zero (S := S1x2048) _ hz, View.ld_unit_zero (S := S512x2048) hz, View.ld_unit_zero (S := S1x2048) hz,
      kernelRun0_C.sl.r, kernelRun0_C.sl.r_1, kernelRun0_C.sl.r_2, kernelRun0_C.sl.r_3, kernelRun0_C.sl.r_4, kernelRun0_C.sl.v51, kernelRun0_C.sl.H7_1]

end Outs

/-! ## What the blocks hold after each point -/

/-- What the three outputs hold after the first point. -/
theorem outs_A (c : Dev nD) (t : Fin cfg0.N) (h0 : t.val % 8 = 0) :
    (outsAt0 m c t.val t.isLt).1 = k0_pay1 (iblk m c 0 t) (iblk m c 2 t) (k0_pay7 (iblk m c 3 t)) (k0_pay8 (iblk m c 1 t))
        (k0_pay9 (iblk m c 1 t)) (iblk m c 4 t)
    ∧ (outsAt0 m c t.val t.isLt).2.1 = k0_pay10 (iblk m c 0 t) (k0_pay5 (F := Ideal))
    ∧ (outsAt0 m c t.val t.isLt).2.2.1 = k0_pay11 (iblk m c 1 t) (iblk m c 0 t) (k0_pay6 (F := Ideal)) := by
  rw [outsAt0_A m c t h0 (by omega)]
  dsimp only
  exact out_A ..

/-- … after a middle point. -/
theorem outs_B (c : Dev nD) (t : Fin cfg0.N) (h0 : ¬t.val % 8 = 0) (h1 : ¬t.val % 8 = 7) :
    (outsAt0 m c t.val t.isLt).1 = k0_pay1 (iblk m c 0 t) (iblk m c 2 t) (k0_pay7 (iblk m c 3 t)) (k0_pay8 (iblk m c 1 t))
        (k0_pay9 (iblk m c 1 t)) (iblk m c 4 t)
    ∧ (outsAt0 m c t.val t.isLt).2.1 = k0_pay10 (iblk m c 0 t) (outsAt0 m c (t.val - 1) (Nat.lt_of_le_of_lt (Nat.sub_le _ _) t.isLt)).2.1
    ∧ (outsAt0 m c t.val t.isLt).2.2.1 = k0_pay11 (iblk m c 1 t) (iblk m c 0 t) (outsAt0 m c (t.val - 1) (Nat.lt_of_le_of_lt (Nat.sub_le _ _) t.isLt)).2.2.1 := by
  rw [outsAt0_B m c t h0 h1]
  dsimp only
  exact out_B ..

/-- … after the last point. -/
theorem outs_C (c : Dev nD) (t : Fin cfg0.N) (h0 : ¬t.val % 8 = 0) (h1 : t.val % 8 = 7) :
    (outsAt0 m c t.val t.isLt).1 = k0_pay1 (iblk m c 0 t) (iblk m c 2 t) (k0_pay7 (iblk m c 3 t)) (k0_pay8 (iblk m c 1 t))
        (k0_pay9 (iblk m c 1 t)) (iblk m c 4 t)
    ∧ (outsAt0 m c t.val t.isLt).2.1 = k0_pay10 (iblk m c 0 t) (outsAt0 m c (t.val - 1) (Nat.lt_of_le_of_lt (Nat.sub_le _ _) t.isLt)).2.1
    ∧ (outsAt0 m c t.val t.isLt).2.2.1 = k0_pay4 (iblk m c 2 t) (k0_pay11 (iblk m c 1 t) (iblk m c 0 t) (outsAt0 m c (t.val - 1) (Nat.lt_of_le_of_lt (Nat.sub_le _ _) t.isLt)).2.2.1)
    ∧ (outsAt0 m c t.val t.isLt).2.2.2
        = k0_pay3 (k0_pay7 (iblk m c 3 t)) (k0_pay11 (iblk m c 1 t) (iblk m c 0 t) (outsAt0 m c (t.val - 1) (Nat.lt_of_le_of_lt (Nat.sub_le _ _) t.isLt)).2.2.1) := by
  rw [outsAt0_C m c t h0 h1]
  dsimp only
  exact out_C ..

theorem outs5 (c : Dev nD) (t : Fin cfg0.N) : (outsAt0 m c t.val t.isLt).1
    = k0_pay1 (iblk m c 0 t) (iblk m c 2 t) (k0_pay7 (iblk m c 3 t)) (k0_pay8 (iblk m c 1 t))
        (k0_pay9 (iblk m c 1 t)) (iblk m c 4 t) := by
  by_cases h0 : t.val % 8 = 0
  · exact (outs_A m c t h0).1
  · by_cases h1 : t.val % 8 = 7
    · exact (outs_C m c t h0 h1).1
    · exact (outs_B m c t h0 h1).1

theorem zero_word (x : Vec Ideal S1x2048 .f32) (h : ∀ e, x e = Ideal.ofBits .f32 0x00000000#32) (q : Fin 2048) (f : ℕ → EReal) :
    x (ix2 0 q) = ∑ j ∈ Finset.range (512 * 0), f j := (h _).trans Ideal.ofBits_zero_f32

/-- The gradient's column terms. -/
abbrev f6 (c : Dev nD) (q : Fin 2048) (i : Fin 4096) : EReal := A0 m c (ix2 i q)
/-- The column terms of the gradient times the normalised row. -/
abbrev f7 (c : Dev nD) (q : Fin 2048) (i : Fin 4096) : EReal :=
  pr (A0 m c (ix2 i q)) (pr (A1 m c (ix2 i q)) (rs fun k => A1 m c (ix2 i k)))

theorem block6 (c : Dev nD) (n : ℕ) (h : n < cfg0.N) (q : Fin 2048) (k : Fin 512) :
    iblk m c 0 ⟨n, h⟩ (ix2 k q) = tot (f6 m c q) (512 * n + k.val) :=
  (iblk0_apply m c ⟨n, h⟩ k q).trans ((tot_of (f6 m c q) _).symm.trans
    (congrArg (tot (f6 m c q)) (show n * 512 + k.val = 512 * n + k.val by omega)))

theorem block7 (c : Dev nD) (n : ℕ) (h : n < cfg0.N) (q : Fin 2048) (k : Fin 512) :
    pr (iblk m c 0 ⟨n, h⟩ (ix2 k q)) (pr (iblk m c 1 ⟨n, h⟩ (ix2 k q)) (rs fun j => iblk m c 1 ⟨n, h⟩ (ix2 k j)))
      = tot (f7 m c q) (512 * n + k.val) := by
  refine Eq.trans ?_ ((tot_of (f7 m c q) (row n (lt8 ⟨n, h⟩) k)).symm.trans
    (congrArg (tot (f7 m c q)) (show n * 512 + k.val = 512 * n + k.val by omega)))
  exact congrArg₂ pr (iblk0_apply m c ⟨n, h⟩ k q) (congrArg₂ pr (iblk1_apply m c ⟨n, h⟩ k q)
    (congrArg rs (funext fun j => iblk1_apply m c ⟨n, h⟩ k j)))

theorem outs6 (c : Dev nD) (q : Fin 2048) : ∀ (n : ℕ) (h : n < cfg0.N),
    (outsAt0 m c n h).2.1 (ix2 0 q) = ∑ j ∈ Finset.range (512 * (n + 1)), tot (f6 m c q) j
  | 0, h => by
    refine (congrFun (outs_A m c ⟨0, h⟩ rfl).2.1 (ix2 0 q)).trans
      ((pay10_apply _ _ q).trans ?_)
    rw [zero_word (k0_pay5 (F := Ideal)) (fun _ => rfl) q (tot (f6 m c q))]
    exact tot_step _ 0 _ (block6 m c 0 h q)
  | n + 1, h => by
    have hN := lt8 ⟨n + 1, h⟩
    dsimp only at hN
    have ih := outs6 c q n (Nat.lt_of_succ_lt h)
    by_cases h1 : (n + 1) % 8 = 7
    · refine (congrFun (outs_C m c ⟨n + 1, h⟩ (by dsimp only; omega) h1).2.1 (ix2 0 q)).trans
        ((pay10_apply _ _ q).trans ?_)
      exact (congrArg (fun z => plus z _) ih).trans (tot_step _ (n + 1) _ (block6 m c (n + 1) h q))
    · refine (congrFun (outs_B m c ⟨n + 1, h⟩ (by dsimp only; omega) h1).2.1 (ix2 0 q)).trans
        ((pay10_apply _ _ q).trans ?_)
      exact (congrArg (fun z => plus z _) ih).trans (tot_step _ (n + 1) _ (block6 m c (n + 1) h q))

theorem outs7 (c : Dev nD) (q : Fin 2048) : ∀ (n : ℕ) (h : n < cfg0.N), n < 7 →
    (outsAt0 m c n h).2.2.1 (ix2 0 q) = ∑ j ∈ Finset.range (512 * (n + 1)), tot (f7 m c q) j
  | 0, h, _ => by
    refine (congrFun (outs_A m c ⟨0, h⟩ rfl).2.2 (ix2 0 q)).trans
      ((pay11_apply _ _ _ q).trans ?_)
    rw [zero_word (k0_pay6 (F := Ideal)) (fun _ => rfl) q (tot (f7 m c q))]
    exact tot_step _ 0 _ (block7 m c 0 h q)
  | n + 1, h, hn => by
    have ih := outs7 c q n (Nat.lt_of_succ_lt h) (by omega)
    refine (congrFun (outs_B m c ⟨n + 1, h⟩ (by dsimp only; omega) (by dsimp only; omega)).2.2 (ix2 0 q)).trans
      ((pay11_apply _ _ _ q).trans ?_)
    exact (congrArg (fun z => plus z _) ih).trans (tot_step _ (n + 1) _ (block7 m c (n + 1) h q))

/-- The last point's sum over all rows. -/
theorem sum7 (c : Dev nD) (q : Fin 2048) (n : ℕ) (h : n < cfg0.N) (h' : n + 1 < cfg0.N) (hn : n + 1 = 7) :
    k0_pay11 (iblk m c 1 ⟨n + 1, h'⟩) (iblk m c 0 ⟨n + 1, h'⟩) (outsAt0 m c n h).2.2.1 (ix2 0 q) = ∑ i : Fin 4096, f7 m c q i := by
  refine (pay11_apply _ _ _ q).trans ((congrArg (fun z => plus z _) (outs7 m c q n h (by omega))).trans
    ((tot_step _ (n + 1) _ (block7 m c (n + 1) h' q)).trans ?_))
  rw [show 512 * (n + 1 + 1) = 4096 by omega, tot_sum]

theorem last6 (c : Dev nD) (q : Fin 2048) (n : ℕ) (h : n + 1 < cfg0.N) (hn : n + 1 = 7) :
    (outsAt0 m c (n + 1) h).2.1 (ix2 0 q) = ∑ i : Fin 4096, f6 m c q i := by
  rw [outs6 m c q (n + 1) h, show 512 * (n + 1 + 1) = 4096 by omega, tot_sum]

theorem last7 (c : Dev nD) (q : Fin 2048) (n : ℕ) (h : n + 1 < cfg0.N) (hn : n + 1 = 7) :
    (outsAt0 m c (n + 1) h).2.2.1 (ix2 0 q) = pr (∑ i : Fin 4096, f7 m c q i) (A2 m c (ix2 0 q)) := by
  refine (congrFun (outs_C m c ⟨n + 1, h⟩ (by dsimp only; omega) (by dsimp only; omega)).2.2.1 (ix2 0 q)).trans ?_
  exact congrArg₂ pr ((congrFun (shapeCast_self _ _) _).trans (sum7 m c q n (Nat.lt_of_succ_lt h) h hn)) (iblk2_apply m c ⟨n + 1, h⟩ q)

theorem last8 (c : Dev nD) (q : Fin 2048) (n : ℕ) (h : n + 1 < cfg0.N) (hn : n + 1 = 7) :
    (outsAt0 m c (n + 1) h).2.2.2 (ix2 0 q) = pr (∑ i : Fin 4096, f7 m c q i) (plus (Ideal.ofBits .f32 0x3F800000#32) (A3 m c (ix2 0 q))) := by
  refine (congrFun (outs_C m c ⟨n + 1, h⟩ (by dsimp only; omega) (by dsimp only; omega)).2.2.2 (ix2 0 q)).trans ?_
  exact congrArg₂ pr ((congrFun (shapeCast_self _ _) _).trans (sum7 m c q n (Nat.lt_of_succ_lt h) h hn))
    (congrArg (plus _) (iblk3_apply m c ⟨n + 1, h⟩ q))

/-! ## The reference at an entry -/

/-- The gradient in the normalised row, as the chain rule forms it. -/
def uR (dh g sc : EReal) : EReal := pr (pr dh (plus (Ideal.ofBits .f32 0x3F800000#32) sc)) g

theorem u_eq (dh g sc : EReal) : uK dh g sc = uR dh g sc := by
  unfold uK uR pr
  rw [mul_comm g, mul_assoc]

theorem swap7 (a b g : EReal) : pr (pr a b) g = pr (pr b g) a := by
  unfold pr
  rw [mul_comm a, mul_right_comm]

theorem swap8 (a b s : EReal) : pr (pr a b) s = pr b (pr a s) := by
  unfold pr
  rw [mul_comm a, mul_assoc]

section Ref
open Cert.Reference18Ideal.Read

variable (x0 x1 : Vec Ideal S4096x2048 .f32) (x2 x3 : Vec Ideal S1x2048 .f32) (x4 : Vec Ideal S4096x2048 .f32)

theorem ref7 (e : Cert.Reference18Ideal.S4096x1.Idx) : val_main_v7 (F := Ideal) x1 e = ms fun k => x1 (ix2 (e 0) k) := by
  rw [val_main_v7_apply, val_main_v5_apply, val_main_v3_apply, val_main_v2_apply, val_main_v4_apply, val_main_v6_apply]
  refine congrArg (fun z => plus (Ideal.div z (Ideal.ofBits .f32 0x45000000#32)) (Ideal.ofBits .f32 0x358637BD#32))
    ((congrArg (· + _) Ideal.ofBits_zero_f32).trans ((zero_add _).trans (Finset.sum_congr rfl fun k _ => ?_)))
  have e1 : idx_main_v2 (idx_main_v3 e) k = ix2 (e 0) k := Shape.idx_ext₂ rfl rfl
  exact congrArg₂ pr (congrArg x1 e1) (congrArg x1 e1)

theorem ref8 (e : Cert.Reference18Ideal.S4096x1.Idx) : val_main_v8 (F := Ideal) x1 e = rs fun k => x1 (ix2 (e 0) k) :=
  (val_main_v8_apply x1 e).trans (congrArg Ideal.rsqrt (ref7 x1 e))

theorem ref13 (i : Fin 4096) (q : Fin 2048) : val_main_v13 (F := Ideal) x1 (ix2 i q) = pr (x1 (ix2 i q)) (rs fun k => x1 (ix2 i k)) := by
  rw [val_main_v13_apply, val_main_v12_apply]
  exact congrArg (pr _) (ref8 x1 _)

theorem ref22 (i : Fin 4096) (q : Fin 2048) : val_main_v22 (F := Ideal) x0 (ix2 i q) = x0 (ix2 i q) := by
  rw [val_main_v22_apply]
  refine congrArg x0 (Shape.idx_ext₂ ?_ ?_)
  · show (i.val * 2048 + q.val) / 2048 = i.val
    omega
  · show (i.val * 2048 + q.val) % 2048 = q.val
    omega

theorem ref29 (i : Fin 4096) (q : Fin 2048) : val_main_v29 (F := Ideal) x0 x3 (ix2 i q)
    = pr (x0 (ix2 i q)) (plus (Ideal.ofBits .f32 0x3F800000#32) (x3 (ix2 0 q))) := by
  rw [val_main_v29_apply, val_main_v28_apply, val_main_v17_apply, val_main_v16_apply]
  exact congrArg₂ pr (ref22 x0 i q) (congrArg (plus _) (congrArg x3 (Shape.idx_ext₂ rfl rfl)))

theorem ref34 (i : Fin 4096) (q : Fin 2048) : val_main_v34 (F := Ideal) x0 x2 x3 (ix2 i q) = uR (x0 (ix2 i q)) (x2 (ix2 0 q)) (x3 (ix2 0 q)) := by
  rw [val_main_v34_apply, val_main_v33_apply]
  exact congrArg₂ pr (ref29 x0 x3 i q) (congrArg x2 (Shape.idx_ext₂ rfl rfl))

/-- Row `i` of the rows and of the gradient in the normalised row. -/
abbrev rowX (i : Fin 4096) (k : Fin 2048) : EReal := x1 (ix2 i k)
abbrev rowU (i : Fin 4096) (k : Fin 2048) : EReal := uR (x0 (ix2 i k)) (x2 (ix2 0 k)) (x3 (ix2 0 k))

theorem ref44 (i : Fin 4096) (q : Fin 2048) : val_main_v44 (F := Ideal) x0 x1 x2 x3 (ix2 i q) = slope (rowX x1 i) (rowU x0 x2 x3 i) := by
  rw [val_main_v44_apply, val_main_v43_apply]
  refine (congrArg (· + _) Ideal.ofBits_zero_f32).trans ((zero_add _).trans ((Fin.sum_univ_one _).trans ?_))
  rw [val_main_v42_apply, val_main_v40_apply, val_main_v37_apply, val_main_v36_apply, val_main_v41_apply, val_main_v11_apply,
    val_main_v10_apply, val_main_v9_apply]
  refine congrArg (fun z => Ideal.div z (Ideal.ofBits .f32 0x45000000#32)) (congrArg₂ pr ?_ (congrArg (pr _) (congrArg₂ Ideal.div (ref8 x1 _) (ref7 x1 _))))
  refine (congrArg (· + _) Ideal.ofBits_zero_f32).trans ((zero_add _).trans (Finset.sum_congr rfl fun k _ => ?_))
  rw [show idx_main_v36 (idx_main_v37 (idx_main_v43 (idx_main_v44 (ix2 i q)) 0)) k = ix2 i k from
    Shape.idx_ext₂ (by show i.val * 1 + 0 = i.val; omega) rfl, val_main_v35_apply]
  exact congrArg (pr _) (ref34 x0 x2 x3 i k)

theorem ref49 (i : Fin 4096) (q : Fin 2048) : val_main_v49 (F := Ideal) x0 x1 x2 x3 x4 (ix2 i q)
    = plus (x4 (ix2 i q)) (rule (rowX x1 i) (rowU x0 x2 x3 i) q) := by
  rw [val_main_v49_apply, val_main_v48_apply, val_main_v46_apply, val_main_v39_apply, val_main_v45_apply, val_main_v47_apply,
    val_main_v38_apply]
  refine congrArg (plus _) (congrArg₂ plus (congrArg₂ plus (congrArg₂ pr (ref34 x0 x2 x3 i q) (ref8 x1 _)) (congrArg (pr _) (ref44 x0 x1 x2 x3 i q)))
    (congrArg (fun z => pr z _) (ref44 x0 x1 x2 x3 i q)))

theorem ref24 (q : Fin 2048) : val_main_v24 (F := Ideal) x0 (ix2 0 q) = ∑ i : Fin 4096, x0 (ix2 i q) := by
  rw [val_main_v24_apply, val_main_v23_apply]
  refine (congrArg (· + _) Ideal.ofBits_zero_f32).trans ((zero_add _).trans (Finset.sum_congr rfl fun k _ => congrArg x0 (Shape.idx_ext₂ rfl ?_)))
  show 0 * 2048 + q.val = q.val
  omega

theorem ref27 (q : Fin 2048) : val_main_v27 (F := Ideal) x0 x1 x2 (ix2 0 q)
    = ∑ i : Fin 4096, pr (pr (pr (x1 (ix2 i q)) (rs fun k => x1 (ix2 i k))) (x2 (ix2 0 q))) (x0 (ix2 i q)) := by
  rw [val_main_v27_apply, val_main_v26_apply]
  refine (congrArg (· + _) Ideal.ofBits_zero_f32).trans ((zero_add _).trans (Finset.sum_congr rfl fun k _ => ?_))
  rw [show idx_main_v26 (idx_main_v27 (ix2 0 q)) k = ix2 k q from Shape.idx_ext₂ rfl (by show 0 * 2048 + q.val = q.val; omega),
    val_main_v25_apply, val_main_v15_apply, val_main_v14_apply]
  exact congrArg₂ pr (congrArg₂ pr (ref13 x1 k q) (congrArg x2 (Shape.idx_ext₂ rfl rfl))) (ref22 x0 k q)

theorem ref32 (q : Fin 2048) : val_main_v32 (F := Ideal) x0 x1 x3 (ix2 0 q)
    = ∑ i : Fin 4096, pr (pr (x1 (ix2 i q)) (rs fun k => x1 (ix2 i k)))
        (pr (x0 (ix2 i q)) (plus (Ideal.ofBits .f32 0x3F800000#32) (x3 (ix2 0 q)))) := by
  rw [val_main_v32_apply, val_main_v31_apply]
  refine (congrArg (· + _) Ideal.ofBits_zero_f32).trans ((zero_add _).trans (Finset.sum_congr rfl fun k _ => ?_))
  rw [show idx_main_v31 (idx_main_v32 (ix2 0 q)) k = ix2 k q from Shape.idx_ext₂ rfl (by show 0 * 2048 + q.val = q.val; omega),
    val_main_v30_apply]
  exact congrArg₂ pr (ref13 x1 k q) (ref29 x0 x3 k q)

end Ref

/-- The reference's four results on the arguments of device `c`. -/
abbrev R5 (c : Dev nD) : Vec Ideal S4096x2048 .f32 :=
  val_main_v49 (F := Ideal) (A0 m c) (A1 m c) (A2 m c) (A3 m c) (A4 m c)
abbrev R6 (c : Dev nD) : Vec Ideal S1x2048 .f32 := val_main_v24 (F := Ideal) (A0 m c)
abbrev R7 (c : Dev nD) : Vec Ideal S1x2048 .f32 := val_main_v27 (F := Ideal) (A0 m c) (A1 m c) (A2 m c)
abbrev R8 (c : Dev nD) : Vec Ideal S1x2048 .f32 := val_main_v32 (F := Ideal) (A0 m c) (A1 m c) (A3 m c)

theorem one_real : Real' (Ideal.ofBits .f32 0x3F800000#32) := ⟨1, Ideal.ofBits_one_f32.trans EReal.coe_one.symm⟩

variable {m}

theorem real_x {c : Dev nD} (h : AllReal m c) (i : Fin 4096) (q : Fin 2048) :
    Real' (pr (A1 m c (ix2 i q)) (rs fun k => A1 m c (ix2 i k))) := real_pr (h.2.1 _) (real_rs fun _ => h.2.1 _)

theorem real_u {c : Dev nD} (h : AllReal m c) (i : Fin 4096) (q : Fin 2048) : Real' (rowU (A0 m c) (A2 m c) (A3 m c) i q) :=
  real_pr (real_pr (h.1 _) (real_plus one_real (h.2.2.2.1 _))) (h.2.2.1 _)

theorem real_f7 {c : Dev nD} (h : AllReal m c) (q : Fin 2048) (i : Fin 4096) : Real' (f7 m c q i) := real_pr (h.1 _) (real_x h i q)

variable (m)

theorem emb5 (t : Fin cfg0.N) (r : Fin 512) (q : Fin 2048) : (win0_5.rect t).emb (ix2 r q) = ix2 (row t.val (lt8 t) r) q := by
  refine Shape.idx_ext₂ ?_ ?_
  · rw [win0_5.rect_emb_val t, (idx_facts t).2.2.2.2.2.1.1]; rfl
  · rw [win0_5.rect_emb_val t, (idx_facts t).2.2.2.2.2.1.2]
    show 0 * 2048 + q.val = q.val
    omega

theorem flushed5_eq (c : Dev nD) (h : AllReal m c) (t : Fin cfg0.N) (_hf : (cfg0.win 5).flush t = true) :
    (dats m 0 c).flushed 5 t = ((cfg0.win 5).blk t).view.read (Elt Ideal) (R5 m c) := by
  rw [Value.flushed5]
  funext e
  obtain ⟨r, q, rfl⟩ : ∃ (r : Fin 512) (q : Fin 2048), e = ix2 r q := ⟨e 0, e 1, eq_ix2 e⟩
  show (outsAt0 m c t.val t.isLt).1 (ix2 r q) = R5 m c ((win0_5.rect t).emb (ix2 r q))
  rw [emb5 t, outs5 m c t]
  refine (pay1_apply _ _ _ _ _ r q).trans (Eq.trans ?_ (ref49 (A0 m c) (A1 m c) (A2 m c) (A3 m c) (A4 m c) _ q).symm)
  refine congrArg₂ plus (iblk4_apply m c t r q) (Eq.trans ?_ (kern_eq (fun k => h.2.1 _) (real_u h _) q))
  refine congrArg₂ (fun X U => kern X U q) (funext fun k => iblk1_apply m c t r k) (funext fun k => ?_)
  rw [iblk0_apply, iblk2_apply, iblk3_apply]
  exact u_eq _ _ _

/-- The gradient in the rows. -/
theorem final5 (c : Dev nD) (h : AllReal m c) : (dats m 0 c).arrAt 5 cfg0.N = R5 m c :=
  (dats m 0 c).arrAt_eq_of_cover 5 (R5 m c) (flushed5_eq m c h) (Pipeline.Window.Covers.cover _ (by decide +kernel) (Memref.isWhole_whole _))

theorem emb6 (t : Fin cfg0.N) (q : Fin 2048) : (win0_6.rect t).emb (ix2 0 q) = ix2 0 q := by
  refine Shape.idx_ext₂ ?_ ?_
  · rw [win0_6.rect_emb_val t, (idx_facts t).2.2.2.2.2.2.1.1]; rfl
  · rw [win0_6.rect_emb_val t, (idx_facts t).2.2.2.2.2.2.1.2]
    show 0 * 2048 + q.val = q.val
    omega

theorem flushed6_eq (c : Dev nD) (t : Fin cfg0.N) (hf : (cfg0.win 6).flush t = true) :
    (dats m 0 c).flushed 6 t = ((cfg0.win 6).blk t).view.read (Elt Ideal) (R6 m c) := by
  have h7 : t.val = 7 := by
    have := (flush0_6 t).mp hf
    have := lt8 t
    omega
  rw [Value.flushed6]
  funext e
  obtain ⟨q, rfl⟩ : ∃ q : Fin 2048, e = ix2 0 q := ⟨e 1, (eq_ix2 e).trans (Shape.idx_ext₂ (by have : (e 0).val < 1 := (e 0).isLt; show (e 0).val = 0; omega) rfl)⟩
  show (outsAt0 m c t.val t.isLt).2.1 (ix2 0 q) = R6 m c ((win0_6.rect t).emb (ix2 0 q))
  rw [emb6 t]
  obtain ⟨n, hn⟩ := t
  obtain ⟨k, rfl⟩ : ∃ k, n = k + 1 := ⟨n - 1, by dsimp only at h7; omega⟩
  dsimp only at h7 ⊢
  exact (last6 m c q k hn h7).trans (ref24 (A0 m c) q).symm

/-- The gradient in the shift. -/
theorem final6 (c : Dev nD) : (dats m 0 c).arrAt 6 cfg0.N = R6 m c :=
  (dats m 0 c).arrAt_eq_of_cover 6 (R6 m c) (flushed6_eq m c) (Pipeline.Window.Covers.cover _ (by decide +kernel) (Memref.isWhole_whole _))

theorem emb7 (t : Fin cfg0.N) (q : Fin 2048) : (win0_7.rect t).emb (ix2 0 q) = ix2 0 q := by
  refine Shape.idx_ext₂ ?_ ?_
  · rw [win0_7.rect_emb_val t, (idx_facts t).2.2.2.2.2.2.2.1.1]; rfl
  · rw [win0_7.rect_emb_val t, (idx_facts t).2.2.2.2.2.2.2.1.2]
    show 0 * 2048 + q.val = q.val
    omega

theorem flushed7_eq (c : Dev nD) (h : AllReal m c) (t : Fin cfg0.N) (hf : (cfg0.win 7).flush t = true) :
    (dats m 0 c).flushed 7 t = ((cfg0.win 7).blk t).view.read (Elt Ideal) (R7 m c) := by
  have h7 : t.val = 7 := by
    have := (flush0_7 t).mp hf
    have := lt8 t
    omega
  rw [Value.flushed7]
  funext e
  obtain ⟨q, rfl⟩ : ∃ q : Fin 2048, e = ix2 0 q := ⟨e 1, (eq_ix2 e).trans (Shape.idx_ext₂ (by have : (e 0).val < 1 := (e 0).isLt; show (e 0).val = 0; omega) rfl)⟩
  show (outsAt0 m c t.val t.isLt).2.2.1 (ix2 0 q) = R7 m c ((win0_7.rect t).emb (ix2 0 q))
  rw [emb7 t]
  obtain ⟨n, hn⟩ := t
  obtain ⟨k, rfl⟩ : ∃ k, n = k + 1 := ⟨n - 1, by dsimp only at h7; omega⟩
  dsimp only at h7 ⊢
  refine (last7 m c q k hn h7).trans (Eq.trans ?_ (ref27 (A0 m c) (A1 m c) (A2 m c) q).symm)
  refine (sum_pr _ (real_f7 h q) (h.2.2.1 _)).trans (Finset.sum_congr rfl fun i _ => swap7 _ _ _)

/-- The gradient in the scale. -/
theorem final7 (c : Dev nD) (h : AllReal m c) : (dats m 0 c).arrAt 7 cfg0.N = R7 m c :=
  (dats m 0 c).arrAt_eq_of_cover 7 (R7 m c) (flushed7_eq m c h) (Pipeline.Window.Covers.cover _ (by decide +kernel) (Memref.isWhole_whole _))

theorem emb8 (t : Fin cfg0.N) (q : Fin 2048) : (win0_8.rect t).emb (ix2 0 q) = ix2 0 q := by
  refine Shape.idx_ext₂ ?_ ?_
  · rw [win0_8.rect_emb_val t, (idx_facts t).2.2.2.2.2.2.2.2.1]; rfl
  · rw [win0_8.rect_emb_val t, (idx_facts t).2.2.2.2.2.2.2.2.2]
    show 0 * 2048 + q.val = q.val
    omega

theorem flushed8_eq (c : Dev nD) (h : AllReal m c) (t : Fin cfg0.N) (hf : (cfg0.win 8).flush t = true) :
    (dats m 0 c).flushed 8 t = ((cfg0.win 8).blk t).view.read (Elt Ideal) (R8 m c) := by
  have h7 : t.val = 7 := by
    have := (flush0_8 t).mp hf
    have := lt8 t
    omega
  rw [Value.flushed8]
  funext e
  obtain ⟨q, rfl⟩ : ∃ q : Fin 2048, e = ix2 0 q := ⟨e 1, (eq_ix2 e).trans (Shape.idx_ext₂ (by have : (e 0).val < 1 := (e 0).isLt; show (e 0).val = 0; omega) rfl)⟩
  show (outsAt0 m c t.val t.isLt).2.2.2 (ix2 0 q) = R8 m c ((win0_8.rect t).emb (ix2 0 q))
  rw [emb8 t]
  obtain ⟨n, hn⟩ := t
  obtain ⟨k, rfl⟩ : ∃ k, n = k + 1 := ⟨n - 1, by dsimp only at h7; omega⟩
  dsimp only at h7 ⊢
  refine (last8 m c q k hn h7).trans (Eq.trans ?_ (ref32 (A0 m c) (A1 m c) (A3 m c) q).symm)
  refine (sum_pr _ (real_f7 h q) (real_plus one_real (h.2.2.2.1 _))).trans (Finset.sum_congr rfl fun i _ => swap8 _ _ _)

/-- The gradient in the norm's weight. -/
theorem final8 (c : Dev nD) (h : AllReal m c) : (dats m 0 c).arrAt 8 cfg0.N = R8 m c :=
  (dats m 0 c).arrAt_eq_of_cover 8 (R8 m c) (flushed8_eq m c h) (Pipeline.Window.Covers.cover _ (by decide +kernel) (Memref.isWhole_whole _))

end Cert.Kernel18Ideal.MixBwd

end
-- ==== Proof.NormMixBwdClaim.lean ====
/-
  The value claim about the gradient of the first norm and its modulation.
-/
module

public import proofs.«01_k».proof.Defs
public import proofs.«01_k».proof.Proof.Gen.Pre_finite18
public import proofs.«01_k».proof.Proof.NormMixBwd

@[expose] public section

set_option maxRecDepth 16384

noncomputable section

open Idealize.ShloMosaic Idealize.ShloMosaic.TcCoe Idealize.SL.Sem

namespace Cert.NormMixBwdClaim

open Cert.Reference18Ideal.Read

open Cert.Kernel18Ideal.MixBwd Cert.Finite

/-- The stated precondition says that every entry of every argument is a real number. -/
theorem allReal (m : (ℓ : Loc Cert.Kernel18Ideal.nD Cert.Kernel18Ideal.τ Cert.Kernel18Ideal.sig) → Buf (Elt Ideal) ℓ)
    (h : Cert.Pre_Kernel18Ideal_finite18 m) (c : Dev Cert.Kernel18Ideal.nD) : AllReal m c := by
  obtain ⟨h0, h1, h2, h3, h4⟩ := h c
  exact ⟨fun i => real_of_mask (congrFun h0 i), fun i => real_of_mask (congrFun h1 i), fun i => real_of_mask (congrFun h2 i),
    fun i => real_of_mask (congrFun h3 i), fun i => real_of_mask (congrFun h4 i)⟩

/-- On real arguments the kernel and the reference end with equal results: the gradients in the rows, in the shift, in the scale and in
    the norm's weight. -/
theorem algebraic : Cert.algebraic_Kernel18Ideal_Reference18Ideal_pre_finite18 := by
  intro m ρ m' ρ' hpre hagree
  refine ⟨R5 m, R6 m, R7 m, R8 m, ?_, ?_⟩
  · refine (θ_run _ _ _).mono (fun r h c => ?_) (Cert.Kernel18Ideal.Value.run_blocks (F := Ideal) m ρ)
    obtain ⟨h5, h6, h7, h8, hargs⟩ := h c
    have hr := allReal m hpre c
    exact ⟨h5.trans (final5 m c hr), h6.trans (final6 m c), h7.trans (final7 m c hr), h8.trans (final8 m c hr), hargs⟩
  · refine (θ_run _ _ _).mono (fun r h c => ?_) (Cert.Reference18Ideal.Value.run (F := Ideal) m' ρ')
    obtain ⟨e0, e1, e2, e3, e4⟩ := hagree c
    obtain ⟨h0, h1, h2, h3, hargs⟩ := h c
    rw [val_main_v49_eq, e0, e1, e2, e3, e4] at h0
    have k1 := h1.trans (val_main_v24_eq (F := Ideal) _)
    have k2 := h2.trans (val_main_v27_eq (F := Ideal) _ _ _)
    have k3 := h3.trans (val_main_v32_eq (F := Ideal) _ _ _)
    rw [e0] at k1
    rw [e0, e1, e2] at k2
    rw [e0, e1, e3] at k3
    exact ⟨h0, k1, k2, k3, hargs⟩

end Cert.NormMixBwdClaim

end
-- ==== Proof.Adamw.lean ====
/-
  The optimiser's step on one entry of a weight: the plain formulas every one of the step's programs is
  compared with.
-/
module

public import proofs.«01_k».proof.Proof.Products

@[expose] public section

noncomputable section

open Idealize.ShloMosaic

namespace Cert.Adamw

/-- The new first moment of one entry, from its gradient and its old moment. -/
def mom1 (g m : EReal) : EReal := Ideal.ofBits .f32 0x3F666666#32 * m + Ideal.ofBits .f32 0x3DCCCCCD#32 * g
/-- The new second moment of one entry. -/
def mom2 (g v : EReal) : EReal := Ideal.ofBits .f32 0x3F7FBE77#32 * v + Ideal.ofBits .f32 0x3A83126F#32 * (g * g)
/-- The step of one entry. -/
def step (w g m v : EReal) : EReal :=
  Ideal.ofBits .f32 0xBA83126F#32 * (Ideal.div (Ideal.div (mom1 g m) (Ideal.ofBits .f32 0x3F26BD02#32))
      (Ideal.sqrt (Ideal.div (mom2 g v) (Ideal.ofBits .f32 0x3C231ACC#32)) + Ideal.ofBits .f32 0x322BCC77#32)
    + Ideal.ofBits .f32 0x3C23D70A#32 * w)

end Cert.Adamw

end
-- ==== Proof.Adamw21.lean ====
/-
  The optimiser's step for the input projection's weights, element by element: what each of the four
  results holds at an entry, against the plain formula of the step.
-/
module

public import proofs.«01_k».proof.Proof.Adamw
public import proofs.«01_k».proof.Proof.Gen.Kernel21Ideal.Value
public import proofs.«01_k».proof.Proof.Gen.Reference21Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel21Ideal.Adamw21

open Cert.Kernel21Ideal Cert.Kernel21Ideal.Gen Cert.Products Cert.Adamw Cert.Reference21Ideal.Read

variable (m : (ℓ : Loc nD τ sig) → Buf (Elt Ideal) ℓ)

/-- The weights, the gradient and the two moments on device `c`. -/
abbrev A0 (c : Dev nD) : Vec Ideal S2048x2816 .f32 := m ((c : Thread nD τ).loc main_arg0)
abbrev A1 (c : Dev nD) : Vec Ideal S2048x2816 .f32 := m ((c : Thread nD τ).loc main_arg1)
abbrev A2 (c : Dev nD) : Vec Ideal S2048x2816 .f32 := m ((c : Thread nD τ).loc main_arg2)
abbrev A3 (c : Dev nD) : Vec Ideal S2048x2816 .f32 := m ((c : Thread nD τ).loc main_arg3)

/-- The reference's four results on the arguments of device `c`: the gradient itself, the step, and the two new moments. -/
abbrev R4 (c : Dev nD) : Vec Ideal S2048x2816 .f32 := A1 m c
abbrev R5 (c : Dev nD) : Vec Ideal S2048x2816 .f32 := val_main_v23 (F := Ideal) (A0 m c) (A1 m c) (A2 m c) (A3 m c)
abbrev R6 (c : Dev nD) : Vec Ideal S2048x2816 .f32 := val_main_v4 (F := Ideal) (A1 m c) (A2 m c)
abbrev R7 (c : Dev nD) : Vec Ideal S2048x2816 .f32 := val_main_v10 (F := Ideal) (A1 m c) (A3 m c)

section Ref
variable (x0 x1 x2 x3 : Vec Ideal S2048x2816 .f32) (i : S2048x2816.Idx)
theorem ref_m : val_main_v4 (F := Ideal) x1 x2 i = mom1 (x1 i) (x2 i) := rfl
theorem ref_v : val_main_v10 (F := Ideal) x1 x3 i = mom2 (x1 i) (x3 i) := rfl
theorem ref_delta : val_main_v23 (F := Ideal) x0 x1 x2 x3 i = step (x0 i) (x1 i) (x2 i) (x3 i) := rfl
end Ref

/-- Each point writes back its block of result 1. -/
theorem flushed4_eq (c : Dev nD) (t : Fin cfg0.N) :
    (dats m 0 c).flushed 4 t = ((cfg0.win 4).blk t).view.read (Elt Ideal) (R4 m c) := by
  rw [Value.flushed4]
  unfold out0_4
  rw [View.canon_unit_zero hz]
  simp only [View.ld_unit_zero (S := S64x2816) hz]
  funext j
  show iblk m c 1 t j = R4 m c ((win0_4.rect t).emb j)
  rfl

/-- Each point writes back its block of result 2. -/
theorem flushed5_eq (c : Dev nD) (t : Fin cfg0.N) :
    (dats m 0 c).flushed 5 t = ((cfg0.win 5).blk t).view.read (Elt Ideal) (R5 m c) := by
  rw [Value.flushed5]
  unfold out0_5
  rw [View.canon_unit_zero hz]
  simp only [View.ld_unit_zero (S := S64x2816) hz]
  funext j
  show k0_pay3 (iblk m c 1 t) (iblk m c 0 t) (iblk m c 2 t) (iblk m c 3 t) j = R5 m c ((win0_5.rect t).emb j)
  exact (ref_delta _ _ _ _ _).symm

/-- Each point writes back its block of result 3. -/
theorem flushed6_eq (c : Dev nD) (t : Fin cfg0.N) :
    (dats m 0 c).flushed 6 t = ((cfg0.win 6).blk t).view.read (Elt Ideal) (R6 m c) := by
  rw [Value.flushed6]
  unfold out0_6
  rw [View.canon_unit_zero hz]
  simp only [View.ld_unit_zero (S := S64x2816) hz]
  funext j
  show k0_pay1 (iblk m c 1 t) (iblk m c 2 t) j = R6 m c ((win0_6.rect t).emb j)
  exact (ref_m _ _ _).symm

/-- Each point writes back its block of result 4. -/
theorem flushed7_eq (c : Dev nD) (t : Fin cfg0.N) :
    (dats m 0 c).flushed 7 t = ((cfg0.win 7).blk t).view.read (Elt Ideal) (R7 m c) := by
  rw [Value.flushed7]
  unfold out0_7
  rw [View.canon_unit_zero hz]
  simp only [View.ld_unit_zero (S := S64x2816) hz]
  funext j
  show k0_pay2 (iblk m c 1 t) (iblk m c 3 t) j = R7 m c ((win0_7.rect t).emb j)
  exact (ref_v _ _ _).symm

theorem onto : ∀ a : Fin 32, ∃ t : Fin cfg0.N, win0_4.index t 0 = a.val ∧ win0_4.index t 1 = 0 :=
  (by decide +kernel : ∀ a : Fin 32, ∃ t : Fin grid0.N, win0_4.index t 0 = a.val ∧ win0_4.index t 1 = 0)

/-- Every entry of a result array is an entry of some point's block. -/
theorem hit (i : S2048x2816.Idx) : ∃ t : Fin cfg0.N, i ∈ (win0_4.rect t).set := by
  have h0 : (i 0).val < 2048 := (i 0).isLt
  obtain ⟨t, e0, e1⟩ := onto ⟨(i 0).val / 64, by omega⟩
  refine ⟨t, ?_⟩
  rw [← Rect.map_emb_univ]
  refine Finset.mem_map.mpr ⟨ix2 (n0 := 64) (n1 := 2816) ⟨(i 0).val % 64, by omega⟩ (i 1), Finset.mem_univ _, Shape.idx_ext₂ ?_ ?_⟩
  · rw [win0_4.rect_emb_val t, e0]
    show (i 0).val / 64 * 64 + (i 0).val % 64 = (i 0).val
    omega
  · rw [win0_4.rect_emb_val t, e1]
    show 0 * 2816 + (i 1).val = (i 1).val
    omega

theorem final4 (c : Dev nD) : (dats m 0 c).arrAt 4 cfg0.N = R4 m c :=
  (dats m 0 c).arrAt_eq_of_cover 4 (R4 m c) (fun t _ => flushed4_eq m c t) fun i => (hit i).imp fun t e =>
    ⟨flush0_4 t, by show i ∈ ((View.whole main_v0_0).slice (win0_4.rect t)).set; rwa [View.set_slice_whole]⟩

theorem final5 (c : Dev nD) : (dats m 0 c).arrAt 5 cfg0.N = R5 m c :=
  (dats m 0 c).arrAt_eq_of_cover 5 (R5 m c) (fun t _ => flushed5_eq m c t) fun i => (hit i).imp fun t e =>
    ⟨flush0_5 t, by show i ∈ ((View.whole main_v0_1).slice (win0_5.rect t)).set; rwa [View.set_slice_whole]⟩

theorem final6 (c : Dev nD) : (dats m 0 c).arrAt 6 cfg0.N = R6 m c :=
  (dats m 0 c).arrAt_eq_of_cover 6 (R6 m c) (fun t _ => flushed6_eq m c t) fun i => (hit i).imp fun t e =>
    ⟨flush0_6 t, by show i ∈ ((View.whole main_v0_2).slice (win0_6.rect t)).set; rwa [View.set_slice_whole]⟩

theorem final7 (c : Dev nD) : (dats m 0 c).arrAt 7 cfg0.N = R7 m c :=
  (dats m 0 c).arrAt_eq_of_cover 7 (R7 m c) (fun t _ => flushed7_eq m c t) fun i => (hit i).imp fun t e =>
    ⟨flush0_7 t, by show i ∈ ((View.whole main_v0_3).slice (win0_7.rect t)).set; rwa [View.set_slice_whole]⟩

end Cert.Kernel21Ideal.Adamw21

end
-- ==== Proof.Adamw21Claim.lean ====
/-
  The value claim about the optimiser's step for the input projection's weights.
-/
module

public import proofs.«01_k».proof.Defs
public import proofs.«01_k».proof.Proof.Adamw21

@[expose] public section

set_option maxRecDepth 16384

noncomputable section

open Idealize.ShloMosaic Idealize.ShloMosaic.TcCoe Idealize.SL.Sem

namespace Cert.Adamw21Claim

open Cert.Reference21Ideal.Read

open Cert.Kernel21Ideal.Adamw21

/-- The kernel and the reference end with equal results: the gradient handed through, the step, and the two new moments. -/
theorem algebraic : Cert.algebraic_Kernel21Ideal_Reference21Ideal := by
  intro m ρ m' ρ' _ hagree
  refine ⟨R4 m, R5 m, R6 m, R7 m, ?_, ?_⟩
  · refine (θ_run _ _ _).mono (fun r h c => ?_) (Cert.Kernel21Ideal.Value.run_blocks (F := Ideal) m ρ)
    obtain ⟨h0, h1, h2, h3, hargs⟩ := h c
    exact ⟨h0.trans (final4 m c), h1.trans (final5 m c), h2.trans (final6 m c), h3.trans (final7 m c), hargs⟩
  · refine (θ_run _ _ _).mono (fun r h c => ?_) (Cert.Reference21Ideal.Value.run (F := Ideal) m' ρ')
    obtain ⟨e0, e1, e2, e3⟩ := hagree c
    obtain ⟨h0, h1, h2, h3, hargs⟩ := h c
    rw [e1] at h0
    rw [val_main_v23_eq, e0, e1, e2, e3] at h1
    rw [val_main_v4_eq, e1, e2] at h2
    rw [val_main_v10_eq, e1, e3] at h3
    exact ⟨h0, h1, h2, h3, hargs⟩

end Cert.Adamw21Claim

end
-- ==== Proof.Adamw22.lean ====
/-
  The optimiser's step for the conv branch's output weights (the recurrence branch's have the same shape), element by element: what each of the four
  results holds at an entry, against the plain formula of the step.
-/
module

public import proofs.«01_k».proof.Proof.Adamw
public import proofs.«01_k».proof.Proof.Gen.Kernel22Ideal.Value
public import proofs.«01_k».proof.Proof.Gen.Reference22Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel22Ideal.Adamw22

open Cert.Kernel22Ideal Cert.Kernel22Ideal.Gen Cert.Products Cert.Adamw Cert.Reference22Ideal.Read

variable (m : (ℓ : Loc nD τ sig) → Buf (Elt Ideal) ℓ)

/-- The weights, the gradient and the two moments on device `c`. -/
abbrev A0 (c : Dev nD) : Vec Ideal S1024x512 .f32 := m ((c : Thread nD τ).loc main_arg0)
abbrev A1 (c : Dev nD) : Vec Ideal S1024x512 .f32 := m ((c : Thread nD τ).loc main_arg1)
abbrev A2 (c : Dev nD) : Vec Ideal S1024x512 .f32 := m ((c : Thread nD τ).loc main_arg2)
abbrev A3 (c : Dev nD) : Vec Ideal S1024x512 .f32 := m ((c : Thread nD τ).loc main_arg3)

/-- The reference's four results on the arguments of device `c`: the gradient itself, the step, and the two new moments. -/
abbrev R4 (c : Dev nD) : Vec Ideal S1024x512 .f32 := A1 m c
abbrev R5 (c : Dev nD) : Vec Ideal S1024x512 .f32 := val_main_v23 (F := Ideal) (A0 m c) (A1 m c) (A2 m c) (A3 m c)
abbrev R6 (c : Dev nD) : Vec Ideal S1024x512 .f32 := val_main_v4 (F := Ideal) (A1 m c) (A2 m c)
abbrev R7 (c : Dev nD) : Vec Ideal S1024x512 .f32 := val_main_v10 (F := Ideal) (A1 m c) (A3 m c)

section Ref
variable (x0 x1 x2 x3 : Vec Ideal S1024x512 .f32) (i : S1024x512.Idx)
theorem ref_m : val_main_v4 (F := Ideal) x1 x2 i = mom1 (x1 i) (x2 i) := rfl
theorem ref_v : val_main_v10 (F := Ideal) x1 x3 i = mom2 (x1 i) (x3 i) := rfl
theorem ref_delta : val_main_v23 (F := Ideal) x0 x1 x2 x3 i = step (x0 i) (x1 i) (x2 i) (x3 i) := rfl
end Ref

/-- Each point writes back its block of result 1. -/
theorem flushed4_eq (c : Dev nD) (t : Fin cfg0.N) :
    (dats m 0 c).flushed 4 t = ((cfg0.win 4).blk t).view.read (Elt Ideal) (R4 m c) := by
  rw [Value.flushed4]
  unfold out0_4
  rw [View.canon_unit_zero hz]
  simp only [View.ld_unit_zero (S := S512x512) hz]
  funext j
  show iblk m c 1 t j = R4 m c ((win0_4.rect t).emb j)
  rfl

/-- Each point writes back its block of result 2. -/
theorem flushed5_eq (c : Dev nD) (t : Fin cfg0.N) :
    (dats m 0 c).flushed 5 t = ((cfg0.win 5).blk t).view.read (Elt Ideal) (R5 m c) := by
  rw [Value.flushed5]
  unfold out0_5
  rw [View.canon_unit_zero hz]
  simp only [View.ld_unit_zero (S := S512x512) hz]
  funext j
  show k0_pay3 (iblk m c 1 t) (iblk m c 0 t) (iblk m c 2 t) (iblk m c 3 t) j = R5 m c ((win0_5.rect t).emb j)
  exact (ref_delta _ _ _ _ _).symm

/-- Each point writes back its block of result 3. -/
theorem flushed6_eq (c : Dev nD) (t : Fin cfg0.N) :
    (dats m 0 c).flushed 6 t = ((cfg0.win 6).blk t).view.read (Elt Ideal) (R6 m c) := by
  rw [Value.flushed6]
  unfold out0_6
  rw [View.canon_unit_zero hz]
  simp only [View.ld_unit_zero (S := S512x512) hz]
  funext j
  show k0_pay1 (iblk m c 1 t) (iblk m c 2 t) j = R6 m c ((win0_6.rect t).emb j)
  exact (ref_m _ _ _).symm

/-- Each point writes back its block of result 4. -/
theorem flushed7_eq (c : Dev nD) (t : Fin cfg0.N) :
    (dats m 0 c).flushed 7 t = ((cfg0.win 7).blk t).view.read (Elt Ideal) (R7 m c) := by
  rw [Value.flushed7]
  unfold out0_7
  rw [View.canon_unit_zero hz]
  simp only [View.ld_unit_zero (S := S512x512) hz]
  funext j
  show k0_pay2 (iblk m c 1 t) (iblk m c 3 t) j = R7 m c ((win0_7.rect t).emb j)
  exact (ref_v _ _ _).symm

theorem onto : ∀ a : Fin 2, ∃ t : Fin cfg0.N, win0_4.index t 0 = a.val ∧ win0_4.index t 1 = 0 :=
  (by decide +kernel : ∀ a : Fin 2, ∃ t : Fin grid0.N, win0_4.index t 0 = a.val ∧ win0_4.index t 1 = 0)

/-- Every entry of a result array is an entry of some point's block. -/
theorem hit (i : S1024x512.Idx) : ∃ t : Fin cfg0.N, i ∈ (win0_4.rect t).set := by
  have h0 : (i 0).val < 1024 := (i 0).isLt
  obtain ⟨t, e0, e1⟩ := onto ⟨(i 0).val / 512, by omega⟩
  refine ⟨t, ?_⟩
  rw [← Rect.map_emb_univ]
  refine Finset.mem_map.mpr ⟨ix2 (n0 := 512) (n1 := 512) ⟨(i 0).val % 512, by omega⟩ (i 1), Finset.mem_univ _, Shape.idx_ext₂ ?_ ?_⟩
  · rw [win0_4.rect_emb_val t, e0]
    show (i 0).val / 512 * 512 + (i 0).val % 512 = (i 0).val
    omega
  · rw [win0_4.rect_emb_val t, e1]
    show 0 * 512 + (i 1).val = (i 1).val
    omega

theorem final4 (c : Dev nD) : (dats m 0 c).arrAt 4 cfg0.N = R4 m c :=
  (dats m 0 c).arrAt_eq_of_cover 4 (R4 m c) (fun t _ => flushed4_eq m c t) fun i => (hit i).imp fun t e =>
    ⟨flush0_4 t, by show i ∈ ((View.whole main_v0_0).slice (win0_4.rect t)).set; rwa [View.set_slice_whole]⟩

theorem final5 (c : Dev nD) : (dats m 0 c).arrAt 5 cfg0.N = R5 m c :=
  (dats m 0 c).arrAt_eq_of_cover 5 (R5 m c) (fun t _ => flushed5_eq m c t) fun i => (hit i).imp fun t e =>
    ⟨flush0_5 t, by show i ∈ ((View.whole main_v0_1).slice (win0_5.rect t)).set; rwa [View.set_slice_whole]⟩

theorem final6 (c : Dev nD) : (dats m 0 c).arrAt 6 cfg0.N = R6 m c :=
  (dats m 0 c).arrAt_eq_of_cover 6 (R6 m c) (fun t _ => flushed6_eq m c t) fun i => (hit i).imp fun t e =>
    ⟨flush0_6 t, by show i ∈ ((View.whole main_v0_2).slice (win0_6.rect t)).set; rwa [View.set_slice_whole]⟩

theorem final7 (c : Dev nD) : (dats m 0 c).arrAt 7 cfg0.N = R7 m c :=
  (dats m 0 c).arrAt_eq_of_cover 7 (R7 m c) (fun t _ => flushed7_eq m c t) fun i => (hit i).imp fun t e =>
    ⟨flush0_7 t, by show i ∈ ((View.whole main_v0_3).slice (win0_7.rect t)).set; rwa [View.set_slice_whole]⟩

end Cert.Kernel22Ideal.Adamw22

end
-- ==== Proof.Adamw22Claim.lean ====
/-
  The value claim about the optimiser's step for the conv branch's output weights (the recurrence branch's have the same shape).
-/
module

public import proofs.«01_k».proof.Defs
public import proofs.«01_k».proof.Proof.Adamw22

@[expose] public section

set_option maxRecDepth 16384

noncomputable section

open Idealize.ShloMosaic Idealize.ShloMosaic.TcCoe Idealize.SL.Sem

namespace Cert.Adamw22Claim

open Cert.Reference22Ideal.Read

open Cert.Kernel22Ideal.Adamw22

/-- The kernel and the reference end with equal results: the gradient handed through, the step, and the two new moments. -/
theorem algebraic : Cert.algebraic_Kernel22Ideal_Reference22Ideal := by
  intro m ρ m' ρ' _ hagree
  refine ⟨R4 m, R5 m, R6 m, R7 m, ?_, ?_⟩
  · refine (θ_run _ _ _).mono (fun r h c => ?_) (Cert.Kernel22Ideal.Value.run_blocks (F := Ideal) m ρ)
    obtain ⟨h0, h1, h2, h3, hargs⟩ := h c
    exact ⟨h0.trans (final4 m c), h1.trans (final5 m c), h2.trans (final6 m c), h3.trans (final7 m c), hargs⟩
  · refine (θ_run _ _ _).mono (fun r h c => ?_) (Cert.Reference22Ideal.Value.run (F := Ideal) m' ρ')
    obtain ⟨e0, e1, e2, e3⟩ := hagree c
    obtain ⟨h0, h1, h2, h3, hargs⟩ := h c
    rw [e1] at h0
    rw [val_main_v23_eq, e0, e1, e2, e3] at h1
    rw [val_main_v4_eq, e1, e2] at h2
    rw [val_main_v10_eq, e1, e3] at h3
    exact ⟨h0, h1, h2, h3, hargs⟩

end Cert.Adamw22Claim

end
-- ==== Proof.Adamw23.lean ====
/-
  The optimiser's step for the mixer's output weights, element by element: what each of the four
  results holds at an entry, against the plain formula of the step.
-/
module

public import proofs.«01_k».proof.Proof.Adamw
public import proofs.«01_k».proof.Proof.Gen.Kernel23Ideal.Value
public import proofs.«01_k».proof.Proof.Gen.Reference23Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel23Ideal.Adamw23

open Cert.Kernel23Ideal Cert.Kernel23Ideal.Gen Cert.Products Cert.Adamw Cert.Reference23Ideal.Read

variable (m : (ℓ : Loc nD τ sig) → Buf (Elt Ideal) ℓ)

/-- The weights, the gradient and the two moments on device `c`. -/
abbrev A0 (c : Dev nD) : Vec Ideal S512x2048 .f32 := m ((c : Thread nD τ).loc main_arg0)
abbrev A1 (c : Dev nD) : Vec Ideal S512x2048 .f32 := m ((c : Thread nD τ).loc main_arg1)
abbrev A2 (c : Dev nD) : Vec Ideal S512x2048 .f32 := m ((c : Thread nD τ).loc main_arg2)
abbrev A3 (c : Dev nD) : Vec Ideal S512x2048 .f32 := m ((c : Thread nD τ).loc main_arg3)

/-- The reference's four results on the arguments of device `c`: the gradient itself, the step, and the two new moments. -/
abbrev R4 (c : Dev nD) : Vec Ideal S512x2048 .f32 := A1 m c
abbrev R5 (c : Dev nD) : Vec Ideal S512x2048 .f32 := val_main_v23 (F := Ideal) (A0 m c) (A1 m c) (A2 m c) (A3 m c)
abbrev R6 (c : Dev nD) : Vec Ideal S512x2048 .f32 := val_main_v4 (F := Ideal) (A1 m c) (A2 m c)
abbrev R7 (c : Dev nD) : Vec Ideal S512x2048 .f32 := val_main_v10 (F := Ideal) (A1 m c) (A3 m c)

section Ref
variable (x0 x1 x2 x3 : Vec Ideal S512x2048 .f32) (i : S512x2048.Idx)
theorem ref_m : val_main_v4 (F := Ideal) x1 x2 i = mom1 (x1 i) (x2 i) := rfl
theorem ref_v : val_main_v10 (F := Ideal) x1 x3 i = mom2 (x1 i) (x3 i) := rfl
theorem ref_delta : val_main_v23 (F := Ideal) x0 x1 x2 x3 i = step (x0 i) (x1 i) (x2 i) (x3 i) := rfl
end Ref

/-- Each point writes back its block of result 1. -/
theorem flushed4_eq (c : Dev nD) (t : Fin cfg0.N) :
    (dats m 0 c).flushed 4 t = ((cfg0.win 4).blk t).view.read (Elt Ideal) (R4 m c) := by
  rw [Value.flushed4]
  unfold out0_4
  rw [View.canon_unit_zero hz]
  simp only [View.ld_unit_zero (S := S128x2048) hz]
  funext j
  show iblk m c 1 t j = R4 m c ((win0_4.rect t).emb j)
  rfl

/-- Each point writes back its block of result 2. -/
theorem flushed5_eq (c : Dev nD) (t : Fin cfg0.N) :
    (dats m 0 c).flushed 5 t = ((cfg0.win 5).blk t).view.read (Elt Ideal) (R5 m c) := by
  rw [Value.flushed5]
  unfold out0_5
  rw [View.canon_unit_zero hz]
  simp only [View.ld_unit_zero (S := S128x2048) hz]
  funext j
  show k0_pay3 (iblk m c 1 t) (iblk m c 0 t) (iblk m c 2 t) (iblk m c 3 t) j = R5 m c ((win0_5.rect t).emb j)
  exact (ref_delta _ _ _ _ _).symm

/-- Each point writes back its block of result 3. -/
theorem flushed6_eq (c : Dev nD) (t : Fin cfg0.N) :
    (dats m 0 c).flushed 6 t = ((cfg0.win 6).blk t).view.read (Elt Ideal) (R6 m c) := by
  rw [Value.flushed6]
  unfold out0_6
  rw [View.canon_unit_zero hz]
  simp only [View.ld_unit_zero (S := S128x2048) hz]
  funext j
  show k0_pay1 (iblk m c 1 t) (iblk m c 2 t) j = R6 m c ((win0_6.rect t).emb j)
  exact (ref_m _ _ _).symm

/-- Each point writes back its block of result 4. -/
theorem flushed7_eq (c : Dev nD) (t : Fin cfg0.N) :
    (dats m 0 c).flushed 7 t = ((cfg0.win 7).blk t).view.read (Elt Ideal) (R7 m c) := by
  rw [Value.flushed7]
  unfold out0_7
  rw [View.canon_unit_zero hz]
  simp only [View.ld_unit_zero (S := S128x2048) hz]
  funext j
  show k0_pay2 (iblk m c 1 t) (iblk m c 3 t) j = R7 m c ((win0_7.rect t).emb j)
  exact (ref_v _ _ _).symm

theorem onto : ∀ a : Fin 4, ∃ t : Fin cfg0.N, win0_4.index t 0 = a.val ∧ win0_4.index t 1 = 0 :=
  (by decide +kernel : ∀ a : Fin 4, ∃ t : Fin grid0.N, win0_4.index t 0 = a.val ∧ win0_4.index t 1 = 0)

/-- Every entry of a result array is an entry of some point's block. -/
theorem hit (i : S512x2048.Idx) : ∃ t : Fin cfg0.N, i ∈ (win0_4.rect t).set := by
  have h0 : (i 0).val < 512 := (i 0).isLt
  obtain ⟨t, e0, e1⟩ := onto ⟨(i 0).val / 128, by omega⟩
  refine ⟨t, ?_⟩
  rw [← Rect.map_emb_univ]
  refine Finset.mem_map.mpr ⟨ix2 (n0 := 128) (n1 := 2048) ⟨(i 0).val % 128, by omega⟩ (i 1), Finset.mem_univ _, Shape.idx_ext₂ ?_ ?_⟩
  · rw [win0_4.rect_emb_val t, e0]
    show (i 0).val / 128 * 128 + (i 0).val % 128 = (i 0).val
    omega
  · rw [win0_4.rect_emb_val t, e1]
    show 0 * 2048 + (i 1).val = (i 1).val
    omega

theorem final4 (c : Dev nD) : (dats m 0 c).arrAt 4 cfg0.N = R4 m c :=
  (dats m 0 c).arrAt_eq_of_cover 4 (R4 m c) (fun t _ => flushed4_eq m c t) fun i => (hit i).imp fun t e =>
    ⟨flush0_4 t, by show i ∈ ((View.whole main_v0_0).slice (win0_4.rect t)).set; rwa [View.set_slice_whole]⟩

theorem final5 (c : Dev nD) : (dats m 0 c).arrAt 5 cfg0.N = R5 m c :=
  (dats m 0 c).arrAt_eq_of_cover 5 (R5 m c) (fun t _ => flushed5_eq m c t) fun i => (hit i).imp fun t e =>
    ⟨flush0_5 t, by show i ∈ ((View.whole main_v0_1).slice (win0_5.rect t)).set; rwa [View.set_slice_whole]⟩

theorem final6 (c : Dev nD) : (dats m 0 c).arrAt 6 cfg0.N = R6 m c :=
  (dats m 0 c).arrAt_eq_of_cover 6 (R6 m c) (fun t _ => flushed6_eq m c t) fun i => (hit i).imp fun t e =>
    ⟨flush0_6 t, by show i ∈ ((View.whole main_v0_2).slice (win0_6.rect t)).set; rwa [View.set_slice_whole]⟩

theorem final7 (c : Dev nD) : (dats m 0 c).arrAt 7 cfg0.N = R7 m c :=
  (dats m 0 c).arrAt_eq_of_cover 7 (R7 m c) (fun t _ => flushed7_eq m c t) fun i => (hit i).imp fun t e =>
    ⟨flush0_7 t, by show i ∈ ((View.whole main_v0_3).slice (win0_7.rect t)).set; rwa [View.set_slice_whole]⟩

end Cert.Kernel23Ideal.Adamw23

end
-- ==== Proof.Adamw23Claim.lean ====
/-
  The value claim about the optimiser's step for the mixer's output weights.
-/
module

public import proofs.«01_k».proof.Defs
public import proofs.«01_k».proof.Proof.Adamw23

@[expose] public section

set_option maxRecDepth 16384

noncomputable section

open Idealize.ShloMosaic Idealize.ShloMosaic.TcCoe Idealize.SL.Sem

namespace Cert.Adamw23Claim

open Cert.Reference23Ideal.Read

open Cert.Kernel23Ideal.Adamw23

/-- The kernel and the reference end with equal results: the gradient handed through, the step, and the two new moments. -/
theorem algebraic : Cert.algebraic_Kernel23Ideal_Reference23Ideal := by
  intro m ρ m' ρ' _ hagree
  refine ⟨R4 m, R5 m, R6 m, R7 m, ?_, ?_⟩
  · refine (θ_run _ _ _).mono (fun r h c => ?_) (Cert.Kernel23Ideal.Value.run_blocks (F := Ideal) m ρ)
    obtain ⟨h0, h1, h2, h3, hargs⟩ := h c
    exact ⟨h0.trans (final4 m c), h1.trans (final5 m c), h2.trans (final6 m c), h3.trans (final7 m c), hargs⟩
  · refine (θ_run _ _ _).mono (fun r h c => ?_) (Cert.Reference23Ideal.Value.run (F := Ideal) m' ρ')
    obtain ⟨e0, e1, e2, e3⟩ := hagree c
    obtain ⟨h0, h1, h2, h3, hargs⟩ := h c
    rw [e1] at h0
    rw [val_main_v23_eq, e0, e1, e2, e3] at h1
    rw [val_main_v4_eq, e1, e2] at h2
    rw [val_main_v10_eq, e1, e3] at h3
    exact ⟨h0, h1, h2, h3, hargs⟩

end Cert.Adamw23Claim

end
-- ==== Proof.Adamw24.lean ====
/-
  The optimiser's step for the feed-forward's gate weights (the up weights have the same shape), element by element: what each of the four
  results holds at an entry, against the plain formula of the step.
-/
module

public import proofs.«01_k».proof.Proof.Adamw
public import proofs.«01_k».proof.Proof.Gen.Kernel24Ideal.Value
public import proofs.«01_k».proof.Proof.Gen.Reference24Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel24Ideal.Adamw24

open Cert.Kernel24Ideal Cert.Kernel24Ideal.Gen Cert.Products Cert.Adamw Cert.Reference24Ideal.Read

variable (m : (ℓ : Loc nD τ sig) → Buf (Elt Ideal) ℓ)

/-- The weights, the gradient and the two moments on device `c`. -/
abbrev A0 (c : Dev nD) : Vec Ideal S2048x1408 .f32 := m ((c : Thread nD τ).loc main_arg0)
abbrev A1 (c : Dev nD) : Vec Ideal S2048x1408 .f32 := m ((c : Thread nD τ).loc main_arg1)
abbrev A2 (c : Dev nD) : Vec Ideal S2048x1408 .f32 := m ((c : Thread nD τ).loc main_arg2)
abbrev A3 (c : Dev nD) : Vec Ideal S2048x1408 .f32 := m ((c : Thread nD τ).loc main_arg3)

/-- The reference's four results on the arguments of device `c`: the gradient itself, the step, and the two new moments. -/
abbrev R4 (c : Dev nD) : Vec Ideal S2048x1408 .f32 := A1 m c
abbrev R5 (c : Dev nD) : Vec Ideal S2048x1408 .f32 := val_main_v23 (F := Ideal) (A0 m c) (A1 m c) (A2 m c) (A3 m c)
abbrev R6 (c : Dev nD) : Vec Ideal S2048x1408 .f32 := val_main_v4 (F := Ideal) (A1 m c) (A2 m c)
abbrev R7 (c : Dev nD) : Vec Ideal S2048x1408 .f32 := val_main_v10 (F := Ideal) (A1 m c) (A3 m c)

section Ref
variable (x0 x1 x2 x3 : Vec Ideal S2048x1408 .f32) (i : S2048x1408.Idx)
theorem ref_m : val_main_v4 (F := Ideal) x1 x2 i = mom1 (x1 i) (x2 i) := rfl
theorem ref_v : val_main_v10 (F := Ideal) x1 x3 i = mom2 (x1 i) (x3 i) := rfl
theorem ref_delta : val_main_v23 (F := Ideal) x0 x1 x2 x3 i = step (x0 i) (x1 i) (x2 i) (x3 i) := rfl
end Ref

/-- Each point writes back its block of result 1. -/
theorem flushed4_eq (c : Dev nD) (t : Fin cfg0.N) :
    (dats m 0 c).flushed 4 t = ((cfg0.win 4).blk t).view.read (Elt Ideal) (R4 m c) := by
  rw [Value.flushed4]
  unfold out0_4
  rw [View.canon_unit_zero hz]
  simp only [View.ld_unit_zero (S := S128x1408) hz]
  funext j
  show iblk m c 1 t j = R4 m c ((win0_4.rect t).emb j)
  rfl

/-- Each point writes back its block of result 2. -/
theorem flushed5_eq (c : Dev nD) (t : Fin cfg0.N) :
    (dats m 0 c).flushed 5 t = ((cfg0.win 5).blk t).view.read (Elt Ideal) (R5 m c) := by
  rw [Value.flushed5]
  unfold out0_5
  rw [View.canon_unit_zero hz]
  simp only [View.ld_unit_zero (S := S128x1408) hz]
  funext j
  show k0_pay3 (iblk m c 1 t) (iblk m c 0 t) (iblk m c 2 t) (iblk m c 3 t) j = R5 m c ((win0_5.rect t).emb j)
  exact (ref_delta _ _ _ _ _).symm

/-- Each point writes back its block of result 3. -/
theorem flushed6_eq (c : Dev nD) (t : Fin cfg0.N) :
    (dats m 0 c).flushed 6 t = ((cfg0.win 6).blk t).view.read (Elt Ideal) (R6 m c) := by
  rw [Value.flushed6]
  unfold out0_6
  rw [View.canon_unit_zero hz]
  simp only [View.ld_unit_zero (S := S128x1408) hz]
  funext j
  show k0_pay1 (iblk m c 1 t) (iblk m c 2 t) j = R6 m c ((win0_6.rect t).emb j)
  exact (ref_m _ _ _).symm

/-- Each point writes back its block of result 4. -/
theorem flushed7_eq (c : Dev nD) (t : Fin cfg0.N) :
    (dats m 0 c).flushed 7 t = ((cfg0.win 7).blk t).view.read (Elt Ideal) (R7 m c) := by
  rw [Value.flushed7]
  unfold out0_7
  rw [View.canon_unit_zero hz]
  simp only [View.ld_unit_zero (S := S128x1408) hz]
  funext j
  show k0_pay2 (iblk m c 1 t) (iblk m c 3 t) j = R7 m c ((win0_7.rect t).emb j)
  exact (ref_v _ _ _).symm

theorem onto : ∀ a : Fin 16, ∃ t : Fin cfg0.N, win0_4.index t 0 = a.val ∧ win0_4.index t 1 = 0 :=
  (by decide +kernel : ∀ a : Fin 16, ∃ t : Fin grid0.N, win0_4.index t 0 = a.val ∧ win0_4.index t 1 = 0)

/-- Every entry of a result array is an entry of some point's block. -/
theorem hit (i : S2048x1408.Idx) : ∃ t : Fin cfg0.N, i ∈ (win0_4.rect t).set := by
  have h0 : (i 0).val < 2048 := (i 0).isLt
  obtain ⟨t, e0, e1⟩ := onto ⟨(i 0).val / 128, by omega⟩
  refine ⟨t, ?_⟩
  rw [← Rect.map_emb_univ]
  refine Finset.mem_map.mpr ⟨ix2 (n0 := 128) (n1 := 1408) ⟨(i 0).val % 128, by omega⟩ (i 1), Finset.mem_univ _, Shape.idx_ext₂ ?_ ?_⟩
  · rw [win0_4.rect_emb_val t, e0]
    show (i 0).val / 128 * 128 + (i 0).val % 128 = (i 0).val
    omega
  · rw [win0_4.rect_emb_val t, e1]
    show 0 * 1408 + (i 1).val = (i 1).val
    omega

theorem final4 (c : Dev nD) : (dats m 0 c).arrAt 4 cfg0.N = R4 m c :=
  (dats m 0 c).arrAt_eq_of_cover 4 (R4 m c) (fun t _ => flushed4_eq m c t) fun i => (hit i).imp fun t e =>
    ⟨flush0_4 t, by show i ∈ ((View.whole main_v0_0).slice (win0_4.rect t)).set; rwa [View.set_slice_whole]⟩

theorem final5 (c : Dev nD) : (dats m 0 c).arrAt 5 cfg0.N = R5 m c :=
  (dats m 0 c).arrAt_eq_of_cover 5 (R5 m c) (fun t _ => flushed5_eq m c t) fun i => (hit i).imp fun t e =>
    ⟨flush0_5 t, by show i ∈ ((View.whole main_v0_1).slice (win0_5.rect t)).set; rwa [View.set_slice_whole]⟩

theorem final6 (c : Dev nD) : (dats m 0 c).arrAt 6 cfg0.N = R6 m c :=
  (dats m 0 c).arrAt_eq_of_cover 6 (R6 m c) (fun t _ => flushed6_eq m c t) fun i => (hit i).imp fun t e =>
    ⟨flush0_6 t, by show i ∈ ((View.whole main_v0_2).slice (win0_6.rect t)).set; rwa [View.set_slice_whole]⟩

theorem final7 (c : Dev nD) : (dats m 0 c).arrAt 7 cfg0.N = R7 m c :=
  (dats m 0 c).arrAt_eq_of_cover 7 (R7 m c) (fun t _ => flushed7_eq m c t) fun i => (hit i).imp fun t e =>
    ⟨flush0_7 t, by show i ∈ ((View.whole main_v0_3).slice (win0_7.rect t)).set; rwa [View.set_slice_whole]⟩

end Cert.Kernel24Ideal.Adamw24

end
-- ==== Proof.Adamw24Claim.lean ====
/-
  The value claim about the optimiser's step for the feed-forward's gate weights (the up weights have the same shape).
-/
module

public import proofs.«01_k».proof.Defs
public import proofs.«01_k».proof.Proof.Adamw24

@[expose] public section

set_option maxRecDepth 16384

noncomputable section

open Idealize.ShloMosaic Idealize.ShloMosaic.TcCoe Idealize.SL.Sem

namespace Cert.Adamw24Claim

open Cert.Reference24Ideal.Read

open Cert.Kernel24Ideal.Adamw24

/-- The kernel and the reference end with equal results: the gradient handed through, the step, and the two new moments. -/
theorem algebraic : Cert.algebraic_Kernel24Ideal_Reference24Ideal := by
  intro m ρ m' ρ' _ hagree
  refine ⟨R4 m, R5 m, R6 m, R7 m, ?_, ?_⟩
  · refine (θ_run _ _ _).mono (fun r h c => ?_) (Cert.Kernel24Ideal.Value.run_blocks (F := Ideal) m ρ)
    obtain ⟨h0, h1, h2, h3, hargs⟩ := h c
    exact ⟨h0.trans (final4 m c), h1.trans (final5 m c), h2.trans (final6 m c), h3.trans (final7 m c), hargs⟩
  · refine (θ_run _ _ _).mono (fun r h c => ?_) (Cert.Reference24Ideal.Value.run (F := Ideal) m' ρ')
    obtain ⟨e0, e1, e2, e3⟩ := hagree c
    obtain ⟨h0, h1, h2, h3, hargs⟩ := h c
    rw [e1] at h0
    rw [val_main_v23_eq, e0, e1, e2, e3] at h1
    rw [val_main_v4_eq, e1, e2] at h2
    rw [val_main_v10_eq, e1, e3] at h3
    exact ⟨h0, h1, h2, h3, hargs⟩

end Cert.Adamw24Claim

end
-- ==== Proof.Adamw25.lean ====
/-
  The optimiser's step for the feed-forward's down weights, element by element: what each of the four
  results holds at an entry, against the plain formula of the step.
-/
module

public import proofs.«01_k».proof.Proof.Adamw
public import proofs.«01_k».proof.Proof.Gen.Kernel25Ideal.Value
public import proofs.«01_k».proof.Proof.Gen.Reference25Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel25Ideal.Adamw25

open Cert.Kernel25Ideal Cert.Kernel25Ideal.Gen Cert.Products Cert.Adamw Cert.Reference25Ideal.Read

variable (m : (ℓ : Loc nD τ sig) → Buf (Elt Ideal) ℓ)

/-- The weights, the gradient and the two moments on device `c`. -/
abbrev A0 (c : Dev nD) : Vec Ideal S1408x2048 .f32 := m ((c : Thread nD τ).loc main_arg0)
abbrev A1 (c : Dev nD) : Vec Ideal S1408x2048 .f32 := m ((c : Thread nD τ).loc main_arg1)
abbrev A2 (c : Dev nD) : Vec Ideal S1408x2048 .f32 := m ((c : Thread nD τ).loc main_arg2)
abbrev A3 (c : Dev nD) : Vec Ideal S1408x2048 .f32 := m ((c : Thread nD τ).loc main_arg3)

/-- The reference's four results on the arguments of device `c`: the gradient itself, the step, and the two new moments. -/
abbrev R4 (c : Dev nD) : Vec Ideal S1408x2048 .f32 := A1 m c
abbrev R5 (c : Dev nD) : Vec Ideal S1408x2048 .f32 := val_main_v23 (F := Ideal) (A0 m c) (A1 m c) (A2 m c) (A3 m c)
abbrev R6 (c : Dev nD) : Vec Ideal S1408x2048 .f32 := val_main_v4 (F := Ideal) (A1 m c) (A2 m c)
abbrev R7 (c : Dev nD) : Vec Ideal S1408x2048 .f32 := val_main_v10 (F := Ideal) (A1 m c) (A3 m c)

section Ref
variable (x0 x1 x2 x3 : Vec Ideal S1408x2048 .f32) (i : S1408x2048.Idx)
theorem ref_m : val_main_v4 (F := Ideal) x1 x2 i = mom1 (x1 i) (x2 i) := rfl
theorem ref_v : val_main_v10 (F := Ideal) x1 x3 i = mom2 (x1 i) (x3 i) := rfl
theorem ref_delta : val_main_v23 (F := Ideal) x0 x1 x2 x3 i = step (x0 i) (x1 i) (x2 i) (x3 i) := rfl
end Ref

/-- Each point writes back its block of result 1. -/
theorem flushed4_eq (c : Dev nD) (t : Fin cfg0.N) :
    (dats m 0 c).flushed 4 t = ((cfg0.win 4).blk t).view.read (Elt Ideal) (R4 m c) := by
  rw [Value.flushed4]
  unfold out0_4
  rw [View.canon_unit_zero hz]
  simp only [View.ld_unit_zero (S := S128x2048) hz]
  funext j
  show iblk m c 1 t j = R4 m c ((win0_4.rect t).emb j)
  rfl

/-- Each point writes back its block of result 2. -/
theorem flushed5_eq (c : Dev nD) (t : Fin cfg0.N) :
    (dats m 0 c).flushed 5 t = ((cfg0.win 5).blk t).view.read (Elt Ideal) (R5 m c) := by
  rw [Value.flushed5]
  unfold out0_5
  rw [View.canon_unit_zero hz]
  simp only [View.ld_unit_zero (S := S128x2048) hz]
  funext j
  show k0_pay3 (iblk m c 1 t) (iblk m c 0 t) (iblk m c 2 t) (iblk m c 3 t) j = R5 m c ((win0_5.rect t).emb j)
  exact (ref_delta _ _ _ _ _).symm

/-- Each point writes back its block of result 3. -/
theorem flushed6_eq (c : Dev nD) (t : Fin cfg0.N) :
    (dats m 0 c).flushed 6 t = ((cfg0.win 6).blk t).view.read (Elt Ideal) (R6 m c) := by
  rw [Value.flushed6]
  unfold out0_6
  rw [View.canon_unit_zero hz]
  simp only [View.ld_unit_zero (S := S128x2048) hz]
  funext j
  show k0_pay1 (iblk m c 1 t) (iblk m c 2 t) j = R6 m c ((win0_6.rect t).emb j)
  exact (ref_m _ _ _).symm

/-- Each point writes back its block of result 4. -/
theorem flushed7_eq (c : Dev nD) (t : Fin cfg0.N) :
    (dats m 0 c).flushed 7 t = ((cfg0.win 7).blk t).view.read (Elt Ideal) (R7 m c) := by
  rw [Value.flushed7]
  unfold out0_7
  rw [View.canon_unit_zero hz]
  simp only [View.ld_unit_zero (S := S128x2048) hz]
  funext j
  show k0_pay2 (iblk m c 1 t) (iblk m c 3 t) j = R7 m c ((win0_7.rect t).emb j)
  exact (ref_v _ _ _).symm

theorem onto : ∀ a : Fin 11, ∃ t : Fin cfg0.N, win0_4.index t 0 = a.val ∧ win0_4.index t 1 = 0 :=
  (by decide +kernel : ∀ a : Fin 11, ∃ t : Fin grid0.N, win0_4.index t 0 = a.val ∧ win0_4.index t 1 = 0)

/-- Every entry of a result array is an entry of some point's block. -/
theorem hit (i : S1408x2048.Idx) : ∃ t : Fin cfg0.N, i ∈ (win0_4.rect t).set := by
  have h0 : (i 0).val < 1408 := (i 0).isLt
  obtain ⟨t, e0, e1⟩ := onto ⟨(i 0).val / 128, by omega⟩
  refine ⟨t, ?_⟩
  rw [← Rect.map_emb_univ]
  refine Finset.mem_map.mpr ⟨ix2 (n0 := 128) (n1 := 2048) ⟨(i 0).val % 128, by omega⟩ (i 1), Finset.mem_univ _, Shape.idx_ext₂ ?_ ?_⟩
  · rw [win0_4.rect_emb_val t, e0]
    show (i 0).val / 128 * 128 + (i 0).val % 128 = (i 0).val
    omega
  · rw [win0_4.rect_emb_val t, e1]
    show 0 * 2048 + (i 1).val = (i 1).val
    omega

theorem final4 (c : Dev nD) : (dats m 0 c).arrAt 4 cfg0.N = R4 m c :=
  (dats m 0 c).arrAt_eq_of_cover 4 (R4 m c) (fun t _ => flushed4_eq m c t) fun i => (hit i).imp fun t e =>
    ⟨flush0_4 t, by show i ∈ ((View.whole main_v0_0).slice (win0_4.rect t)).set; rwa [View.set_slice_whole]⟩

theorem final5 (c : Dev nD) : (dats m 0 c).arrAt 5 cfg0.N = R5 m c :=
  (dats m 0 c).arrAt_eq_of_cover 5 (R5 m c) (fun t _ => flushed5_eq m c t) fun i => (hit i).imp fun t e =>
    ⟨flush0_5 t, by show i ∈ ((View.whole main_v0_1).slice (win0_5.rect t)).set; rwa [View.set_slice_whole]⟩

theorem final6 (c : Dev nD) : (dats m 0 c).arrAt 6 cfg0.N = R6 m c :=
  (dats m 0 c).arrAt_eq_of_cover 6 (R6 m c) (fun t _ => flushed6_eq m c t) fun i => (hit i).imp fun t e =>
    ⟨flush0_6 t, by show i ∈ ((View.whole main_v0_2).slice (win0_6.rect t)).set; rwa [View.set_slice_whole]⟩

theorem final7 (c : Dev nD) : (dats m 0 c).arrAt 7 cfg0.N = R7 m c :=
  (dats m 0 c).arrAt_eq_of_cover 7 (R7 m c) (fun t _ => flushed7_eq m c t) fun i => (hit i).imp fun t e =>
    ⟨flush0_7 t, by show i ∈ ((View.whole main_v0_3).slice (win0_7.rect t)).set; rwa [View.set_slice_whole]⟩

end Cert.Kernel25Ideal.Adamw25

end
-- ==== Proof.Adamw25Claim.lean ====
/-
  The value claim about the optimiser's step for the feed-forward's down weights.
-/
module

public import proofs.«01_k».proof.Defs
public import proofs.«01_k».proof.Proof.Adamw25

@[expose] public section

set_option maxRecDepth 16384

noncomputable section

open Idealize.ShloMosaic Idealize.ShloMosaic.TcCoe Idealize.SL.Sem

namespace Cert.Adamw25Claim

open Cert.Reference25Ideal.Read

open Cert.Kernel25Ideal.Adamw25

/-- The kernel and the reference end with equal results: the gradient handed through, the step, and the two new moments. -/
theorem algebraic : Cert.algebraic_Kernel25Ideal_Reference25Ideal := by
  intro m ρ m' ρ' _ hagree
  refine ⟨R4 m, R5 m, R6 m, R7 m, ?_, ?_⟩
  · refine (θ_run _ _ _).mono (fun r h c => ?_) (Cert.Kernel25Ideal.Value.run_blocks (F := Ideal) m ρ)
    obtain ⟨h0, h1, h2, h3, hargs⟩ := h c
    exact ⟨h0.trans (final4 m c), h1.trans (final5 m c), h2.trans (final6 m c), h3.trans (final7 m c), hargs⟩
  · refine (θ_run _ _ _).mono (fun r h c => ?_) (Cert.Reference25Ideal.Value.run (F := Ideal) m' ρ')
    obtain ⟨e0, e1, e2, e3⟩ := hagree c
    obtain ⟨h0, h1, h2, h3, hargs⟩ := h c
    rw [e1] at h0
    rw [val_main_v23_eq, e0, e1, e2, e3] at h1
    rw [val_main_v4_eq, e1, e2] at h2
    rw [val_main_v10_eq, e1, e3] at h3
    exact ⟨h0, h1, h2, h3, hargs⟩

end Cert.Adamw25Claim

end
-- ==== Proof.Adamw26.lean ====
/-
  The optimiser's step for the adaptive modulation's bias, element by element: what each of the four
  results holds at an entry, against the plain formula of the step.
-/
module

public import proofs.«01_k».proof.Proof.Adamw
public import proofs.«01_k».proof.Proof.Gen.Kernel26Ideal.Value
public import proofs.«01_k».proof.Proof.Gen.Reference26Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel26Ideal.Adamw26

open Cert.Kernel26Ideal Cert.Kernel26Ideal.Gen Cert.Products Cert.Adamw Cert.Reference26Ideal.Read

variable (m : (ℓ : Loc nD τ sig) → Buf (Elt Ideal) ℓ)

/-- The weights, the gradient and the two moments on device `c`. -/
abbrev A0 (c : Dev nD) : Vec Ideal S1x12288 .f32 := m ((c : Thread nD τ).loc main_arg0)
abbrev A1 (c : Dev nD) : Vec Ideal S1x12288 .f32 := m ((c : Thread nD τ).loc main_arg1)
abbrev A2 (c : Dev nD) : Vec Ideal S1x12288 .f32 := m ((c : Thread nD τ).loc main_arg2)
abbrev A3 (c : Dev nD) : Vec Ideal S1x12288 .f32 := m ((c : Thread nD τ).loc main_arg3)

/-- The reference's four results on the arguments of device `c`: the gradient itself, the step, and the two new moments. -/
abbrev R4 (c : Dev nD) : Vec Ideal S1x12288 .f32 := A1 m c
abbrev R5 (c : Dev nD) : Vec Ideal S1x12288 .f32 := val_main_v23 (F := Ideal) (A0 m c) (A1 m c) (A2 m c) (A3 m c)
abbrev R6 (c : Dev nD) : Vec Ideal S1x12288 .f32 := val_main_v4 (F := Ideal) (A1 m c) (A2 m c)
abbrev R7 (c : Dev nD) : Vec Ideal S1x12288 .f32 := val_main_v10 (F := Ideal) (A1 m c) (A3 m c)

section Block
variable (g w m' v : Vec Ideal S1x12288 .f32) (j : S1x12288.Idx)
theorem mom1_apply : k0_pay1 g m' j = mom1 (g j) (m' j) := rfl
theorem mom2_apply : k0_pay2 g v j = mom2 (g j) (v j) := rfl
theorem delta_apply : k0_pay3 g w m' v j = step (w j) (g j) (m' j) (v j) := rfl
end Block

section Ref
variable (x0 x1 x2 x3 : Vec Ideal S1x12288 .f32) (i : S1x12288.Idx)
theorem ref_m : val_main_v4 (F := Ideal) x1 x2 i = mom1 (x1 i) (x2 i) := rfl
theorem ref_v : val_main_v10 (F := Ideal) x1 x3 i = mom2 (x1 i) (x3 i) := rfl
theorem ref_delta : val_main_v23 (F := Ideal) x0 x1 x2 x3 i = step (x0 i) (x1 i) (x2 i) (x3 i) := rfl
end Ref

/-- Each point writes back its block of result 1. -/
theorem flushed4_eq (c : Dev nD) (t : Fin cfg0.N) :
    (dats m 0 c).flushed 4 t = ((cfg0.win 4).blk t).view.read (Elt Ideal) (R4 m c) := by
  rw [Value.flushed4]
  unfold out0_4
  rw [View.canon_unit_zero hz]
  simp only [View.ld_unit_zero (S := S1x12288) hz]
  funext j
  show iblk m c 1 t j = R4 m c ((win0_4.rect t).emb j)
  rfl

/-- Each point writes back its block of result 2. -/
theorem flushed5_eq (c : Dev nD) (t : Fin cfg0.N) :
    (dats m 0 c).flushed 5 t = ((cfg0.win 5).blk t).view.read (Elt Ideal) (R5 m c) := by
  rw [Value.flushed5]
  unfold out0_5
  rw [View.canon_unit_zero hz]
  simp only [View.ld_unit_zero (S := S1x12288) hz]
  funext j
  show k0_pay3 (iblk m c 1 t) (iblk m c 0 t) (iblk m c 2 t) (iblk m c 3 t) j = R5 m c ((win0_5.rect t).emb j)
  exact (ref_delta (A0 m c) (A1 m c) (A2 m c) (A3 m c) ((win0_5.rect t).emb j)).symm

/-- Each point writes back its block of result 3. -/
theorem flushed6_eq (c : Dev nD) (t : Fin cfg0.N) :
    (dats m 0 c).flushed 6 t = ((cfg0.win 6).blk t).view.read (Elt Ideal) (R6 m c) := by
  rw [Value.flushed6]
  unfold out0_6
  rw [View.canon_unit_zero hz]
  simp only [View.ld_unit_zero (S := S1x12288) hz]
  funext j
  show k0_pay1 (iblk m c 1 t) (iblk m c 2 t) j = R6 m c ((win0_6.rect t).emb j)
  exact (ref_m (A1 m c) (A2 m c) ((win0_6.rect t).emb j)).symm

/-- Each point writes back its block of result 4. -/
theorem flushed7_eq (c : Dev nD) (t : Fin cfg0.N) :
    (dats m 0 c).flushed 7 t = ((cfg0.win 7).blk t).view.read (Elt Ideal) (R7 m c) := by
  rw [Value.flushed7]
  unfold out0_7
  rw [View.canon_unit_zero hz]
  simp only [View.ld_unit_zero (S := S1x12288) hz]
  funext j
  show k0_pay2 (iblk m c 1 t) (iblk m c 3 t) j = R7 m c ((win0_7.rect t).emb j)
  exact (ref_v (A1 m c) (A3 m c) ((win0_7.rect t).emb j)).symm

theorem onto : ∀ a : Fin 1, ∃ t : Fin cfg0.N, win0_4.index t 0 = a.val ∧ win0_4.index t 1 = 0 :=
  (by decide +kernel : ∀ a : Fin 1, ∃ t : Fin grid0.N, win0_4.index t 0 = a.val ∧ win0_4.index t 1 = 0)

/-- Every entry of a result array is an entry of some point's block. -/
theorem hit (i : S1x12288.Idx) : ∃ t : Fin cfg0.N, i ∈ (win0_4.rect t).set := by
  have h0 : (i 0).val < 1 := (i 0).isLt
  obtain ⟨t, e0, e1⟩ := onto ⟨(i 0).val / 1, by omega⟩
  refine ⟨t, ?_⟩
  rw [← Rect.map_emb_univ]
  refine Finset.mem_map.mpr ⟨ix2 (n0 := 1) (n1 := 12288) ⟨(i 0).val % 1, by omega⟩ (i 1), Finset.mem_univ _, Shape.idx_ext₂ ?_ ?_⟩
  · rw [win0_4.rect_emb_val t, e0]
    show (i 0).val / 1 * 1 + (i 0).val % 1 = (i 0).val
    omega
  · rw [win0_4.rect_emb_val t, e1]
    show 0 * 12288 + (i 1).val = (i 1).val
    omega

theorem final4 (c : Dev nD) : (dats m 0 c).arrAt 4 cfg0.N = R4 m c :=
  (dats m 0 c).arrAt_eq_of_cover 4 (R4 m c) (fun t _ => flushed4_eq m c t) fun i => (hit i).imp fun t e =>
    ⟨flush0_4 t, by show i ∈ ((View.whole main_v0_0).slice (win0_4.rect t)).set; rwa [View.set_slice_whole]⟩

theorem final5 (c : Dev nD) : (dats m 0 c).arrAt 5 cfg0.N = R5 m c :=
  (dats m 0 c).arrAt_eq_of_cover 5 (R5 m c) (fun t _ => flushed5_eq m c t) fun i => (hit i).imp fun t e =>
    ⟨flush0_5 t, by show i ∈ ((View.whole main_v0_1).slice (win0_5.rect t)).set; rwa [View.set_slice_whole]⟩

theorem final6 (c : Dev nD) : (dats m 0 c).arrAt 6 cfg0.N = R6 m c :=
  (dats m 0 c).arrAt_eq_of_cover 6 (R6 m c) (fun t _ => flushed6_eq m c t) fun i => (hit i).imp fun t e =>
    ⟨flush0_6 t, by show i ∈ ((View.whole main_v0_2).slice (win0_6.rect t)).set; rwa [View.set_slice_whole]⟩

theorem final7 (c : Dev nD) : (dats m 0 c).arrAt 7 cfg0.N = R7 m c :=
  (dats m 0 c).arrAt_eq_of_cover 7 (R7 m c) (fun t _ => flushed7_eq m c t) fun i => (hit i).imp fun t e =>
    ⟨flush0_7 t, by show i ∈ ((View.whole main_v0_3).slice (win0_7.rect t)).set; rwa [View.set_slice_whole]⟩

end Cert.Kernel26Ideal.Adamw26

end
-- ==== Proof.Adamw26Claim.lean ====
/-
  The value claim about the optimiser's step for the adaptive modulation's bias.
-/
module

public import proofs.«01_k».proof.Defs
public import proofs.«01_k».proof.Proof.Adamw26

@[expose] public section

set_option maxRecDepth 16384

noncomputable section

open Idealize.ShloMosaic Idealize.ShloMosaic.TcCoe Idealize.SL.Sem

namespace Cert.Adamw26Claim

open Cert.Reference26Ideal.Read

open Cert.Kernel26Ideal.Adamw26

/-- The kernel and the reference end with equal results: the gradient handed through, the step, and the two new moments. -/
theorem algebraic : Cert.algebraic_Kernel26Ideal_Reference26Ideal := by
  intro m ρ m' ρ' _ hagree
  refine ⟨R4 m, R5 m, R6 m, R7 m, ?_, ?_⟩
  · refine (θ_run _ _ _).mono (fun r h c => ?_) (Cert.Kernel26Ideal.Value.run_blocks (F := Ideal) m ρ)
    obtain ⟨h0, h1, h2, h3, hargs⟩ := h c
    exact ⟨h0.trans (final4 m c), h1.trans (final5 m c), h2.trans (final6 m c), h3.trans (final7 m c), hargs⟩
  · refine (θ_run _ _ _).mono (fun r h c => ?_) (Cert.Reference26Ideal.Value.run (F := Ideal) m' ρ')
    obtain ⟨e0, e1, e2, e3⟩ := hagree c
    obtain ⟨h0, h1, h2, h3, hargs⟩ := h c
    rw [e1] at h0
    rw [val_main_v23_eq, e0, e1, e2, e3] at h1
    rw [val_main_v4_eq, e1, e2] at h2
    rw [val_main_v10_eq, e1, e3] at h3
    exact ⟨h0, h1, h2, h3, hargs⟩

end Cert.Adamw26Claim

end
-- ==== Proof.Adamw27.lean ====
/-
  The optimiser's step for a norm's gain (the three model-wide gains have one shape), element by element: what each of the four
  results holds at an entry, against the plain formula of the step.
-/
module

public import proofs.«01_k».proof.Proof.Adamw
public import proofs.«01_k».proof.Proof.Gen.Kernel27Ideal.Value
public import proofs.«01_k».proof.Proof.Gen.Reference27Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel27Ideal.Adamw27

open Cert.Kernel27Ideal Cert.Kernel27Ideal.Gen Cert.Products Cert.Adamw Cert.Reference27Ideal.Read

variable (m : (ℓ : Loc nD τ sig) → Buf (Elt Ideal) ℓ)

/-- The weights, the gradient and the two moments on device `c`. -/
abbrev A0 (c : Dev nD) : Vec Ideal S1x2048 .f32 := m ((c : Thread nD τ).loc main_arg0)
abbrev A1 (c : Dev nD) : Vec Ideal S1x2048 .f32 := m ((c : Thread nD τ).loc main_arg1)
abbrev A2 (c : Dev nD) : Vec Ideal S1x2048 .f32 := m ((c : Thread nD τ).loc main_arg2)
abbrev A3 (c : Dev nD) : Vec Ideal S1x2048 .f32 := m ((c : Thread nD τ).loc main_arg3)

/-- The reference's four results on the arguments of device `c`: the gradient itself, the step, and the two new moments. -/
abbrev R4 (c : Dev nD) : Vec Ideal S1x2048 .f32 := A1 m c
abbrev R5 (c : Dev nD) : Vec Ideal S1x2048 .f32 := val_main_v23 (F := Ideal) (A0 m c) (A1 m c) (A2 m c) (A3 m c)
abbrev R6 (c : Dev nD) : Vec Ideal S1x2048 .f32 := val_main_v4 (F := Ideal) (A1 m c) (A2 m c)
abbrev R7 (c : Dev nD) : Vec Ideal S1x2048 .f32 := val_main_v10 (F := Ideal) (A1 m c) (A3 m c)

section Block
variable (g w m' v : Vec Ideal S1x2048 .f32) (j : S1x2048.Idx)
theorem mom1_apply : k0_pay1 g m' j = mom1 (g j) (m' j) := rfl
theorem mom2_apply : k0_pay2 g v j = mom2 (g j) (v j) := rfl
theorem delta_apply : k0_pay3 g w m' v j = step (w j) (g j) (m' j) (v j) := rfl
end Block

section Ref
variable (x0 x1 x2 x3 : Vec Ideal S1x2048 .f32) (i : S1x2048.Idx)
theorem ref_m : val_main_v4 (F := Ideal) x1 x2 i = mom1 (x1 i) (x2 i) := rfl
theorem ref_v : val_main_v10 (F := Ideal) x1 x3 i = mom2 (x1 i) (x3 i) := rfl
theorem ref_delta : val_main_v23 (F := Ideal) x0 x1 x2 x3 i = step (x0 i) (x1 i) (x2 i) (x3 i) := rfl
end Ref

/-- Each point writes back its block of result 1. -/
theorem flushed4_eq (c : Dev nD) (t : Fin cfg0.N) :
    (dats m 0 c).flushed 4 t = ((cfg0.win 4).blk t).view.read (Elt Ideal) (R4 m c) := by
  rw [Value.flushed4]
  unfold out0_4
  rw [View.canon_unit_zero hz]
  simp only [View.ld_unit_zero (S := S1x2048) hz]
  funext j
  show iblk m c 1 t j = R4 m c ((win0_4.rect t).emb j)
  rfl

/-- Each point writes back its block of result 2. -/
theorem flushed5_eq (c : Dev nD) (t : Fin cfg0.N) :
    (dats m 0 c).flushed 5 t = ((cfg0.win 5).blk t).view.read (Elt Ideal) (R5 m c) := by
  rw [Value.flushed5]
  unfold out0_5
  rw [View.canon_unit_zero hz]
  simp only [View.ld_unit_zero (S := S1x2048) hz]
  funext j
  show k0_pay3 (iblk m c 1 t) (iblk m c 0 t) (iblk m c 2 t) (iblk m c 3 t) j = R5 m c ((win0_5.rect t).emb j)
  exact (ref_delta (A0 m c) (A1 m c) (A2 m c) (A3 m c) ((win0_5.rect t).emb j)).symm

/-- Each point writes back its block of result 3. -/
theorem flushed6_eq (c : Dev nD) (t : Fin cfg0.N) :
    (dats m 0 c).flushed 6 t = ((cfg0.win 6).blk t).view.read (Elt Ideal) (R6 m c) := by
  rw [Value.flushed6]
  unfold out0_6
  rw [View.canon_unit_zero hz]
  simp only [View.ld_unit_zero (S := S1x2048) hz]
  funext j
  show k0_pay1 (iblk m c 1 t) (iblk m c 2 t) j = R6 m c ((win0_6.rect t).emb j)
  exact (ref_m (A1 m c) (A2 m c) ((win0_6.rect t).emb j)).symm

/-- Each point writes back its block of result 4. -/
theorem flushed7_eq (c : Dev nD) (t : Fin cfg0.N) :
    (dats m 0 c).flushed 7 t = ((cfg0.win 7).blk t).view.read (Elt Ideal) (R7 m c) := by
  rw [Value.flushed7]
  unfold out0_7
  rw [View.canon_unit_zero hz]
  simp only [View.ld_unit_zero (S := S1x2048) hz]
  funext j
  show k0_pay2 (iblk m c 1 t) (iblk m c 3 t) j = R7 m c ((win0_7.rect t).emb j)
  exact (ref_v (A1 m c) (A3 m c) ((win0_7.rect t).emb j)).symm

theorem onto : ∀ a : Fin 1, ∃ t : Fin cfg0.N, win0_4.index t 0 = a.val ∧ win0_4.index t 1 = 0 :=
  (by decide +kernel : ∀ a : Fin 1, ∃ t : Fin grid0.N, win0_4.index t 0 = a.val ∧ win0_4.index t 1 = 0)

/-- Every entry of a result array is an entry of some point's block. -/
theorem hit (i : S1x2048.Idx) : ∃ t : Fin cfg0.N, i ∈ (win0_4.rect t).set := by
  have h0 : (i 0).val < 1 := (i 0).isLt
  obtain ⟨t, e0, e1⟩ := onto ⟨(i 0).val / 1, by omega⟩
  refine ⟨t, ?_⟩
  rw [← Rect.map_emb_univ]
  refine Finset.mem_map.mpr ⟨ix2 (n0 := 1) (n1 := 2048) ⟨(i 0).val % 1, by omega⟩ (i 1), Finset.mem_univ _, Shape.idx_ext₂ ?_ ?_⟩
  · rw [win0_4.rect_emb_val t, e0]
    show (i 0).val / 1 * 1 + (i 0).val % 1 = (i 0).val
    omega
  · rw [win0_4.rect_emb_val t, e1]
    show 0 * 2048 + (i 1).val = (i 1).val
    omega

theorem final4 (c : Dev nD) : (dats m 0 c).arrAt 4 cfg0.N = R4 m c :=
  (dats m 0 c).arrAt_eq_of_cover 4 (R4 m c) (fun t _ => flushed4_eq m c t) fun i => (hit i).imp fun t e =>
    ⟨flush0_4 t, by show i ∈ ((View.whole main_v0_0).slice (win0_4.rect t)).set; rwa [View.set_slice_whole]⟩

theorem final5 (c : Dev nD) : (dats m 0 c).arrAt 5 cfg0.N = R5 m c :=
  (dats m 0 c).arrAt_eq_of_cover 5 (R5 m c) (fun t _ => flushed5_eq m c t) fun i => (hit i).imp fun t e =>
    ⟨flush0_5 t, by show i ∈ ((View.whole main_v0_1).slice (win0_5.rect t)).set; rwa [View.set_slice_whole]⟩

theorem final6 (c : Dev nD) : (dats m 0 c).arrAt 6 cfg0.N = R6 m c :=
  (dats m 0 c).arrAt_eq_of_cover 6 (R6 m c) (fun t _ => flushed6_eq m c t) fun i => (hit i).imp fun t e =>
    ⟨flush0_6 t, by show i ∈ ((View.whole main_v0_2).slice (win0_6.rect t)).set; rwa [View.set_slice_whole]⟩

theorem final7 (c : Dev nD) : (dats m 0 c).arrAt 7 cfg0.N = R7 m c :=
  (dats m 0 c).arrAt_eq_of_cover 7 (R7 m c) (fun t _ => flushed7_eq m c t) fun i => (hit i).imp fun t e =>
    ⟨flush0_7 t, by show i ∈ ((View.whole main_v0_3).slice (win0_7.rect t)).set; rwa [View.set_slice_whole]⟩

end Cert.Kernel27Ideal.Adamw27

end
-- ==== Proof.Adamw27Claim.lean ====
/-
  The value claim about the optimiser's step for a norm's gain (the three model-wide gains have one shape).
-/
module

public import proofs.«01_k».proof.Defs
public import proofs.«01_k».proof.Proof.Adamw27

@[expose] public section

set_option maxRecDepth 16384

noncomputable section

open Idealize.ShloMosaic Idealize.ShloMosaic.TcCoe Idealize.SL.Sem

namespace Cert.Adamw27Claim

open Cert.Reference27Ideal.Read

open Cert.Kernel27Ideal.Adamw27

/-- The kernel and the reference end with equal results: the gradient handed through, the step, and the two new moments. -/
theorem algebraic : Cert.algebraic_Kernel27Ideal_Reference27Ideal := by
  intro m ρ m' ρ' _ hagree
  refine ⟨R4 m, R5 m, R6 m, R7 m, ?_, ?_⟩
  · refine (θ_run _ _ _).mono (fun r h c => ?_) (Cert.Kernel27Ideal.Value.run_blocks (F := Ideal) m ρ)
    obtain ⟨h0, h1, h2, h3, hargs⟩ := h c
    exact ⟨h0.trans (final4 m c), h1.trans (final5 m c), h2.trans (final6 m c), h3.trans (final7 m c), hargs⟩
  · refine (θ_run _ _ _).mono (fun r h c => ?_) (Cert.Reference27Ideal.Value.run (F := Ideal) m' ρ')
    obtain ⟨e0, e1, e2, e3⟩ := hagree c
    obtain ⟨h0, h1, h2, h3, hargs⟩ := h c
    rw [e1] at h0
    rw [val_main_v23_eq, e0, e1, e2, e3] at h1
    rw [val_main_v4_eq, e1, e2] at h2
    rw [val_main_v10_eq, e1, e3] at h3
    exact ⟨h0, h1, h2, h3, hargs⟩

end Cert.Adamw27Claim

end
-- ==== Proof.Adamw28.lean ====
/-
  The optimiser's step for the short convolution's taps, element by element: what each of the four
  results holds at an entry, against the plain formula of the step.
-/
module

public import proofs.«01_k».proof.Proof.Adamw
public import proofs.«01_k».proof.Proof.Gen.Kernel28Ideal.Value
public import proofs.«01_k».proof.Proof.Gen.Reference28Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel28Ideal.Adamw28

open Cert.Kernel28Ideal Cert.Kernel28Ideal.Gen Cert.Products Cert.Adamw Cert.Reference28Ideal.Read

variable (m : (ℓ : Loc nD τ sig) → Buf (Elt Ideal) ℓ)

/-- The weights, the gradient and the two moments on device `c`. -/
abbrev A0 (c : Dev nD) : Vec Ideal S3x256 .f32 := m ((c : Thread nD τ).loc main_arg0)
abbrev A1 (c : Dev nD) : Vec Ideal S3x256 .f32 := m ((c : Thread nD τ).loc main_arg1)
abbrev A2 (c : Dev nD) : Vec Ideal S3x256 .f32 := m ((c : Thread nD τ).loc main_arg2)
abbrev A3 (c : Dev nD) : Vec Ideal S3x256 .f32 := m ((c : Thread nD τ).loc main_arg3)

/-- The reference's four results on the arguments of device `c`: the gradient itself, the step, and the two new moments. -/
abbrev R4 (c : Dev nD) : Vec Ideal S3x256 .f32 := A1 m c
abbrev R5 (c : Dev nD) : Vec Ideal S3x256 .f32 := val_main_v23 (F := Ideal) (A0 m c) (A1 m c) (A2 m c) (A3 m c)
abbrev R6 (c : Dev nD) : Vec Ideal S3x256 .f32 := val_main_v4 (F := Ideal) (A1 m c) (A2 m c)
abbrev R7 (c : Dev nD) : Vec Ideal S3x256 .f32 := val_main_v10 (F := Ideal) (A1 m c) (A3 m c)

section Block
variable (g w m' v : Vec Ideal S3x256 .f32) (j : S3x256.Idx)
theorem mom1_apply : k0_pay1 g m' j = mom1 (g j) (m' j) := rfl
theorem mom2_apply : k0_pay2 g v j = mom2 (g j) (v j) := rfl
theorem delta_apply : k0_pay3 g w m' v j = step (w j) (g j) (m' j) (v j) := rfl
end Block

section Ref
variable (x0 x1 x2 x3 : Vec Ideal S3x256 .f32) (i : S3x256.Idx)
theorem ref_m : val_main_v4 (F := Ideal) x1 x2 i = mom1 (x1 i) (x2 i) := rfl
theorem ref_v : val_main_v10 (F := Ideal) x1 x3 i = mom2 (x1 i) (x3 i) := rfl
theorem ref_delta : val_main_v23 (F := Ideal) x0 x1 x2 x3 i = step (x0 i) (x1 i) (x2 i) (x3 i) := rfl
end Ref

/-- Each point writes back its block of result 1. -/
theorem flushed4_eq (c : Dev nD) (t : Fin cfg0.N) :
    (dats m 0 c).flushed 4 t = ((cfg0.win 4).blk t).view.read (Elt Ideal) (R4 m c) := by
  rw [Value.flushed4]
  unfold out0_4
  rw [View.canon_unit_zero hz]
  simp only [View.ld_unit_zero (S := S3x256) hz]
  funext j
  show iblk m c 1 t j = R4 m c ((win0_4.rect t).emb j)
  rfl

/-- Each point writes back its block of result 2. -/
theorem flushed5_eq (c : Dev nD) (t : Fin cfg0.N) :
    (dats m 0 c).flushed 5 t = ((cfg0.win 5).blk t).view.read (Elt Ideal) (R5 m c) := by
  rw [Value.flushed5]
  unfold out0_5
  rw [View.canon_unit_zero hz]
  simp only [View.ld_unit_zero (S := S3x256) hz]
  funext j
  show k0_pay3 (iblk m c 1 t) (iblk m c 0 t) (iblk m c 2 t) (iblk m c 3 t) j = R5 m c ((win0_5.rect t).emb j)
  exact (ref_delta (A0 m c) (A1 m c) (A2 m c) (A3 m c) ((win0_5.rect t).emb j)).symm

/-- Each point writes back its block of result 3. -/
theorem flushed6_eq (c : Dev nD) (t : Fin cfg0.N) :
    (dats m 0 c).flushed 6 t = ((cfg0.win 6).blk t).view.read (Elt Ideal) (R6 m c) := by
  rw [Value.flushed6]
  unfold out0_6
  rw [View.canon_unit_zero hz]
  simp only [View.ld_unit_zero (S := S3x256) hz]
  funext j
  show k0_pay1 (iblk m c 1 t) (iblk m c 2 t) j = R6 m c ((win0_6.rect t).emb j)
  exact (ref_m (A1 m c) (A2 m c) ((win0_6.rect t).emb j)).symm

/-- Each point writes back its block of result 4. -/
theorem flushed7_eq (c : Dev nD) (t : Fin cfg0.N) :
    (dats m 0 c).flushed 7 t = ((cfg0.win 7).blk t).view.read (Elt Ideal) (R7 m c) := by
  rw [Value.flushed7]
  unfold out0_7
  rw [View.canon_unit_zero hz]
  simp only [View.ld_unit_zero (S := S3x256) hz]
  funext j
  show k0_pay2 (iblk m c 1 t) (iblk m c 3 t) j = R7 m c ((win0_7.rect t).emb j)
  exact (ref_v (A1 m c) (A3 m c) ((win0_7.rect t).emb j)).symm

theorem onto : ∀ a : Fin 1, ∃ t : Fin cfg0.N, win0_4.index t 0 = a.val ∧ win0_4.index t 1 = 0 :=
  (by decide +kernel : ∀ a : Fin 1, ∃ t : Fin grid0.N, win0_4.index t 0 = a.val ∧ win0_4.index t 1 = 0)

/-- Every entry of a result array is an entry of some point's block. -/
theorem hit (i : S3x256.Idx) : ∃ t : Fin cfg0.N, i ∈ (win0_4.rect t).set := by
  have h0 : (i 0).val < 3 := (i 0).isLt
  obtain ⟨t, e0, e1⟩ := onto ⟨(i 0).val / 3, by omega⟩
  refine ⟨t, ?_⟩
  rw [← Rect.map_emb_univ]
  refine Finset.mem_map.mpr ⟨ix2 (n0 := 3) (n1 := 256) ⟨(i 0).val % 3, by omega⟩ (i 1), Finset.mem_univ _, Shape.idx_ext₂ ?_ ?_⟩
  · rw [win0_4.rect_emb_val t, e0]
    show (i 0).val / 3 * 3 + (i 0).val % 3 = (i 0).val
    omega
  · rw [win0_4.rect_emb_val t, e1]
    show 0 * 256 + (i 1).val = (i 1).val
    omega

theorem final4 (c : Dev nD) : (dats m 0 c).arrAt 4 cfg0.N = R4 m c :=
  (dats m 0 c).arrAt_eq_of_cover 4 (R4 m c) (fun t _ => flushed4_eq m c t) fun i => (hit i).imp fun t e =>
    ⟨flush0_4 t, by show i ∈ ((View.whole main_v0_0).slice (win0_4.rect t)).set; rwa [View.set_slice_whole]⟩

theorem final5 (c : Dev nD) : (dats m 0 c).arrAt 5 cfg0.N = R5 m c :=
  (dats m 0 c).arrAt_eq_of_cover 5 (R5 m c) (fun t _ => flushed5_eq m c t) fun i => (hit i).imp fun t e =>
    ⟨flush0_5 t, by show i ∈ ((View.whole main_v0_1).slice (win0_5.rect t)).set; rwa [View.set_slice_whole]⟩

theorem final6 (c : Dev nD) : (dats m 0 c).arrAt 6 cfg0.N = R6 m c :=
  (dats m 0 c).arrAt_eq_of_cover 6 (R6 m c) (fun t _ => flushed6_eq m c t) fun i => (hit i).imp fun t e =>
    ⟨flush0_6 t, by show i ∈ ((View.whole main_v0_2).slice (win0_6.rect t)).set; rwa [View.set_slice_whole]⟩

theorem final7 (c : Dev nD) : (dats m 0 c).arrAt 7 cfg0.N = R7 m c :=
  (dats m 0 c).arrAt_eq_of_cover 7 (R7 m c) (fun t _ => flushed7_eq m c t) fun i => (hit i).imp fun t e =>
    ⟨flush0_7 t, by show i ∈ ((View.whole main_v0_3).slice (win0_7.rect t)).set; rwa [View.set_slice_whole]⟩

end Cert.Kernel28Ideal.Adamw28

end
-- ==== Proof.Adamw28Claim.lean ====
/-
  The value claim about the optimiser's step for the short convolution's taps.
-/
module

public import proofs.«01_k».proof.Defs
public import proofs.«01_k».proof.Proof.Adamw28

@[expose] public section

set_option maxRecDepth 16384

noncomputable section

open Idealize.ShloMosaic Idealize.ShloMosaic.TcCoe Idealize.SL.Sem

namespace Cert.Adamw28Claim

open Cert.Reference28Ideal.Read

open Cert.Kernel28Ideal.Adamw28

/-- The kernel and the reference end with equal results: the gradient handed through, the step, and the two new moments. -/
theorem algebraic : Cert.algebraic_Kernel28Ideal_Reference28Ideal := by
  intro m ρ m' ρ' _ hagree
  refine ⟨R4 m, R5 m, R6 m, R7 m, ?_, ?_⟩
  · refine (θ_run _ _ _).mono (fun r h c => ?_) (Cert.Kernel28Ideal.Value.run_blocks (F := Ideal) m ρ)
    obtain ⟨h0, h1, h2, h3, hargs⟩ := h c
    exact ⟨h0.trans (final4 m c), h1.trans (final5 m c), h2.trans (final6 m c), h3.trans (final7 m c), hargs⟩
  · refine (θ_run _ _ _).mono (fun r h c => ?_) (Cert.Reference28Ideal.Value.run (F := Ideal) m' ρ')
    obtain ⟨e0, e1, e2, e3⟩ := hagree c
    obtain ⟨h0, h1, h2, h3, hargs⟩ := h c
    rw [e1] at h0
    rw [val_main_v23_eq, e0, e1, e2, e3] at h1
    rw [val_main_v4_eq, e1, e2] at h2
    rw [val_main_v10_eq, e1, e3] at h3
    exact ⟨h0, h1, h2, h3, hargs⟩

end Cert.Adamw28Claim

end
-- ==== Proof.Adamw29.lean ====
/-
  The optimiser's step for the recurrence's lower-bound parameters, element by element: what each of the four
  results holds at an entry, against the plain formula of the step.
-/
module

public import proofs.«01_k».proof.Proof.Adamw
public import proofs.«01_k».proof.Proof.Gen.Kernel29Ideal.Value
public import proofs.«01_k».proof.Proof.Gen.Reference29Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel29Ideal.Adamw29

open Cert.Kernel29Ideal Cert.Kernel29Ideal.Gen Cert.Products Cert.Adamw Cert.Reference29Ideal.Read

variable (m : (ℓ : Loc nD τ sig) → Buf (Elt Ideal) ℓ)

/-- The weights, the gradient and the two moments on device `c`. -/
abbrev A0 (c : Dev nD) : Vec Ideal S2x1024 .f32 := m ((c : Thread nD τ).loc main_arg0)
abbrev A1 (c : Dev nD) : Vec Ideal S2x1024 .f32 := m ((c : Thread nD τ).loc main_arg1)
abbrev A2 (c : Dev nD) : Vec Ideal S2x1024 .f32 := m ((c : Thread nD τ).loc main_arg2)
abbrev A3 (c : Dev nD) : Vec Ideal S2x1024 .f32 := m ((c : Thread nD τ).loc main_arg3)

/-- The reference's four results on the arguments of device `c`: the gradient itself, the step, and the two new moments. -/
abbrev R4 (c : Dev nD) : Vec Ideal S2x1024 .f32 := A1 m c
abbrev R5 (c : Dev nD) : Vec Ideal S2x1024 .f32 := val_main_v23 (F := Ideal) (A0 m c) (A1 m c) (A2 m c) (A3 m c)
abbrev R6 (c : Dev nD) : Vec Ideal S2x1024 .f32 := val_main_v4 (F := Ideal) (A1 m c) (A2 m c)
abbrev R7 (c : Dev nD) : Vec Ideal S2x1024 .f32 := val_main_v10 (F := Ideal) (A1 m c) (A3 m c)

section Block
variable (g w m' v : Vec Ideal S2x1024 .f32) (j : S2x1024.Idx)
theorem mom1_apply : k0_pay1 g m' j = mom1 (g j) (m' j) := rfl
theorem mom2_apply : k0_pay2 g v j = mom2 (g j) (v j) := rfl
theorem delta_apply : k0_pay3 g w m' v j = step (w j) (g j) (m' j) (v j) := rfl
end Block

section Ref
variable (x0 x1 x2 x3 : Vec Ideal S2x1024 .f32) (i : S2x1024.Idx)
theorem ref_m : val_main_v4 (F := Ideal) x1 x2 i = mom1 (x1 i) (x2 i) := rfl
theorem ref_v : val_main_v10 (F := Ideal) x1 x3 i = mom2 (x1 i) (x3 i) := rfl
theorem ref_delta : val_main_v23 (F := Ideal) x0 x1 x2 x3 i = step (x0 i) (x1 i) (x2 i) (x3 i) := rfl
end Ref

/-- Each point writes back its block of result 1. -/
theorem flushed4_eq (c : Dev nD) (t : Fin cfg0.N) :
    (dats m 0 c).flushed 4 t = ((cfg0.win 4).blk t).view.read (Elt Ideal) (R4 m c) := by
  rw [Value.flushed4]
  unfold out0_4
  rw [View.canon_unit_zero hz]
  simp only [View.ld_unit_zero (S := S2x1024) hz]
  funext j
  show iblk m c 1 t j = R4 m c ((win0_4.rect t).emb j)
  rfl

/-- Each point writes back its block of result 2. -/
theorem flushed5_eq (c : Dev nD) (t : Fin cfg0.N) :
    (dats m 0 c).flushed 5 t = ((cfg0.win 5).blk t).view.read (Elt Ideal) (R5 m c) := by
  rw [Value.flushed5]
  unfold out0_5
  rw [View.canon_unit_zero hz]
  simp only [View.ld_unit_zero (S := S2x1024) hz]
  funext j
  show k0_pay3 (iblk m c 1 t) (iblk m c 0 t) (iblk m c 2 t) (iblk m c 3 t) j = R5 m c ((win0_5.rect t).emb j)
  exact (ref_delta (A0 m c) (A1 m c) (A2 m c) (A3 m c) ((win0_5.rect t).emb j)).symm

/-- Each point writes back its block of result 3. -/
theorem flushed6_eq (c : Dev nD) (t : Fin cfg0.N) :
    (dats m 0 c).flushed 6 t = ((cfg0.win 6).blk t).view.read (Elt Ideal) (R6 m c) := by
  rw [Value.flushed6]
  unfold out0_6
  rw [View.canon_unit_zero hz]
  simp only [View.ld_unit_zero (S := S2x1024) hz]
  funext j
  show k0_pay1 (iblk m c 1 t) (iblk m c 2 t) j = R6 m c ((win0_6.rect t).emb j)
  exact (ref_m (A1 m c) (A2 m c) ((win0_6.rect t).emb j)).symm

/-- Each point writes back its block of result 4. -/
theorem flushed7_eq (c : Dev nD) (t : Fin cfg0.N) :
    (dats m 0 c).flushed 7 t = ((cfg0.win 7).blk t).view.read (Elt Ideal) (R7 m c) := by
  rw [Value.flushed7]
  unfold out0_7
  rw [View.canon_unit_zero hz]
  simp only [View.ld_unit_zero (S := S2x1024) hz]
  funext j
  show k0_pay2 (iblk m c 1 t) (iblk m c 3 t) j = R7 m c ((win0_7.rect t).emb j)
  exact (ref_v (A1 m c) (A3 m c) ((win0_7.rect t).emb j)).symm

theorem onto : ∀ a : Fin 1, ∃ t : Fin cfg0.N, win0_4.index t 0 = a.val ∧ win0_4.index t 1 = 0 :=
  (by decide +kernel : ∀ a : Fin 1, ∃ t : Fin grid0.N, win0_4.index t 0 = a.val ∧ win0_4.index t 1 = 0)

/-- Every entry of a result array is an entry of some point's block. -/
theorem hit (i : S2x1024.Idx) : ∃ t : Fin cfg0.N, i ∈ (win0_4.rect t).set := by
  have h0 : (i 0).val < 2 := (i 0).isLt
  obtain ⟨t, e0, e1⟩ := onto ⟨(i 0).val / 2, by omega⟩
  refine ⟨t, ?_⟩
  rw [← Rect.map_emb_univ]
  refine Finset.mem_map.mpr ⟨ix2 (n0 := 2) (n1 := 1024) ⟨(i 0).val % 2, by omega⟩ (i 1), Finset.mem_univ _, Shape.idx_ext₂ ?_ ?_⟩
  · rw [win0_4.rect_emb_val t, e0]
    show (i 0).val / 2 * 2 + (i 0).val % 2 = (i 0).val
    omega
  · rw [win0_4.rect_emb_val t, e1]
    show 0 * 1024 + (i 1).val = (i 1).val
    omega

theorem final4 (c : Dev nD) : (dats m 0 c).arrAt 4 cfg0.N = R4 m c :=
  (dats m 0 c).arrAt_eq_of_cover 4 (R4 m c) (fun t _ => flushed4_eq m c t) fun i => (hit i).imp fun t e =>
    ⟨flush0_4 t, by show i ∈ ((View.whole main_v0_0).slice (win0_4.rect t)).set; rwa [View.set_slice_whole]⟩

theorem final5 (c : Dev nD) : (dats m 0 c).arrAt 5 cfg0.N = R5 m c :=
  (dats m 0 c).arrAt_eq_of_cover 5 (R5 m c) (fun t _ => flushed5_eq m c t) fun i => (hit i).imp fun t e =>
    ⟨flush0_5 t, by show i ∈ ((View.whole main_v0_1).slice (win0_5.rect t)).set; rwa [View.set_slice_whole]⟩

theorem final6 (c : Dev nD) : (dats m 0 c).arrAt 6 cfg0.N = R6 m c :=
  (dats m 0 c).arrAt_eq_of_cover 6 (R6 m c) (fun t _ => flushed6_eq m c t) fun i => (hit i).imp fun t e =>
    ⟨flush0_6 t, by show i ∈ ((View.whole main_v0_2).slice (win0_6.rect t)).set; rwa [View.set_slice_whole]⟩

theorem final7 (c : Dev nD) : (dats m 0 c).arrAt 7 cfg0.N = R7 m c :=
  (dats m 0 c).arrAt_eq_of_cover 7 (R7 m c) (fun t _ => flushed7_eq m c t) fun i => (hit i).imp fun t e =>
    ⟨flush0_7 t, by show i ∈ ((View.whole main_v0_3).slice (win0_7.rect t)).set; rwa [View.set_slice_whole]⟩

end Cert.Kernel29Ideal.Adamw29

end
-- ==== Proof.Adamw29Claim.lean ====
/-
  The value claim about the optimiser's step for the recurrence's lower-bound parameters.
-/
module

public import proofs.«01_k».proof.Defs
public import proofs.«01_k».proof.Proof.Adamw29

@[expose] public section

set_option maxRecDepth 16384

noncomputable section

open Idealize.ShloMosaic Idealize.ShloMosaic.TcCoe Idealize.SL.Sem

namespace Cert.Adamw29Claim

open Cert.Reference29Ideal.Read

open Cert.Kernel29Ideal.Adamw29

/-- The kernel and the reference end with equal results: the gradient handed through, the step, and the two new moments. -/
theorem algebraic : Cert.algebraic_Kernel29Ideal_Reference29Ideal := by
  intro m ρ m' ρ' _ hagree
  refine ⟨R4 m, R5 m, R6 m, R7 m, ?_, ?_⟩
  · refine (θ_run _ _ _).mono (fun r h c => ?_) (Cert.Kernel29Ideal.Value.run_blocks (F := Ideal) m ρ)
    obtain ⟨h0, h1, h2, h3, hargs⟩ := h c
    exact ⟨h0.trans (final4 m c), h1.trans (final5 m c), h2.trans (final6 m c), h3.trans (final7 m c), hargs⟩
  · refine (θ_run _ _ _).mono (fun r h c => ?_) (Cert.Reference29Ideal.Value.run (F := Ideal) m' ρ')
    obtain ⟨e0, e1, e2, e3⟩ := hagree c
    obtain ⟨h0, h1, h2, h3, hargs⟩ := h c
    rw [e1] at h0
    rw [val_main_v23_eq, e0, e1, e2, e3] at h1
    rw [val_main_v4_eq, e1, e2] at h2
    rw [val_main_v10_eq, e1, e3] at h3
    exact ⟨h0, h1, h2, h3, hargs⟩

end Cert.Adamw29Claim

end
-- ==== Proof.Adamw30.lean ====
/-
  The optimiser's step for the recurrence's norm gain, element by element: what each of the four
  results holds at an entry, against the plain formula of the step.
-/
module

public import proofs.«01_k».proof.Proof.Adamw
public import proofs.«01_k».proof.Proof.Gen.Kernel30Ideal.Value
public import proofs.«01_k».proof.Proof.Gen.Reference30Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel30Ideal.Adamw30

open Cert.Kernel30Ideal Cert.Kernel30Ideal.Gen Cert.Products Cert.Adamw Cert.Reference30Ideal.Read

variable (m : (ℓ : Loc nD τ sig) → Buf (Elt Ideal) ℓ)

/-- The weights, the gradient and the two moments on device `c`. -/
abbrev A0 (c : Dev nD) : Vec Ideal S1x128 .f32 := m ((c : Thread nD τ).loc main_arg0)
abbrev A1 (c : Dev nD) : Vec Ideal S1x128 .f32 := m ((c : Thread nD τ).loc main_arg1)
abbrev A2 (c : Dev nD) : Vec Ideal S1x128 .f32 := m ((c : Thread nD τ).loc main_arg2)
abbrev A3 (c : Dev nD) : Vec Ideal S1x128 .f32 := m ((c : Thread nD τ).loc main_arg3)

/-- The reference's four results on the arguments of device `c`: the gradient itself, the step, and the two new moments. -/
abbrev R4 (c : Dev nD) : Vec Ideal S1x128 .f32 := A1 m c
abbrev R5 (c : Dev nD) : Vec Ideal S1x128 .f32 := val_main_v23 (F := Ideal) (A0 m c) (A1 m c) (A2 m c) (A3 m c)
abbrev R6 (c : Dev nD) : Vec Ideal S1x128 .f32 := val_main_v4 (F := Ideal) (A1 m c) (A2 m c)
abbrev R7 (c : Dev nD) : Vec Ideal S1x128 .f32 := val_main_v10 (F := Ideal) (A1 m c) (A3 m c)

section Block
variable (g w m' v : Vec Ideal S1x128 .f32) (j : S1x128.Idx)
theorem mom1_apply : k0_pay1 g m' j = mom1 (g j) (m' j) := rfl
theorem mom2_apply : k0_pay2 g v j = mom2 (g j) (v j) := rfl
theorem delta_apply : k0_pay3 g w m' v j = step (w j) (g j) (m' j) (v j) := rfl
end Block

section Ref
variable (x0 x1 x2 x3 : Vec Ideal S1x128 .f32) (i : S1x128.Idx)
theorem ref_m : val_main_v4 (F := Ideal) x1 x2 i = mom1 (x1 i) (x2 i) := rfl
theorem ref_v : val_main_v10 (F := Ideal) x1 x3 i = mom2 (x1 i) (x3 i) := rfl
theorem ref_delta : val_main_v23 (F := Ideal) x0 x1 x2 x3 i = step (x0 i) (x1 i) (x2 i) (x3 i) := rfl
end Ref

/-- Each point writes back its block of result 1. -/
theorem flushed4_eq (c : Dev nD) (t : Fin cfg0.N) :
    (dats m 0 c).flushed 4 t = ((cfg0.win 4).blk t).view.read (Elt Ideal) (R4 m c) := by
  rw [Value.flushed4]
  unfold out0_4
  rw [View.canon_unit_zero hz]
  simp only [View.ld_unit_zero (S := S1x128) hz]
  funext j
  show iblk m c 1 t j = R4 m c ((win0_4.rect t).emb j)
  rfl

/-- Each point writes back its block of result 2. -/
theorem flushed5_eq (c : Dev nD) (t : Fin cfg0.N) :
    (dats m 0 c).flushed 5 t = ((cfg0.win 5).blk t).view.read (Elt Ideal) (R5 m c) := by
  rw [Value.flushed5]
  unfold out0_5
  rw [View.canon_unit_zero hz]
  simp only [View.ld_unit_zero (S := S1x128) hz]
  funext j
  show k0_pay3 (iblk m c 1 t) (iblk m c 0 t) (iblk m c 2 t) (iblk m c 3 t) j = R5 m c ((win0_5.rect t).emb j)
  exact (ref_delta (A0 m c) (A1 m c) (A2 m c) (A3 m c) ((win0_5.rect t).emb j)).symm

/-- Each point writes back its block of result 3. -/
theorem flushed6_eq (c : Dev nD) (t : Fin cfg0.N) :
    (dats m 0 c).flushed 6 t = ((cfg0.win 6).blk t).view.read (Elt Ideal) (R6 m c) := by
  rw [Value.flushed6]
  unfold out0_6
  rw [View.canon_unit_zero hz]
  simp only [View.ld_unit_zero (S := S1x128) hz]
  funext j
  show k0_pay1 (iblk m c 1 t) (iblk m c 2 t) j = R6 m c ((win0_6.rect t).emb j)
  exact (ref_m (A1 m c) (A2 m c) ((win0_6.rect t).emb j)).symm

/-- Each point writes back its block of result 4. -/
theorem flushed7_eq (c : Dev nD) (t : Fin cfg0.N) :
    (dats m 0 c).flushed 7 t = ((cfg0.win 7).blk t).view.read (Elt Ideal) (R7 m c) := by
  rw [Value.flushed7]
  unfold out0_7
  rw [View.canon_unit_zero hz]
  simp only [View.ld_unit_zero (S := S1x128) hz]
  funext j
  show k0_pay2 (iblk m c 1 t) (iblk m c 3 t) j = R7 m c ((win0_7.rect t).emb j)
  exact (ref_v (A1 m c) (A3 m c) ((win0_7.rect t).emb j)).symm

theorem onto : ∀ a : Fin 1, ∃ t : Fin cfg0.N, win0_4.index t 0 = a.val ∧ win0_4.index t 1 = 0 :=
  (by decide +kernel : ∀ a : Fin 1, ∃ t : Fin grid0.N, win0_4.index t 0 = a.val ∧ win0_4.index t 1 = 0)

/-- Every entry of a result array is an entry of some point's block. -/
theorem hit (i : S1x128.Idx) : ∃ t : Fin cfg0.N, i ∈ (win0_4.rect t).set := by
  have h0 : (i 0).val < 1 := (i 0).isLt
  obtain ⟨t, e0, e1⟩ := onto ⟨(i 0).val / 1, by omega⟩
  refine ⟨t, ?_⟩
  rw [← Rect.map_emb_univ]
  refine Finset.mem_map.mpr ⟨ix2 (n0 := 1) (n1 := 128) ⟨(i 0).val % 1, by omega⟩ (i 1), Finset.mem_univ _, Shape.idx_ext₂ ?_ ?_⟩
  · rw [win0_4.rect_emb_val t, e0]
    show (i 0).val / 1 * 1 + (i 0).val % 1 = (i 0).val
    omega
  · rw [win0_4.rect_emb_val t, e1]
    show 0 * 128 + (i 1).val = (i 1).val
    omega

theorem final4 (c : Dev nD) : (dats m 0 c).arrAt 4 cfg0.N = R4 m c :=
  (dats m 0 c).arrAt_eq_of_cover 4 (R4 m c) (fun t _ => flushed4_eq m c t) fun i => (hit i).imp fun t e =>
    ⟨flush0_4 t, by show i ∈ ((View.whole main_v0_0).slice (win0_4.rect t)).set; rwa [View.set_slice_whole]⟩

theorem final5 (c : Dev nD) : (dats m 0 c).arrAt 5 cfg0.N = R5 m c :=
  (dats m 0 c).arrAt_eq_of_cover 5 (R5 m c) (fun t _ => flushed5_eq m c t) fun i => (hit i).imp fun t e =>
    ⟨flush0_5 t, by show i ∈ ((View.whole main_v0_1).slice (win0_5.rect t)).set; rwa [View.set_slice_whole]⟩

theorem final6 (c : Dev nD) : (dats m 0 c).arrAt 6 cfg0.N = R6 m c :=
  (dats m 0 c).arrAt_eq_of_cover 6 (R6 m c) (fun t _ => flushed6_eq m c t) fun i => (hit i).imp fun t e =>
    ⟨flush0_6 t, by show i ∈ ((View.whole main_v0_2).slice (win0_6.rect t)).set; rwa [View.set_slice_whole]⟩

theorem final7 (c : Dev nD) : (dats m 0 c).arrAt 7 cfg0.N = R7 m c :=
  (dats m 0 c).arrAt_eq_of_cover 7 (R7 m c) (fun t _ => flushed7_eq m c t) fun i => (hit i).imp fun t e =>
    ⟨flush0_7 t, by show i ∈ ((View.whole main_v0_3).slice (win0_7.rect t)).set; rwa [View.set_slice_whole]⟩

end Cert.Kernel30Ideal.Adamw30

end
-- ==== Proof.Adamw30Claim.lean ====
/-
  The value claim about the optimiser's step for the recurrence's norm gain.
-/
module

public import proofs.«01_k».proof.Defs
public import proofs.«01_k».proof.Proof.Adamw30

@[expose] public section

set_option maxRecDepth 16384

noncomputable section

open Idealize.ShloMosaic Idealize.ShloMosaic.TcCoe Idealize.SL.Sem

namespace Cert.Adamw30Claim

open Cert.Reference30Ideal.Read

open Cert.Kernel30Ideal.Adamw30

/-- The kernel and the reference end with equal results: the gradient handed through, the step, and the two new moments. -/
theorem algebraic : Cert.algebraic_Kernel30Ideal_Reference30Ideal := by
  intro m ρ m' ρ' _ hagree
  refine ⟨R4 m, R5 m, R6 m, R7 m, ?_, ?_⟩
  · refine (θ_run _ _ _).mono (fun r h c => ?_) (Cert.Kernel30Ideal.Value.run_blocks (F := Ideal) m ρ)
    obtain ⟨h0, h1, h2, h3, hargs⟩ := h c
    exact ⟨h0.trans (final4 m c), h1.trans (final5 m c), h2.trans (final6 m c), h3.trans (final7 m c), hargs⟩
  · refine (θ_run _ _ _).mono (fun r h c => ?_) (Cert.Reference30Ideal.Value.run (F := Ideal) m' ρ')
    obtain ⟨e0, e1, e2, e3⟩ := hagree c
    obtain ⟨h0, h1, h2, h3, hargs⟩ := h c
    rw [e1] at h0
    rw [val_main_v23_eq, e0, e1, e2, e3] at h1
    rw [val_main_v4_eq, e1, e2] at h2
    rw [val_main_v10_eq, e1, e3] at h3
    exact ⟨h0, h1, h2, h3, hargs⟩

end Cert.Adamw30Claim

end
-- ==== Proof.AdaUpdate.lean ====
/-
  The modulation weight's gradient and its optimiser step, element by element: the gradient is a sum over the examples,
  and the four results hold at an entry what the plain formula of the step gives.
-/
module

public import proofs.«01_k».proof.Proof.Products
public import proofs.«01_k».proof.Proof.Gen.Kernel31Ideal.Frame
public import Idealize.ShloMosaic.Lib.Pipeline.Value
public import proofs.«01_k».proof.Proof.Gen.Reference31Ideal.Run
public import proofs.«01_k».proof.Proof.Gen.Reference31Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel31Ideal.AdaUpdate

open Cert.Reference31Ideal.Read

open Cert.Kernel31Ideal Cert.Kernel31Ideal.Gen Cert.Products

variable (m : (ℓ : Loc nD τ sig) → Buf (Elt Ideal) ℓ) (ρ : Dev nD → PrngReg)

/-- The activated conditions, the modulation's gradient, the weight and the two moments on device `c`. -/
abbrev A0 (c : Dev nD) : Vec Ideal S8x2048 .f32 := m ((c : Thread nD τ).loc main_arg0)
abbrev A1 (c : Dev nD) : Vec Ideal S8x3072 .f32 := m ((c : Thread nD τ).loc main_arg1)
abbrev A2 (c : Dev nD) : Vec Ideal S2048x3072 .f32 := m ((c : Thread nD τ).loc main_arg2)
abbrev A3 (c : Dev nD) : Vec Ideal S2048x3072 .f32 := m ((c : Thread nD τ).loc main_arg3)
abbrev A4 (c : Dev nD) : Vec Ideal S2048x3072 .f32 := m ((c : Thread nD τ).loc main_arg4)

/-- The reference's four results on the arguments of device `c`: the gradient, the step, and the two new moments. -/
abbrev R5 (c : Dev nD) : Vec Ideal S2048x3072 .f32 := val_main_v2 (F := Ideal) (A0 m c) (A1 m c)
abbrev R6 (c : Dev nD) : Vec Ideal S2048x3072 .f32 :=
  val_main_v26 (F := Ideal) (A0 m c) (A1 m c) (A2 m c) (A3 m c) (A4 m c)
abbrev R7 (c : Dev nD) : Vec Ideal S2048x3072 .f32 := val_main_v7 (F := Ideal) (A0 m c) (A1 m c) (A3 m c)
abbrev R8 (c : Dev nD) : Vec Ideal S2048x3072 .f32 := val_main_v13 (F := Ideal) (A0 m c) (A1 m c) (A4 m c)

/-- The new first moment of one entry, from its gradient and its old moment. -/
def mom1 (g m : EReal) : EReal := Ideal.ofBits .f32 0x3F666666#32 * m + Ideal.ofBits .f32 0x3DCCCCCD#32 * g
/-- The new second moment of one entry. -/
def mom2 (g v : EReal) : EReal := Ideal.ofBits .f32 0x3F7FBE77#32 * v + Ideal.ofBits .f32 0x3A83126F#32 * (g * g)
/-- The step of one entry. -/
def step (w g m v : EReal) : EReal :=
  Ideal.ofBits .f32 0xBA83126F#32 * (Ideal.div (Ideal.div (mom1 g m) (Ideal.ofBits .f32 0x3F26BD02#32))
      (Ideal.sqrt (Ideal.div (mom2 g v) (Ideal.ofBits .f32 0x3C231ACC#32)) + Ideal.ofBits .f32 0x322BCC77#32)
    + Ideal.ofBits .f32 0x3C23D70A#32 * w)

/-- The gradient of one entry: a sum over the eight examples. -/
def grad (x : Fin 8 → EReal) (y : Fin 8 → EReal) : EReal := ∑ k : Fin 8, y k * x k

section Block
variable (x0 : Vec Ideal S256x8 .f32) (x1 : Vec Ideal S8x1536 .f32)

/-- One example's term: a column of the first operand times a row of the second. -/
theorem term_apply (o o' : ℕ) (k : Fin 8) (e : o = k.val) (e' : o' = k.val) (h : S256x8.Slices ![0, o] S256x1) (h' : S8x1536.Slices ![o', 0] S1x1536)
    (b : S256x1.Broadcasts S256x1536) (b' : S1x1536.Broadcasts S256x1536) (r : Fin 256) (q : Fin 1536) :
    broadcastTo S256x1536 (extractStridedSlice S256x1 ![0, o] x0 h) b (ix2 r q)
      * broadcastTo S256x1536 (extractStridedSlice S1x1536 ![o', 0] x1 h') b' (ix2 r q) = x0 (ix2 r k) * x1 (ix2 k q) := by
  subst e e'
  refine congrArg₂ (fun a b : EReal => a * b) ?_ ?_
  · refine (broadcastTo_apply _ b _ (ix2 (n0 := 256) (n1 := 1) r 0) fun a => by fin_cases a <;> rfl).trans ?_
    exact extractStridedSlice_apply _ _ h _ (ix2 (n0 := 256) (n1 := 8) r k) fun a => by fin_cases a <;> simp
  · refine (broadcastTo_apply _ b' _ (ix2 (n0 := 1) (n1 := 1536) 0 q) fun a => by fin_cases a <;> rfl).trans ?_
    exact extractStridedSlice_apply _ _ h' _ (ix2 (n0 := 8) (n1 := 1536) k q) fun a => by fin_cases a <;> simp

theorem grad_apply (r : Fin 256) (q : Fin 1536) :
    k0_pay4 x0 x1 (ix2 r q) = grad (fun k => x0 (ix2 r k)) fun k => x1 (ix2 k q) := by
  unfold k0_pay4 grad
  simp only [shapeCast_self]
  rw [Fin.sum_univ_eight]
  simp only [mul_comm (x1 _) (x0 _)]
  refine congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    (congrArg₂ (fun a b : EReal => a + b) ?_ ?_) ?_) ?_) ?_) ?_) ?_) ?_
  · exact term_apply x0 x1 0 0 0 rfl rfl _ _ _ _ r q
  · exact term_apply x0 x1 1 1 1 rfl rfl _ _ _ _ r q
  · exact term_apply x0 x1 2 2 2 rfl rfl _ _ _ _ r q
  · exact term_apply x0 x1 3 3 3 rfl rfl _ _ _ _ r q
  · exact term_apply x0 x1 4 4 4 rfl rfl _ _ _ _ r q
  · exact term_apply x0 x1 5 5 5 rfl rfl _ _ _ _ r q
  · exact term_apply x0 x1 6 6 6 rfl rfl _ _ _ _ r q
  · exact term_apply x0 x1 7 7 7 rfl rfl _ _ _ _ r q

variable (g w m' v : Vec Ideal S256x1536 .f32) (j : S256x1536.Idx)
theorem mom1_apply : k0_pay1 g m' j = mom1 (g j) (m' j) := rfl
theorem mom2_apply : k0_pay2 g v j = mom2 (g j) (v j) := rfl
theorem delta_apply : k0_pay3 g w m' v j = step (w j) (g j) (m' j) (v j) := rfl
end Block

section Ref
open Cert.Reference31Ideal.Read
variable (x0 : Vec Ideal S8x2048 .f32) (x1 : Vec Ideal S8x3072 .f32) (x2 x3 x4 : Vec Ideal S2048x3072 .f32) (r : Fin 2048) (q : Fin 3072)
theorem ref_g : val_main_v2 (F := Ideal) x0 x1 (ix2 r q) = grad (fun k => x0 (ix2 k r)) fun k => x1 (ix2 k q) := by
  rw [val_main_v2_apply, val_main_v1_apply]
  unfold grad
  exact Finset.sum_congr rfl fun k _ => congrArg₂ (fun a b : EReal => a * b) (congrArg x1 (Shape.idx_ext₂ rfl rfl)) (congrArg x0 (Shape.idx_ext₂ rfl rfl))
theorem ref_m (i : S2048x3072.Idx) : val_main_v7 (F := Ideal) x0 x1 x3 i = mom1 (val_main_v2 (F := Ideal) x0 x1 i) (x3 i) := by
  rw [val_main_v7_apply, val_main_v4_apply, val_main_v6_apply, val_main_v3_apply, val_main_v5_apply, val_main_cst_apply,
    val_main_cst_0_apply]
  rfl
theorem ref_v (i : S2048x3072.Idx) : val_main_v13 (F := Ideal) x0 x1 x4 i = mom2 (val_main_v2 (F := Ideal) x0 x1 i) (x4 i) := by
  rw [val_main_v13_apply, val_main_v9_apply, val_main_v12_apply, val_main_v10_apply, val_main_v8_apply, val_main_v11_apply,
    val_main_cst_1_apply, val_main_cst_2_apply]
  rfl
theorem ref_delta (i : S2048x3072.Idx) : val_main_v26 (F := Ideal) x0 x1 x2 x3 x4 i = step (x2 i) (val_main_v2 (F := Ideal) x0 x1 i) (x3 i) (x4 i) := by
  rw [val_main_v26_apply, val_main_v25_apply, val_main_v24_apply, val_main_v23_apply, val_main_v22_apply, val_main_v21_apply, val_main_v20_apply,
    val_main_v19_apply, val_main_v18_apply, val_main_v17_apply, val_main_v16_apply, val_main_v15_apply, val_main_v14_apply,
    ref_m, ref_v, val_main_cst_3_apply, val_main_cst_4_apply, val_main_cst_5_apply, val_main_cst_6_apply,
    val_main_cst_7_apply]
  rfl
end Ref

/-- How the windows move together. -/
theorem idx_facts : ∀ t : Fin cfg0.N,
    (win0_0.index t 0 = win0_5.index t 0 ∧ win0_0.index t 1 = 0) ∧ (win0_1.index t 0 = 0 ∧ win0_1.index t 1 = win0_5.index t 1)
    ∧ (win0_5.index t 0 < 8 ∧ win0_5.index t 1 < 2)
    ∧ (win0_2.index t = win0_5.index t ∧ win0_3.index t = win0_5.index t ∧ win0_4.index t = win0_5.index t)
    ∧ (win0_6.index t = win0_5.index t ∧ win0_7.index t = win0_5.index t ∧ win0_8.index t = win0_5.index t) :=
  (by decide +kernel : ∀ t : Fin grid0.N, _)

/-- The row and the column of the arrays that entry (`r`, `q`) of point `t`'s block is. -/
def row (t : Fin cfg0.N) (r : Fin 256) : Fin 2048 :=
  ⟨win0_5.index t 0 * 256 + r.val, by have h := (idx_facts t).2.2.1.1; omega⟩
def col (t : Fin cfg0.N) (q : Fin 1536) : Fin 3072 :=
  ⟨win0_5.index t 1 * 1536 + q.val, by have h := (idx_facts t).2.2.1.2; omega⟩

/-- The kernel's first operand is the host's transpose of the first argument. -/
theorem V_v0 (c : Dev nD) : V m c main_v0 = transpose S2048x8 [1, 0] (A0 m c) transposes_S8x2048_S2048x8_1_0 := by
  show StableHlo.after hostOps0 (fun b => m (c, b)) main_v0 = _
  unfold hostOps0
  after_results_simp

theorem iblk0_apply (c : Dev nD) (t : Fin cfg0.N) (r : Fin 256) (k : Fin 8) :
    iblk m c 0 t (ix2 r k) = A0 m c (ix2 k (row t r)) := by
  show V m c main_v0 ((win0_0.rect t).emb (ix2 r k)) = _
  rw [V_v0]
  refine (transpose_apply [1, 0] (A0 m c) transposes_S8x2048_S2048x8_1_0 _ (ix2 (n0 := 8) (n1 := 2048) k (row t r)) fun b => ?_)
  fin_cases b
  · show (row t r).val = ((win0_0.rect t).emb (ix2 r k) 0).val
    rw [win0_0.rect_emb_val t, (idx_facts t).1.1]; rfl
  · show k.val = ((win0_0.rect t).emb (ix2 r k) 1).val
    rw [win0_0.rect_emb_val t, (idx_facts t).1.2]
    show k.val = 0 * 8 + k.val
    omega

theorem iblk1_apply (c : Dev nD) (t : Fin cfg0.N) (k : Fin 8) (q : Fin 1536) :
    iblk m c 1 t (ix2 k q) = A1 m c (ix2 k (col t q)) := by
  show V m c main_arg1 ((win0_1.rect t).emb (ix2 k q)) = _
  rw [V_main_arg1]
  refine congrArg (A1 m c) (Shape.idx_ext₂ ?_ ?_)
  · rw [win0_1.rect_emb_val t, (idx_facts t).2.1.1]
    show 0 * 8 + k.val = k.val
    omega
  · rw [win0_1.rect_emb_val t, (idx_facts t).2.1.2]; rfl

theorem emb_eq (t : Fin cfg0.N) (r : Fin 256) (q : Fin 1536) : (win0_5.rect t).emb (ix2 r q) = ix2 (row t r) (col t q) :=
  Shape.idx_ext₂ (win0_5.rect_emb_val t _ 0) (win0_5.rect_emb_val t _ 1)

theorem iblk2_apply (c : Dev nD) (t : Fin cfg0.N) (r : Fin 256) (q : Fin 1536) :
    iblk m c 2 t (ix2 r q) = A2 m c (ix2 (row t r) (col t q)) := by
  show V m c main_arg2 ((win0_2.rect t).emb (ix2 r q)) = _
  rw [V_main_arg2]
  have h := (idx_facts t).2.2.2.1.1
  refine congrArg (A2 m c) (Shape.idx_ext₂ ?_ ?_)
  · rw [win0_2.rect_emb_val t, h]; rfl
  · rw [win0_2.rect_emb_val t, h]; rfl

theorem iblk3_apply (c : Dev nD) (t : Fin cfg0.N) (r : Fin 256) (q : Fin 1536) :
    iblk m c 3 t (ix2 r q) = A3 m c (ix2 (row t r) (col t q)) := by
  show V m c main_arg3 ((win0_3.rect t).emb (ix2 r q)) = _
  rw [V_main_arg3]
  have h := (idx_facts t).2.2.2.1.2.1
  refine congrArg (A3 m c) (Shape.idx_ext₂ ?_ ?_)
  · rw [win0_3.rect_emb_val t, h]; rfl
  · rw [win0_3.rect_emb_val t, h]; rfl

theorem iblk4_apply (c : Dev nD) (t : Fin cfg0.N) (r : Fin 256) (q : Fin 1536) :
    iblk m c 4 t (ix2 r q) = A4 m c (ix2 (row t r) (col t q)) := by
  show V m c main_arg4 ((win0_4.rect t).emb (ix2 r q)) = _
  rw [V_main_arg4]
  have h := (idx_facts t).2.2.2.1.2.2
  refine congrArg (A4 m c) (Shape.idx_ext₂ ?_ ?_)
  · rw [win0_4.rect_emb_val t, h]; rfl
  · rw [win0_4.rect_emb_val t, h]; rfl

theorem emb_eq6 (t : Fin cfg0.N) (r : Fin 256) (q : Fin 1536) : (win0_6.rect t).emb (ix2 r q) = ix2 (row t r) (col t q) := by
  have h := (idx_facts t).2.2.2.2.1
  refine Shape.idx_ext₂ ?_ ?_
  · rw [win0_6.rect_emb_val t, h]; rfl
  · rw [win0_6.rect_emb_val t, h]; rfl

theorem emb_eq7 (t : Fin cfg0.N) (r : Fin 256) (q : Fin 1536) : (win0_7.rect t).emb (ix2 r q) = ix2 (row t r) (col t q) := by
  have h := (idx_facts t).2.2.2.2.2.1
  refine Shape.idx_ext₂ ?_ ?_
  · rw [win0_7.rect_emb_val t, h]; rfl
  · rw [win0_7.rect_emb_val t, h]; rfl

theorem emb_eq8 (t : Fin cfg0.N) (r : Fin 256) (q : Fin 1536) : (win0_8.rect t).emb (ix2 r q) = ix2 (row t r) (col t q) := by
  have h := (idx_facts t).2.2.2.2.2.2
  refine Shape.idx_ext₂ ?_ ?_
  · rw [win0_8.rect_emb_val t, h]; rfl
  · rw [win0_8.rect_emb_val t, h]; rfl

/-- The gradient's block at a point is the reference's gradient. -/
theorem grad_eq (c : Dev nD) (t : Fin cfg0.N) (r : Fin 256) (q : Fin 1536) :
    k0_pay4 (iblk m c 0 t) (iblk m c 1 t) (ix2 r q) = R5 m c (ix2 (row t r) (col t q)) := by
  refine (grad_apply _ _ r q).trans ((?_ : _ = _).trans (ref_g _ _ _ _).symm)
  unfold grad
  exact Finset.sum_congr rfl fun k _ => congrArg₂ (fun a b : EReal => a * b) (iblk1_apply m c t k q) (iblk0_apply m c t r k)

/-- Each point writes back its block of result 1. -/
theorem flushed5_eq (c : Dev nD) (t : Fin cfg0.N) :
    (dats m 0 c).flushed 5 t = ((cfg0.win 5).blk t).view.read (Elt Ideal) (R5 m c) := by
  show (cfg0.win 5).cut (grid0.coords t) ((dats m 0 c).after 5 t) = _
  rw [after0_5]
  unfold_out out0_5
  rw [View.canon_unit_zero hz]
  simp only [View.ld_unit_zero (S := S256x1536) hz, View.ld_unit_zero (S := S256x8) hz, View.ld_unit_zero (S := S8x1536) hz]
  funext j
  obtain ⟨r, q, rfl⟩ : ∃ (r : Fin 256) (q : Fin 1536), j = ix2 r q := ⟨j 0, j 1, eq_ix2 j⟩
  show k0_pay4 (iblk m c 0 t) (iblk m c 1 t) (ix2 r q) = R5 m c ((win0_5.rect t).emb (ix2 r q))
  rw [emb_eq]
  exact grad_eq m c t r q

/-- Each point writes back its block of result 2. -/
theorem flushed6_eq (c : Dev nD) (t : Fin cfg0.N) :
    (dats m 0 c).flushed 6 t = ((cfg0.win 6).blk t).view.read (Elt Ideal) (R6 m c) := by
  show (cfg0.win 6).cut (grid0.coords t) ((dats m 0 c).after 6 t) = _
  rw [after0_6]
  unfold_out out0_6
  rw [View.canon_unit_zero hz]
  simp only [View.ld_unit_zero (S := S256x1536) hz, View.ld_unit_zero (S := S256x8) hz, View.ld_unit_zero (S := S8x1536) hz]
  funext j
  obtain ⟨r, q, rfl⟩ : ∃ (r : Fin 256) (q : Fin 1536), j = ix2 r q := ⟨j 0, j 1, eq_ix2 j⟩
  show k0_pay3 (k0_pay4 (iblk m c 0 t) (iblk m c 1 t)) (iblk m c 2 t) (iblk m c 3 t) (iblk m c 4 t) (ix2 r q) = R6 m c ((win0_6.rect t).emb (ix2 r q))
  rw [emb_eq6, delta_apply, grad_eq, iblk2_apply, iblk3_apply, iblk4_apply]
  exact (ref_delta _ _ _ _ _ _).symm

/-- Each point writes back its block of result 3. -/
theorem flushed7_eq (c : Dev nD) (t : Fin cfg0.N) :
    (dats m 0 c).flushed 7 t = ((cfg0.win 7).blk t).view.read (Elt Ideal) (R7 m c) := by
  show (cfg0.win 7).cut (grid0.coords t) ((dats m 0 c).after 7 t) = _
  rw [after0_7]
  unfold_out out0_7
  rw [View.canon_unit_zero hz]
  simp only [View.ld_unit_zero (S := S256x1536) hz, View.ld_unit_zero (S := S256x8) hz, View.ld_unit_zero (S := S8x1536) hz]
  funext j
  obtain ⟨r, q, rfl⟩ : ∃ (r : Fin 256) (q : Fin 1536), j = ix2 r q := ⟨j 0, j 1, eq_ix2 j⟩
  show k0_pay1 (k0_pay4 (iblk m c 0 t) (iblk m c 1 t)) (iblk m c 3 t) (ix2 r q) = R7 m c ((win0_7.rect t).emb (ix2 r q))
  rw [emb_eq7, mom1_apply, grad_eq, iblk3_apply]
  exact (ref_m _ _ _ _).symm

/-- Each point writes back its block of result 4. -/
theorem flushed8_eq (c : Dev nD) (t : Fin cfg0.N) :
    (dats m 0 c).flushed 8 t = ((cfg0.win 8).blk t).view.read (Elt Ideal) (R8 m c) := by
  show (cfg0.win 8).cut (grid0.coords t) ((dats m 0 c).after 8 t) = _
  rw [after0_8]
  unfold_out out0_8
  rw [View.canon_unit_zero hz]
  simp only [View.ld_unit_zero (S := S256x1536) hz, View.ld_unit_zero (S := S256x8) hz, View.ld_unit_zero (S := S8x1536) hz]
  funext j
  obtain ⟨r, q, rfl⟩ : ∃ (r : Fin 256) (q : Fin 1536), j = ix2 r q := ⟨j 0, j 1, eq_ix2 j⟩
  show k0_pay2 (k0_pay4 (iblk m c 0 t) (iblk m c 1 t)) (iblk m c 4 t) (ix2 r q) = R8 m c ((win0_8.rect t).emb (ix2 r q))
  rw [emb_eq8, mom2_apply, grad_eq, iblk4_apply]
  exact (ref_v _ _ _ _).symm

theorem final5 (c : Dev nD) : (dats m 0 c).arrAt 5 cfg0.N = R5 m c :=
  (dats m 0 c).arrAt_eq_of_cover 5 (R5 m c) (fun t _ => flushed5_eq m c t) (Pipeline.Window.Covers.cover _ (by decide +kernel) (Memref.isWhole_whole _))

theorem final6 (c : Dev nD) : (dats m 0 c).arrAt 6 cfg0.N = R6 m c :=
  (dats m 0 c).arrAt_eq_of_cover 6 (R6 m c) (fun t _ => flushed6_eq m c t) (Pipeline.Window.Covers.cover _ (by decide +kernel) (Memref.isWhole_whole _))

theorem final7 (c : Dev nD) : (dats m 0 c).arrAt 7 cfg0.N = R7 m c :=
  (dats m 0 c).arrAt_eq_of_cover 7 (R7 m c) (fun t _ => flushed7_eq m c t) (Pipeline.Window.Covers.cover _ (by decide +kernel) (Memref.isWhole_whole _))

theorem final8 (c : Dev nD) : (dats m 0 c).arrAt 8 cfg0.N = R8 m c :=
  (dats m 0 c).arrAt_eq_of_cover 8 (R8 m c) (fun t _ => flushed8_eq m c t) (Pipeline.Window.Covers.cover _ (by decide +kernel) (Memref.isWhole_whole _))

/-- The launch ends with the four results at the reference's values and the arguments unchanged. -/
theorem run : θ_run defs (onTc (τ := τ) (main (F := Ideal))) ⟨m, fun _ => 0, ρ⟩ fun r => ∀ c : Dev nD,
      r.2.mem ((c : Thread nD τ).loc main_v1_0) = R5 m c ∧ r.2.mem ((c : Thread nD τ).loc main_v1_1) = R6 m c
      ∧ r.2.mem ((c : Thread nD τ).loc main_v1_2) = R7 m c ∧ r.2.mem ((c : Thread nD τ).loc main_v1_3) = R8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    exact ⟨((h c).1 5).trans (final5 m c), ((h c).1 6).trans (final6 m c), ((h c).1 7).trans (final7 m c), ((h c).1 8).trans (final8 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)

end Cert.Kernel31Ideal.AdaUpdate

end
-- ==== Proof.AdaUpdateClaim.lean ====
/-
  The value claim about the modulation weight's gradient and its optimiser step.
-/
module

public import proofs.«01_k».proof.Defs
public import proofs.«01_k».proof.Proof.AdaUpdate

@[expose] public section

set_option maxRecDepth 16384

noncomputable section

open Idealize.ShloMosaic Idealize.ShloMosaic.TcCoe Idealize.SL.Sem

namespace Cert.AdaUpdateClaim

open Cert.Reference31Ideal.Read

open Cert.Kernel31Ideal.AdaUpdate

/-- The kernel and the reference end with equal results: the gradient, the step, and the two new moments. -/
theorem algebraic : Cert.algebraic_Kernel31Ideal_Reference31Ideal := by
  intro m ρ m' ρ' _ hagree
  refine ⟨R5 m, R6 m, R7 m, R8 m, ?_, ?_⟩
  · refine (θ_run _ _ _).mono (fun r h c => ?_) (run m ρ)
    obtain ⟨h0, h1, h2, h3, hargs⟩ := h c
    exact ⟨h0, h1, h2, h3, hargs⟩
  · refine (θ_run _ _ _).mono (fun r h c => ?_) (Cert.Reference31Ideal.Value.run (F := Ideal) m' ρ')
    obtain ⟨e0, e1, e2, e3, e4⟩ := hagree c
    obtain ⟨h0, h1, h2, h3, hargs⟩ := h c
    rw [val_main_v2_eq, e0, e1] at h0
    rw [val_main_v26_eq, e0, e1, e2, e3, e4] at h1
    rw [val_main_v7_eq, e0, e1, e3] at h2
    rw [val_main_v13_eq, e0, e1, e4] at h3
    exact ⟨h0, h1, h2, h3, hargs⟩

end Cert.AdaUpdateClaim

end
-- ==== Proof.NormMix.lean ====
/-
  The first normalisation with its modulation: the kernel's result array is the reference's, entry by entry.
-/
module

public import proofs.«01_k».proof.Proof.Gen.Kernel32Ideal.Value
public import proofs.«01_k».proof.Proof.Gen.Reference32Ideal.Read
public import proofs.«01_k».proof.Proof.Norms

@[expose] public section

set_option maxRecDepth 16384

noncomputable section

open Idealize.ShloMosaic Idealize.ShloMosaic.TcCoe Idealize.SL.Sem Idealize.ShloMosaic.ValueIdx

open Idealize.ShloMosaic.Pipeline (Dat)

namespace Cert.Kernel32Ideal.NormMix

open Cert.Kernel32Ideal Cert.Kernel32Ideal.Gen Cert.Products Cert.Norms Cert.Chunks

variable (m : (ℓ : Loc nD τ sig) → Buf (Elt Ideal) ℓ)

/-- The four arguments on device `c`: the rows, the gain, the scale and the shift. -/
abbrev A0 (c : Dev nD) : Vec Ideal S4096x2048 .f32 := m ((c : Thread nD τ).loc main_arg0)
abbrev A1 (c : Dev nD) : Vec Ideal S1x2048 .f32 := m ((c : Thread nD τ).loc main_arg1)
abbrev A2 (c : Dev nD) : Vec Ideal S1x2048 .f32 := m ((c : Thread nD τ).loc main_arg2)
abbrev A3 (c : Dev nD) : Vec Ideal S1x2048 .f32 := m ((c : Thread nD τ).loc main_arg3)

/-- How the windows move together. -/
theorem idx_facts : ∀ t : Fin cfg0.N,
    (win0_0.index t 0 = win0_4.index t 0 ∧ win0_0.index t 1 = 0) ∧ (win0_1.index t 0 = 0 ∧ win0_1.index t 1 = 0)
    ∧ (win0_2.index t 0 = 0 ∧ win0_2.index t 1 = 0) ∧ (win0_3.index t 0 = 0 ∧ win0_3.index t 1 = 0)
    ∧ (win0_4.index t 0 < 8 ∧ win0_4.index t 1 = 0) :=
  (by decide +kernel : ∀ t : Fin grid0.N, _)

/-- The row of the arrays that row `r` of point `t`'s block is. -/
def row (t : Fin cfg0.N) (r : Fin 512) : Fin 4096 :=
  ⟨win0_4.index t 0 * 512 + r.val, by have h := (idx_facts t).2.2.2.2.1; omega⟩

theorem iblk0_apply (c : Dev nD) (t : Fin cfg0.N) (r : Fin 512) (q : Fin 2048) :
    iblk m c 0 t (ix2 r q) = A0 m c (ix2 (row t r) q) := by
  show A0 m c ((win0_0.rect t).emb (ix2 r q)) = _
  refine congrArg _ (Shape.idx_ext₂ ?_ ?_)
  · rw [win0_0.rect_emb_val t, (idx_facts t).1.1]; rfl
  · rw [win0_0.rect_emb_val t, (idx_facts t).1.2]
    show 0 * 2048 + q.val = q.val
    omega

theorem iblk1_apply (c : Dev nD) (t : Fin cfg0.N) (q : Fin 2048) : iblk m c 1 t (ix2 0 q) = A1 m c (ix2 0 q) := by
  show A1 m c ((win0_1.rect t).emb (ix2 0 q)) = _
  refine congrArg _ (Shape.idx_ext₂ ?_ ?_)
  · rw [win0_1.rect_emb_val t, (idx_facts t).2.1.1]; rfl
  · rw [win0_1.rect_emb_val t, (idx_facts t).2.1.2]
    show 0 * 2048 + q.val = q.val
    omega

theorem iblk2_apply (c : Dev nD) (t : Fin cfg0.N) (q : Fin 2048) : iblk m c 2 t (ix2 0 q) = A2 m c (ix2 0 q) := by
  show A2 m c ((win0_2.rect t).emb (ix2 0 q)) = _
  refine congrArg _ (Shape.idx_ext₂ ?_ ?_)
  · rw [win0_2.rect_emb_val t, (idx_facts t).2.2.1.1]; rfl
  · rw [win0_2.rect_emb_val t, (idx_facts t).2.2.1.2]
    show 0 * 2048 + q.val = q.val
    omega

theorem iblk3_apply (c : Dev nD) (t : Fin cfg0.N) (q : Fin 2048) : iblk m c 3 t (ix2 0 q) = A3 m c (ix2 0 q) := by
  show A3 m c ((win0_3.rect t).emb (ix2 0 q)) = _
  refine congrArg _ (Shape.idx_ext₂ ?_ ?_)
  · rw [win0_3.rect_emb_val t, (idx_facts t).2.2.2.1.1]; rfl
  · rw [win0_3.rect_emb_val t, (idx_facts t).2.2.2.1.2]
    show 0 * 2048 + q.val = q.val
    omega

/-- The modulated normalisation of one entry `x` of a row `v`: gain `g`, scale `s`, shift `b`. -/
def modulated (v : Fin 2048 → EReal) (x g s b : EReal) : EReal :=
  plus (pr (pr (pr x (rs v)) g) (plus (Ideal.ofBits .f32 0x3F800000#32) s)) b

theorem pay1_apply (v : Vec Ideal S512x2048 .f32) (g s b : Vec Ideal S1x2048 .f32) (r : Fin 512) (q : Fin 2048) :
    k0_pay1 v g s b (ix2 r q)
      = modulated (fun k => v (ix2 r k)) (v (ix2 r q)) (g (ix2 0 q)) (s (ix2 0 q)) (b (ix2 0 q)) := by
  unfold modulated
  refine congrArg₂ plus (congrArg₂ pr (congrArg₂ pr (congrArg (pr (v (ix2 r q))) ?_) ?_) ?_) ?_
  · exact (spread _ _ r q).trans (kernel_rs v _ _ _ _ r)
  · exact broadcastTo_1b_ab_apply g _ r q
  · exact (broadcastTo_1b_ab_apply _ _ r q)
  · exact broadcastTo_1b_ab_apply b _ r q

open Cert.Reference32Ideal.Read in
/-- The reference's result at an entry. -/
theorem ref_apply (x0 : Vec Ideal S4096x2048 .f32) (x1 x2 x3 : Vec Ideal S1x2048 .f32) (r : Fin 4096) (q : Fin 2048) :
    val_main_v18 (F := Ideal) x0 x1 x2 x3 (ix2 r q)
      = modulated (fun k => x0 (ix2 r k)) (x0 (ix2 r q)) (x1 (ix2 0 q)) (x2 (ix2 0 q)) (x3 (ix2 0 q)) := by
  unfold modulated
  rw [val_main_v18_apply, val_main_v17_apply, val_main_v15_apply, val_main_v11_apply, val_main_v9_apply, val_main_v8_apply,
    val_main_v7_apply, val_main_v6_apply, val_main_v4_apply, val_main_v2_apply, val_main_v1_apply, val_main_v3_apply, val_main_v5_apply,
    val_main_v10_apply, val_main_v14_apply, val_main_v13_apply, val_main_v12_apply, val_main_v16_apply, val_main_cst_apply,
    val_main_cst_0_apply, val_main_cst_1_apply, val_main_cst_2_apply]
  refine congrArg₂ plus (congrArg₂ pr (congrArg₂ pr (congrArg (pr (x0 (ix2 r q))) ?_) ?_) ?_) ?_
  · refine congrArg (fun z => Ideal.rsqrt (plus (Ideal.div z (Ideal.ofBits .f32 0x45000000#32)) (Ideal.ofBits .f32 0x358637BD#32))) ?_
    refine ((congrArg (· + _) Ideal.ofBits_zero_f32).trans (zero_add _)).trans (Finset.sum_congr rfl fun k _ => ?_)
    rw [val_main_v0_apply]
    exact congrArg₂ pr (congrArg x0 (Shape.idx_ext₂ rfl rfl)) (congrArg x0 (Shape.idx_ext₂ rfl rfl))
  · exact congrArg x1 (Shape.idx_ext₂ rfl rfl)
  · exact congrArg (plus _) (congrArg x2 (Shape.idx_ext₂ rfl rfl))
  · exact congrArg x3 (Shape.idx_ext₂ rfl rfl)

/-- The reference's result on the arguments of device `c`. -/
abbrev R (c : Dev nD) : Vec Ideal S4096x2048 .bf16 :=
  Cert.Reference32Ideal.Read.val_main_v18 (F := Ideal) (A0 m c) (A1 m c) (A2 m c) (A3 m c)

theorem emb_eq (t : Fin cfg0.N) (r : Fin 512) (q : Fin 2048) : (win0_4.rect t).emb (ix2 r q) = ix2 (row t r) q := by
  refine Shape.idx_ext₂ (win0_4.rect_emb_val t _ 0) ((win0_4.rect_emb_val t _ 1).trans ?_)
  rw [(idx_facts t).2.2.2.2.2]
  show 0 * 2048 + q.val = q.val
  omega

/-- Each point writes back its rows of the reference's result. -/
theorem flushed_eq (c : Dev nD) (t : Fin cfg0.N) :
    (dats m 0 c).flushed 4 t = ((cfg0.win 4).blk t).view.read (Elt Ideal) (R m c) := by
  rw [Value.flushed4]
  unfold out0_4
  rw [View.canon_unit_zero hz]
  simp only [View.ld_unit_zero (S := S512x2048) hz, View.ld_unit_zero (S := S1x2048) hz]
  funext j
  obtain ⟨r, q, rfl⟩ : ∃ (r : Fin 512) (q : Fin 2048), j = ix2 r q := ⟨j 0, j 1, eq_ix2 j⟩
  show k0_pay1 (iblk m c 0 t) (iblk m c 1 t) (iblk m c 2 t) (iblk m c 3 t) (ix2 r q) = R m c ((win0_4.rect t).emb (ix2 r q))
  rw [emb_eq, pay1_apply, iblk0_apply, iblk1_apply, iblk2_apply, iblk3_apply]
  refine Eq.trans ?_ (ref_apply _ _ _ _ _ _).symm
  exact congrArg (fun f => modulated f _ _ _ _) (funext fun k => iblk0_apply m c t r k)

theorem final (c : Dev nD) : (dats m 0 c).arrAt 4 cfg0.N = R m c :=
  (dats m 0 c).arrAt_eq_of_cover 4 (R m c) (fun t _ => flushed_eq m c t) (Pipeline.Window.Covers.cover _ (by decide +kernel) (Memref.isWhole_whole _))

end Cert.Kernel32Ideal.NormMix

end
-- ==== Proof.NormMixClaim.lean ====
/-
  The value claim about the first normalisation with its modulation.
-/
module

public import proofs.«01_k».proof.Defs
public import proofs.«01_k».proof.Proof.NormMix

@[expose] public section

set_option maxRecDepth 16384

noncomputable section

open Idealize.ShloMosaic Idealize.ShloMosaic.TcCoe Idealize.SL.Sem

namespace Cert.NormMixClaim

open Cert.Kernel32Ideal.NormMix

/-- The kernel and the reference end with equal results. -/
theorem algebraic : Cert.algebraic_Kernel32Ideal_Reference32Ideal := by
  intro m ρ m' ρ' _ hagree
  refine ⟨R m, ?_, ?_⟩
  · refine (θ_run _ _ _).mono (fun r h c => ?_) (Cert.Kernel32Ideal.Value.run_blocks (F := Ideal) m ρ)
    exact ⟨(h c).1.trans (final m c), (h c).2⟩
  · refine (θ_run _ _ _).mono (fun r h c => ?_) (Cert.Reference32Ideal.Value.run (F := Ideal) m' ρ')
    obtain ⟨e0, e1, e2, e3⟩ := hagree c
    obtain ⟨h0, hargs⟩ := h c
    rw [Cert.Reference32Ideal.Read.val_main_v18_eq, e0, e1, e2, e3] at h0
    exact ⟨h0, hargs⟩

end Cert.NormMixClaim

end
-- ==== Proof.ConvFwd.lean ====
/-
  The short gated convolution: the kernel's result array is the reference's, entry by entry. The strips, the taps and the
  shifted product of two columns are those of the convolution's gradient.
-/
module

public import proofs.«01_k».proof.Proof.Gen.Kernel33Ideal.Value
public import proofs.«01_k».proof.Proof.Gen.Reference33Ideal.Read
public import proofs.«01_k».proof.Proof.ConvBwd

@[expose] public section

set_option maxRecDepth 16384

noncomputable section

open Idealize.ShloMosaic Idealize.ShloMosaic.TcCoe Idealize.ShloMosaic.Tactic Idealize.SL.Sem Idealize.ShloMosaic.ValueIdx
open Idealize.ShloMosaic.Pipeline (Dat)

namespace Cert.Kernel33Ideal.ConvFwd

open Cert.Kernel33Ideal Cert.Kernel33Ideal.Gen Cert.Reference33Ideal.Read
open Cert.Kernel3Ideal.Conv (up G5 rid own before pay11_apply strip_emb tapRow0 tapRow1 tapRow2 tapRow0_apply tapRow1_apply tapRow2_apply)
open Cert.Reference3Ideal.Conv (upA)

/-! ## The reference -/

section Ref
variable (x0 : S4096x11264.Idx → EReal) (x1 : S3x1024.Idx → EReal) (C : Fin 1024) (r : Fin 4096)

/-- The padded product. -/
theorem ref4 (n : Fin 4098) : val_main_v4 (F := Ideal) x0 (ix2 n C) = upA x0 C n.val := by
  unfold val_main_v4 upA
  by_cases h : 2 ≤ n.val
  · rw [dif_pos ⟨h, n.isLt⟩]
    refine (pad_apply_of_inside _ _ _ _ _ _ _ _ (ix2 (⟨n.val - 2, by omega⟩ : Fin 4096) C) fun a => ?_).trans ?_
    · match a with
      | ⟨0, _⟩ => show n.val = 2 + (n.val - 2) * 1; omega
      | ⟨1, _⟩ => show C.val = 0 + C.val * 1; omega
    · rw [val_main_v3_apply, val_main_v1_apply, val_main_v2_apply]
      exact congrArg₂ (· * ·) (congrArg x0 (Shape.idx_ext₂ rfl rfl)) (congrArg x0 (Shape.idx_ext₂ rfl rfl))
  · rw [dif_neg fun hh => h hh.1]
    refine (pad_apply_of_not_inside _ _ _ _ _ _ _ _ (0 : Fin 2) ?_).trans (sitofp_zero (φ := .f32))
    rintro ⟨h1, -, -⟩
    exact h h1

theorem ref7 : val_main_v7 (F := Ideal) x0 (ix2 r C) = upA x0 C r.val := by
  rw [val_main_v7_apply, show idx_main_v7 (ix2 r C) = ix2 (⟨r.val, by omega⟩ : Fin 4098) C from Shape.idx_ext₂ rfl rfl]
  exact ref4 x0 C _
theorem ref13 : val_main_v13 (F := Ideal) x0 (ix2 r C) = upA x0 C (r.val + 1) := by
  rw [val_main_v13_apply, show idx_main_v13 (ix2 r C) = ix2 (⟨r.val + 1, by omega⟩ : Fin 4098) C from Shape.idx_ext₂ (Nat.add_comm 1 r.val) rfl]
  exact ref4 x0 C _
theorem ref20 : val_main_v20 (F := Ideal) x0 (ix2 r C) = upA x0 C (r.val + 2) := by
  rw [val_main_v20_apply, show idx_main_v20 (ix2 r C) = ix2 (⟨r.val + 2, by omega⟩ : Fin 4098) C from Shape.idx_ext₂ (Nat.add_comm 2 r.val) rfl]
  exact ref4 x0 C _

theorem ref9 : val_main_v9 (F := Ideal) x1 (ix2 r C) = x1 (ix2 (0 : Fin 3) C) := by
  rw [val_main_v9_apply, val_main_v8_apply, val_main_v6_apply, val_main_v5_apply]
  exact congrArg x1 (Shape.idx_ext₂ rfl (Nat.mod_eq_of_lt C.isLt))
theorem ref15 : val_main_v15 (F := Ideal) x1 (ix2 r C) = x1 (ix2 (1 : Fin 3) C) := by
  rw [val_main_v15_apply, val_main_v14_apply, val_main_v12_apply, val_main_v11_apply]
  exact congrArg x1 (Shape.idx_ext₂ rfl (Nat.mod_eq_of_lt C.isLt))
theorem ref22 : val_main_v22 (F := Ideal) x1 (ix2 r C) = x1 (ix2 (2 : Fin 3) C) := by
  rw [val_main_v22_apply, val_main_v21_apply, val_main_v19_apply, val_main_v18_apply]
  exact congrArg x1 (Shape.idx_ext₂ rfl (Nat.mod_eq_of_lt C.isLt))

/-- The reference's result at an entry: the gate times the three taps over the shifted product. -/
theorem ref26 : val_main_v26 (F := Ideal) x0 x1 (ix2 r C)
    = x0 (ix2 r (⟨C.val, by omega⟩ : Fin 11264)) * (x1 (ix2 (0 : Fin 3) C) * upA x0 C r.val
      + x1 (ix2 (1 : Fin 3) C) * upA x0 C (r.val + 1) + x1 (ix2 (2 : Fin 3) C) * upA x0 C (r.val + 2)) := by
  have e : val_main_v0 (F := Ideal) x0 (ix2 r C) = x0 (ix2 r (⟨C.val, by omega⟩ : Fin 11264)) := by
    rw [val_main_v0_apply]; exact congrArg x0 (Shape.idx_ext₂ rfl rfl)
  rw [← ref7, ← ref13, ← ref20, ← ref9 x1 C r, ← ref15 x1 C r, ← ref22 x1 C r, ← e]
  rfl
end Ref

/-! ## One column block -/

section Block
variable (𝒱 : Variants) (c : Dev nD) (bd : Option 𝒱.V) (i : grid0.Coords) (a1 : Memref sig .tc .vmem S4096x128 .f32) (h1 : a1.IsWhole) (a2 : Memref sig .tc .vmem S4096x128 .f32) (h2 : a2.IsWhole) (a3 : Memref sig .tc .vmem S4096x128 .f32) (h3 : a3.IsWhole) (a4 : Memref sig .tc .vmem S3x128 .f32) (h4 : a4.IsWhole) (a5 : Memref sig .tc .vmem S4096x128 .bf16) (h5 : a5.IsWhole)
  (x0 x1 x2 : Vec Ideal S4096x128 .f32) (x3 : Vec Ideal S3x128 .f32) (v0 v1 v2 : Vec Ideal S1x128 .f32)

/-- What one trip stores. -/
theorem trip4 (k : Fin k0_t1_loop.trips) : (trip_k0_t1 (F := Ideal) 𝒱 c bd i a1 h1 a2 h2 a3 h3 a4 h4 a5 h5 v0 v1 v2 rid (h1.unread x0) (h2.unread x1) (h3.unread x2) k).1
    = [⟨Rect.unit (s := S4096x128) (k0_off1 k) S256x128.size (k0_off1_inb k),
      k0_pay1 (F := Ideal) v0 v1 v2 rid 0#32 1#32 k (own x1 k) (own x2 k) (before x1 k) (before x2 k) (own x0 k)⟩] := by
  unfold trip_k0_t1
  dsimp only
  sl_unfold_words
  simp only [View.readAt_eq_ld, h1.read_unread, h2.read_unread, h3.read_unread]
  rfl

/-- After any number of trips every piece stored is a strip of the gated convolution. -/
theorem pieces : ∀ n : ℕ, n ≤ k0_t1_loop.trips →
    ∀ p ∈ pb_k0_t1 (F := Ideal) 𝒱 c bd i a1 h1 a2 h2 a3 h3 a4 h4 a5 h5 v0 v1 v2 rid (h1.unread x0) (h2.unread x1) (h3.unread x2) n,
      ∀ x : p.1.shape.Idx, p.2 x = G5 x0 x1 x2 v0 v1 v2 (p.1.emb x)
  | 0, _ => fun p hp => absurd hp List.not_mem_nil
  | n + 1, h => fun p hp x => by
    rw [pb_k0_t1_succ (F := Ideal) 𝒱 c bd i a1 h1 a2 h2 a3 h3 a4 h4 a5 h5 v0 v1 v2 rid (h1.unread x0) (h2.unread x1) (h3.unread x2) ⟨n, h⟩] at hp
    rcases List.mem_append.mp hp with hp | hp
    · rw [tripL_k0_t1, trip4] at hp
      obtain rfl := List.mem_singleton.mp hp
      refine Eq.trans ?_ (congrArg (G5 x0 x1 x2 v0 v1 v2) (strip_emb ⟨n, h⟩ x)).symm
      refine (congrArg _ (eq_ix2 x)).trans ?_
      exact pay11_apply x1 x2 ⟨n, h⟩ (x 0) (x 1) x0 v0 v1 v2
    · exact pieces n (Nat.le_of_succ_le h) p hp x

/-- What the body leaves in the result's staging buffer. -/
theorem out4_eq : out0_A_4 (F := Ideal) c i a1 h1 a2 h2 a3 h3 a4 h4 a5 h5 x0 x1 x2 x3 = G5 x0 x1 x2 (tapRow0 x3) (tapRow1 x3) (tapRow2 x3) := by
  unfold out0_A_4
  rw [View.read_writes_eq_canon _ _ _ (cover0_A_4 c i a1 h1 a2 h2 a3 h3 a4 h4 a5 h5 x0 x1 x2 x3)]
  funext y
  refine View.canon_apply_of_pieces (G5 x0 x1 x2 (tapRow0 x3) (tapRow1 x3) (tapRow2 x3)) _ ?_ y (cover0_A_4 c i a1 h1 a2 h2 a3 h3 a4 h4 a5 h5 x0 x1 x2 x3 y)
  have h := pieces Variants.none c none i a1 h1 a2 h2 a3 h3 a4 h4 a5 h5 x0 x1 x2 (tapRow0 x3) (tapRow1 x3) (tapRow2 x3) _ (le_of_eq (rfl : Scf.trips 0#32 (Scalar.addi 0#32 16#32) 1#32 = k0_t1_loop.trips))
  unfold kernelRun0_A
  dsimp only
  sl_unfold_words
  simp only [View.readAt_eq_ld, h4.read_unread]
  unfold tapRow0 tapRow1 tapRow2 rid at h
  exact h
end Block

/-! ## The arrays -/

variable (m : (ℓ : Loc nD τ sig) → Buf (Elt Ideal) ℓ) (c : Dev nD) (t : Fin cfg0.N) (r : Fin 4096) (q : Fin 128)

/-- The projection and the taps on device `c`, and the reference's result on them. -/
abbrev A0 : Vec Ideal S4096x11264 .f32 := m ((c : Thread nD τ).loc main_arg0)
abbrev A1 : Vec Ideal S3x1024 .f32 := m ((c : Thread nD τ).loc main_arg1)
abbrev R4 : Vec Ideal S4096x1024 .bf16 := val_main_v26 (F := Ideal) (A0 m c) (A1 m c)

/-- The windows' block columns at point `t`. -/
theorem idx_facts : ∀ t : Fin cfg0.N, t.val < 8
    ∧ (win0_0.index t 0 = 0 ∧ win0_0.index t 1 = t.val) ∧ (win0_1.index t 0 = 0 ∧ win0_1.index t 1 = 8 + t.val)
    ∧ (win0_2.index t 0 = 0 ∧ win0_2.index t 1 = 16 + t.val) ∧ (win0_3.index t 0 = 0 ∧ win0_3.index t 1 = t.val)
    ∧ (win0_4.index t 0 = 0 ∧ win0_4.index t 1 = t.val) :=
  (by decide +kernel : ∀ t : Fin grid0.N, _)

/-- The column of the arrays that column `q` of point `t`'s block is. -/
def col : Fin 1024 := ⟨t.val * 128 + q.val, by have := (idx_facts t).1; omega⟩

theorem iblk0_apply : iblk m c 0 t (ix2 r q) = A0 m c (ix2 r (⟨(col t q).val, by omega⟩ : Fin 11264)) := by
  show A0 m c ((win0_0.rect t).emb (ix2 r q)) = _
  refine congrArg _ (Shape.idx_ext₂ ?_ ?_)
  · rw [win0_0.rect_emb_val t, (idx_facts t).2.1.1]; show 0 * 4096 + r.val = r.val; omega
  · rw [win0_0.rect_emb_val t, (idx_facts t).2.1.2]; rfl
theorem iblk1_apply : iblk m c 1 t (ix2 r q) = A0 m c (ix2 r (⟨1024 + (col t q).val, by omega⟩ : Fin 11264)) := by
  show A0 m c ((win0_1.rect t).emb (ix2 r q)) = _
  refine congrArg _ (Shape.idx_ext₂ ?_ ?_)
  · rw [win0_1.rect_emb_val t, (idx_facts t).2.2.1.1]; show 0 * 4096 + r.val = r.val; omega
  · rw [win0_1.rect_emb_val t, (idx_facts t).2.2.1.2]; show (8 + t.val) * 128 + q.val = 1024 + (t.val * 128 + q.val); omega
theorem iblk2_apply : iblk m c 2 t (ix2 r q) = A0 m c (ix2 r (⟨2048 + (col t q).val, by omega⟩ : Fin 11264)) := by
  show A0 m c ((win0_2.rect t).emb (ix2 r q)) = _
  refine congrArg _ (Shape.idx_ext₂ ?_ ?_)
  · rw [win0_2.rect_emb_val t, (idx_facts t).2.2.2.1.1]; show 0 * 4096 + r.val = r.val; omega
  · rw [win0_2.rect_emb_val t, (idx_facts t).2.2.2.1.2]; show (16 + t.val) * 128 + q.val = 2048 + (t.val * 128 + q.val); omega
theorem iblk3_apply (j : Fin 3) : iblk m c 3 t (ix2 j q) = A1 m c (ix2 j (col t q)) := by
  show A1 m c ((win0_3.rect t).emb (ix2 j q)) = _
  refine congrArg _ (Shape.idx_ext₂ ?_ ?_)
  · rw [win0_3.rect_emb_val t, (idx_facts t).2.2.2.2.1.1]; show 0 * 3 + j.val = j.val; omega
  · rw [win0_3.rect_emb_val t, (idx_facts t).2.2.2.2.1.2]; rfl

theorem up_eq (n : ℕ) : up (iblk m c 1 t) (iblk m c 2 t) q n = upA (A0 m c) (col t q) n := by
  unfold up upA
  by_cases h : 2 ≤ n ∧ n < 4098
  · rw [dif_pos h, dif_pos h]; exact congrArg₂ (· * ·) (iblk1_apply m c t _ q) (iblk2_apply m c t _ q)
  · rw [dif_neg h, dif_neg h]

theorem emb_eq : (win0_4.rect t).emb (ix2 r q) = ix2 r (col t q) := by
  refine Shape.idx_ext₂ ?_ ?_
  · rw [win0_4.rect_emb_val t, (idx_facts t).2.2.2.2.2.1]; show 0 * 4096 + r.val = r.val; omega
  · rw [win0_4.rect_emb_val t, (idx_facts t).2.2.2.2.2.2]; rfl

/-- Each point writes back its block of the reference's array. -/
theorem flushed_eq : (dats m 0 c).flushed 4 t = ((cfg0.win 4).blk t).view.read (Elt Ideal) (R4 m c) := by
  rw [Value.flushed4_A, out4_eq]
  funext j
  obtain ⟨r, q, rfl⟩ : ∃ (r : Fin 4096) (q : Fin 128), j = ix2 r q := ⟨j 0, j 1, eq_ix2 j⟩
  show G5 _ _ _ _ _ _ (ix2 r q) = R4 m c ((win0_4.rect t).emb (ix2 r q))
  rw [emb_eq]
  refine Eq.trans ?_ (ref26 _ _ _ _).symm
  rw [← iblk0_apply, ← up_eq, ← up_eq, ← up_eq, ← iblk3_apply, ← iblk3_apply, ← iblk3_apply,
    ← tapRow0_apply (iblk m c 3 t), ← tapRow1_apply (iblk m c 3 t), ← tapRow2_apply (iblk m c 3 t)]
  rfl

/-- The kernel's result array is the reference's. -/
theorem final4 : (dats m 0 c).arrAt 4 cfg0.N = R4 m c :=
  (dats m 0 c).arrAt_eq_of_cover 4 (R4 m c) (fun t _ => flushed_eq m c t) (Pipeline.Window.Covers.cover _ (by decide +kernel) (Memref.isWhole_whole _))

end Cert.Kernel33Ideal.ConvFwd

end
-- ==== Proof.ConvFwdClaim.lean ====
/-
  The value claim about the short gated convolution, from the kernel's run and the reference's.
-/
module

public import proofs.«01_k».proof.Defs
public import proofs.«01_k».proof.Proof.ConvFwd

@[expose] public section

set_option maxRecDepth 16384

noncomputable section

open Idealize.ShloMosaic Idealize.ShloMosaic.TcCoe Idealize.SL.Sem

namespace Cert.ConvFwdClaim

open Cert.Kernel33Ideal.ConvFwd

/-- The kernel and the reference end with equal results. -/
theorem algebraic : Cert.algebraic_Kernel33Ideal_Reference33Ideal := by
  intro m ρ m' ρ' _ hagree
  refine ⟨R4 m, ?_, ?_⟩
  · refine (θ_run _ _ _).mono (fun r h c => ?_) (Cert.Kernel33Ideal.Value.run_blocks (F := Ideal) m ρ)
    obtain ⟨h0, hargs⟩ := h c
    exact ⟨h0.trans (final4 m c), hargs⟩
  · refine (θ_run _ _ _).mono (fun r h c => ?_) (Cert.Reference33Ideal.Value.run (F := Ideal) m' ρ')
    obtain ⟨e0, e1⟩ := hagree c
    obtain ⟨h0, hargs⟩ := h c
    have k := h0.trans (Cert.Reference33Ideal.Read.val_main_v26_eq (F := Ideal) _ _)
    rw [e0, e1] at k
    exact ⟨k, hargs⟩

end Cert.ConvFwdClaim

end
-- ==== Proof.LossHead.lean ====
/-
  The loss head: the loss of one device's rows, the gradient in the rows, in the feed-forward's output and gate, and in the final norm's
  weight. A kernel keeps the three sums over eight blocks of rows; they are the reference's.
-/
module

public import proofs.«01_k».proof.Proof.Gen.Kernel34Ideal.Value
public import proofs.«01_k».proof.Proof.Gen.Reference34Ideal.Read
public import proofs.«01_k».proof.Proof.NormGrad

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel34Ideal.LossHead

open Cert.Reference34Ideal.Read

open Cert.Kernel34Ideal Cert.Kernel34Ideal.Gen Cert.Products Cert.Norms Cert.Finite Cert.NormGrad
open Cert.Chunks (plus)

variable (m : (ℓ : Loc nD τ sig) → Buf (Elt Ideal) ℓ)

/-- The five arguments on device `c`: the rows, the target, the norm's weight, the feed-forward's output, its gate. -/
abbrev A0 (c : Dev nD) : Vec Ideal S4096x2048 .f32 := m ((c : Thread nD τ).loc main_arg0)
abbrev A1 (c : Dev nD) : Vec Ideal S4096x2048 .f32 := m ((c : Thread nD τ).loc main_arg1)
abbrev A2 (c : Dev nD) : Vec Ideal S1x2048 .f32 := m ((c : Thread nD τ).loc main_arg2)
abbrev A3 (c : Dev nD) : Vec Ideal S4096x2048 .f32 := m ((c : Thread nD τ).loc main_arg3)
abbrev A4 (c : Dev nD) : Vec Ideal S1x2048 .f32 := m ((c : Thread nD τ).loc main_arg4)

/-- Every entry of the five arguments is a real number. -/
def AllReal (c : Dev nD) : Prop :=
  (∀ i, Real' (A0 m c i)) ∧ (∀ i, Real' (A1 m c i)) ∧ (∀ i, Real' (A2 m c i)) ∧ (∀ i, Real' (A3 m c i)) ∧ (∀ i, Real' (A4 m c i))

/-- Where each window stands at point `t`. -/
theorem idx_facts : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0)
    ∧ (win0_4.index t 0 = 0 ∧ win0_4.index t 1 = 0)
    ∧ (win0_5.index t 0 = t.val ∧ win0_5.index t 1 = 0)
    ∧ (win0_6.index t 0 = t.val ∧ win0_6.index t 1 = 0)
    ∧ (win0_7.index t 0 = 0 ∧ win0_7.index t 1 = 0)
    ∧ (win0_8.index t 0 = 0 ∧ win0_8.index t 1 = 0)
    ∧ (win0_9.index t 0 = 0 ∧ win0_9.index t 1 = 0) :=
  (by decide +kernel : ∀ t : Fin grid0.N, _)

theorem lt8 (t : Fin cfg0.N) : t.val < 8 := lt_of_lt_of_eq t.isLt (show cfg0.N = 8 from N_0)

/-- Row `r` of block `g`. -/
def row (g : ℕ) (hg : g < 8) (r : Fin 512) : Fin 4096 := ⟨g * 512 + r.val, by omega⟩

theorem iblk0_apply (c : Dev nD) (t : Fin cfg0.N) (r : Fin 512) (q : Fin 2048) :
    iblk m c 0 t (ix2 r q) = A0 m c (ix2 (row t.val (lt8 t) r) q) := by
  show A0 m c ((win0_0.rect t).emb (ix2 r q)) = _
  refine congrArg _ (Shape.idx_ext₂ ?_ ?_)
  · rw [win0_0.rect_emb_val t, (idx_facts t).1.1]; rfl
  · rw [win0_0.rect_emb_val t, (idx_facts t).1.2]
    show 0 * 2048 + q.val = q.val
    omega

theorem iblk1_apply (c : Dev nD) (t : Fin cfg0.N) (r : Fin 512) (q : Fin 2048) :
    iblk m c 1 t (ix2 r q) = A1 m c (ix2 (row t.val (lt8 t) r) q) := by
  show A1 m c ((win0_1.rect t).emb (ix2 r q)) = _
  refine congrArg _ (Shape.idx_ext₂ ?_ ?_)
  · rw [win0_1.rect_emb_val t, (idx_facts t).2.1.1]; rfl
  · rw [win0_1.rect_emb_val t, (idx_facts t).2.1.2]
    show 0 * 2048 + q.val = q.val
    omega

theorem iblk3_apply (c : Dev nD) (t : Fin cfg0.N) (r : Fin 512) (q : Fin 2048) :
    iblk m c 3 t (ix2 r q) = A3 m c (ix2 (row t.val (lt8 t) r) q) := by
  show A3 m c ((win0_3.rect t).emb (ix2 r q)) = _
  refine congrArg _ (Shape.idx_ext₂ ?_ ?_)
  · rw [win0_3.rect_emb_val t, (idx_facts t).2.2.2.1.1]; rfl
  · rw [win0_3.rect_emb_val t, (idx_facts t).2.2.2.1.2]
    show 0 * 2048 + q.val = q.val
    omega

theorem iblk2_apply (c : Dev nD) (t : Fin cfg0.N) (q : Fin 2048) : iblk m c 2 t (ix2 0 q) = A2 m c (ix2 0 q) := by
  show A2 m c ((win0_2.rect t).emb (ix2 0 q)) = _
  refine congrArg _ (Shape.idx_ext₂ ?_ ?_)
  · rw [win0_2.rect_emb_val t, (idx_facts t).2.2.1.1]; rfl
  · rw [win0_2.rect_emb_val t, (idx_facts t).2.2.1.2]
    show 0 * 2048 + q.val = q.val
    omega

theorem iblk4_apply (c : Dev nD) (t : Fin cfg0.N) (q : Fin 2048) : iblk m c 4 t (ix2 0 q) = A4 m c (ix2 0 q) := by
  show A4 m c ((win0_4.rect t).emb (ix2 0 q)) = _
  refine congrArg _ (Shape.idx_ext₂ ?_ ?_)
  · rw [win0_4.rect_emb_val t, (idx_facts t).2.2.2.2.1.1]; rfl
  · rw [win0_4.rect_emb_val t, (idx_facts t).2.2.2.2.1.2]
    show 0 * 2048 + q.val = q.val
    omega

/-! ## The body at an entry -/

/-- A row over its root mean square. -/
def hx (X : Fin 2048 → EReal) (q : Fin 2048) : EReal := pr (X q) (rs X)
/-- The difference from the target. -/
def er (X G T : Fin 2048 → EReal) (q : Fin 2048) : EReal := minus (pr (hx X q) (G q)) (T q)
/-- The gradient in the head's output as the kernel forms it. -/
def dyK (X G T : Fin 2048 → EReal) (q : Fin 2048) : EReal := pr (er X G T q) (Ideal.ofBits .f32 0x3A000000#32)
/-- The mean squared difference of a row. -/
def ls (X G T : Fin 2048 → EReal) : EReal :=
  Ideal.div (∑ k : Fin 2048, pr (er X G T k) (er X G T k)) (Ideal.ofBits .f32 0x45000000#32)
/-- The gradient in a row. -/
def dxK (X G T : Fin 2048 → EReal) (q : Fin 2048) : EReal := kern X (fun k => pr (dyK X G T k) (G k)) q

section Body

variable (x : Vec Ideal S512x2048 .f32) (g : Vec Ideal S1x2048 .f32) (t : Vec Ideal S512x2048 .f32)

/-- Row `r` of a block; the weight's row. -/
abbrev rw' (x : Vec Ideal S512x2048 .f32) (r : Fin 512) (k : Fin 2048) : EReal := x (ix2 r k)
abbrev r1 (g : Vec Ideal S1x2048 .f32) (k : Fin 2048) : EReal := g (ix2 0 k)

theorem pay9_apply (r : Fin 512) (q : Fin 2048) : k0_pay9 x (ix2 r q) = hx (rw' x r) q :=
  congrArg (pr _) ((spread _ _ r q).trans (kernel_rs x _ _ _ _ r))

theorem pay10_apply (r : Fin 512) (q : Fin 2048) : k0_pay10 x g t (ix2 r q) = er (rw' x r) (r1 g) (rw' t r) q :=
  congrArg (fun z => minus z (t (ix2 r q))) (congrArg₂ pr (pay9_apply x r q) (broadcastTo_1b_ab_apply _ _ _ _))

theorem pay12_apply (r : Fin 512) (q : Fin 2048) : k0_pay12 x g t (ix2 r q) = dyK (rw' x r) (r1 g) (rw' t r) q :=
  congrArg (fun z => pr z _) (pay10_apply x g t r q)

theorem pay2_apply (r : Fin 512) (q : Fin 2048) :
    k0_pay2 g (k0_pay8 x) (k0_pay9 x) (k0_pay12 x g t) (ix2 r q)
      = dxK (rw' x r) (r1 g) (rw' t r) q := by
  have hu : ∀ k : Fin 2048, mulf (F := Ideal) (k0_pay12 x g t) (broadcastTo S512x2048 g broadcasts_S1x2048_S512x2048) (ix2 r k)
      = pr (dyK (rw' x r) (r1 g) (rw' t r) k) (r1 g k) := fun k =>
    congrArg₂ pr (pay12_apply x g t r k) (broadcastTo_1b_ab_apply _ _ _ _)
  refine congrArg₂ pr ((spread _ _ r q).trans (kernel_rs x _ _ _ _ r)) (congrArg₂ minus (hu q)
    (congrArg₂ pr (pay9_apply x r q) ((spread _ _ r q).trans (congrArg (fun z => Ideal.div z (Ideal.ofBits .f32 0x45000000#32)) ?_))))
  refine (shapeCast_a_a1_apply _ _ _ _).trans ((row_sum _ _ _ _ _ r).trans (Finset.sum_congr rfl fun k _ => ?_))
  exact congrArg₂ pr (hu k) (pay9_apply x r k)

theorem pay3_apply (gt : Vec Ideal S1x2048 .f32) (r : Fin 512) (q : Fin 2048) :
    k0_pay3 g (k0_pay8 x) (k0_pay9 x) (k0_pay12 x g t) gt (ix2 r q)
      = pr (dxK (rw' x r) (r1 g) (rw' t r) q) (gt (ix2 0 q)) :=
  congrArg₂ pr (pay2_apply x g t r q) (broadcastTo_1b_ab_apply _ _ _ _)

theorem pay1_apply (o : Vec Ideal S1x2048 .f32) (q : Fin 2048) :
    k0_pay1 (k0_pay9 x) (k0_pay12 x g t) o (ix2 0 q)
      = plus (o (ix2 0 q)) (∑ k : Fin 512, pr (dyK (rw' x k) (r1 g) (rw' t k) q) (hx (rw' x k) q)) := by
  refine congrArg₂ plus (congrFun (shapeCast_self _ _) _) ((shapeCast_apply _ shapeCasts_S2048_S1x2048 (ix2 0 q) (ix1 q) ?_).trans
    ((col_sum _ _ _ _ _ q).trans (Finset.sum_congr rfl fun k _ => congrArg₂ pr (pay12_apply x g t k q) (pay9_apply x k q))))
  rewrite [Shape.rowMajor_val_one, Shape.rowMajor_val_two]
  show q.val = 0 * 2048 + q.val
  omega

theorem pay4_apply (o : Vec Ideal S1x2048 .f32) (ff : Vec Ideal S512x2048 .f32) (q : Fin 2048) :
    k0_pay4 g (k0_pay8 x) (k0_pay9 x) (k0_pay12 x g t) o ff (ix2 0 q)
      = plus (o (ix2 0 q)) (∑ k : Fin 512, pr (dxK (rw' x k) (r1 g) (rw' t k) q) (ff (ix2 k q))) := by
  refine congrArg₂ plus (congrFun (shapeCast_self _ _) _) ((shapeCast_apply _ shapeCasts_S2048_S1x2048 (ix2 0 q) (ix1 q) ?_).trans
    ((col_sum _ _ _ _ _ q).trans (Finset.sum_congr rfl fun k _ => congrArg (fun z => pr z _) (pay2_apply x g t k q))))
  rewrite [Shape.rowMajor_val_one, Shape.rowMajor_val_two]
  show q.val = 0 * 2048 + q.val
  omega

theorem one_size : ∀ b, S1.size b = 1 := by
  intro b
  fin_cases b
  rfl

/-- A sum over one row of 512 entries. -/
theorem sum_line (f : S1x512x1.Idx → EReal) : ∑ i : S1x512x1.Idx, f i = ∑ k : Fin 512, f (ix3 0 k 0) := by
  refine (Fintype.sum_equiv ⟨fun k : Fin 512 => (ix3 0 k 0 : S1x512x1.Idx), fun i => i 1, fun _ => rfl, fun i => funext fun a => ?_⟩
    (fun k => f (ix3 0 k 0)) f fun _ => rfl).symm
  match a with
  | ⟨0, _⟩ => exact Fin.ext (by have : (i 0).val < 1 := (i 0).isLt; show 0 = (i 0).val; omega)
  | ⟨1, _⟩ => rfl
  | ⟨2, _⟩ => exact Fin.ext (by have : (i 2).val < 1 := (i 2).isLt; show 0 = (i 2).val; omega)

/-- A sum over a vector's entries. -/
theorem sum_vec (f : (⟨1, ![4096]⟩ : Shape).Idx → EReal) : ∑ i, f i = ∑ k : Fin 4096, f (ix1 k) :=
  (Fintype.sum_equiv ⟨fun k : Fin 4096 => (ix1 k : (⟨1, ![4096]⟩ : Shape).Idx), fun i => i 0, fun _ => rfl, fun i => funext fun a => match a with
    | ⟨0, _⟩ => rfl⟩ (fun k => f (ix1 k)) f fun _ => rfl).symm

theorem total (v : FVec Ideal S1x512x1 .f32) (hφ : FKind.Formats .f32) (hacc : 0x00000000#32 = FKind.add.neutral .f32 hφ) :
    extractAt ![0, 0, 0] (shapeCast S1x1x1 (multiReduction .add [1, 2] S1 v 0x00000000#32 reduces_S1x512x1_S1 hφ hacc) shapeCasts_S1_S1x1x1)
      inpos_S1x1x1_p0_0_0 = ∑ k : Fin 512, v (ix3 0 k 0) :=
  (Ideal.multiReduction_add_total v 0x00000000#32 reduces_S1x512x1_S1 one_size hφ hacc _).trans (sum_line v)

theorem pay11_apply (o : Vec Ideal S1x128 .f32) (l : Fin 128) :
    k0_pay11 x g t o (ix2 0 l)
      = plus (o (ix2 0 l)) (pr (Ideal.ofBits .f32 0x3F000000#32) (∑ k : Fin 512, ls (rw' x k) (r1 g) (rw' t k))) := by
  refine congrArg₂ plus (congrFun (shapeCast_self _ _) _) (congrArg (pr _) ?_)
  refine (total _ _ _).trans (Finset.sum_congr rfl fun k _ => ?_)
  refine (shapeCast_ab_1ab_apply _ _ _ _ _).trans (congrArg (fun z => Ideal.div z (Ideal.ofBits .f32 0x45000000#32)) ?_)
  refine (shapeCast_a_a1_apply _ _ _ _).trans ((row_sum _ _ _ _ _ k).trans (Finset.sum_congr rfl fun j _ => ?_))
  exact congrArg₂ pr (pay10_apply x g t k j) (pay10_apply x g t k j)

end Body

/-! ## What the body leaves in each output's block -/

section Outs

variable (c : Dev nD) (i : grid0.Coords) (a1 : Memref sig .tc .vmem S512x2048 .f32) (h1 : a1.IsWhole) (a2 : Memref sig .tc .vmem S512x2048 .f32) (h2 : a2.IsWhole)
  (a3 : Memref sig .tc .vmem S1x2048 .f32) (h3 : a3.IsWhole) (a4 : Memref sig .tc .vmem S512x2048 .f32) (h4 : a4.IsWhole)
  (a5 : Memref sig .tc .vmem S1x2048 .f32) (h5 : a5.IsWhole) (a6 : Memref sig .tc .vmem S512x2048 .f32) (h6 : a6.IsWhole)
  (a7 : Memref sig .tc .vmem S512x2048 .bf16) (h7 : a7.IsWhole) (a8 : Memref sig .tc .vmem S1x128 .f32) (h8 : a8.IsWhole)
  (a9 : Memref sig .tc .vmem S1x2048 .f32) (h9 : a9.IsWhole) (a10 : Memref sig .tc .vmem S1x2048 .f32) (h10 : a10.IsWhole)
  (x0 x1 : Vec Ideal S512x2048 .f32) (x2 : Vec Ideal S1x2048 .f32) (x3 : Vec Ideal S512x2048 .f32) (x4 : Vec Ideal S1x2048 .f32)
  (o7 : Vec Ideal S1x128 .f32) (o8 o9 : Vec Ideal S1x2048 .f32)

theorem out_A (hc0 : cond0_0 i) :
    out0_A_5 c i a1 h1 a2 h2 a3 h3 a4 h4 a5 h5 a6 h6 a7 h7 a8 h8 a9 h9 a10 h10 hc0 x0 x1 x2 x3 x4 = k0_pay2 x2 (k0_pay8 x0) (k0_pay9 x0) (k0_pay12 x0 x2 x1)
    ∧ out0_A_6 c i a1 h1 a2 h2 a3 h3 a4 h4 a5 h5 a6 h6 a7 h7 a8 h8 a9 h9 a10 h10 hc0 x0 x1 x2 x3 x4 = k0_pay3 x2 (k0_pay8 x0) (k0_pay9 x0) (k0_pay12 x0 x2 x1) x4
    ∧ out0_A_7 c i a1 h1 a2 h2 a3 h3 a4 h4 a5 h5 a6 h6 a7 h7 a8 h8 a9 h9 a10 h10 hc0 x0 x1 x2 x3 x4 = k0_pay11 x0 x2 x1 (k0_pay5 (F := Ideal))
    ∧ out0_A_8 c i a1 h1 a2 h2 a3 h3 a4 h4 a5 h5 a6 h6 a7 h7 a8 h8 a9 h9 a10 h10 hc0 x0 x1 x2 x3 x4 = k0_pay4 x2 (k0_pay8 x0) (k0_pay9 x0) (k0_pay12 x0 x2 x1) (k0_pay6 (F := Ideal)) x3
    ∧ out0_A_9 c i a1 h1 a2 h2 a3 h3 a4 h4 a5 h5 a6 h6 a7 h7 a8 h8 a9 h9 a10 h10 hc0 x0 x1 x2 x3 x4 = k0_pay1 (k0_pay9 x0) (k0_pay12 x0 x2 x1) (k0_pay7 (F := Ideal)) := by
  unfold out0_A_5 out0_A_6 out0_A_7 out0_A_8 out0_A_9
  refine ⟨(View.read_writes_eq_canon _ _ _ fun _ => cover0_A_5 ..).trans ?_,
    (View.read_writes_eq_canon _ _ _ fun _ => cover0_A_6 ..).trans ?_,
    (View.read_writes_eq_canon _ _ _ fun _ => cover0_A_7 ..).trans ?_,
    (View.read_writes_eq_canon _ _ _ fun _ => cover0_A_8 ..).trans ?_,
    (View.read_writes_eq_canon _ _ _ fun _ => cover0_A_9 ..).trans ?_⟩
  all_goals
    unfold kernelRun0_A
    dsimp only
    rw [View.canon_cons_unit_zero hz]
    simp only [View.readAt_eq_ld, h1.read_unread, h2.read_unread, h3.read_unread, h4.read_unread, h5.read_unread, h8.read_unread, h9.read_unread, h10.read_unread, View.readCov_unit_zero (S := S1x2048) _ hz, View.readCov_unit_zero (S := S1x128) _ hz, View.ld_unit_zero (S := S512x2048) hz, View.ld_unit_zero (S := S1x2048) hz, View.ld_unit_zero (S := S1x128) hz,
      kernelRun0_A.sl.r, kernelRun0_A.sl.r_1, kernelRun0_A.sl.r_2, kernelRun0_A.sl.r_3, kernelRun0_A.sl.v19, kernelRun0_A.sl.H7_1, kernelRun0_A.sl.v61, kernelRun0_A.sl.H8_1, kernelRun0_A.sl.v36, kernelRun0_A.sl.H9_1]

theorem out_B (hc0 : ¬cond0_0 i) :
    out0_B_5 c i a1 h1 a2 h2 a3 h3 a4 h4 a5 h5 a6 h6 a7 h7 a8 h8 a9 h9 a10 h10 hc0 x0 x1 x2 x3 x4 o7 o8 o9 = k0_pay2 x2 (k0_pay8 x0) (k0_pay9 x0) (k0_pay12 x0 x2 x1)
    ∧ out0_B_6 c i a1 h1 a2 h2 a3 h3 a4 h4 a5 h5 a6 h6 a7 h7 a8 h8 a9 h9 a10 h10 hc0 x0 x1 x2 x3 x4 o7 o8 o9 = k0_pay3 x2 (k0_pay8 x0) (k0_pay9 x0) (k0_pay12 x0 x2 x1) x4
    ∧ out0_B_7 c i a1 h1 a2 h2 a3 h3 a4 h4 a5 h5 a6 h6 a7 h7 a8 h8 a9 h9 a10 h10 hc0 x0 x1 x2 x3 x4 o7 o8 o9 = k0_pay11 x0 x2 x1 o7
    ∧ out0_B_8 c i a1 h1 a2 h2 a3 h3 a4 h4 a5 h5 a6 h6 a7 h7 a8 h8 a9 h9 a10 h10 hc0 x0 x1 x2 x3 x4 o7 o8 o9 = k0_pay4 x2 (k0_pay8 x0) (k0_pay9 x0) (k0_pay12 x0 x2 x1) o8 x3
    ∧ out0_B_9 c i a1 h1 a2 h2 a3 h3 a4 h4 a5 h5 a6 h6 a7 h7 a8 h8 a9 h9 a10 h10 hc0 x0 x1 x2 x3 x4 o7 o8 o9 = k0_pay1 (k0_pay9 x0) (k0_pay12 x0 x2 x1) o9 := by
  unfold out0_B_5 out0_B_6 out0_B_7 out0_B_8 out0_B_9
  refine ⟨(View.read_writes_eq_canon _ _ _ fun _ => cover0_B_5 ..).trans ?_,
    (View.read_writes_eq_canon _ _ _ fun _ => cover0_B_6 ..).trans ?_,
    (View.read_writes_eq_canon _ _ _ fun _ => cover0_B_7 ..).trans ?_,
    (View.read_writes_eq_canon _ _ _ fun _ => cover0_B_8 ..).trans ?_,
    (View.read_writes_eq_canon _ _ _ fun _ => cover0_B_9 ..).trans ?_⟩
  all_goals
    unfold kernelRun0_B
    dsimp only
    rw [View.canon_cons_unit_zero hz]
    simp only [View.readAt_eq_ld, h1.read_unread, h2.read_unread, h3.read_unread, h4.read_unread, h5.read_unread, h8.read_unread, h9.read_unread, h10.read_unread, View.readCov_unit_zero (S := S1x2048) _ hz, View.readCov_unit_zero (S := S1x128) _ hz, View.ld_unit_zero (S := S512x2048) hz, View.ld_unit_zero (S := S1x2048) hz, View.ld_unit_zero (S := S1x128) hz,
      kernelRun0_B.sl.r, kernelRun0_B.sl.r_1, kernelRun0_B.sl.r_2, kernelRun0_B.sl.r_3]

end Outs

/-! ## What the blocks hold after each point -/

/-- What the outputs hold after the first point. -/
theorem outs_A (c : Dev nD) (t : Fin cfg0.N) (h0 : t.val % 8 = 0) :
    (outsAt0 m c t.val t.isLt).1 = k0_pay2 (iblk m c 2 t) (k0_pay8 (iblk m c 0 t)) (k0_pay9 (iblk m c 0 t)) (k0_pay12 (iblk m c 0 t) (iblk m c 2 t) (iblk m c 1 t))
    ∧ (outsAt0 m c t.val t.isLt).2.1 = k0_pay3 (iblk m c 2 t) (k0_pay8 (iblk m c 0 t)) (k0_pay9 (iblk m c 0 t)) (k0_pay12 (iblk m c 0 t) (iblk m c 2 t) (iblk m c 1 t)) (iblk m c 4 t)
    ∧ (outsAt0 m c t.val t.isLt).2.2.1 = k0_pay11 (iblk m c 0 t) (iblk m c 2 t) (iblk m c 1 t) (k0_pay5 (F := Ideal))
    ∧ (outsAt0 m c t.val t.isLt).2.2.2.1 = k0_pay4 (iblk m c 2 t) (k0_pay8 (iblk m c 0 t)) (k0_pay9 (iblk m c 0 t)) (k0_pay12 (iblk m c 0 t) (iblk m c 2 t) (iblk m c 1 t)) (k0_pay6 (F := Ideal)) (iblk m c 3 t)
    ∧ (outsAt0 m c t.val t.isLt).2.2.2.2 = k0_pay1 (k0_pay9 (iblk m c 0 t)) (k0_pay12 (iblk m c 0 t) (iblk m c 2 t) (iblk m c 1 t)) (k0_pay7 (F := Ideal)) := by
  rw [outsAt0_A m c t h0]
  dsimp only
  exact out_A ..

/-- … after a later point. -/
theorem outs_B (c : Dev nD) (t : Fin cfg0.N) (h0 : ¬t.val % 8 = 0) :
    (outsAt0 m c t.val t.isLt).1 = k0_pay2 (iblk m c 2 t) (k0_pay8 (iblk m c 0 t)) (k0_pay9 (iblk m c 0 t)) (k0_pay12 (iblk m c 0 t) (iblk m c 2 t) (iblk m c 1 t))
    ∧ (outsAt0 m c t.val t.isLt).2.1 = k0_pay3 (iblk m c 2 t) (k0_pay8 (iblk m c 0 t)) (k0_pay9 (iblk m c 0 t)) (k0_pay12 (iblk m c 0 t) (iblk m c 2 t) (iblk m c 1 t)) (iblk m c 4 t)
    ∧ (outsAt0 m c t.val t.isLt).2.2.1 = k0_pay11 (iblk m c 0 t) (iblk m c 2 t) (iblk m c 1 t) (outsAt0 m c (t.val - 1) (Nat.lt_of_le_of_lt (Nat.sub_le _ _) t.isLt)).2.2.1
    ∧ (outsAt0 m c t.val t.isLt).2.2.2.1 = k0_pay4 (iblk m c 2 t) (k0_pay8 (iblk m c 0 t)) (k0_pay9 (iblk m c 0 t)) (k0_pay12 (iblk m c 0 t) (iblk m c 2 t) (iblk m c 1 t)) (outsAt0 m c (t.val - 1) (Nat.lt_of_le_of_lt (Nat.sub_le _ _) t.isLt)).2.2.2.1 (iblk m c 3 t)
    ∧ (outsAt0 m c t.val t.isLt).2.2.2.2 = k0_pay1 (k0_pay9 (iblk m c 0 t)) (k0_pay12 (iblk m c 0 t) (iblk m c 2 t) (iblk m c 1 t)) (outsAt0 m c (t.val - 1) (Nat.lt_of_le_of_lt (Nat.sub_le _ _) t.isLt)).2.2.2.2 := by
  rw [outsAt0_B m c t h0]
  dsimp only
  exact out_B ..

theorem outs5 (c : Dev nD) (t : Fin cfg0.N) : (outsAt0 m c t.val t.isLt).1
    = k0_pay2 (iblk m c 2 t) (k0_pay8 (iblk m c 0 t)) (k0_pay9 (iblk m c 0 t)) (k0_pay12 (iblk m c 0 t) (iblk m c 2 t) (iblk m c 1 t)) := by
  by_cases h0 : t.val % 8 = 0
  · exact (outs_A m c t h0).1
  · exact (outs_B m c t h0).1

theorem outs6 (c : Dev nD) (t : Fin cfg0.N) : (outsAt0 m c t.val t.isLt).2.1
    = k0_pay3 (iblk m c 2 t) (k0_pay8 (iblk m c 0 t)) (k0_pay9 (iblk m c 0 t)) (k0_pay12 (iblk m c 0 t) (iblk m c 2 t) (iblk m c 1 t)) (iblk m c 4 t) := by
  by_cases h0 : t.val % 8 = 0
  · exact (outs_A m c t h0).2.1
  · exact (outs_B m c t h0).2.1

/-- Row `i` of the rows and of the target; the norm's weight. -/
abbrev X (c : Dev nD) (i : Fin 4096) (k : Fin 2048) : EReal := A0 m c (ix2 i k)
abbrev T (c : Dev nD) (i : Fin 4096) (k : Fin 2048) : EReal := A1 m c (ix2 i k)
abbrev G (c : Dev nD) (k : Fin 2048) : EReal := A2 m c (ix2 0 k)

theorem rowX (c : Dev nD) (t : Fin cfg0.N) (r : Fin 512) : rw' (iblk m c 0 t) r = X m c (row t.val (lt8 t) r) := funext fun k => iblk0_apply m c t r k
theorem rowT (c : Dev nD) (t : Fin cfg0.N) (r : Fin 512) : rw' (iblk m c 1 t) r = T m c (row t.val (lt8 t) r) := funext fun k => iblk1_apply m c t r k
theorem rowG (c : Dev nD) (t : Fin cfg0.N) : r1 (iblk m c 2 t) = G m c := funext fun k => iblk2_apply m c t k

theorem real_minus {a b : EReal} (ha : Real' a) (hb : Real' b) : Real' (minus a b) := by
  obtain ⟨r, rfl⟩ := ha
  obtain ⟨s, rfl⟩ := hb
  exact ⟨r - s, coe_minus r s⟩

theorem word_halfp : Ideal.ofBits .f32 0x3F000000#32 = ((1 / 2 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_part : Ideal.ofBits .f32 0x3A000000#32 = ((1 / 2048 : ℝ) : EReal) := by
  simp [Ideal.ofBits, Ideal.ieee, -EReal.coe_mul]; norm_num

variable {m}

theorem real_hx {c : Dev nD} (h : AllReal m c) (i : Fin 4096) (q : Fin 2048) : Real' (hx (X m c i) q) :=
  real_pr (h.1 _) (real_rs fun _ => h.1 _)

theorem real_er {c : Dev nD} (h : AllReal m c) (i : Fin 4096) (q : Fin 2048) : Real' (er (X m c i) (G m c) (T m c i) q) :=
  real_minus (real_pr (real_hx h i q) (h.2.2.1 _)) (h.2.1 _)

theorem real_u {c : Dev nD} (h : AllReal m c) (i : Fin 4096) (k : Fin 2048) : Real' (pr (dyK (X m c i) (G m c) (T m c i) k) (G m c k)) :=
  real_pr (real_pr (real_er h i k) ⟨_, word_part⟩) (h.2.2.1 _)

theorem real_ls {c : Dev nD} (h : AllReal m c) (i : Fin 4096) : Real' (ls (X m c i) (G m c) (T m c i)) := by
  obtain ⟨s, hs⟩ := real_sum (fun k : Fin 2048 => pr (er (X m c i) (G m c) (T m c i) k) (er (X m c i) (G m c) (T m c i) k))
    fun k => real_pr (real_er h i k) (real_er h i k)
  exact ⟨s / 2048, by unfold ls; rw [hs, word_width, coe_div _ _ (by norm_num)]⟩

variable (m)

theorem zero_word {S : Shape} (x : Vec Ideal S .f32) (h : ∀ e, x e = Ideal.ofBits .f32 0x00000000#32) (e : S.Idx) (f : ℕ → EReal) :
    x e = ∑ j ∈ Finset.range (512 * 0), f j := (h _).trans Ideal.ofBits_zero_f32

/-- The terms of the three sums: half a row's mean squared difference, the gradient in the gate, the gradient in the weight. -/
abbrev f7 (c : Dev nD) (i : Fin 4096) : EReal := pr (ls (X m c i) (G m c) (T m c i)) (Ideal.ofBits .f32 0x3F000000#32)
abbrev f8 (c : Dev nD) (q : Fin 2048) (i : Fin 4096) : EReal := pr (dxK (X m c i) (G m c) (T m c i) q) (A3 m c (ix2 i q))
abbrev f9 (c : Dev nD) (q : Fin 2048) (i : Fin 4096) : EReal := pr (dyK (X m c i) (G m c) (T m c i) q) (hx (X m c i) q)

theorem tot_row (f : Fin 4096 → EReal) (n : ℕ) (h : n < 8) (k : Fin 512) : f (row n h k) = tot f (512 * n + k.val) :=
  (tot_of f (row n h k)).symm.trans (congrArg (tot f) (show n * 512 + k.val = 512 * n + k.val by omega))

theorem block7 (c : Dev nD) (n : ℕ) (h : n < cfg0.N) (k : Fin 512) :
    pr (ls (rw' (iblk m c 0 ⟨n, h⟩) k) (r1 (iblk m c 2 ⟨n, h⟩)) (rw' (iblk m c 1 ⟨n, h⟩) k)) (Ideal.ofBits .f32 0x3F000000#32)
      = tot (f7 m c) (512 * n + k.val) := by
  rw [rowX, rowT, rowG]
  exact tot_row (f7 m c) n (lt8 ⟨n, h⟩) k

theorem block8 (c : Dev nD) (q : Fin 2048) (n : ℕ) (h : n < cfg0.N) (k : Fin 512) :
    pr (dxK (rw' (iblk m c 0 ⟨n, h⟩) k) (r1 (iblk m c 2 ⟨n, h⟩)) (rw' (iblk m c 1 ⟨n, h⟩) k) q) (iblk m c 3 ⟨n, h⟩ (ix2 k q))
      = tot (f8 m c q) (512 * n + k.val) := by
  rw [rowX, rowT, rowG, iblk3_apply]
  exact tot_row (f8 m c q) n (lt8 ⟨n, h⟩) k

theorem block9 (c : Dev nD) (q : Fin 2048) (n : ℕ) (h : n < cfg0.N) (k : Fin 512) :
    pr (dyK (rw' (iblk m c 0 ⟨n, h⟩) k) (r1 (iblk m c 2 ⟨n, h⟩)) (rw' (iblk m c 1 ⟨n, h⟩) k) q) (hx (rw' (iblk m c 0 ⟨n, h⟩) k) q)
      = tot (f9 m c q) (512 * n + k.val) := by
  rw [rowX, rowT, rowG]
  exact tot_row (f9 m c q) n (lt8 ⟨n, h⟩) k

/-- Half of a block's sum is the sum of the halves. -/
theorem half_block (c : Dev nD) (hr : AllReal m c) (n : ℕ) (h : n < cfg0.N) :
    pr (Ideal.ofBits .f32 0x3F000000#32) (∑ k : Fin 512, ls (rw' (iblk m c 0 ⟨n, h⟩) k) (r1 (iblk m c 2 ⟨n, h⟩)) (rw' (iblk m c 1 ⟨n, h⟩) k))
      = ∑ k : Fin 512, pr (ls (rw' (iblk m c 0 ⟨n, h⟩) k) (r1 (iblk m c 2 ⟨n, h⟩)) (rw' (iblk m c 1 ⟨n, h⟩) k)) (Ideal.ofBits .f32 0x3F000000#32) := by
  refine (mul_comm _ _).trans (sum_pr _ (fun k => ?_) ⟨_, word_halfp⟩)
  rw [rowX, rowT, rowG]
  exact real_ls hr _

theorem outs7 (c : Dev nD) (hr : AllReal m c) (l : Fin 128) : ∀ (n : ℕ) (h : n < cfg0.N),
    (outsAt0 m c n h).2.2.1 (ix2 0 l) = ∑ j ∈ Finset.range (512 * (n + 1)), tot (f7 m c) j
  | 0, h => by
    refine (congrFun (outs_A m c ⟨0, h⟩ rfl).2.2.1 (ix2 0 l)).trans ((pay11_apply _ _ _ _ l).trans ?_)
    refine (congrArg (plus _) (half_block m c hr 0 h)).trans ?_
    rw [zero_word (k0_pay5 (F := Ideal)) (fun _ => rfl) (ix2 0 l) (tot (f7 m c))]
    exact tot_step _ 0 _ (block7 m c 0 h)
  | n + 1, h => by
    have hN := lt8 ⟨n + 1, h⟩
    dsimp only at hN
    have ih := outs7 c hr l n (Nat.lt_of_succ_lt h)
    refine (congrFun (outs_B m c ⟨n + 1, h⟩ (by dsimp only; omega)).2.2.1 (ix2 0 l)).trans ((pay11_apply _ _ _ _ l).trans ?_)
    refine (congrArg (plus _) (half_block m c hr (n + 1) h)).trans ?_
    exact (congrArg (fun z => plus z _) ih).trans (tot_step _ (n + 1) _ (block7 m c (n + 1) h))

theorem last7 (c : Dev nD) (hr : AllReal m c) (l : Fin 128) (n : ℕ) (h : n < cfg0.N) (hn : n = 7) :
    (outsAt0 m c n h).2.2.1 (ix2 0 l) = ∑ i : Fin 4096, f7 m c i := by
  rw [outs7 m c hr l n h, show 512 * (n + 1) = 4096 by omega, tot_sum]

theorem outs8 (c : Dev nD) (q : Fin 2048) : ∀ (n : ℕ) (h : n < cfg0.N),
    (outsAt0 m c n h).2.2.2.1 (ix2 0 q) = ∑ j ∈ Finset.range (512 * (n + 1)), tot (f8 m c q) j
  | 0, h => by
    refine (congrFun (outs_A m c ⟨0, h⟩ rfl).2.2.2.1 (ix2 0 q)).trans ((pay4_apply _ _ _ _ _ q).trans ?_)
    rw [zero_word (k0_pay6 (F := Ideal)) (fun _ => rfl) (ix2 0 q) (tot (f8 m c q))]
    exact tot_step _ 0 _ (block8 m c q 0 h)
  | n + 1, h => by
    have hN := lt8 ⟨n + 1, h⟩
    dsimp only at hN
    have ih := outs8 c q n (Nat.lt_of_succ_lt h)
    refine (congrFun (outs_B m c ⟨n + 1, h⟩ (by dsimp only; omega)).2.2.2.1 (ix2 0 q)).trans ((pay4_apply _ _ _ _ _ q).trans ?_)
    exact (congrArg (fun z => plus z _) ih).trans (tot_step _ (n + 1) _ (block8 m c q (n + 1) h))

theorem last8 (c : Dev nD) (q : Fin 2048) (n : ℕ) (h : n < cfg0.N) (hn : n = 7) :
    (outsAt0 m c n h).2.2.2.1 (ix2 0 q) = ∑ i : Fin 4096, f8 m c q i := by
  rw [outs8 m c q n h, show 512 * (n + 1) = 4096 by omega, tot_sum]

theorem outs9 (c : Dev nD) (q : Fin 2048) : ∀ (n : ℕ) (h : n < cfg0.N),
    (outsAt0 m c n h).2.2.2.2 (ix2 0 q) = ∑ j ∈ Finset.range (512 * (n + 1)), tot (f9 m c q) j
  | 0, h => by
    refine (congrFun (outs_A m c ⟨0, h⟩ rfl).2.2.2.2 (ix2 0 q)).trans ((pay1_apply _ _ _ _ q).trans ?_)
    rw [zero_word (k0_pay7 (F := Ideal)) (fun _ => rfl) (ix2 0 q) (tot (f9 m c q))]
    exact tot_step _ 0 _ (block9 m c q 0 h)
  | n + 1, h => by
    have hN := lt8 ⟨n + 1, h⟩
    dsimp only at hN
    have ih := outs9 c q n (Nat.lt_of_succ_lt h)
    refine (congrFun (outs_B m c ⟨n + 1, h⟩ (by dsimp only; omega)).2.2.2.2 (ix2 0 q)).trans ((pay1_apply _ _ _ _ q).trans ?_)
    exact (congrArg (fun z => plus z _) ih).trans (tot_step _ (n + 1) _ (block9 m c q (n + 1) h))

theorem last9 (c : Dev nD) (q : Fin 2048) (n : ℕ) (h : n < cfg0.N) (hn : n = 7) :
    (outsAt0 m c n h).2.2.2.2 (ix2 0 q) = ∑ i : Fin 4096, f9 m c q i := by
  rw [outs9 m c q n h, show 512 * (n + 1) = 4096 by omega, tot_sum]

/-! ## The reference at an entry -/

/-- The gradient in the head's output as the chain rule forms it. -/
def dyR (e : EReal) : EReal :=
  pr (Ideal.div (pr (Ideal.ofBits .f32 0x3F000000#32) (Ideal.ofBits .f32 0x3F800000#32)) (Ideal.ofBits .f32 0x45000000#32))
    (pr (Ideal.ofBits .f32 0x40000000#32) e)

theorem dy_eq (e : EReal) : dyR e = pr e (Ideal.ofBits .f32 0x3A000000#32) := by
  unfold dyR
  refine (mul_assoc _ _ _).symm.trans ((congrArg (· * e) ?_).trans (mul_comm _ _))
  have h1 : Ideal.ofBits .f32 0x3F800000#32 = ((1 : ℝ) : EReal) := Ideal.ofBits_one_f32.trans EReal.coe_one.symm
  rw [word_halfp, h1, word_width, word_two, word_part, coe_pr, coe_div _ _ (by norm_num)]
  refine (coe_pr _ _).trans (congrArg _ ?_)
  norm_num

section Ref
open Cert.Reference34Ideal.Read

variable (x0 x1 : Vec Ideal S4096x2048 .f32) (x2 : Vec Ideal S1x2048 .f32) (x3 : Vec Ideal S4096x2048 .f32) (x4 : Vec Ideal S1x2048 .f32)

/-- Row `i` of an array; the weight's row. -/
abbrev rr (x : Vec Ideal S4096x2048 .f32) (i : Fin 4096) (k : Fin 2048) : EReal := x (ix2 i k)

theorem ref6 (e : Cert.Reference34Ideal.S4096x1.Idx) : val_main_v6 (F := Ideal) x0 e = ms (rr x0 (e 0)) := by
  rw [val_main_v6_apply, val_main_v4_apply, val_main_v2_apply, val_main_v1_apply, val_main_v3_apply, val_main_v5_apply]
  refine congrArg (fun z => plus (Ideal.div z (Ideal.ofBits .f32 0x45000000#32)) (Ideal.ofBits .f32 0x358637BD#32))
    ((congrArg (· + _) Ideal.ofBits_zero_f32).trans ((zero_add _).trans (Finset.sum_congr rfl fun k _ => ?_)))
  have e1 : idx_main_v1 (idx_main_v2 e) k = ix2 (e 0) k := Shape.idx_ext₂ rfl rfl
  exact congrArg₂ pr (congrArg x0 e1) (congrArg x0 e1)

theorem ref7 (e : Cert.Reference34Ideal.S4096x1.Idx) : val_main_v7 (F := Ideal) x0 e = rs (rr x0 (e 0)) :=
  (val_main_v7_apply x0 e).trans (congrArg Ideal.rsqrt (ref6 x0 e))

theorem ref12 (i : Fin 4096) (q : Fin 2048) : val_main_v12 (F := Ideal) x0 (ix2 i q) = hx (rr x0 i) q := by
  rw [val_main_v12_apply, val_main_v11_apply]
  exact congrArg (pr _) (ref7 x0 _)

theorem ref15 (i : Fin 4096) (q : Fin 2048) : val_main_v15 (F := Ideal) x0 x1 x2 (ix2 i q) = er (rr x0 i) (r1 x2) (rr x1 i) q := by
  rw [val_main_v15_apply, val_main_v14_apply, val_main_v13_apply]
  exact congrArg (fun z => minus z (x1 (ix2 i q))) (congrArg₂ pr (ref12 x0 i q) (congrArg x2 (Shape.idx_ext₂ rfl rfl)))

theorem ref29 (i : Fin 4096) (q : Fin 2048) : val_main_v29 (F := Ideal) x0 x1 x2 (ix2 i q) = dyK (rr x0 i) (r1 x2) (rr x1 i) q := by
  rw [val_main_v29_apply, val_main_v28_apply, val_main_v27_apply, val_main_v25_apply, val_main_v24_apply, val_main_v26_apply, val_main_v18_apply,
    val_main_v17_apply]
  refine Eq.trans ?_ (dy_eq (er (rr x0 i) (r1 x2) (rr x1 i) q))
  exact congrArg (pr _) (congrArg (pr _) (ref15 x0 x1 x2 i q))

/-- Row `i` of the gradient in the normalised row. -/
abbrev ru (i : Fin 4096) (k : Fin 2048) : EReal := pr (dyK (rr x0 i) (r1 x2) (rr x1 i) k) (r1 x2 k)

theorem ref34 (i : Fin 4096) (q : Fin 2048) : val_main_v34 (F := Ideal) x0 x1 x2 (ix2 i q) = ru x0 x1 x2 i q := by
  rw [val_main_v34_apply, val_main_v33_apply]
  exact congrArg₂ pr (ref29 x0 x1 x2 i q) (congrArg x2 (Shape.idx_ext₂ rfl rfl))

theorem ref44 (i : Fin 4096) (q : Fin 2048) : val_main_v44 (F := Ideal) x0 x1 x2 (ix2 i q) = slope (rr x0 i) (ru x0 x1 x2 i) := by
  rw [val_main_v44_apply, val_main_v43_apply]
  refine (congrArg (· + _) Ideal.ofBits_zero_f32).trans ((zero_add _).trans ((Fin.sum_univ_one _).trans ?_))
  rw [val_main_v42_apply, val_main_v40_apply, val_main_v37_apply, val_main_v36_apply, val_main_v41_apply, val_main_v10_apply,
    val_main_v9_apply, val_main_v8_apply]
  refine congrArg (fun z => Ideal.div z (Ideal.ofBits .f32 0x45000000#32)) (congrArg₂ pr ?_ (congrArg (pr _) (congrArg₂ Ideal.div (ref7 x0 _) (ref6 x0 _))))
  refine (congrArg (· + _) Ideal.ofBits_zero_f32).trans ((zero_add _).trans (Finset.sum_congr rfl fun k _ => ?_))
  rw [show idx_main_v36 (idx_main_v37 (idx_main_v43 (idx_main_v44 (ix2 i q)) 0)) k = ix2 i k from
    Shape.idx_ext₂ (by show i.val * 1 + 0 = i.val; omega) rfl, val_main_v35_apply]
  exact congrArg (pr _) (ref34 x0 x1 x2 i k)

theorem ref48 (i : Fin 4096) (q : Fin 2048) : val_main_v48 (F := Ideal) x0 x1 x2 (ix2 i q) = rule (rr x0 i) (ru x0 x1 x2 i) q := by
  rw [val_main_v48_apply, val_main_v46_apply, val_main_v39_apply, val_main_v45_apply, val_main_v47_apply, val_main_v38_apply]
  exact congrArg₂ plus (congrArg₂ plus (congrArg₂ pr (ref34 x0 x1 x2 i q) (ref7 x0 _)) (congrArg (pr _) (ref44 x0 x1 x2 i q)))
    (congrArg (fun z => pr z _) (ref44 x0 x1 x2 i q))

theorem ref57 (i : Fin 4096) (q : Fin 2048) : val_main_v57 (F := Ideal) x0 x1 x2 x4 (ix2 i q)
    = pr (rule (rr x0 i) (ru x0 x1 x2 i) q) (x4 (ix2 0 q)) := by
  rw [val_main_v57_apply, val_main_v53_apply, val_main_v52_apply]
  refine Eq.trans ?_ (mul_comm _ _)
  exact congrArg₂ pr (congrArg x4 (Shape.idx_ext₂ rfl rfl)) (ref48 x0 x1 x2 i q)

theorem ref56 (q : Fin 2048) : val_main_v56 (F := Ideal) x0 x1 x2 x3 (ix2 0 q)
    = ∑ i : Fin 4096, pr (rule (rr x0 i) (ru x0 x1 x2 i) q) (x3 (ix2 i q)) := by
  rw [val_main_v56_apply, val_main_v55_apply]
  refine (congrArg (· + _) Ideal.ofBits_zero_f32).trans ((zero_add _).trans (Finset.sum_congr rfl fun k _ => ?_))
  rw [show idx_main_v55 (idx_main_v56 (ix2 0 q)) k = ix2 k q from Shape.idx_ext₂ rfl (by show 0 * 2048 + q.val = q.val; omega),
    val_main_v54_apply]
  exact congrArg (fun z => pr z _) (ref48 x0 x1 x2 k q)

theorem ref32 (q : Fin 2048) : val_main_v32 (F := Ideal) x0 x1 x2 (ix2 0 q)
    = ∑ i : Fin 4096, pr (dyK (rr x0 i) (r1 x2) (rr x1 i) q) (hx (rr x0 i) q) := by
  rw [val_main_v32_apply, val_main_v31_apply]
  refine (congrArg (· + _) Ideal.ofBits_zero_f32).trans ((zero_add _).trans (Finset.sum_congr rfl fun k _ => ?_))
  rw [show idx_main_v31 (idx_main_v32 (ix2 0 q)) k = ix2 k q from Shape.idx_ext₂ rfl (by show 0 * 2048 + q.val = q.val; omega),
    val_main_v30_apply]
  exact (congrArg₂ pr (ref12 x0 k q) (ref29 x0 x1 x2 k q)).trans (mul_comm _ _)

theorem ref21 (i : Fin 4096) : val_main_v21 (F := Ideal) x0 x1 x2 (ix1 i) = ls (rr x0 i) (r1 x2) (rr x1 i) := by
  rw [val_main_v21_apply, val_main_v19_apply, val_main_v20_apply]
  refine congrArg (fun z => Ideal.div z (Ideal.ofBits .f32 0x45000000#32))
    ((congrArg (· + _) Ideal.ofBits_zero_f32).trans ((zero_add _).trans (Finset.sum_congr rfl fun k _ => ?_)))
  rw [show idx_main_v19 (ix1 i) k = ix2 i k from Shape.idx_ext₂ rfl rfl, val_main_v16_apply]
  exact congrArg₂ pr (ref15 x0 x1 x2 i k) (ref15 x0 x1 x2 i k)

theorem ref58 (l : Fin 128) : val_main_v58 (F := Ideal) x0 x1 x2 (ix2 0 l)
    = pr (∑ i : Fin 4096, ls (rr x0 i) (r1 x2) (rr x1 i)) (Ideal.ofBits .f32 0x3F000000#32) := by
  rw [val_main_v58_apply, val_main_v23_apply, val_main_v22_apply]
  refine Eq.trans (congrArg (pr (Ideal.ofBits .f32 0x3F000000#32)) ?_) (mul_comm _ _)
  refine (congrArg (· + _) Ideal.ofBits_zero_f32).trans ((zero_add _).trans ((sum_vec _).trans (Finset.sum_congr rfl fun i _ => ?_)))
  exact ref21 x0 x1 x2 i

end Ref

/-- The reference's five results on the arguments of device `c`. -/
abbrev R5 (c : Dev nD) : Vec Ideal S4096x2048 .f32 := val_main_v48 (F := Ideal) (A0 m c) (A1 m c) (A2 m c)
abbrev R6 (c : Dev nD) : Vec Ideal S4096x2048 .bf16 := val_main_v57 (F := Ideal) (A0 m c) (A1 m c) (A2 m c) (A4 m c)
abbrev R7 (c : Dev nD) : Vec Ideal S1x128 .f32 := val_main_v58 (F := Ideal) (A0 m c) (A1 m c) (A2 m c)
abbrev R8 (c : Dev nD) : Vec Ideal S1x2048 .f32 := val_main_v56 (F := Ideal) (A0 m c) (A1 m c) (A2 m c) (A3 m c)
abbrev R9 (c : Dev nD) : Vec Ideal S1x2048 .f32 := val_main_v32 (F := Ideal) (A0 m c) (A1 m c) (A2 m c)

variable {m} in
theorem dx_eq {c : Dev nD} (h : AllReal m c) (i : Fin 4096) (q : Fin 2048) :
    dxK (X m c i) (G m c) (T m c i) q = rule (rr (A0 m c) i) (ru (A0 m c) (A1 m c) (A2 m c) i) q :=
  kern_eq (fun _ => h.1 _) (real_u h i) q

theorem emb5 (t : Fin cfg0.N) (r : Fin 512) (q : Fin 2048) : (win0_5.rect t).emb (ix2 r q) = ix2 (row t.val (lt8 t) r) q := by
  refine Shape.idx_ext₂ ?_ ?_
  · rw [win0_5.rect_emb_val t, (idx_facts t).2.2.2.2.2.1.1]; rfl
  · rw [win0_5.rect_emb_val t, (idx_facts t).2.2.2.2.2.1.2]
    show 0 * 2048 + q.val = q.val
    omega

theorem flushed5_eq (c : Dev nD) (h : AllReal m c) (t : Fin cfg0.N) (_hf : (cfg0.win 5).flush t = true) :
    (dats m 0 c).flushed 5 t = ((cfg0.win 5).blk t).view.read (Elt Ideal) (R5 m c) := by
  rw [Value.flushed5]
  funext e
  obtain ⟨r, q, rfl⟩ : ∃ (r : Fin 512) (q : Fin 2048), e = ix2 r q := ⟨e 0, e 1, eq_ix2 e⟩
  show (outsAt0 m c t.val t.isLt).1 (ix2 r q) = R5 m c ((win0_5.rect t).emb (ix2 r q))
  rw [emb5 t, outs5 m c t]
  refine (pay2_apply _ _ _ r q).trans (Eq.trans ?_ (ref48 (A0 m c) (A1 m c) (A2 m c) _ q).symm)
  rw [rowX, rowT, rowG]
  exact dx_eq h _ q

/-- The gradient in the rows. -/
theorem final5 (c : Dev nD) (h : AllReal m c) : (dats m 0 c).arrAt 5 cfg0.N = R5 m c :=
  (dats m 0 c).arrAt_eq_of_cover 5 (R5 m c) (flushed5_eq m c h) (Pipeline.Window.Covers.cover _ (by decide +kernel) (Memref.isWhole_whole _))

theorem emb6 (t : Fin cfg0.N) (r : Fin 512) (q : Fin 2048) : (win0_6.rect t).emb (ix2 r q) = ix2 (row t.val (lt8 t) r) q := by
  refine Shape.idx_ext₂ ?_ ?_
  · rw [win0_6.rect_emb_val t, (idx_facts t).2.2.2.2.2.2.1.1]; rfl
  · rw [win0_6.rect_emb_val t, (idx_facts t).2.2.2.2.2.2.1.2]
    show 0 * 2048 + q.val = q.val
    omega

theorem flushed6_eq (c : Dev nD) (h : AllReal m c) (t : Fin cfg0.N) (_hf : (cfg0.win 6).flush t = true) :
    (dats m 0 c).flushed 6 t = ((cfg0.win 6).blk t).view.read (Elt Ideal) (R6 m c) := by
  rw [Value.flushed6]
  funext e
  obtain ⟨r, q, rfl⟩ : ∃ (r : Fin 512) (q : Fin 2048), e = ix2 r q := ⟨e 0, e 1, eq_ix2 e⟩
  show (outsAt0 m c t.val t.isLt).2.1 (ix2 r q) = R6 m c ((win0_6.rect t).emb (ix2 r q))
  rw [emb6 t, outs6 m c t]
  refine (pay3_apply _ _ _ _ r q).trans (Eq.trans ?_ (ref57 (A0 m c) (A1 m c) (A2 m c) (A4 m c) _ q).symm)
  rw [rowX, rowT, rowG, iblk4_apply]
  exact congrArg (fun z => pr z _) (dx_eq h _ q)

/-- The gradient in the feed-forward's output. -/
theorem final6 (c : Dev nD) (h : AllReal m c) : (dats m 0 c).arrAt 6 cfg0.N = R6 m c :=
  (dats m 0 c).arrAt_eq_of_cover 6 (R6 m c) (flushed6_eq m c h) (Pipeline.Window.Covers.cover _ (by decide +kernel) (Memref.isWhole_whole _))

theorem emb7 (t : Fin cfg0.N) (l : Fin 128) : (win0_7.rect t).emb (ix2 0 l) = ix2 0 l := by
  refine Shape.idx_ext₂ ?_ ?_
  · rw [win0_7.rect_emb_val t, (idx_facts t).2.2.2.2.2.2.2.1.1]; rfl
  · rw [win0_7.rect_emb_val t, (idx_facts t).2.2.2.2.2.2.2.1.2]
    show 0 * 128 + l.val = l.val
    omega

theorem flushed7_eq (c : Dev nD) (h : AllReal m c) (t : Fin cfg0.N) (hf : (cfg0.win 7).flush t = true) :
    (dats m 0 c).flushed 7 t = ((cfg0.win 7).blk t).view.read (Elt Ideal) (R7 m c) := by
  have h7 : t.val = 7 := by
    have := (flush0_7 t).mp hf
    have := lt8 t
    omega
  rw [Value.flushed7]
  funext e
  obtain ⟨l, rfl⟩ : ∃ l : Fin 128, e = ix2 0 l := ⟨e 1, (eq_ix2 e).trans (Shape.idx_ext₂ (by have : (e 0).val < 1 := (e 0).isLt; show (e 0).val = 0; omega) rfl)⟩
  show (outsAt0 m c t.val t.isLt).2.2.1 (ix2 0 l) = R7 m c ((win0_7.rect t).emb (ix2 0 l))
  rw [emb7 t]
  refine (last7 m c h l _ t.isLt h7).trans (Eq.trans ?_ (ref58 (A0 m c) (A1 m c) (A2 m c) l).symm)
  exact (sum_pr _ (fun i => real_ls h i) ⟨_, word_halfp⟩).symm

/-- The loss of the device's rows, in every lane. -/
theorem final7 (c : Dev nD) (h : AllReal m c) : (dats m 0 c).arrAt 7 cfg0.N = R7 m c :=
  (dats m 0 c).arrAt_eq_of_cover 7 (R7 m c) (flushed7_eq m c h) (Pipeline.Window.Covers.cover _ (by decide +kernel) (Memref.isWhole_whole _))

theorem emb8 (t : Fin cfg0.N) (q : Fin 2048) : (win0_8.rect t).emb (ix2 0 q) = ix2 0 q := by
  refine Shape.idx_ext₂ ?_ ?_
  · rw [win0_8.rect_emb_val t, (idx_facts t).2.2.2.2.2.2.2.2.1.1]; rfl
  · rw [win0_8.rect_emb_val t, (idx_facts t).2.2.2.2.2.2.2.2.1.2]
    show 0 * 2048 + q.val = q.val
    omega

theorem flushed8_eq (c : Dev nD) (h : AllReal m c) (t : Fin cfg0.N) (hf : (cfg0.win 8).flush t = true) :
    (dats m 0 c).flushed 8 t = ((cfg0.win 8).blk t).view.read (Elt Ideal) (R8 m c) := by
  have h7 : t.val = 7 := by
    have := (flush0_8 t).mp hf
    have := lt8 t
    omega
  rw [Value.flushed8]
  funext e
  obtain ⟨q, rfl⟩ : ∃ q : Fin 2048, e = ix2 0 q := ⟨e 1, (eq_ix2 e).trans (Shape.idx_ext₂ (by have : (e 0).val < 1 := (e 0).isLt; show (e 0).val = 0; omega) rfl)⟩
  show (outsAt0 m c t.val t.isLt).2.2.2.1 (ix2 0 q) = R8 m c ((win0_8.rect t).emb (ix2 0 q))
  rw [emb8 t]
  refine (last8 m c q _ t.isLt h7).trans (Eq.trans ?_ (ref56 (A0 m c) (A1 m c) (A2 m c) (A3 m c) q).symm)
  exact Finset.sum_congr rfl fun i _ => congrArg (fun z => pr z _) (dx_eq h i q)

/-- The gradient in the feed-forward's gate. -/
theorem final8 (c : Dev nD) (h : AllReal m c) : (dats m 0 c).arrAt 8 cfg0.N = R8 m c :=
  (dats m 0 c).arrAt_eq_of_cover 8 (R8 m c) (flushed8_eq m c h) (Pipeline.Window.Covers.cover _ (by decide +kernel) (Memref.isWhole_whole _))

theorem emb9 (t : Fin cfg0.N) (q : Fin 2048) : (win0_9.rect t).emb (ix2 0 q) = ix2 0 q := by
  refine Shape.idx_ext₂ ?_ ?_
  · rw [win0_9.rect_emb_val t, (idx_facts t).2.2.2.2.2.2.2.2.2.1]; rfl
  · rw [win0_9.rect_emb_val t, (idx_facts t).2.2.2.2.2.2.2.2.2.2]
    show 0 * 2048 + q.val = q.val
    omega

theorem flushed9_eq (c : Dev nD) (t : Fin cfg0.N) (hf : (cfg0.win 9).flush t = true) :
    (dats m 0 c).flushed 9 t = ((cfg0.win 9).blk t).view.read (Elt Ideal) (R9 m c) := by
  have h7 : t.val = 7 := by
    have := (flush0_9 t).mp hf
    have := lt8 t
    omega
  rw [Value.flushed9]
  funext e
  obtain ⟨q, rfl⟩ : ∃ q : Fin 2048, e = ix2 0 q := ⟨e 1, (eq_ix2 e).trans (Shape.idx_ext₂ (by have : (e 0).val < 1 := (e 0).isLt; show (e 0).val = 0; omega) rfl)⟩
  show (outsAt0 m c t.val t.isLt).2.2.2.2 (ix2 0 q) = R9 m c ((win0_9.rect t).emb (ix2 0 q))
  rw [emb9 t]
  exact (last9 m c q _ t.isLt h7).trans (ref32 (A0 m c) (A1 m c) (A2 m c) q).symm

/-- The gradient in the final norm's weight. -/
theorem final9 (c : Dev nD) : (dats m 0 c).arrAt 9 cfg0.N = R9 m c :=
  (dats m 0 c).arrAt_eq_of_cover 9 (R9 m c) (flushed9_eq m c) (Pipeline.Window.Covers.cover _ (by decide +kernel) (Memref.isWhole_whole _))

end Cert.Kernel34Ideal.LossHead

end
-- ==== Proof.LossHeadClaim.lean ====
/-
  The value claim about the loss head of one device's rows.
-/
module

public import proofs.«01_k».proof.Defs
public import proofs.«01_k».proof.Proof.Gen.Pre_finite34
public import proofs.«01_k».proof.Proof.LossHead

@[expose] public section

set_option maxRecDepth 16384

noncomputable section

open Idealize.ShloMosaic Idealize.ShloMosaic.TcCoe Idealize.SL.Sem

namespace Cert.LossHeadClaim

open Cert.Reference34Ideal.Read

open Cert.Kernel34Ideal.LossHead Cert.Finite

/-- The stated precondition says that every entry of every argument is a real number. -/
theorem allReal (m : (ℓ : Loc Cert.Kernel34Ideal.nD Cert.Kernel34Ideal.τ Cert.Kernel34Ideal.sig) → Buf (Elt Ideal) ℓ)
    (h : Cert.Pre_Kernel34Ideal_finite34 m) (c : Dev Cert.Kernel34Ideal.nD) : AllReal m c := by
  obtain ⟨h0, h1, h2, h3, h4⟩ := h c
  exact ⟨fun i => real_of_mask (congrFun h0 i), fun i => real_of_mask (congrFun h1 i), fun i => real_of_mask (congrFun h2 i),
    fun i => real_of_mask (congrFun h3 i), fun i => real_of_mask (congrFun h4 i)⟩

/-- On real arguments the kernel and the reference end with equal results: the gradients in the rows and in the feed-forward's output, the
    loss, and the gradients in the gate and in the norm's weight. -/
theorem algebraic : Cert.algebraic_Kernel34Ideal_Reference34Ideal_pre_finite34 := by
  intro m ρ m' ρ' hpre hagree
  refine ⟨R5 m, R6 m, R7 m, R8 m, R9 m, ?_, ?_⟩
  · refine (θ_run _ _ _).mono (fun r h c => ?_) (Cert.Kernel34Ideal.Value.run_blocks (F := Ideal) m ρ)
    obtain ⟨h5, h6, h7, h8, h9, hargs⟩ := h c
    have hr := allReal m hpre c
    exact ⟨h5.trans (final5 m c hr), h6.trans (final6 m c hr), h7.trans (final7 m c hr), h8.trans (final8 m c hr), h9.trans (final9 m c), hargs⟩
  · refine (θ_run _ _ _).mono (fun r h c => ?_) (Cert.Reference34Ideal.Value.run (F := Ideal) m' ρ')
    obtain ⟨e0, e1, e2, e3, e4⟩ := hagree c
    obtain ⟨h0, h1, h2, h3, h4, hargs⟩ := h c
    rw [val_main_v48_eq, e0, e1, e2] at h0
    rw [val_main_v57_eq, e0, e1, e2, e4] at h1
    have k2 := h2.trans (val_main_v58_eq (F := Ideal) _ _ _)
    rw [e0, e1, e2] at k2
    rw [val_main_v56_eq, e0, e1, e2, e3] at h3
    have k4 := h4.trans (val_main_v32_eq (F := Ideal) _ _ _)
    rw [e0, e1, e2] at k4
    exact ⟨h0, h1, k2, h3, k4, hargs⟩

end Cert.LossHeadClaim

end
-- ==== Proof.NormFfnBwd.lean ====
/-
  The gradient of the second norm and its modulation, with that of the gated residual before it: the row gradients, the gated
  gradients and the four column sums a kernel keeps over eight blocks of rows are the reference's.
-/
module

public import proofs.«01_k».proof.Proof.Gen.Kernel35Ideal.Value
public import proofs.«01_k».proof.Proof.Gen.Reference35Ideal.Read
public import proofs.«01_k».proof.Proof.NormGrad

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel35Ideal.FfnBwd

open Cert.Reference35Ideal.Read

open Cert.Kernel35Ideal Cert.Kernel35Ideal.Gen Cert.Products Cert.Norms Cert.Finite Cert.NormGrad
open Cert.Chunks (plus)

variable (m : (ℓ : Loc nD τ sig) → Buf (Elt Ideal) ℓ)

/-- The seven arguments on device `c`: the incoming gradient, the rows, the norm's weight, the scale, the gradient that is added, the
    mixer's output and its gate. -/
abbrev A0 (c : Dev nD) : Vec Ideal S4096x2048 .f32 := m ((c : Thread nD τ).loc main_arg0)
abbrev A1 (c : Dev nD) : Vec Ideal S4096x2048 .f32 := m ((c : Thread nD τ).loc main_arg1)
abbrev A2 (c : Dev nD) : Vec Ideal S1x2048 .f32 := m ((c : Thread nD τ).loc main_arg2)
abbrev A3 (c : Dev nD) : Vec Ideal S1x2048 .f32 := m ((c : Thread nD τ).loc main_arg3)
abbrev A4 (c : Dev nD) : Vec Ideal S4096x2048 .f32 := m ((c : Thread nD τ).loc main_arg4)
abbrev A5 (c : Dev nD) : Vec Ideal S4096x2048 .f32 := m ((c : Thread nD τ).loc main_arg5)
abbrev A6 (c : Dev nD) : Vec Ideal S1x2048 .f32 := m ((c : Thread nD τ).loc main_arg6)

/-- Every entry of the five arguments of the norm's gradient is a real number. -/
def AllReal (c : Dev nD) : Prop :=
  (∀ i, Real' (A0 m c i)) ∧ (∀ i, Real' (A1 m c i)) ∧ (∀ i, Real' (A2 m c i)) ∧ (∀ i, Real' (A3 m c i)) ∧ (∀ i, Real' (A4 m c i))

/-- Where each window stands at point `t`. -/
theorem idx_facts : ∀ t : Fin cfg0.N,
    (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = 0 ∧ win0_3.index t 1 = 0)
    ∧ (win0_4.index t 0 = t.val ∧ win0_4.index t 1 = 0)
    ∧ (win0_5.index t 0 = t.val ∧ win0_5.index t 1 = 0)
    ∧ (win0_6.index t 0 = 0 ∧ win0_6.index t 1 = 0)
    ∧ (win0_7.index t 0 = t.val ∧ win0_7.index t 1 = 0)
    ∧ (win0_8.index t 0 = 0 ∧ win0_8.index t 1 = 0)
    ∧ (win0_9.index t 0 = 0 ∧ win0_9.index t 1 = 0)
    ∧ (win0_10.index t 0 = 0 ∧ win0_10.index t 1 = 0)
    ∧ (win0_11.index t 0 = t.val ∧ win0_11.index t 1 = 0)
    ∧ (win0_12.index t 0 = 0 ∧ win0_12.index t 1 = 0) :=
  (by decide +kernel : ∀ t : Fin grid0.N, _)

theorem lt8 (t : Fin cfg0.N) : t.val < 8 := lt_of_lt_of_eq t.isLt (show cfg0.N = 8 from N_0)

/-- Row `r` of block `g`. -/
def row (g : ℕ) (hg : g < 8) (r : Fin 512) : Fin 4096 := ⟨g * 512 + r.val, by omega⟩

theorem iblk0_apply (c : Dev nD) (t : Fin cfg0.N) (r : Fin 512) (q : Fin 2048) :
    iblk m c 0 t (ix2 r q) = A0 m c (ix2 (row t.val (lt8 t) r) q) := by
  show A0 m c ((win0_0.rect t).emb (ix2 r q)) = _
  refine congrArg _ (Shape.idx_ext₂ ?_ ?_)
  · rw [win0_0.rect_emb_val t, (idx_facts t).1.1]; rfl
  · rw [win0_0.rect_emb_val t, (idx_facts t).1.2]
    show 0 * 2048 + q.val = q.val
    omega

theorem iblk1_apply (c : Dev nD) (t : Fin cfg0.N) (r : Fin 512) (q : Fin 2048) :
    iblk m c 1 t (ix2 r q) = A1 m c (ix2 (row t.val (lt8 t) r) q) := by
  show A1 m c ((win0_1.rect t).emb (ix2 r q)) = _
  refine congrArg _ (Shape.idx_ext₂ ?_ ?_)
  · rw [win0_1.rect_emb_val t, (idx_facts t).2.1.1]; rfl
  · rw [win0_1.rect_emb_val t, (idx_facts t).2.1.2]
    show 0 * 2048 + q.val = q.val
    omega

theorem iblk4_apply (c : Dev nD) (t : Fin cfg0.N) (r : Fin 512) (q : Fin 2048) :
    iblk m c 4 t (ix2 r q) = A4 m c (ix2 (row t.val (lt8 t) r) q) := by
  show A4 m c ((win0_4.rect t).emb (ix2 r q)) = _
  refine congrArg _ (Shape.idx_ext₂ ?_ ?_)
  · rw [win0_4.rect_emb_val t, (idx_facts t).2.2.2.2.1.1]; rfl
  · rw [win0_4.rect_emb_val t, (idx_facts t).2.2.2.2.1.2]
    show 0 * 2048 + q.val = q.val
    omega

theorem iblk2_apply (c : Dev nD) (t : Fin cfg0.N) (q : Fin 2048) : iblk m c 2 t (ix2 0 q) = A2 m c (ix2 0 q) := by
  show A2 m c ((win0_2.rect t).emb (ix2 0 q)) = _
  refine congrArg _ (Shape.idx_ext₂ ?_ ?_)
  · rw [win0_2.rect_emb_val t, (idx_facts t).2.2.1.1]; rfl
  · rw [win0_2.rect_emb_val t, (idx_facts t).2.2.1.2]
    show 0 * 2048 + q.val = q.val
    omega

theorem iblk3_apply (c : Dev nD) (t : Fin cfg0.N) (q : Fin 2048) : iblk m c 3 t (ix2 0 q) = A3 m c (ix2 0 q) := by
  show A3 m c ((win0_3.rect t).emb (ix2 0 q)) = _
  refine congrArg _ (Shape.idx_ext₂ ?_ ?_)
  · rw [win0_3.rect_emb_val t, (idx_facts t).2.2.2.1.1]; rfl
  · rw [win0_3.rect_emb_val t, (idx_facts t).2.2.2.1.2]
    show 0 * 2048 + q.val = q.val
    omega

theorem iblk5_apply (c : Dev nD) (t : Fin cfg0.N) (r : Fin 512) (q : Fin 2048) :
    iblk m c 5 t (ix2 r q) = A5 m c (ix2 (row t.val (lt8 t) r) q) := by
  show A5 m c ((win0_5.rect t).emb (ix2 r q)) = _
  refine congrArg _ (Shape.idx_ext₂ ?_ ?_)
  · rw [win0_5.rect_emb_val t, (idx_facts t).2.2.2.2.2.1.1]; rfl
  · rw [win0_5.rect_emb_val t, (idx_facts t).2.2.2.2.2.1.2]
    show 0 * 2048 + q.val = q.val
    omega

theorem iblk6_apply (c : Dev nD) (t : Fin cfg0.N) (q : Fin 2048) : iblk m c 6 t (ix2 0 q) = A6 m c (ix2 0 q) := by
  show A6 m c ((win0_6.rect t).emb (ix2 0 q)) = _
  refine congrArg _ (Shape.idx_ext₂ ?_ ?_)
  · rw [win0_6.rect_emb_val t, (idx_facts t).2.2.2.2.2.2.1.1]; rfl
  · rw [win0_6.rect_emb_val t, (idx_facts t).2.2.2.2.2.2.1.2]
    show 0 * 2048 + q.val = q.val
    omega

/-! ## The body at an entry -/

theorem pay12_apply (v : Vec Ideal S512x2048 .f32) (r : Fin 512) (q : Fin 2048) :
    k0_pay12 v (ix2 r q) = pr (v (ix2 r q)) (rs fun k => v (ix2 r k)) :=
  congrArg (pr _) ((spread _ _ r q).trans (kernel_rs v _ _ _ _ r))

/-- The gradient in the normalised row, as the kernel forms it. -/
def uK (dh g sc : EReal) : EReal := pr dh (pr g (plus (Ideal.ofBits .f32 0x3F800000#32) sc))

theorem pay1_apply (dh : Vec Ideal S512x2048 .f32) (g sc : Vec Ideal S1x2048 .f32) (x d1 : Vec Ideal S512x2048 .f32)
    (r : Fin 512) (q : Fin 2048) :
    k0_pay1 dh g (k0_pay10 sc) (k0_pay11 x) (k0_pay12 x) d1 (ix2 r q)
      = plus (d1 (ix2 r q)) (kern (fun k => x (ix2 r k)) (fun k => uK (dh (ix2 r k)) (g (ix2 0 k)) (sc (ix2 0 k))) q) := by
  have hu : ∀ k : Fin 2048, mulf (F := Ideal) dh (broadcastTo S512x2048 (mulf (F := Ideal) g (k0_pay10 sc)) broadcasts_S1x2048_S512x2048) (ix2 r k)
      = uK (dh (ix2 r k)) (g (ix2 0 k)) (sc (ix2 0 k)) := fun k =>
    congrArg (pr _) (broadcastTo_1b_ab_apply _ _ _ _)
  refine congrArg (plus _) (congrArg₂ pr ((spread _ _ r q).trans (kernel_rs x _ _ _ _ r)) (congrArg₂ minus (hu q)
    (congrArg₂ pr (pay12_apply x r q) ((spread _ _ r q).trans (congrArg (fun z => Ideal.div z (Ideal.ofBits .f32 0x45000000#32)) ?_)))))
  refine (shapeCast_a_a1_apply _ _ _ _).trans ((row_sum _ _ _ _ _ r).trans (Finset.sum_congr rfl fun k _ => ?_))
  exact congrArg₂ pr (hu k) (pay12_apply x r k)

theorem pay13_apply (dh : Vec Ideal S512x2048 .f32) (acc : Vec Ideal S1x2048 .f32) (q : Fin 2048) :
    k0_pay13 dh acc (ix2 0 q) = plus (acc (ix2 0 q)) (∑ k : Fin 512, dh (ix2 k q)) := by
  refine congrArg₂ plus (congrFun (shapeCast_self _ _) _) ((shapeCast_apply _ shapeCasts_S2048_S1x2048 (ix2 0 q) (ix1 q) ?_).trans (col_sum _ _ _ _ _ q))
  rewrite [Shape.rowMajor_val_one, Shape.rowMajor_val_two]
  show q.val = 0 * 2048 + q.val
  omega

theorem pay14_apply (x dh : Vec Ideal S512x2048 .f32) (acc : Vec Ideal S1x2048 .f32) (q : Fin 2048) :
    k0_pay14 x dh acc (ix2 0 q)
      = plus (acc (ix2 0 q)) (∑ k : Fin 512, pr (dh (ix2 k q)) (pr (x (ix2 k q)) (rs fun j => x (ix2 k j)))) := by
  refine congrArg₂ plus (congrFun (shapeCast_self _ _) _) ((shapeCast_apply _ shapeCasts_S2048_S1x2048 (ix2 0 q) (ix1 q) ?_).trans
    ((col_sum _ _ _ _ _ q).trans (Finset.sum_congr rfl fun k _ => congrArg (pr _) (pay12_apply x k q))))
  rewrite [Shape.rowMajor_val_one, Shape.rowMajor_val_two]
  show q.val = 0 * 2048 + q.val
  omega

theorem pay2_apply (dh : Vec Ideal S512x2048 .f32) (g sc : Vec Ideal S1x2048 .f32) (x d1 : Vec Ideal S512x2048 .f32) (gt : Vec Ideal S1x2048 .f32)
    (r : Fin 512) (q : Fin 2048) :
    k0_pay2 dh g (k0_pay10 sc) (k0_pay11 x) (k0_pay12 x) d1 gt (ix2 r q)
      = pr (k0_pay1 dh g (k0_pay10 sc) (k0_pay11 x) (k0_pay12 x) d1 (ix2 r q)) (gt (ix2 0 q)) :=
  congrArg (pr _) (broadcastTo_1b_ab_apply _ _ _ _)

theorem pay3_apply (dh : Vec Ideal S512x2048 .f32) (g sc : Vec Ideal S1x2048 .f32) (x d1 : Vec Ideal S512x2048 .f32) (acc : Vec Ideal S1x2048 .f32)
    (mo : Vec Ideal S512x2048 .f32) (q : Fin 2048) :
    k0_pay3 dh g (k0_pay10 sc) (k0_pay11 x) (k0_pay12 x) d1 acc mo (ix2 0 q)
      = plus (acc (ix2 0 q)) (∑ k : Fin 512, pr (k0_pay1 dh g (k0_pay10 sc) (k0_pay11 x) (k0_pay12 x) d1 (ix2 k q)) (mo (ix2 k q))) := by
  refine congrArg₂ plus (congrFun (shapeCast_self _ _) _) ((shapeCast_apply _ shapeCasts_S2048_S1x2048 (ix2 0 q) (ix1 q) ?_).trans (col_sum _ _ _ _ _ q))
  rewrite [Shape.rowMajor_val_one, Shape.rowMajor_val_two]
  show q.val = 0 * 2048 + q.val
  omega

/-! ## What the body leaves in each output's block -/

section Outs

variable (c : Dev nD) (i : grid0.Coords) (a1 : Memref sig .tc .vmem S512x2048 .f32) (h1 : a1.IsWhole) (a2 : Memref sig .tc .vmem S512x2048 .f32) (h2 : a2.IsWhole) (a3 : Memref sig .tc .vmem S1x2048 .f32) (h3 : a3.IsWhole)
  (a4 : Memref sig .tc .vmem S1x2048 .f32) (h4 : a4.IsWhole) (a5 : Memref sig .tc .vmem S512x2048 .f32) (h5 : a5.IsWhole) (a6 : Memref sig .tc .vmem S512x2048 .f32) (h6 : a6.IsWhole)
  (a7 : Memref sig .tc .vmem S1x2048 .f32) (h7 : a7.IsWhole) (a8 : Memref sig .tc .vmem S512x2048 .f32) (h8 : a8.IsWhole) (a9 : Memref sig .tc .vmem S1x2048 .f32) (h9 : a9.IsWhole)
  (a10 : Memref sig .tc .vmem S1x2048 .f32) (h10 : a10.IsWhole) (a11 : Memref sig .tc .vmem S1x2048 .f32) (h11 : a11.IsWhole) (a12 : Memref sig .tc .vmem S512x2048 .bf16) (h12 : a12.IsWhole)
  (a13 : Memref sig .tc .vmem S1x2048 .f32) (h13 : a13.IsWhole)
  (x0 x1 : Vec Ideal S512x2048 .f32) (x2 x3 : Vec Ideal S1x2048 .f32) (x4 x5 : Vec Ideal S512x2048 .f32) (x6 o8 o9 o12 : Vec Ideal S1x2048 .f32)

theorem out_A (hc0 : cond0_0 i) (hc1 : ¬cond0_1 i) :
    out0_A_7 c i a1 h1 a2 h2 a3 h3 a4 h4 a5 h5 a6 h6 a7 h7 a8 h8 a9 h9 a10 h10 a11 h11 a12 h12 a13 h13 hc0 hc1 x0 x1 x2 x3 x4 x5 x6 = k0_pay1 x0 x2 (k0_pay10 x3) (k0_pay11 x1) (k0_pay12 x1) x4
    ∧ out0_A_8 c i a1 h1 a2 h2 a3 h3 a4 h4 a5 h5 a6 h6 a7 h7 a8 h8 a9 h9 a10 h10 a11 h11 a12 h12 a13 h13 hc0 hc1 x0 x1 x2 x3 x4 x5 x6 = k0_pay13 x0 (k0_pay7 (F := Ideal))
    ∧ out0_A_9 c i a1 h1 a2 h2 a3 h3 a4 h4 a5 h5 a6 h6 a7 h7 a8 h8 a9 h9 a10 h10 a11 h11 a12 h12 a13 h13 hc0 hc1 x0 x1 x2 x3 x4 x5 x6 = k0_pay14 x1 x0 (k0_pay8 (F := Ideal))
    ∧ out0_A_11 c i a1 h1 a2 h2 a3 h3 a4 h4 a5 h5 a6 h6 a7 h7 a8 h8 a9 h9 a10 h10 a11 h11 a12 h12 a13 h13 hc0 hc1 x0 x1 x2 x3 x4 x5 x6 = k0_pay2 x0 x2 (k0_pay10 x3) (k0_pay11 x1) (k0_pay12 x1) x4 x6
    ∧ out0_A_12 c i a1 h1 a2 h2 a3 h3 a4 h4 a5 h5 a6 h6 a7 h7 a8 h8 a9 h9 a10 h10 a11 h11 a12 h12 a13 h13 hc0 hc1 x0 x1 x2 x3 x4 x5 x6 = k0_pay3 x0 x2 (k0_pay10 x3) (k0_pay11 x1) (k0_pay12 x1) x4 (k0_pay9 (F := Ideal)) x5 := by
  unfold out0_A_7 out0_A_8 out0_A_9 out0_A_11 out0_A_12
  refine ⟨(View.read_writes_eq_canon _ _ _ fun _ => cover0_A_7 ..).trans ?_,
    (View.read_writes_eq_canon _ _ _ fun _ => cover0_A_8 ..).trans ?_,
    (View.read_writes_eq_canon _ _ _ fun _ => cover0_A_9 ..).trans ?_,
    (View.read_writes_eq_canon _ _ _ fun _ => cover0_A_11 ..).trans ?_,
    (View.read_writes_eq_canon _ _ _ fun _ => cover0_A_12 ..).trans ?_⟩
  all_goals
    unfold kernelRun0_A
    dsimp only
    rw [View.canon_cons_unit_zero hz]
    simp only [View.readAt_eq_ld, h1.read_unread, h2.read_unread, h3.read_unread, h4.read_unread, h5.read_unread, h6.read_unread, h7.read_unread, h9.read_unread, h10.read_unread, h13.read_unread, View.readCov_unit_zero (S := S1x2048) _ hz, View.ld_unit_zero (S := S512x2048) hz, View.ld_unit_zero (S := S1x2048) hz,
      kernelRun0_A.sl.r, kernelRun0_A.sl.r_1, kernelRun0_A.sl.r_2, kernelRun0_A.sl.r_3, kernelRun0_A.sl.r_4, kernelRun0_A.sl.v19, kernelRun0_A.sl.H8_1, kernelRun0_A.sl.v25, kernelRun0_A.sl.H9_1, kernelRun0_A.sl.v53, kernelRun0_A.sl.H12_1]

theorem out_B (hc0 : ¬cond0_0 i) (hc1 : ¬cond0_1 i) :
    out0_B_7 c i a1 h1 a2 h2 a3 h3 a4 h4 a5 h5 a6 h6 a7 h7 a8 h8 a9 h9 a10 h10 a11 h11 a12 h12 a13 h13 hc0 hc1 x0 x1 x2 x3 x4 x5 x6 o8 o9 o12 = k0_pay1 x0 x2 (k0_pay10 x3) (k0_pay11 x1) (k0_pay12 x1) x4
    ∧ out0_B_8 c i a1 h1 a2 h2 a3 h3 a4 h4 a5 h5 a6 h6 a7 h7 a8 h8 a9 h9 a10 h10 a11 h11 a12 h12 a13 h13 hc0 hc1 x0 x1 x2 x3 x4 x5 x6 o8 o9 o12 = k0_pay13 x0 o8
    ∧ out0_B_9 c i a1 h1 a2 h2 a3 h3 a4 h4 a5 h5 a6 h6 a7 h7 a8 h8 a9 h9 a10 h10 a11 h11 a12 h12 a13 h13 hc0 hc1 x0 x1 x2 x3 x4 x5 x6 o8 o9 o12 = k0_pay14 x1 x0 o9
    ∧ out0_B_11 c i a1 h1 a2 h2 a3 h3 a4 h4 a5 h5 a6 h6 a7 h7 a8 h8 a9 h9 a10 h10 a11 h11 a12 h12 a13 h13 hc0 hc1 x0 x1 x2 x3 x4 x5 x6 o8 o9 o12 = k0_pay2 x0 x2 (k0_pay10 x3) (k0_pay11 x1) (k0_pay12 x1) x4 x6
    ∧ out0_B_12 c i a1 h1 a2 h2 a3 h3 a4 h4 a5 h5 a6 h6 a7 h7 a8 h8 a9 h9 a10 h10 a11 h11 a12 h12 a13 h13 hc0 hc1 x0 x1 x2 x3 x4 x5 x6 o8 o9 o12 = k0_pay3 x0 x2 (k0_pay10 x3) (k0_pay11 x1) (k0_pay12 x1) x4 o12 x5 := by
  unfold out0_B_7 out0_B_8 out0_B_9 out0_B_11 out0_B_12
  refine ⟨(View.read_writes_eq_canon _ _ _ fun _ => cover0_B_7 ..).trans ?_,
    (View.read_writes_eq_canon _ _ _ fun _ => cover0_B_8 ..).trans ?_,
    (View.read_writes_eq_canon _ _ _ fun _ => cover0_B_9 ..).trans ?_,
    (View.read_writes_eq_canon _ _ _ fun _ => cover0_B_11 ..).trans ?_,
    (View.read_writes_eq_canon _ _ _ fun _ => cover0_B_12 ..).trans ?_⟩
  all_goals
    unfold kernelRun0_B
    dsimp only
    rw [View.canon_cons_unit_zero hz]
    simp only [View.readAt_eq_ld, h1.read_unread, h2.read_unread, h3.read_unread, h4.read_unread, h5.read_unread, h6.read_unread, h7.read_unread, h9.read_unread, h10.read_unread, h13.read_unread, View.readCov_unit_zero (S := S1x2048) _ hz, View.ld_unit_zero (S := S512x2048) hz, View.ld_unit_zero (S := S1x2048) hz,
      kernelRun0_B.sl.r, kernelRun0_B.sl.r_1, kernelRun0_B.sl.r_2, kernelRun0_B.sl.r_3, kernelRun0_B.sl.r_4]

theorem out_C (hc0 : ¬cond0_0 i) (hc1 : cond0_1 i) :
    out0_C_7 c i a1 h1 a2 h2 a3 h3 a4 h4 a5 h5 a6 h6 a7 h7 a8 h8 a9 h9 a10 h10 a11 h11 a12 h12 a13 h13 hc0 hc1 x0 x1 x2 x3 x4 x5 x6 o8 o9 o12 = k0_pay1 x0 x2 (k0_pay10 x3) (k0_pay11 x1) (k0_pay12 x1) x4
    ∧ out0_C_8 c i a1 h1 a2 h2 a3 h3 a4 h4 a5 h5 a6 h6 a7 h7 a8 h8 a9 h9 a10 h10 a11 h11 a12 h12 a13 h13 hc0 hc1 x0 x1 x2 x3 x4 x5 x6 o8 o9 o12 = k0_pay13 x0 o8
    ∧ out0_C_9 c i a1 h1 a2 h2 a3 h3 a4 h4 a5 h5 a6 h6 a7 h7 a8 h8 a9 h9 a10 h10 a11 h11 a12 h12 a13 h13 hc0 hc1 x0 x1 x2 x3 x4 x5 x6 o8 o9 o12 = k0_pay6 x2 (k0_pay14 x1 x0 o9)
    ∧ out0_C_10 c i a1 h1 a2 h2 a3 h3 a4 h4 a5 h5 a6 h6 a7 h7 a8 h8 a9 h9 a10 h10 a11 h11 a12 h12 a13 h13 hc0 hc1 x0 x1 x2 x3 x4 x5 x6 o8 o9 o12 = k0_pay5 (k0_pay10 x3) (k0_pay14 x1 x0 o9)
    ∧ out0_C_11 c i a1 h1 a2 h2 a3 h3 a4 h4 a5 h5 a6 h6 a7 h7 a8 h8 a9 h9 a10 h10 a11 h11 a12 h12 a13 h13 hc0 hc1 x0 x1 x2 x3 x4 x5 x6 o8 o9 o12 = k0_pay2 x0 x2 (k0_pay10 x3) (k0_pay11 x1) (k0_pay12 x1) x4 x6
    ∧ out0_C_12 c i a1 h1 a2 h2 a3 h3 a4 h4 a5 h5 a6 h6 a7 h7 a8 h8 a9 h9 a10 h10 a11 h11 a12 h12 a13 h13 hc0 hc1 x0 x1 x2 x3 x4 x5 x6 o8 o9 o12 = k0_pay3 x0 x2 (k0_pay10 x3) (k0_pay11 x1) (k0_pay12 x1) x4 o12 x5 := by
  unfold out0_C_7 out0_C_8 out0_C_9 out0_C_10 out0_C_11 out0_C_12
  refine ⟨(View.read_writes_eq_canon _ _ _ fun _ => cover0_C_7 ..).trans ?_,
    (View.read_writes_eq_canon _ _ _ fun _ => cover0_C_8 ..).trans ?_,
    (View.read_writes_eq_canon _ _ _ fun _ => cover0_C_9 ..).trans ?_,
    (View.read_writes_eq_canon _ _ _ fun _ => cover0_C_10 ..).trans ?_,
    (View.read_writes_eq_canon _ _ _ fun _ => cover0_C_11 ..).trans ?_,
    (View.read_writes_eq_canon _ _ _ fun _ => cover0_C_12 ..).trans ?_⟩
  all_goals
    unfold kernelRun0_C
    dsimp only
    rw [View.canon_cons_unit_zero hz]
    simp only [View.readAt_eq_ld, h1.read_unread, h2.read_unread, h3.read_unread, h4.read_unread, h5.read_unread, h6.read_unread, h7.read_unread, h9.read_unread, h10.read_unread, h13.read_unread, View.readCov_unit_zero (S := S1x2048) _ hz, View.ld_unit_zero (S := S512x2048) hz, View.ld_unit_zero (S := S1x2048) hz,
      kernelRun0_C.sl.r, kernelRun0_C.sl.r_1, kernelRun0_C.sl.r_2, kernelRun0_C.sl.r_3, kernelRun0_C.sl.r_4, kernelRun0_C.sl.v64, kernelRun0_C.sl.H9_1]

end Outs

/-! ## What the blocks hold after each point -/

/-- What the outputs hold after the first point. -/
theorem outs_A (c : Dev nD) (t : Fin cfg0.N) (h0 : t.val % 8 = 0) :
    (outsAt0 m c t.val t.isLt).1 = k0_pay1 (iblk m c 0 t) (iblk m c 2 t) (k0_pay10 (iblk m c 3 t)) (k0_pay11 (iblk m c 1 t)) (k0_pay12 (iblk m c 1 t)) (iblk m c 4 t)
    ∧ (outsAt0 m c t.val t.isLt).2.1 = k0_pay13 (iblk m c 0 t) (k0_pay7 (F := Ideal))
    ∧ (outsAt0 m c t.val t.isLt).2.2.1 = k0_pay14 (iblk m c 1 t) (iblk m c 0 t) (k0_pay8 (F := Ideal))
    ∧ (outsAt0 m c t.val t.isLt).2.2.2.2.1 = k0_pay2 (iblk m c 0 t) (iblk m c 2 t) (k0_pay10 (iblk m c 3 t)) (k0_pay11 (iblk m c 1 t)) (k0_pay12 (iblk m c 1 t)) (iblk m c 4 t) (iblk m c 6 t)
    ∧ (outsAt0 m c t.val t.isLt).2.2.2.2.2 = k0_pay3 (iblk m c 0 t) (iblk m c 2 t) (k0_pay10 (iblk m c 3 t)) (k0_pay11 (iblk m c 1 t)) (k0_pay12 (iblk m c 1 t)) (iblk m c 4 t) (k0_pay9 (F := Ideal)) (iblk m c 5 t) := by
  rw [outsAt0_A m c t h0 (by omega)]
  dsimp only
  exact out_A ..

/-- … after a middle point. -/
theorem outs_B (c : Dev nD) (t : Fin cfg0.N) (h0 : ¬t.val % 8 = 0) (h1 : ¬t.val % 8 = 7) :
    (outsAt0 m c t.val t.isLt).1 = k0_pay1 (iblk m c 0 t) (iblk m c 2 t) (k0_pay10 (iblk m c 3 t)) (k0_pay11 (iblk m c 1 t)) (k0_pay12 (iblk m c 1 t)) (iblk m c 4 t)
    ∧ (outsAt0 m c t.val t.isLt).2.1 = k0_pay13 (iblk m c 0 t) (outsAt0 m c (t.val - 1) (Nat.lt_of_le_of_lt (Nat.sub_le _ _) t.isLt)).2.1
    ∧ (outsAt0 m c t.val t.isLt).2.2.1 = k0_pay14 (iblk m c 1 t) (iblk m c 0 t) (outsAt0 m c (t.val - 1) (Nat.lt_of_le_of_lt (Nat.sub_le _ _) t.isLt)).2.2.1
    ∧ (outsAt0 m c t.val t.isLt).2.2.2.2.1 = k0_pay2 (iblk m c 0 t) (iblk m c 2 t) (k0_pay10 (iblk m c 3 t)) (k0_pay11 (iblk m c 1 t)) (k0_pay12 (iblk m c 1 t)) (iblk m c 4 t) (iblk m c 6 t)
    ∧ (outsAt0 m c t.val t.isLt).2.2.2.2.2 = k0_pay3 (iblk m c 0 t) (iblk m c 2 t) (k0_pay10 (iblk m c 3 t)) (k0_pay11 (iblk m c 1 t)) (k0_pay12 (iblk m c 1 t)) (iblk m c 4 t) (outsAt0 m c (t.val - 1) (Nat.lt_of_le_of_lt (Nat.sub_le _ _) t.isLt)).2.2.2.2.2 (iblk m c 5 t) := by
  rw [outsAt0_B m c t h0 h1]
  dsimp only
  exact out_B ..

/-- … after the last point. -/
theorem outs_C (c : Dev nD) (t : Fin cfg0.N) (h0 : ¬t.val % 8 = 0) (h1 : t.val % 8 = 7) :
    (outsAt0 m c t.val t.isLt).1 = k0_pay1 (iblk m c 0 t) (iblk m c 2 t) (k0_pay10 (iblk m c 3 t)) (k0_pay11 (iblk m c 1 t)) (k0_pay12 (iblk m c 1 t)) (iblk m c 4 t)
    ∧ (outsAt0 m c t.val t.isLt).2.1 = k0_pay13 (iblk m c 0 t) (outsAt0 m c (t.val - 1) (Nat.lt_of_le_of_lt (Nat.sub_le _ _) t.isLt)).2.1
    ∧ (outsAt0 m c t.val t.isLt).2.2.1 = k0_pay6 (iblk m c 2 t) (k0_pay14 (iblk m c 1 t) (iblk m c 0 t) (outsAt0 m c (t.val - 1) (Nat.lt_of_le_of_lt (Nat.sub_le _ _) t.isLt)).2.2.1)
    ∧ (outsAt0 m c t.val t.isLt).2.2.2.1 = k0_pay5 (k0_pay10 (iblk m c 3 t)) (k0_pay14 (iblk m c 1 t) (iblk m c 0 t) (outsAt0 m c (t.val - 1) (Nat.lt_of_le_of_lt (Nat.sub_le _ _) t.isLt)).2.2.1)
    ∧ (outsAt0 m c t.val t.isLt).2.2.2.2.1 = k0_pay2 (iblk m c 0 t) (iblk m c 2 t) (k0_pay10 (iblk m c 3 t)) (k0_pay11 (iblk m c 1 t)) (k0_pay12 (iblk m c 1 t)) (iblk m c 4 t) (iblk m c 6 t)
    ∧ (outsAt0 m c t.val t.isLt).2.2.2.2.2 = k0_pay3 (iblk m c 0 t) (iblk m c 2 t) (k0_pay10 (iblk m c 3 t)) (k0_pay11 (iblk m c 1 t)) (k0_pay12 (iblk m c 1 t)) (iblk m c 4 t) (outsAt0 m c (t.val - 1) (Nat.lt_of_le_of_lt (Nat.sub_le _ _) t.isLt)).2.2.2.2.2 (iblk m c 5 t) := by
  rw [outsAt0_C m c t h0 h1]
  dsimp only
  exact out_C ..

theorem outs7 (c : Dev nD) (t : Fin cfg0.N) : (outsAt0 m c t.val t.isLt).1
    = k0_pay1 (iblk m c 0 t) (iblk m c 2 t) (k0_pay10 (iblk m c 3 t)) (k0_pay11 (iblk m c 1 t)) (k0_pay12 (iblk m c 1 t)) (iblk m c 4 t) := by
  by_cases h0 : t.val % 8 = 0
  · exact (outs_A m c t h0).1
  · by_cases h1 : t.val % 8 = 7
    · exact (outs_C m c t h0 h1).1
    · exact (outs_B m c t h0 h1).1

theorem outs11 (c : Dev nD) (t : Fin cfg0.N) : (outsAt0 m c t.val t.isLt).2.2.2.2.1
    = k0_pay2 (iblk m c 0 t) (iblk m c 2 t) (k0_pay10 (iblk m c 3 t)) (k0_pay11 (iblk m c 1 t)) (k0_pay12 (iblk m c 1 t)) (iblk m c 4 t) (iblk m c 6 t) := by
  by_cases h0 : t.val % 8 = 0
  · exact (outs_A m c t h0).2.2.2.1
  · by_cases h1 : t.val % 8 = 7
    · exact (outs_C m c t h0 h1).2.2.2.2.1
    · exact (outs_B m c t h0 h1).2.2.2.1

theorem zero_word (x : Vec Ideal S1x2048 .f32) (h : ∀ e, x e = Ideal.ofBits .f32 0x00000000#32) (q : Fin 2048) (f : ℕ → EReal) :
    x (ix2 0 q) = ∑ j ∈ Finset.range (512 * 0), f j := (h _).trans Ideal.ofBits_zero_f32

/-- The gradient's column terms. -/
abbrev f6 (c : Dev nD) (q : Fin 2048) (i : Fin 4096) : EReal := A0 m c (ix2 i q)
/-- The column terms of the gradient times the normalised row. -/
abbrev f7 (c : Dev nD) (q : Fin 2048) (i : Fin 4096) : EReal :=
  pr (A0 m c (ix2 i q)) (pr (A1 m c (ix2 i q)) (rs fun k => A1 m c (ix2 i k)))

theorem block6 (c : Dev nD) (n : ℕ) (h : n < cfg0.N) (q : Fin 2048) (k : Fin 512) :
    iblk m c 0 ⟨n, h⟩ (ix2 k q) = tot (f6 m c q) (512 * n + k.val) :=
  (iblk0_apply m c ⟨n, h⟩ k q).trans ((tot_of (f6 m c q) _).symm.trans
    (congrArg (tot (f6 m c q)) (show n * 512 + k.val = 512 * n + k.val by omega)))

theorem block7 (c : Dev nD) (n : ℕ) (h : n < cfg0.N) (q : Fin 2048) (k : Fin 512) :
    pr (iblk m c 0 ⟨n, h⟩ (ix2 k q)) (pr (iblk m c 1 ⟨n, h⟩ (ix2 k q)) (rs fun j => iblk m c 1 ⟨n, h⟩ (ix2 k j)))
      = tot (f7 m c q) (512 * n + k.val) := by
  refine Eq.trans ?_ ((tot_of (f7 m c q) (row n (lt8 ⟨n, h⟩) k)).symm.trans
    (congrArg (tot (f7 m c q)) (show n * 512 + k.val = 512 * n + k.val by omega)))
  exact congrArg₂ pr (iblk0_apply m c ⟨n, h⟩ k q) (congrArg₂ pr (iblk1_apply m c ⟨n, h⟩ k q)
    (congrArg rs (funext fun j => iblk1_apply m c ⟨n, h⟩ k j)))

theorem sumD (c : Dev nD) (q : Fin 2048) : ∀ (n : ℕ) (h : n < cfg0.N),
    (outsAt0 m c n h).2.1 (ix2 0 q) = ∑ j ∈ Finset.range (512 * (n + 1)), tot (f6 m c q) j
  | 0, h => by
    refine (congrFun (outs_A m c ⟨0, h⟩ rfl).2.1 (ix2 0 q)).trans
      ((pay13_apply _ _ q).trans ?_)
    rw [zero_word (k0_pay7 (F := Ideal)) (fun _ => rfl) q (tot (f6 m c q))]
    exact tot_step _ 0 _ (block6 m c 0 h q)
  | n + 1, h => by
    have hN := lt8 ⟨n + 1, h⟩
    dsimp only at hN
    have ih := sumD c q n (Nat.lt_of_succ_lt h)
    by_cases h1 : (n + 1) % 8 = 7
    · refine (congrFun (outs_C m c ⟨n + 1, h⟩ (by dsimp only; omega) h1).2.1 (ix2 0 q)).trans
        ((pay13_apply _ _ q).trans ?_)
      exact (congrArg (fun z => plus z _) ih).trans (tot_step _ (n + 1) _ (block6 m c (n + 1) h q))
    · refine (congrFun (outs_B m c ⟨n + 1, h⟩ (by dsimp only; omega) h1).2.1 (ix2 0 q)).trans
        ((pay13_apply _ _ q).trans ?_)
      exact (congrArg (fun z => plus z _) ih).trans (tot_step _ (n + 1) _ (block6 m c (n + 1) h q))

theorem sumS (c : Dev nD) (q : Fin 2048) : ∀ (n : ℕ) (h : n < cfg0.N), n < 7 →
    (outsAt0 m c n h).2.2.1 (ix2 0 q) = ∑ j ∈ Finset.range (512 * (n + 1)), tot (f7 m c q) j
  | 0, h, _ => by
    refine (congrFun (outs_A m c ⟨0, h⟩ rfl).2.2.1 (ix2 0 q)).trans
      ((pay14_apply _ _ _ q).trans ?_)
    rw [zero_word (k0_pay8 (F := Ideal)) (fun _ => rfl) q (tot (f7 m c q))]
    exact tot_step _ 0 _ (block7 m c 0 h q)
  | n + 1, h, hn => by
    have ih := sumS c q n (Nat.lt_of_succ_lt h) (by omega)
    refine (congrFun (outs_B m c ⟨n + 1, h⟩ (by dsimp only; omega) (by dsimp only; omega)).2.2.1 (ix2 0 q)).trans
      ((pay14_apply _ _ _ q).trans ?_)
    exact (congrArg (fun z => plus z _) ih).trans (tot_step _ (n + 1) _ (block7 m c (n + 1) h q))

/-- The last point's sum over all rows. -/
theorem sum7 (c : Dev nD) (q : Fin 2048) (n : ℕ) (h : n < cfg0.N) (h' : n + 1 < cfg0.N) (hn : n + 1 = 7) :
    k0_pay14 (iblk m c 1 ⟨n + 1, h'⟩) (iblk m c 0 ⟨n + 1, h'⟩) (outsAt0 m c n h).2.2.1 (ix2 0 q) = ∑ i : Fin 4096, f7 m c q i := by
  refine (pay14_apply _ _ _ q).trans ((congrArg (fun z => plus z _) (sumS m c q n h (by omega))).trans
    ((tot_step _ (n + 1) _ (block7 m c (n + 1) h' q)).trans ?_))
  rw [show 512 * (n + 1 + 1) = 4096 by omega, tot_sum]

theorem last6 (c : Dev nD) (q : Fin 2048) (n : ℕ) (h : n + 1 < cfg0.N) (hn : n + 1 = 7) :
    (outsAt0 m c (n + 1) h).2.1 (ix2 0 q) = ∑ i : Fin 4096, f6 m c q i := by
  rw [sumD m c q (n + 1) h, show 512 * (n + 1 + 1) = 4096 by omega, tot_sum]

theorem last7 (c : Dev nD) (q : Fin 2048) (n : ℕ) (h : n + 1 < cfg0.N) (hn : n + 1 = 7) :
    (outsAt0 m c (n + 1) h).2.2.1 (ix2 0 q) = pr (∑ i : Fin 4096, f7 m c q i) (A2 m c (ix2 0 q)) := by
  refine (congrFun (outs_C m c ⟨n + 1, h⟩ (by dsimp only; omega) (by dsimp only; omega)).2.2.1 (ix2 0 q)).trans ?_
  exact congrArg₂ pr ((congrFun (shapeCast_self _ _) _).trans (sum7 m c q n (Nat.lt_of_succ_lt h) h hn)) (iblk2_apply m c ⟨n + 1, h⟩ q)

theorem last8 (c : Dev nD) (q : Fin 2048) (n : ℕ) (h : n + 1 < cfg0.N) (hn : n + 1 = 7) :
    (outsAt0 m c (n + 1) h).2.2.2.1 (ix2 0 q) = pr (∑ i : Fin 4096, f7 m c q i) (plus (Ideal.ofBits .f32 0x3F800000#32) (A3 m c (ix2 0 q))) := by
  refine (congrFun (outs_C m c ⟨n + 1, h⟩ (by dsimp only; omega) (by dsimp only; omega)).2.2.2.1 (ix2 0 q)).trans ?_
  exact congrArg₂ pr ((congrFun (shapeCast_self _ _) _).trans (sum7 m c q n (Nat.lt_of_succ_lt h) h hn))
    (congrArg (plus _) (iblk3_apply m c ⟨n + 1, h⟩ q))

/-! ## The reference at an entry -/

/-- The gradient in the normalised row, as the chain rule forms it. -/
def uR (dh g sc : EReal) : EReal := pr (pr dh (plus (Ideal.ofBits .f32 0x3F800000#32) sc)) g

theorem u_eq (dh g sc : EReal) : uK dh g sc = uR dh g sc := by
  unfold uK uR pr
  rw [mul_comm g, mul_assoc]

theorem swap7 (a b g : EReal) : pr (pr a b) g = pr (pr b g) a := by
  unfold pr
  rw [mul_comm a, mul_right_comm]

theorem swap8 (a b s : EReal) : pr (pr a b) s = pr b (pr a s) := by
  unfold pr
  rw [mul_comm a, mul_assoc]

section Ref
open Cert.Reference35Ideal.Read

variable (x0 x1 : Vec Ideal S4096x2048 .f32) (x2 x3 : Vec Ideal S1x2048 .f32) (x4 x5 : Vec Ideal S4096x2048 .f32) (x6 : Vec Ideal S1x2048 .f32)

theorem ref7 (e : Cert.Reference35Ideal.S4096x1.Idx) : val_main_v7 (F := Ideal) x1 e = ms fun k => x1 (ix2 (e 0) k) := by
  rw [val_main_v7_apply, val_main_v5_apply, val_main_v3_apply, val_main_v2_apply, val_main_v4_apply, val_main_v6_apply]
  refine congrArg (fun z => plus (Ideal.div z (Ideal.ofBits .f32 0x45000000#32)) (Ideal.ofBits .f32 0x358637BD#32))
    ((congrArg (· + _) Ideal.ofBits_zero_f32).trans ((zero_add _).trans (Finset.sum_congr rfl fun k _ => ?_)))
  have e1 : idx_main_v2 (idx_main_v3 e) k = ix2 (e 0) k := Shape.idx_ext₂ rfl rfl
  exact congrArg₂ pr (congrArg x1 e1) (congrArg x1 e1)

theorem ref8 (e : Cert.Reference35Ideal.S4096x1.Idx) : val_main_v8 (F := Ideal) x1 e = rs fun k => x1 (ix2 (e 0) k) :=
  (val_main_v8_apply x1 e).trans (congrArg Ideal.rsqrt (ref7 x1 e))

theorem ref13 (i : Fin 4096) (q : Fin 2048) : val_main_v13 (F := Ideal) x1 (ix2 i q) = pr (x1 (ix2 i q)) (rs fun k => x1 (ix2 i k)) := by
  rw [val_main_v13_apply, val_main_v12_apply]
  exact congrArg (pr _) (ref8 x1 _)

theorem ref22 (i : Fin 4096) (q : Fin 2048) : val_main_v22 (F := Ideal) x0 (ix2 i q) = x0 (ix2 i q) := by
  rw [val_main_v22_apply]
  refine congrArg x0 (Shape.idx_ext₂ ?_ ?_)
  · show (i.val * 2048 + q.val) / 2048 = i.val
    omega
  · show (i.val * 2048 + q.val) % 2048 = q.val
    omega

theorem ref29 (i : Fin 4096) (q : Fin 2048) : val_main_v29 (F := Ideal) x0 x3 (ix2 i q)
    = pr (x0 (ix2 i q)) (plus (Ideal.ofBits .f32 0x3F800000#32) (x3 (ix2 0 q))) := by
  rw [val_main_v29_apply, val_main_v28_apply, val_main_v17_apply, val_main_v16_apply]
  exact congrArg₂ pr (ref22 x0 i q) (congrArg (plus _) (congrArg x3 (Shape.idx_ext₂ rfl rfl)))

theorem ref34 (i : Fin 4096) (q : Fin 2048) : val_main_v34 (F := Ideal) x0 x2 x3 (ix2 i q) = uR (x0 (ix2 i q)) (x2 (ix2 0 q)) (x3 (ix2 0 q)) := by
  rw [val_main_v34_apply, val_main_v33_apply]
  exact congrArg₂ pr (ref29 x0 x3 i q) (congrArg x2 (Shape.idx_ext₂ rfl rfl))

/-- Row `i` of the rows and of the gradient in the normalised row. -/
abbrev rowX (i : Fin 4096) (k : Fin 2048) : EReal := x1 (ix2 i k)
abbrev rowU (i : Fin 4096) (k : Fin 2048) : EReal := uR (x0 (ix2 i k)) (x2 (ix2 0 k)) (x3 (ix2 0 k))

theorem ref44 (i : Fin 4096) (q : Fin 2048) : val_main_v44 (F := Ideal) x0 x1 x2 x3 (ix2 i q) = slope (rowX x1 i) (rowU x0 x2 x3 i) := by
  rw [val_main_v44_apply, val_main_v43_apply]
  refine (congrArg (· + _) Ideal.ofBits_zero_f32).trans ((zero_add _).trans ((Fin.sum_univ_one _).trans ?_))
  rw [val_main_v42_apply, val_main_v40_apply, val_main_v37_apply, val_main_v36_apply, val_main_v41_apply, val_main_v11_apply,
    val_main_v10_apply, val_main_v9_apply]
  refine congrArg (fun z => Ideal.div z (Ideal.ofBits .f32 0x45000000#32)) (congrArg₂ pr ?_ (congrArg (pr _) (congrArg₂ Ideal.div (ref8 x1 _) (ref7 x1 _))))
  refine (congrArg (· + _) Ideal.ofBits_zero_f32).trans ((zero_add _).trans (Finset.sum_congr rfl fun k _ => ?_))
  rw [show idx_main_v36 (idx_main_v37 (idx_main_v43 (idx_main_v44 (ix2 i q)) 0)) k = ix2 i k from
    Shape.idx_ext₂ (by show i.val * 1 + 0 = i.val; omega) rfl, val_main_v35_apply]
  exact congrArg (pr _) (ref34 x0 x2 x3 i k)

theorem ref49 (i : Fin 4096) (q : Fin 2048) : val_main_v49 (F := Ideal) x0 x1 x2 x3 x4 (ix2 i q)
    = plus (x4 (ix2 i q)) (rule (rowX x1 i) (rowU x0 x2 x3 i) q) := by
  rw [val_main_v49_apply, val_main_v48_apply, val_main_v46_apply, val_main_v39_apply, val_main_v45_apply, val_main_v47_apply,
    val_main_v38_apply]
  refine congrArg (plus _) (congrArg₂ plus (congrArg₂ plus (congrArg₂ pr (ref34 x0 x2 x3 i q) (ref8 x1 _)) (congrArg (pr _) (ref44 x0 x1 x2 x3 i q)))
    (congrArg (fun z => pr z _) (ref44 x0 x1 x2 x3 i q)))

theorem ref24 (q : Fin 2048) : val_main_v24 (F := Ideal) x0 (ix2 0 q) = ∑ i : Fin 4096, x0 (ix2 i q) := by
  rw [val_main_v24_apply, val_main_v23_apply]
  refine (congrArg (· + _) Ideal.ofBits_zero_f32).trans ((zero_add _).trans (Finset.sum_congr rfl fun k _ => congrArg x0 (Shape.idx_ext₂ rfl ?_)))
  show 0 * 2048 + q.val = q.val
  omega

theorem ref27 (q : Fin 2048) : val_main_v27 (F := Ideal) x0 x1 x2 (ix2 0 q)
    = ∑ i : Fin 4096, pr (pr (pr (x1 (ix2 i q)) (rs fun k => x1 (ix2 i k))) (x2 (ix2 0 q))) (x0 (ix2 i q)) := by
  rw [val_main_v27_apply, val_main_v26_apply]
  refine (congrArg (· + _) Ideal.ofBits_zero_f32).trans ((zero_add _).trans (Finset.sum_congr rfl fun k _ => ?_))
  rw [show idx_main_v26 (idx_main_v27 (ix2 0 q)) k = ix2 k q from Shape.idx_ext₂ rfl (by show 0 * 2048 + q.val = q.val; omega),
    val_main_v25_apply, val_main_v15_apply, val_main_v14_apply]
  exact congrArg₂ pr (congrArg₂ pr (ref13 x1 k q) (congrArg x2 (Shape.idx_ext₂ rfl rfl))) (ref22 x0 k q)

theorem ref32 (q : Fin 2048) : val_main_v32 (F := Ideal) x0 x1 x3 (ix2 0 q)
    = ∑ i : Fin 4096, pr (pr (x1 (ix2 i q)) (rs fun k => x1 (ix2 i k)))
        (pr (x0 (ix2 i q)) (plus (Ideal.ofBits .f32 0x3F800000#32) (x3 (ix2 0 q)))) := by
  rw [val_main_v32_apply, val_main_v31_apply]
  refine (congrArg (· + _) Ideal.ofBits_zero_f32).trans ((zero_add _).trans (Finset.sum_congr rfl fun k _ => ?_))
  rw [show idx_main_v31 (idx_main_v32 (ix2 0 q)) k = ix2 k q from Shape.idx_ext₂ rfl (by show 0 * 2048 + q.val = q.val; omega),
    val_main_v30_apply]
  exact congrArg₂ pr (ref13 x1 k q) (ref29 x0 x3 k q)

theorem ref58 (i : Fin 4096) (q : Fin 2048) : val_main_v58 (F := Ideal) x0 x1 x2 x3 x4 x6 (ix2 i q)
    = pr (x6 (ix2 0 q)) (val_main_v49 (F := Ideal) x0 x1 x2 x3 x4 (ix2 i q)) := by
  rw [val_main_v58_apply, val_main_v54_apply, val_main_v53_apply]
  exact congrArg (fun z => pr z _) (congrArg x6 (Shape.idx_ext₂ rfl rfl))

theorem ref57 (q : Fin 2048) : val_main_v57 (F := Ideal) x0 x1 x2 x3 x4 x5 (ix2 0 q)
    = ∑ i : Fin 4096, pr (val_main_v49 (F := Ideal) x0 x1 x2 x3 x4 (ix2 i q)) (x5 (ix2 i q)) := by
  rw [val_main_v57_apply, val_main_v56_apply]
  refine (congrArg (· + _) Ideal.ofBits_zero_f32).trans ((zero_add _).trans (Finset.sum_congr rfl fun k _ => ?_))
  rw [show idx_main_v56 (idx_main_v57 (ix2 0 q)) k = ix2 k q from Shape.idx_ext₂ rfl (by show 0 * 2048 + q.val = q.val; omega),
    val_main_v55_apply]
  rfl

end Ref

/-- The reference's six results on the arguments of device `c`. -/
abbrev R7 (c : Dev nD) : Vec Ideal S4096x2048 .f32 :=
  val_main_v49 (F := Ideal) (A0 m c) (A1 m c) (A2 m c) (A3 m c) (A4 m c)
abbrev R8 (c : Dev nD) : Vec Ideal S1x2048 .f32 := val_main_v24 (F := Ideal) (A0 m c)
abbrev R9 (c : Dev nD) : Vec Ideal S1x2048 .f32 := val_main_v27 (F := Ideal) (A0 m c) (A1 m c) (A2 m c)
abbrev R10 (c : Dev nD) : Vec Ideal S1x2048 .f32 := val_main_v32 (F := Ideal) (A0 m c) (A1 m c) (A3 m c)

abbrev R11 (c : Dev nD) : Vec Ideal S4096x2048 .bf16 :=
  val_main_v58 (F := Ideal) (A0 m c) (A1 m c) (A2 m c) (A3 m c) (A4 m c) (A6 m c)
abbrev R12 (c : Dev nD) : Vec Ideal S1x2048 .f32 :=
  val_main_v57 (F := Ideal) (A0 m c) (A1 m c) (A2 m c) (A3 m c) (A4 m c) (A5 m c)

theorem one_real : Real' (Ideal.ofBits .f32 0x3F800000#32) := ⟨1, Ideal.ofBits_one_f32.trans EReal.coe_one.symm⟩

variable {m}

theorem real_x {c : Dev nD} (h : AllReal m c) (i : Fin 4096) (q : Fin 2048) :
    Real' (pr (A1 m c (ix2 i q)) (rs fun k => A1 m c (ix2 i k))) := real_pr (h.2.1 _) (real_rs fun _ => h.2.1 _)

theorem real_u {c : Dev nD} (h : AllReal m c) (i : Fin 4096) (q : Fin 2048) : Real' (rowU (A0 m c) (A2 m c) (A3 m c) i q) :=
  real_pr (real_pr (h.1 _) (real_plus one_real (h.2.2.2.1 _))) (h.2.2.1 _)

theorem real_f7 {c : Dev nD} (h : AllReal m c) (q : Fin 2048) (i : Fin 4096) : Real' (f7 m c q i) := real_pr (h.1 _) (real_x h i q)

variable (m)

theorem emb7 (t : Fin cfg0.N) (r : Fin 512) (q : Fin 2048) : (win0_7.rect t).emb (ix2 r q) = ix2 (row t.val (lt8 t) r) q := by
  refine Shape.idx_ext₂ ?_ ?_
  · rw [win0_7.rect_emb_val t, (idx_facts t).2.2.2.2.2.2.2.1.1]; rfl
  · rw [win0_7.rect_emb_val t, (idx_facts t).2.2.2.2.2.2.2.1.2]
    show 0 * 2048 + q.val = q.val
    omega

/-- The row gradient a block holds is the reference's. -/
theorem row_eq (c : Dev nD) (h : AllReal m c) (t : Fin cfg0.N) (r : Fin 512) (q : Fin 2048) :
    k0_pay1 (iblk m c 0 t) (iblk m c 2 t) (k0_pay10 (iblk m c 3 t)) (k0_pay11 (iblk m c 1 t))
        (k0_pay12 (iblk m c 1 t)) (iblk m c 4 t) (ix2 r q)
      = R7 m c (ix2 (row t.val (lt8 t) r) q) := by
  refine (pay1_apply _ _ _ _ _ r q).trans (Eq.trans ?_ (ref49 (A0 m c) (A1 m c) (A2 m c) (A3 m c) (A4 m c) _ q).symm)
  refine congrArg₂ plus (iblk4_apply m c t r q) (Eq.trans ?_ (kern_eq (fun k => h.2.1 _) (real_u h _) q))
  refine congrArg₂ (fun X U => kern X U q) (funext fun k => iblk1_apply m c t r k) (funext fun k => ?_)
  rw [iblk0_apply, iblk2_apply, iblk3_apply]
  exact u_eq _ _ _

theorem flushed7_eq (c : Dev nD) (h : AllReal m c) (t : Fin cfg0.N) (_hf : (cfg0.win 7).flush t = true) :
    (dats m 0 c).flushed 7 t = ((cfg0.win 7).blk t).view.read (Elt Ideal) (R7 m c) := by
  rw [Value.flushed7]
  funext e
  obtain ⟨r, q, rfl⟩ : ∃ (r : Fin 512) (q : Fin 2048), e = ix2 r q := ⟨e 0, e 1, eq_ix2 e⟩
  show (outsAt0 m c t.val t.isLt).1 (ix2 r q) = R7 m c ((win0_7.rect t).emb (ix2 r q))
  rw [emb7 t, outs7 m c t]
  exact row_eq m c h t r q

/-- The gradient in the rows. -/
theorem final7 (c : Dev nD) (h : AllReal m c) : (dats m 0 c).arrAt 7 cfg0.N = R7 m c :=
  (dats m 0 c).arrAt_eq_of_cover 7 (R7 m c) (flushed7_eq m c h) (Pipeline.Window.Covers.cover _ (by decide +kernel) (Memref.isWhole_whole _))

theorem emb8 (t : Fin cfg0.N) (q : Fin 2048) : (win0_8.rect t).emb (ix2 0 q) = ix2 0 q := by
  refine Shape.idx_ext₂ ?_ ?_
  · rw [win0_8.rect_emb_val t, (idx_facts t).2.2.2.2.2.2.2.2.1.1]; rfl
  · rw [win0_8.rect_emb_val t, (idx_facts t).2.2.2.2.2.2.2.2.1.2]
    show 0 * 2048 + q.val = q.val
    omega

theorem flushed8_eq (c : Dev nD) (t : Fin cfg0.N) (hf : (cfg0.win 8).flush t = true) :
    (dats m 0 c).flushed 8 t = ((cfg0.win 8).blk t).view.read (Elt Ideal) (R8 m c) := by
  have h7 : t.val = 7 := by
    have := (flush0_8 t).mp hf
    have := lt8 t
    omega
  rw [Value.flushed8]
  funext e
  obtain ⟨q, rfl⟩ : ∃ q : Fin 2048, e = ix2 0 q := ⟨e 1, (eq_ix2 e).trans (Shape.idx_ext₂ (by have : (e 0).val < 1 := (e 0).isLt; show (e 0).val = 0; omega) rfl)⟩
  show (outsAt0 m c t.val t.isLt).2.1 (ix2 0 q) = R8 m c ((win0_8.rect t).emb (ix2 0 q))
  rw [emb8 t]
  obtain ⟨n, hn⟩ := t
  obtain ⟨k, rfl⟩ : ∃ k, n = k + 1 := ⟨n - 1, by dsimp only at h7; omega⟩
  dsimp only at h7 ⊢
  exact (last6 m c q k hn h7).trans (ref24 (A0 m c) q).symm

/-- The gradient in the shift. -/
theorem final8 (c : Dev nD) : (dats m 0 c).arrAt 8 cfg0.N = R8 m c :=
  (dats m 0 c).arrAt_eq_of_cover 8 (R8 m c) (flushed8_eq m c) (Pipeline.Window.Covers.cover _ (by decide +kernel) (Memref.isWhole_whole _))

theorem emb9 (t : Fin cfg0.N) (q : Fin 2048) : (win0_9.rect t).emb (ix2 0 q) = ix2 0 q := by
  refine Shape.idx_ext₂ ?_ ?_
  · rw [win0_9.rect_emb_val t, (idx_facts t).2.2.2.2.2.2.2.2.2.1.1]; rfl
  · rw [win0_9.rect_emb_val t, (idx_facts t).2.2.2.2.2.2.2.2.2.1.2]
    show 0 * 2048 + q.val = q.val
    omega

theorem flushed9_eq (c : Dev nD) (h : AllReal m c) (t : Fin cfg0.N) (hf : (cfg0.win 9).flush t = true) :
    (dats m 0 c).flushed 9 t = ((cfg0.win 9).blk t).view.read (Elt Ideal) (R9 m c) := by
  have h7 : t.val = 7 := by
    have := (flush0_9 t).mp hf
    have := lt8 t
    omega
  rw [Value.flushed9]
  funext e
  obtain ⟨q, rfl⟩ : ∃ q : Fin 2048, e = ix2 0 q := ⟨e 1, (eq_ix2 e).trans (Shape.idx_ext₂ (by have : (e 0).val < 1 := (e 0).isLt; show (e 0).val = 0; omega) rfl)⟩
  show (outsAt0 m c t.val t.isLt).2.2.1 (ix2 0 q) = R9 m c ((win0_9.rect t).emb (ix2 0 q))
  rw [emb9 t]
  obtain ⟨n, hn⟩ := t
  obtain ⟨k, rfl⟩ : ∃ k, n = k + 1 := ⟨n - 1, by dsimp only at h7; omega⟩
  dsimp only at h7 ⊢
  refine (last7 m c q k hn h7).trans (Eq.trans ?_ (ref27 (A0 m c) (A1 m c) (A2 m c) q).symm)
  refine (sum_pr _ (real_f7 h q) (h.2.2.1 _)).trans (Finset.sum_congr rfl fun i _ => swap7 _ _ _)

/-- The gradient in the scale. -/
theorem final9 (c : Dev nD) (h : AllReal m c) : (dats m 0 c).arrAt 9 cfg0.N = R9 m c :=
  (dats m 0 c).arrAt_eq_of_cover 9 (R9 m c) (flushed9_eq m c h) (Pipeline.Window.Covers.cover _ (by decide +kernel) (Memref.isWhole_whole _))

theorem emb10 (t : Fin cfg0.N) (q : Fin 2048) : (win0_10.rect t).emb (ix2 0 q) = ix2 0 q := by
  refine Shape.idx_ext₂ ?_ ?_
  · rw [win0_10.rect_emb_val t, (idx_facts t).2.2.2.2.2.2.2.2.2.2.1.1]; rfl
  · rw [win0_10.rect_emb_val t, (idx_facts t).2.2.2.2.2.2.2.2.2.2.1.2]
    show 0 * 2048 + q.val = q.val
    omega

theorem flushed10_eq (c : Dev nD) (h : AllReal m c) (t : Fin cfg0.N) (hf : (cfg0.win 10).flush t = true) :
    (dats m 0 c).flushed 10 t = ((cfg0.win 10).blk t).view.read (Elt Ideal) (R10 m c) := by
  have h7 : t.val = 7 := by
    have := (flush0_10 t).mp hf
    have := lt8 t
    omega
  rw [Value.flushed10]
  funext e
  obtain ⟨q, rfl⟩ : ∃ q : Fin 2048, e = ix2 0 q := ⟨e 1, (eq_ix2 e).trans (Shape.idx_ext₂ (by have : (e 0).val < 1 := (e 0).isLt; show (e 0).val = 0; omega) rfl)⟩
  show (outsAt0 m c t.val t.isLt).2.2.2.1 (ix2 0 q) = R10 m c ((win0_10.rect t).emb (ix2 0 q))
  rw [emb10 t]
  obtain ⟨n, hn⟩ := t
  obtain ⟨k, rfl⟩ : ∃ k, n = k + 1 := ⟨n - 1, by dsimp only at h7; omega⟩
  dsimp only at h7 ⊢
  refine (last8 m c q k hn h7).trans (Eq.trans ?_ (ref32 (A0 m c) (A1 m c) (A3 m c) q).symm)
  refine (sum_pr _ (real_f7 h q) (real_plus one_real (h.2.2.2.1 _))).trans (Finset.sum_congr rfl fun i _ => swap8 _ _ _)

/-- The gradient in the norm's weight. -/
theorem final10 (c : Dev nD) (h : AllReal m c) : (dats m 0 c).arrAt 10 cfg0.N = R10 m c :=
  (dats m 0 c).arrAt_eq_of_cover 10 (R10 m c) (flushed10_eq m c h) (Pipeline.Window.Covers.cover _ (by decide +kernel) (Memref.isWhole_whole _))

theorem emb11 (t : Fin cfg0.N) (r : Fin 512) (q : Fin 2048) : (win0_11.rect t).emb (ix2 r q) = ix2 (row t.val (lt8 t) r) q := by
  refine Shape.idx_ext₂ ?_ ?_
  · rw [win0_11.rect_emb_val t, (idx_facts t).2.2.2.2.2.2.2.2.2.2.2.1.1]; rfl
  · rw [win0_11.rect_emb_val t, (idx_facts t).2.2.2.2.2.2.2.2.2.2.2.1.2]
    show 0 * 2048 + q.val = q.val
    omega

theorem flushed11_eq (c : Dev nD) (h : AllReal m c) (t : Fin cfg0.N) (_hf : (cfg0.win 11).flush t = true) :
    (dats m 0 c).flushed 11 t = ((cfg0.win 11).blk t).view.read (Elt Ideal) (R11 m c) := by
  rw [Value.flushed11]
  funext e
  obtain ⟨r, q, rfl⟩ : ∃ (r : Fin 512) (q : Fin 2048), e = ix2 r q := ⟨e 0, e 1, eq_ix2 e⟩
  show (outsAt0 m c t.val t.isLt).2.2.2.2.1 (ix2 r q) = R11 m c ((win0_11.rect t).emb (ix2 r q))
  rw [emb11 t, outs11 m c t]
  refine (pay2_apply _ _ _ _ _ _ r q).trans (Eq.trans ?_ (ref58 (A0 m c) (A1 m c) (A2 m c) (A3 m c) (A4 m c) (A6 m c) _ q).symm)
  exact (congrArg₂ pr (row_eq m c h t r q) (iblk6_apply m c t q)).trans (mul_comm _ _)

/-- The gradient in the mixer's output, in the narrow type. -/
theorem final11 (c : Dev nD) (h : AllReal m c) : (dats m 0 c).arrAt 11 cfg0.N = R11 m c :=
  (dats m 0 c).arrAt_eq_of_cover 11 (R11 m c) (flushed11_eq m c h) (Pipeline.Window.Covers.cover _ (by decide +kernel) (Memref.isWhole_whole _))

/-- The column terms of the row gradient times the mixer's output. -/
abbrev f12 (c : Dev nD) (q : Fin 2048) (i : Fin 4096) : EReal := pr (R7 m c (ix2 i q)) (A5 m c (ix2 i q))

theorem block12 (c : Dev nD) (h : AllReal m c) (n : ℕ) (hn : n < cfg0.N) (q : Fin 2048) (k : Fin 512) :
    pr (k0_pay1 (iblk m c 0 ⟨n, hn⟩) (iblk m c 2 ⟨n, hn⟩) (k0_pay10 (iblk m c 3 ⟨n, hn⟩)) (k0_pay11 (iblk m c 1 ⟨n, hn⟩))
        (k0_pay12 (iblk m c 1 ⟨n, hn⟩)) (iblk m c 4 ⟨n, hn⟩) (ix2 k q)) (iblk m c 5 ⟨n, hn⟩ (ix2 k q))
      = tot (f12 m c q) (512 * n + k.val) := by
  refine Eq.trans ?_ ((tot_of (f12 m c q) (row n (lt8 ⟨n, hn⟩) k)).symm.trans
    (congrArg (tot (f12 m c q)) (show n * 512 + k.val = 512 * n + k.val by omega)))
  exact congrArg₂ pr (row_eq m c h ⟨n, hn⟩ k q) (iblk5_apply m c ⟨n, hn⟩ k q)

theorem sumG (c : Dev nD) (hr : AllReal m c) (q : Fin 2048) : ∀ (n : ℕ) (h : n < cfg0.N),
    (outsAt0 m c n h).2.2.2.2.2 (ix2 0 q) = ∑ j ∈ Finset.range (512 * (n + 1)), tot (f12 m c q) j
  | 0, h => by
    refine (congrFun (outs_A m c ⟨0, h⟩ rfl).2.2.2.2 (ix2 0 q)).trans
      ((pay3_apply _ _ _ _ _ _ _ q).trans ?_)
    rw [zero_word (k0_pay9 (F := Ideal)) (fun _ => rfl) q (tot (f12 m c q))]
    exact tot_step _ 0 _ (block12 m c hr 0 h q)
  | n + 1, h => by
    have hN := lt8 ⟨n + 1, h⟩
    dsimp only at hN
    have ih := sumG c hr q n (Nat.lt_of_succ_lt h)
    by_cases h1 : (n + 1) % 8 = 7
    · refine (congrFun (outs_C m c ⟨n + 1, h⟩ (by dsimp only; omega) h1).2.2.2.2.2 (ix2 0 q)).trans
        ((pay3_apply _ _ _ _ _ _ _ q).trans ?_)
      exact (congrArg (fun z => plus z _) ih).trans (tot_step _ (n + 1) _ (block12 m c hr (n + 1) h q))
    · refine (congrFun (outs_B m c ⟨n + 1, h⟩ (by dsimp only; omega) h1).2.2.2.2 (ix2 0 q)).trans
        ((pay3_apply _ _ _ _ _ _ _ q).trans ?_)
      exact (congrArg (fun z => plus z _) ih).trans (tot_step _ (n + 1) _ (block12 m c hr (n + 1) h q))

theorem last12 (c : Dev nD) (hr : AllReal m c) (q : Fin 2048) (n : ℕ) (h : n + 1 < cfg0.N) (hn : n + 1 = 7) :
    (outsAt0 m c (n + 1) h).2.2.2.2.2 (ix2 0 q) = ∑ i : Fin 4096, f12 m c q i := by
  rw [sumG m c hr q (n + 1) h, show 512 * (n + 1 + 1) = 4096 by omega, tot_sum]

theorem emb12 (t : Fin cfg0.N) (q : Fin 2048) : (win0_12.rect t).emb (ix2 0 q) = ix2 0 q := by
  refine Shape.idx_ext₂ ?_ ?_
  · rw [win0_12.rect_emb_val t, (idx_facts t).2.2.2.2.2.2.2.2.2.2.2.2.1]; rfl
  · rw [win0_12.rect_emb_val t, (idx_facts t).2.2.2.2.2.2.2.2.2.2.2.2.2]
    show 0 * 2048 + q.val = q.val
    omega

theorem flushed12_eq (c : Dev nD) (h : AllReal m c) (t : Fin cfg0.N) (hf : (cfg0.win 12).flush t = true) :
    (dats m 0 c).flushed 12 t = ((cfg0.win 12).blk t).view.read (Elt Ideal) (R12 m c) := by
  have h7 : t.val = 7 := by
    have := (flush0_12 t).mp hf
    have := lt8 t
    omega
  rw [Value.flushed12]
  funext e
  obtain ⟨q, rfl⟩ : ∃ q : Fin 2048, e = ix2 0 q := ⟨e 1, (eq_ix2 e).trans (Shape.idx_ext₂ (by have : (e 0).val < 1 := (e 0).isLt; show (e 0).val = 0; omega) rfl)⟩
  show (outsAt0 m c t.val t.isLt).2.2.2.2.2 (ix2 0 q) = R12 m c ((win0_12.rect t).emb (ix2 0 q))
  rw [emb12 t]
  obtain ⟨n, hn⟩ := t
  obtain ⟨k, rfl⟩ : ∃ k, n = k + 1 := ⟨n - 1, by dsimp only at h7; omega⟩
  dsimp only at h7 ⊢
  exact (last12 m c h q k hn h7).trans (ref57 (A0 m c) (A1 m c) (A2 m c) (A3 m c) (A4 m c) (A5 m c) q).symm

/-- The gradient in the gate. -/
theorem final12 (c : Dev nD) (h : AllReal m c) : (dats m 0 c).arrAt 12 cfg0.N = R12 m c :=
  (dats m 0 c).arrAt_eq_of_cover 12 (R12 m c) (flushed12_eq m c h) (Pipeline.Window.Covers.cover _ (by decide +kernel) (Memref.isWhole_whole _))

end Cert.Kernel35Ideal.FfnBwd

end
-- ==== Proof.NormFfnBwdClaim.lean ====
/-
  The value claim about the gradient of the second norm and its modulation, with that of the gated residual before it.
-/
module

public import proofs.«01_k».proof.Defs
public import proofs.«01_k».proof.Proof.Gen.Pre_finite35
public import proofs.«01_k».proof.Proof.NormFfnBwd

@[expose] public section

set_option maxRecDepth 16384

noncomputable section

open Idealize.ShloMosaic Idealize.ShloMosaic.TcCoe Idealize.SL.Sem

namespace Cert.NormFfnBwdClaim

open Cert.Reference35Ideal.Read

open Cert.Kernel35Ideal.FfnBwd Cert.Finite

/-- The stated precondition says that every entry of every argument is a real number. -/
theorem allReal (m : (ℓ : Loc Cert.Kernel35Ideal.nD Cert.Kernel35Ideal.τ Cert.Kernel35Ideal.sig) → Buf (Elt Ideal) ℓ)
    (h : Cert.Pre_Kernel35Ideal_finite35 m) (c : Dev Cert.Kernel35Ideal.nD) : AllReal m c := by
  obtain ⟨h0, h1, h2, h3, h4, _, _⟩ := h c
  exact ⟨fun i => real_of_mask (congrFun h0 i), fun i => real_of_mask (congrFun h1 i), fun i => real_of_mask (congrFun h2 i),
    fun i => real_of_mask (congrFun h3 i), fun i => real_of_mask (congrFun h4 i)⟩

/-- On real arguments the kernel and the reference end with equal results: the gradients in the rows, in the shift, in the scale, in
    the norm's weight, in the mixer's output and in its gate. -/
theorem algebraic : Cert.algebraic_Kernel35Ideal_Reference35Ideal_pre_finite35 := by
  intro m ρ m' ρ' hpre hagree
  refine ⟨R7 m, R8 m, R9 m, R10 m, R11 m, R12 m, ?_, ?_⟩
  · refine (θ_run _ _ _).mono (fun r h c => ?_) (Cert.Kernel35Ideal.Value.run_blocks (F := Ideal) m ρ)
    obtain ⟨h7, h8, h9, h10, h11, h12, hargs⟩ := h c
    have hr := allReal m hpre c
    exact ⟨h7.trans (final7 m c hr), h8.trans (final8 m c), h9.trans (final9 m c hr), h10.trans (final10 m c hr), h11.trans (final11 m c hr),
      h12.trans (final12 m c hr), hargs⟩
  · refine (θ_run _ _ _).mono (fun r h c => ?_) (Cert.Reference35Ideal.Value.run (F := Ideal) m' ρ')
    obtain ⟨e0, e1, e2, e3, e4, e5, e6⟩ := hagree c
    obtain ⟨h0, h1, h2, h3, h4, h5, hargs⟩ := h c
    rw [val_main_v49_eq, e0, e1, e2, e3, e4] at h0
    have k1 := h1.trans (val_main_v24_eq (F := Ideal) _)
    have k2 := h2.trans (val_main_v27_eq (F := Ideal) _ _ _)
    have k3 := h3.trans (val_main_v32_eq (F := Ideal) _ _ _)
    rw [e0] at k1
    rw [e0, e1, e2] at k2
    rw [e0, e1, e3] at k3
    rw [val_main_v58_eq, e0, e1, e2, e3, e4, e6] at h4
    rw [val_main_v57_eq, e0, e1, e2, e3, e4, e5] at h5
    exact ⟨h0, k1, k2, k3, h4, h5, hargs⟩

end Cert.NormFfnBwdClaim

end
-- ==== Proof.SmallReduce.lean ====
/-
  The sums over the devices: the kernel adds the eight rows of the packed parts, and each slice the host takes of the
  total is the sum over the devices of the part packed there.
-/
module

public import proofs.«01_k».proof.Proof.Products
public import proofs.«01_k».proof.Proof.Gen.Kernel36Ideal.Frame
public import Idealize.ShloMosaic.Lib.Pipeline.Value
public import Idealize.ShloMosaic.Lib.Pipeline.ValueKit.Tiles
public import Idealize.ShloMosaic.Lib.KernelVsHost
public import proofs.«01_k».proof.Proof.Gen.Reference36Ideal.Run
public import proofs.«01_k».proof.Proof.Gen.Reference36Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel36Ideal.SmallReduce

open Cert.Kernel36Ideal Cert.Kernel36Ideal.Gen Cert.Reference36Ideal.Read Cert.Products

variable (m : (ℓ : Loc nD τ sig) → Buf (Elt Ideal) ℓ) (ρ : Dev nD → PrngReg)

/-- The eight arguments on device `c`: row `k` of each is device `k`'s part. -/
abbrev A0 (c : Dev nD) : Vec Ideal S8x12288 .f32 := m ((c : Thread nD τ).loc main_arg0)
abbrev A1 (c : Dev nD) : Vec Ideal S8x2048 .f32 := m ((c : Thread nD τ).loc main_arg1)
abbrev A2 (c : Dev nD) : Vec Ideal S8x2048 .f32 := m ((c : Thread nD τ).loc main_arg2)
abbrev A3 (c : Dev nD) : Vec Ideal S8x2048 .f32 := m ((c : Thread nD τ).loc main_arg3)
abbrev A4 (c : Dev nD) : Vec Ideal S8x1024 .f32 := m ((c : Thread nD τ).loc main_arg4)
abbrev A5 (c : Dev nD) : Vec Ideal S8x128 .f32 := m ((c : Thread nD τ).loc main_arg5)
abbrev A6 (c : Dev nD) : Vec Ideal S8x3x1024 .f32 := m ((c : Thread nD τ).loc main_arg6)
abbrev A7 (c : Dev nD) : Vec Ideal S8x128 .f32 := m ((c : Thread nD τ).loc main_arg7)

/-- The convolution's parts with their three taps laid side by side. -/
abbrev A6' (c : Dev nD) : Vec Ideal S8x3072 .f32 := shapeCast S8x3072 (A6 m c) shapeCasts_S8x3x1024_S8x3072

/-- The parts in the order they are packed. -/
abbrev parts (c : Dev nD) : List ((s : Shape) × (s.Idx → EReal)) :=
  [⟨S8x12288, A0 m c⟩, ⟨S8x2048, A1 m c⟩, ⟨S8x2048, A2 m c⟩, ⟨S8x2048, A3 m c⟩, ⟨S8x1024, A4 m c⟩, ⟨S8x128, A5 m c⟩,
    ⟨S8x3072, A6' m c⟩, ⟨S8x128, A7 m c⟩]

/-- What the host hands the kernel: the parts side by side, and zeros up to a multiple of the tile. -/
theorem V_v2 (c : Dev nD) : V m c main_v2 = pad S8x23552 ![0, 0] ![0, 768] ![0, 0]
    (concatenate S8x22784 1 (parts m c)
      concatenates_S8x12288_S8x2048_S8x2048_S8x2048_S8x1024_S8x128_S8x3072_S8x128_S8x22784_d1)
    (sitofp (F := Ideal) .f32 (constantI S_ 32 0#32)) pads_S8x22784_S8x23552_000_07680 h_S_ := by
  show StableHlo.after (List.flatten [hostOps0, hostOps0_1]) (fun b => m (c, b)) main_v2 = _
  unfold hostOps0 hostOps0_1
  simp only [List.flatten_cons, List.flatten_nil, List.append_nil, List.cons_append, List.nil_append]
  after_results
  rfl

/-- The packed array read inside one part. -/
theorem packed_apply (c : Dev nD) (n : ℕ) (hn : n < (parts m c).length) {W : ℕ} (x : (⟨2, ![8, W]⟩ : Shape).Idx → EReal)
    (hx : (parts m c)[n] = ⟨⟨2, ![8, W]⟩, x⟩) (pre : ℕ)
    (hpre : ((((parts m c).take n).map (·.1)).map fun s => if h : s.rank = S8x22784.rank then s.size ((1 : Fin 2).cast h.symm) else 0).sum = pre)
    (k : Fin 8) (j : Fin W) (q : Fin 23552) (hq : q.val = pre + j.val) (hlt : q.val < 22784) :
    V m c main_v2 (ix2 k q) = x (ix2 k j) := by
  rw [V_v2]
  refine (pad_apply_of_inside _ _ _ _ _ _ _ _ (ix2 k (⟨q.val, hlt⟩ : Fin 22784)) fun a => ?_).trans ?_
  · match a with
    | ⟨0, _⟩ => show k.val = 0 + k.val * 1; omega
    | ⟨1, _⟩ => show q.val = 0 + q.val * 1; omega
  · refine concatenate_apply_piece (t := S8x22784) (1 : Fin 2) (parts m c) _ (ix2 k (⟨q.val, hlt⟩ : Fin 22784)) n hn (⟨2, ![8, W]⟩ : Shape) x hx rfl pre hpre (ix2 k j) (fun b hb => ?_) hq.symm
    match b with
    | ⟨0, _⟩ => rfl
    | ⟨1, _⟩ => exact absurd rfl hb

/-- The kernel's result: the sum of the eight packed rows. -/
def total (c : Dev nD) : Vec Ideal S1x23552 .f32 := fun i => ∑ k : Fin 8, V m c main_v2 (ix2 k (i 1))

theorem idx_facts : ∀ t : Fin cfg0.N,
    (win0_0.index t 0 = 0 ∧ win0_0.index t 1 = 0) ∧ (win0_1.index t 0 = 0 ∧ win0_1.index t 1 = 0) :=
  (by decide +kernel : ∀ t : Fin grid0.N, _)

theorem iblk0_apply (c : Dev nD) (t : Fin cfg0.N) (k : Fin 8) (q : Fin 23552) :
    iblk m c 0 t (ix2 k q) = V m c main_v2 (ix2 k q) := by
  show V m c main_v2 ((win0_0.rect t).emb (ix2 k q)) = _
  refine congrArg (V m c main_v2) (Shape.idx_ext₂ ?_ ?_)
  · rw [win0_0.rect_emb_val t, (idx_facts t).1.1]
    show 0 * 8 + k.val = k.val
    omega
  · rw [win0_0.rect_emb_val t, (idx_facts t).1.2]
    show 0 * 23552 + q.val = q.val
    omega

/-- Row `o` of a block, loaded on its own. -/
theorem row_apply (x : Vec Ideal S8x23552 .f32) (o : ℕ) (k : Fin 8) (e : o = k.val)
    (inb) (q : Fin 23552) :
    View.ld x (Rect.unit (s := S8x23552) ![o, 0] S1x23552.size inb) (ix2 (0 : Fin 1) q) = x (ix2 k q) := by
  subst e
  refine View.ld_unit_apply_of x _ _ _ _ (ix2 k q) fun a => ?_
  match a with
  | ⟨0, _⟩ => show k.val = k.val + 0; omega
  | ⟨1, _⟩ => show q.val = 0 + q.val; omega

/-- What the body stores, at a column: the eight rows' entries added. -/
theorem body_apply (x : Vec Ideal S8x23552 .f32) (q : Fin 23552) :
    k0_pay1 (View.ld x r0_0) (View.ld x r0_1) (View.ld x r0_2) (View.ld x r0_3) (View.ld x r0_4) (View.ld x r0_5)
      (View.ld x r0_6) (View.ld x r0_7) (ix2 (0 : Fin 1) q) = ∑ k : Fin 8, x (ix2 k q) := by
  unfold k0_pay1
  simp only [shapeCast_self]
  rw [Fin.sum_univ_eight]
  refine congrArg₂ (fun a b : EReal => a + b) (congrArg₂ (fun a b : EReal => a + b) (congrArg₂ (fun a b : EReal => a + b)
    (congrArg₂ (fun a b : EReal => a + b) (congrArg₂ (fun a b : EReal => a + b) (congrArg₂ (fun a b : EReal => a + b)
    (congrArg₂ (fun a b : EReal => a + b) ?_ ?_) ?_) ?_) ?_) ?_) ?_) ?_
  · exact row_apply x 0 0 rfl _ q
  · exact row_apply x 1 1 rfl _ q
  · exact row_apply x 2 2 rfl _ q
  · exact row_apply x 3 3 rfl _ q
  · exact row_apply x 4 4 rfl _ q
  · exact row_apply x 5 5 rfl _ q
  · exact row_apply x 6 6 rfl _ q
  · exact row_apply x 7 7 rfl _ q

/-- The one point writes back the total. -/
theorem flushed1_eq (c : Dev nD) (t : Fin cfg0.N) :
    (dats m 0 c).flushed 1 t = ((cfg0.win 1).blk t).view.read (Elt Ideal) (total m c) := by
  show (cfg0.win 1).cut (grid0.coords t) ((dats m 0 c).after 1 t) = _
  rw [after0_1]
  unfold out0_1
  rw [View.canon_unit_zero hz]
  funext j
  obtain ⟨r, q, rfl⟩ : ∃ (r : Fin 1) (q : Fin 23552), j = ix2 r q := ⟨j 0, j 1, eq_ix2 j⟩
  obtain rfl : r = 0 := Subsingleton.elim _ _
  have e : ((win0_1.rect t).emb (ix2 (0 : Fin 1) q)) 1 = q := Fin.ext (by
    rw [win0_1.rect_emb_val t, (idx_facts t).2.2]
    show 0 * 23552 + q.val = q.val
    omega)
  refine (body_apply (iblk m c 0 t) q).trans ?_
  show _ = total m c ((win0_1.rect t).emb (ix2 (0 : Fin 1) q))
  unfold total
  rw [e]
  exact Finset.sum_congr rfl fun k _ => iblk0_apply m c t k q

theorem final1 (c : Dev nD) : (dats m 0 c).arrAt 1 cfg0.N = total m c :=
  (dats m 0 c).arrAt_eq_of_cover 1 (total m c) (fun t _ => flushed1_eq m c t) (Pipeline.Window.Covers.cover _ (by decide +kernel) (Memref.isWhole_whole _))

/-- The buffers after the region hold the total in the kernel's result. -/
theorem region_total (c : Dev nD) : Pipeline.withArrays (cfgs 0).spec c (V0 m c) (fun w => (dats m 0 c).arrAt w (cfgs 0).N) (Proc.devRef .tc main_v3) = total m c :=
  (Pipeline.withArrays_arr spec0 winFacts0.arr_inj c (V0 m c) _ 1).trans (final1 m c)

/-- The first six slices the host takes of the total. -/
theorem tails (c : Dev nD) :
    Pipeline.afterTail₀ cfgs (dats m) 0 (V0 m) [hostOps1] c main_v4 = extractStridedSlice S1x12288 ![0, 0] (total m c) slices_S1x23552_S1x12288_0_0
    ∧ Pipeline.afterTail₀ cfgs (dats m) 0 (V0 m) [hostOps1] c main_v5 = extractStridedSlice S1x2048 ![0, 12288] (total m c) slices_S1x23552_S1x2048_0_12288
    ∧ Pipeline.afterTail₀ cfgs (dats m) 0 (V0 m) [hostOps1] c main_v6 = extractStridedSlice S1x2048 ![0, 14336] (total m c) slices_S1x23552_S1x2048_0_14336
    ∧ Pipeline.afterTail₀ cfgs (dats m) 0 (V0 m) [hostOps1] c main_v7 = extractStridedSlice S1x2048 ![0, 16384] (total m c) slices_S1x23552_S1x2048_0_16384
    ∧ Pipeline.afterTail₀ cfgs (dats m) 0 (V0 m) [hostOps1] c main_v8 = extractStridedSlice S1x1024 ![0, 18432] (total m c) slices_S1x23552_S1x1024_0_18432
    ∧ Pipeline.afterTail₀ cfgs (dats m) 0 (V0 m) [hostOps1] c main_v9 = extractStridedSlice S1x128 ![0, 19456] (total m c) slices_S1x23552_S1x128_0_19456 := by
  rw [← region_total m c]
  unfold Pipeline.afterTail₀
  generalize Pipeline.withArrays (cfgs 0).spec c (V0 m c) (fun w => (dats m 0 c).arrAt w (cfgs 0).N) = U
  simp only [List.flatten_cons, List.flatten_nil, List.append_nil]
  refine ⟨?_, ?_, ?_, ?_, ?_, ?_⟩ <;> after_results

/-- The two slices that are reshaped. -/
theorem tail_v12 (c : Dev nD) : Pipeline.afterTail₀ cfgs (dats m) 0 (V0 m) [hostOps1] c main_v12
    = shapeCast S3x1024 (extractStridedSlice S1x3072 ![0, 19584] (total m c) slices_S1x23552_S1x3072_0_19584) shapeCasts_S1x3072_S3x1024 := by
  rw [← region_total m c]
  unfold Pipeline.afterTail₀
  generalize Pipeline.withArrays (cfgs 0).spec c (V0 m c) (fun w => (dats m 0 c).arrAt w (cfgs 0).N) = U
  simp only [List.flatten_cons, List.flatten_nil, List.append_nil]
  after_results
  rfl

/-- The loss is one entry of the last slice. -/
theorem tail_v14 (c : Dev nD) : Pipeline.afterTail₀ cfgs (dats m) 0 (V0 m) [hostOps1] c main_v14
    = shapeCast S_ (extractStridedSlice S1x1 ![0, 0] (extractStridedSlice S1x128 ![0, 22656] (total m c)
      slices_S1x23552_S1x128_0_22656) slices_S1x128_S1x1_0_0) shapeCasts_S1x1_S_ := by
  rw [← region_total m c]
  unfold Pipeline.afterTail₀
  generalize Pipeline.withArrays (cfgs 0).spec c (V0 m c) (fun w => (dats m 0 c).arrAt w (cfgs 0).N) = U
  simp only [List.flatten_cons, List.flatten_nil, List.append_nil]
  after_results
  rfl

/-- The reference's eight results on the arguments of device `c`. -/
abbrev R0 (c : Dev nD) : Vec Ideal S1x12288 .f32 := val_main_v1 (F := Ideal) (A0 m c)
abbrev R1 (c : Dev nD) : Vec Ideal S1x2048 .f32 := val_main_v3 (F := Ideal) (A1 m c)
abbrev R2 (c : Dev nD) : Vec Ideal S1x2048 .f32 := val_main_v5 (F := Ideal) (A2 m c)
abbrev R3 (c : Dev nD) : Vec Ideal S1x2048 .f32 := val_main_v7 (F := Ideal) (A3 m c)
abbrev R4 (c : Dev nD) : Vec Ideal S1x1024 .f32 := val_main_v9 (F := Ideal) (A4 m c)
abbrev R5 (c : Dev nD) : Vec Ideal S1x128 .f32 := val_main_v11 (F := Ideal) (A5 m c)
abbrev R6 (c : Dev nD) : Vec Ideal S3x1024 .f32 := val_main_v12 (F := Ideal) (A6 m c)
abbrev R7 (c : Dev nD) : Vec Ideal S_ .f32 := val_main_v15 (F := Ideal) (A7 m c)

/-- A slice of the total, at a column of one part. -/
theorem slice_apply (c : Dev nD) (n : ℕ) (hn : n < (parts m c).length) {W : ℕ} (x : (⟨2, ![8, W]⟩ : Shape).Idx → EReal)
    (hx : (parts m c)[n] = ⟨⟨2, ![8, W]⟩, x⟩) (pre : ℕ)
    (hpre : ((((parts m c).take n).map (·.1)).map fun s => if h : s.rank = S8x22784.rank then s.size ((1 : Fin 2).cast h.symm) else 0).sum = pre)
    (hs : S1x23552.Slices ![0, pre] (⟨2, ![1, W]⟩ : Shape)) (hlt : pre + W ≤ 22784) (r : Fin 1) (j : Fin W) :
    extractStridedSlice (⟨2, ![1, W]⟩ : Shape) ![0, pre] (total m c) hs (ix2 r j) = ∑ k : Fin 8, x (ix2 k j) := by
  have hj := j.isLt
  refine (extractStridedSlice_apply ![0, pre] (total m c) hs (ix2 r j) (ix2 (0 : Fin 1) (⟨pre + j.val, by omega⟩ : Fin 23552)) fun a => ?_).trans ?_
  · match a with
    | ⟨0, _⟩ => show 0 = 0 + r.val; omega
    | ⟨1, _⟩ => show pre + j.val = pre + j.val; rfl
  · unfold total
    exact Finset.sum_congr rfl fun k _ => packed_apply m c n hn x hx pre hpre k j _ rfl (by show pre + j.val < 22784; omega)

/-- A sum that starts from a zero constant. -/
theorem zero_start {z : EReal} (hz : z = 0) (s : EReal) : z + s = s := by
  rw [hz, zero_add]

/-- A slice of the total is the row of sums over the devices `f` once each entry of `f` is that sum. -/
theorem row_eq (c : Dev nD) (n : ℕ) (hn : n < (parts m c).length) {W : ℕ} (x : (⟨2, ![8, W]⟩ : Shape).Idx → EReal)
    (hx : (parts m c)[n] = ⟨⟨2, ![8, W]⟩, x⟩) (pre : ℕ)
    (hpre : ((((parts m c).take n).map (·.1)).map fun s => if h : s.rank = S8x22784.rank then s.size ((1 : Fin 2).cast h.symm) else 0).sum = pre)
    (hs : S1x23552.Slices ![0, pre] (⟨2, ![1, W]⟩ : Shape)) (hlt : pre + W ≤ 22784) (f : (⟨2, ![1, W]⟩ : Shape).Idx → EReal)
    (hf : ∀ (r : Fin 1) (j : Fin W), f (ix2 r j) = Ideal.ofBits .f32 0x00000000#32 + ∑ k : Fin 8, x (ix2 k j)) :
    extractStridedSlice (⟨2, ![1, W]⟩ : Shape) ![0, pre] (total m c) hs = f := by
  funext i
  obtain ⟨r, j, rfl⟩ : ∃ (r : Fin 1) (j : Fin W), i = ix2 r j := ⟨i 0, i 1, eq_ix2 i⟩
  rw [slice_apply m c n hn x hx pre hpre hs hlt r j, hf r j]
  exact (zero_start Ideal.ofBits_zero_f32 _).symm

theorem out0_eq (c : Dev nD) : Pipeline.afterTail₀ cfgs (dats m) 0 (V0 m) [hostOps1] c main_v4 = R0 m c :=
  (tails m c).1.trans (row_eq m c 0 (by show (0 : ℕ) < 8; decide) (A0 m c) rfl 0 rfl _ (by decide) (R0 m c) fun r j => (val_main_v1_apply _ _).trans
    ((val_main_v0_apply _ _).trans (congrArg (_ + ·) (Finset.sum_congr rfl fun k _ => congrArg (A0 m c) (Shape.idx_ext₂ rfl rfl)))))

theorem out1_eq (c : Dev nD) : Pipeline.afterTail₀ cfgs (dats m) 0 (V0 m) [hostOps1] c main_v5 = R1 m c :=
  (tails m c).2.1.trans (row_eq m c 1 (by show (1 : ℕ) < 8; decide) (A1 m c) rfl 12288 rfl _ (by decide) (R1 m c) fun r j => (val_main_v3_apply _ _).trans
    ((val_main_v2_apply _ _).trans (congrArg (_ + ·) (Finset.sum_congr rfl fun k _ => congrArg (A1 m c) (Shape.idx_ext₂ rfl rfl)))))

theorem out2_eq (c : Dev nD) : Pipeline.afterTail₀ cfgs (dats m) 0 (V0 m) [hostOps1] c main_v6 = R2 m c :=
  (tails m c).2.2.1.trans (row_eq m c 2 (by show (2 : ℕ) < 8; decide) (A2 m c) rfl 14336 rfl _ (by decide) (R2 m c) fun r j => (val_main_v5_apply _ _).trans
    ((val_main_v4_apply _ _).trans (congrArg (_ + ·) (Finset.sum_congr rfl fun k _ => congrArg (A2 m c) (Shape.idx_ext₂ rfl rfl)))))

theorem out3_eq (c : Dev nD) : Pipeline.afterTail₀ cfgs (dats m) 0 (V0 m) [hostOps1] c main_v7 = R3 m c :=
  (tails m c).2.2.2.1.trans (row_eq m c 3 (by show (3 : ℕ) < 8; decide) (A3 m c) rfl 16384 rfl _ (by decide) (R3 m c) fun r j => (val_main_v7_apply _ _).trans
    ((val_main_v6_apply _ _).trans (congrArg (_ + ·) (Finset.sum_congr rfl fun k _ => congrArg (A3 m c) (Shape.idx_ext₂ rfl rfl)))))

theorem out4_eq (c : Dev nD) : Pipeline.afterTail₀ cfgs (dats m) 0 (V0 m) [hostOps1] c main_v8 = R4 m c :=
  (tails m c).2.2.2.2.1.trans (row_eq m c 4 (by show (4 : ℕ) < 8; decide) (A4 m c) rfl 18432 rfl _ (by decide) (R4 m c) fun r j => (val_main_v9_apply _ _).trans
    ((val_main_v8_apply _ _).trans (congrArg (_ + ·) (Finset.sum_congr rfl fun k _ => congrArg (A4 m c) (Shape.idx_ext₂ rfl rfl)))))

theorem out5_eq (c : Dev nD) : Pipeline.afterTail₀ cfgs (dats m) 0 (V0 m) [hostOps1] c main_v9 = R5 m c :=
  (tails m c).2.2.2.2.2.trans (row_eq m c 5 (by show (5 : ℕ) < 8; decide) (A5 m c) rfl 19456 rfl _ (by decide) (R5 m c) fun r j => (val_main_v11_apply _ _).trans
    ((val_main_v10_apply _ _).trans (congrArg (_ + ·) (Finset.sum_congr rfl fun k _ => congrArg (A5 m c) (Shape.idx_ext₂ rfl rfl)))))

theorem out6_eq (c : Dev nD) : Pipeline.afterTail₀ cfgs (dats m) 0 (V0 m) [hostOps1] c main_v12 = R6 m c := by
  rw [tail_v12]
  funext i
  obtain ⟨n, j, rfl⟩ : ∃ (n : Fin 3) (j : Fin 1024), i = ix2 n j := ⟨i 0, i 1, eq_ix2 i⟩
  have hn := n.isLt
  have hj := j.isLt
  refine (shapeCast_apply _ shapeCasts_S1x3072_S3x1024 (ix2 n j) (ix2 (0 : Fin 1) (⟨n.val * 1024 + j.val, by omega⟩ : Fin 3072)) (by
    rewrite [Shape.rowMajor_val_two, Shape.rowMajor_val_two]
    show 0 * 3072 + (n.val * 1024 + j.val) = n.val * 1024 + j.val
    omega)).trans ?_
  refine (slice_apply m c 6 (by show (6 : ℕ) < 8; decide) (A6' m c) rfl 19584 rfl _ (by decide) 0 _).trans ?_
  show _ = val_main_v12 (F := Ideal) (A6 m c) (ix2 n j)
  rw [val_main_v12_apply]
  refine ((zero_start Ideal.ofBits_zero_f32 _).trans ?_).symm
  refine Finset.sum_congr rfl fun k _ => ?_
  refine (shapeCast_apply (A6 m c) shapeCasts_S8x3x1024_S8x3072 _ (idx_main_v12 (ix2 n j) k) ?_).symm
  rewrite [Shape.rowMajor_val_two, Shape.rowMajor_val_three]
  show (k.val * 3 + n.val) * 1024 + j.val = k.val * 3072 + (n.val * 1024 + j.val)
  omega

theorem out7_eq (c : Dev nD) : Pipeline.afterTail₀ cfgs (dats m) 0 (V0 m) [hostOps1] c main_v14 = R7 m c := by
  rw [tail_v14]
  funext i
  refine (shapeCast_apply _ shapeCasts_S1x1_S_ i (ix2 (0 : Fin 1) (0 : Fin 1)) (by
    have h : (S_.rowMajor i).val < 1 := (S_.rowMajor i).isLt
    have h' : (S1x1.rowMajor (ix2 (0 : Fin 1) (0 : Fin 1))).val < 1 := (S1x1.rowMajor _).isLt
    omega)).trans ?_
  generalize hy : extractStridedSlice S1x128 ![0, 22656] (total m c) slices_S1x23552_S1x128_0_22656 = y
  refine (extractStridedSlice_apply ![0, 0] y slices_S1x128_S1x1_0_0 (ix2 (0 : Fin 1) (0 : Fin 1)) (ix2 (0 : Fin 1) (0 : Fin 128)) fun a => by
    match a with
    | ⟨0, _⟩ => rfl
    | ⟨1, _⟩ => rfl).trans ?_
  rw [← hy]
  have hx : (parts m c)[7] = ⟨(⟨2, ![8, 128]⟩ : Shape), A7 m c⟩ := rfl
  have e := slice_apply m c 7 (by show (7 : ℕ) < 8; decide) (A7 m c) hx 22656 (by simp [parts]) slices_S1x23552_S1x128_0_22656 (by omega) (0 : Fin 1) (0 : Fin 128)
  refine e.trans ?_
  show _ = val_main_v15 (F := Ideal) (A7 m c) i
  rw [val_main_v15_apply]
  refine ((zero_start Ideal.ofBits_zero_f32 _).trans ?_).symm
  refine Fintype.sum_equiv (⟨fun j => j 0, fun k => ix1 k, fun j => funext fun a => by fin_cases a; rfl, fun _ => rfl⟩ : Cert.Reference36Ideal.S8.Idx ≃ Fin 8) _ _ fun j => ?_
  rw [val_main_v14_apply, val_main_v13_apply]
  exact congrArg (A7 m c) (Shape.idx_ext₂ (Nat.div_one _) rfl)

/-- The launch ends with the eight sums at the reference's values and the arguments unchanged. -/
theorem run : θ_run defs (onTc (τ := τ) (main (F := Ideal))) ⟨m, fun _ => 0, ρ⟩ fun r => ∀ c : Dev nD,
      r.2.mem ((c : Thread nD τ).loc main_v4) = R0 m c
      ∧ r.2.mem ((c : Thread nD τ).loc main_v5) = R1 m c
      ∧ r.2.mem ((c : Thread nD τ).loc main_v6) = R2 m c
      ∧ r.2.mem ((c : Thread nD τ).loc main_v7) = R3 m c
      ∧ r.2.mem ((c : Thread nD τ).loc main_v8) = R4 m c
      ∧ r.2.mem ((c : Thread nD τ).loc main_v9) = R5 m c
      ∧ r.2.mem ((c : Thread nD τ).loc main_v12) = R6 m c
      ∧ r.2.mem ((c : Thread nD τ).loc main_v14) = R7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => by
    exact ⟨((h c).2 main_v4 (Pipeline.mem_restRefs_of main_v4 (by decide) (by decide))).trans (out0_eq m c),
      ((h c).2 main_v5 (Pipeline.mem_restRefs_of main_v5 (by decide) (by decide))).trans (out1_eq m c),
      ((h c).2 main_v6 (Pipeline.mem_restRefs_of main_v6 (by decide) (by decide))).trans (out2_eq m c),
      ((h c).2 main_v7 (Pipeline.mem_restRefs_of main_v7 (by decide) (by decide))).trans (out3_eq m c),
      ((h c).2 main_v8 (Pipeline.mem_restRefs_of main_v8 (by decide) (by decide))).trans (out4_eq m c),
      ((h c).2 main_v9 (Pipeline.mem_restRefs_of main_v9 (by decide) (by decide))).trans (out5_eq m c),
      ((h c).2 main_v12 (Pipeline.mem_restRefs_of main_v12 (by decide) (by decide))).trans (out6_eq m c),
      ((h c).2 main_v14 (Pipeline.mem_restRefs_of main_v14 (by decide) (by decide))).trans (out7_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩) (run_main m ρ)

end Cert.Kernel36Ideal.SmallReduce

end
-- ==== Proof.SmallReduceClaim.lean ====
/-
  The value claim about the sums over the devices.
-/
module

public import proofs.«01_k».proof.Defs
public import proofs.«01_k».proof.Proof.SmallReduce

@[expose] public section

set_option maxRecDepth 16384

noncomputable section

open Idealize.ShloMosaic Idealize.ShloMosaic.TcCoe Idealize.SL.Sem

namespace Cert.SmallReduceClaim

open Cert.Reference36Ideal.Read

open Cert.Kernel36Ideal.SmallReduce

/-- The kernel and the reference end with the same eight sums over the devices. -/
theorem algebraic : Cert.algebraic_Kernel36Ideal_Reference36Ideal := by
  intro m ρ m' ρ' _ hagree
  refine ⟨R0 m, R1 m, R2 m, R3 m, R4 m, R5 m, R6 m, R7 m, ?_, ?_⟩
  · exact run m ρ
  · refine (θ_run _ _ _).mono (fun r h c => ?_) (Cert.Reference36Ideal.Value.run (F := Ideal) m' ρ')
    obtain ⟨e0, e1, e2, e3, e4, e5, e6, e7⟩ := hagree c
    obtain ⟨h0, h1, h2, h3, h4, h5, h6, h7, hargs⟩ := h c
    rw [val_main_v1_eq, e0] at h0
    rw [val_main_v3_eq, e1] at h1
    rw [val_main_v5_eq, e2] at h2
    rw [val_main_v7_eq, e3] at h3
    rw [val_main_v9_eq, e4] at h4
    rw [val_main_v11_eq, e5] at h5
    rw [val_main_v12_eq, e6] at h6
    rw [val_main_v15_eq, e7] at h7
    exact ⟨h0, h1, h2, h3, h4, h5, h6, h7, hargs⟩

end Cert.SmallReduceClaim

end
-- ==== Proof.LbGrad.lean ====
/-
  The gradient in the lower bound's parameter: the kernel's two rows are the two rows of the softmax's gradient.
-/
module

public import proofs.«01_k».proof.Proof.NormGrad
public import proofs.«01_k».proof.Proof.Gen.Kernel37Ideal.Value
public import Idealize.ShloMosaic.Lib.Pipeline.ValueKit.Tiles
public import Idealize.ShloMosaic.Lib.KernelVsHost
public import proofs.«01_k».proof.Proof.Gen.Reference37Ideal.Run
public import proofs.«01_k».proof.Proof.Gen.Reference37Ideal.Read

@[expose] public section

set_option maxRecDepth 16384

noncomputable section

open Idealize.ShloMosaic Idealize.ShloMosaic.TcCoe Idealize.SL.Sem Idealize.ShloMosaic.ValueIdx
open Idealize.ShloMosaic.Pipeline (Dat)

namespace Cert.Kernel37Ideal.LbGrad

open Cert.Kernel37Ideal Cert.Kernel37Ideal.Gen Cert.Reference37Ideal.Read Cert.Products Cert.Finite

variable (m : (ℓ : Loc nD τ sig) → Buf (Elt Ideal) ℓ)

/-- The two arguments on device `c`: the gradient in the lower bound, and the parameter. -/
abbrev A0 (c : Dev nD) : Vec Ideal S1x1024 .f32 := m ((c : Thread nD τ).loc main_arg0)
abbrev A1 (c : Dev nD) : Vec Ideal S2x1024 .f32 := m ((c : Thread nD τ).loc main_arg1)

/-- The kernel's second operand is the first row of the softmax, as the reference forms it. -/
theorem lb_eq (c : Dev nD) : V m c main_v11 = val_main_v28 (F := Ideal) (A1 m c) := by
  show StableHlo.after hostOps0 (fun b => m (c, b)) main_v11 = _
  unfold hostOps0
  after_results
  rfl

/-- The larger of two real numbers, the search starting below both, is a real number. -/
theorem real_fold (f : Fin 2 → EReal) (h : ∀ k, Real' (f k)) : Real' ((Finset.univ : Finset (Fin 2)).fold max ⊥ f) := by
  rw [show (Finset.univ : Finset (Fin 2)) = {0, 1} from rfl, Finset.fold_insert (by decide), Finset.fold_singleton, max_bot_right]
  rcases max_choice (f 0) (f 1) with e | e <;> rw [e]
  · exact h 0
  · exact h 1

/-- The number subtracted before the exponentials is real where the parameter is. -/
theorem real_max (x : Vec Ideal S2x1024 .f32) (h : ∀ i, Real' (x i)) (j : Cert.Reference37Ideal.S1024.Idx) : Real' (val_main_v7 (F := Ideal) x j) := by
  have h0 : Real' (val_main_v0 (F := Ideal) x j) := by
    unfold val_main_v0
    have hR : S2x1024.Reduces [0] Cert.Reference37Ideal.S1024 := by decide
    refine (Host.reduce_eq_fold_single (max : EReal → EReal → EReal) x (val_main_cst (F := Ideal)) _ hR _ j) ▸ ?_
    exact real_fold (x ∘ hR.lift j) fun k => h _
  show Real' (max (⊥ : EReal) (val_main_v0 (F := Ideal) x j))
  rwa [max_bot_left]

/-- The exponentials are positive real numbers. -/
theorem real_exp (x : Vec Ideal S2x1024 .f32) (h : ∀ i, Real' (x i)) (i : S2x1024.Idx) :
    ∃ e : ℝ, 0 < e ∧ val_main_v20 (F := Ideal) x i = (e : EReal) := by
  obtain ⟨p, hp⟩ := h i
  obtain ⟨M, hM⟩ := real_max x h (idx_main_v17 (idx_main_v18 i))
  refine ⟨Real.exp (p - M), Real.exp_pos _, ?_⟩
  rw [val_main_v20_apply, val_main_v19_apply, val_main_v18_apply, val_main_v17_apply, hM, hp]
  show Ideal.exp ((p : EReal) - (M : EReal)) = _
  rw [← EReal.coe_sub, Ideal.exp_coe]

/-- The sum of the two exponentials of a column. -/
theorem sum_exp (x : Vec Ideal S2x1024 .f32) (q : Fin 1024) (j : Cert.Reference37Ideal.S1024.Idx) (hj : j 0 = q) :
    val_main_v21 (F := Ideal) x j = val_main_v20 (F := Ideal) x (ix2 (0 : Fin 2) q) + val_main_v20 (F := Ideal) x (ix2 (1 : Fin 2) q) := by
  subst hj
  rw [val_main_v21_apply, Fin.sum_univ_two]
  refine (congrArg (· + _) Ideal.ofBits_zero_f32).trans ((zero_add _).trans ?_)
  exact congrArg₂ (fun a b : EReal => a + b) (congrArg _ (Shape.idx_ext₂ rfl rfl)) (congrArg _ (Shape.idx_ext₂ rfl rfl))

/-- The padded gradient: the gradient in the first row, zero in the second. -/
theorem pad_top (d : Vec Ideal S1x1024 .f32) (q : Fin 1024) (i : S2x1024.Idx) (h0 : (i 0).val = 0) (h1 : i 1 = q) :
    val_main_v29 (F := Ideal) d i = d (ix2 (0 : Fin 1) q) := by
  unfold val_main_v29
  refine pad_apply_of_inside _ _ _ d _ _ _ i (ix2 (0 : Fin 1) q) fun a => ?_
  match a with
  | ⟨0, _⟩ => show (i 0).val = 0 + 0 * (0 + 1); omega
  | ⟨1, _⟩ => show (i 1).val = 0 + q.val * (0 + 1); rw [h1]; omega

theorem pad_bottom (d : Vec Ideal S1x1024 .f32) (i : S2x1024.Idx) (h0 : (i 0).val = 1) :
    val_main_v29 (F := Ideal) d i = 0 := by
  unfold val_main_v29
  refine (pad_apply_of_not_inside _ _ _ d _ _ _ i (0 : Fin 2) fun hin => ?_).trans Ideal.ofBits_zero_f32
  have h := hin.2.2
  change ((i 0).val - 0) / (0 + 1) < 1 at h
  rw [h0] at h
  omega

/-- The first row of the softmax at a column. -/
theorem lb_apply (x : Vec Ideal S2x1024 .f32) (q : Fin 1024) :
    val_main_v28 (F := Ideal) x (ix2 (0 : Fin 1) q)
      = Ideal.div (val_main_v20 (F := Ideal) x (ix2 (0 : Fin 2) q)) (val_main_v20 (F := Ideal) x (ix2 (0 : Fin 2) q) + val_main_v20 (F := Ideal) x (ix2 (1 : Fin 2) q)) := by
  rw [val_main_v28_apply, val_main_v24_apply, val_main_v23_apply, val_main_v22_apply, sum_exp x q _ rfl]
  exact congrArg (fun a => Ideal.div a _) (congrArg _ (Shape.idx_ext₂ rfl rfl))

/-- What the sum over the rows takes away, at a column. -/
theorem taken (d : Vec Ideal S1x1024 .f32) (x : Vec Ideal S2x1024 .f32) (q : Fin 1024) (j : Cert.Reference37Ideal.S1024.Idx) (hj : j 0 = q) (s : EReal)
    (hs : val_main_v20 (F := Ideal) x (ix2 (0 : Fin 2) q) + val_main_v20 (F := Ideal) x (ix2 (1 : Fin 2) q) = s) :
    val_main_v38 (F := Ideal) d x j
      = -(d (ix2 (0 : Fin 1) q) * Ideal.div (Ideal.ofBits .f32 0x3F800000#32) (s * s) * val_main_v20 (F := Ideal) x (ix2 (0 : Fin 2) q)
          + 0 * Ideal.div (Ideal.ofBits .f32 0x3F800000#32) (s * s) * val_main_v20 (F := Ideal) x (ix2 (1 : Fin 2) q)) := by
  have hk : ∀ (k : Fin 2) (i : S2x1024.Idx), i = ix2 k q → val_main_v32 (F := Ideal) d x i
      = val_main_v29 (F := Ideal) d i * Ideal.div (Ideal.ofBits .f32 0x3F800000#32) (s * s) * val_main_v20 (F := Ideal) x (ix2 k q) := by
    intro k i hi
    subst hi
    rw [val_main_v32_apply, val_main_v31_apply, val_main_v30_apply, val_main_v27_apply, val_main_v25_apply, val_main_v22_apply, sum_exp x q _ rfl, hs]
    rfl
  rw [val_main_v38_apply, Fin.sum_univ_one]
  refine (congrArg (· + _) Ideal.ofBits_zero_f32).trans ((zero_add _).trans ?_)
  rw [val_main_v35_apply, val_main_v34_apply, val_main_v33_apply, Fin.sum_univ_two]
  refine congrArg (fun a : EReal => -a) ((congrArg (· + _) Ideal.ofBits_zero_f32).trans ((zero_add _).trans ?_))
  have e : idx_main_v34 (idx_main_v38 j 0) 0 = q := hj ▸ Fin.ext (by show 0 * 1024 + (j 0).val = (j 0).val; omega)
  have e' : ∀ k : Fin 2, idx_main_v33 (idx_main_v34 (idx_main_v38 j 0)) k = ix2 k q := fun k => Shape.idx_ext₂ rfl (congrArg Fin.val e)
  rw [hk 0 _ (e' 0), hk 1 _ (e' 1)]
  rw [pad_top d q _ rfl e, pad_bottom d _ rfl]

/-- The reference's result at an entry. -/
theorem ref_apply (d : Vec Ideal S1x1024 .f32) (x : Vec Ideal S2x1024 .f32) (r : Fin 2) (q : Fin 1024) (s : EReal)
    (hs : val_main_v20 (F := Ideal) x (ix2 (0 : Fin 2) q) + val_main_v20 (F := Ideal) x (ix2 (1 : Fin 2) q) = s) :
    val_main_v41 (F := Ideal) d x (ix2 r q)
      = (Ideal.div (val_main_v29 (F := Ideal) d (ix2 r q)) s + val_main_v38 (F := Ideal) d x (idx_main_v39 (ix2 r q))) * val_main_v20 (F := Ideal) x (ix2 r q) := by
  rw [val_main_v41_apply, val_main_v40_apply, val_main_v39_apply, val_main_v37_apply, val_main_v36_apply, val_main_v22_apply, sum_exp x q _ rfl, hs]
  rfl

/-- What the kernel stores in its first row and, negated, in its second. -/
def kern (d y : EReal) : EReal := d * y * (Ideal.ofBits .f32 0x3F800000#32 - y)

/-- On real numbers the kernel's rows are the softmax's gradient. -/
theorem rows_eq (d : Vec Ideal S1x1024 .f32) (x : Vec Ideal S2x1024 .f32) (hd : ∀ i, Real' (d i)) (hx : ∀ i, Real' (x i)) (q : Fin 1024) :
    kern (d (ix2 (0 : Fin 1) q)) (val_main_v28 (F := Ideal) x (ix2 (0 : Fin 1) q)) = val_main_v41 (F := Ideal) d x (ix2 (0 : Fin 2) q)
    ∧ Ideal.ofBits .f32 0x00000000#32 - kern (d (ix2 (0 : Fin 1) q)) (val_main_v28 (F := Ideal) x (ix2 (0 : Fin 1) q)) = val_main_v41 (F := Ideal) d x (ix2 (1 : Fin 2) q) := by
  obtain ⟨e0, p0, h0⟩ := real_exp x hx (ix2 (0 : Fin 2) q)
  obtain ⟨e1, p1, h1⟩ := real_exp x hx (ix2 (1 : Fin 2) q)
  obtain ⟨g, hg⟩ := hd (ix2 (0 : Fin 1) q)
  have hs : val_main_v20 (F := Ideal) x (ix2 (0 : Fin 2) q) + val_main_v20 (F := Ideal) x (ix2 (1 : Fin 2) q) = ((e0 + e1 : ℝ) : EReal) := by
    rw [h0, h1, EReal.coe_add]
  have ps : e0 + e1 ≠ 0 := (add_pos p0 p1).ne'
  have one : Ideal.ofBits .f32 0x3F800000#32 = ((1 : ℝ) : EReal) := Ideal.ofBits_one_f32.trans EReal.coe_one.symm
  have zero : (0 : EReal) = ((0 : ℝ) : EReal) := EReal.coe_zero.symm
  rw [ref_apply d x 0 q _ hs, ref_apply d x 1 q _ hs, taken d x q _ rfl _ hs, lb_apply, hs,
    pad_top d q (ix2 (0 : Fin 2) q) rfl rfl, pad_bottom d (ix2 (1 : Fin 2) q) rfl, h0, h1, hg, Ideal.ofBits_zero_f32, one, zero]
  unfold kern
  rw [one]
  simp only [← EReal.coe_mul, Cert.NormGrad.coe_div _ _ ps, Cert.NormGrad.coe_div _ _ (mul_ne_zero ps ps), ← EReal.coe_add, ← EReal.coe_sub, ← EReal.coe_neg]
  constructor <;> refine congrArg _ ?_ <;> field_simp <;> ring

/-- The windows do not move. -/
theorem idx_facts (t : Fin cfg0.N) : (win0_0.index t 0 = 0 ∧ win0_0.index t 1 = 0) ∧ (win0_1.index t 0 = 0 ∧ win0_1.index t 1 = 0)
    ∧ (win0_2.index t 0 = 0 ∧ win0_2.index t 1 = 0) := by
  revert t
  exact (by decide +kernel : ∀ t : Fin grid0.N, (win0_0.index t 0 = 0 ∧ win0_0.index t 1 = 0) ∧ (win0_1.index t 0 = 0 ∧ win0_1.index t 1 = 0)
    ∧ (win0_2.index t 0 = 0 ∧ win0_2.index t 1 = 0))

/-- The block of the incoming gradient is the whole of it. -/
theorem iblk0_apply (c : Dev nD) (t : Fin cfg0.N) (q : Fin 1024) : iblk m c 0 t (ix2 (0 : Fin 1) q) = A0 m c (ix2 (0 : Fin 1) q) := by
  refine (congrFun (V_main_arg0 m c) ((win0_0.rect t).emb (ix2 (0 : Fin 1) q))).trans (congrArg (A0 m c) (Shape.idx_ext₂ ?_ ?_))
  · rw [win0_0.rect_emb_val t, (idx_facts t).1.1]; rfl
  · rw [win0_0.rect_emb_val t, (idx_facts t).1.2]; show 0 * 1024 + q.val = q.val; omega

/-- The block of the lower bound is the whole of it. -/
theorem iblk1_apply (c : Dev nD) (t : Fin cfg0.N) (q : Fin 1024) :
    iblk m c 1 t (ix2 (0 : Fin 1) q) = val_main_v28 (F := Ideal) (A1 m c) (ix2 (0 : Fin 1) q) := by
  refine (congrFun (lb_eq m c) ((win0_1.rect t).emb (ix2 (0 : Fin 1) q))).trans (congrArg (val_main_v28 (F := Ideal) (A1 m c)) (Shape.idx_ext₂ ?_ ?_))
  · rw [win0_1.rect_emb_val t, (idx_facts t).2.1.1]; rfl
  · rw [win0_1.rect_emb_val t, (idx_facts t).2.1.2]; show 0 * 1024 + q.val = q.val; omega

/-- What the body stores in the first row. -/
theorem pay1_apply (c : Dev nD) (t : Fin cfg0.N) (q : Fin 1024) :
    k0_pay1 (View.ld (iblk m c 0 t) r0_0) (View.ld (iblk m c 1 t) r0_0) (View.ld (iblk m c 1 t) r0_0) (ix2 (0 : Fin 1) q)
      = kern (A0 m c (ix2 (0 : Fin 1) q)) (val_main_v28 (F := Ideal) (A1 m c) (ix2 (0 : Fin 1) q)) := by
  have h0 : View.ld (iblk m c 0 t) r0_0 = iblk m c 0 t := View.ld_unit_zero (S := S1x1024) hz _ _
  have h1 : View.ld (iblk m c 1 t) r0_0 = iblk m c 1 t := View.ld_unit_zero (S := S1x1024) hz _ _
  have e0 := iblk0_apply m c t q
  have e1 := iblk1_apply m c t q
  rw [h0, h1]
  revert e0 e1
  generalize iblk m c 0 t = X
  generalize iblk m c 1 t = Y
  generalize val_main_v28 (F := Ideal) (A1 m c) (ix2 (0 : Fin 1) q) = y
  generalize A0 m c (ix2 (0 : Fin 1) q) = d
  rintro rfl rfl
  unfold k0_pay1
  simp only [shapeCast_self]
  rfl

/-- Both arguments are real. -/
def AllReal (c : Dev nD) : Prop := (∀ i, Real' (A0 m c i)) ∧ (∀ i, Real' (A1 m c i))

/-- The reference's result on the arguments of device `c`. -/
abbrev R (c : Dev nD) : Vec Ideal S2x1024 .f32 := val_main_v41 (F := Ideal) (A0 m c) (A1 m c)

/-- The one point writes back the reference's result. -/
theorem flushed2_eq (c : Dev nD) (hr : AllReal m c) (t : Fin cfg0.N) :
    (dats m 0 c).flushed 2 t = ((cfg0.win 2).blk t).view.read (Elt Ideal) (R m c) := by
  rw [Value.flushed2]
  funext j
  obtain ⟨r, q, rfl⟩ : ∃ (r : Fin 2) (q : Fin 1024), j = ix2 r q := ⟨j 0, j 1, eq_ix2 j⟩
  have e : (win0_2.rect t).emb (ix2 r q) = ix2 r q := Shape.idx_ext₂
    (by rw [win0_2.rect_emb_val t, (idx_facts t).2.2.1]; show 0 * 2 + r.val = r.val; omega)
    (by rw [win0_2.rect_emb_val t, (idx_facts t).2.2.2]; show 0 * 1024 + q.val = q.val; omega)
  show out0_2 (iblk m c 0 t) (iblk m c 1 t) (ix2 r q) = R m c ((win0_2.rect t).emb (ix2 r q))
  rw [e]
  have hrow := rows_eq (A0 m c) (A1 m c) hr.1 hr.2 q
  unfold out0_2
  refine View.canon_eq_of_allAt _ _ _ (cover0_2 _ _ _) (View.allAt_cons_unit _ _ _ _ _ ?_ (View.allAt_cons_unit _ _ _ _ _ ?_ (View.allAt_nil _ _)))
  all_goals
    intro x hx
    have h0 : r.val = _ := hx 0
    have h1 : q.val = _ := hx 1
    obtain ⟨u, v, rfl⟩ : ∃ (u : Fin 1) (v : Fin 1024), x = ix2 u v := ⟨x 0, x 1, eq_ix2 x⟩
    obtain rfl : u = 0 := Subsingleton.elim _ _
    obtain rfl : v = q := Fin.ext (by change q.val = 0 + v.val at h1; omega)
  · obtain rfl : r = 1 := Fin.ext (by change r.val = 1 + 0 at h0; exact h0)
    refine Eq.trans ?_ hrow.2
    exact congrArg (fun a : EReal => Ideal.ofBits .f32 0x00000000#32 - a) (pay1_apply m c t v)
  · obtain rfl : r = 0 := Fin.ext (by change r.val = 0 + 0 at h0; exact h0)
    exact (pay1_apply m c t v).trans hrow.1

/-- The kernel's result is the reference's. -/
theorem final2 (c : Dev nD) (hr : AllReal m c) : (dats m 0 c).arrAt 2 cfg0.N = R m c :=
  (dats m 0 c).arrAt_eq_of_cover 2 (R m c) (fun t _ => flushed2_eq m c hr t) (Pipeline.Window.Covers.cover _ (by decide +kernel) (Memref.isWhole_whole _))

end Cert.Kernel37Ideal.LbGrad

end
-- ==== Proof.LbGradClaim.lean ====
/-
  The value claim about the gradient in the lower bound's parameter.
-/
module

public import proofs.«01_k».proof.Defs
public import proofs.«01_k».proof.Proof.Gen.Pre_finite37
public import proofs.«01_k».proof.Proof.LbGrad

@[expose] public section

set_option maxRecDepth 16384

noncomputable section

open Idealize.ShloMosaic Idealize.ShloMosaic.TcCoe Idealize.SL.Sem

namespace Cert.LbGradClaim

open Cert.Reference37Ideal.Read Cert.Kernel37Ideal.LbGrad Cert.Finite

/-- On real arguments the kernel and the reference end with the same gradient in the parameter. -/
theorem algebraic : Cert.algebraic_Kernel37Ideal_Reference37Ideal_pre_finite37 := by
  intro m ρ m' ρ' hpre hagree
  refine ⟨R m, ?_, ?_⟩
  · refine (θ_run _ _ _).mono (fun r h c => ?_) (Cert.Kernel37Ideal.Value.run_blocks (F := Ideal) m ρ)
    obtain ⟨h0, hargs⟩ := h c
    obtain ⟨p0, p1⟩ := hpre c
    exact ⟨h0.trans (final2 m c ⟨fun i => real_of_mask (congrFun p0 i), fun i => real_of_mask (congrFun p1 i)⟩), hargs⟩
  · refine (θ_run _ _ _).mono (fun r h c => ?_) (Cert.Reference37Ideal.Value.run (F := Ideal) m' ρ')
    obtain ⟨e0, e1⟩ := hagree c
    obtain ⟨h0, hargs⟩ := h c
    rw [val_main_v41_eq, e0, e1] at h0
    exact ⟨h0, hargs⟩

end Cert.LbGradClaim

end
-- ==== Proof.lean ====
/-
  The certificate: every claim of `Cert.Claim`, assembled from the modules that prove them. A frame says that a program
  terminates, faults nowhere, keeps its arguments and leaves every counter at zero; the references are host operations
  only, which write no argument and use no counter.
-/
module

public import proofs.«01_k».proof.Defs
public import proofs.«01_k».proof.Proof.Gen.Kernel.Frame
public import proofs.«01_k».proof.Proof.Gen.KernelIdeal.Value
public import proofs.«01_k».proof.Proof.Gen.Kernel2.Frame
public import proofs.«01_k».proof.Proof.Gen.Kernel2Ideal.Value
public import proofs.«01_k».proof.Proof.Gen.Pre_finite2
public import proofs.«01_k».proof.Proof.Gen.Kernel3.Frame
public import proofs.«01_k».proof.Proof.Gen.Kernel3Ideal.Value
public import proofs.«01_k».proof.Proof.Gen.Kernel5.Frame
public import proofs.«01_k».proof.Proof.Gen.Kernel5Ideal.Value
public import proofs.«01_k».proof.Proof.Gen.Kernel6.Frame
public import proofs.«01_k».proof.Proof.Gen.Kernel6Ideal.Value
public import proofs.«01_k».proof.Proof.Gen.Kernel7.Frame
public import proofs.«01_k».proof.Proof.Gen.Kernel7Ideal.Value
public import proofs.«01_k».proof.Proof.Gen.Kernel8.Frame
public import proofs.«01_k».proof.Proof.Gen.Kernel8Ideal.Value
public import proofs.«01_k».proof.Proof.Gen.Kernel9.Frame
public import proofs.«01_k».proof.Proof.Gen.Kernel9Ideal.Value
public import proofs.«01_k».proof.Proof.Gen.Kernel10.Frame
public import proofs.«01_k».proof.Proof.Gen.Kernel10Ideal.Value
public import proofs.«01_k».proof.Proof.Gen.Kernel11.Frame
public import proofs.«01_k».proof.Proof.Gen.Kernel11Ideal.Value
public import proofs.«01_k».proof.Proof.Gen.Kernel12.Frame
public import proofs.«01_k».proof.Proof.Gen.Kernel12Ideal.Value
public import proofs.«01_k».proof.Proof.Gen.Kernel13.Frame
public import proofs.«01_k».proof.Proof.Gen.Kernel13Ideal.Value
public import proofs.«01_k».proof.Proof.Gen.Kernel14.Frame
public import proofs.«01_k».proof.Proof.Gen.Kernel14Ideal.Value
public import proofs.«01_k».proof.Proof.Gen.Kernel15.Frame
public import proofs.«01_k».proof.Proof.Gen.Kernel15Ideal.Value
public import proofs.«01_k».proof.Proof.Gen.Kernel16.Frame
public import proofs.«01_k».proof.Proof.Gen.Kernel16Ideal.Value
public import proofs.«01_k».proof.Proof.Gen.Kernel17.Frame
public import proofs.«01_k».proof.Proof.Gen.Kernel17Ideal.Value
public import proofs.«01_k».proof.Proof.Gen.Kernel18.Frame
public import proofs.«01_k».proof.Proof.Gen.Kernel18Ideal.Value
public import proofs.«01_k».proof.Proof.Gen.Pre_finite18
public import proofs.«01_k».proof.Proof.Gen.Kernel21.Frame
public import proofs.«01_k».proof.Proof.Gen.Kernel21Ideal.Value
public import proofs.«01_k».proof.Proof.Gen.Kernel22.Frame
public import proofs.«01_k».proof.Proof.Gen.Kernel22Ideal.Value
public import proofs.«01_k».proof.Proof.Gen.Kernel23.Frame
public import proofs.«01_k».proof.Proof.Gen.Kernel23Ideal.Value
public import proofs.«01_k».proof.Proof.Gen.Kernel24.Frame
public import proofs.«01_k».proof.Proof.Gen.Kernel24Ideal.Value
public import proofs.«01_k».proof.Proof.Gen.Kernel25.Frame
public import proofs.«01_k».proof.Proof.Gen.Kernel25Ideal.Value
public import proofs.«01_k».proof.Proof.Gen.Kernel26.Frame
public import proofs.«01_k».proof.Proof.Gen.Kernel26Ideal.Value
public import proofs.«01_k».proof.Proof.Gen.Kernel27.Frame
public import proofs.«01_k».proof.Proof.Gen.Kernel27Ideal.Value
public import proofs.«01_k».proof.Proof.Gen.Kernel28.Frame
public import proofs.«01_k».proof.Proof.Gen.Kernel28Ideal.Value
public import proofs.«01_k».proof.Proof.Gen.Kernel29.Frame
public import proofs.«01_k».proof.Proof.Gen.Kernel29Ideal.Value
public import proofs.«01_k».proof.Proof.Gen.Kernel30.Frame
public import proofs.«01_k».proof.Proof.Gen.Kernel30Ideal.Value
public import proofs.«01_k».proof.Proof.Gen.Kernel31.Frame
public import proofs.«01_k».proof.Proof.Gen.Kernel32.Frame
public import proofs.«01_k».proof.Proof.Gen.Kernel32Ideal.Value
public import proofs.«01_k».proof.Proof.Gen.Kernel33.Frame
public import proofs.«01_k».proof.Proof.Gen.Kernel33Ideal.Value
public import proofs.«01_k».proof.Proof.Gen.Kernel34.Frame
public import proofs.«01_k».proof.Proof.Gen.Kernel34Ideal.Value
public import proofs.«01_k».proof.Proof.Gen.Pre_finite34
public import proofs.«01_k».proof.Proof.Gen.Kernel35.Frame
public import proofs.«01_k».proof.Proof.Gen.Kernel35Ideal.Value
public import proofs.«01_k».proof.Proof.Gen.Pre_finite35
public import proofs.«01_k».proof.Proof.Gen.Kernel36.Frame
public import proofs.«01_k».proof.Proof.Gen.Kernel37.Frame
public import proofs.«01_k».proof.Proof.Gen.Kernel37Ideal.Value
public import proofs.«01_k».proof.Proof.Gen.Pre_finite37
public import proofs.«01_k».proof.Proof.DMergedClaim
public import proofs.«01_k».proof.Proof.DActClaim
public import proofs.«01_k».proof.Proof.ConvBwdClaim
public import proofs.«01_k».proof.Proof.DH2Claim
public import proofs.«01_k».proof.Proof.DwDownClaim
public import proofs.«01_k».proof.Proof.DwGateClaim
public import proofs.«01_k».proof.Proof.DwUpClaim
public import proofs.«01_k».proof.Proof.DwOClaim
public import proofs.«01_k».proof.Proof.DBranchClaim
public import proofs.«01_k».proof.Proof.DwBranchClaim
public import proofs.«01_k».proof.Proof.FfnOutClaim
public import proofs.«01_k».proof.Proof.DHClaim
public import proofs.«01_k».proof.Proof.DwInClaim
public import proofs.«01_k».proof.Proof.FfnInClaim
public import proofs.«01_k».proof.Proof.BranchOutClaim
public import proofs.«01_k».proof.Proof.WOClaim
public import proofs.«01_k».proof.Proof.NormMixBwdClaim
public import proofs.«01_k».proof.Proof.Adamw21Claim
public import proofs.«01_k».proof.Proof.Adamw22Claim
public import proofs.«01_k».proof.Proof.Adamw23Claim
public import proofs.«01_k».proof.Proof.Adamw24Claim
public import proofs.«01_k».proof.Proof.Adamw25Claim
public import proofs.«01_k».proof.Proof.Adamw26Claim
public import proofs.«01_k».proof.Proof.Adamw27Claim
public import proofs.«01_k».proof.Proof.Adamw28Claim
public import proofs.«01_k».proof.Proof.Adamw29Claim
public import proofs.«01_k».proof.Proof.Adamw30Claim
public import proofs.«01_k».proof.Proof.AdaUpdateClaim
public import proofs.«01_k».proof.Proof.NormMixClaim
public import proofs.«01_k».proof.Proof.ConvFwdClaim
public import proofs.«01_k».proof.Proof.LossHeadClaim
public import proofs.«01_k».proof.Proof.NormFfnBwdClaim
public import proofs.«01_k».proof.Proof.SmallReduceClaim
public import proofs.«01_k».proof.Proof.LbGradClaim
public import Idealize.ShloMosaic.Adequacy
public import Idealize.ShloMosaic.Init

@[expose] public section

set_option maxRecDepth 16384

noncomputable section

namespace Cert.Proof

open Idealize.ShloMosaic Idealize.SL.Sem

/-- The frame of program 1, the kernel as printed. -/
theorem quiet_Kernel : quiescent_Kernel := fun m ρ _ => Kernel.Gen.frame m ρ

/-- The frame of program 1, its idealization. -/
theorem quiet_KernelIdeal : quiescent_KernelIdeal := fun m ρ _ => KernelIdeal.Gen.frame m ρ

/-- The frame of reference 1. -/
theorem quiet_ReferenceIdeal : quiescent_ReferenceIdeal := fun m ρ _ =>
  (θ_run ReferenceIdeal.defs _ _).mono (fun r h => ⟨fun c => (h c).2.2.2.2, sem_eq_zero_of_no_sems (by decide) r.2⟩)
    (ReferenceIdeal.Value.run (F := Ideal) m ρ)

/-- The frame of program 2, the kernel as printed. -/
theorem quiet_Kernel2 : quiescent_Kernel2 := fun m ρ _ => Kernel2.Gen.frame m ρ

/-- The frame of program 2, its idealization. -/
theorem quiet_Kernel2Ideal : quiescent_Kernel2Ideal := fun m ρ _ => Kernel2Ideal.Gen.frame m ρ

/-- The same frame, under the precondition of its value claim. -/
theorem quiet_Kernel2Ideal_pre : quiescent_Kernel2Ideal_pre_finite2 := fun m ρ _ => quiet_Kernel2Ideal m ρ trivial

/-- The frame of reference 2. -/
theorem quiet_Reference2Ideal : quiescent_Reference2Ideal := fun m ρ _ =>
  (θ_run Reference2Ideal.defs _ _).mono (fun r h => ⟨fun c => (h c).2.2, sem_eq_zero_of_no_sems (by decide) r.2⟩)
    (Reference2Ideal.Value.run (F := Ideal) m ρ)

/-- The same frame, under the precondition of its value claim. -/
theorem quiet_Reference2Ideal_pre : quiescent_Reference2Ideal_pre_finite2 := fun m ρ _ => quiet_Reference2Ideal m ρ trivial

/-- The frame of program 3, the kernel as printed. -/
theorem quiet_Kernel3 : quiescent_Kernel3 := fun m ρ _ => Kernel3.Gen.frame m ρ

/-- The frame of program 3, its idealization. -/
theorem quiet_Kernel3Ideal : quiescent_Kernel3Ideal := fun m ρ _ => Kernel3Ideal.Gen.frame m ρ

/-- The frame of reference 3. -/
theorem quiet_Reference3Ideal : quiescent_Reference3Ideal := fun m ρ _ =>
  (θ_run Reference3Ideal.defs _ _).mono (fun r h => ⟨fun c => (h c).2.2.2.2, sem_eq_zero_of_no_sems (by decide) r.2⟩)
    (Reference3Ideal.Value.run (F := Ideal) m ρ)

/-- The frame of program 5, the kernel as printed. -/
theorem quiet_Kernel5 : quiescent_Kernel5 := fun m ρ _ => Kernel5.Gen.frame m ρ

/-- The frame of program 5, its idealization. -/
theorem quiet_Kernel5Ideal : quiescent_Kernel5Ideal := fun m ρ _ => Kernel5Ideal.Gen.frame m ρ

/-- The frame of reference 5. -/
theorem quiet_Reference5Ideal : quiescent_Reference5Ideal := fun m ρ _ =>
  (θ_run Reference5Ideal.defs _ _).mono (fun r h => ⟨fun c => (h c).2, sem_eq_zero_of_no_sems (by decide) r.2⟩)
    (Reference5Ideal.Value.run (F := Ideal) m ρ)

/-- The frame of program 6, the kernel as printed. -/
theorem quiet_Kernel6 : quiescent_Kernel6 := fun m ρ _ => Kernel6.Gen.frame m ρ

/-- The frame of program 6, its idealization. -/
theorem quiet_Kernel6Ideal : quiescent_Kernel6Ideal := fun m ρ _ => Kernel6Ideal.Gen.frame m ρ

/-- The frame of reference 6. -/
theorem quiet_Reference6Ideal : quiescent_Reference6Ideal := fun m ρ _ =>
  (θ_run Reference6Ideal.defs _ _).mono (fun r h => ⟨fun c => (h c).2, sem_eq_zero_of_no_sems (by decide) r.2⟩)
    (Reference6Ideal.Value.run (F := Ideal) m ρ)

/-- The frame of program 7, the kernel as printed. -/
theorem quiet_Kernel7 : quiescent_Kernel7 := fun m ρ _ => Kernel7.Gen.frame m ρ

/-- The frame of program 7, its idealization. -/
theorem quiet_Kernel7Ideal : quiescent_Kernel7Ideal := fun m ρ _ => Kernel7Ideal.Gen.frame m ρ

/-- The frame of reference 7. -/
theorem quiet_Reference7Ideal : quiescent_Reference7Ideal := fun m ρ _ =>
  (θ_run Reference7Ideal.defs _ _).mono (fun r h => ⟨fun c => (h c).2, sem_eq_zero_of_no_sems (by decide) r.2⟩)
    (Reference7Ideal.Value.run (F := Ideal) m ρ)

/-- The frame of program 8, the kernel as printed. -/
theorem quiet_Kernel8 : quiescent_Kernel8 := fun m ρ _ => Kernel8.Gen.frame m ρ

/-- The frame of program 8, its idealization. -/
theorem quiet_Kernel8Ideal : quiescent_Kernel8Ideal := fun m ρ _ => Kernel8Ideal.Gen.frame m ρ

/-- The frame of reference 8. -/
theorem quiet_Reference8Ideal : quiescent_Reference8Ideal := fun m ρ _ =>
  (θ_run Reference8Ideal.defs _ _).mono (fun r h => ⟨fun c => (h c).2, sem_eq_zero_of_no_sems (by decide) r.2⟩)
    (Reference8Ideal.Value.run (F := Ideal) m ρ)

/-- The frame of program 9, the kernel as printed. -/
theorem quiet_Kernel9 : quiescent_Kernel9 := fun m ρ _ => Kernel9.Gen.frame m ρ

/-- The frame of program 9, its idealization. -/
theorem quiet_Kernel9Ideal : quiescent_Kernel9Ideal := fun m ρ _ => Kernel9Ideal.Gen.frame m ρ

/-- The frame of reference 9. -/
theorem quiet_Reference9Ideal : quiescent_Reference9Ideal := fun m ρ _ =>
  (θ_run Reference9Ideal.defs _ _).mono (fun r h => ⟨fun c => (h c).2, sem_eq_zero_of_no_sems (by decide) r.2⟩)
    (Reference9Ideal.Value.run (F := Ideal) m ρ)

/-- The frame of program 10, the kernel as printed. -/
theorem quiet_Kernel10 : quiescent_Kernel10 := fun m ρ _ => Kernel10.Gen.frame m ρ

/-- The frame of program 10, its idealization. -/
theorem quiet_Kernel10Ideal : quiescent_Kernel10Ideal := fun m ρ _ => Kernel10Ideal.Gen.frame m ρ

/-- The frame of reference 10. -/
theorem quiet_Reference10Ideal : quiescent_Reference10Ideal := fun m ρ _ =>
  (θ_run Reference10Ideal.defs _ _).mono (fun r h => ⟨fun c => (h c).2.2, sem_eq_zero_of_no_sems (by decide) r.2⟩)
    (Reference10Ideal.Value.run (F := Ideal) m ρ)

/-- The frame of program 11, the kernel as printed. -/
theorem quiet_Kernel11 : quiescent_Kernel11 := fun m ρ _ => Kernel11.Gen.frame m ρ

/-- The frame of program 11, its idealization. -/
theorem quiet_Kernel11Ideal : quiescent_Kernel11Ideal := fun m ρ _ => Kernel11Ideal.Gen.frame m ρ

/-- The frame of reference 11. -/
theorem quiet_Reference11Ideal : quiescent_Reference11Ideal := fun m ρ _ =>
  (θ_run Reference11Ideal.defs _ _).mono (fun r h => ⟨fun c => (h c).2.2, sem_eq_zero_of_no_sems (by decide) r.2⟩)
    (Reference11Ideal.Value.run (F := Ideal) m ρ)

/-- The frame of program 12, the kernel as printed. -/
theorem quiet_Kernel12 : quiescent_Kernel12 := fun m ρ _ => Kernel12.Gen.frame m ρ

/-- The frame of program 12, its idealization. -/
theorem quiet_Kernel12Ideal : quiescent_Kernel12Ideal := fun m ρ _ => Kernel12Ideal.Gen.frame m ρ

/-- The frame of reference 12. -/
theorem quiet_Reference12Ideal : quiescent_Reference12Ideal := fun m ρ _ =>
  (θ_run Reference12Ideal.defs _ _).mono (fun r h => ⟨fun c => (h c).2.2, sem_eq_zero_of_no_sems (by decide) r.2⟩)
    (Reference12Ideal.Value.run (F := Ideal) m ρ)

/-- The frame of program 13, the kernel as printed. -/
theorem quiet_Kernel13 : quiescent_Kernel13 := fun m ρ _ => Kernel13.Gen.frame m ρ

/-- The frame of program 13, its idealization. -/
theorem quiet_Kernel13Ideal : quiescent_Kernel13Ideal := fun m ρ _ => Kernel13Ideal.Gen.frame m ρ

/-- The frame of reference 13. -/
theorem quiet_Reference13Ideal : quiescent_Reference13Ideal := fun m ρ _ =>
  (θ_run Reference13Ideal.defs _ _).mono (fun r h => ⟨fun c => (h c).2, sem_eq_zero_of_no_sems (by decide) r.2⟩)
    (Reference13Ideal.Value.run (F := Ideal) m ρ)

/-- The frame of program 14, the kernel as printed. -/
theorem quiet_Kernel14 : quiescent_Kernel14 := fun m ρ _ => Kernel14.Gen.frame m ρ

/-- The frame of program 14, its idealization. -/
theorem quiet_Kernel14Ideal : quiescent_Kernel14Ideal := fun m ρ _ => Kernel14Ideal.Gen.frame m ρ

/-- The frame of reference 14. -/
theorem quiet_Reference14Ideal : quiescent_Reference14Ideal := fun m ρ _ =>
  (θ_run Reference14Ideal.defs _ _).mono (fun r h => ⟨fun c => (h c).2, sem_eq_zero_of_no_sems (by decide) r.2⟩)
    (Reference14Ideal.Value.run (F := Ideal) m ρ)

/-- The frame of program 15, the kernel as printed. -/
theorem quiet_Kernel15 : quiescent_Kernel15 := fun m ρ _ => Kernel15.Gen.frame m ρ

/-- The frame of program 15, its idealization. -/
theorem quiet_Kernel15Ideal : quiescent_Kernel15Ideal := fun m ρ _ => Kernel15Ideal.Gen.frame m ρ

/-- The frame of reference 15. -/
theorem quiet_Reference15Ideal : quiescent_Reference15Ideal := fun m ρ _ =>
  (θ_run Reference15Ideal.defs _ _).mono (fun r h => ⟨fun c => (h c).2.2.2, sem_eq_zero_of_no_sems (by decide) r.2⟩)
    (Reference15Ideal.Value.run (F := Ideal) m ρ)

/-- The frame of program 16, the kernel as printed. -/
theorem quiet_Kernel16 : quiescent_Kernel16 := fun m ρ _ => Kernel16.Gen.frame m ρ

/-- The frame of program 16, its idealization. -/
theorem quiet_Kernel16Ideal : quiescent_Kernel16Ideal := fun m ρ _ => Kernel16Ideal.Gen.frame m ρ

/-- The frame of reference 16. -/
theorem quiet_Reference16Ideal : quiescent_Reference16Ideal := fun m ρ _ =>
  (θ_run Reference16Ideal.defs _ _).mono (fun r h => ⟨fun c => (h c).2.2.2, sem_eq_zero_of_no_sems (by decide) r.2⟩)
    (Reference16Ideal.Value.run (F := Ideal) m ρ)

/-- The frame of program 17, the kernel as printed. -/
theorem quiet_Kernel17 : quiescent_Kernel17 := fun m ρ _ => Kernel17.Gen.frame m ρ

/-- The frame of program 17, its idealization. -/
theorem quiet_Kernel17Ideal : quiescent_Kernel17Ideal := fun m ρ _ => Kernel17Ideal.Gen.frame m ρ

/-- The frame of reference 17. -/
theorem quiet_Reference17Ideal : quiescent_Reference17Ideal := fun m ρ _ =>
  (θ_run Reference17Ideal.defs _ _).mono (fun r h => ⟨fun c => (h c).2.2, sem_eq_zero_of_no_sems (by decide) r.2⟩)
    (Reference17Ideal.Value.run (F := Ideal) m ρ)

/-- The frame of program 18, the kernel as printed. -/
theorem quiet_Kernel18 : quiescent_Kernel18 := fun m ρ _ => Kernel18.Gen.frame m ρ

/-- The frame of program 18, its idealization. -/
theorem quiet_Kernel18Ideal : quiescent_Kernel18Ideal := fun m ρ _ => Kernel18Ideal.Gen.frame m ρ

/-- The same frame, under the precondition of its value claim. -/
theorem quiet_Kernel18Ideal_pre : quiescent_Kernel18Ideal_pre_finite18 := fun m ρ _ => quiet_Kernel18Ideal m ρ trivial

/-- The frame of reference 18. -/
theorem quiet_Reference18Ideal : quiescent_Reference18Ideal := fun m ρ _ =>
  (θ_run Reference18Ideal.defs _ _).mono (fun r h => ⟨fun c => (h c).2.2.2.2, sem_eq_zero_of_no_sems (by decide) r.2⟩)
    (Reference18Ideal.Value.run (F := Ideal) m ρ)

/-- The same frame, under the precondition of its value claim. -/
theorem quiet_Reference18Ideal_pre : quiescent_Reference18Ideal_pre_finite18 := fun m ρ _ => quiet_Reference18Ideal m ρ trivial

/-- The frame of program 21, the kernel as printed. -/
theorem quiet_Kernel21 : quiescent_Kernel21 := fun m ρ _ => Kernel21.Gen.frame m ρ

/-- The frame of program 21, its idealization. -/
theorem quiet_Kernel21Ideal : quiescent_Kernel21Ideal := fun m ρ _ => Kernel21Ideal.Gen.frame m ρ

/-- The frame of reference 21. -/
theorem quiet_Reference21Ideal : quiescent_Reference21Ideal := fun m ρ _ =>
  (θ_run Reference21Ideal.defs _ _).mono (fun r h => ⟨fun c => (h c).2.2.2.2, sem_eq_zero_of_no_sems (by decide) r.2⟩)
    (Reference21Ideal.Value.run (F := Ideal) m ρ)

/-- The frame of program 22, the kernel as printed. -/
theorem quiet_Kernel22 : quiescent_Kernel22 := fun m ρ _ => Kernel22.Gen.frame m ρ

/-- The frame of program 22, its idealization. -/
theorem quiet_Kernel22Ideal : quiescent_Kernel22Ideal := fun m ρ _ => Kernel22Ideal.Gen.frame m ρ

/-- The frame of reference 22. -/
theorem quiet_Reference22Ideal : quiescent_Reference22Ideal := fun m ρ _ =>
  (θ_run Reference22Ideal.defs _ _).mono (fun r h => ⟨fun c => (h c).2.2.2.2, sem_eq_zero_of_no_sems (by decide) r.2⟩)
    (Reference22Ideal.Value.run (F := Ideal) m ρ)

/-- The frame of program 23, the kernel as printed. -/
theorem quiet_Kernel23 : quiescent_Kernel23 := fun m ρ _ => Kernel23.Gen.frame m ρ

/-- The frame of program 23, its idealization. -/
theorem quiet_Kernel23Ideal : quiescent_Kernel23Ideal := fun m ρ _ => Kernel23Ideal.Gen.frame m ρ

/-- The frame of reference 23. -/
theorem quiet_Reference23Ideal : quiescent_Reference23Ideal := fun m ρ _ =>
  (θ_run Reference23Ideal.defs _ _).mono (fun r h => ⟨fun c => (h c).2.2.2.2, sem_eq_zero_of_no_sems (by decide) r.2⟩)
    (Reference23Ideal.Value.run (F := Ideal) m ρ)

/-- The frame of program 24, the kernel as printed. -/
theorem quiet_Kernel24 : quiescent_Kernel24 := fun m ρ _ => Kernel24.Gen.frame m ρ

/-- The frame of program 24, its idealization. -/
theorem quiet_Kernel24Ideal : quiescent_Kernel24Ideal := fun m ρ _ => Kernel24Ideal.Gen.frame m ρ

/-- The frame of reference 24. -/
theorem quiet_Reference24Ideal : quiescent_Reference24Ideal := fun m ρ _ =>
  (θ_run Reference24Ideal.defs _ _).mono (fun r h => ⟨fun c => (h c).2.2.2.2, sem_eq_zero_of_no_sems (by decide) r.2⟩)
    (Reference24Ideal.Value.run (F := Ideal) m ρ)

/-- The frame of program 25, the kernel as printed. -/
theorem quiet_Kernel25 : quiescent_Kernel25 := fun m ρ _ => Kernel25.Gen.frame m ρ

/-- The frame of program 25, its idealization. -/
theorem quiet_Kernel25Ideal : quiescent_Kernel25Ideal := fun m ρ _ => Kernel25Ideal.Gen.frame m ρ

/-- The frame of reference 25. -/
theorem quiet_Reference25Ideal : quiescent_Reference25Ideal := fun m ρ _ =>
  (θ_run Reference25Ideal.defs _ _).mono (fun r h => ⟨fun c => (h c).2.2.2.2, sem_eq_zero_of_no_sems (by decide) r.2⟩)
    (Reference25Ideal.Value.run (F := Ideal) m ρ)

/-- The frame of program 26, the kernel as printed. -/
theorem quiet_Kernel26 : quiescent_Kernel26 := fun m ρ _ => Kernel26.Gen.frame m ρ

/-- The frame of program 26, its idealization. -/
theorem quiet_Kernel26Ideal : quiescent_Kernel26Ideal := fun m ρ _ => Kernel26Ideal.Gen.frame m ρ

/-- The frame of reference 26. -/
theorem quiet_Reference26Ideal : quiescent_Reference26Ideal := fun m ρ _ =>
  (θ_run Reference26Ideal.defs _ _).mono (fun r h => ⟨fun c => (h c).2.2.2.2, sem_eq_zero_of_no_sems (by decide) r.2⟩)
    (Reference26Ideal.Value.run (F := Ideal) m ρ)

/-- The frame of program 27, the kernel as printed. -/
theorem quiet_Kernel27 : quiescent_Kernel27 := fun m ρ _ => Kernel27.Gen.frame m ρ

/-- The frame of program 27, its idealization. -/
theorem quiet_Kernel27Ideal : quiescent_Kernel27Ideal := fun m ρ _ => Kernel27Ideal.Gen.frame m ρ

/-- The frame of reference 27. -/
theorem quiet_Reference27Ideal : quiescent_Reference27Ideal := fun m ρ _ =>
  (θ_run Reference27Ideal.defs _ _).mono (fun r h => ⟨fun c => (h c).2.2.2.2, sem_eq_zero_of_no_sems (by decide) r.2⟩)
    (Reference27Ideal.Value.run (F := Ideal) m ρ)

/-- The frame of program 28, the kernel as printed. -/
theorem quiet_Kernel28 : quiescent_Kernel28 := fun m ρ _ => Kernel28.Gen.frame m ρ

/-- The frame of program 28, its idealization. -/
theorem quiet_Kernel28Ideal : quiescent_Kernel28Ideal := fun m ρ _ => Kernel28Ideal.Gen.frame m ρ

/-- The frame of reference 28. -/
theorem quiet_Reference28Ideal : quiescent_Reference28Ideal := fun m ρ _ =>
  (θ_run Reference28Ideal.defs _ _).mono (fun r h => ⟨fun c => (h c).2.2.2.2, sem_eq_zero_of_no_sems (by decide) r.2⟩)
    (Reference28Ideal.Value.run (F := Ideal) m ρ)

/-- The frame of program 29, the kernel as printed. -/
theorem quiet_Kernel29 : quiescent_Kernel29 := fun m ρ _ => Kernel29.Gen.frame m ρ

/-- The frame of program 29, its idealization. -/
theorem quiet_Kernel29Ideal : quiescent_Kernel29Ideal := fun m ρ _ => Kernel29Ideal.Gen.frame m ρ

/-- The frame of reference 29. -/
theorem quiet_Reference29Ideal : quiescent_Reference29Ideal := fun m ρ _ =>
  (θ_run Reference29Ideal.defs _ _).mono (fun r h => ⟨fun c => (h c).2.2.2.2, sem_eq_zero_of_no_sems (by decide) r.2⟩)
    (Reference29Ideal.Value.run (F := Ideal) m ρ)

/-- The frame of program 30, the kernel as printed. -/
theorem quiet_Kernel30 : quiescent_Kernel30 := fun m ρ _ => Kernel30.Gen.frame m ρ

/-- The frame of program 30, its idealization. -/
theorem quiet_Kernel30Ideal : quiescent_Kernel30Ideal := fun m ρ _ => Kernel30Ideal.Gen.frame m ρ

/-- The frame of reference 30. -/
theorem quiet_Reference30Ideal : quiescent_Reference30Ideal := fun m ρ _ =>
  (θ_run Reference30Ideal.defs _ _).mono (fun r h => ⟨fun c => (h c).2.2.2.2, sem_eq_zero_of_no_sems (by decide) r.2⟩)
    (Reference30Ideal.Value.run (F := Ideal) m ρ)

/-- The frame of program 31, the kernel as printed. -/
theorem quiet_Kernel31 : quiescent_Kernel31 := fun m ρ _ => Kernel31.Gen.frame m ρ

/-- The frame of program 31, its idealization. -/
theorem quiet_Kernel31Ideal : quiescent_Kernel31Ideal := fun m ρ _ => Kernel31Ideal.Gen.frame m ρ

/-- The frame of reference 31. -/
theorem quiet_Reference31Ideal : quiescent_Reference31Ideal := fun m ρ _ =>
  (θ_run Reference31Ideal.defs _ _).mono (fun r h => ⟨fun c => (h c).2.2.2.2, sem_eq_zero_of_no_sems (by decide) r.2⟩)
    (Reference31Ideal.Value.run (F := Ideal) m ρ)

/-- The frame of program 32, the kernel as printed. -/
theorem quiet_Kernel32 : quiescent_Kernel32 := fun m ρ _ => Kernel32.Gen.frame m ρ

/-- The frame of program 32, its idealization. -/
theorem quiet_Kernel32Ideal : quiescent_Kernel32Ideal := fun m ρ _ => Kernel32Ideal.Gen.frame m ρ

/-- The frame of reference 32. -/
theorem quiet_Reference32Ideal : quiescent_Reference32Ideal := fun m ρ _ =>
  (θ_run Reference32Ideal.defs _ _).mono (fun r h => ⟨fun c => (h c).2, sem_eq_zero_of_no_sems (by decide) r.2⟩)
    (Reference32Ideal.Value.run (F := Ideal) m ρ)

/-- The frame of program 33, the kernel as printed. -/
theorem quiet_Kernel33 : quiescent_Kernel33 := fun m ρ _ => Kernel33.Gen.frame m ρ

/-- The frame of program 33, its idealization. -/
theorem quiet_Kernel33Ideal : quiescent_Kernel33Ideal := fun m ρ _ => Kernel33Ideal.Gen.frame m ρ

/-- The frame of reference 33. -/
theorem quiet_Reference33Ideal : quiescent_Reference33Ideal := fun m ρ _ =>
  (θ_run Reference33Ideal.defs _ _).mono (fun r h => ⟨fun c => (h c).2, sem_eq_zero_of_no_sems (by decide) r.2⟩)
    (Reference33Ideal.Value.run (F := Ideal) m ρ)

/-- The frame of program 34, the kernel as printed. -/
theorem quiet_Kernel34 : quiescent_Kernel34 := fun m ρ _ => Kernel34.Gen.frame m ρ

/-- The frame of program 34, its idealization. -/
theorem quiet_Kernel34Ideal : quiescent_Kernel34Ideal := fun m ρ _ => Kernel34Ideal.Gen.frame m ρ

/-- The same frame, under the precondition of its value claim. -/
theorem quiet_Kernel34Ideal_pre : quiescent_Kernel34Ideal_pre_finite34 := fun m ρ _ => quiet_Kernel34Ideal m ρ trivial

/-- The frame of reference 34. -/
theorem quiet_Reference34Ideal : quiescent_Reference34Ideal := fun m ρ _ =>
  (θ_run Reference34Ideal.defs _ _).mono (fun r h => ⟨fun c => (h c).2.2.2.2.2, sem_eq_zero_of_no_sems (by decide) r.2⟩)
    (Reference34Ideal.Value.run (F := Ideal) m ρ)

/-- The same frame, under the precondition of its value claim. -/
theorem quiet_Reference34Ideal_pre : quiescent_Reference34Ideal_pre_finite34 := fun m ρ _ => quiet_Reference34Ideal m ρ trivial

/-- The frame of program 35, the kernel as printed. -/
theorem quiet_Kernel35 : quiescent_Kernel35 := fun m ρ _ => Kernel35.Gen.frame m ρ

/-- The frame of program 35, its idealization. -/
theorem quiet_Kernel35Ideal : quiescent_Kernel35Ideal := fun m ρ _ => Kernel35Ideal.Gen.frame m ρ

/-- The same frame, under the precondition of its value claim. -/
theorem quiet_Kernel35Ideal_pre : quiescent_Kernel35Ideal_pre_finite35 := fun m ρ _ => quiet_Kernel35Ideal m ρ trivial

/-- The frame of reference 35. -/
theorem quiet_Reference35Ideal : quiescent_Reference35Ideal := fun m ρ _ =>
  (θ_run Reference35Ideal.defs _ _).mono (fun r h => ⟨fun c => (h c).2.2.2.2.2.2, sem_eq_zero_of_no_sems (by decide) r.2⟩)
    (Reference35Ideal.Value.run (F := Ideal) m ρ)

/-- The same frame, under the precondition of its value claim. -/
theorem quiet_Reference35Ideal_pre : quiescent_Reference35Ideal_pre_finite35 := fun m ρ _ => quiet_Reference35Ideal m ρ trivial

/-- The frame of program 36, the kernel as printed. -/
theorem quiet_Kernel36 : quiescent_Kernel36 := fun m ρ _ => Kernel36.Gen.frame m ρ

/-- The frame of program 36, its idealization. -/
theorem quiet_Kernel36Ideal : quiescent_Kernel36Ideal := fun m ρ _ => Kernel36Ideal.Gen.frame m ρ

/-- The frame of reference 36. -/
theorem quiet_Reference36Ideal : quiescent_Reference36Ideal := fun m ρ _ =>
  (θ_run Reference36Ideal.defs _ _).mono (fun r h => ⟨fun c => (h c).2.2.2.2.2.2.2.2, sem_eq_zero_of_no_sems (by decide) r.2⟩)
    (Reference36Ideal.Value.run (F := Ideal) m ρ)

/-- The frame of program 37, the kernel as printed. -/
theorem quiet_Kernel37 : quiescent_Kernel37 := fun m ρ _ => Kernel37.Gen.frame m ρ

/-- The frame of program 37, its idealization. -/
theorem quiet_Kernel37Ideal : quiescent_Kernel37Ideal := fun m ρ _ => Kernel37Ideal.Gen.frame m ρ

/-- The same frame, under the precondition of its value claim. -/
theorem quiet_Kernel37Ideal_pre : quiescent_Kernel37Ideal_pre_finite37 := fun m ρ _ => quiet_Kernel37Ideal m ρ trivial

/-- The frame of reference 37. -/
theorem quiet_Reference37Ideal : quiescent_Reference37Ideal := fun m ρ _ =>
  (θ_run Reference37Ideal.defs _ _).mono (fun r h => ⟨fun c => (h c).2, sem_eq_zero_of_no_sems (by decide) r.2⟩)
    (Reference37Ideal.Value.run (F := Ideal) m ρ)

/-- The same frame, under the precondition of its value claim. -/
theorem quiet_Reference37Ideal_pre : quiescent_Reference37Ideal_pre_finite37 := fun m ρ _ => quiet_Reference37Ideal m ρ trivial

theorem claim : Claim := ⟨Kernel.Gen.facts, KernelIdeal.Gen.facts, ReferenceIdeal.Gen.facts, Kernel2.Gen.facts, Kernel2Ideal.Gen.facts, Reference2Ideal.Gen.facts, Kernel3.Gen.facts, Kernel3Ideal.Gen.facts, Reference3Ideal.Gen.facts, Kernel5.Gen.facts, Kernel5Ideal.Gen.facts, Reference5Ideal.Gen.facts, Kernel6.Gen.facts, Kernel6Ideal.Gen.facts, Reference6Ideal.Gen.facts, Kernel7.Gen.facts, Kernel7Ideal.Gen.facts, Reference7Ideal.Gen.facts, Kernel8.Gen.facts, Kernel8Ideal.Gen.facts, Reference8Ideal.Gen.facts, Kernel9.Gen.facts, Kernel9Ideal.Gen.facts, Reference9Ideal.Gen.facts, Kernel10.Gen.facts, Kernel10Ideal.Gen.facts, Reference10Ideal.Gen.facts, Kernel11.Gen.facts, Kernel11Ideal.Gen.facts, Reference11Ideal.Gen.facts, Kernel12.Gen.facts, Kernel12Ideal.Gen.facts, Reference12Ideal.Gen.facts, Kernel13.Gen.facts, Kernel13Ideal.Gen.facts, Reference13Ideal.Gen.facts, Kernel14.Gen.facts, Kernel14Ideal.Gen.facts, Reference14Ideal.Gen.facts, Kernel15.Gen.facts, Kernel15Ideal.Gen.facts, Reference15Ideal.Gen.facts, Kernel16.Gen.facts, Kernel16Ideal.Gen.facts, Reference16Ideal.Gen.facts, Kernel17.Gen.facts, Kernel17Ideal.Gen.facts, Reference17Ideal.Gen.facts, Kernel18.Gen.facts, Kernel18Ideal.Gen.facts, Reference18Ideal.Gen.facts, Kernel21.Gen.facts, Kernel21Ideal.Gen.facts, Reference21Ideal.Gen.facts, Kernel22.Gen.facts, Kernel22Ideal.Gen.facts, Reference22Ideal.Gen.facts, Kernel23.Gen.facts, Kernel23Ideal.Gen.facts, Reference23Ideal.Gen.facts, Kernel24.Gen.facts, Kernel24Ideal.Gen.facts, Reference24Ideal.Gen.facts, Kernel25.Gen.facts, Kernel25Ideal.Gen.facts, Reference25Ideal.Gen.facts, Kernel26.Gen.facts, Kernel26Ideal.Gen.facts, Reference26Ideal.Gen.facts, Kernel27.Gen.facts, Kernel27Ideal.Gen.facts, Reference27Ideal.Gen.facts, Kernel28.Gen.facts, Kernel28Ideal.Gen.facts, Reference28Ideal.Gen.facts, Kernel29.Gen.facts, Kernel29Ideal.Gen.facts, Reference29Ideal.Gen.facts, Kernel30.Gen.facts, Kernel30Ideal.Gen.facts, Reference30Ideal.Gen.facts, Kernel31.Gen.facts, Kernel31Ideal.Gen.facts, Reference31Ideal.Gen.facts, Kernel32.Gen.facts, Kernel32Ideal.Gen.facts, Reference32Ideal.Gen.facts, Kernel33.Gen.facts, Kernel33Ideal.Gen.facts, Reference33Ideal.Gen.facts, Kernel34.Gen.facts, Kernel34Ideal.Gen.facts, Reference34Ideal.Gen.facts, Kernel35.Gen.facts, Kernel35Ideal.Gen.facts, Reference35Ideal.Gen.facts, Kernel36.Gen.facts, Kernel36Ideal.Gen.facts, Reference36Ideal.Gen.facts, Kernel37.Gen.facts, Kernel37Ideal.Gen.facts, Reference37Ideal.Gen.facts, Pre_finite2.Gen.facts, Pre_finite18.Gen.facts, Pre_finite34.Gen.facts, Pre_finite35.Gen.facts, Pre_finite37.Gen.facts,
  quiet_Kernel, quiet_KernelIdeal, quiet_ReferenceIdeal, quiet_Kernel2, quiet_Kernel2Ideal, quiet_Kernel2Ideal_pre, quiet_Reference2Ideal, quiet_Reference2Ideal_pre, quiet_Kernel3, quiet_Kernel3Ideal, quiet_Reference3Ideal, quiet_Kernel5, quiet_Kernel5Ideal, quiet_Reference5Ideal, quiet_Kernel6, quiet_Kernel6Ideal, quiet_Reference6Ideal, quiet_Kernel7, quiet_Kernel7Ideal, quiet_Reference7Ideal, quiet_Kernel8, quiet_Kernel8Ideal, quiet_Reference8Ideal, quiet_Kernel9, quiet_Kernel9Ideal, quiet_Reference9Ideal, quiet_Kernel10, quiet_Kernel10Ideal, quiet_Reference10Ideal, quiet_Kernel11, quiet_Kernel11Ideal, quiet_Reference11Ideal, quiet_Kernel12, quiet_Kernel12Ideal, quiet_Reference12Ideal, quiet_Kernel13, quiet_Kernel13Ideal, quiet_Reference13Ideal, quiet_Kernel14, quiet_Kernel14Ideal, quiet_Reference14Ideal, quiet_Kernel15, quiet_Kernel15Ideal, quiet_Reference15Ideal, quiet_Kernel16, quiet_Kernel16Ideal, quiet_Reference16Ideal, quiet_Kernel17, quiet_Kernel17Ideal, quiet_Reference17Ideal, quiet_Kernel18, quiet_Kernel18Ideal, quiet_Kernel18Ideal_pre, quiet_Reference18Ideal, quiet_Reference18Ideal_pre, quiet_Kernel21, quiet_Kernel21Ideal, quiet_Reference21Ideal, quiet_Kernel22, quiet_Kernel22Ideal, quiet_Reference22Ideal, quiet_Kernel23, quiet_Kernel23Ideal, quiet_Reference23Ideal, quiet_Kernel24, quiet_Kernel24Ideal, quiet_Reference24Ideal, quiet_Kernel25, quiet_Kernel25Ideal, quiet_Reference25Ideal, quiet_Kernel26, quiet_Kernel26Ideal, quiet_Reference26Ideal, quiet_Kernel27, quiet_Kernel27Ideal, quiet_Reference27Ideal, quiet_Kernel28, quiet_Kernel28Ideal, quiet_Reference28Ideal, quiet_Kernel29, quiet_Kernel29Ideal, quiet_Reference29Ideal, quiet_Kernel30, quiet_Kernel30Ideal, quiet_Reference30Ideal, quiet_Kernel31, quiet_Kernel31Ideal, quiet_Reference31Ideal, quiet_Kernel32, quiet_Kernel32Ideal, quiet_Reference32Ideal, quiet_Kernel33, quiet_Kernel33Ideal, quiet_Reference33Ideal, quiet_Kernel34, quiet_Kernel34Ideal, quiet_Kernel34Ideal_pre, quiet_Reference34Ideal, quiet_Reference34Ideal_pre, quiet_Kernel35, quiet_Kernel35Ideal, quiet_Kernel35Ideal_pre, quiet_Reference35Ideal, quiet_Reference35Ideal_pre, quiet_Kernel36, quiet_Kernel36Ideal, quiet_Reference36Ideal, quiet_Kernel37, quiet_Kernel37Ideal, quiet_Kernel37Ideal_pre, quiet_Reference37Ideal, quiet_Reference37Ideal_pre,
  trivial, DMergedClaim.algebraic, trivial, DActClaim.algebraic, trivial, ConvBwdClaim.algebraic, trivial, DH2Claim.algebraic, trivial, DwDownClaim.algebraic, trivial, DwGateClaim.algebraic, trivial, DwUpClaim.algebraic, trivial, DwOClaim.algebraic, trivial, DBranchClaim.algebraic, trivial, DwBranchClaim.algebraic, trivial, FfnOutClaim.algebraic, trivial, DHClaim.algebraic, trivial, DwInClaim.algebraic, trivial, FfnInClaim.algebraic, trivial, BranchOutClaim.algebraic, trivial, WOClaim.algebraic, trivial, NormMixBwdClaim.algebraic, trivial, Adamw21Claim.algebraic, trivial, Adamw22Claim.algebraic, trivial, Adamw23Claim.algebraic, trivial, Adamw24Claim.algebraic, trivial, Adamw25Claim.algebraic, trivial, Adamw26Claim.algebraic, trivial, Adamw27Claim.algebraic, trivial, Adamw28Claim.algebraic, trivial, Adamw29Claim.algebraic, trivial, Adamw30Claim.algebraic, trivial, AdaUpdateClaim.algebraic, trivial, NormMixClaim.algebraic, trivial, ConvFwdClaim.algebraic, trivial, LossHeadClaim.algebraic, trivial, NormFfnBwdClaim.algebraic, trivial, SmallReduceClaim.algebraic, trivial, LbGradClaim.algebraic⟩

end Cert.Proof

end
